-- ==== Defs.lean ====
def Pre_Kernel [hPre_lengths_fit : Cert.Pre_lengths_fit.Facts] (m : (ℓ : Loc Cert.Kernel.nD Cert.Kernel.τ Cert.Kernel.sig) → Buf (Elt Bits) ℓ) : Prop :=
  ∀ c : Dev Cert.Kernel.nD,
    (Cert.Pre_lengths_fit.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_lengths_fit : Cert.Pre_lengths_fit.Facts] (m : (ℓ : Loc Cert.KernelIdeal.nD Cert.KernelIdeal.τ Cert.KernelIdeal.sig) → Buf (Elt Ideal) ℓ) : Prop :=
  ∀ c : Dev Cert.KernelIdeal.nD,
    (Cert.Pre_lengths_fit.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_lengths_fit [hPre_lengths_fit : Cert.Pre_lengths_fit.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_lengths_fit.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_Reference (m : (ℓ : Loc Cert.Reference.nD Cert.Reference.τ Cert.Reference.sig) → Buf (Elt Bits) ℓ) : Prop :=
  True

def Pre_NewKernel (m : (ℓ : Loc Cert.NewKernel.nD Cert.NewKernel.τ Cert.NewKernel.sig) → Buf (Elt Bits) ℓ) : Prop :=
  True

def Pre_NewKernelIdeal (m : (ℓ : Loc Cert.NewKernelIdeal.nD Cert.NewKernelIdeal.τ Cert.NewKernelIdeal.sig) → Buf (Elt Ideal) ℓ) : Prop :=
  True

def Pre_NewReferenceIdeal (m : (ℓ : Loc Cert.NewReferenceIdeal.nD Cert.NewReferenceIdeal.τ Cert.NewReferenceIdeal.sig) → Buf (Elt Ideal) ℓ) : Prop :=
  True

def Pre_NewReference (m : (ℓ : Loc Cert.NewReference.nD Cert.NewReference.τ Cert.NewReference.sig) → Buf (Elt Bits) ℓ) : Prop :=
  True

def quiescent_Kernel [hKernel : Cert.Kernel.Facts] [hPre_lengths_fit : Cert.Pre_lengths_fit.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] [hPre_lengths_fit : Cert.Pre_lengths_fit.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_lengths_fit [hReferenceIdeal : Cert.ReferenceIdeal.Facts] [hPre_lengths_fit : Cert.Pre_lengths_fit.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_lengths_fit m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2)
      ∧ r.2.mem ((c.tc : Thread Cert.Reference.nD Cert.Reference.τ).loc Cert.Reference.main_arg3) = m ((c.tc : Thread Cert.Reference.nD Cert.Reference.τ).loc Cert.Reference.main_arg3)
      ∧ r.2.mem ((c.tc : Thread Cert.Reference.nD Cert.Reference.τ).loc Cert.Reference.main_arg4) = m ((c.tc : Thread Cert.Reference.nD Cert.Reference.τ).loc Cert.Reference.main_arg4)
      ∧ r.2.mem ((c.tc : Thread Cert.Reference.nD Cert.Reference.τ).loc Cert.Reference.main_arg5) = m ((c.tc : Thread Cert.Reference.nD Cert.Reference.τ).loc Cert.Reference.main_arg5)
      ∧ r.2.mem ((c.tc : Thread Cert.Reference.nD Cert.Reference.τ).loc Cert.Reference.main_arg6) = m ((c.tc : Thread Cert.Reference.nD Cert.Reference.τ).loc Cert.Reference.main_arg6))
      ∧ r.2.sem = fun _ => 0)

def quiescent_NewKernel [hNewKernel : Cert.NewKernel.Facts] : Prop :=
  ∀ (m : (ℓ : Loc Cert.NewKernel.nD Cert.NewKernel.τ Cert.NewKernel.sig) → Buf (Elt Bits) ℓ) (g : Dev Cert.NewKernel.nD → PrngReg), Pre_NewKernel m →
    θ_run (Cert.NewKernel.defs (F := Bits)) (onTc (τ := Cert.NewKernel.τ) (Cert.NewKernel.main (F := Bits))) ⟨m, fun _ => 0, g⟩ (fun r => (∀ c : Dev Cert.NewKernel.nD,
      r.2.mem ((c.tc : Thread Cert.NewKernel.nD Cert.NewKernel.τ).loc Cert.NewKernel.main_arg0) = m ((c.tc : Thread Cert.NewKernel.nD Cert.NewKernel.τ).loc Cert.NewKernel.main_arg0)
      ∧ r.2.mem ((c.tc : Thread Cert.NewKernel.nD Cert.NewKernel.τ).loc Cert.NewKernel.main_arg1) = m ((c.tc : Thread Cert.NewKernel.nD Cert.NewKernel.τ).loc Cert.NewKernel.main_arg1))
      ∧ r.2.sem = fun _ => 0)

def quiescent_NewKernelIdeal [hNewKernelIdeal : Cert.NewKernelIdeal.Facts] : Prop :=
  ∀ (m : (ℓ : Loc Cert.NewKernelIdeal.nD Cert.NewKernelIdeal.τ Cert.NewKernelIdeal.sig) → Buf (Elt Ideal) ℓ) (g : Dev Cert.NewKernelIdeal.nD → PrngReg), Pre_NewKernelIdeal m →
    θ_run (Cert.NewKernelIdeal.defs (F := Ideal)) (onTc (τ := Cert.NewKernelIdeal.τ) (Cert.NewKernelIdeal.main (F := Ideal))) ⟨m, fun _ => 0, g⟩ (fun r => (∀ c : Dev Cert.NewKernelIdeal.nD,
      r.2.mem ((c.tc : Thread Cert.NewKernelIdeal.nD Cert.NewKernelIdeal.τ).loc Cert.NewKernelIdeal.main_arg0) = m ((c.tc : Thread Cert.NewKernelIdeal.nD Cert.NewKernelIdeal.τ).loc Cert.NewKernelIdeal.main_arg0)
      ∧ r.2.mem ((c.tc : Thread Cert.NewKernelIdeal.nD Cert.NewKernelIdeal.τ).loc Cert.NewKernelIdeal.main_arg1) = m ((c.tc : Thread Cert.NewKernelIdeal.nD Cert.NewKernelIdeal.τ).loc Cert.NewKernelIdeal.main_arg1))
      ∧ r.2.sem = fun _ => 0)

def quiescent_NewReferenceIdeal [hNewReferenceIdeal : Cert.NewReferenceIdeal.Facts] : Prop :=
  ∀ (m : (ℓ : Loc Cert.NewReferenceIdeal.nD Cert.NewReferenceIdeal.τ Cert.NewReferenceIdeal.sig) → Buf (Elt Ideal) ℓ) (g : Dev Cert.NewReferenceIdeal.nD → PrngReg), Pre_NewReferenceIdeal m →
    θ_run (Cert.NewReferenceIdeal.defs (F := Ideal)) (onTc (τ := Cert.NewReferenceIdeal.τ) (Cert.NewReferenceIdeal.main (F := Ideal))) ⟨m, fun _ => 0, g⟩ (fun r => (∀ c : Dev Cert.NewReferenceIdeal.nD,
      r.2.mem ((c.tc : Thread Cert.NewReferenceIdeal.nD Cert.NewReferenceIdeal.τ).loc Cert.NewReferenceIdeal.main_arg0) = m ((c.tc : Thread Cert.NewReferenceIdeal.nD Cert.NewReferenceIdeal.τ).loc Cert.NewReferenceIdeal.main_arg0)
      ∧ r.2.mem ((c.tc : Thread Cert.NewReferenceIdeal.nD Cert.NewReferenceIdeal.τ).loc Cert.NewReferenceIdeal.main_arg1) = m ((c.tc : Thread Cert.NewReferenceIdeal.nD Cert.NewReferenceIdeal.τ).loc Cert.NewReferenceIdeal.main_arg1))
      ∧ r.2.sem = fun _ => 0)

def quiescent_NewReference [hNewReference : Cert.NewReference.Facts] : Prop :=
  ∀ (m : (ℓ : Loc Cert.NewReference.nD Cert.NewReference.τ Cert.NewReference.sig) → Buf (Elt Bits) ℓ) (g : Dev Cert.NewReference.nD → PrngReg), Pre_NewReference m →
    θ_run (Cert.NewReference.defs (F := Bits)) (onTc (τ := Cert.NewReference.τ) (Cert.NewReference.main (F := Bits))) ⟨m, fun _ => 0, g⟩ (fun r => (∀ c : Dev Cert.NewReference.nD,
      r.2.mem ((c.tc : Thread Cert.NewReference.nD Cert.NewReference.τ).loc Cert.NewReference.main_arg0) = m ((c.tc : Thread Cert.NewReference.nD Cert.NewReference.τ).loc Cert.NewReference.main_arg0)
      ∧ r.2.mem ((c.tc : Thread Cert.NewReference.nD Cert.NewReference.τ).loc Cert.NewReference.main_arg1) = m ((c.tc : Thread Cert.NewReference.nD Cert.NewReference.τ).loc Cert.NewReference.main_arg1))
      ∧ r.2.sem = fun _ => 0)

def preserves_Kernel_KernelIdeal : Prop :=
  True

def preserves_Reference_ReferenceIdeal : Prop :=
  True

def algebraic_KernelIdeal_ReferenceIdeal [hKernelIdeal : Cert.KernelIdeal.Facts] [hReferenceIdeal : Cert.ReferenceIdeal.Facts] [hPre_lengths_fit : Cert.Pre_lengths_fit.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_NewKernel_NewKernelIdeal : Prop :=
  True

def preserves_NewReference_NewReferenceIdeal : Prop :=
  True

def algebraic_NewKernelIdeal_NewReferenceIdeal [hNewKernelIdeal : Cert.NewKernelIdeal.Facts] [hNewReferenceIdeal : Cert.NewReferenceIdeal.Facts] : Prop :=
  ∀ (m : (ℓ : Loc Cert.NewKernelIdeal.nD Cert.NewKernelIdeal.τ Cert.NewKernelIdeal.sig) → Buf (Elt Ideal) ℓ) (g : Dev Cert.NewKernelIdeal.nD → PrngReg)
    (m' : (ℓ : Loc Cert.NewReferenceIdeal.nD Cert.NewReferenceIdeal.τ Cert.NewReferenceIdeal.sig) → Buf (Elt Ideal) ℓ) (g' : Dev Cert.NewReferenceIdeal.nD → PrngReg), Pre_NewKernelIdeal m →
    (∀ c : Dev Cert.NewKernelIdeal.nD,
      m' ((c.tc : Thread Cert.NewReferenceIdeal.nD Cert.NewReferenceIdeal.τ).loc Cert.NewReferenceIdeal.main_arg0) = m ((c.tc : Thread Cert.NewKernelIdeal.nD Cert.NewKernelIdeal.τ).loc Cert.NewKernelIdeal.main_arg0)
      ∧ m' ((c.tc : Thread Cert.NewReferenceIdeal.nD Cert.NewReferenceIdeal.τ).loc Cert.NewReferenceIdeal.main_arg1) = m ((c.tc : Thread Cert.NewKernelIdeal.nD Cert.NewKernelIdeal.τ).loc Cert.NewKernelIdeal.main_arg1)) →
    ∃ (v0 : (c : Dev Cert.NewKernelIdeal.nD) → Buf (Elt Ideal) ((c.tc : Thread Cert.NewKernelIdeal.nD Cert.NewKernelIdeal.τ).loc Cert.NewKernelIdeal.main_v2_0)) (v1 : (c : Dev Cert.NewKernelIdeal.nD) → Buf (Elt Ideal) ((c.tc : Thread Cert.NewKernelIdeal.nD Cert.NewKernelIdeal.τ).loc Cert.NewKernelIdeal.main_v2_1)) (v2 : (c : Dev Cert.NewKernelIdeal.nD) → Buf (Elt Ideal) ((c.tc : Thread Cert.NewKernelIdeal.nD Cert.NewKernelIdeal.τ).loc Cert.NewKernelIdeal.main_v2_2)) (v3 : (c : Dev Cert.NewKernelIdeal.nD) → Buf (Elt Ideal) ((c.tc : Thread Cert.NewKernelIdeal.nD Cert.NewKernelIdeal.τ).loc Cert.NewKernelIdeal.main_v2_3)),
      θ_run (Cert.NewKernelIdeal.defs (F := Ideal)) (onTc (τ := Cert.NewKernelIdeal.τ) (Cert.NewKernelIdeal.main (F := Ideal))) ⟨m, fun _ => 0, g⟩ (fun r => ∀ c : Dev Cert.NewKernelIdeal.nD,
          r.2.mem ((c.tc : Thread Cert.NewKernelIdeal.nD Cert.NewKernelIdeal.τ).loc Cert.NewKernelIdeal.main_v2_0) = v0 c
          ∧ r.2.mem ((c.tc : Thread Cert.NewKernelIdeal.nD Cert.NewKernelIdeal.τ).loc Cert.NewKernelIdeal.main_v2_1) = v1 c
          ∧ r.2.mem ((c.tc : Thread Cert.NewKernelIdeal.nD Cert.NewKernelIdeal.τ).loc Cert.NewKernelIdeal.main_v2_2) = v2 c
          ∧ r.2.mem ((c.tc : Thread Cert.NewKernelIdeal.nD Cert.NewKernelIdeal.τ).loc Cert.NewKernelIdeal.main_v2_3) = v3 c
          ∧ r.2.mem ((c.tc : Thread Cert.NewKernelIdeal.nD Cert.NewKernelIdeal.τ).loc Cert.NewKernelIdeal.main_arg0) = m ((c.tc : Thread Cert.NewKernelIdeal.nD Cert.NewKernelIdeal.τ).loc Cert.NewKernelIdeal.main_arg0)
          ∧ r.2.mem ((c.tc : Thread Cert.NewKernelIdeal.nD Cert.NewKernelIdeal.τ).loc Cert.NewKernelIdeal.main_arg1) = m ((c.tc : Thread Cert.NewKernelIdeal.nD Cert.NewKernelIdeal.τ).loc Cert.NewKernelIdeal.main_arg1))
      ∧ θ_run (Cert.NewReferenceIdeal.defs (F := Ideal)) (onTc (τ := Cert.NewReferenceIdeal.τ) (Cert.NewReferenceIdeal.main (F := Ideal))) ⟨m', fun _ => 0, g'⟩ (fun r => ∀ c : Dev Cert.NewReferenceIdeal.nD,
          r.2.mem ((c.tc : Thread Cert.NewReferenceIdeal.nD Cert.NewReferenceIdeal.τ).loc Cert.NewReferenceIdeal.main_v232) = v0 c
          ∧ r.2.mem ((c.tc : Thread Cert.NewReferenceIdeal.nD Cert.NewReferenceIdeal.τ).loc Cert.NewReferenceIdeal.main_v234) = v1 c
          ∧ r.2.mem ((c.tc : Thread Cert.NewReferenceIdeal.nD Cert.NewReferenceIdeal.τ).loc Cert.NewReferenceIdeal.main_v235) = v2 c
          ∧ r.2.mem ((c.tc : Thread Cert.NewReferenceIdeal.nD Cert.NewReferenceIdeal.τ).loc Cert.NewReferenceIdeal.main_v237) = v3 c
          ∧ r.2.mem ((c.tc : Thread Cert.NewReferenceIdeal.nD Cert.NewReferenceIdeal.τ).loc Cert.NewReferenceIdeal.main_arg0) = m' ((c.tc : Thread Cert.NewReferenceIdeal.nD Cert.NewReferenceIdeal.τ).loc Cert.NewReferenceIdeal.main_arg0)
          ∧ r.2.mem ((c.tc : Thread Cert.NewReferenceIdeal.nD Cert.NewReferenceIdeal.τ).loc Cert.NewReferenceIdeal.main_arg1) = m' ((c.tc : Thread Cert.NewReferenceIdeal.nD Cert.NewReferenceIdeal.τ).loc Cert.NewReferenceIdeal.main_arg1))

def Claim : Prop :=
  ∃ (hKernel : Cert.Kernel.Facts) (hKernelIdeal : Cert.KernelIdeal.Facts) (hReferenceIdeal : Cert.ReferenceIdeal.Facts) (hReference : Cert.Reference.Facts) (hNewKernel : Cert.NewKernel.Facts) (hNewKernelIdeal : Cert.NewKernelIdeal.Facts) (hNewReferenceIdeal : Cert.NewReferenceIdeal.Facts) (hNewReference : Cert.NewReference.Facts) (hPre_lengths_fit : Cert.Pre_lengths_fit.Facts),
    quiescent_Kernel (hKernel := hKernel) (hPre_lengths_fit := hPre_lengths_fit)
    ∧ quiescent_KernelIdeal (hKernelIdeal := hKernelIdeal) (hPre_lengths_fit := hPre_lengths_fit)
    ∧ quiescent_ReferenceIdeal (hReferenceIdeal := hReferenceIdeal)
    ∧ quiescent_ReferenceIdeal_pre_lengths_fit (hReferenceIdeal := hReferenceIdeal) (hPre_lengths_fit := hPre_lengths_fit)
    ∧ quiescent_Reference (hReference := hReference)
    ∧ quiescent_NewKernel (hNewKernel := hNewKernel)
    ∧ quiescent_NewKernelIdeal (hNewKernelIdeal := hNewKernelIdeal)
    ∧ quiescent_NewReferenceIdeal (hNewReferenceIdeal := hNewReferenceIdeal)
    ∧ quiescent_NewReference (hNewReference := hNewReference)
    ∧ preserves_Kernel_KernelIdeal
    ∧ preserves_Reference_ReferenceIdeal
    ∧ algebraic_KernelIdeal_ReferenceIdeal (hKernelIdeal := hKernelIdeal) (hReferenceIdeal := hReferenceIdeal) (hPre_lengths_fit := hPre_lengths_fit)
    ∧ preserves_NewKernel_NewKernelIdeal
    ∧ preserves_NewReference_NewReferenceIdeal
    ∧ algebraic_NewKernelIdeal_NewReferenceIdeal (hNewKernelIdeal := hNewKernelIdeal) (hNewReferenceIdeal := hNewReferenceIdeal)
-- ==== Pre_lengths_fit.lean ====
abbrev S6x2304x16x128 : Shape := ⟨4, ![6, 2304, 16, 128]⟩
abbrev S6x2304x16x8 : Shape := ⟨4, ![6, 2304, 16, 8]⟩
abbrev S6x64x128 : Shape := ⟨3, ![6, 64, 128]⟩
abbrev S16x256x512 : Shape := ⟨3, ![16, 256, 512]⟩
abbrev S6x2304x64 : Shape := ⟨3, ![6, 2304, 64]⟩
abbrev S6 : Shape := ⟨1, ![6]⟩
abbrev S_ : Shape := ⟨0, ![]⟩

class Facts : Prop where
  bcast_S_S6 : S_.BroadcastsInDim S6 (![] : Fin 0 → Fin S6.rank)

variable [Facts]

def fn {F : FTy → Type} [FloatOps F] (main_arg0 : IVec S6x2304x16x128 8) (main_arg1 : FVec F S6x2304x16x8 .f32) (main_arg2 : FVec F S6x64x128 .f32) (main_arg3 : FVec F S16x256x512 .bf16) (main_arg4 : FVec F S6x2304x64 .f32) (main_arg5 : FVec F S6x2304x64 .f32) (main_arg6 : IVec S6 32) : IVec S6 1 :=
  let main_c : IVec S_ 32 := constantI S_ 32 2304#32
  let main_v0 : IVec S6 32 := broadcastInDim S6 ![] bcast_S_S6 main_c
  let main_v1 : IVec S6 1 := cmpi .sle main_arg6 main_v0
  main_v1
-- ==== Kernel.lean ====
abbrev S6x2304x16x128 : Shape := ⟨4, ![6, 2304, 16, 128]⟩
abbrev S6x2304x16x8 : Shape := ⟨4, ![6, 2304, 16, 8]⟩
abbrev S6x64x128 : Shape := ⟨3, ![6, 64, 128]⟩
abbrev S16x256x512 : Shape := ⟨3, ![16, 256, 512]⟩
abbrev S6x2304x64 : Shape := ⟨3, ![6, 2304, 64]⟩
abbrev S6 : Shape := ⟨1, ![6]⟩
abbrev S6x2304x4x4x128 : Shape := ⟨5, ![6, 2304, 4, 4, 128]⟩
abbrev S6x2304x4x1x128 : Shape := ⟨5, ![6, 2304, 4, 1, 128]⟩
abbrev S6x2304x4x128 : Shape := ⟨4, ![6, 2304, 4, 128]⟩
abbrev S_ : Shape := ⟨0, ![]⟩
abbrev S6x16x8x2304 : Shape := ⟨4, ![6, 16, 8, 2304]⟩
abbrev S54x256x64 : Shape := ⟨3, ![54, 256, 64]⟩
abbrev S54x64x256 : Shape := ⟨3, ![54, 64, 256]⟩
abbrev S6x64x2304 : Shape := ⟨3, ![6, 64, 2304]⟩
abbrev S2x9x256x128 : Shape := ⟨4, ![2, 9, 256, 128]⟩
abbrev S2x9x4x8x256 : Shape := ⟨5, ![2, 9, 4, 8, 256]⟩
abbrev S16x512x256 : Shape := ⟨3, ![16, 512, 256]⟩
abbrev S2x512x128 : Shape := ⟨3, ![2, 512, 128]⟩
abbrev S4x8x256 : Shape := ⟨3, ![4, 8, 256]⟩
abbrev S2048x256 : Shape := ⟨2, ![2048, 256]⟩
abbrev S9x16x256 : Shape := ⟨3, ![9, 16, 256]⟩
abbrev S16x2048 : Shape := ⟨2, ![16, 2048]⟩
abbrev S2 : Shape := ⟨1, ![2]⟩
abbrev S1 : Shape := ⟨1, ![1]⟩
abbrev S1x1x256x128 : Shape := ⟨4, ![1, 1, 256, 128]⟩
abbrev S256x128 : Shape := ⟨2, ![256, 128]⟩
abbrev S1x256x1x128 : Shape := ⟨4, ![1, 256, 1, 128]⟩
abbrev S1x1x4x8x256 : Shape := ⟨5, ![1, 1, 4, 8, 256]⟩
abbrev S1x4x8x256 : Shape := ⟨4, ![1, 4, 8, 256]⟩
abbrev S1x256x512 : Shape := ⟨3, ![1, 256, 512]⟩
abbrev S256x512 : Shape := ⟨2, ![256, 512]⟩
abbrev S512x256 : Shape := ⟨2, ![512, 256]⟩
abbrev S1x512x256 : Shape := ⟨3, ![1, 512, 256]⟩
abbrev S16x128 : Shape := ⟨2, ![16, 128]⟩
abbrev S1x16x128 : Shape := ⟨3, ![1, 16, 128]⟩
abbrev S128x256 : Shape := ⟨2, ![128, 256]⟩
abbrev S512x128 : Shape := ⟨2, ![512, 128]⟩
abbrev S1x512x128 : Shape := ⟨3, ![1, 512, 128]⟩
abbrev S1x1x1x8x256 : Shape := ⟨5, ![1, 1, 1, 8, 256]⟩
abbrev S8x256 : Shape := ⟨2, ![8, 256]⟩
abbrev S1x8x256 : Shape := ⟨3, ![1, 8, 256]⟩
abbrev S1x128x128 : Shape := ⟨3, ![1, 128, 128]⟩
abbrev S128x128 : Shape := ⟨2, ![128, 128]⟩
abbrev S1x1x256 : Shape := ⟨3, ![1, 1, 256]⟩
abbrev S1x256 : Shape := ⟨2, ![1, 256]⟩
abbrev S32x256 : Shape := ⟨2, ![32, 256]⟩
abbrev S256x256 : Shape := ⟨2, ![256, 256]⟩
abbrev S1x64x256 : Shape := ⟨3, ![1, 64, 256]⟩
abbrev S64x256 : Shape := ⟨2, ![64, 256]⟩
abbrev S16x1024 : Shape := ⟨2, ![16, 1024]⟩
abbrev S1024x256 : Shape := ⟨2, ![1024, 256]⟩
abbrev S16x256 : Shape := ⟨2, ![16, 256]⟩
abbrev S1x16x256 : Shape := ⟨3, ![1, 16, 256]⟩

abbrev nBuf : Space → Nat
  | .hbm => 35
  | .vmem => 13
  | .smem => 1
  | _ => 0

abbrev bufTy : (tb : Table) → Fin (tcTables nBuf tb) → BufTy
  | .hbm, ⟨0, _⟩ => ⟨S6x2304x16x128, .i8⟩
  | .hbm, ⟨1, _⟩ => ⟨S6x2304x16x8, .f32⟩
  | .hbm, ⟨2, _⟩ => ⟨S6x64x128, .f32⟩
  | .hbm, ⟨3, _⟩ => ⟨S16x256x512, .bf16⟩
  | .hbm, ⟨4, _⟩ => ⟨S6x2304x64, .f32⟩
  | .hbm, ⟨5, _⟩ => ⟨S6x2304x64, .f32⟩
  | .hbm, ⟨6, _⟩ => ⟨S6, .i32⟩
  | .hbm, ⟨7, _⟩ => ⟨S6x2304x16x128, .i32⟩
  | .hbm, ⟨8, _⟩ => ⟨S6x2304x4x4x128, .i32⟩
  | .hbm, ⟨9, _⟩ => ⟨S6x2304x4x1x128, .i32⟩
  | .hbm, ⟨10, _⟩ => ⟨S6x2304x4x128, .i32⟩
  | .hbm, ⟨11, _⟩ => ⟨S6x2304x4x1x128, .i32⟩
  | .hbm, ⟨12, _⟩ => ⟨S6x2304x4x128, .i32⟩
  | .hbm, ⟨13, _⟩ => ⟨S_, .i32⟩
  | .hbm, ⟨14, _⟩ => ⟨S6x2304x4x128, .i32⟩
  | .hbm, ⟨15, _⟩ => ⟨S6x2304x4x128, .i32⟩
  | .hbm, ⟨16, _⟩ => ⟨S6x2304x4x128, .i32⟩
  | .hbm, ⟨17, _⟩ => ⟨S6x2304x4x1x128, .i32⟩
  | .hbm, ⟨18, _⟩ => ⟨S6x2304x4x128, .i32⟩
  | .hbm, ⟨19, _⟩ => ⟨S_, .i32⟩
  | .hbm, ⟨20, _⟩ => ⟨S6x2304x4x128, .i32⟩
  | .hbm, ⟨21, _⟩ => ⟨S6x2304x4x128, .i32⟩
  | .hbm, ⟨22, _⟩ => ⟨S6x2304x4x128, .i32⟩
  | .hbm, ⟨23, _⟩ => ⟨S6x2304x4x1x128, .i32⟩
  | .hbm, ⟨24, _⟩ => ⟨S6x2304x4x128, .i32⟩
  | .hbm, ⟨25, _⟩ => ⟨S_, .i32⟩
  | .hbm, ⟨26, _⟩ => ⟨S6x2304x4x128, .i32⟩
  | .hbm, ⟨27, _⟩ => ⟨S6x2304x4x128, .i32⟩
  | .hbm, ⟨28, _⟩ => ⟨S6x2304x4x128, .i32⟩
  | .hbm, ⟨29, _⟩ => ⟨S6x16x8x2304, .f32⟩
  | .hbm, ⟨30, _⟩ => ⟨S54x256x64, .f32⟩
  | .hbm, ⟨31, _⟩ => ⟨S54x64x256, .f32⟩
  | .hbm, ⟨32, _⟩ => ⟨S54x256x64, .f32⟩
  | .hbm, ⟨33, _⟩ => ⟨S54x64x256, .f32⟩
  | .hbm, ⟨34, _⟩ => ⟨S6x64x2304, .f32⟩
  | .local _ .vmem, ⟨0, _⟩ => ⟨S6x64x128, .f32⟩
  | .local _ .vmem, ⟨1, _⟩ => ⟨S16x256x512, .bf16⟩
  | .local _ .vmem, ⟨2, _⟩ => ⟨S54x64x256, .f32⟩
  | .local _ .vmem, ⟨3, _⟩ => ⟨S54x64x256, .f32⟩
  | .local _ .vmem, ⟨4, _⟩ => ⟨S6x64x2304, .f32⟩
  | .local _ .vmem, ⟨5, _⟩ => ⟨S2x9x256x128, .i32⟩
  | .local _ .vmem, ⟨6, _⟩ => ⟨S2x9x4x8x256, .f32⟩
  | .local _ .vmem, ⟨7, _⟩ => ⟨S16x512x256, .bf16⟩
  | .local _ .vmem, ⟨8, _⟩ => ⟨S2x512x128, .i32⟩
  | .local _ .vmem, ⟨9, _⟩ => ⟨S4x8x256, .f32⟩
  | .local _ .vmem, ⟨10, _⟩ => ⟨S2048x256, .bf16⟩
  | .local _ .vmem, ⟨11, _⟩ => ⟨S9x16x256, .f32⟩
  | .local _ .vmem, ⟨12, _⟩ => ⟨S16x2048, .bf16⟩
  | .local _ .smem, ⟨0, _⟩ => ⟨S6, .i32⟩
  | _, _ => ⟨S6x2304x16x128, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .smem, ⟨0, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_c_0 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_c_1 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg5_0 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_scratch3 : Ref sig .tc := ⟨.vmem, 8, rfl⟩
abbrev cc0_scratch4 : Ref sig .tc := ⟨.vmem, 9, rfl⟩
abbrev cc0_scratch5 : Ref sig .tc := ⟨.vmem, 10, rfl⟩
abbrev cc0_scratch6 : Ref sig .tc := ⟨.vmem, 11, rfl⟩
abbrev cc0_scratch7 : Ref sig .tc := ⟨.vmem, 12, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

def k0_off1 : Fin 1 → Nat :=
  let c0_i32 : BitVec 32 := 0#32
  let c6_i32 : BitVec 32 := 6#32
  let v0 : BitVec 32 := Scalar.remsi c0_i32 c6_i32
  let v1 : Index := Scalar.indexCast v0
  ![v1.toNat]
@[reducible] def k0_t1_loop (v2 : BitVec 32) : Scf.Loop 32 :=
  let c0_i32_0 : BitVec 32 := 0#32
  let c255_i32 : BitVec 32 := 255#32
  let v3 : BitVec 32 := Scalar.addi v2 c255_i32
  let c256_i32 : BitVec 32 := 256#32
  let v4 : BitVec 32 := Scalar.divsi v3 c256_i32
  let v5 : BitVec 32 := Scalar.subi v4 c0_i32_0
  let c1_i32 : BitVec 32 := 1#32
  let v7 : BitVec 32 := Scalar.divsi v5 c1_i32
  let v8 : BitVec 32 := Scalar.muli v7 c1_i32
  let v9 : BitVec 32 := Scalar.addi c0_i32_0 v8
  let c1_i32_2 : BitVec 32 := 1#32
  ⟨c0_i32_0, v9, c1_i32_2⟩

def k0_mult1 (v2 : BitVec 32) (k0_t1 : Fin (k0_t1_loop v2).trips) : BitVec 32 :=
  let c0_i32_0 : BitVec 32 := 0#32
  let c1_i32_2 : BitVec 32 := 1#32
  let arg17 : BitVec 32 := Scf.iv c0_i32_0 c1_i32_2 k0_t1
  let c256_i32_92 : BitVec 32 := 256#32
  let v113 : BitVec 32 := Scalar.muli arg17 c256_i32_92
  v113
def k0_off2 : Fin 1 → Nat :=
  let c0_i32_91 : BitVec 32 := 0#32
  let c2_i32 : BitVec 32 := 2#32
  let v112 : BitVec 32 := Scalar.remsi c0_i32_91 c2_i32
  ![v112.toNat]
def k0_off3 (v2 : BitVec 32) (k0_t1 : Fin (k0_t1_loop v2).trips) : Fin 4 → Nat :=
  let c0_i32_91 : BitVec 32 := 0#32
  let c2_i32 : BitVec 32 := 2#32
  let v112 : BitVec 32 := Scalar.remsi c0_i32_91 c2_i32
  let c0_i32_0 : BitVec 32 := 0#32
  let c1_i32_2 : BitVec 32 := 1#32
  let arg17 : BitVec 32 := Scf.iv c0_i32_0 c1_i32_2 k0_t1
  let c0_i32_93 : BitVec 32 := 0#32
  let c0_i32_94 : BitVec 32 := 0#32
  ![v112.toNat, arg17.toNat, 0, 0]
def k0_off4 (v2 : BitVec 32) (k0_t1 : Fin (k0_t1_loop v2).trips) : Fin 4 → Nat :=
  let c0_i32_89 : BitVec 32 := 0#32
  let c6_i32_90 : BitVec 32 := 6#32
  let v111 : BitVec 32 := Scalar.remsi c0_i32_89 c6_i32_90
  let c0_i32_0 : BitVec 32 := 0#32
  let c1_i32_2 : BitVec 32 := 1#32
  let arg17 : BitVec 32 := Scf.iv c0_i32_0 c1_i32_2 k0_t1
  let c256_i32_92 : BitVec 32 := 256#32
  let v113 : BitVec 32 := Scalar.muli arg17 c256_i32_92
  let v114 : BitVec 32 := v113
  let c0_i32_87 : BitVec 32 := 0#32
  let c6_i32_88 : BitVec 32 := 6#32
  let v110 : BitVec 32 := Scalar.divsi c0_i32_87 c6_i32_88
  let c0_i32_95 : BitVec 32 := 0#32
  ![v111.toNat, v114.toNat, v110.toNat, 0]
def k0_off5 (v2 : BitVec 32) (k0_t1 : Fin (k0_t1_loop v2).trips) : Fin 5 → Nat :=
  let c0_i32_91 : BitVec 32 := 0#32
  let c2_i32 : BitVec 32 := 2#32
  let v112 : BitVec 32 := Scalar.remsi c0_i32_91 c2_i32
  let c0_i32_0 : BitVec 32 := 0#32
  let c1_i32_2 : BitVec 32 := 1#32
  let arg17 : BitVec 32 := Scf.iv c0_i32_0 c1_i32_2 k0_t1
  let c0_i32_96 : BitVec 32 := 0#32
  let c0_i32_97 : BitVec 32 := 0#32
  let c0_i32_98 : BitVec 32 := 0#32
  ![v112.toNat, arg17.toNat, 0, 0, 0]
def k0_off6 (v2 : BitVec 32) (k0_t1 : Fin (k0_t1_loop v2).trips) : Fin 4 → Nat :=
  let c0_i32_89 : BitVec 32 := 0#32
  let c6_i32_90 : BitVec 32 := 6#32
  let v111 : BitVec 32 := Scalar.remsi c0_i32_89 c6_i32_90
  let c0_i32_87 : BitVec 32 := 0#32
  let c6_i32_88 : BitVec 32 := 6#32
  let v110 : BitVec 32 := Scalar.divsi c0_i32_87 c6_i32_88
  let c4_i32 : BitVec 32 := 4#32
  let v115 : BitVec 32 := Scalar.muli v110 c4_i32
  let c0_i32_99 : BitVec 32 := 0#32
  let c0_i32_0 : BitVec 32 := 0#32
  let c1_i32_2 : BitVec 32 := 1#32
  let arg17 : BitVec 32 := Scf.iv c0_i32_0 c1_i32_2 k0_t1
  let c256_i32_92 : BitVec 32 := 256#32
  let v113 : BitVec 32 := Scalar.muli arg17 c256_i32_92
  let v114 : BitVec 32 := v113
  ![v111.toNat, v115.toNat, 0, v114.toNat]
@[reducible] def k0_t2_loop (v2 : BitVec 32) : Scf.Loop 32 :=
  let c0_i32_0 : BitVec 32 := 0#32
  let c255_i32 : BitVec 32 := 255#32
  let v3 : BitVec 32 := Scalar.addi v2 c255_i32
  let c256_i32 : BitVec 32 := 256#32
  let v4 : BitVec 32 := Scalar.divsi v3 c256_i32
  let v5 : BitVec 32 := Scalar.subi v4 c0_i32_0
  let c1_i32 : BitVec 32 := 1#32
  let v7 : BitVec 32 := Scalar.divsi v5 c1_i32
  let v8 : BitVec 32 := Scalar.muli v7 c1_i32
  let v9 : BitVec 32 := Scalar.addi c0_i32_0 v8
  let v6 : BitVec 32 := Scalar.addi c0_i32_0 v5
  let c1_i32_3 : BitVec 32 := 1#32
  ⟨v9, v6, c1_i32_3⟩
def k0_mult2 (v2 : BitVec 32) (k0_t2 : Fin (k0_t2_loop v2).trips) : BitVec 32 :=
  let c0_i32_0 : BitVec 32 := 0#32
  let c255_i32 : BitVec 32 := 255#32
  let v3 : BitVec 32 := Scalar.addi v2 c255_i32
  let c256_i32 : BitVec 32 := 256#32
  let v4 : BitVec 32 := Scalar.divsi v3 c256_i32
  let v5 : BitVec 32 := Scalar.subi v4 c0_i32_0
  let c1_i32 : BitVec 32 := 1#32
  let v7 : BitVec 32 := Scalar.divsi v5 c1_i32
  let v8 : BitVec 32 := Scalar.muli v7 c1_i32
  let v9 : BitVec 32 := Scalar.addi c0_i32_0 v8
  let c1_i32_3 : BitVec 32 := 1#32
  let arg17 : BitVec 32 := Scf.iv v9 c1_i32_3 k0_t2
  let c256_i32_92 : BitVec 32 := 256#32
  let v113 : BitVec 32 := Scalar.muli arg17 c256_i32_92
  v113
def k0_off7 : Fin 1 → Nat :=
  let c0_i32_91 : BitVec 32 := 0#32
  let c2_i32 : BitVec 32 := 2#32
  let v112 : BitVec 32 := Scalar.remsi c0_i32_91 c2_i32
  ![v112.toNat]
def k0_off8 (v2 : BitVec 32) (k0_t2 : Fin (k0_t2_loop v2).trips) : Fin 4 → Nat :=
  let c0_i32_91 : BitVec 32 := 0#32
  let c2_i32 : BitVec 32 := 2#32
  let v112 : BitVec 32 := Scalar.remsi c0_i32_91 c2_i32
  let c0_i32_0 : BitVec 32 := 0#32
  let c255_i32 : BitVec 32 := 255#32
  let v3 : BitVec 32 := Scalar.addi v2 c255_i32
  let c256_i32 : BitVec 32 := 256#32
  let v4 : BitVec 32 := Scalar.divsi v3 c256_i32
  let v5 : BitVec 32 := Scalar.subi v4 c0_i32_0
  let c1_i32 : BitVec 32 := 1#32
  let v7 : BitVec 32 := Scalar.divsi v5 c1_i32
  let v8 : BitVec 32 := Scalar.muli v7 c1_i32
  let v9 : BitVec 32 := Scalar.addi c0_i32_0 v8
  let c1_i32_3 : BitVec 32 := 1#32
  let arg17 : BitVec 32 := Scf.iv v9 c1_i32_3 k0_t2
  let c0_i32_93 : BitVec 32 := 0#32
  let c0_i32_94 : BitVec 32 := 0#32
  ![v112.toNat, arg17.toNat, 0, 0]
def k0_off9 (v2 : BitVec 32) (k0_t2 : Fin (k0_t2_loop v2).trips) : Fin 4 → Nat :=
  let c0_i32_89 : BitVec 32 := 0#32
  let c6_i32_90 : BitVec 32 := 6#32
  let v111 : BitVec 32 := Scalar.remsi c0_i32_89 c6_i32_90
  let c0_i32_0 : BitVec 32 := 0#32
  let c255_i32 : BitVec 32 := 255#32
  let v3 : BitVec 32 := Scalar.addi v2 c255_i32
  let c256_i32 : BitVec 32 := 256#32
  let v4 : BitVec 32 := Scalar.divsi v3 c256_i32
  let v5 : BitVec 32 := Scalar.subi v4 c0_i32_0
  let c1_i32 : BitVec 32 := 1#32
  let v7 : BitVec 32 := Scalar.divsi v5 c1_i32
  let v8 : BitVec 32 := Scalar.muli v7 c1_i32
  let v9 : BitVec 32 := Scalar.addi c0_i32_0 v8
  let c1_i32_3 : BitVec 32 := 1#32
  let arg17 : BitVec 32 := Scf.iv v9 c1_i32_3 k0_t2
  let c256_i32_92 : BitVec 32 := 256#32
  let v113 : BitVec 32 := Scalar.muli arg17 c256_i32_92
  let v114 : BitVec 32 := v113
  let c0_i32_87 : BitVec 32 := 0#32
  let c6_i32_88 : BitVec 32 := 6#32
  let v110 : BitVec 32 := Scalar.divsi c0_i32_87 c6_i32_88
  let c0_i32_95 : BitVec 32 := 0#32
  ![v111.toNat, v114.toNat, v110.toNat, 0]
def k0_off10 (v2 : BitVec 32) (k0_t2 : Fin (k0_t2_loop v2).trips) : Fin 5 → Nat :=
  let c0_i32_91 : BitVec 32 := 0#32
  let c2_i32 : BitVec 32 := 2#32
  let v112 : BitVec 32 := Scalar.remsi c0_i32_91 c2_i32
  let c0_i32_0 : BitVec 32 := 0#32
  let c255_i32 : BitVec 32 := 255#32
  let v3 : BitVec 32 := Scalar.addi v2 c255_i32
  let c256_i32 : BitVec 32 := 256#32
  let v4 : BitVec 32 := Scalar.divsi v3 c256_i32
  let v5 : BitVec 32 := Scalar.subi v4 c0_i32_0
  let c1_i32 : BitVec 32 := 1#32
  let v7 : BitVec 32 := Scalar.divsi v5 c1_i32
  let v8 : BitVec 32 := Scalar.muli v7 c1_i32
  let v9 : BitVec 32 := Scalar.addi c0_i32_0 v8
  let c1_i32_3 : BitVec 32 := 1#32
  let arg17 : BitVec 32 := Scf.iv v9 c1_i32_3 k0_t2
  let c0_i32_96 : BitVec 32 := 0#32
  let c0_i32_97 : BitVec 32 := 0#32
  let c0_i32_98 : BitVec 32 := 0#32
  ![v112.toNat, arg17.toNat, 0, 0, 0]
def k0_off11 (v2 : BitVec 32) (k0_t2 : Fin (k0_t2_loop v2).trips) : Fin 4 → Nat :=
  let c0_i32_89 : BitVec 32 := 0#32
  let c6_i32_90 : BitVec 32 := 6#32
  let v111 : BitVec 32 := Scalar.remsi c0_i32_89 c6_i32_90
  let c0_i32_87 : BitVec 32 := 0#32
  let c6_i32_88 : BitVec 32 := 6#32
  let v110 : BitVec 32 := Scalar.divsi c0_i32_87 c6_i32_88
  let c4_i32 : BitVec 32 := 4#32
  let v115 : BitVec 32 := Scalar.muli v110 c4_i32
  let c0_i32_99 : BitVec 32 := 0#32
  let c0_i32_0 : BitVec 32 := 0#32
  let c255_i32 : BitVec 32 := 255#32
  let v3 : BitVec 32 := Scalar.addi v2 c255_i32
  let c256_i32 : BitVec 32 := 256#32
  let v4 : BitVec 32 := Scalar.divsi v3 c256_i32
  let v5 : BitVec 32 := Scalar.subi v4 c0_i32_0
  let c1_i32 : BitVec 32 := 1#32
  let v7 : BitVec 32 := Scalar.divsi v5 c1_i32
  let v8 : BitVec 32 := Scalar.muli v7 c1_i32
  let v9 : BitVec 32 := Scalar.addi c0_i32_0 v8
  let c1_i32_3 : BitVec 32 := 1#32
  let arg17 : BitVec 32 := Scf.iv v9 c1_i32_3 k0_t2
  let c256_i32_92 : BitVec 32 := 256#32
  let v113 : BitVec 32 := Scalar.muli arg17 c256_i32_92
  let v114 : BitVec 32 := v113
  ![v111.toNat, v115.toNat, 0, v114.toNat]

def k0_chk1 (v2 : BitVec 32) : Prop :=
  ((k0_t1_loop v2).OK) ∧
  (∀ k0_t1 : Fin (k0_t1_loop v2).trips, 256 ∣ (k0_mult1 v2 k0_t1).toNat) ∧
  (∀ k0_t1 : Fin (k0_t1_loop v2).trips, ∀ a, (k0_off3 v2 k0_t1) a + S1x1x256x128.size a ≤ S2x9x256x128.size a) ∧
  (∀ k0_t1 : Fin (k0_t1_loop v2).trips, ∀ a, (k0_off4 v2 k0_t1) a + S1x256x1x128.size a ≤ S6x2304x4x128.size a) ∧
  (∀ k0_t1 : Fin (k0_t1_loop v2).trips, ∀ a, (k0_off5 v2 k0_t1) a + S1x1x4x8x256.size a ≤ S2x9x4x8x256.size a) ∧
  (∀ k0_t1 : Fin (k0_t1_loop v2).trips, ∀ a, (k0_off6 v2 k0_t1) a + S1x4x8x256.size a ≤ S6x16x8x2304.size a) ∧
  ((k0_t2_loop v2).OK) ∧
  (∀ k0_t2 : Fin (k0_t2_loop v2).trips, 256 ∣ (k0_mult2 v2 k0_t2).toNat) ∧
  (∀ k0_t2 : Fin (k0_t2_loop v2).trips, ∀ a, (k0_off8 v2 k0_t2) a + S1x1x256x128.size a ≤ S2x9x256x128.size a) ∧
  (∀ k0_t2 : Fin (k0_t2_loop v2).trips, ∀ a, (k0_off9 v2 k0_t2) a + S1x256x1x128.size a ≤ S6x2304x4x128.size a) ∧
  (∀ k0_t2 : Fin (k0_t2_loop v2).trips, ∀ a, (k0_off10 v2 k0_t2) a + S1x1x4x8x256.size a ≤ S2x9x4x8x256.size a) ∧
  (∀ k0_t2 : Fin (k0_t2_loop v2).trips, ∀ a, (k0_off11 v2 k0_t2) a + S1x4x8x256.size a ≤ S6x16x8x2304.size a)
theorem k0_t1_ok : ∀ (v2 : BitVec 32) (k0_hw1 : k0_chk1 v2), (k0_t1_loop v2).OK := fun v2 k0_hw1 => k0_hw1.1
theorem k0_mult1_dvd : ∀ (v2 : BitVec 32) (k0_hw1 : k0_chk1 v2) (k0_t1 : Fin (k0_t1_loop v2).trips), 256 ∣ (k0_mult1 v2 k0_t1).toNat := fun v2 k0_hw1 k0_t1 => k0_hw1.2.1 k0_t1
theorem k0_off3_inb : ∀ (v2 : BitVec 32) (k0_hw1 : k0_chk1 v2) (k0_t1 : Fin (k0_t1_loop v2).trips), ∀ a, (k0_off3 v2 k0_t1) a + S1x1x256x128.size a ≤ S2x9x256x128.size a := fun v2 k0_hw1 k0_t1 => k0_hw1.2.2.1 k0_t1
theorem k0_off4_inb : ∀ (v2 : BitVec 32) (k0_hw1 : k0_chk1 v2) (k0_t1 : Fin (k0_t1_loop v2).trips), ∀ a, (k0_off4 v2 k0_t1) a + S1x256x1x128.size a ≤ S6x2304x4x128.size a := fun v2 k0_hw1 k0_t1 => k0_hw1.2.2.2.1 k0_t1
theorem k0_off5_inb : ∀ (v2 : BitVec 32) (k0_hw1 : k0_chk1 v2) (k0_t1 : Fin (k0_t1_loop v2).trips), ∀ a, (k0_off5 v2 k0_t1) a + S1x1x4x8x256.size a ≤ S2x9x4x8x256.size a := fun v2 k0_hw1 k0_t1 => k0_hw1.2.2.2.2.1 k0_t1
theorem k0_off6_inb : ∀ (v2 : BitVec 32) (k0_hw1 : k0_chk1 v2) (k0_t1 : Fin (k0_t1_loop v2).trips), ∀ a, (k0_off6 v2 k0_t1) a + S1x4x8x256.size a ≤ S6x16x8x2304.size a := fun v2 k0_hw1 k0_t1 => k0_hw1.2.2.2.2.2.1 k0_t1
theorem k0_t2_ok : ∀ (v2 : BitVec 32) (k0_hw1 : k0_chk1 v2), (k0_t2_loop v2).OK := fun v2 k0_hw1 => k0_hw1.2.2.2.2.2.2.1
theorem k0_mult2_dvd : ∀ (v2 : BitVec 32) (k0_hw1 : k0_chk1 v2) (k0_t2 : Fin (k0_t2_loop v2).trips), 256 ∣ (k0_mult2 v2 k0_t2).toNat := fun v2 k0_hw1 k0_t2 => k0_hw1.2.2.2.2.2.2.2.1 k0_t2
theorem k0_off8_inb : ∀ (v2 : BitVec 32) (k0_hw1 : k0_chk1 v2) (k0_t2 : Fin (k0_t2_loop v2).trips), ∀ a, (k0_off8 v2 k0_t2) a + S1x1x256x128.size a ≤ S2x9x256x128.size a := fun v2 k0_hw1 k0_t2 => k0_hw1.2.2.2.2.2.2.2.2.1 k0_t2
theorem k0_off9_inb : ∀ (v2 : BitVec 32) (k0_hw1 : k0_chk1 v2) (k0_t2 : Fin (k0_t2_loop v2).trips), ∀ a, (k0_off9 v2 k0_t2) a + S1x256x1x128.size a ≤ S6x2304x4x128.size a := fun v2 k0_hw1 k0_t2 => k0_hw1.2.2.2.2.2.2.2.2.2.1 k0_t2
theorem k0_off10_inb : ∀ (v2 : BitVec 32) (k0_hw1 : k0_chk1 v2) (k0_t2 : Fin (k0_t2_loop v2).trips), ∀ a, (k0_off10 v2 k0_t2) a + S1x1x4x8x256.size a ≤ S2x9x4x8x256.size a := fun v2 k0_hw1 k0_t2 => k0_hw1.2.2.2.2.2.2.2.2.2.2.1 k0_t2
theorem k0_off11_inb : ∀ (v2 : BitVec 32) (k0_hw1 : k0_chk1 v2) (k0_t2 : Fin (k0_t2_loop v2).trips), ∀ a, (k0_off11 v2 k0_t2) a + S1x4x8x256.size a ≤ S6x16x8x2304.size a := fun v2 k0_hw1 k0_t2 => k0_hw1.2.2.2.2.2.2.2.2.2.2.2 k0_t2

@[reducible] def k0_t3_loop : Scf.Loop 32 :=
  let c0_i32_84 : BitVec 32 := 0#32
  let c24_i32 : BitVec 32 := 24#32
  let v109 : BitVec 32 := Scalar.addi c0_i32_84 c24_i32
  let c1_i32_85 : BitVec 32 := 1#32
  ⟨c0_i32_84, v109, c1_i32_85⟩
def k0_off12 (k0_t3 : Fin k0_t3_loop.trips) : Fin 1 → Nat :=
  let c0_i32_84 : BitVec 32 := 0#32
  let c1_i32_85 : BitVec 32 := 1#32
  let arg17 : BitVec 32 := Scf.iv c0_i32_84 c1_i32_85 k0_t3
  let c6_i32_88 : BitVec 32 := 6#32
  let v111 : BitVec 32 := Scalar.remsi arg17 c6_i32_88
  let v113 : Index := Scalar.indexCast v111
  ![v113.toNat]
def k0_cond1 (k0_t3 : Fin k0_t3_loop.trips) : BitVec 1 :=
  let c0_i32_84 : BitVec 32 := 0#32
  let c1_i32_85 : BitVec 32 := 1#32
  let arg17 : BitVec 32 := Scf.iv c0_i32_84 c1_i32_85 k0_t3
  let c1_i32_91 : BitVec 32 := 1#32
  let v119 : BitVec 32 := Scalar.addi arg17 c1_i32_91
  let c24_i32_92 : BitVec 32 := 24#32
  let v120 : BitVec 1 := Scalar.cmpi .slt v119 c24_i32_92
  let v121 : BitVec 32 := Scalar.extui v120
  let c0_i32_93 : BitVec 32 := 0#32
  let v122 : BitVec 1 := Scalar.cmpi .ne v121 c0_i32_93
  v122

def k0_off13 (k0_t3 : Fin k0_t3_loop.trips) : Fin 1 → Nat :=
  let c0_i32_84 : BitVec 32 := 0#32
  let c1_i32_85 : BitVec 32 := 1#32
  let arg17 : BitVec 32 := Scf.iv c0_i32_84 c1_i32_85 k0_t3
  let c1_i32_200 : BitVec 32 := 1#32
  let v414 : BitVec 32 := Scalar.addi arg17 c1_i32_200
  let c6_i32_201 : BitVec 32 := 6#32
  let v415 : BitVec 32 := Scalar.remsi v414 c6_i32_201
  let v416 : Index := Scalar.indexCast v415
  ![v416.toNat]
@[reducible] def k0_t4_loop (v417 : BitVec 32) : Scf.Loop 32 :=
  let c0_i32_204 : BitVec 32 := 0#32
  let c255_i32_202 : BitVec 32 := 255#32
  let v418 : BitVec 32 := Scalar.addi v417 c255_i32_202
  let c256_i32_203 : BitVec 32 := 256#32
  let v419 : BitVec 32 := Scalar.divsi v418 c256_i32_203
  let v420 : BitVec 32 := Scalar.subi v419 c0_i32_204
  let c1_i32_206 : BitVec 32 := 1#32
  let v422 : BitVec 32 := Scalar.divsi v420 c1_i32_206
  let v423 : BitVec 32 := Scalar.muli v422 c1_i32_206
  let v424 : BitVec 32 := Scalar.addi c0_i32_204 v423
  let c1_i32_207 : BitVec 32 := 1#32
  ⟨c0_i32_204, v424, c1_i32_207⟩

def k0_mult3 (v417 : BitVec 32) (k0_t4 : Fin (k0_t4_loop v417).trips) : BitVec 32 :=
  let c0_i32_204 : BitVec 32 := 0#32
  let c1_i32_207 : BitVec 32 := 1#32
  let arg18 : BitVec 32 := Scf.iv c0_i32_204 c1_i32_207 k0_t4
  let c256_i32_212 : BitVec 32 := 256#32
  let v430 : BitVec 32 := Scalar.muli arg18 c256_i32_212
  v430
def k0_off14 (k0_t3 : Fin k0_t3_loop.trips) : Fin 1 → Nat :=
  let c0_i32_84 : BitVec 32 := 0#32
  let c1_i32_85 : BitVec 32 := 1#32
  let arg17 : BitVec 32 := Scf.iv c0_i32_84 c1_i32_85 k0_t3
  let c1_i32_200 : BitVec 32 := 1#32
  let v414 : BitVec 32 := Scalar.addi arg17 c1_i32_200
  let c2_i32_211 : BitVec 32 := 2#32
  let v429 : BitVec 32 := Scalar.remsi v414 c2_i32_211
  ![v429.toNat]
def k0_off15 (k0_t3 : Fin k0_t3_loop.trips) (v417 : BitVec 32) (k0_t4 : Fin (k0_t4_loop v417).trips) : Fin 4 → Nat :=
  let c0_i32_84 : BitVec 32 := 0#32
  let c1_i32_85 : BitVec 32 := 1#32
  let arg17 : BitVec 32 := Scf.iv c0_i32_84 c1_i32_85 k0_t3
  let c1_i32_200 : BitVec 32 := 1#32
  let v414 : BitVec 32 := Scalar.addi arg17 c1_i32_200
  let c2_i32_211 : BitVec 32 := 2#32
  let v429 : BitVec 32 := Scalar.remsi v414 c2_i32_211
  let c0_i32_204 : BitVec 32 := 0#32
  let c1_i32_207 : BitVec 32 := 1#32
  let arg18 : BitVec 32 := Scf.iv c0_i32_204 c1_i32_207 k0_t4
  let c0_i32_214 : BitVec 32 := 0#32
  let c0_i32_215 : BitVec 32 := 0#32
  ![v429.toNat, arg18.toNat, 0, 0]
def k0_off16 (k0_t3 : Fin k0_t3_loop.trips) (v417 : BitVec 32) (k0_t4 : Fin (k0_t4_loop v417).trips) : Fin 4 → Nat :=
  let c0_i32_84 : BitVec 32 := 0#32
  let c1_i32_85 : BitVec 32 := 1#32
  let arg17 : BitVec 32 := Scf.iv c0_i32_84 c1_i32_85 k0_t3
  let c1_i32_200 : BitVec 32 := 1#32
  let v414 : BitVec 32 := Scalar.addi arg17 c1_i32_200
  let c6_i32_210 : BitVec 32 := 6#32
  let v428 : BitVec 32 := Scalar.remsi v414 c6_i32_210
  let c0_i32_204 : BitVec 32 := 0#32
  let c1_i32_207 : BitVec 32 := 1#32
  let arg18 : BitVec 32 := Scf.iv c0_i32_204 c1_i32_207 k0_t4
  let c256_i32_212 : BitVec 32 := 256#32
  let v430 : BitVec 32 := Scalar.muli arg18 c256_i32_212
  let v431 : BitVec 32 := v430
  let c6_i32_209 : BitVec 32 := 6#32
  let v427 : BitVec 32 := Scalar.divsi v414 c6_i32_209
  let c0_i32_216 : BitVec 32 := 0#32
  ![v428.toNat, v431.toNat, v427.toNat, 0]
def k0_off17 (k0_t3 : Fin k0_t3_loop.trips) (v417 : BitVec 32) (k0_t4 : Fin (k0_t4_loop v417).trips) : Fin 5 → Nat :=
  let c0_i32_84 : BitVec 32 := 0#32
  let c1_i32_85 : BitVec 32 := 1#32
  let arg17 : BitVec 32 := Scf.iv c0_i32_84 c1_i32_85 k0_t3
  let c1_i32_200 : BitVec 32 := 1#32
  let v414 : BitVec 32 := Scalar.addi arg17 c1_i32_200
  let c2_i32_211 : BitVec 32 := 2#32
  let v429 : BitVec 32 := Scalar.remsi v414 c2_i32_211
  let c0_i32_204 : BitVec 32 := 0#32
  let c1_i32_207 : BitVec 32 := 1#32
  let arg18 : BitVec 32 := Scf.iv c0_i32_204 c1_i32_207 k0_t4
  let c0_i32_217 : BitVec 32 := 0#32
  let c0_i32_218 : BitVec 32 := 0#32
  let c0_i32_219 : BitVec 32 := 0#32
  ![v429.toNat, arg18.toNat, 0, 0, 0]
def k0_off18 (k0_t3 : Fin k0_t3_loop.trips) (v417 : BitVec 32) (k0_t4 : Fin (k0_t4_loop v417).trips) : Fin 4 → Nat :=
  let c0_i32_84 : BitVec 32 := 0#32
  let c1_i32_85 : BitVec 32 := 1#32
  let arg17 : BitVec 32 := Scf.iv c0_i32_84 c1_i32_85 k0_t3
  let c1_i32_200 : BitVec 32 := 1#32
  let v414 : BitVec 32 := Scalar.addi arg17 c1_i32_200
  let c6_i32_210 : BitVec 32 := 6#32
  let v428 : BitVec 32 := Scalar.remsi v414 c6_i32_210
  let c6_i32_209 : BitVec 32 := 6#32
  let v427 : BitVec 32 := Scalar.divsi v414 c6_i32_209
  let c4_i32_213 : BitVec 32 := 4#32
  let v432 : BitVec 32 := Scalar.muli v427 c4_i32_213
  let c0_i32_220 : BitVec 32 := 0#32
  let c0_i32_204 : BitVec 32 := 0#32
  let c1_i32_207 : BitVec 32 := 1#32
  let arg18 : BitVec 32 := Scf.iv c0_i32_204 c1_i32_207 k0_t4
  let c256_i32_212 : BitVec 32 := 256#32
  let v430 : BitVec 32 := Scalar.muli arg18 c256_i32_212
  let v431 : BitVec 32 := v430
  ![v428.toNat, v432.toNat, 0, v431.toNat]
@[reducible] def k0_t5_loop (v417 : BitVec 32) : Scf.Loop 32 :=
  let c0_i32_204 : BitVec 32 := 0#32
  let c255_i32_202 : BitVec 32 := 255#32
  let v418 : BitVec 32 := Scalar.addi v417 c255_i32_202
  let c256_i32_203 : BitVec 32 := 256#32
  let v419 : BitVec 32 := Scalar.divsi v418 c256_i32_203
  let v420 : BitVec 32 := Scalar.subi v419 c0_i32_204
  let c1_i32_206 : BitVec 32 := 1#32
  let v422 : BitVec 32 := Scalar.divsi v420 c1_i32_206
  let v423 : BitVec 32 := Scalar.muli v422 c1_i32_206
  let v424 : BitVec 32 := Scalar.addi c0_i32_204 v423
  let v421 : BitVec 32 := Scalar.addi c0_i32_204 v420
  let c1_i32_208 : BitVec 32 := 1#32
  ⟨v424, v421, c1_i32_208⟩
def k0_mult4 (v417 : BitVec 32) (k0_t5 : Fin (k0_t5_loop v417).trips) : BitVec 32 :=
  let c0_i32_204 : BitVec 32 := 0#32
  let c255_i32_202 : BitVec 32 := 255#32
  let v418 : BitVec 32 := Scalar.addi v417 c255_i32_202
  let c256_i32_203 : BitVec 32 := 256#32
  let v419 : BitVec 32 := Scalar.divsi v418 c256_i32_203
  let v420 : BitVec 32 := Scalar.subi v419 c0_i32_204
  let c1_i32_206 : BitVec 32 := 1#32
  let v422 : BitVec 32 := Scalar.divsi v420 c1_i32_206
  let v423 : BitVec 32 := Scalar.muli v422 c1_i32_206
  let v424 : BitVec 32 := Scalar.addi c0_i32_204 v423
  let c1_i32_208 : BitVec 32 := 1#32
  let arg18 : BitVec 32 := Scf.iv v424 c1_i32_208 k0_t5
  let c256_i32_212 : BitVec 32 := 256#32
  let v430 : BitVec 32 := Scalar.muli arg18 c256_i32_212
  v430
def k0_off19 (k0_t3 : Fin k0_t3_loop.trips) : Fin 1 → Nat :=
  let c0_i32_84 : BitVec 32 := 0#32
  let c1_i32_85 : BitVec 32 := 1#32
  let arg17 : BitVec 32 := Scf.iv c0_i32_84 c1_i32_85 k0_t3
  let c1_i32_200 : BitVec 32 := 1#32
  let v414 : BitVec 32 := Scalar.addi arg17 c1_i32_200
  let c2_i32_211 : BitVec 32 := 2#32
  let v429 : BitVec 32 := Scalar.remsi v414 c2_i32_211
  ![v429.toNat]
def k0_off20 (k0_t3 : Fin k0_t3_loop.trips) (v417 : BitVec 32) (k0_t5 : Fin (k0_t5_loop v417).trips) : Fin 4 → Nat :=
  let c0_i32_84 : BitVec 32 := 0#32
  let c1_i32_85 : BitVec 32 := 1#32
  let arg17 : BitVec 32 := Scf.iv c0_i32_84 c1_i32_85 k0_t3
  let c1_i32_200 : BitVec 32 := 1#32
  let v414 : BitVec 32 := Scalar.addi arg17 c1_i32_200
  let c2_i32_211 : BitVec 32 := 2#32
  let v429 : BitVec 32 := Scalar.remsi v414 c2_i32_211
  let c0_i32_204 : BitVec 32 := 0#32
  let c255_i32_202 : BitVec 32 := 255#32
  let v418 : BitVec 32 := Scalar.addi v417 c255_i32_202
  let c256_i32_203 : BitVec 32 := 256#32
  let v419 : BitVec 32 := Scalar.divsi v418 c256_i32_203
  let v420 : BitVec 32 := Scalar.subi v419 c0_i32_204
  let c1_i32_206 : BitVec 32 := 1#32
  let v422 : BitVec 32 := Scalar.divsi v420 c1_i32_206
  let v423 : BitVec 32 := Scalar.muli v422 c1_i32_206
  let v424 : BitVec 32 := Scalar.addi c0_i32_204 v423
  let c1_i32_208 : BitVec 32 := 1#32
  let arg18 : BitVec 32 := Scf.iv v424 c1_i32_208 k0_t5
  let c0_i32_214 : BitVec 32 := 0#32
  let c0_i32_215 : BitVec 32 := 0#32
  ![v429.toNat, arg18.toNat, 0, 0]
def k0_off21 (k0_t3 : Fin k0_t3_loop.trips) (v417 : BitVec 32) (k0_t5 : Fin (k0_t5_loop v417).trips) : Fin 4 → Nat :=
  let c0_i32_84 : BitVec 32 := 0#32
  let c1_i32_85 : BitVec 32 := 1#32
  let arg17 : BitVec 32 := Scf.iv c0_i32_84 c1_i32_85 k0_t3
  let c1_i32_200 : BitVec 32 := 1#32
  let v414 : BitVec 32 := Scalar.addi arg17 c1_i32_200
  let c6_i32_210 : BitVec 32 := 6#32
  let v428 : BitVec 32 := Scalar.remsi v414 c6_i32_210
  let c0_i32_204 : BitVec 32 := 0#32
  let c255_i32_202 : BitVec 32 := 255#32
  let v418 : BitVec 32 := Scalar.addi v417 c255_i32_202
  let c256_i32_203 : BitVec 32 := 256#32
  let v419 : BitVec 32 := Scalar.divsi v418 c256_i32_203
  let v420 : BitVec 32 := Scalar.subi v419 c0_i32_204
  let c1_i32_206 : BitVec 32 := 1#32
  let v422 : BitVec 32 := Scalar.divsi v420 c1_i32_206
  let v423 : BitVec 32 := Scalar.muli v422 c1_i32_206
  let v424 : BitVec 32 := Scalar.addi c0_i32_204 v423
  let c1_i32_208 : BitVec 32 := 1#32
  let arg18 : BitVec 32 := Scf.iv v424 c1_i32_208 k0_t5
  let c256_i32_212 : BitVec 32 := 256#32
  let v430 : BitVec 32 := Scalar.muli arg18 c256_i32_212
  let v431 : BitVec 32 := v430
  let c6_i32_209 : BitVec 32 := 6#32
  let v427 : BitVec 32 := Scalar.divsi v414 c6_i32_209
  let c0_i32_216 : BitVec 32 := 0#32
  ![v428.toNat, v431.toNat, v427.toNat, 0]
def k0_off22 (k0_t3 : Fin k0_t3_loop.trips) (v417 : BitVec 32) (k0_t5 : Fin (k0_t5_loop v417).trips) : Fin 5 → Nat :=
  let c0_i32_84 : BitVec 32 := 0#32
  let c1_i32_85 : BitVec 32 := 1#32
  let arg17 : BitVec 32 := Scf.iv c0_i32_84 c1_i32_85 k0_t3
  let c1_i32_200 : BitVec 32 := 1#32
  let v414 : BitVec 32 := Scalar.addi arg17 c1_i32_200
  let c2_i32_211 : BitVec 32 := 2#32
  let v429 : BitVec 32 := Scalar.remsi v414 c2_i32_211
  let c0_i32_204 : BitVec 32 := 0#32
  let c255_i32_202 : BitVec 32 := 255#32
  let v418 : BitVec 32 := Scalar.addi v417 c255_i32_202
  let c256_i32_203 : BitVec 32 := 256#32
  let v419 : BitVec 32 := Scalar.divsi v418 c256_i32_203
  let v420 : BitVec 32 := Scalar.subi v419 c0_i32_204
  let c1_i32_206 : BitVec 32 := 1#32
  let v422 : BitVec 32 := Scalar.divsi v420 c1_i32_206
  let v423 : BitVec 32 := Scalar.muli v422 c1_i32_206
  let v424 : BitVec 32 := Scalar.addi c0_i32_204 v423
  let c1_i32_208 : BitVec 32 := 1#32
  let arg18 : BitVec 32 := Scf.iv v424 c1_i32_208 k0_t5
  let c0_i32_217 : BitVec 32 := 0#32
  let c0_i32_218 : BitVec 32 := 0#32
  let c0_i32_219 : BitVec 32 := 0#32
  ![v429.toNat, arg18.toNat, 0, 0, 0]
def k0_off23 (k0_t3 : Fin k0_t3_loop.trips) (v417 : BitVec 32) (k0_t5 : Fin (k0_t5_loop v417).trips) : Fin 4 → Nat :=
  let c0_i32_84 : BitVec 32 := 0#32
  let c1_i32_85 : BitVec 32 := 1#32
  let arg17 : BitVec 32 := Scf.iv c0_i32_84 c1_i32_85 k0_t3
  let c1_i32_200 : BitVec 32 := 1#32
  let v414 : BitVec 32 := Scalar.addi arg17 c1_i32_200
  let c6_i32_210 : BitVec 32 := 6#32
  let v428 : BitVec 32 := Scalar.remsi v414 c6_i32_210
  let c6_i32_209 : BitVec 32 := 6#32
  let v427 : BitVec 32 := Scalar.divsi v414 c6_i32_209
  let c4_i32_213 : BitVec 32 := 4#32
  let v432 : BitVec 32 := Scalar.muli v427 c4_i32_213
  let c0_i32_220 : BitVec 32 := 0#32
  let c0_i32_204 : BitVec 32 := 0#32
  let c255_i32_202 : BitVec 32 := 255#32
  let v418 : BitVec 32 := Scalar.addi v417 c255_i32_202
  let c256_i32_203 : BitVec 32 := 256#32
  let v419 : BitVec 32 := Scalar.divsi v418 c256_i32_203
  let v420 : BitVec 32 := Scalar.subi v419 c0_i32_204
  let c1_i32_206 : BitVec 32 := 1#32
  let v422 : BitVec 32 := Scalar.divsi v420 c1_i32_206
  let v423 : BitVec 32 := Scalar.muli v422 c1_i32_206
  let v424 : BitVec 32 := Scalar.addi c0_i32_204 v423
  let c1_i32_208 : BitVec 32 := 1#32
  let arg18 : BitVec 32 := Scf.iv v424 c1_i32_208 k0_t5
  let c256_i32_212 : BitVec 32 := 256#32
  let v430 : BitVec 32 := Scalar.muli arg18 c256_i32_212
  let v431 : BitVec 32 := v430
  ![v428.toNat, v432.toNat, 0, v431.toNat]

def k0_chk2 (k0_t3 : Fin k0_t3_loop.trips) (v417 : BitVec 32) : Prop :=
  (∀ (k0_h1 : k0_cond1 k0_t3 = 1#1), (k0_t4_loop v417).OK) ∧
  (∀ k0_t4 : Fin (k0_t4_loop v417).trips, ∀ (k0_h1 : k0_cond1 k0_t3 = 1#1), 256 ∣ (k0_mult3 v417 k0_t4).toNat) ∧
  (∀ k0_t4 : Fin (k0_t4_loop v417).trips, ∀ (k0_h1 : k0_cond1 k0_t3 = 1#1), ∀ a, (k0_off15 k0_t3 v417 k0_t4) a + S1x1x256x128.size a ≤ S2x9x256x128.size a) ∧
  (∀ k0_t4 : Fin (k0_t4_loop v417).trips, ∀ (k0_h1 : k0_cond1 k0_t3 = 1#1), ∀ a, (k0_off16 k0_t3 v417 k0_t4) a + S1x256x1x128.size a ≤ S6x2304x4x128.size a) ∧
  (∀ k0_t4 : Fin (k0_t4_loop v417).trips, ∀ (k0_h1 : k0_cond1 k0_t3 = 1#1), ∀ a, (k0_off17 k0_t3 v417 k0_t4) a + S1x1x4x8x256.size a ≤ S2x9x4x8x256.size a) ∧
  (∀ k0_t4 : Fin (k0_t4_loop v417).trips, ∀ (k0_h1 : k0_cond1 k0_t3 = 1#1), ∀ a, (k0_off18 k0_t3 v417 k0_t4) a + S1x4x8x256.size a ≤ S6x16x8x2304.size a) ∧
  (∀ (k0_h1 : k0_cond1 k0_t3 = 1#1), (k0_t5_loop v417).OK) ∧
  (∀ k0_t5 : Fin (k0_t5_loop v417).trips, ∀ (k0_h1 : k0_cond1 k0_t3 = 1#1), 256 ∣ (k0_mult4 v417 k0_t5).toNat) ∧
  (∀ k0_t5 : Fin (k0_t5_loop v417).trips, ∀ (k0_h1 : k0_cond1 k0_t3 = 1#1), ∀ a, (k0_off20 k0_t3 v417 k0_t5) a + S1x1x256x128.size a ≤ S2x9x256x128.size a) ∧
  (∀ k0_t5 : Fin (k0_t5_loop v417).trips, ∀ (k0_h1 : k0_cond1 k0_t3 = 1#1), ∀ a, (k0_off21 k0_t3 v417 k0_t5) a + S1x256x1x128.size a ≤ S6x2304x4x128.size a) ∧
  (∀ k0_t5 : Fin (k0_t5_loop v417).trips, ∀ (k0_h1 : k0_cond1 k0_t3 = 1#1), ∀ a, (k0_off22 k0_t3 v417 k0_t5) a + S1x1x4x8x256.size a ≤ S2x9x4x8x256.size a) ∧
  (∀ k0_t5 : Fin (k0_t5_loop v417).trips, ∀ (k0_h1 : k0_cond1 k0_t3 = 1#1), ∀ a, (k0_off23 k0_t3 v417 k0_t5) a + S1x4x8x256.size a ≤ S6x16x8x2304.size a)
theorem k0_t4_ok : ∀ (k0_t3 : Fin k0_t3_loop.trips) (v417 : BitVec 32) (k0_hw2 : k0_chk2 k0_t3 v417), ∀ (k0_h1 : k0_cond1 k0_t3 = 1#1), (k0_t4_loop v417).OK := fun k0_t3 v417 k0_hw2 k0_h1 => k0_hw2.1 k0_h1
theorem k0_mult3_dvd : ∀ (k0_t3 : Fin k0_t3_loop.trips) (v417 : BitVec 32) (k0_hw2 : k0_chk2 k0_t3 v417) (k0_t4 : Fin (k0_t4_loop v417).trips), ∀ (k0_h1 : k0_cond1 k0_t3 = 1#1), 256 ∣ (k0_mult3 v417 k0_t4).toNat := fun k0_t3 v417 k0_hw2 k0_t4 k0_h1 => k0_hw2.2.1 k0_t4 k0_h1
theorem k0_off15_inb : ∀ (k0_t3 : Fin k0_t3_loop.trips) (v417 : BitVec 32) (k0_hw2 : k0_chk2 k0_t3 v417) (k0_t4 : Fin (k0_t4_loop v417).trips), ∀ (k0_h1 : k0_cond1 k0_t3 = 1#1), ∀ a, (k0_off15 k0_t3 v417 k0_t4) a + S1x1x256x128.size a ≤ S2x9x256x128.size a := fun k0_t3 v417 k0_hw2 k0_t4 k0_h1 => k0_hw2.2.2.1 k0_t4 k0_h1
theorem k0_off16_inb : ∀ (k0_t3 : Fin k0_t3_loop.trips) (v417 : BitVec 32) (k0_hw2 : k0_chk2 k0_t3 v417) (k0_t4 : Fin (k0_t4_loop v417).trips), ∀ (k0_h1 : k0_cond1 k0_t3 = 1#1), ∀ a, (k0_off16 k0_t3 v417 k0_t4) a + S1x256x1x128.size a ≤ S6x2304x4x128.size a := fun k0_t3 v417 k0_hw2 k0_t4 k0_h1 => k0_hw2.2.2.2.1 k0_t4 k0_h1
theorem k0_off17_inb : ∀ (k0_t3 : Fin k0_t3_loop.trips) (v417 : BitVec 32) (k0_hw2 : k0_chk2 k0_t3 v417) (k0_t4 : Fin (k0_t4_loop v417).trips), ∀ (k0_h1 : k0_cond1 k0_t3 = 1#1), ∀ a, (k0_off17 k0_t3 v417 k0_t4) a + S1x1x4x8x256.size a ≤ S2x9x4x8x256.size a := fun k0_t3 v417 k0_hw2 k0_t4 k0_h1 => k0_hw2.2.2.2.2.1 k0_t4 k0_h1
theorem k0_off18_inb : ∀ (k0_t3 : Fin k0_t3_loop.trips) (v417 : BitVec 32) (k0_hw2 : k0_chk2 k0_t3 v417) (k0_t4 : Fin (k0_t4_loop v417).trips), ∀ (k0_h1 : k0_cond1 k0_t3 = 1#1), ∀ a, (k0_off18 k0_t3 v417 k0_t4) a + S1x4x8x256.size a ≤ S6x16x8x2304.size a := fun k0_t3 v417 k0_hw2 k0_t4 k0_h1 => k0_hw2.2.2.2.2.2.1 k0_t4 k0_h1
theorem k0_t5_ok : ∀ (k0_t3 : Fin k0_t3_loop.trips) (v417 : BitVec 32) (k0_hw2 : k0_chk2 k0_t3 v417), ∀ (k0_h1 : k0_cond1 k0_t3 = 1#1), (k0_t5_loop v417).OK := fun k0_t3 v417 k0_hw2 k0_h1 => k0_hw2.2.2.2.2.2.2.1 k0_h1
theorem k0_mult4_dvd : ∀ (k0_t3 : Fin k0_t3_loop.trips) (v417 : BitVec 32) (k0_hw2 : k0_chk2 k0_t3 v417) (k0_t5 : Fin (k0_t5_loop v417).trips), ∀ (k0_h1 : k0_cond1 k0_t3 = 1#1), 256 ∣ (k0_mult4 v417 k0_t5).toNat := fun k0_t3 v417 k0_hw2 k0_t5 k0_h1 => k0_hw2.2.2.2.2.2.2.2.1 k0_t5 k0_h1
theorem k0_off20_inb : ∀ (k0_t3 : Fin k0_t3_loop.trips) (v417 : BitVec 32) (k0_hw2 : k0_chk2 k0_t3 v417) (k0_t5 : Fin (k0_t5_loop v417).trips), ∀ (k0_h1 : k0_cond1 k0_t3 = 1#1), ∀ a, (k0_off20 k0_t3 v417 k0_t5) a + S1x1x256x128.size a ≤ S2x9x256x128.size a := fun k0_t3 v417 k0_hw2 k0_t5 k0_h1 => k0_hw2.2.2.2.2.2.2.2.2.1 k0_t5 k0_h1
theorem k0_off21_inb : ∀ (k0_t3 : Fin k0_t3_loop.trips) (v417 : BitVec 32) (k0_hw2 : k0_chk2 k0_t3 v417) (k0_t5 : Fin (k0_t5_loop v417).trips), ∀ (k0_h1 : k0_cond1 k0_t3 = 1#1), ∀ a, (k0_off21 k0_t3 v417 k0_t5) a + S1x256x1x128.size a ≤ S6x2304x4x128.size a := fun k0_t3 v417 k0_hw2 k0_t5 k0_h1 => k0_hw2.2.2.2.2.2.2.2.2.2.1 k0_t5 k0_h1
theorem k0_off22_inb : ∀ (k0_t3 : Fin k0_t3_loop.trips) (v417 : BitVec 32) (k0_hw2 : k0_chk2 k0_t3 v417) (k0_t5 : Fin (k0_t5_loop v417).trips), ∀ (k0_h1 : k0_cond1 k0_t3 = 1#1), ∀ a, (k0_off22 k0_t3 v417 k0_t5) a + S1x1x4x8x256.size a ≤ S2x9x4x8x256.size a := fun k0_t3 v417 k0_hw2 k0_t5 k0_h1 => k0_hw2.2.2.2.2.2.2.2.2.2.2.1 k0_t5 k0_h1
theorem k0_off23_inb : ∀ (k0_t3 : Fin k0_t3_loop.trips) (v417 : BitVec 32) (k0_hw2 : k0_chk2 k0_t3 v417) (k0_t5 : Fin (k0_t5_loop v417).trips), ∀ (k0_h1 : k0_cond1 k0_t3 = 1#1), ∀ a, (k0_off23 k0_t3 v417 k0_t5) a + S1x4x8x256.size a ≤ S6x16x8x2304.size a := fun k0_t3 v417 k0_hw2 k0_t5 k0_h1 => k0_hw2.2.2.2.2.2.2.2.2.2.2.2 k0_t5 k0_h1

def k0_mult5 (k0_t3 : Fin k0_t3_loop.trips) : BitVec 32 :=
  let c0_i32_84 : BitVec 32 := 0#32
  let c1_i32_85 : BitVec 32 := 1#32
  let arg17 : BitVec 32 := Scf.iv c0_i32_84 c1_i32_85 k0_t3
  let c6_i32_87 : BitVec 32 := 6#32
  let v110 : BitVec 32 := Scalar.divsi arg17 c6_i32_87
  let c16_i32 : BitVec 32 := 16#32
  let v123 : BitVec 32 := Scalar.muli v110 c16_i32
  v123
def k0_off24 (k0_t3 : Fin k0_t3_loop.trips) : Fin 3 → Nat :=
  let c0_i32_84 : BitVec 32 := 0#32
  let c1_i32_85 : BitVec 32 := 1#32
  let arg17 : BitVec 32 := Scf.iv c0_i32_84 c1_i32_85 k0_t3
  let c6_i32_88 : BitVec 32 := 6#32
  let v111 : BitVec 32 := Scalar.remsi arg17 c6_i32_88
  let v125 : Index := Scalar.indexCast v111
  let c6_i32_87 : BitVec 32 := 6#32
  let v110 : BitVec 32 := Scalar.divsi arg17 c6_i32_87
  let c16_i32 : BitVec 32 := 16#32
  let v123 : BitVec 32 := Scalar.muli v110 c16_i32
  let v124 : BitVec 32 := v123
  let v126 : Index := Scalar.indexCast v124
  let c0_94 : Index := 0#32
  ![v125.toNat, v126.toNat, 0]
@[reducible] def k0_t6_loop (v259 : BitVec 32) : Scf.Loop 32 :=
  let c0_i32_134 : BitVec 32 := 0#32
  let c255_i32_132 : BitVec 32 := 255#32
  let v260 : BitVec 32 := Scalar.addi v259 c255_i32_132
  let c256_i32_133 : BitVec 32 := 256#32
  let v261 : BitVec 32 := Scalar.divsi v260 c256_i32_133
  let v262 : BitVec 32 := Scalar.subi v261 c0_i32_134
  let c1_i32_136 : BitVec 32 := 1#32
  let v264 : BitVec 32 := Scalar.divsi v262 c1_i32_136
  let v265 : BitVec 32 := Scalar.muli v264 c1_i32_136
  let v266 : BitVec 32 := Scalar.addi c0_i32_134 v265
  let c1_i32_137 : BitVec 32 := 1#32
  ⟨c0_i32_134, v266, c1_i32_137⟩

def k0_mult6 (v259 : BitVec 32) (k0_t6 : Fin (k0_t6_loop v259).trips) : BitVec 32 :=
  let c0_i32_134 : BitVec 32 := 0#32
  let c1_i32_137 : BitVec 32 := 1#32
  let arg18 : BitVec 32 := Scf.iv c0_i32_134 c1_i32_137 k0_t6
  let c256_i32_203 : BitVec 32 := 256#32
  let v417 : BitVec 32 := Scalar.muli arg18 c256_i32_203
  v417
def k0_off25 (k0_t3 : Fin k0_t3_loop.trips) : Fin 1 → Nat :=
  let c0_i32_84 : BitVec 32 := 0#32
  let c1_i32_85 : BitVec 32 := 1#32
  let arg17 : BitVec 32 := Scf.iv c0_i32_84 c1_i32_85 k0_t3
  let c2_i32_202 : BitVec 32 := 2#32
  let v416 : BitVec 32 := Scalar.remsi arg17 c2_i32_202
  ![v416.toNat]
def k0_off26 (k0_t3 : Fin k0_t3_loop.trips) (v259 : BitVec 32) (k0_t6 : Fin (k0_t6_loop v259).trips) : Fin 4 → Nat :=
  let c0_i32_84 : BitVec 32 := 0#32
  let c1_i32_85 : BitVec 32 := 1#32
  let arg17 : BitVec 32 := Scf.iv c0_i32_84 c1_i32_85 k0_t3
  let c2_i32_202 : BitVec 32 := 2#32
  let v416 : BitVec 32 := Scalar.remsi arg17 c2_i32_202
  let c0_i32_134 : BitVec 32 := 0#32
  let c1_i32_137 : BitVec 32 := 1#32
  let arg18 : BitVec 32 := Scf.iv c0_i32_134 c1_i32_137 k0_t6
  let c0_i32_205 : BitVec 32 := 0#32
  let c0_i32_206 : BitVec 32 := 0#32
  ![v416.toNat, arg18.toNat, 0, 0]
def k0_off27 (k0_t3 : Fin k0_t3_loop.trips) (v259 : BitVec 32) (k0_t6 : Fin (k0_t6_loop v259).trips) : Fin 4 → Nat :=
  let c0_i32_84 : BitVec 32 := 0#32
  let c1_i32_85 : BitVec 32 := 1#32
  let arg17 : BitVec 32 := Scf.iv c0_i32_84 c1_i32_85 k0_t3
  let c6_i32_201 : BitVec 32 := 6#32
  let v415 : BitVec 32 := Scalar.remsi arg17 c6_i32_201
  let c0_i32_134 : BitVec 32 := 0#32
  let c1_i32_137 : BitVec 32 := 1#32
  let arg18 : BitVec 32 := Scf.iv c0_i32_134 c1_i32_137 k0_t6
  let c256_i32_203 : BitVec 32 := 256#32
  let v417 : BitVec 32 := Scalar.muli arg18 c256_i32_203
  let v418 : BitVec 32 := v417
  let c6_i32_200 : BitVec 32 := 6#32
  let v414 : BitVec 32 := Scalar.divsi arg17 c6_i32_200
  let c0_i32_207 : BitVec 32 := 0#32
  ![v415.toNat, v418.toNat, v414.toNat, 0]
def k0_off28 (k0_t3 : Fin k0_t3_loop.trips) (v259 : BitVec 32) (k0_t6 : Fin (k0_t6_loop v259).trips) : Fin 5 → Nat :=
  let c0_i32_84 : BitVec 32 := 0#32
  let c1_i32_85 : BitVec 32 := 1#32
  let arg17 : BitVec 32 := Scf.iv c0_i32_84 c1_i32_85 k0_t3
  let c2_i32_202 : BitVec 32 := 2#32
  let v416 : BitVec 32 := Scalar.remsi arg17 c2_i32_202
  let c0_i32_134 : BitVec 32 := 0#32
  let c1_i32_137 : BitVec 32 := 1#32
  let arg18 : BitVec 32 := Scf.iv c0_i32_134 c1_i32_137 k0_t6
  let c0_i32_208 : BitVec 32 := 0#32
  let c0_i32_209 : BitVec 32 := 0#32
  let c0_i32_210 : BitVec 32 := 0#32
  ![v416.toNat, arg18.toNat, 0, 0, 0]
def k0_off29 (k0_t3 : Fin k0_t3_loop.trips) (v259 : BitVec 32) (k0_t6 : Fin (k0_t6_loop v259).trips) : Fin 4 → Nat :=
  let c0_i32_84 : BitVec 32 := 0#32
  let c1_i32_85 : BitVec 32 := 1#32
  let arg17 : BitVec 32 := Scf.iv c0_i32_84 c1_i32_85 k0_t3
  let c6_i32_201 : BitVec 32 := 6#32
  let v415 : BitVec 32 := Scalar.remsi arg17 c6_i32_201
  let c6_i32_200 : BitVec 32 := 6#32
  let v414 : BitVec 32 := Scalar.divsi arg17 c6_i32_200
  let c4_i32_204 : BitVec 32 := 4#32
  let v419 : BitVec 32 := Scalar.muli v414 c4_i32_204
  let c0_i32_211 : BitVec 32 := 0#32
  let c0_i32_134 : BitVec 32 := 0#32
  let c1_i32_137 : BitVec 32 := 1#32
  let arg18 : BitVec 32 := Scf.iv c0_i32_134 c1_i32_137 k0_t6
  let c256_i32_203 : BitVec 32 := 256#32
  let v417 : BitVec 32 := Scalar.muli arg18 c256_i32_203
  let v418 : BitVec 32 := v417
  ![v415.toNat, v419.toNat, 0, v418.toNat]
@[reducible] def k0_t7_loop (v259 : BitVec 32) : Scf.Loop 32 :=
  let c0_i32_134 : BitVec 32 := 0#32
  let c255_i32_132 : BitVec 32 := 255#32
  let v260 : BitVec 32 := Scalar.addi v259 c255_i32_132
  let c256_i32_133 : BitVec 32 := 256#32
  let v261 : BitVec 32 := Scalar.divsi v260 c256_i32_133
  let v262 : BitVec 32 := Scalar.subi v261 c0_i32_134
  let c1_i32_136 : BitVec 32 := 1#32
  let v264 : BitVec 32 := Scalar.divsi v262 c1_i32_136
  let v265 : BitVec 32 := Scalar.muli v264 c1_i32_136
  let v266 : BitVec 32 := Scalar.addi c0_i32_134 v265
  let v263 : BitVec 32 := Scalar.addi c0_i32_134 v262
  let c1_i32_138 : BitVec 32 := 1#32
  ⟨v266, v263, c1_i32_138⟩
def k0_mult7 (v259 : BitVec 32) (k0_t7 : Fin (k0_t7_loop v259).trips) : BitVec 32 :=
  let c0_i32_134 : BitVec 32 := 0#32
  let c255_i32_132 : BitVec 32 := 255#32
  let v260 : BitVec 32 := Scalar.addi v259 c255_i32_132
  let c256_i32_133 : BitVec 32 := 256#32
  let v261 : BitVec 32 := Scalar.divsi v260 c256_i32_133
  let v262 : BitVec 32 := Scalar.subi v261 c0_i32_134
  let c1_i32_136 : BitVec 32 := 1#32
  let v264 : BitVec 32 := Scalar.divsi v262 c1_i32_136
  let v265 : BitVec 32 := Scalar.muli v264 c1_i32_136
  let v266 : BitVec 32 := Scalar.addi c0_i32_134 v265
  let c1_i32_138 : BitVec 32 := 1#32
  let arg18 : BitVec 32 := Scf.iv v266 c1_i32_138 k0_t7
  let c256_i32_203 : BitVec 32 := 256#32
  let v417 : BitVec 32 := Scalar.muli arg18 c256_i32_203
  v417
def k0_off30 (k0_t3 : Fin k0_t3_loop.trips) : Fin 1 → Nat :=
  let c0_i32_84 : BitVec 32 := 0#32
  let c1_i32_85 : BitVec 32 := 1#32
  let arg17 : BitVec 32 := Scf.iv c0_i32_84 c1_i32_85 k0_t3
  let c2_i32_202 : BitVec 32 := 2#32
  let v416 : BitVec 32 := Scalar.remsi arg17 c2_i32_202
  ![v416.toNat]
def k0_off31 (k0_t3 : Fin k0_t3_loop.trips) (v259 : BitVec 32) (k0_t7 : Fin (k0_t7_loop v259).trips) : Fin 4 → Nat :=
  let c0_i32_84 : BitVec 32 := 0#32
  let c1_i32_85 : BitVec 32 := 1#32
  let arg17 : BitVec 32 := Scf.iv c0_i32_84 c1_i32_85 k0_t3
  let c2_i32_202 : BitVec 32 := 2#32
  let v416 : BitVec 32 := Scalar.remsi arg17 c2_i32_202
  let c0_i32_134 : BitVec 32 := 0#32
  let c255_i32_132 : BitVec 32 := 255#32
  let v260 : BitVec 32 := Scalar.addi v259 c255_i32_132
  let c256_i32_133 : BitVec 32 := 256#32
  let v261 : BitVec 32 := Scalar.divsi v260 c256_i32_133
  let v262 : BitVec 32 := Scalar.subi v261 c0_i32_134
  let c1_i32_136 : BitVec 32 := 1#32
  let v264 : BitVec 32 := Scalar.divsi v262 c1_i32_136
  let v265 : BitVec 32 := Scalar.muli v264 c1_i32_136
  let v266 : BitVec 32 := Scalar.addi c0_i32_134 v265
  let c1_i32_138 : BitVec 32 := 1#32
  let arg18 : BitVec 32 := Scf.iv v266 c1_i32_138 k0_t7
  let c0_i32_205 : BitVec 32 := 0#32
  let c0_i32_206 : BitVec 32 := 0#32
  ![v416.toNat, arg18.toNat, 0, 0]
def k0_off32 (k0_t3 : Fin k0_t3_loop.trips) (v259 : BitVec 32) (k0_t7 : Fin (k0_t7_loop v259).trips) : Fin 4 → Nat :=
  let c0_i32_84 : BitVec 32 := 0#32
  let c1_i32_85 : BitVec 32 := 1#32
  let arg17 : BitVec 32 := Scf.iv c0_i32_84 c1_i32_85 k0_t3
  let c6_i32_201 : BitVec 32 := 6#32
  let v415 : BitVec 32 := Scalar.remsi arg17 c6_i32_201
  let c0_i32_134 : BitVec 32 := 0#32
  let c255_i32_132 : BitVec 32 := 255#32
  let v260 : BitVec 32 := Scalar.addi v259 c255_i32_132
  let c256_i32_133 : BitVec 32 := 256#32
  let v261 : BitVec 32 := Scalar.divsi v260 c256_i32_133
  let v262 : BitVec 32 := Scalar.subi v261 c0_i32_134
  let c1_i32_136 : BitVec 32 := 1#32
  let v264 : BitVec 32 := Scalar.divsi v262 c1_i32_136
  let v265 : BitVec 32 := Scalar.muli v264 c1_i32_136
  let v266 : BitVec 32 := Scalar.addi c0_i32_134 v265
  let c1_i32_138 : BitVec 32 := 1#32
  let arg18 : BitVec 32 := Scf.iv v266 c1_i32_138 k0_t7
  let c256_i32_203 : BitVec 32 := 256#32
  let v417 : BitVec 32 := Scalar.muli arg18 c256_i32_203
  let v418 : BitVec 32 := v417
  let c6_i32_200 : BitVec 32 := 6#32
  let v414 : BitVec 32 := Scalar.divsi arg17 c6_i32_200
  let c0_i32_207 : BitVec 32 := 0#32
  ![v415.toNat, v418.toNat, v414.toNat, 0]
def k0_off33 (k0_t3 : Fin k0_t3_loop.trips) (v259 : BitVec 32) (k0_t7 : Fin (k0_t7_loop v259).trips) : Fin 5 → Nat :=
  let c0_i32_84 : BitVec 32 := 0#32
  let c1_i32_85 : BitVec 32 := 1#32
  let arg17 : BitVec 32 := Scf.iv c0_i32_84 c1_i32_85 k0_t3
  let c2_i32_202 : BitVec 32 := 2#32
  let v416 : BitVec 32 := Scalar.remsi arg17 c2_i32_202
  let c0_i32_134 : BitVec 32 := 0#32
  let c255_i32_132 : BitVec 32 := 255#32
  let v260 : BitVec 32 := Scalar.addi v259 c255_i32_132
  let c256_i32_133 : BitVec 32 := 256#32
  let v261 : BitVec 32 := Scalar.divsi v260 c256_i32_133
  let v262 : BitVec 32 := Scalar.subi v261 c0_i32_134
  let c1_i32_136 : BitVec 32 := 1#32
  let v264 : BitVec 32 := Scalar.divsi v262 c1_i32_136
  let v265 : BitVec 32 := Scalar.muli v264 c1_i32_136
  let v266 : BitVec 32 := Scalar.addi c0_i32_134 v265
  let c1_i32_138 : BitVec 32 := 1#32
  let arg18 : BitVec 32 := Scf.iv v266 c1_i32_138 k0_t7
  let c0_i32_208 : BitVec 32 := 0#32
  let c0_i32_209 : BitVec 32 := 0#32
  let c0_i32_210 : BitVec 32 := 0#32
  ![v416.toNat, arg18.toNat, 0, 0, 0]
def k0_off34 (k0_t3 : Fin k0_t3_loop.trips) (v259 : BitVec 32) (k0_t7 : Fin (k0_t7_loop v259).trips) : Fin 4 → Nat :=
  let c0_i32_84 : BitVec 32 := 0#32
  let c1_i32_85 : BitVec 32 := 1#32
  let arg17 : BitVec 32 := Scf.iv c0_i32_84 c1_i32_85 k0_t3
  let c6_i32_201 : BitVec 32 := 6#32
  let v415 : BitVec 32 := Scalar.remsi arg17 c6_i32_201
  let c6_i32_200 : BitVec 32 := 6#32
  let v414 : BitVec 32 := Scalar.divsi arg17 c6_i32_200
  let c4_i32_204 : BitVec 32 := 4#32
  let v419 : BitVec 32 := Scalar.muli v414 c4_i32_204
  let c0_i32_211 : BitVec 32 := 0#32
  let c0_i32_134 : BitVec 32 := 0#32
  let c255_i32_132 : BitVec 32 := 255#32
  let v260 : BitVec 32 := Scalar.addi v259 c255_i32_132
  let c256_i32_133 : BitVec 32 := 256#32
  let v261 : BitVec 32 := Scalar.divsi v260 c256_i32_133
  let v262 : BitVec 32 := Scalar.subi v261 c0_i32_134
  let c1_i32_136 : BitVec 32 := 1#32
  let v264 : BitVec 32 := Scalar.divsi v262 c1_i32_136
  let v265 : BitVec 32 := Scalar.muli v264 c1_i32_136
  let v266 : BitVec 32 := Scalar.addi c0_i32_134 v265
  let c1_i32_138 : BitVec 32 := 1#32
  let arg18 : BitVec 32 := Scf.iv v266 c1_i32_138 k0_t7
  let c256_i32_203 : BitVec 32 := 256#32
  let v417 : BitVec 32 := Scalar.muli arg18 c256_i32_203
  let v418 : BitVec 32 := v417
  ![v415.toNat, v419.toNat, 0, v418.toNat]

def k0_chk3 (k0_t3 : Fin k0_t3_loop.trips) (v259 : BitVec 32) : Prop :=
  ((k0_t6_loop v259).OK) ∧
  (∀ k0_t6 : Fin (k0_t6_loop v259).trips, 256 ∣ (k0_mult6 v259 k0_t6).toNat) ∧
  (∀ k0_t6 : Fin (k0_t6_loop v259).trips, ∀ a, (k0_off26 k0_t3 v259 k0_t6) a + S1x1x256x128.size a ≤ S2x9x256x128.size a) ∧
  (∀ k0_t6 : Fin (k0_t6_loop v259).trips, ∀ a, (k0_off27 k0_t3 v259 k0_t6) a + S1x256x1x128.size a ≤ S6x2304x4x128.size a) ∧
  (∀ k0_t6 : Fin (k0_t6_loop v259).trips, ∀ a, (k0_off28 k0_t3 v259 k0_t6) a + S1x1x4x8x256.size a ≤ S2x9x4x8x256.size a) ∧
  (∀ k0_t6 : Fin (k0_t6_loop v259).trips, ∀ a, (k0_off29 k0_t3 v259 k0_t6) a + S1x4x8x256.size a ≤ S6x16x8x2304.size a) ∧
  ((k0_t7_loop v259).OK) ∧
  (∀ k0_t7 : Fin (k0_t7_loop v259).trips, 256 ∣ (k0_mult7 v259 k0_t7).toNat) ∧
  (∀ k0_t7 : Fin (k0_t7_loop v259).trips, ∀ a, (k0_off31 k0_t3 v259 k0_t7) a + S1x1x256x128.size a ≤ S2x9x256x128.size a) ∧
  (∀ k0_t7 : Fin (k0_t7_loop v259).trips, ∀ a, (k0_off32 k0_t3 v259 k0_t7) a + S1x256x1x128.size a ≤ S6x2304x4x128.size a) ∧
  (∀ k0_t7 : Fin (k0_t7_loop v259).trips, ∀ a, (k0_off33 k0_t3 v259 k0_t7) a + S1x1x4x8x256.size a ≤ S2x9x4x8x256.size a) ∧
  (∀ k0_t7 : Fin (k0_t7_loop v259).trips, ∀ a, (k0_off34 k0_t3 v259 k0_t7) a + S1x4x8x256.size a ≤ S6x16x8x2304.size a)
theorem k0_t6_ok : ∀ (k0_t3 : Fin k0_t3_loop.trips) (v259 : BitVec 32) (k0_hw3 : k0_chk3 k0_t3 v259), (k0_t6_loop v259).OK := fun k0_t3 v259 k0_hw3 => k0_hw3.1
theorem k0_mult6_dvd : ∀ (k0_t3 : Fin k0_t3_loop.trips) (v259 : BitVec 32) (k0_hw3 : k0_chk3 k0_t3 v259) (k0_t6 : Fin (k0_t6_loop v259).trips), 256 ∣ (k0_mult6 v259 k0_t6).toNat := fun k0_t3 v259 k0_hw3 k0_t6 => k0_hw3.2.1 k0_t6
theorem k0_off26_inb : ∀ (k0_t3 : Fin k0_t3_loop.trips) (v259 : BitVec 32) (k0_hw3 : k0_chk3 k0_t3 v259) (k0_t6 : Fin (k0_t6_loop v259).trips), ∀ a, (k0_off26 k0_t3 v259 k0_t6) a + S1x1x256x128.size a ≤ S2x9x256x128.size a := fun k0_t3 v259 k0_hw3 k0_t6 => k0_hw3.2.2.1 k0_t6
theorem k0_off27_inb : ∀ (k0_t3 : Fin k0_t3_loop.trips) (v259 : BitVec 32) (k0_hw3 : k0_chk3 k0_t3 v259) (k0_t6 : Fin (k0_t6_loop v259).trips), ∀ a, (k0_off27 k0_t3 v259 k0_t6) a + S1x256x1x128.size a ≤ S6x2304x4x128.size a := fun k0_t3 v259 k0_hw3 k0_t6 => k0_hw3.2.2.2.1 k0_t6
theorem k0_off28_inb : ∀ (k0_t3 : Fin k0_t3_loop.trips) (v259 : BitVec 32) (k0_hw3 : k0_chk3 k0_t3 v259) (k0_t6 : Fin (k0_t6_loop v259).trips), ∀ a, (k0_off28 k0_t3 v259 k0_t6) a + S1x1x4x8x256.size a ≤ S2x9x4x8x256.size a := fun k0_t3 v259 k0_hw3 k0_t6 => k0_hw3.2.2.2.2.1 k0_t6
theorem k0_off29_inb : ∀ (k0_t3 : Fin k0_t3_loop.trips) (v259 : BitVec 32) (k0_hw3 : k0_chk3 k0_t3 v259) (k0_t6 : Fin (k0_t6_loop v259).trips), ∀ a, (k0_off29 k0_t3 v259 k0_t6) a + S1x4x8x256.size a ≤ S6x16x8x2304.size a := fun k0_t3 v259 k0_hw3 k0_t6 => k0_hw3.2.2.2.2.2.1 k0_t6
theorem k0_t7_ok : ∀ (k0_t3 : Fin k0_t3_loop.trips) (v259 : BitVec 32) (k0_hw3 : k0_chk3 k0_t3 v259), (k0_t7_loop v259).OK := fun k0_t3 v259 k0_hw3 => k0_hw3.2.2.2.2.2.2.1
theorem k0_mult7_dvd : ∀ (k0_t3 : Fin k0_t3_loop.trips) (v259 : BitVec 32) (k0_hw3 : k0_chk3 k0_t3 v259) (k0_t7 : Fin (k0_t7_loop v259).trips), 256 ∣ (k0_mult7 v259 k0_t7).toNat := fun k0_t3 v259 k0_hw3 k0_t7 => k0_hw3.2.2.2.2.2.2.2.1 k0_t7
theorem k0_off31_inb : ∀ (k0_t3 : Fin k0_t3_loop.trips) (v259 : BitVec 32) (k0_hw3 : k0_chk3 k0_t3 v259) (k0_t7 : Fin (k0_t7_loop v259).trips), ∀ a, (k0_off31 k0_t3 v259 k0_t7) a + S1x1x256x128.size a ≤ S2x9x256x128.size a := fun k0_t3 v259 k0_hw3 k0_t7 => k0_hw3.2.2.2.2.2.2.2.2.1 k0_t7
theorem k0_off32_inb : ∀ (k0_t3 : Fin k0_t3_loop.trips) (v259 : BitVec 32) (k0_hw3 : k0_chk3 k0_t3 v259) (k0_t7 : Fin (k0_t7_loop v259).trips), ∀ a, (k0_off32 k0_t3 v259 k0_t7) a + S1x256x1x128.size a ≤ S6x2304x4x128.size a := fun k0_t3 v259 k0_hw3 k0_t7 => k0_hw3.2.2.2.2.2.2.2.2.2.1 k0_t7
theorem k0_off33_inb : ∀ (k0_t3 : Fin k0_t3_loop.trips) (v259 : BitVec 32) (k0_hw3 : k0_chk3 k0_t3 v259) (k0_t7 : Fin (k0_t7_loop v259).trips), ∀ a, (k0_off33 k0_t3 v259 k0_t7) a + S1x1x4x8x256.size a ≤ S2x9x4x8x256.size a := fun k0_t3 v259 k0_hw3 k0_t7 => k0_hw3.2.2.2.2.2.2.2.2.2.2.1 k0_t7
theorem k0_off34_inb : ∀ (k0_t3 : Fin k0_t3_loop.trips) (v259 : BitVec 32) (k0_hw3 : k0_chk3 k0_t3 v259) (k0_t7 : Fin (k0_t7_loop v259).trips), ∀ a, (k0_off34 k0_t3 v259 k0_t7) a + S1x4x8x256.size a ≤ S6x16x8x2304.size a := fun k0_t3 v259 k0_hw3 k0_t7 => k0_hw3.2.2.2.2.2.2.2.2.2.2.2 k0_t7

@[reducible] def k0_t8_loop (v114 : BitVec 32) : Scf.Loop 32 :=
  let c0_i32_139 : BitVec 32 := 0#32
  let c255_i32_89 : BitVec 32 := 255#32
  let v115 : BitVec 32 := Scalar.addi v114 c255_i32_89
  let c256_i32_90 : BitVec 32 := 256#32
  let v116 : BitVec 32 := Scalar.divsi v115 c256_i32_90
  let v269 : BitVec 32 := Scalar.subi v116 c0_i32_139
  let c1_i32_141 : BitVec 32 := 1#32
  let v271 : BitVec 32 := Scalar.divsi v269 c1_i32_141
  let v272 : BitVec 32 := Scalar.muli v271 c1_i32_141
  let v273 : BitVec 32 := Scalar.addi c0_i32_139 v272
  let c1_i32_142 : BitVec 32 := 1#32
  ⟨c0_i32_139, v273, c1_i32_142⟩

def k0_off35 (k0_t3 : Fin k0_t3_loop.trips) (v114 : BitVec 32) (k0_t8 : Fin (k0_t8_loop v114).trips) : Fin 4 → Nat :=
  let c0_i32_84 : BitVec 32 := 0#32
  let c1_i32_85 : BitVec 32 := 1#32
  let arg17 : BitVec 32 := Scf.iv c0_i32_84 c1_i32_85 k0_t3
  let c2_i32 : BitVec 32 := 2#32
  let v112 : BitVec 32 := Scalar.remsi arg17 c2_i32
  let v414 : Index := Scalar.indexCast v112
  let c0_i32_139 : BitVec 32 := 0#32
  let c1_i32_142 : BitVec 32 := 1#32
  let arg18 : BitVec 32 := Scf.iv c0_i32_139 c1_i32_142 k0_t8
  let v415 : Index := Scalar.indexCast arg18
  let c0_200 : Index := 0#32
  let c0_201 : Index := 0#32
  ![v414.toNat, v415.toNat, 0, 0]
def k0_off36 (k0_t3 : Fin k0_t3_loop.trips) (v114 : BitVec 32) (k0_t8 : Fin (k0_t8_loop v114).trips) : Fin 5 → Nat :=
  let c0_i32_84 : BitVec 32 := 0#32
  let c1_i32_85 : BitVec 32 := 1#32
  let arg17 : BitVec 32 := Scf.iv c0_i32_84 c1_i32_85 k0_t3
  let c2_i32 : BitVec 32 := 2#32
  let v112 : BitVec 32 := Scalar.remsi arg17 c2_i32
  let v442 : Index := Scalar.indexCast v112
  let c0_i32_139 : BitVec 32 := 0#32
  let c1_i32_142 : BitVec 32 := 1#32
  let arg18 : BitVec 32 := Scf.iv c0_i32_139 c1_i32_142 k0_t8
  let v443 : Index := Scalar.indexCast arg18
  let c0_213 : Index := 0#32
  let c0_214 : Index := 0#32
  let c0_215 : Index := 0#32
  ![v442.toNat, v443.toNat, 0, 0, 0]
def k0_off37 (k0_t3 : Fin k0_t3_loop.trips) (v114 : BitVec 32) (k0_t8 : Fin (k0_t8_loop v114).trips) : Fin 5 → Nat :=
  let c0_i32_84 : BitVec 32 := 0#32
  let c1_i32_85 : BitVec 32 := 1#32
  let arg17 : BitVec 32 := Scf.iv c0_i32_84 c1_i32_85 k0_t3
  let c2_i32 : BitVec 32 := 2#32
  let v112 : BitVec 32 := Scalar.remsi arg17 c2_i32
  let v451 : Index := Scalar.indexCast v112
  let c0_i32_139 : BitVec 32 := 0#32
  let c1_i32_142 : BitVec 32 := 1#32
  let arg18 : BitVec 32 := Scf.iv c0_i32_139 c1_i32_142 k0_t8
  let v452 : Index := Scalar.indexCast arg18
  let c1_219 : Index := 1#32
  let c0_220 : Index := 0#32
  let c0_221 : Index := 0#32
  ![v451.toNat, v452.toNat, 1, 0, 0]
def k0_off38 (k0_t3 : Fin k0_t3_loop.trips) (v114 : BitVec 32) (k0_t8 : Fin (k0_t8_loop v114).trips) : Fin 5 → Nat :=
  let c0_i32_84 : BitVec 32 := 0#32
  let c1_i32_85 : BitVec 32 := 1#32
  let arg17 : BitVec 32 := Scf.iv c0_i32_84 c1_i32_85 k0_t3
  let c2_i32 : BitVec 32 := 2#32
  let v112 : BitVec 32 := Scalar.remsi arg17 c2_i32
  let v460 : Index := Scalar.indexCast v112
  let c0_i32_139 : BitVec 32 := 0#32
  let c1_i32_142 : BitVec 32 := 1#32
  let arg18 : BitVec 32 := Scf.iv c0_i32_139 c1_i32_142 k0_t8
  let v461 : Index := Scalar.indexCast arg18
  let c2_225 : Index := 2#32
  let c0_226 : Index := 0#32
  let c0_227 : Index := 0#32
  ![v460.toNat, v461.toNat, 2, 0, 0]
def k0_off39 (k0_t3 : Fin k0_t3_loop.trips) (v114 : BitVec 32) (k0_t8 : Fin (k0_t8_loop v114).trips) : Fin 5 → Nat :=
  let c0_i32_84 : BitVec 32 := 0#32
  let c1_i32_85 : BitVec 32 := 1#32
  let arg17 : BitVec 32 := Scf.iv c0_i32_84 c1_i32_85 k0_t3
  let c2_i32 : BitVec 32 := 2#32
  let v112 : BitVec 32 := Scalar.remsi arg17 c2_i32
  let v469 : Index := Scalar.indexCast v112
  let c0_i32_139 : BitVec 32 := 0#32
  let c1_i32_142 : BitVec 32 := 1#32
  let arg18 : BitVec 32 := Scf.iv c0_i32_139 c1_i32_142 k0_t8
  let v470 : Index := Scalar.indexCast arg18
  let c3_231 : Index := 3#32
  let c0_232 : Index := 0#32
  let c0_233 : Index := 0#32
  ![v469.toNat, v470.toNat, 3, 0, 0]
def k0_off40 (k0_t3 : Fin k0_t3_loop.trips) (c0_i32_238 : BitVec 32) : Fin 3 → Nat :=
  let c0_i32_84 : BitVec 32 := 0#32
  let c1_i32_85 : BitVec 32 := 1#32
  let arg17 : BitVec 32 := Scf.iv c0_i32_84 c1_i32_85 k0_t3
  let c6_i32_87 : BitVec 32 := 6#32
  let v110 : BitVec 32 := Scalar.divsi arg17 c6_i32_87
  let c4_i32_237 : BitVec 32 := 4#32
  let v478 : BitVec 32 := Scalar.muli v110 c4_i32_237
  let v479 : BitVec 32 := Scalar.addi v478 c0_i32_238
  let v480 : Index := Scalar.indexCast v479
  let c0_239 : Index := 0#32
  let c0_240 : Index := 0#32
  ![v480.toNat, 0, 0]
def k0_off41 (k0_t3 : Fin k0_t3_loop.trips) (v114 : BitVec 32) (k0_t8 : Fin (k0_t8_loop v114).trips) : Fin 3 → Nat :=
  let c0_i32_84 : BitVec 32 := 0#32
  let c1_i32_85 : BitVec 32 := 1#32
  let arg17 : BitVec 32 := Scf.iv c0_i32_84 c1_i32_85 k0_t3
  let c6_i32_88 : BitVec 32 := 6#32
  let v111 : BitVec 32 := Scalar.remsi arg17 c6_i32_88
  let c9_i32_272 : BitVec 32 := 9#32
  let v526 : BitVec 32 := Scalar.muli v111 c9_i32_272
  let c0_i32_139 : BitVec 32 := 0#32
  let c1_i32_142 : BitVec 32 := 1#32
  let arg18 : BitVec 32 := Scf.iv c0_i32_139 c1_i32_142 k0_t8
  let v527 : BitVec 32 := Scalar.addi v526 arg18
  let v528 : Index := Scalar.indexCast v527
  let c0_273 : Index := 0#32
  let c0_274 : Index := 0#32
  ![v528.toNat, 0, 0]
def k0_off42 (v114 : BitVec 32) (k0_t8 : Fin (k0_t8_loop v114).trips) : Fin 3 → Nat :=
  let c0_i32_139 : BitVec 32 := 0#32
  let c1_i32_142 : BitVec 32 := 1#32
  let arg18 : BitVec 32 := Scf.iv c0_i32_139 c1_i32_142 k0_t8
  let v973 : Index := Scalar.indexCast arg18
  let c0_459 : Index := 0#32
  let c0_460 : Index := 0#32
  ![v973.toNat, 0, 0]
@[reducible] def k0_t9_loop (v114 : BitVec 32) : Scf.Loop 32 :=
  let c0_i32_139 : BitVec 32 := 0#32
  let c255_i32_89 : BitVec 32 := 255#32
  let v115 : BitVec 32 := Scalar.addi v114 c255_i32_89
  let c256_i32_90 : BitVec 32 := 256#32
  let v116 : BitVec 32 := Scalar.divsi v115 c256_i32_90
  let v269 : BitVec 32 := Scalar.subi v116 c0_i32_139
  let c1_i32_141 : BitVec 32 := 1#32
  let v271 : BitVec 32 := Scalar.divsi v269 c1_i32_141
  let v272 : BitVec 32 := Scalar.muli v271 c1_i32_141
  let v273 : BitVec 32 := Scalar.addi c0_i32_139 v272
  let v270 : BitVec 32 := Scalar.addi c0_i32_139 v269
  let c1_i32_143 : BitVec 32 := 1#32
  ⟨v273, v270, c1_i32_143⟩
def k0_off43 (k0_t3 : Fin k0_t3_loop.trips) (v114 : BitVec 32) (k0_t9 : Fin (k0_t9_loop v114).trips) : Fin 4 → Nat :=
  let c0_i32_84 : BitVec 32 := 0#32
  let c1_i32_85 : BitVec 32 := 1#32
  let arg17 : BitVec 32 := Scf.iv c0_i32_84 c1_i32_85 k0_t3
  let c2_i32 : BitVec 32 := 2#32
  let v112 : BitVec 32 := Scalar.remsi arg17 c2_i32
  let v414 : Index := Scalar.indexCast v112
  let c0_i32_139 : BitVec 32 := 0#32
  let c255_i32_89 : BitVec 32 := 255#32
  let v115 : BitVec 32 := Scalar.addi v114 c255_i32_89
  let c256_i32_90 : BitVec 32 := 256#32
  let v116 : BitVec 32 := Scalar.divsi v115 c256_i32_90
  let v269 : BitVec 32 := Scalar.subi v116 c0_i32_139
  let c1_i32_141 : BitVec 32 := 1#32
  let v271 : BitVec 32 := Scalar.divsi v269 c1_i32_141
  let v272 : BitVec 32 := Scalar.muli v271 c1_i32_141
  let v273 : BitVec 32 := Scalar.addi c0_i32_139 v272
  let c1_i32_143 : BitVec 32 := 1#32
  let arg18 : BitVec 32 := Scf.iv v273 c1_i32_143 k0_t9
  let v415 : Index := Scalar.indexCast arg18
  let c0_200 : Index := 0#32
  let c0_201 : Index := 0#32
  ![v414.toNat, v415.toNat, 0, 0]
def k0_off44 (k0_t3 : Fin k0_t3_loop.trips) (v114 : BitVec 32) (k0_t9 : Fin (k0_t9_loop v114).trips) : Fin 5 → Nat :=
  let c0_i32_84 : BitVec 32 := 0#32
  let c1_i32_85 : BitVec 32 := 1#32
  let arg17 : BitVec 32 := Scf.iv c0_i32_84 c1_i32_85 k0_t3
  let c2_i32 : BitVec 32 := 2#32
  let v112 : BitVec 32 := Scalar.remsi arg17 c2_i32
  let v442 : Index := Scalar.indexCast v112
  let c0_i32_139 : BitVec 32 := 0#32
  let c255_i32_89 : BitVec 32 := 255#32
  let v115 : BitVec 32 := Scalar.addi v114 c255_i32_89
  let c256_i32_90 : BitVec 32 := 256#32
  let v116 : BitVec 32 := Scalar.divsi v115 c256_i32_90
  let v269 : BitVec 32 := Scalar.subi v116 c0_i32_139
  let c1_i32_141 : BitVec 32 := 1#32
  let v271 : BitVec 32 := Scalar.divsi v269 c1_i32_141
  let v272 : BitVec 32 := Scalar.muli v271 c1_i32_141
  let v273 : BitVec 32 := Scalar.addi c0_i32_139 v272
  let c1_i32_143 : BitVec 32 := 1#32
  let arg18 : BitVec 32 := Scf.iv v273 c1_i32_143 k0_t9
  let v443 : Index := Scalar.indexCast arg18
  let c0_213 : Index := 0#32
  let c0_214 : Index := 0#32
  let c0_215 : Index := 0#32
  ![v442.toNat, v443.toNat, 0, 0, 0]
def k0_off45 (k0_t3 : Fin k0_t3_loop.trips) (v114 : BitVec 32) (k0_t9 : Fin (k0_t9_loop v114).trips) : Fin 5 → Nat :=
  let c0_i32_84 : BitVec 32 := 0#32
  let c1_i32_85 : BitVec 32 := 1#32
  let arg17 : BitVec 32 := Scf.iv c0_i32_84 c1_i32_85 k0_t3
  let c2_i32 : BitVec 32 := 2#32
  let v112 : BitVec 32 := Scalar.remsi arg17 c2_i32
  let v451 : Index := Scalar.indexCast v112
  let c0_i32_139 : BitVec 32 := 0#32
  let c255_i32_89 : BitVec 32 := 255#32
  let v115 : BitVec 32 := Scalar.addi v114 c255_i32_89
  let c256_i32_90 : BitVec 32 := 256#32
  let v116 : BitVec 32 := Scalar.divsi v115 c256_i32_90
  let v269 : BitVec 32 := Scalar.subi v116 c0_i32_139
  let c1_i32_141 : BitVec 32 := 1#32
  let v271 : BitVec 32 := Scalar.divsi v269 c1_i32_141
  let v272 : BitVec 32 := Scalar.muli v271 c1_i32_141
  let v273 : BitVec 32 := Scalar.addi c0_i32_139 v272
  let c1_i32_143 : BitVec 32 := 1#32
  let arg18 : BitVec 32 := Scf.iv v273 c1_i32_143 k0_t9
  let v452 : Index := Scalar.indexCast arg18
  let c1_219 : Index := 1#32
  let c0_220 : Index := 0#32
  let c0_221 : Index := 0#32
  ![v451.toNat, v452.toNat, 1, 0, 0]
def k0_off46 (k0_t3 : Fin k0_t3_loop.trips) (v114 : BitVec 32) (k0_t9 : Fin (k0_t9_loop v114).trips) : Fin 5 → Nat :=
  let c0_i32_84 : BitVec 32 := 0#32
  let c1_i32_85 : BitVec 32 := 1#32
  let arg17 : BitVec 32 := Scf.iv c0_i32_84 c1_i32_85 k0_t3
  let c2_i32 : BitVec 32 := 2#32
  let v112 : BitVec 32 := Scalar.remsi arg17 c2_i32
  let v460 : Index := Scalar.indexCast v112
  let c0_i32_139 : BitVec 32 := 0#32
  let c255_i32_89 : BitVec 32 := 255#32
  let v115 : BitVec 32 := Scalar.addi v114 c255_i32_89
  let c256_i32_90 : BitVec 32 := 256#32
  let v116 : BitVec 32 := Scalar.divsi v115 c256_i32_90
  let v269 : BitVec 32 := Scalar.subi v116 c0_i32_139
  let c1_i32_141 : BitVec 32 := 1#32
  let v271 : BitVec 32 := Scalar.divsi v269 c1_i32_141
  let v272 : BitVec 32 := Scalar.muli v271 c1_i32_141
  let v273 : BitVec 32 := Scalar.addi c0_i32_139 v272
  let c1_i32_143 : BitVec 32 := 1#32
  let arg18 : BitVec 32 := Scf.iv v273 c1_i32_143 k0_t9
  let v461 : Index := Scalar.indexCast arg18
  let c2_225 : Index := 2#32
  let c0_226 : Index := 0#32
  let c0_227 : Index := 0#32
  ![v460.toNat, v461.toNat, 2, 0, 0]
def k0_off47 (k0_t3 : Fin k0_t3_loop.trips) (v114 : BitVec 32) (k0_t9 : Fin (k0_t9_loop v114).trips) : Fin 5 → Nat :=
  let c0_i32_84 : BitVec 32 := 0#32
  let c1_i32_85 : BitVec 32 := 1#32
  let arg17 : BitVec 32 := Scf.iv c0_i32_84 c1_i32_85 k0_t3
  let c2_i32 : BitVec 32 := 2#32
  let v112 : BitVec 32 := Scalar.remsi arg17 c2_i32
  let v469 : Index := Scalar.indexCast v112
  let c0_i32_139 : BitVec 32 := 0#32
  let c255_i32_89 : BitVec 32 := 255#32
  let v115 : BitVec 32 := Scalar.addi v114 c255_i32_89
  let c256_i32_90 : BitVec 32 := 256#32
  let v116 : BitVec 32 := Scalar.divsi v115 c256_i32_90
  let v269 : BitVec 32 := Scalar.subi v116 c0_i32_139
  let c1_i32_141 : BitVec 32 := 1#32
  let v271 : BitVec 32 := Scalar.divsi v269 c1_i32_141
  let v272 : BitVec 32 := Scalar.muli v271 c1_i32_141
  let v273 : BitVec 32 := Scalar.addi c0_i32_139 v272
  let c1_i32_143 : BitVec 32 := 1#32
  let arg18 : BitVec 32 := Scf.iv v273 c1_i32_143 k0_t9
  let v470 : Index := Scalar.indexCast arg18
  let c3_231 : Index := 3#32
  let c0_232 : Index := 0#32
  let c0_233 : Index := 0#32
  ![v469.toNat, v470.toNat, 3, 0, 0]
def k0_off48 (k0_t3 : Fin k0_t3_loop.trips) (c0_i32_238 : BitVec 32) : Fin 3 → Nat :=
  let c0_i32_84 : BitVec 32 := 0#32
  let c1_i32_85 : BitVec 32 := 1#32
  let arg17 : BitVec 32 := Scf.iv c0_i32_84 c1_i32_85 k0_t3
  let c6_i32_87 : BitVec 32 := 6#32
  let v110 : BitVec 32 := Scalar.divsi arg17 c6_i32_87
  let c4_i32_237 : BitVec 32 := 4#32
  let v478 : BitVec 32 := Scalar.muli v110 c4_i32_237
  let v479 : BitVec 32 := Scalar.addi v478 c0_i32_238
  let v480 : Index := Scalar.indexCast v479
  let c0_239 : Index := 0#32
  let c0_240 : Index := 0#32
  ![v480.toNat, 0, 0]
def k0_off49 (k0_t3 : Fin k0_t3_loop.trips) (v114 : BitVec 32) (k0_t9 : Fin (k0_t9_loop v114).trips) : Fin 3 → Nat :=
  let c0_i32_84 : BitVec 32 := 0#32
  let c1_i32_85 : BitVec 32 := 1#32
  let arg17 : BitVec 32 := Scf.iv c0_i32_84 c1_i32_85 k0_t3
  let c6_i32_88 : BitVec 32 := 6#32
  let v111 : BitVec 32 := Scalar.remsi arg17 c6_i32_88
  let c9_i32_272 : BitVec 32 := 9#32
  let v526 : BitVec 32 := Scalar.muli v111 c9_i32_272
  let c0_i32_139 : BitVec 32 := 0#32
  let c255_i32_89 : BitVec 32 := 255#32
  let v115 : BitVec 32 := Scalar.addi v114 c255_i32_89
  let c256_i32_90 : BitVec 32 := 256#32
  let v116 : BitVec 32 := Scalar.divsi v115 c256_i32_90
  let v269 : BitVec 32 := Scalar.subi v116 c0_i32_139
  let c1_i32_141 : BitVec 32 := 1#32
  let v271 : BitVec 32 := Scalar.divsi v269 c1_i32_141
  let v272 : BitVec 32 := Scalar.muli v271 c1_i32_141
  let v273 : BitVec 32 := Scalar.addi c0_i32_139 v272
  let c1_i32_143 : BitVec 32 := 1#32
  let arg18 : BitVec 32 := Scf.iv v273 c1_i32_143 k0_t9
  let v527 : BitVec 32 := Scalar.addi v526 arg18
  let v528 : Index := Scalar.indexCast v527
  let c0_273 : Index := 0#32
  let c0_274 : Index := 0#32
  ![v528.toNat, 0, 0]
def k0_off50 (v114 : BitVec 32) (k0_t9 : Fin (k0_t9_loop v114).trips) : Fin 3 → Nat :=
  let c0_i32_139 : BitVec 32 := 0#32
  let c255_i32_89 : BitVec 32 := 255#32
  let v115 : BitVec 32 := Scalar.addi v114 c255_i32_89
  let c256_i32_90 : BitVec 32 := 256#32
  let v116 : BitVec 32 := Scalar.divsi v115 c256_i32_90
  let v269 : BitVec 32 := Scalar.subi v116 c0_i32_139
  let c1_i32_141 : BitVec 32 := 1#32
  let v271 : BitVec 32 := Scalar.divsi v269 c1_i32_141
  let v272 : BitVec 32 := Scalar.muli v271 c1_i32_141
  let v273 : BitVec 32 := Scalar.addi c0_i32_139 v272
  let c1_i32_143 : BitVec 32 := 1#32
  let arg18 : BitVec 32 := Scf.iv v273 c1_i32_143 k0_t9
  let v973 : Index := Scalar.indexCast arg18
  let c0_459 : Index := 0#32
  let c0_460 : Index := 0#32
  ![v973.toNat, 0, 0]

def k0_chk4 (k0_t3 : Fin k0_t3_loop.trips) (v114 : BitVec 32) : Prop :=
  ((k0_t8_loop v114).OK) ∧
  (∀ k0_t8 : Fin (k0_t8_loop v114).trips, ∀ a, (k0_off35 k0_t3 v114 k0_t8) a + S1x1x256x128.size a ≤ S2x9x256x128.size a) ∧
  (∀ k0_t8 : Fin (k0_t8_loop v114).trips, ∀ a, (k0_off36 k0_t3 v114 k0_t8) a + S1x1x1x8x256.size a ≤ S2x9x4x8x256.size a) ∧
  (∀ k0_t8 : Fin (k0_t8_loop v114).trips, ∀ a, (k0_off37 k0_t3 v114 k0_t8) a + S1x1x1x8x256.size a ≤ S2x9x4x8x256.size a) ∧
  (∀ k0_t8 : Fin (k0_t8_loop v114).trips, ∀ a, (k0_off38 k0_t3 v114 k0_t8) a + S1x1x1x8x256.size a ≤ S2x9x4x8x256.size a) ∧
  (∀ k0_t8 : Fin (k0_t8_loop v114).trips, ∀ a, (k0_off39 k0_t3 v114 k0_t8) a + S1x1x1x8x256.size a ≤ S2x9x4x8x256.size a) ∧
  (∀ k0_t8 : Fin (k0_t8_loop v114).trips, ∀ a, (k0_off41 k0_t3 v114 k0_t8) a + S1x64x256.size a ≤ S54x64x256.size a) ∧
  (∀ k0_t8 : Fin (k0_t8_loop v114).trips, ∀ a, (k0_off42 v114 k0_t8) a + S1x16x256.size a ≤ S9x16x256.size a) ∧
  ((k0_t9_loop v114).OK) ∧
  (∀ k0_t9 : Fin (k0_t9_loop v114).trips, ∀ a, (k0_off43 k0_t3 v114 k0_t9) a + S1x1x256x128.size a ≤ S2x9x256x128.size a) ∧
  (∀ k0_t9 : Fin (k0_t9_loop v114).trips, ∀ a, (k0_off44 k0_t3 v114 k0_t9) a + S1x1x1x8x256.size a ≤ S2x9x4x8x256.size a) ∧
  (∀ k0_t9 : Fin (k0_t9_loop v114).trips, ∀ a, (k0_off45 k0_t3 v114 k0_t9) a + S1x1x1x8x256.size a ≤ S2x9x4x8x256.size a) ∧
  (∀ k0_t9 : Fin (k0_t9_loop v114).trips, ∀ a, (k0_off46 k0_t3 v114 k0_t9) a + S1x1x1x8x256.size a ≤ S2x9x4x8x256.size a) ∧
  (∀ k0_t9 : Fin (k0_t9_loop v114).trips, ∀ a, (k0_off47 k0_t3 v114 k0_t9) a + S1x1x1x8x256.size a ≤ S2x9x4x8x256.size a) ∧
  (∀ k0_t9 : Fin (k0_t9_loop v114).trips, ∀ a, (k0_off49 k0_t3 v114 k0_t9) a + S1x64x256.size a ≤ S54x64x256.size a) ∧
  (∀ k0_t9 : Fin (k0_t9_loop v114).trips, ∀ a, (k0_off50 v114 k0_t9) a + S1x16x256.size a ≤ S9x16x256.size a)
theorem k0_t8_ok : ∀ (k0_t3 : Fin k0_t3_loop.trips) (v114 : BitVec 32) (k0_hw4 : k0_chk4 k0_t3 v114), (k0_t8_loop v114).OK := fun k0_t3 v114 k0_hw4 => k0_hw4.1
theorem k0_off35_inb : ∀ (k0_t3 : Fin k0_t3_loop.trips) (v114 : BitVec 32) (k0_hw4 : k0_chk4 k0_t3 v114) (k0_t8 : Fin (k0_t8_loop v114).trips), ∀ a, (k0_off35 k0_t3 v114 k0_t8) a + S1x1x256x128.size a ≤ S2x9x256x128.size a := fun k0_t3 v114 k0_hw4 k0_t8 => k0_hw4.2.1 k0_t8
theorem k0_off36_inb : ∀ (k0_t3 : Fin k0_t3_loop.trips) (v114 : BitVec 32) (k0_hw4 : k0_chk4 k0_t3 v114) (k0_t8 : Fin (k0_t8_loop v114).trips), ∀ a, (k0_off36 k0_t3 v114 k0_t8) a + S1x1x1x8x256.size a ≤ S2x9x4x8x256.size a := fun k0_t3 v114 k0_hw4 k0_t8 => k0_hw4.2.2.1 k0_t8
theorem k0_off37_inb : ∀ (k0_t3 : Fin k0_t3_loop.trips) (v114 : BitVec 32) (k0_hw4 : k0_chk4 k0_t3 v114) (k0_t8 : Fin (k0_t8_loop v114).trips), ∀ a, (k0_off37 k0_t3 v114 k0_t8) a + S1x1x1x8x256.size a ≤ S2x9x4x8x256.size a := fun k0_t3 v114 k0_hw4 k0_t8 => k0_hw4.2.2.2.1 k0_t8
theorem k0_off38_inb : ∀ (k0_t3 : Fin k0_t3_loop.trips) (v114 : BitVec 32) (k0_hw4 : k0_chk4 k0_t3 v114) (k0_t8 : Fin (k0_t8_loop v114).trips), ∀ a, (k0_off38 k0_t3 v114 k0_t8) a + S1x1x1x8x256.size a ≤ S2x9x4x8x256.size a := fun k0_t3 v114 k0_hw4 k0_t8 => k0_hw4.2.2.2.2.1 k0_t8
theorem k0_off39_inb : ∀ (k0_t3 : Fin k0_t3_loop.trips) (v114 : BitVec 32) (k0_hw4 : k0_chk4 k0_t3 v114) (k0_t8 : Fin (k0_t8_loop v114).trips), ∀ a, (k0_off39 k0_t3 v114 k0_t8) a + S1x1x1x8x256.size a ≤ S2x9x4x8x256.size a := fun k0_t3 v114 k0_hw4 k0_t8 => k0_hw4.2.2.2.2.2.1 k0_t8
theorem k0_off41_inb : ∀ (k0_t3 : Fin k0_t3_loop.trips) (v114 : BitVec 32) (k0_hw4 : k0_chk4 k0_t3 v114) (k0_t8 : Fin (k0_t8_loop v114).trips), ∀ a, (k0_off41 k0_t3 v114 k0_t8) a + S1x64x256.size a ≤ S54x64x256.size a := fun k0_t3 v114 k0_hw4 k0_t8 => k0_hw4.2.2.2.2.2.2.1 k0_t8
theorem k0_off42_inb : ∀ (k0_t3 : Fin k0_t3_loop.trips) (v114 : BitVec 32) (k0_hw4 : k0_chk4 k0_t3 v114) (k0_t8 : Fin (k0_t8_loop v114).trips), ∀ a, (k0_off42 v114 k0_t8) a + S1x16x256.size a ≤ S9x16x256.size a := fun k0_t3 v114 k0_hw4 k0_t8 => k0_hw4.2.2.2.2.2.2.2.1 k0_t8
theorem k0_t9_ok : ∀ (k0_t3 : Fin k0_t3_loop.trips) (v114 : BitVec 32) (k0_hw4 : k0_chk4 k0_t3 v114), (k0_t9_loop v114).OK := fun k0_t3 v114 k0_hw4 => k0_hw4.2.2.2.2.2.2.2.2.1
theorem k0_off43_inb : ∀ (k0_t3 : Fin k0_t3_loop.trips) (v114 : BitVec 32) (k0_hw4 : k0_chk4 k0_t3 v114) (k0_t9 : Fin (k0_t9_loop v114).trips), ∀ a, (k0_off43 k0_t3 v114 k0_t9) a + S1x1x256x128.size a ≤ S2x9x256x128.size a := fun k0_t3 v114 k0_hw4 k0_t9 => k0_hw4.2.2.2.2.2.2.2.2.2.1 k0_t9
theorem k0_off44_inb : ∀ (k0_t3 : Fin k0_t3_loop.trips) (v114 : BitVec 32) (k0_hw4 : k0_chk4 k0_t3 v114) (k0_t9 : Fin (k0_t9_loop v114).trips), ∀ a, (k0_off44 k0_t3 v114 k0_t9) a + S1x1x1x8x256.size a ≤ S2x9x4x8x256.size a := fun k0_t3 v114 k0_hw4 k0_t9 => k0_hw4.2.2.2.2.2.2.2.2.2.2.1 k0_t9
theorem k0_off45_inb : ∀ (k0_t3 : Fin k0_t3_loop.trips) (v114 : BitVec 32) (k0_hw4 : k0_chk4 k0_t3 v114) (k0_t9 : Fin (k0_t9_loop v114).trips), ∀ a, (k0_off45 k0_t3 v114 k0_t9) a + S1x1x1x8x256.size a ≤ S2x9x4x8x256.size a := fun k0_t3 v114 k0_hw4 k0_t9 => k0_hw4.2.2.2.2.2.2.2.2.2.2.2.1 k0_t9
theorem k0_off46_inb : ∀ (k0_t3 : Fin k0_t3_loop.trips) (v114 : BitVec 32) (k0_hw4 : k0_chk4 k0_t3 v114) (k0_t9 : Fin (k0_t9_loop v114).trips), ∀ a, (k0_off46 k0_t3 v114 k0_t9) a + S1x1x1x8x256.size a ≤ S2x9x4x8x256.size a := fun k0_t3 v114 k0_hw4 k0_t9 => k0_hw4.2.2.2.2.2.2.2.2.2.2.2.2.1 k0_t9
theorem k0_off47_inb : ∀ (k0_t3 : Fin k0_t3_loop.trips) (v114 : BitVec 32) (k0_hw4 : k0_chk4 k0_t3 v114) (k0_t9 : Fin (k0_t9_loop v114).trips), ∀ a, (k0_off47 k0_t3 v114 k0_t9) a + S1x1x1x8x256.size a ≤ S2x9x4x8x256.size a := fun k0_t3 v114 k0_hw4 k0_t9 => k0_hw4.2.2.2.2.2.2.2.2.2.2.2.2.2.1 k0_t9
theorem k0_off49_inb : ∀ (k0_t3 : Fin k0_t3_loop.trips) (v114 : BitVec 32) (k0_hw4 : k0_chk4 k0_t3 v114) (k0_t9 : Fin (k0_t9_loop v114).trips), ∀ a, (k0_off49 k0_t3 v114 k0_t9) a + S1x64x256.size a ≤ S54x64x256.size a := fun k0_t3 v114 k0_hw4 k0_t9 => k0_hw4.2.2.2.2.2.2.2.2.2.2.2.2.2.2.1 k0_t9
theorem k0_off50_inb : ∀ (k0_t3 : Fin k0_t3_loop.trips) (v114 : BitVec 32) (k0_hw4 : k0_chk4 k0_t3 v114) (k0_t9 : Fin (k0_t9_loop v114).trips), ∀ a, (k0_off50 v114 k0_t9) a + S1x16x256.size a ≤ S9x16x256.size a := fun k0_t3 v114 k0_hw4 k0_t9 => k0_hw4.2.2.2.2.2.2.2.2.2.2.2.2.2.2.2 k0_t9

def k0_mult8 (k0_t3 : Fin k0_t3_loop.trips) : BitVec 32 :=
  let c0_i32_84 : BitVec 32 := 0#32
  let c1_i32_85 : BitVec 32 := 1#32
  let arg17 : BitVec 32 := Scf.iv c0_i32_84 c1_i32_85 k0_t3
  let c6_i32_87 : BitVec 32 := 6#32
  let v110 : BitVec 32 := Scalar.divsi arg17 c6_i32_87
  let c16_i32_191 : BitVec 32 := 16#32
  let v367 : BitVec 32 := Scalar.muli v110 c16_i32_191
  v367
def k0_off51 (k0_t3 : Fin k0_t3_loop.trips) : Fin 3 → Nat :=
  let c0_i32_84 : BitVec 32 := 0#32
  let c1_i32_85 : BitVec 32 := 1#32
  let arg17 : BitVec 32 := Scf.iv c0_i32_84 c1_i32_85 k0_t3
  let c6_i32_88 : BitVec 32 := 6#32
  let v111 : BitVec 32 := Scalar.remsi arg17 c6_i32_88
  let v369 : Index := Scalar.indexCast v111
  let c6_i32_87 : BitVec 32 := 6#32
  let v110 : BitVec 32 := Scalar.divsi arg17 c6_i32_87
  let c16_i32_191 : BitVec 32 := 16#32
  let v367 : BitVec 32 := Scalar.muli v110 c16_i32_191
  let v368 : BitVec 32 := v367
  let v370 : Index := Scalar.indexCast v368
  let c0_192 : Index := 0#32
  ![v369.toNat, v370.toNat, 0]
def k0_off52 (k0_t3 : Fin k0_t3_loop.trips) : Fin 3 → Nat :=
  let c0_i32_84 : BitVec 32 := 0#32
  let c1_i32_85 : BitVec 32 := 1#32
  let arg17 : BitVec 32 := Scf.iv c0_i32_84 c1_i32_85 k0_t3
  let c6_i32_88 : BitVec 32 := 6#32
  let v111 : BitVec 32 := Scalar.remsi arg17 c6_i32_88
  let v374 : Index := Scalar.indexCast v111
  let c6_i32_87 : BitVec 32 := 6#32
  let v110 : BitVec 32 := Scalar.divsi arg17 c6_i32_87
  let c16_i32_191 : BitVec 32 := 16#32
  let v367 : BitVec 32 := Scalar.muli v110 c16_i32_191
  let v368 : BitVec 32 := v367
  let v375 : Index := Scalar.indexCast v368
  let c256_193 : Index := 256#32
  ![v374.toNat, v375.toNat, 256]
def k0_off53 (k0_t3 : Fin k0_t3_loop.trips) : Fin 3 → Nat :=
  let c0_i32_84 : BitVec 32 := 0#32
  let c1_i32_85 : BitVec 32 := 1#32
  let arg17 : BitVec 32 := Scf.iv c0_i32_84 c1_i32_85 k0_t3
  let c6_i32_88 : BitVec 32 := 6#32
  let v111 : BitVec 32 := Scalar.remsi arg17 c6_i32_88
  let v379 : Index := Scalar.indexCast v111
  let c6_i32_87 : BitVec 32 := 6#32
  let v110 : BitVec 32 := Scalar.divsi arg17 c6_i32_87
  let c16_i32_191 : BitVec 32 := 16#32
  let v367 : BitVec 32 := Scalar.muli v110 c16_i32_191
  let v368 : BitVec 32 := v367
  let v380 : Index := Scalar.indexCast v368
  let c512_194 : Index := 512#32
  ![v379.toNat, v380.toNat, 512]
def k0_off54 (k0_t3 : Fin k0_t3_loop.trips) : Fin 3 → Nat :=
  let c0_i32_84 : BitVec 32 := 0#32
  let c1_i32_85 : BitVec 32 := 1#32
  let arg17 : BitVec 32 := Scf.iv c0_i32_84 c1_i32_85 k0_t3
  let c6_i32_88 : BitVec 32 := 6#32
  let v111 : BitVec 32 := Scalar.remsi arg17 c6_i32_88
  let v384 : Index := Scalar.indexCast v111
  let c6_i32_87 : BitVec 32 := 6#32
  let v110 : BitVec 32 := Scalar.divsi arg17 c6_i32_87
  let c16_i32_191 : BitVec 32 := 16#32
  let v367 : BitVec 32 := Scalar.muli v110 c16_i32_191
  let v368 : BitVec 32 := v367
  let v385 : Index := Scalar.indexCast v368
  let c768_195 : Index := 768#32
  ![v384.toNat, v385.toNat, 768]
def k0_off55 (k0_t3 : Fin k0_t3_loop.trips) : Fin 3 → Nat :=
  let c0_i32_84 : BitVec 32 := 0#32
  let c1_i32_85 : BitVec 32 := 1#32
  let arg17 : BitVec 32 := Scf.iv c0_i32_84 c1_i32_85 k0_t3
  let c6_i32_88 : BitVec 32 := 6#32
  let v111 : BitVec 32 := Scalar.remsi arg17 c6_i32_88
  let v389 : Index := Scalar.indexCast v111
  let c6_i32_87 : BitVec 32 := 6#32
  let v110 : BitVec 32 := Scalar.divsi arg17 c6_i32_87
  let c16_i32_191 : BitVec 32 := 16#32
  let v367 : BitVec 32 := Scalar.muli v110 c16_i32_191
  let v368 : BitVec 32 := v367
  let v390 : Index := Scalar.indexCast v368
  let c1024_196 : Index := 1024#32
  ![v389.toNat, v390.toNat, 1024]
def k0_off56 (k0_t3 : Fin k0_t3_loop.trips) : Fin 3 → Nat :=
  let c0_i32_84 : BitVec 32 := 0#32
  let c1_i32_85 : BitVec 32 := 1#32
  let arg17 : BitVec 32 := Scf.iv c0_i32_84 c1_i32_85 k0_t3
  let c6_i32_88 : BitVec 32 := 6#32
  let v111 : BitVec 32 := Scalar.remsi arg17 c6_i32_88
  let v394 : Index := Scalar.indexCast v111
  let c6_i32_87 : BitVec 32 := 6#32
  let v110 : BitVec 32 := Scalar.divsi arg17 c6_i32_87
  let c16_i32_191 : BitVec 32 := 16#32
  let v367 : BitVec 32 := Scalar.muli v110 c16_i32_191
  let v368 : BitVec 32 := v367
  let v395 : Index := Scalar.indexCast v368
  let c1280_197 : Index := 1280#32
  ![v394.toNat, v395.toNat, 1280]
def k0_off57 (k0_t3 : Fin k0_t3_loop.trips) : Fin 3 → Nat :=
  let c0_i32_84 : BitVec 32 := 0#32
  let c1_i32_85 : BitVec 32 := 1#32
  let arg17 : BitVec 32 := Scf.iv c0_i32_84 c1_i32_85 k0_t3
  let c6_i32_88 : BitVec 32 := 6#32
  let v111 : BitVec 32 := Scalar.remsi arg17 c6_i32_88
  let v399 : Index := Scalar.indexCast v111
  let c6_i32_87 : BitVec 32 := 6#32
  let v110 : BitVec 32 := Scalar.divsi arg17 c6_i32_87
  let c16_i32_191 : BitVec 32 := 16#32
  let v367 : BitVec 32 := Scalar.muli v110 c16_i32_191
  let v368 : BitVec 32 := v367
  let v400 : Index := Scalar.indexCast v368
  let c1536_198 : Index := 1536#32
  ![v399.toNat, v400.toNat, 1536]
def k0_off58 (k0_t3 : Fin k0_t3_loop.trips) : Fin 3 → Nat :=
  let c0_i32_84 : BitVec 32 := 0#32
  let c1_i32_85 : BitVec 32 := 1#32
  let arg17 : BitVec 32 := Scf.iv c0_i32_84 c1_i32_85 k0_t3
  let c6_i32_88 : BitVec 32 := 6#32
  let v111 : BitVec 32 := Scalar.remsi arg17 c6_i32_88
  let v404 : Index := Scalar.indexCast v111
  let c6_i32_87 : BitVec 32 := 6#32
  let v110 : BitVec 32 := Scalar.divsi arg17 c6_i32_87
  let c16_i32_191 : BitVec 32 := 16#32
  let v367 : BitVec 32 := Scalar.muli v110 c16_i32_191
  let v368 : BitVec 32 := v367
  let v405 : Index := Scalar.indexCast v368
  let c1792_199 : Index := 1792#32
  ![v404.toNat, v405.toNat, 1792]
def k0_off59 (k0_t3 : Fin k0_t3_loop.trips) : Fin 3 → Nat :=
  let c0_i32_84 : BitVec 32 := 0#32
  let c1_i32_85 : BitVec 32 := 1#32
  let arg17 : BitVec 32 := Scf.iv c0_i32_84 c1_i32_85 k0_t3
  let c6_i32_88 : BitVec 32 := 6#32
  let v111 : BitVec 32 := Scalar.remsi arg17 c6_i32_88
  let v409 : Index := Scalar.indexCast v111
  let c6_i32_87 : BitVec 32 := 6#32
  let v110 : BitVec 32 := Scalar.divsi arg17 c6_i32_87
  let c16_i32_191 : BitVec 32 := 16#32
  let v367 : BitVec 32 := Scalar.muli v110 c16_i32_191
  let v368 : BitVec 32 := v367
  let v410 : Index := Scalar.indexCast v368
  let c2048 : Index := 2048#32
  ![v409.toNat, v410.toNat, 2048]
abbrev stage0_0 : Fin 1 → Memref sig .tc .smem S6 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S6x64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16x256x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S54x64x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S54x64x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S6x64x2304 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Reference.lean ====
abbrev S6x2304x16x128 : Shape := ⟨4, ![6, 2304, 16, 128]⟩
abbrev S6x2304x16x8 : Shape := ⟨4, ![6, 2304, 16, 8]⟩
abbrev S6x64x128 : Shape := ⟨3, ![6, 64, 128]⟩
abbrev S16x256x512 : Shape := ⟨3, ![16, 256, 512]⟩
abbrev S6x2304x64 : Shape := ⟨3, ![6, 2304, 64]⟩
abbrev S6 : Shape := ⟨1, ![6]⟩
abbrev S_ : Shape := ⟨0, ![]⟩
abbrev S6x2304x16x8x1 : Shape := ⟨5, ![6, 2304, 16, 8, 1]⟩
abbrev S6x2304x16x8x16 : Shape := ⟨5, ![6, 2304, 16, 8, 16]⟩
abbrev S16x128x512 : Shape := ⟨3, ![16, 128, 512]⟩
abbrev S16x512x6x2304 : Shape := ⟨4, ![16, 512, 6, 2304]⟩
abbrev S6x2304x16x512 : Shape := ⟨4, ![6, 2304, 16, 512]⟩
abbrev S6x2304x64x128 : Shape := ⟨4, ![6, 2304, 64, 128]⟩
abbrev S6x2304x128 : Shape := ⟨3, ![6, 2304, 128]⟩
abbrev S6x2304x1x128 : Shape := ⟨4, ![6, 2304, 1, 128]⟩
abbrev S6x2304x64x64 : Shape := ⟨4, ![6, 2304, 64, 64]⟩
abbrev S6x64x2304 : Shape := ⟨3, ![6, 64, 2304]⟩
abbrev S2304 : Shape := ⟨1, ![2304]⟩
abbrev S1x1x2304 : Shape := ⟨3, ![1, 1, 2304]⟩
abbrev S6x1x1 : Shape := ⟨3, ![6, 1, 1]⟩
abbrev S6x1x2304 : Shape := ⟨3, ![6, 1, 2304]⟩

abbrev nBuf : Space → Nat
  | .hbm => 76
  | .vmem => 0
  | .smem => 0
  | _ => 0

abbrev bufTy : (tb : Table) → Fin (tcTables nBuf tb) → BufTy
  | .hbm, ⟨0, _⟩ => ⟨S6x2304x16x128, .i8⟩
  | .hbm, ⟨1, _⟩ => ⟨S6x2304x16x8, .f32⟩
  | .hbm, ⟨2, _⟩ => ⟨S6x64x128, .f32⟩
  | .hbm, ⟨3, _⟩ => ⟨S16x256x512, .bf16⟩
  | .hbm, ⟨4, _⟩ => ⟨S6x2304x64, .f32⟩
  | .hbm, ⟨5, _⟩ => ⟨S6x2304x64, .f32⟩
  | .hbm, ⟨6, _⟩ => ⟨S6, .i32⟩
  | .hbm, ⟨7, _⟩ => ⟨S6x2304x16x128, .i32⟩
  | .hbm, ⟨8, _⟩ => ⟨S_, .i32⟩
  | .hbm, ⟨9, _⟩ => ⟨S6x2304x16x128, .i32⟩
  | .hbm, ⟨10, _⟩ => ⟨S6x2304x16x128, .i32⟩
  | .hbm, ⟨11, _⟩ => ⟨S_, .i32⟩
  | .hbm, ⟨12, _⟩ => ⟨S6x2304x16x128, .i32⟩
  | .hbm, ⟨13, _⟩ => ⟨S6x2304x16x128, .i32⟩
  | .hbm, ⟨14, _⟩ => ⟨S_, .i32⟩
  | .hbm, ⟨15, _⟩ => ⟨S6x2304x16x128, .i32⟩
  | .hbm, ⟨16, _⟩ => ⟨S6x2304x16x128, .i32⟩
  | .hbm, ⟨17, _⟩ => ⟨S_, .i32⟩
  | .hbm, ⟨18, _⟩ => ⟨S6x2304x16x128, .i32⟩
  | .hbm, ⟨19, _⟩ => ⟨S6x2304x16x128, .i32⟩
  | .hbm, ⟨20, _⟩ => ⟨S_, .i32⟩
  | .hbm, ⟨21, _⟩ => ⟨S6x2304x16x128, .i32⟩
  | .hbm, ⟨22, _⟩ => ⟨S6x2304x16x128, .i32⟩
  | .hbm, ⟨23, _⟩ => ⟨S_, .i32⟩
  | .hbm, ⟨24, _⟩ => ⟨S6x2304x16x128, .i32⟩
  | .hbm, ⟨25, _⟩ => ⟨S6x2304x16x128, .i32⟩
  | .hbm, ⟨26, _⟩ => ⟨S6x2304x16x8, .bf16⟩
  | .hbm, ⟨27, _⟩ => ⟨S6x2304x16x8x1, .bf16⟩
  | .hbm, ⟨28, _⟩ => ⟨S6x2304x16x128, .bf16⟩
  | .hbm, ⟨29, _⟩ => ⟨S6x2304x16x8x16, .bf16⟩
  | .hbm, ⟨30, _⟩ => ⟨S6x2304x16x8x16, .bf16⟩
  | .hbm, ⟨31, _⟩ => ⟨S6x2304x16x8x16, .bf16⟩
  | .hbm, ⟨32, _⟩ => ⟨S6x2304x16x128, .bf16⟩
  | .hbm, ⟨33, _⟩ => ⟨S6x2304x16x128, .bf16⟩
  | .hbm, ⟨34, _⟩ => ⟨S6x2304x16x8x16, .bf16⟩
  | .hbm, ⟨35, _⟩ => ⟨S6x2304x16x8x16, .bf16⟩
  | .hbm, ⟨36, _⟩ => ⟨S6x2304x16x8x16, .bf16⟩
  | .hbm, ⟨37, _⟩ => ⟨S6x2304x16x128, .bf16⟩
  | .hbm, ⟨38, _⟩ => ⟨S16x128x512, .bf16⟩
  | .hbm, ⟨39, _⟩ => ⟨S16x512x6x2304, .f32⟩
  | .hbm, ⟨40, _⟩ => ⟨S6x2304x16x512, .f32⟩
  | .hbm, ⟨41, _⟩ => ⟨S16x128x512, .bf16⟩
  | .hbm, ⟨42, _⟩ => ⟨S16x512x6x2304, .f32⟩
  | .hbm, ⟨43, _⟩ => ⟨S6x2304x16x512, .f32⟩
  | .hbm, ⟨44, _⟩ => ⟨S6x2304x16x512, .f32⟩
  | .hbm, ⟨45, _⟩ => ⟨S6x2304x64x128, .f32⟩
  | .hbm, ⟨46, _⟩ => ⟨S6x2304x128, .f32⟩
  | .hbm, ⟨47, _⟩ => ⟨S6x2304x1x128, .f32⟩
  | .hbm, ⟨48, _⟩ => ⟨S6x2304x128, .f32⟩
  | .hbm, ⟨49, _⟩ => ⟨S6x2304x1x128, .f32⟩
  | .hbm, ⟨50, _⟩ => ⟨S6x2304x64x64, .f32⟩
  | .hbm, ⟨51, _⟩ => ⟨S6x2304x64x64, .f32⟩
  | .hbm, ⟨52, _⟩ => ⟨S6x2304x64x64, .f32⟩
  | .hbm, ⟨53, _⟩ => ⟨S6x2304x64x128, .f32⟩
  | .hbm, ⟨54, _⟩ => ⟨S6x2304x64x128, .f32⟩
  | .hbm, ⟨55, _⟩ => ⟨S6x2304x64x128, .f32⟩
  | .hbm, ⟨56, _⟩ => ⟨S6x2304x64x128, .f32⟩
  | .hbm, ⟨57, _⟩ => ⟨S6x2304x64x128, .f32⟩
  | .hbm, ⟨58, _⟩ => ⟨S6x2304x64x128, .f32⟩
  | .hbm, ⟨59, _⟩ => ⟨S6x2304x64x128, .bf16⟩
  | .hbm, ⟨60, _⟩ => ⟨S6x64x128, .bf16⟩
  | .hbm, ⟨61, _⟩ => ⟨S6x64x2304, .f32⟩
  | .hbm, ⟨62, _⟩ => ⟨S_, .f32⟩
  | .hbm, ⟨63, _⟩ => ⟨S6x64x2304, .f32⟩
  | .hbm, ⟨64, _⟩ => ⟨S6x64x2304, .f32⟩
  | .hbm, ⟨65, _⟩ => ⟨S2304, .i32⟩
  | .hbm, ⟨66, _⟩ => ⟨S1x1x2304, .i32⟩
  | .hbm, ⟨67, _⟩ => ⟨S6x1x1, .i32⟩
  | .hbm, ⟨68, _⟩ => ⟨S6x1x2304, .i32⟩
  | .hbm, ⟨69, _⟩ => ⟨S6x1x2304, .i32⟩
  | .hbm, ⟨70, _⟩ => ⟨S6x1x2304, .i1⟩
  | .hbm, ⟨71, _⟩ => ⟨S_, .f32⟩
  | .hbm, ⟨72, _⟩ => ⟨S_, .f32⟩
  | .hbm, ⟨73, _⟩ => ⟨S6x64x2304, .i1⟩
  | .hbm, ⟨74, _⟩ => ⟨S6x64x2304, .f32⟩
  | .hbm, ⟨75, _⟩ => ⟨S6x64x2304, .f32⟩
  | _, _ => ⟨S6x2304x16x128, .i8⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_c_0 : Ref sig .tc := ⟨.hbm, 11, rfl⟩
abbrev main_v3 : Ref sig .tc := ⟨.hbm, 12, rfl⟩
abbrev main_v4 : Ref sig .tc := ⟨.hbm, 13, rfl⟩
abbrev main_c_1 : Ref sig .tc := ⟨.hbm, 14, rfl⟩
abbrev main_v5 : Ref sig .tc := ⟨.hbm, 15, rfl⟩
abbrev main_v6 : Ref sig .tc := ⟨.hbm, 16, rfl⟩
abbrev main_c_2 : Ref sig .tc := ⟨.hbm, 17, rfl⟩
abbrev main_v7 : Ref sig .tc := ⟨.hbm, 18, rfl⟩
abbrev main_v8 : Ref sig .tc := ⟨.hbm, 19, rfl⟩
abbrev main_c_3 : Ref sig .tc := ⟨.hbm, 20, rfl⟩
abbrev main_v9 : Ref sig .tc := ⟨.hbm, 21, rfl⟩
abbrev main_v10 : Ref sig .tc := ⟨.hbm, 22, rfl⟩
abbrev main_c_4 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_cst : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_cst_5 : Ref sig .tc := ⟨.hbm, 71, rfl⟩
abbrev main_call0_v0 : Ref sig .tc := ⟨.hbm, 72, rfl⟩
abbrev main_call0_v1 : Ref sig .tc := ⟨.hbm, 73, rfl⟩
abbrev main_call0_v2 : Ref sig .tc := ⟨.hbm, 74, rfl⟩
abbrev main_v57 : Ref sig .tc := ⟨.hbm, 75, rfl⟩

abbrev nD : Nat := 1
abbrev τ : Topo := Topo.v7x

variable {F : FTy → Type} [FloatOps F]
-- ==== NewKernel.lean ====
abbrev S6x1x16x256 : Shape := ⟨4, ![6, 1, 16, 256]⟩
abbrev S96x256 : Shape := ⟨2, ![96, 256]⟩
abbrev S6x16x128 : Shape := ⟨3, ![6, 16, 128]⟩
abbrev S6x8x16 : Shape := ⟨3, ![6, 8, 16]⟩
abbrev S256x128 : Shape := ⟨2, ![256, 128]⟩
abbrev S256x256 : Shape := ⟨2, ![256, 256]⟩
abbrev S32x256 : Shape := ⟨2, ![32, 256]⟩
abbrev S128x256 : Shape := ⟨2, ![128, 256]⟩
abbrev S8x32x128 : Shape := ⟨3, ![8, 32, 128]⟩
abbrev S8x128 : Shape := ⟨2, ![8, 128]⟩
abbrev S8x1x128 : Shape := ⟨3, ![8, 1, 128]⟩
abbrev S128x128 : Shape := ⟨2, ![128, 128]⟩
abbrev S16x128 : Shape := ⟨2, ![16, 128]⟩
abbrev S1x16x128 : Shape := ⟨3, ![1, 16, 128]⟩
abbrev S8x16 : Shape := ⟨2, ![8, 16]⟩
abbrev S1x8x16 : Shape := ⟨3, ![1, 8, 16]⟩

abbrev nBuf : Space → Nat
  | .hbm => 8
  | .vmem => 7
  | .smem => 0
  | _ => 0

abbrev bufTy : (tb : Table) → Fin (tcTables nBuf tb) → BufTy
  | .hbm, ⟨0, _⟩ => ⟨S6x1x16x256, .bf16⟩
  | .hbm, ⟨1, _⟩ => ⟨S6x1x16x256, .bf16⟩
  | .hbm, ⟨2, _⟩ => ⟨S96x256, .bf16⟩
  | .hbm, ⟨3, _⟩ => ⟨S96x256, .bf16⟩
  | .hbm, ⟨4, _⟩ => ⟨S6x16x128, .i8⟩
  | .hbm, ⟨5, _⟩ => ⟨S6x8x16, .f32⟩
  | .hbm, ⟨6, _⟩ => ⟨S6x16x128, .i8⟩
  | .hbm, ⟨7, _⟩ => ⟨S6x8x16, .f32⟩
  | .local _ .vmem, ⟨0, _⟩ => ⟨S96x256, .bf16⟩
  | .local _ .vmem, ⟨1, _⟩ => ⟨S96x256, .bf16⟩
  | .local _ .vmem, ⟨2, _⟩ => ⟨S6x16x128, .i8⟩
  | .local _ .vmem, ⟨3, _⟩ => ⟨S6x8x16, .f32⟩
  | .local _ .vmem, ⟨4, _⟩ => ⟨S6x16x128, .i8⟩
  | .local _ .vmem, ⟨5, _⟩ => ⟨S6x8x16, .f32⟩
  | .local _ .vmem, ⟨6, _⟩ => ⟨S256x128, .f32⟩
  | _, _ => ⟨S6x1x16x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v2_2 : Ref sig .tc := ⟨.hbm, 6, rfl⟩
abbrev main_v2_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S96x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S96x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S6x16x128 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S6x8x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S6x16x128 .i8 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S6x8x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== NewReference.lean ====
abbrev S6x1x16x256 : Shape := ⟨4, ![6, 1, 16, 256]⟩
abbrev S6x1x16x128x2x1 : Shape := ⟨6, ![6, 1, 16, 128, 2, 1]⟩
abbrev S6x1x16x128x1x1 : Shape := ⟨6, ![6, 1, 16, 128, 1, 1]⟩
abbrev S6x1x16x128x1 : Shape := ⟨5, ![6, 1, 16, 128, 1]⟩
abbrev S6x1x16x64x2x2 : Shape := ⟨6, ![6, 1, 16, 64, 2, 2]⟩
abbrev S6x1x16x64x1x2 : Shape := ⟨6, ![6, 1, 16, 64, 1, 2]⟩
abbrev S6x1x16x64x2 : Shape := ⟨5, ![6, 1, 16, 64, 2]⟩
abbrev S6x1x16x32x2x4 : Shape := ⟨6, ![6, 1, 16, 32, 2, 4]⟩
abbrev S6x1x16x32x1x4 : Shape := ⟨6, ![6, 1, 16, 32, 1, 4]⟩
abbrev S6x1x16x32x4 : Shape := ⟨5, ![6, 1, 16, 32, 4]⟩
abbrev S6x1x16x16x2x8 : Shape := ⟨6, ![6, 1, 16, 16, 2, 8]⟩
abbrev S6x1x16x16x1x8 : Shape := ⟨6, ![6, 1, 16, 16, 1, 8]⟩
abbrev S6x1x16x16x8 : Shape := ⟨5, ![6, 1, 16, 16, 8]⟩
abbrev S6x1x16x8x2x16 : Shape := ⟨6, ![6, 1, 16, 8, 2, 16]⟩
abbrev S6x1x16x8x1x16 : Shape := ⟨6, ![6, 1, 16, 8, 1, 16]⟩
abbrev S6x1x16x8x16 : Shape := ⟨5, ![6, 1, 16, 8, 16]⟩
abbrev S6x1x16x4x2x32 : Shape := ⟨6, ![6, 1, 16, 4, 2, 32]⟩
abbrev S6x1x16x4x1x32 : Shape := ⟨6, ![6, 1, 16, 4, 1, 32]⟩
abbrev S6x1x16x4x32 : Shape := ⟨5, ![6, 1, 16, 4, 32]⟩
abbrev S6x1x16x2x2x64 : Shape := ⟨6, ![6, 1, 16, 2, 2, 64]⟩
abbrev S6x1x16x2x1x64 : Shape := ⟨6, ![6, 1, 16, 2, 1, 64]⟩
abbrev S6x1x16x2x64 : Shape := ⟨5, ![6, 1, 16, 2, 64]⟩
abbrev S6x1x16x1x2x128 : Shape := ⟨6, ![6, 1, 16, 1, 2, 128]⟩
abbrev S6x1x16x1x1x128 : Shape := ⟨6, ![6, 1, 16, 1, 1, 128]⟩
abbrev S6x1x16x1x128 : Shape := ⟨5, ![6, 1, 16, 1, 128]⟩
abbrev S_ : Shape := ⟨0, ![]⟩
abbrev S6x1x16x8x32 : Shape := ⟨5, ![6, 1, 16, 8, 32]⟩
abbrev S6x1x16x8 : Shape := ⟨4, ![6, 1, 16, 8]⟩
abbrev S6x1x16x8x1 : Shape := ⟨5, ![6, 1, 16, 8, 1]⟩
abbrev S6x1x16x128 : Shape := ⟨4, ![6, 1, 16, 128]⟩
abbrev S6x16x128 : Shape := ⟨3, ![6, 16, 128]⟩
abbrev S6x16x8 : Shape := ⟨3, ![6, 16, 8]⟩
abbrev S6x8x16 : Shape := ⟨3, ![6, 8, 16]⟩

abbrev nBuf : Space → Nat
  | .hbm => 272
  | .vmem => 0
  | .smem => 0
  | _ => 0

abbrev hbmTy0_0 (i : Nat) : BufTy := match i % 128 with
  | 0 => ⟨S6x1x16x256, .bf16⟩
  | 1 => ⟨S6x1x16x256, .bf16⟩
  | 2 => ⟨S6x1x16x256, .f32⟩
  | 3 => ⟨S6x1x16x128x2x1, .f32⟩
  | 4 => ⟨S6x1x16x128x1x1, .f32⟩
  | 5 => ⟨S6x1x16x128x1, .f32⟩
  | 6 => ⟨S6x1x16x128x1x1, .f32⟩
  | 7 => ⟨S6x1x16x128x1, .f32⟩
  | 8 => ⟨S6x1x16x128x1, .f32⟩
  | 9 => ⟨S6x1x16x128x1, .f32⟩
  | 10 => ⟨S6x1x16x128x1x1, .f32⟩
  | 11 => ⟨S6x1x16x128x1x1, .f32⟩
  | 12 => ⟨S6x1x16x128x2x1, .f32⟩
  | 13 => ⟨S6x1x16x256, .f32⟩
  | 14 => ⟨S6x1x16x64x2x2, .f32⟩
  | 15 => ⟨S6x1x16x64x1x2, .f32⟩
  | 16 => ⟨S6x1x16x64x2, .f32⟩
  | 17 => ⟨S6x1x16x64x1x2, .f32⟩
  | 18 => ⟨S6x1x16x64x2, .f32⟩
  | 19 => ⟨S6x1x16x64x2, .f32⟩
  | 20 => ⟨S6x1x16x64x2, .f32⟩
  | 21 => ⟨S6x1x16x64x1x2, .f32⟩
  | 22 => ⟨S6x1x16x64x1x2, .f32⟩
  | 23 => ⟨S6x1x16x64x2x2, .f32⟩
  | 24 => ⟨S6x1x16x256, .f32⟩
  | 25 => ⟨S6x1x16x32x2x4, .f32⟩
  | 26 => ⟨S6x1x16x32x1x4, .f32⟩
  | 27 => ⟨S6x1x16x32x4, .f32⟩
  | 28 => ⟨S6x1x16x32x1x4, .f32⟩
  | 29 => ⟨S6x1x16x32x4, .f32⟩
  | 30 => ⟨S6x1x16x32x4, .f32⟩
  | 31 => ⟨S6x1x16x32x4, .f32⟩
  | 32 => ⟨S6x1x16x32x1x4, .f32⟩
  | 33 => ⟨S6x1x16x32x1x4, .f32⟩
  | 34 => ⟨S6x1x16x32x2x4, .f32⟩
  | 35 => ⟨S6x1x16x256, .f32⟩
  | 36 => ⟨S6x1x16x16x2x8, .f32⟩
  | 37 => ⟨S6x1x16x16x1x8, .f32⟩
  | 38 => ⟨S6x1x16x16x8, .f32⟩
  | 39 => ⟨S6x1x16x16x1x8, .f32⟩
  | 40 => ⟨S6x1x16x16x8, .f32⟩
  | 41 => ⟨S6x1x16x16x8, .f32⟩
  | 42 => ⟨S6x1x16x16x8, .f32⟩
  | 43 => ⟨S6x1x16x16x1x8, .f32⟩
  | 44 => ⟨S6x1x16x16x1x8, .f32⟩
  | 45 => ⟨S6x1x16x16x2x8, .f32⟩
  | 46 => ⟨S6x1x16x256, .f32⟩
  | 47 => ⟨S6x1x16x8x2x16, .f32⟩
  | 48 => ⟨S6x1x16x8x1x16, .f32⟩
  | 49 => ⟨S6x1x16x8x16, .f32⟩
  | 50 => ⟨S6x1x16x8x1x16, .f32⟩
  | 51 => ⟨S6x1x16x8x16, .f32⟩
  | 52 => ⟨S6x1x16x8x16, .f32⟩
  | 53 => ⟨S6x1x16x8x16, .f32⟩
  | 54 => ⟨S6x1x16x8x1x16, .f32⟩
  | 55 => ⟨S6x1x16x8x1x16, .f32⟩
  | 56 => ⟨S6x1x16x8x2x16, .f32⟩
  | 57 => ⟨S6x1x16x256, .f32⟩
  | 58 => ⟨S6x1x16x4x2x32, .f32⟩
  | 59 => ⟨S6x1x16x4x1x32, .f32⟩
  | 60 => ⟨S6x1x16x4x32, .f32⟩
  | 61 => ⟨S6x1x16x4x1x32, .f32⟩
  | 62 => ⟨S6x1x16x4x32, .f32⟩
  | 63 => ⟨S6x1x16x4x32, .f32⟩
  | 64 => ⟨S6x1x16x4x32, .f32⟩
  | 65 => ⟨S6x1x16x4x1x32, .f32⟩
  | 66 => ⟨S6x1x16x4x1x32, .f32⟩
  | 67 => ⟨S6x1x16x4x2x32, .f32⟩
  | 68 => ⟨S6x1x16x256, .f32⟩
  | 69 => ⟨S6x1x16x2x2x64, .f32⟩
  | 70 => ⟨S6x1x16x2x1x64, .f32⟩
  | 71 => ⟨S6x1x16x2x64, .f32⟩
  | 72 => ⟨S6x1x16x2x1x64, .f32⟩
  | 73 => ⟨S6x1x16x2x64, .f32⟩
  | 74 => ⟨S6x1x16x2x64, .f32⟩
  | 75 => ⟨S6x1x16x2x64, .f32⟩
  | 76 => ⟨S6x1x16x2x1x64, .f32⟩
  | 77 => ⟨S6x1x16x2x1x64, .f32⟩
  | 78 => ⟨S6x1x16x2x2x64, .f32⟩
  | 79 => ⟨S6x1x16x256, .f32⟩
  | 80 => ⟨S6x1x16x1x2x128, .f32⟩
  | 81 => ⟨S6x1x16x1x1x128, .f32⟩
  | 82 => ⟨S6x1x16x1x128, .f32⟩
  | 83 => ⟨S6x1x16x1x1x128, .f32⟩
  | 84 => ⟨S6x1x16x1x128, .f32⟩
  | 85 => ⟨S6x1x16x1x128, .f32⟩
  | 86 => ⟨S6x1x16x1x128, .f32⟩
  | 87 => ⟨S6x1x16x1x1x128, .f32⟩
  | 88 => ⟨S6x1x16x1x1x128, .f32⟩
  | 89 => ⟨S6x1x16x1x2x128, .f32⟩
  | 90 => ⟨S6x1x16x256, .f32⟩
  | 91 => ⟨S_, .f32⟩
  | 92 => ⟨S6x1x16x256, .f32⟩
  | 93 => ⟨S6x1x16x256, .f32⟩
  | 94 => ⟨S6x1x16x8x32, .f32⟩
  | 95 => ⟨S6x1x16x8x32, .f32⟩
  | 96 => ⟨S_, .f32⟩
  | 97 => ⟨S6x1x16x8, .f32⟩
  | 98 => ⟨S_, .f32⟩
  | 99 => ⟨S6x1x16x8, .f32⟩
  | 100 => ⟨S6x1x16x8, .i1⟩
  | 101 => ⟨S_, .f32⟩
  | 102 => ⟨S6x1x16x8, .f32⟩
  | 103 => ⟨S6x1x16x8, .f32⟩
  | 104 => ⟨S_, .f32⟩
  | 105 => ⟨S6x1x16x8, .f32⟩
  | 106 => ⟨S6x1x16x8, .f32⟩
  | 107 => ⟨S6x1x16x8x1, .f32⟩
  | 108 => ⟨S6x1x16x8x32, .f32⟩
  | 109 => ⟨S6x1x16x8x32, .f32⟩
  | 110 => ⟨S6x1x16x8x32, .f32⟩
  | 111 => ⟨S_, .f32⟩
  | 112 => ⟨S_, .f32⟩
  | 113 => ⟨S_, .f32⟩
  | 114 => ⟨S6x1x16x8x32, .f32⟩
  | 115 => ⟨S6x1x16x8x32, .f32⟩
  | 116 => ⟨S_, .f32⟩
  | 117 => ⟨S6x1x16x8x32, .f32⟩
  | 118 => ⟨S6x1x16x8x32, .f32⟩
  | 119 => ⟨S6x1x16x8x32, .i32⟩
  | 120 => ⟨S6x1x16x256, .i32⟩
  | 121 => ⟨S6x1x16x128, .i32⟩
  | 122 => ⟨S6x1x16x128, .i32⟩
  | 123 => ⟨S_, .i32⟩
  | 124 => ⟨S6x1x16x128, .i32⟩
  | 125 => ⟨S6x1x16x128, .i32⟩
  | 126 => ⟨S_, .i32⟩
  | 127 => ⟨S6x1x16x128, .i32⟩
  | _ => ⟨S6x1x16x256, .bf16⟩

abbrev hbmTy0_1 (i : Nat) : BufTy := match i % 128 with
  | 0 => ⟨S6x1x16x128, .i32⟩
  | 1 => ⟨S_, .i32⟩
  | 2 => ⟨S6x1x16x128, .i32⟩
  | 3 => ⟨S6x1x16x128, .i32⟩
  | 4 => ⟨S6x1x16x128, .i32⟩
  | 5 => ⟨S6x1x16x128, .i8⟩
  | 6 => ⟨S6x1x16x256, .f32⟩
  | 7 => ⟨S6x1x16x128x2x1, .f32⟩
  | 8 => ⟨S6x1x16x128x1x1, .f32⟩
  | 9 => ⟨S6x1x16x128x1, .f32⟩
  | 10 => ⟨S6x1x16x128x1x1, .f32⟩
  | 11 => ⟨S6x1x16x128x1, .f32⟩
  | 12 => ⟨S6x1x16x128x1, .f32⟩
  | 13 => ⟨S6x1x16x128x1, .f32⟩
  | 14 => ⟨S6x1x16x128x1x1, .f32⟩
  | 15 => ⟨S6x1x16x128x1x1, .f32⟩
  | 16 => ⟨S6x1x16x128x2x1, .f32⟩
  | 17 => ⟨S6x1x16x256, .f32⟩
  | 18 => ⟨S6x1x16x64x2x2, .f32⟩
  | 19 => ⟨S6x1x16x64x1x2, .f32⟩
  | 20 => ⟨S6x1x16x64x2, .f32⟩
  | 21 => ⟨S6x1x16x64x1x2, .f32⟩
  | 22 => ⟨S6x1x16x64x2, .f32⟩
  | 23 => ⟨S6x1x16x64x2, .f32⟩
  | 24 => ⟨S6x1x16x64x2, .f32⟩
  | 25 => ⟨S6x1x16x64x1x2, .f32⟩
  | 26 => ⟨S6x1x16x64x1x2, .f32⟩
  | 27 => ⟨S6x1x16x64x2x2, .f32⟩
  | 28 => ⟨S6x1x16x256, .f32⟩
  | 29 => ⟨S6x1x16x32x2x4, .f32⟩
  | 30 => ⟨S6x1x16x32x1x4, .f32⟩
  | 31 => ⟨S6x1x16x32x4, .f32⟩
  | 32 => ⟨S6x1x16x32x1x4, .f32⟩
  | 33 => ⟨S6x1x16x32x4, .f32⟩
  | 34 => ⟨S6x1x16x32x4, .f32⟩
  | 35 => ⟨S6x1x16x32x4, .f32⟩
  | 36 => ⟨S6x1x16x32x1x4, .f32⟩
  | 37 => ⟨S6x1x16x32x1x4, .f32⟩
  | 38 => ⟨S6x1x16x32x2x4, .f32⟩
  | 39 => ⟨S6x1x16x256, .f32⟩
  | 40 => ⟨S6x1x16x16x2x8, .f32⟩
  | 41 => ⟨S6x1x16x16x1x8, .f32⟩
  | 42 => ⟨S6x1x16x16x8, .f32⟩
  | 43 => ⟨S6x1x16x16x1x8, .f32⟩
  | 44 => ⟨S6x1x16x16x8, .f32⟩
  | 45 => ⟨S6x1x16x16x8, .f32⟩
  | 46 => ⟨S6x1x16x16x8, .f32⟩
  | 47 => ⟨S6x1x16x16x1x8, .f32⟩
  | 48 => ⟨S6x1x16x16x1x8, .f32⟩
  | 49 => ⟨S6x1x16x16x2x8, .f32⟩
  | 50 => ⟨S6x1x16x256, .f32⟩
  | 51 => ⟨S6x1x16x8x2x16, .f32⟩
  | 52 => ⟨S6x1x16x8x1x16, .f32⟩
  | 53 => ⟨S6x1x16x8x16, .f32⟩
  | 54 => ⟨S6x1x16x8x1x16, .f32⟩
  | 55 => ⟨S6x1x16x8x16, .f32⟩
  | 56 => ⟨S6x1x16x8x16, .f32⟩
  | 57 => ⟨S6x1x16x8x16, .f32⟩
  | 58 => ⟨S6x1x16x8x1x16, .f32⟩
  | 59 => ⟨S6x1x16x8x1x16, .f32⟩
  | 60 => ⟨S6x1x16x8x2x16, .f32⟩
  | 61 => ⟨S6x1x16x256, .f32⟩
  | 62 => ⟨S6x1x16x4x2x32, .f32⟩
  | 63 => ⟨S6x1x16x4x1x32, .f32⟩
  | 64 => ⟨S6x1x16x4x32, .f32⟩
  | 65 => ⟨S6x1x16x4x1x32, .f32⟩
  | 66 => ⟨S6x1x16x4x32, .f32⟩
  | 67 => ⟨S6x1x16x4x32, .f32⟩
  | 68 => ⟨S6x1x16x4x32, .f32⟩
  | 69 => ⟨S6x1x16x4x1x32, .f32⟩
  | 70 => ⟨S6x1x16x4x1x32, .f32⟩
  | 71 => ⟨S6x1x16x4x2x32, .f32⟩
  | 72 => ⟨S6x1x16x256, .f32⟩
  | 73 => ⟨S6x1x16x2x2x64, .f32⟩
  | 74 => ⟨S6x1x16x2x1x64, .f32⟩
  | 75 => ⟨S6x1x16x2x64, .f32⟩
  | 76 => ⟨S6x1x16x2x1x64, .f32⟩
  | 77 => ⟨S6x1x16x2x64, .f32⟩
  | 78 => ⟨S6x1x16x2x64, .f32⟩
  | 79 => ⟨S6x1x16x2x64, .f32⟩
  | 80 => ⟨S6x1x16x2x1x64, .f32⟩
  | 81 => ⟨S6x1x16x2x1x64, .f32⟩
  | 82 => ⟨S6x1x16x2x2x64, .f32⟩
  | 83 => ⟨S6x1x16x256, .f32⟩
  | 84 => ⟨S6x1x16x1x2x128, .f32⟩
  | 85 => ⟨S6x1x16x1x1x128, .f32⟩
  | 86 => ⟨S6x1x16x1x128, .f32⟩
  | 87 => ⟨S6x1x16x1x1x128, .f32⟩
  | 88 => ⟨S6x1x16x1x128, .f32⟩
  | 89 => ⟨S6x1x16x1x128, .f32⟩
  | 90 => ⟨S6x1x16x1x128, .f32⟩
  | 91 => ⟨S6x1x16x1x1x128, .f32⟩
  | 92 => ⟨S6x1x16x1x1x128, .f32⟩
  | 93 => ⟨S6x1x16x1x2x128, .f32⟩
  | 94 => ⟨S6x1x16x256, .f32⟩
  | 95 => ⟨S_, .f32⟩
  | 96 => ⟨S6x1x16x256, .f32⟩
  | 97 => ⟨S6x1x16x256, .f32⟩
  | 98 => ⟨S6x1x16x8x32, .f32⟩
  | 99 => ⟨S6x1x16x8x32, .f32⟩
  | 100 => ⟨S_, .f32⟩
  | 101 => ⟨S6x1x16x8, .f32⟩
  | 102 => ⟨S_, .f32⟩
  | 103 => ⟨S6x1x16x8, .f32⟩
  | 104 => ⟨S6x1x16x8, .i1⟩
  | 105 => ⟨S_, .f32⟩
  | 106 => ⟨S6x1x16x8, .f32⟩
  | 107 => ⟨S6x1x16x8, .f32⟩
  | 108 => ⟨S_, .f32⟩
  | 109 => ⟨S6x1x16x8, .f32⟩
  | 110 => ⟨S6x1x16x8, .f32⟩
  | 111 => ⟨S6x1x16x8x1, .f32⟩
  | 112 => ⟨S6x1x16x8x32, .f32⟩
  | 113 => ⟨S6x1x16x8x32, .f32⟩
  | 114 => ⟨S6x1x16x8x32, .f32⟩
  | 115 => ⟨S_, .f32⟩
  | 116 => ⟨S_, .f32⟩
  | 117 => ⟨S_, .f32⟩
  | 118 => ⟨S6x1x16x8x32, .f32⟩
  | 119 => ⟨S6x1x16x8x32, .f32⟩
  | 120 => ⟨S_, .f32⟩
  | 121 => ⟨S6x1x16x8x32, .f32⟩
  | 122 => ⟨S6x1x16x8x32, .f32⟩
  | 123 => ⟨S6x1x16x8x32, .i32⟩
  | 124 => ⟨S6x1x16x256, .i32⟩
  | 125 => ⟨S6x1x16x128, .i32⟩
  | 126 => ⟨S6x1x16x128, .i32⟩
  | 127 => ⟨S_, .i32⟩
  | _ => ⟨S6x1x16x256, .bf16⟩

abbrev hbmTy0_2 (i : Nat) : BufTy := match i % 128 with
  | 0 => ⟨S6x1x16x128, .i32⟩
  | 1 => ⟨S6x1x16x128, .i32⟩
  | 2 => ⟨S_, .i32⟩
  | 3 => ⟨S6x1x16x128, .i32⟩
  | 4 => ⟨S6x1x16x128, .i32⟩
  | 5 => ⟨S_, .i32⟩
  | 6 => ⟨S6x1x16x128, .i32⟩
  | 7 => ⟨S6x1x16x128, .i32⟩
  | 8 => ⟨S6x1x16x128, .i32⟩
  | 9 => ⟨S6x1x16x128, .i8⟩
  | 10 => ⟨S6x16x128, .i8⟩
  | 11 => ⟨S6x16x8, .f32⟩
  | 12 => ⟨S6x8x16, .f32⟩
  | 13 => ⟨S6x16x128, .i8⟩
  | 14 => ⟨S6x16x8, .f32⟩
  | 15 => ⟨S6x8x16, .f32⟩
  | _ => ⟨S6x1x16x256, .bf16⟩

abbrev hbmTy (i : Nat) : BufTy := match i / 128 with
  | 0 => hbmTy0_0 i
  | 1 => hbmTy0_1 i
  | 2 => hbmTy0_2 i
  | _ => ⟨S6x1x16x256, .bf16⟩

abbrev bufTy : (tb : Table) → Fin (tcTables nBuf tb) → BufTy
  | .hbm, ⟨i, _⟩ => hbmTy i
  | _, _ => ⟨S6x1x16x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_v21 : Ref sig .tc := ⟨.hbm, 23, rfl⟩
abbrev main_v22 : Ref sig .tc := ⟨.hbm, 24, rfl⟩
abbrev main_v23 : Ref sig .tc := ⟨.hbm, 25, rfl⟩
abbrev main_v24 : Ref sig .tc := ⟨.hbm, 26, rfl⟩
abbrev main_v25 : Ref sig .tc := ⟨.hbm, 27, rfl⟩
abbrev main_v26 : Ref sig .tc := ⟨.hbm, 28, rfl⟩
abbrev main_v27 : Ref sig .tc := ⟨.hbm, 29, rfl⟩
abbrev main_v28 : Ref sig .tc := ⟨.hbm, 30, rfl⟩
abbrev main_v29 : Ref sig .tc := ⟨.hbm, 31, rfl⟩
abbrev main_v30 : Ref sig .tc := ⟨.hbm, 32, rfl⟩
abbrev main_v31 : Ref sig .tc := ⟨.hbm, 33, rfl⟩
abbrev main_v32 : Ref sig .tc := ⟨.hbm, 34, rfl⟩
abbrev main_v33 : Ref sig .tc := ⟨.hbm, 35, rfl⟩
abbrev main_v34 : Ref sig .tc := ⟨.hbm, 36, rfl⟩
abbrev main_v35 : Ref sig .tc := ⟨.hbm, 37, rfl⟩
abbrev main_v36 : Ref sig .tc := ⟨.hbm, 38, rfl⟩
abbrev main_v37 : Ref sig .tc := ⟨.hbm, 39, rfl⟩
abbrev main_v38 : Ref sig .tc := ⟨.hbm, 40, rfl⟩
abbrev main_v39 : Ref sig .tc := ⟨.hbm, 41, rfl⟩
abbrev main_v40 : Ref sig .tc := ⟨.hbm, 42, rfl⟩
abbrev main_v41 : Ref sig .tc := ⟨.hbm, 43, rfl⟩
abbrev main_v42 : Ref sig .tc := ⟨.hbm, 44, rfl⟩
abbrev main_v43 : Ref sig .tc := ⟨.hbm, 45, rfl⟩
abbrev main_v44 : Ref sig .tc := ⟨.hbm, 46, rfl⟩
abbrev main_v45 : Ref sig .tc := ⟨.hbm, 47, rfl⟩
abbrev main_v46 : Ref sig .tc := ⟨.hbm, 48, rfl⟩
abbrev main_v47 : Ref sig .tc := ⟨.hbm, 49, rfl⟩
abbrev main_v48 : Ref sig .tc := ⟨.hbm, 50, rfl⟩
abbrev main_v49 : Ref sig .tc := ⟨.hbm, 51, rfl⟩
abbrev main_v50 : Ref sig .tc := ⟨.hbm, 52, rfl⟩
abbrev main_v51 : Ref sig .tc := ⟨.hbm, 53, rfl⟩
abbrev main_v52 : Ref sig .tc := ⟨.hbm, 54, rfl⟩
abbrev main_v53 : Ref sig .tc := ⟨.hbm, 55, rfl⟩
abbrev main_v54 : Ref sig .tc := ⟨.hbm, 56, rfl⟩
abbrev main_v55 : Ref sig .tc := ⟨.hbm, 57, rfl⟩
abbrev main_v56 : Ref sig .tc := ⟨.hbm, 58, rfl⟩
abbrev main_v57 : Ref sig .tc := ⟨.hbm, 59, rfl⟩
abbrev main_v58 : Ref sig .tc := ⟨.hbm, 60, rfl⟩
abbrev main_v59 : Ref sig .tc := ⟨.hbm, 61, rfl⟩
abbrev main_v60 : Ref sig .tc := ⟨.hbm, 62, rfl⟩
abbrev main_v61 : Ref sig .tc := ⟨.hbm, 63, rfl⟩
abbrev main_v62 : Ref sig .tc := ⟨.hbm, 64, rfl⟩
abbrev main_v63 : Ref sig .tc := ⟨.hbm, 65, rfl⟩
abbrev main_v64 : Ref sig .tc := ⟨.hbm, 66, rfl⟩
abbrev main_v65 : Ref sig .tc := ⟨.hbm, 67, rfl⟩
abbrev main_v66 : Ref sig .tc := ⟨.hbm, 68, rfl⟩
abbrev main_v67 : Ref sig .tc := ⟨.hbm, 69, rfl⟩
abbrev main_v68 : Ref sig .tc := ⟨.hbm, 70, rfl⟩
abbrev main_v69 : Ref sig .tc := ⟨.hbm, 71, rfl⟩
abbrev main_v70 : Ref sig .tc := ⟨.hbm, 72, rfl⟩
abbrev main_v71 : Ref sig .tc := ⟨.hbm, 73, rfl⟩
abbrev main_v72 : Ref sig .tc := ⟨.hbm, 74, rfl⟩
abbrev main_v73 : Ref sig .tc := ⟨.hbm, 75, rfl⟩
abbrev main_v74 : Ref sig .tc := ⟨.hbm, 76, rfl⟩
abbrev main_v75 : Ref sig .tc := ⟨.hbm, 77, rfl⟩
abbrev main_v76 : Ref sig .tc := ⟨.hbm, 78, rfl⟩
abbrev main_v77 : Ref sig .tc := ⟨.hbm, 79, rfl⟩
abbrev main_v78 : Ref sig .tc := ⟨.hbm, 80, rfl⟩
abbrev main_v79 : Ref sig .tc := ⟨.hbm, 81, rfl⟩
abbrev main_v80 : Ref sig .tc := ⟨.hbm, 82, rfl⟩
abbrev main_v81 : Ref sig .tc := ⟨.hbm, 83, rfl⟩
abbrev main_v82 : Ref sig .tc := ⟨.hbm, 84, rfl⟩
abbrev main_v83 : Ref sig .tc := ⟨.hbm, 85, rfl⟩
abbrev main_v84 : Ref sig .tc := ⟨.hbm, 86, rfl⟩
abbrev main_v85 : Ref sig .tc := ⟨.hbm, 87, rfl⟩
abbrev main_v86 : Ref sig .tc := ⟨.hbm, 88, rfl⟩
abbrev main_v87 : Ref sig .tc := ⟨.hbm, 89, rfl⟩
abbrev main_v88 : Ref sig .tc := ⟨.hbm, 90, rfl⟩
abbrev main_cst : Ref sig .tc := ⟨.hbm, 91, rfl⟩
abbrev main_v89 : Ref sig .tc := ⟨.hbm, 92, rfl⟩
abbrev main_v90 : Ref sig .tc := ⟨.hbm, 93, rfl⟩
abbrev main_v91 : Ref sig .tc := ⟨.hbm, 94, rfl⟩
abbrev main_v92 : Ref sig .tc := ⟨.hbm, 95, rfl⟩
abbrev main_cst_0 : Ref sig .tc := ⟨.hbm, 96, rfl⟩
abbrev main_v93 : Ref sig .tc := ⟨.hbm, 97, rfl⟩
abbrev main_cst_1 : Ref sig .tc := ⟨.hbm, 98, rfl⟩
abbrev main_v94 : Ref sig .tc := ⟨.hbm, 99, rfl⟩
abbrev main_v95 : Ref sig .tc := ⟨.hbm, 100, rfl⟩
abbrev main_cst_2 : Ref sig .tc := ⟨.hbm, 101, rfl⟩
abbrev main_v96 : Ref sig .tc := ⟨.hbm, 102, rfl⟩
abbrev main_v97 : Ref sig .tc := ⟨.hbm, 103, rfl⟩
abbrev main_cst_3 : Ref sig .tc := ⟨.hbm, 104, rfl⟩
abbrev main_call0_v0 : Ref sig .tc := ⟨.hbm, 105, rfl⟩
abbrev main_v98 : Ref sig .tc := ⟨.hbm, 106, rfl⟩
abbrev main_v99 : Ref sig .tc := ⟨.hbm, 107, rfl⟩
abbrev main_v100 : Ref sig .tc := ⟨.hbm, 108, rfl⟩
abbrev main_v101 : Ref sig .tc := ⟨.hbm, 109, rfl⟩
abbrev main_v102 : Ref sig .tc := ⟨.hbm, 110, rfl⟩
abbrev main_cst_4 : Ref sig .tc := ⟨.hbm, 111, rfl⟩
abbrev main_cst_5 : Ref sig .tc := ⟨.hbm, 112, rfl⟩
abbrev main_call2_v0 : Ref sig .tc := ⟨.hbm, 113, rfl⟩
abbrev main_call2_v1 : Ref sig .tc := ⟨.hbm, 114, rfl⟩
abbrev main_call2_v2 : Ref sig .tc := ⟨.hbm, 115, rfl⟩
abbrev main_call2_v3 : Ref sig .tc := ⟨.hbm, 116, rfl⟩
abbrev main_call2_v4 : Ref sig .tc := ⟨.hbm, 117, rfl⟩
abbrev main_v103 : Ref sig .tc := ⟨.hbm, 118, rfl⟩
abbrev main_v104 : Ref sig .tc := ⟨.hbm, 119, rfl⟩
abbrev main_v105 : Ref sig .tc := ⟨.hbm, 120, rfl⟩
abbrev main_v106 : Ref sig .tc := ⟨.hbm, 121, rfl⟩
abbrev main_v107 : Ref sig .tc := ⟨.hbm, 122, rfl⟩
abbrev main_c : Ref sig .tc := ⟨.hbm, 123, rfl⟩
abbrev main_v108 : Ref sig .tc := ⟨.hbm, 124, rfl⟩
abbrev main_v109 : Ref sig .tc := ⟨.hbm, 125, rfl⟩
abbrev main_c_6 : Ref sig .tc := ⟨.hbm, 126, rfl⟩
abbrev main_v110 : Ref sig .tc := ⟨.hbm, 127, rfl⟩
abbrev main_v111 : Ref sig .tc := ⟨.hbm, 128, rfl⟩
abbrev main_c_7 : Ref sig .tc := ⟨.hbm, 129, rfl⟩
abbrev main_v112 : Ref sig .tc := ⟨.hbm, 130, rfl⟩
abbrev main_v113 : Ref sig .tc := ⟨.hbm, 131, rfl⟩
abbrev main_v114 : Ref sig .tc := ⟨.hbm, 132, rfl⟩
abbrev main_v115 : Ref sig .tc := ⟨.hbm, 133, rfl⟩
abbrev main_v116 : Ref sig .tc := ⟨.hbm, 134, rfl⟩
abbrev main_v117 : Ref sig .tc := ⟨.hbm, 135, rfl⟩
abbrev main_v118 : Ref sig .tc := ⟨.hbm, 136, rfl⟩
abbrev main_v119 : Ref sig .tc := ⟨.hbm, 137, rfl⟩
abbrev main_v120 : Ref sig .tc := ⟨.hbm, 138, rfl⟩
abbrev main_v121 : Ref sig .tc := ⟨.hbm, 139, rfl⟩
abbrev main_v122 : Ref sig .tc := ⟨.hbm, 140, rfl⟩
abbrev main_v123 : Ref sig .tc := ⟨.hbm, 141, rfl⟩
abbrev main_v124 : Ref sig .tc := ⟨.hbm, 142, rfl⟩
abbrev main_v125 : Ref sig .tc := ⟨.hbm, 143, rfl⟩
abbrev main_v126 : Ref sig .tc := ⟨.hbm, 144, rfl⟩
abbrev main_v127 : Ref sig .tc := ⟨.hbm, 145, rfl⟩
abbrev main_v128 : Ref sig .tc := ⟨.hbm, 146, rfl⟩
abbrev main_v129 : Ref sig .tc := ⟨.hbm, 147, rfl⟩
abbrev main_v130 : Ref sig .tc := ⟨.hbm, 148, rfl⟩
abbrev main_v131 : Ref sig .tc := ⟨.hbm, 149, rfl⟩
abbrev main_v132 : Ref sig .tc := ⟨.hbm, 150, rfl⟩
abbrev main_v133 : Ref sig .tc := ⟨.hbm, 151, rfl⟩
abbrev main_v134 : Ref sig .tc := ⟨.hbm, 152, rfl⟩
abbrev main_v135 : Ref sig .tc := ⟨.hbm, 153, rfl⟩
abbrev main_v136 : Ref sig .tc := ⟨.hbm, 154, rfl⟩
abbrev main_v137 : Ref sig .tc := ⟨.hbm, 155, rfl⟩
abbrev main_v138 : Ref sig .tc := ⟨.hbm, 156, rfl⟩
abbrev main_v139 : Ref sig .tc := ⟨.hbm, 157, rfl⟩
abbrev main_v140 : Ref sig .tc := ⟨.hbm, 158, rfl⟩
abbrev main_v141 : Ref sig .tc := ⟨.hbm, 159, rfl⟩
abbrev main_v142 : Ref sig .tc := ⟨.hbm, 160, rfl⟩
abbrev main_v143 : Ref sig .tc := ⟨.hbm, 161, rfl⟩
abbrev main_v144 : Ref sig .tc := ⟨.hbm, 162, rfl⟩
abbrev main_v145 : Ref sig .tc := ⟨.hbm, 163, rfl⟩
abbrev main_v146 : Ref sig .tc := ⟨.hbm, 164, rfl⟩
abbrev main_v147 : Ref sig .tc := ⟨.hbm, 165, rfl⟩
abbrev main_v148 : Ref sig .tc := ⟨.hbm, 166, rfl⟩
abbrev main_v149 : Ref sig .tc := ⟨.hbm, 167, rfl⟩
abbrev main_v150 : Ref sig .tc := ⟨.hbm, 168, rfl⟩
abbrev main_v151 : Ref sig .tc := ⟨.hbm, 169, rfl⟩
abbrev main_v152 : Ref sig .tc := ⟨.hbm, 170, rfl⟩
abbrev main_v153 : Ref sig .tc := ⟨.hbm, 171, rfl⟩
abbrev main_v154 : Ref sig .tc := ⟨.hbm, 172, rfl⟩
abbrev main_v155 : Ref sig .tc := ⟨.hbm, 173, rfl⟩
abbrev main_v156 : Ref sig .tc := ⟨.hbm, 174, rfl⟩
abbrev main_v157 : Ref sig .tc := ⟨.hbm, 175, rfl⟩
abbrev main_v158 : Ref sig .tc := ⟨.hbm, 176, rfl⟩
abbrev main_v159 : Ref sig .tc := ⟨.hbm, 177, rfl⟩
abbrev main_v160 : Ref sig .tc := ⟨.hbm, 178, rfl⟩
abbrev main_v161 : Ref sig .tc := ⟨.hbm, 179, rfl⟩
abbrev main_v162 : Ref sig .tc := ⟨.hbm, 180, rfl⟩
abbrev main_v163 : Ref sig .tc := ⟨.hbm, 181, rfl⟩
abbrev main_v164 : Ref sig .tc := ⟨.hbm, 182, rfl⟩
abbrev main_v165 : Ref sig .tc := ⟨.hbm, 183, rfl⟩
abbrev main_v166 : Ref sig .tc := ⟨.hbm, 184, rfl⟩
abbrev main_v167 : Ref sig .tc := ⟨.hbm, 185, rfl⟩
abbrev main_v168 : Ref sig .tc := ⟨.hbm, 186, rfl⟩
abbrev main_v169 : Ref sig .tc := ⟨.hbm, 187, rfl⟩
abbrev main_v170 : Ref sig .tc := ⟨.hbm, 188, rfl⟩
abbrev main_v171 : Ref sig .tc := ⟨.hbm, 189, rfl⟩
abbrev main_v172 : Ref sig .tc := ⟨.hbm, 190, rfl⟩
abbrev main_v173 : Ref sig .tc := ⟨.hbm, 191, rfl⟩
abbrev main_v174 : Ref sig .tc := ⟨.hbm, 192, rfl⟩
abbrev main_v175 : Ref sig .tc := ⟨.hbm, 193, rfl⟩
abbrev main_v176 : Ref sig .tc := ⟨.hbm, 194, rfl⟩
abbrev main_v177 : Ref sig .tc := ⟨.hbm, 195, rfl⟩
abbrev main_v178 : Ref sig .tc := ⟨.hbm, 196, rfl⟩
abbrev main_v179 : Ref sig .tc := ⟨.hbm, 197, rfl⟩
abbrev main_v180 : Ref sig .tc := ⟨.hbm, 198, rfl⟩
abbrev main_v181 : Ref sig .tc := ⟨.hbm, 199, rfl⟩
abbrev main_v182 : Ref sig .tc := ⟨.hbm, 200, rfl⟩
abbrev main_v183 : Ref sig .tc := ⟨.hbm, 201, rfl⟩
abbrev main_v184 : Ref sig .tc := ⟨.hbm, 202, rfl⟩
abbrev main_v185 : Ref sig .tc := ⟨.hbm, 203, rfl⟩
abbrev main_v186 : Ref sig .tc := ⟨.hbm, 204, rfl⟩
abbrev main_v187 : Ref sig .tc := ⟨.hbm, 205, rfl⟩
abbrev main_v188 : Ref sig .tc := ⟨.hbm, 206, rfl⟩
abbrev main_v189 : Ref sig .tc := ⟨.hbm, 207, rfl⟩
abbrev main_v190 : Ref sig .tc := ⟨.hbm, 208, rfl⟩
abbrev main_v191 : Ref sig .tc := ⟨.hbm, 209, rfl⟩
abbrev main_v192 : Ref sig .tc := ⟨.hbm, 210, rfl⟩
abbrev main_v193 : Ref sig .tc := ⟨.hbm, 211, rfl⟩
abbrev main_v194 : Ref sig .tc := ⟨.hbm, 212, rfl⟩
abbrev main_v195 : Ref sig .tc := ⟨.hbm, 213, rfl⟩
abbrev main_v196 : Ref sig .tc := ⟨.hbm, 214, rfl⟩
abbrev main_v197 : Ref sig .tc := ⟨.hbm, 215, rfl⟩
abbrev main_v198 : Ref sig .tc := ⟨.hbm, 216, rfl⟩
abbrev main_v199 : Ref sig .tc := ⟨.hbm, 217, rfl⟩
abbrev main_v200 : Ref sig .tc := ⟨.hbm, 218, rfl⟩
abbrev main_v201 : Ref sig .tc := ⟨.hbm, 219, rfl⟩
abbrev main_v202 : Ref sig .tc := ⟨.hbm, 220, rfl⟩
abbrev main_v203 : Ref sig .tc := ⟨.hbm, 221, rfl⟩
abbrev main_v204 : Ref sig .tc := ⟨.hbm, 222, rfl⟩
abbrev main_cst_8 : Ref sig .tc := ⟨.hbm, 223, rfl⟩
abbrev main_v205 : Ref sig .tc := ⟨.hbm, 224, rfl⟩
abbrev main_v206 : Ref sig .tc := ⟨.hbm, 225, rfl⟩
abbrev main_v207 : Ref sig .tc := ⟨.hbm, 226, rfl⟩
abbrev main_v208 : Ref sig .tc := ⟨.hbm, 227, rfl⟩
abbrev main_cst_9 : Ref sig .tc := ⟨.hbm, 228, rfl⟩
abbrev main_v209 : Ref sig .tc := ⟨.hbm, 229, rfl⟩
abbrev main_cst_10 : Ref sig .tc := ⟨.hbm, 230, rfl⟩
abbrev main_v210 : Ref sig .tc := ⟨.hbm, 231, rfl⟩
abbrev main_v211 : Ref sig .tc := ⟨.hbm, 232, rfl⟩
abbrev main_cst_11 : Ref sig .tc := ⟨.hbm, 233, rfl⟩
abbrev main_v212 : Ref sig .tc := ⟨.hbm, 234, rfl⟩
abbrev main_v213 : Ref sig .tc := ⟨.hbm, 235, rfl⟩
abbrev main_cst_12 : Ref sig .tc := ⟨.hbm, 236, rfl⟩
abbrev main_call3_v0 : Ref sig .tc := ⟨.hbm, 237, rfl⟩
abbrev main_v214 : Ref sig .tc := ⟨.hbm, 238, rfl⟩
abbrev main_v215 : Ref sig .tc := ⟨.hbm, 239, rfl⟩
abbrev main_v216 : Ref sig .tc := ⟨.hbm, 240, rfl⟩
abbrev main_v217 : Ref sig .tc := ⟨.hbm, 241, rfl⟩
abbrev main_v218 : Ref sig .tc := ⟨.hbm, 242, rfl⟩
abbrev main_cst_13 : Ref sig .tc := ⟨.hbm, 243, rfl⟩
abbrev main_cst_14 : Ref sig .tc := ⟨.hbm, 244, rfl⟩
abbrev main_call5_v0 : Ref sig .tc := ⟨.hbm, 245, rfl⟩
abbrev main_call5_v1 : Ref sig .tc := ⟨.hbm, 246, rfl⟩
abbrev main_call5_v2 : Ref sig .tc := ⟨.hbm, 247, rfl⟩
abbrev main_call5_v3 : Ref sig .tc := ⟨.hbm, 248, rfl⟩
abbrev main_call5_v4 : Ref sig .tc := ⟨.hbm, 249, rfl⟩
abbrev main_v219 : Ref sig .tc := ⟨.hbm, 250, rfl⟩
abbrev main_v220 : Ref sig .tc := ⟨.hbm, 251, rfl⟩
abbrev main_v221 : Ref sig .tc := ⟨.hbm, 252, rfl⟩
abbrev main_v222 : Ref sig .tc := ⟨.hbm, 253, rfl⟩
abbrev main_v223 : Ref sig .tc := ⟨.hbm, 254, rfl⟩
abbrev main_c_15 : Ref sig .tc := ⟨.hbm, 255, rfl⟩
abbrev main_v224 : Ref sig .tc := ⟨.hbm, 256, rfl⟩
abbrev main_v225 : Ref sig .tc := ⟨.hbm, 257, rfl⟩
abbrev main_c_16 : Ref sig .tc := ⟨.hbm, 258, rfl⟩
abbrev main_v226 : Ref sig .tc := ⟨.hbm, 259, rfl⟩
abbrev main_v227 : Ref sig .tc := ⟨.hbm, 260, rfl⟩
abbrev main_c_17 : Ref sig .tc := ⟨.hbm, 261, rfl⟩
abbrev main_v228 : Ref sig .tc := ⟨.hbm, 262, rfl⟩
abbrev main_v229 : Ref sig .tc := ⟨.hbm, 263, rfl⟩
abbrev main_v230 : Ref sig .tc := ⟨.hbm, 264, rfl⟩
abbrev main_v231 : Ref sig .tc := ⟨.hbm, 265, rfl⟩
abbrev main_v232 : Ref sig .tc := ⟨.hbm, 266, rfl⟩
abbrev main_v233 : Ref sig .tc := ⟨.hbm, 267, rfl⟩
abbrev main_v234 : Ref sig .tc := ⟨.hbm, 268, rfl⟩
abbrev main_v235 : Ref sig .tc := ⟨.hbm, 269, rfl⟩
abbrev main_v236 : Ref sig .tc := ⟨.hbm, 270, rfl⟩
abbrev main_v237 : Ref sig .tc := ⟨.hbm, 271, rfl⟩

abbrev nD : Nat := 1
abbrev τ : Topo := Topo.v7x

variable {F : FTy → Type} [FloatOps F]
-- ==== Proof.Ideal.Words.lean ====
module

public import proofs.«01_k».proof.Proof.Gen.KernelIdeal
public import Idealize.ShloMosaic.Lib.LoopRemainder
public import Idealize.ShloMosaic.Lib.ClampedCount

@[expose] public section

set_option maxRecDepth 16384

/-! The kernel's integer arithmetic: the number of 256-key chunks of a batch row and the offsets of its copies, loads
and stores, in closed form. -/

namespace Cert.KernelIdeal.Hand

open Cert.KernelIdeal Cert.KernelIdeal.Gen
open Idealize.ShloMosaic Idealize.ShloMosaic.TcCoe

/-- The number of chunks of 256 keys that the cache length `v` reaches into. -/
abbrev nch (v : BitVec 32) : ℕ := (k0_t1_loop v).trips

/-- The length `v`, read signed, stays within the cache. -/
def Fits (v : BitVec 32) : Prop := v.toInt ≤ 2304

theorem count_word (v : BitVec 32) (h : Fits v) :
    (Scalar.divsi (Scalar.addi v 255#32) 256#32).toInt = (v.toInt + 255).tdiv 256 := by
  unfold Fits at h
  have h0 : -(2:ℤ)^31 ≤ v.toInt := by have := BitVec.le_toInt v; omega
  have h1 : (v + 255#32).toInt = v.toInt + 255 := by
    rw [BitVec.toInt_add]
    have : (255#32 : BitVec 32).toInt = 255 := by decide
    rw [this]
    apply Int.bmod_eq_of_le <;> omega
  have hc : ¬ IntOp.SDivCorner (Scalar.addi v 255#32) 256#32 := by
    unfold IntOp.SDivCorner
    rintro (h | ⟨_, h⟩) <;> exact absurd h (by decide)
  unfold Scalar.divsi IntOp.divsi
  rw [if_neg hc]
  show ((v + 255#32).sdiv 256#32).toInt = _
  rw [BitVec.toInt_sdiv_of_ne_or_ne _ _ (Or.inr (by decide)), h1]
  rfl

theorem loop_ub (v : BitVec 32) : (k0_t1_loop v).ub = Scalar.divsi (Scalar.addi v 255#32) 256#32 := by
  show Scalar.addi 0#32 (Scalar.muli (Scalar.divsi (Scalar.subi _ 0#32) 1#32) 1#32) = _
  exact ClampedCount.ub_norm_step_one _ _

theorem nch_eq (v : BitVec 32) (h : Fits v) : nch v = ((v.toInt + 255).tdiv 256).toNat := by
  show Scf.trips 0#32 (k0_t1_loop v).ub 1#32 = _
  unfold Scf.trips
  rw [loop_ub, count_word v h]
  have h0 : (0#32 : BitVec 32).toInt = 0 := by decide
  have h1 : (1#32 : BitVec 32).toInt = 1 := by decide
  rw [h0, h1]; simp

theorem nch_le (v : BitVec 32) (h : Fits v) : nch v ≤ 9 := by
  rw [nch_eq v h]
  have : (v.toInt + 255).tdiv 256 ≤ 9 := by
    unfold Fits at h
    rcases Int.le_total 0 (v.toInt + 255) with h2 | h2
    · rw [Int.tdiv_eq_ediv_of_nonneg h2]; omega
    · have h3 : (v.toInt + 255).tdiv 256 ≤ 0 := by
        have h4 := Int.neg_tdiv (v.toInt + 255) 256
        rw [Int.tdiv_eq_ediv_of_nonneg (by omega : 0 ≤ -(v.toInt + 255))] at h4
        omega
      omega
  omega

/-- A chunk past the count lies wholly beyond the length. -/
theorem beyond (v : BitVec 32) (h : Fits v) (i : ℕ) (hi : nch v ≤ i) : v.toInt ≤ 256 * i := by
  rw [nch_eq v h] at hi
  rcases Int.le_total 0 (v.toInt + 255) with h2 | h2
  · rw [Int.tdiv_eq_ediv_of_nonneg h2] at hi; omega
  · omega

theorem loop_ok (v : BitVec 32) (h : Fits v) : (k0_t1_loop v).OK := by
  show Scf.OK 0#32 (k0_t1_loop v).ub 1#32
  refine ⟨by decide, ?_⟩
  have : Scf.trips 0#32 (k0_t1_loop v).ub 1#32 ≤ 9 := nch_le v h
  have h0 : (0#32 : BitVec 32).toInt = 0 := by decide
  have h1 : (1#32 : BitVec 32).toInt = 1 := by decide
  rw [h0, h1]; omega

theorem iv_toNat (k : ℕ) (hk : k < 2^20) : (Scf.iv 0#32 1#32 k).toNat = k := by
  simp only [Scf.iv, BitVec.toNat_add, BitVec.toNat_mul, BitVec.toNat_ofNat]
  omega

theorem iv_mul_toNat (k : ℕ) (hk : k < 2^20) : (Scalar.muli (Scf.iv 0#32 1#32 k) 256#32).toNat = k * 256 := by
  simp only [Scalar.muli, IntOp.muli, BitVec.toNat_mul, iv_toNat k hk, BitVec.toNat_ofNat]
  omega

theorem rem_elim {P : Prop} (a x : BitVec 32)
    (k : Fin (Scf.trips (Scalar.addi a (Scalar.muli (Scalar.divsi x 1#32) 1#32)) (Scalar.addi a x) 1#32)) : P :=
  (Scf.rem_no_trip a x k).elim

/-! ### Block offsets -/

/-- Chunk `i` of slot `s` of the code buffer. -/
abbrev oB1 (s i : ℕ) : Fin 4 → ℕ := ![s % 2, i % 9, 0, 0]
/-- Chunk `i` of slot `s` of the scale buffer. -/
abbrev oB2 (s i : ℕ) : Fin 5 → ℕ := ![s % 2, i % 9, 0, 0, 0]
/-- Chunk `i` of unit `u` in the code words: batch row `u % 6`, group quad `u / 6`. -/
abbrev oS1 (u i : ℕ) : Fin 4 → ℕ := ![u % 6, i % 9 * 256, u / 6 % 4, 0]
/-- Chunk `i` of unit `u` in the scales. -/
abbrev oS2 (u i : ℕ) : Fin 4 → ℕ := ![u % 6, u / 6 % 4 * 4, 0, i % 9 * 256]

theorem inB1 (s i : ℕ) : ∀ a, oB1 s i a + S1x1x256x128.size a ≤ S2x9x256x128.size a := by
  intro a; fin_cases a <;> simp <;> omega
theorem inB2 (s i : ℕ) : ∀ a, oB2 s i a + S1x1x4x8x256.size a ≤ S2x9x4x8x256.size a := by
  intro a; fin_cases a <;> simp <;> omega
theorem inS1 (u i : ℕ) : ∀ a, oS1 u i a + S1x256x1x128.size a ≤ S6x2304x4x128.size a := by
  intro a; fin_cases a <;> simp <;> omega
theorem inS2 (u i : ℕ) : ∀ a, oS2 u i a + S1x4x8x256.size a ≤ S6x16x8x2304.size a := by
  intro a; fin_cases a <;> simp <;> omega

section Unit0
variable (v : BitVec 32) (h : Fits v) (k : Fin (nch v))
include h

theorem off3_eq : k0_off3 v k = oB1 0 k := by
  have := nch_le v h; have := k.isLt
  funext a; fin_cases a
  · rfl
  · show (Scf.iv 0#32 1#32 k).toNat = k % 9
    rw [iv_toNat _ (by omega)]; omega
  · rfl
  · rfl
theorem off4_eq : k0_off4 v k = oS1 0 k := by
  have := nch_le v h; have := k.isLt
  funext a; fin_cases a
  · rfl
  · show (Scalar.muli (Scf.iv 0#32 1#32 k) 256#32).toNat = k % 9 * 256
    rw [iv_mul_toNat _ (by omega)]; omega
  · rfl
  · rfl
theorem off5_eq : k0_off5 v k = oB2 0 k := by
  have := nch_le v h; have := k.isLt
  funext a; fin_cases a
  · rfl
  · show (Scf.iv 0#32 1#32 k).toNat = k % 9
    rw [iv_toNat _ (by omega)]; omega
  · rfl
  · rfl
  · rfl
theorem off6_eq : k0_off6 v k = oS2 0 k := by
  have := nch_le v h; have := k.isLt
  funext a; fin_cases a
  · rfl
  · rfl
  · rfl
  · show (Scalar.muli (Scf.iv 0#32 1#32 k) 256#32).toNat = k % 9 * 256
    rw [iv_mul_toNat _ (by omega)]; omega
end Unit0

section UnitT
variable (t : Fin k0_t3_loop.trips) (v : BitVec 32) (h : Fits v) (k : Fin (nch v))

theorem t_lt : t.val < 24 := t.isLt

theorem w_rem2 : ∀ t : Fin k0_t3_loop.trips, (Scalar.remsi (Scf.iv 0#32 1#32 t.val) 2#32).toNat = t.val % 2 := by decide +kernel
theorem w_rem2' : ∀ t : Fin k0_t3_loop.trips,
    (Scalar.remsi (Scalar.addi (Scf.iv 0#32 1#32 t.val) 1#32) 2#32).toNat = (t.val + 1) % 2 := by decide +kernel
theorem w_rem6' : ∀ t : Fin k0_t3_loop.trips,
    (Scalar.remsi (Scalar.addi (Scf.iv 0#32 1#32 t.val) 1#32) 6#32).toNat = (t.val + 1) % 6 := by decide +kernel
theorem w_div6' : ∀ t : Fin k0_t3_loop.trips,
    (Scalar.divsi (Scalar.addi (Scf.iv 0#32 1#32 t.val) 1#32) 6#32).toNat = (t.val + 1) / 6 := by decide +kernel
theorem w_div6m' : ∀ t : Fin k0_t3_loop.trips,
    (Scalar.muli (Scalar.divsi (Scalar.addi (Scf.iv 0#32 1#32 t.val) 1#32) 6#32) 4#32).toNat = (t.val + 1) / 6 * 4 := by decide +kernel
theorem w_rem6 : ∀ t : Fin k0_t3_loop.trips, (Scalar.remsi (Scf.iv 0#32 1#32 t.val) 6#32).toNat = t.val % 6 := by decide +kernel
theorem w_div6 : ∀ t : Fin k0_t3_loop.trips, (Scalar.divsi (Scf.iv 0#32 1#32 t.val) 6#32).toNat = t.val / 6 := by decide +kernel
theorem w_div6m : ∀ t : Fin k0_t3_loop.trips,
    (Scalar.muli (Scalar.divsi (Scf.iv 0#32 1#32 t.val) 6#32) 4#32).toNat = t.val / 6 * 4 := by decide +kernel

/-- Whether a next unit is started: in every trip but the last. -/
theorem cond1_iff : ∀ t : Fin k0_t3_loop.trips, k0_cond1 t = 1#1 ↔ t.val + 1 < 24 := by decide +kernel

include h

theorem off15_eq : k0_off15 t v k = oB1 (t + 1) k := by
  have := nch_le v h; have := k.isLt
  funext a; fin_cases a
  · exact w_rem2' t
  · show (Scf.iv 0#32 1#32 k).toNat = k % 9
    rw [iv_toNat _ (by omega)]; omega
  · rfl
  · rfl
theorem off16_eq (ht : t.val + 1 < 24) : k0_off16 t v k = oS1 (t + 1) k := by
  have := nch_le v h; have := k.isLt
  funext a; fin_cases a
  · exact w_rem6' t
  · show (Scalar.muli (Scf.iv 0#32 1#32 k) 256#32).toNat = k % 9 * 256
    rw [iv_mul_toNat _ (by omega)]; omega
  · show _ = (t.val + 1) / 6 % 4
    rw [Nat.mod_eq_of_lt (by omega)]; exact w_div6' t
  · rfl
theorem off17_eq : k0_off17 t v k = oB2 (t + 1) k := by
  have := nch_le v h; have := k.isLt
  funext a; fin_cases a
  · exact w_rem2' t
  · show (Scf.iv 0#32 1#32 k).toNat = k % 9
    rw [iv_toNat _ (by omega)]; omega
  · rfl
  · rfl
  · rfl
theorem off18_eq (ht : t.val + 1 < 24) : k0_off18 t v k = oS2 (t + 1) k := by
  have := nch_le v h; have := k.isLt
  funext a; fin_cases a
  · exact w_rem6' t
  · show _ = (t.val + 1) / 6 % 4 * 4
    rw [Nat.mod_eq_of_lt (by omega)]; exact w_div6m' t
  · rfl
  · show (Scalar.muli (Scf.iv 0#32 1#32 k) 256#32).toNat = k % 9 * 256
    rw [iv_mul_toNat _ (by omega)]; omega

theorem off26_eq : k0_off26 t v k = oB1 t k := by
  have := nch_le v h; have := k.isLt
  funext a; fin_cases a
  · exact w_rem2 t
  · show (Scf.iv 0#32 1#32 k).toNat = k % 9
    rw [iv_toNat _ (by omega)]; omega
  · rfl
  · rfl
theorem off27_eq : k0_off27 t v k = oS1 t k := by
  have := nch_le v h; have := k.isLt
  funext a; fin_cases a
  · exact w_rem6 t
  · show (Scalar.muli (Scf.iv 0#32 1#32 k) 256#32).toNat = k % 9 * 256
    rw [iv_mul_toNat _ (by omega)]; omega
  · show _ = t.val / 6 % 4
    rw [Nat.mod_eq_of_lt (by have := t_lt t; omega)]; exact w_div6 t
  · rfl
theorem off28_eq : k0_off28 t v k = oB2 t k := by
  have := nch_le v h; have := k.isLt
  funext a; fin_cases a
  · exact w_rem2 t
  · show (Scf.iv 0#32 1#32 k).toNat = k % 9
    rw [iv_toNat _ (by omega)]; omega
  · rfl
  · rfl
  · rfl
theorem off29_eq : k0_off29 t v k = oS2 t k := by
  have := nch_le v h; have := k.isLt
  funext a; fin_cases a
  · exact w_rem6 t
  · show _ = t.val / 6 % 4 * 4
    rw [Nat.mod_eq_of_lt (by have := t_lt t; omega)]; exact w_div6m t
  · rfl
  · show (Scalar.muli (Scf.iv 0#32 1#32 k) 256#32).toNat = k % 9 * 256
    rw [iv_mul_toNat _ (by omega)]; omega

theorem off35_eq : k0_off35 t v k = oB1 t k := by
  have := nch_le v h; have := k.isLt
  funext a; fin_cases a
  · exact w_rem2 t
  · show (Scf.iv 0#32 1#32 k).toNat = k % 9
    rw [iv_toNat _ (by omega)]; omega
  · rfl
  · rfl
theorem off36_eq : k0_off36 t v k = ![t.val % 2, k.val % 9, 0, 0, 0] := by
  have := nch_le v h; have := k.isLt
  funext a; fin_cases a
  · exact w_rem2 t
  · show (Scf.iv 0#32 1#32 k).toNat = k % 9
    rw [iv_toNat _ (by omega)]; omega
  all_goals rfl
theorem off37_eq : k0_off37 t v k = ![t.val % 2, k.val % 9, 1, 0, 0] := by
  have := nch_le v h; have := k.isLt
  funext a; fin_cases a
  · exact w_rem2 t
  · show (Scf.iv 0#32 1#32 k).toNat = k % 9
    rw [iv_toNat _ (by omega)]; omega
  all_goals rfl
theorem off38_eq : k0_off38 t v k = ![t.val % 2, k.val % 9, 2, 0, 0] := by
  have := nch_le v h; have := k.isLt
  funext a; fin_cases a
  · exact w_rem2 t
  · show (Scf.iv 0#32 1#32 k).toNat = k % 9
    rw [iv_toNat _ (by omega)]; omega
  all_goals rfl
theorem off39_eq : k0_off39 t v k = ![t.val % 2, k.val % 9, 3, 0, 0] := by
  have := nch_le v h; have := k.isLt
  funext a; fin_cases a
  · exact w_rem2 t
  · show (Scf.iv 0#32 1#32 k).toNat = k % 9
    rw [iv_toNat _ (by omega)]; omega
  all_goals rfl
theorem off41_eq : k0_off41 t v k = ![t.val % 6 * 9 + k.val, 0, 0] := by
  have := nch_le v h; have := k.isLt
  funext a; fin_cases a
  · show (Scalar.addi (Scalar.muli (Scalar.remsi (Scf.iv 0#32 1#32 t.val) 6#32) 9#32) (Scf.iv 0#32 1#32 k)).toNat = t.val % 6 * 9 + k.val
    simp only [Scalar.addi, Scalar.muli, IntOp.addi, IntOp.muli, BitVec.toNat_add, BitVec.toNat_mul, w_rem6 t,
      iv_toNat k.val (by omega), BitVec.toNat_ofNat]
    omega
  all_goals rfl
end UnitT

theorem off42_eq (v : BitVec 32) (h : Fits v) (k : Fin (k0_t8_loop v).trips) : k0_off42 v k = ![k.val, 0, 0] := by
  have h7 := nch_le v h; have h8 : k.val < nch v := k.isLt
  have h9 : (Scf.iv 0#32 1#32 k.val).toNat = k.val := iv_toNat k.val (by omega)
  have h10 : k0_off42 v k = ![(Scf.iv 0#32 1#32 k.val).toNat, 0, 0] := rfl
  rw [h10, h9]

/-! ### The assumed conditions hold of a length that fits -/

theorem chk1_of (v : BitVec 32) (h : Fits v) : k0_chk1 v := by
  refine ⟨loop_ok v h, fun k => ?_, fun k => ?_, fun k => ?_, fun k => ?_, fun k => ?_, Scf.rem_ok _ _,
    fun k => rem_elim _ _ k, fun k => rem_elim _ _ k, fun k => rem_elim _ _ k, fun k => rem_elim _ _ k, fun k => rem_elim _ _ k⟩
  · have := nch_le v h; have := k.isLt
    show 256 ∣ (Scalar.muli (Scf.iv 0#32 1#32 k) 256#32).toNat
    rw [iv_mul_toNat _ (by have : k.val < nch v := k.isLt; omega)]; exact ⟨k, Nat.mul_comm _ _⟩
  · rw [off3_eq v h k]; exact inB1 _ _
  · rw [off4_eq v h k]; exact inS1 _ _
  · rw [off5_eq v h k]; exact inB2 _ _
  · rw [off6_eq v h k]; exact inS2 _ _

theorem chk2_of (t : Fin k0_t3_loop.trips) (v : BitVec 32) (h : Fits v) : k0_chk2 t v := by
  refine ⟨fun _ => loop_ok v h, fun k _ => ?_, fun k _ => ?_, fun k hc => ?_, fun k _ => ?_, fun k hc => ?_, fun _ => Scf.rem_ok _ _,
    fun k => rem_elim _ _ k, fun k => rem_elim _ _ k, fun k => rem_elim _ _ k, fun k => rem_elim _ _ k, fun k => rem_elim _ _ k⟩
  · have := nch_le v h
    show 256 ∣ (Scalar.muli (Scf.iv 0#32 1#32 k) 256#32).toNat
    rw [iv_mul_toNat _ (by have : k.val < nch v := k.isLt; omega)]; exact ⟨k, Nat.mul_comm _ _⟩
  · rw [off15_eq t v h k]; exact inB1 _ _
  · rw [off16_eq t v h k ((cond1_iff t).1 hc)]; exact inS1 _ _
  · rw [off17_eq t v h k]; exact inB2 _ _
  · rw [off18_eq t v h k ((cond1_iff t).1 hc)]; exact inS2 _ _

theorem chk3_of (t : Fin k0_t3_loop.trips) (v : BitVec 32) (h : Fits v) : k0_chk3 t v := by
  refine ⟨loop_ok v h, fun k => ?_, fun k => ?_, fun k => ?_, fun k => ?_, fun k => ?_, Scf.rem_ok _ _,
    fun k => rem_elim _ _ k, fun k => rem_elim _ _ k, fun k => rem_elim _ _ k, fun k => rem_elim _ _ k, fun k => rem_elim _ _ k⟩
  · have := nch_le v h
    show 256 ∣ (Scalar.muli (Scf.iv 0#32 1#32 k) 256#32).toNat
    rw [iv_mul_toNat _ (by have : k.val < nch v := k.isLt; omega)]; exact ⟨k, Nat.mul_comm _ _⟩
  · rw [off26_eq t v h k]; exact inB1 _ _
  · rw [off27_eq t v h k]; exact inS1 _ _
  · rw [off28_eq t v h k]; exact inB2 _ _
  · rw [off29_eq t v h k]; exact inS2 _ _

set_option maxHeartbeats 1000000 in
theorem chk4_of (t : Fin k0_t3_loop.trips) (v : BitVec 32) (h : Fits v) : k0_chk4 t v := by
  have hn := nch_le v h
  refine ⟨loop_ok v h, fun k => ?_, fun k => ?_, fun k => ?_, fun k => ?_, fun k => ?_, fun k => ?_, fun k => ?_, Scf.rem_ok _ _,
    fun k => rem_elim _ _ k, fun k => rem_elim _ _ k, fun k => rem_elim _ _ k, fun k => rem_elim _ _ k, fun k => rem_elim _ _ k,
    fun k => rem_elim _ _ k, fun k => rem_elim _ _ k⟩
  · rw [off35_eq t v h k]; exact inB1 _ _
  · rw [off36_eq t v h k]; intro a; fin_cases a <;> simp <;> omega
  · rw [off37_eq t v h k]; intro a; fin_cases a <;> simp <;> omega
  · rw [off38_eq t v h k]; intro a; fin_cases a <;> simp <;> omega
  · rw [off39_eq t v h k]; intro a; fin_cases a <;> simp <;> omega
  · have : k.val < nch v := k.isLt
    rw [off41_eq t v h k]; intro a; fin_cases a <;> simp <;> omega
  · have : k.val < nch v := k.isLt
    rw [off42_eq v h k]; intro a; fin_cases a <;> simp <;> omega

end Cert.KernelIdeal.Hand
-- ==== Proof.Ideal.Blocks.lean ====
module

public import proofs.«01_k».proof.Proof.Ideal.Words
public import proofs.«01_k».proof.Proof.Gen.KernelIdeal.Skeleton
public import proofs.«01_k».proof.Proof.Gen.KernelIdeal.Launch
public import Idealize.ShloMosaic.Lib.Pipeline.FrameBody
public import Idealize.ShloMosaic.Lib.MixedBatch
public import Idealize.ShloMosaic.Lib.Ring
public import Idealize.ShloMosaic.Lib.DeliveryRep
public import Idealize.ShloMosaic.Lib.Tactic

@[expose] public section

set_option maxRecDepth 16384

/-! The blocks that the chunk copies move: chunk `i` of a unit in the two operands, and of a slot in the two double
buffers; how each array splits into them and joins again. -/

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-! ### The blocks -/

abbrev mB1 (m : Memref sig .tc .vmem S2x9x256x128 .i32) (o : Fin 4 → ℕ) (h : ∀ a, o a + S1x1x256x128.size a ≤ S2x9x256x128.size a) :
    Memref sig .tc .vmem S256x128 .i32 :=
  (m.slice (Rect.unit (s := S2x9x256x128) o S1x1x256x128.size h) (fun _ => rfl)).squeeze S256x128 squeezes_S1x1x256x128_S256x128
abbrev mB2 (m : Memref sig .tc .vmem S2x9x4x8x256 .f32) (o : Fin 5 → ℕ) (h : ∀ a, o a + S1x1x4x8x256.size a ≤ S2x9x4x8x256.size a) :
    Memref sig .tc .vmem S4x8x256 .f32 :=
  (m.slice (Rect.unit (s := S2x9x4x8x256) o S1x1x4x8x256.size h) (fun _ => rfl)).squeeze S4x8x256 squeezes_S1x1x4x8x256_S4x8x256
abbrev mS1 (m : Memref sig .tc .hbm S6x2304x4x128 .i32) (o : Fin 4 → ℕ) (h : ∀ a, o a + S1x256x1x128.size a ≤ S6x2304x4x128.size a) :
    Memref sig .tc .hbm S256x128 .i32 :=
  (m.slice (Rect.unit (s := S6x2304x4x128) o S1x256x1x128.size h) (fun _ => rfl)).squeeze S256x128 squeezes_S1x256x1x128_S256x128
abbrev mS2 (m : Memref sig .tc .hbm S6x16x8x2304 .f32) (o : Fin 4 → ℕ) (h : ∀ a, o a + S1x4x8x256.size a ≤ S6x16x8x2304.size a) :
    Memref sig .tc .hbm S4x8x256 .f32 :=
  (m.slice (Rect.unit (s := S6x16x8x2304) o S1x4x8x256.size h) (fun _ => rfl)).squeeze S4x8x256 squeezes_S1x4x8x256_S4x8x256
/-- The semaphore of a slot. -/
abbrev cell (m : DmaSems sig S2) (o : Fin 1 → ℕ) (h : ∀ a, o a + S1.size a ≤ S2.size a) : DmaSem sig :=
  ((m.slice (Rect.unit (s := S2) o S1.size h)).squeeze S_ squeezes_S1_S_).sem

abbrev oC (s : ℕ) : Fin 1 → ℕ := ![s % 2]
theorem inC (s : ℕ) : ∀ a, oC s a + S1.size a ≤ S2.size a := by
  intro a; fin_cases a; simp; omega

abbrev B1 (m : Memref sig .tc .vmem S2x9x256x128 .i32) (s i : ℕ) := mB1 m (oB1 s i) (inB1 s i)
abbrev B2 (m : Memref sig .tc .vmem S2x9x4x8x256 .f32) (s i : ℕ) := mB2 m (oB2 s i) (inB2 s i)
abbrev S1b (m : Memref sig .tc .hbm S6x2304x4x128 .i32) (u i : ℕ) := mS1 m (oS1 u i) (inS1 u i)
abbrev S2b (m : Memref sig .tc .hbm S6x16x8x2304 .f32) (u i : ℕ) := mS2 m (oS2 u i) (inS2 u i)
abbrev cellOf (m : DmaSems sig S2) (s : ℕ) := cell m (oC s) (inC s)

theorem B1_set (m : Memref sig .tc .vmem S2x9x256x128 .i32) (s i : ℕ) :
    (B1 m s i).view.set = (Rect.unit (s := S2x9x256x128) (oB1 s i) S1x1x256x128.size (inB1 s i)).set.map m.view.emb :=
  (View.set_reshape _ _).trans (View.set_slice _ _)
theorem B2_set (m : Memref sig .tc .vmem S2x9x4x8x256 .f32) (s i : ℕ) :
    (B2 m s i).view.set = (Rect.unit (s := S2x9x4x8x256) (oB2 s i) S1x1x4x8x256.size (inB2 s i)).set.map m.view.emb :=
  (View.set_reshape _ _).trans (View.set_slice _ _)
theorem S1b_set (m : Memref sig .tc .hbm S6x2304x4x128 .i32) (u i : ℕ) :
    (S1b m u i).view.set = (Rect.unit (s := S6x2304x4x128) (oS1 u i) S1x256x1x128.size (inS1 u i)).set.map m.view.emb :=
  (View.set_reshape _ _).trans (View.set_slice _ _)
theorem S2b_set (m : Memref sig .tc .hbm S6x16x8x2304 .f32) (u i : ℕ) :
    (S2b m u i).view.set = (Rect.unit (s := S6x16x8x2304) (oS2 u i) S1x4x8x256.size (inS2 u i)).set.map m.view.emb :=
  (View.set_reshape _ _).trans (View.set_slice _ _)

/-! ### Disjointness and covers -/

theorem B1_disj (m : Memref sig .tc .vmem S2x9x256x128 .i32) (b b' : Fin 2 × Fin 9) (h : b ≠ b') :
    Disjoint (B1 m b.1 b.2).view.set (B1 m b'.1 b'.2).view.set := by
  rw [B1_set, B1_set]
  refine (Finset.disjoint_map m.view.emb).mpr ?_
  by_cases h1 : b.1.val = b'.1.val
  · have h2 : b.2.val ≠ b'.2.val := fun e => h (Prod.ext (Fin.ext h1) (Fin.ext e))
    exact Rect.unit_disjoint 1 (by simp [Nat.mod_eq_of_lt b.2.isLt, Nat.mod_eq_of_lt b'.2.isLt]; omega)
  · exact Rect.unit_disjoint 0 (by simp; omega)

theorem B2_disj (m : Memref sig .tc .vmem S2x9x4x8x256 .f32) (b b' : Fin 2 × Fin 9) (h : b ≠ b') :
    Disjoint (B2 m b.1 b.2).view.set (B2 m b'.1 b'.2).view.set := by
  rw [B2_set, B2_set]
  refine (Finset.disjoint_map m.view.emb).mpr ?_
  by_cases h1 : b.1.val = b'.1.val
  · have h2 : b.2.val ≠ b'.2.val := fun e => h (Prod.ext (Fin.ext h1) (Fin.ext e))
    exact Rect.unit_disjoint 1 (by simp [Nat.mod_eq_of_lt b.2.isLt, Nat.mod_eq_of_lt b'.2.isLt]; omega)
  · exact Rect.unit_disjoint 0 (by simp; omega)

theorem S1b_disj (m : Memref sig .tc .hbm S6x2304x4x128 .i32) (u : ℕ) (b b' : Fin 9) (h : b ≠ b') :
    Disjoint (S1b m u b).view.set (S1b m u b').view.set := by
  rw [S1b_set, S1b_set]
  refine (Finset.disjoint_map m.view.emb).mpr ?_
  have h2 : b.val ≠ b'.val := fun e => h (Fin.ext e)
  exact Rect.unit_disjoint 1 (by simp [Nat.mod_eq_of_lt b.isLt, Nat.mod_eq_of_lt b'.isLt]; omega)

theorem S2b_disj (m : Memref sig .tc .hbm S6x16x8x2304 .f32) (u : ℕ) (b b' : Fin 9) (h : b ≠ b') :
    Disjoint (S2b m u b).view.set (S2b m u b').view.set := by
  rw [S2b_set, S2b_set]
  refine (Finset.disjoint_map m.view.emb).mpr ?_
  have h2 : b.val ≠ b'.val := fun e => h (Fin.ext e)
  exact Rect.unit_disjoint 3 (by simp [Nat.mod_eq_of_lt b.isLt, Nat.mod_eq_of_lt b'.isLt]; omega)

theorem B1_cover (m : Memref sig .tc .vmem S2x9x256x128 .i32) :
    (Finset.univ : Finset (Fin 2 × Fin 9)).biUnion (fun b => (B1 m b.1 b.2).view.set) = m.view.set := by
  ext x
  rw [Finset.mem_biUnion]
  constructor
  · rintro ⟨b, -, hx⟩; rw [B1_set] at hx
    obtain ⟨y, -, rfl⟩ := Finset.mem_map.mp hx
    exact Finset.mem_map_of_mem _ (Finset.mem_univ y)
  · intro hx
    obtain ⟨y, -, rfl⟩ := Finset.mem_map.mp hx
    have h0 : (y 0).val < 2 := (y 0).isLt
    have h1 : (y 1).val < 9 := (y 1).isLt
    have h2 : (y 2).val < 256 := (y 2).isLt
    have h3 : (y 3).val < 128 := (y 3).isLt
    refine ⟨(⟨y 0, h0⟩, ⟨y 1, h1⟩), Finset.mem_univ _, ?_⟩
    rw [B1_set]; refine Finset.mem_map.mpr ⟨y, Rect.mem_set_unit.mpr fun a => ?_, rfl⟩
    fin_cases a <;> simp <;> omega

theorem B2_cover (m : Memref sig .tc .vmem S2x9x4x8x256 .f32) :
    (Finset.univ : Finset (Fin 2 × Fin 9)).biUnion (fun b => (B2 m b.1 b.2).view.set) = m.view.set := by
  ext x
  rw [Finset.mem_biUnion]
  constructor
  · rintro ⟨b, -, hx⟩; rw [B2_set] at hx
    obtain ⟨y, -, rfl⟩ := Finset.mem_map.mp hx
    exact Finset.mem_map_of_mem _ (Finset.mem_univ y)
  · intro hx
    obtain ⟨y, -, rfl⟩ := Finset.mem_map.mp hx
    have h0 : (y 0).val < 2 := (y 0).isLt
    have h1 : (y 1).val < 9 := (y 1).isLt
    have h2 : (y 2).val < 4 := (y 2).isLt
    have h3 : (y 3).val < 8 := (y 3).isLt
    have h4 : (y 4).val < 256 := (y 4).isLt
    refine ⟨(⟨y 0, h0⟩, ⟨y 1, h1⟩), Finset.mem_univ _, ?_⟩
    rw [B2_set]; refine Finset.mem_map.mpr ⟨y, Rect.mem_set_unit.mpr fun a => ?_, rfl⟩
    fin_cases a <;> simp <;> omega

/-! ### What is held -/

section Held
variable (c : Dev nD) (arg1 : Memref sig .tc .hbm S6x2304x4x128 .i32) (arg2 : Memref sig .tc .hbm S6x16x8x2304 .f32)
variable (arg8 : Memref sig .tc .vmem S2x9x256x128 .i32) (arg9 : Memref sig .tc .vmem S2x9x4x8x256 .f32) (arg16 : DmaSems sig S2)
variable (X1 : BufTy.Contents (Elt F) arg1.view.ty) (X2 : BufTy.Contents (Elt F) arg2.view.ty)

/-- Half of a read-only array's share: one half for each slot. -/
abbrev half : PosShare TreeShare := fullShare.left

/-- The two destination blocks of chunk `i` in slot `s`, at any contents. -/
def Dst (s i : ℕ) : sProp 𝕄 :=
  iprop((∃ f, (B1 arg8 s i).view.loc (c : Thread nD τ) ↦[(B1 arg8 s i).view.set]{fullShare} f)
    ∗ (∃ f, (B2 arg9 s i).view.loc (c : Thread nD τ) ↦[(B2 arg9 s i).view.set]{fullShare} f))

/-- The two source blocks of chunk `i` of unit `u`. -/
def Src (q : PosShare TreeShare) (u i : ℕ) : sProp 𝕄 :=
  iprop(((S1b arg1 u i).view.loc (c : Thread nD τ) ↦[(S1b arg1 u i).view.set]{q} X1)
    ∗ ((S2b arg2 u i).view.loc (c : Thread nD τ) ↦[(S2b arg2 u i).view.set]{q} X2))

/-- What the copy of chunk `i`'s codes delivers. -/
def Got1 (q : PosShare TreeShare) (u i : ℕ) : sProp 𝕄 :=
  iprop(((B1 arg8 u i).view.loc (c : Thread nD τ) ↦[(B1 arg8 u i).view.set]{fullShare} (B1 arg8 u i).view.rep ((S1b arg1 u i).view.read (Elt F) X1))
    ∗ ((S1b arg1 u i).view.loc (c : Thread nD τ) ↦[(S1b arg1 u i).view.set]{q} X1))
/-- What the copy of chunk `i`'s scales delivers. -/
def Got2 (q : PosShare TreeShare) (u i : ℕ) : sProp 𝕄 :=
  iprop(((B2 arg9 u i).view.loc (c : Thread nD τ) ↦[(B2 arg9 u i).view.set]{fullShare} (B2 arg9 u i).view.rep ((S2b arg2 u i).view.read (Elt F) X2))
    ∗ ((S2b arg2 u i).view.loc (c : Thread nD τ) ↦[(S2b arg2 u i).view.set]{q} X2))

instance Got1_storable (q : PosShare TreeShare) (u i : ℕ) : Storable (upEmb : UEmb _ 𝕄) (Got1 c arg1 arg8 X1 q u i) := by
  unfold Got1; infer_instance
instance Got2_storable (q : PosShare TreeShare) (u i : ℕ) : Storable (upEmb : UEmb _ 𝕄) (Got2 c arg2 arg9 X2 q u i) := by
  unfold Got2; infer_instance

/-- The elements of the codes, and of the scales, that unit `u` copies none of. -/
def Rest (q : PosShare TreeShare) (u : ℕ) : sProp 𝕄 :=
  iprop((arg1.view.loc (c : Thread nD τ) ↦[arg1.view.set \ Finset.univ.biUnion (fun i : Fin 9 => (S1b arg1 u i).view.set)]{q} X1)
    ∗ (arg2.view.loc (c : Thread nD τ) ↦[arg2.view.set \ Finset.univ.biUnion (fun i : Fin 9 => (S2b arg2 u i).view.set)]{q} X2))

/-- Both operands whole, at share `q`. -/
def Ops (q : PosShare TreeShare) : sProp 𝕄 :=
  iprop((arg1.view.loc (c : Thread nD τ) ↦[arg1.view.set]{q} X1) ∗ (arg2.view.loc (c : Thread nD τ) ↦[arg2.view.set]{q} X2))

theorem S1b_sub (u : ℕ) : Finset.univ.biUnion (fun i : Fin 9 => (S1b arg1 u i).view.set) ⊆ arg1.view.set := by
  intro x; rw [Finset.mem_biUnion]
  rintro ⟨i, -, h⟩; rw [S1b_set] at h; obtain ⟨y, -, rfl⟩ := Finset.mem_map.mp h
  exact Finset.mem_map_of_mem _ (Finset.mem_univ y)
theorem S2b_sub (u : ℕ) : Finset.univ.biUnion (fun i : Fin 9 => (S2b arg2 u i).view.set) ⊆ arg2.view.set := by
  intro x; rw [Finset.mem_biUnion]
  rintro ⟨i, -, h⟩; rw [S2b_set] at h; obtain ⟨y, -, rfl⟩ := Finset.mem_map.mp h
  exact Finset.mem_map_of_mem _ (Finset.mem_univ y)

/-- A half share of the operands is the unit's blocks and the rest. -/
theorem Ops_split (q : PosShare TreeShare) (u : ℕ) :
    Ops c arg1 arg2 X1 X2 q ⊣⊢ iprop(bigSep Finset.univ (fun i : Fin 9 => Src c arg1 arg2 X1 X2 q u i.val) ∗ Rest c arg1 arg2 X1 X2 q u) := by
  have h1 := pointsTo_split_subset (Ix := Unit) (Name := ℕ) (U := Pipeline.UD sig nD τ) (Lvl := ℕ) (q := q) (ℓ := arg1.view.loc (c : Thread nD τ)) (f := X1) (S1b_sub arg1 u)
  have h2 := pointsTo_split_subset (Ix := Unit) (Name := ℕ) (U := Pipeline.UD sig nD τ) (Lvl := ℕ) (q := q) (ℓ := arg2.view.loc (c : Thread nD τ)) (f := X2) (S2b_sub arg2 u)
  have e1 := pointsTo_biUnion (Ix := Unit) (Name := ℕ) (U := Pipeline.UD sig nD τ) (Lvl := ℕ) (q := q) (ℓ := arg1.view.loc (c : Thread nD τ)) (f := X1)
    Finset.univ (fun i : Fin 9 => (S1b arg1 u i).view.set) (fun b _ b' _ h => S1b_disj arg1 u b b' h)
  have e2 := pointsTo_biUnion (Ix := Unit) (Name := ℕ) (U := Pipeline.UD sig nD τ) (Lvl := ℕ) (q := q) (ℓ := arg2.view.loc (c : Thread nD τ)) (f := X2)
    Finset.univ (fun i : Fin 9 => (S2b arg2 u i).view.set) (fun b _ b' _ h => S2b_disj arg2 u b b' h)
  rw [e1] at h1; rw [e2] at h2
  have e3 : bigSep Finset.univ (fun i : Fin 9 => Src c arg1 arg2 X1 X2 q u i.val)
      = iprop(bigSep Finset.univ (fun i : Fin 9 => ((S1b arg1 u i).view.loc (c : Thread nD τ) ↦[(S1b arg1 u i).view.set]{q} X1 : sProp 𝕄))
        ∗ bigSep Finset.univ (fun i : Fin 9 => ((S2b arg2 u i).view.loc (c : Thread nD τ) ↦[(S2b arg2 u i).view.set]{q} X2 : sProp 𝕄))) :=
    bigSep_sep Finset.univ _ _
  rw [e3]
  constructor
  · unfold Ops Rest
    iintro ⟨H1, H2⟩
    ihave H1 := h1.1 $$ H1
    ihave H2 := h2.1 $$ H2
    icases H1 with ⟨Ha, Hb⟩
    icases H2 with ⟨Hc, Hd⟩
    isplitl [Ha Hc]
    · isplitl [Ha]; · iexact Ha
      iexact Hc
    · isplitl [Hb]; · iexact Hb
      iexact Hd
  · unfold Ops Rest
    iintro ⟨⟨Ha, Hc⟩, Hb, Hd⟩
    isplitl [Ha Hb]
    · iapply h1.2; isplitl [Ha]; · iexact Ha
      iexact Hb
    · iapply h2.2; isplitl [Hc]; · iexact Hc
      iexact Hd

/-- The two double buffers, at any contents, are their blocks. -/
theorem Dst_split (f8 : BufTy.Contents (Elt F) arg8.view.ty) (f9 : BufTy.Contents (Elt F) arg9.view.ty) :
    iprop((arg8.view.loc (c : Thread nD τ) ↦[arg8.view.set]{fullShare} f8) ∗ (arg9.view.loc (c : Thread nD τ) ↦[arg9.view.set]{fullShare} f9))
      ⊢ (bigSep Finset.univ (fun b : Fin 2 × Fin 9 => Dst (F := F) c arg8 arg9 b.1.val b.2.val) : sProp 𝕄) := by
  have e1 := Ring.pointsTo_sub_blocks (Ix := Unit) (Name := ℕ) (U := Pipeline.UD sig nD τ) (Lvl := ℕ) (ℓ := arg8.view.loc (c : Thread nD τ))
    (fun b : Fin 2 × Fin 9 => (B1 arg8 b.1 b.2).view.set) (B1_disj arg8) _ (B1_cover arg8) (q := fullShare) f8
  have e2 := Ring.pointsTo_sub_blocks (Ix := Unit) (Name := ℕ) (U := Pipeline.UD sig nD τ) (Lvl := ℕ) (ℓ := arg9.view.loc (c : Thread nD τ))
    (fun b : Fin 2 × Fin 9 => (B2 arg9 b.1 b.2).view.set) (B2_disj arg9) _ (B2_cover arg9) (q := fullShare) f9
  rw [e1, e2]
  have hb (b : Fin 2 × Fin 9) : iprop(((B1 arg8 b.1 b.2).view.loc (c : Thread nD τ) ↦[(B1 arg8 b.1 b.2).view.set]{fullShare} f8)
      ∗ ((B2 arg9 b.1 b.2).view.loc (c : Thread nD τ) ↦[(B2 arg9 b.1 b.2).view.set]{fullShare} f9)) ⊢ (Dst (F := F) c arg8 arg9 b.1.val b.2.val : sProp 𝕄) := by
    unfold Dst
    iintro ⟨H1, H2⟩
    isplitl [H1]
    · iexists _; iexact H1
    · iexists _; iexact H2
  exact (Entails.of_eq (bigSep_sep Finset.univ _ _).symm).trans (bigSep_mono fun b _ => hb b)

theorem Dst_join (f8 : BufTy.Contents (Elt F) arg8.view.ty) (f9 : BufTy.Contents (Elt F) arg9.view.ty) :
    bigSep Finset.univ (fun b : Fin 2 × Fin 9 => Dst (F := F) c arg8 arg9 b.1.val b.2.val)
      ⊢ (iprop((∃ f, arg8.view.loc (c : Thread nD τ) ↦[arg8.view.set]{fullShare} f) ∗ (∃ f, arg9.view.loc (c : Thread nD τ) ↦[arg9.view.set]{fullShare} f)) : sProp 𝕄) := by
  have e1 := Ring.pointsTo_sub_blocks_join_exists (Ix := Unit) (Name := ℕ) (U := Pipeline.UD sig nD τ) (Lvl := ℕ) (ℓ := arg8.view.loc (c : Thread nD τ))
    (fun b : Fin 2 × Fin 9 => (B1 arg8 b.1 b.2).view.set) (B1_disj arg8) _ (B1_cover arg8) (q := fullShare) f8
  have e2 := Ring.pointsTo_sub_blocks_join_exists (Ix := Unit) (Name := ℕ) (U := Pipeline.UD sig nD τ) (Lvl := ℕ) (ℓ := arg9.view.loc (c : Thread nD τ))
    (fun b : Fin 2 × Fin 9 => (B2 arg9 b.1 b.2).view.set) (B2_disj arg9) _ (B2_cover arg9) (q := fullShare) f9
  refine (Entails.of_eq (bigSep_sep Finset.univ _ _)).trans (show iprop(_ ∗ _) ⊢ _ from ?_)
  iintro ⟨H1, H2⟩
  isplitl [H1]
  · iapply e1; iexact H1
  · iapply e2; iexact H2

end Held

end Cert.KernelIdeal.Hand
-- ==== Proof.Ideal.Copies.lean ====
module

public import proofs.«01_k».proof.Proof.Ideal.Blocks

@[expose] public section

set_option maxRecDepth 16384

/-! The loops that start a unit's copies and wait for them: all on the slot's one semaphore, as one batch of
alternately a code block and a scale block. -/

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

section Held
variable (c : Dev nD) (arg1 : Memref sig .tc .hbm S6x2304x4x128 .i32) (arg2 : Memref sig .tc .hbm S6x16x8x2304 .f32)
variable (arg8 : Memref sig .tc .vmem S2x9x256x128 .i32) (arg9 : Memref sig .tc .vmem S2x9x4x8x256 .f32) (arg16 : DmaSems sig S2)
variable (X1 : BufTy.Contents (Elt F) arg1.view.ty) (X2 : BufTy.Contents (Elt F) arg2.view.ty)

/-- The amounts of a batch of `n` chunks: code block, scale block, code block, … -/
def amt (n : ℕ) : Fin (2 * n) → ℕ := fun t => if t.val % 2 = 0 then (B1 arg8 0 0).view.dmaCredit else (B2 arg9 0 0).view.dmaCredit

theorem amt_pos (n : ℕ) (t : Fin (2 * n)) : 0 < amt arg8 arg9 n t := by
  unfold amt; split
  · exact View.dmaCredit_pos _ (by decide)
  · exact View.dmaCredit_pos _ (by decide)

/-- The batch of unit `u`'s copies, `n` chunks of them: `j` issued, `w` units of credit waited for. -/
def Bat (q : PosShare TreeShare) (u n j w : ℕ) : sProp 𝕄 :=
  Transfers.MixedBatch (countersEmb (nD := nD) (τ := τ) (sig := sig) (Ix := Unit) (Val := Elt F) (Name := ℕ) (U := Pipeline.UD sig nD τ) (Lvl := ℕ)) (c : Thread nD τ) (SemLoc.dma (cellOf arg16 u)) () (amt arg8 arg9 n)
    (Ring.interleaved n (Got1 c arg1 arg8 X1 q u) (Got2 c arg2 arg9 X2 q u)) j w

theorem delivered1 (q : PosShare TreeShare) (u i : ℕ) (fd : Buf (Elt F) ((B1 arg8 u i).view.loc (c : Thread nD τ))) :
    iprop(((B1 arg8 u i).view.loc (c : Thread nD τ) ↦[(B1 arg8 u i).view.set]{fullShare}
        ((B1 arg8 u i).view.write (Elt F) fd (ReadAs.same.apply ((S1b arg1 u i).view.read (Elt F) X1)) Finset.univ))
      ∗ ((S1b arg1 u i).view.loc (c : Thread nD τ) ↦[(S1b arg1 u i).view.set]{q} X1)) ⊢ (Got1 c arg1 arg8 X1 q u i : sProp 𝕄) := by
  have e := pointsTo_rep (Ix := Unit) (Name := ℕ) (U := Pipeline.UD sig nD τ) (Lvl := ℕ) (c : Thread nD τ) (B1 arg8 u i)
    ((B1 arg8 u i).view.write (Elt F) fd (ReadAs.same.apply ((S1b arg1 u i).view.read (Elt F) X1)) Finset.univ) fullShare
  have hr : (B1 arg8 u i).view.read (Elt F) ((B1 arg8 u i).view.write (Elt F) fd (ReadAs.same.apply ((S1b arg1 u i).view.read (Elt F) X1)) Finset.univ)
    = (S1b arg1 u i).view.read (Elt F) X1 := funext fun x => View.read_write_of_mem _ _ (Finset.mem_univ x)
  rw [hr] at e
  unfold Got1
  iintro ⟨H1, H2⟩
  isplitl [H1]
  · iapply (Entails.of_eq e); iexact H1
  · iexact H2

theorem delivered2 (q : PosShare TreeShare) (u i : ℕ) (fd : Buf (Elt F) ((B2 arg9 u i).view.loc (c : Thread nD τ))) :
    iprop(((B2 arg9 u i).view.loc (c : Thread nD τ) ↦[(B2 arg9 u i).view.set]{fullShare}
        ((B2 arg9 u i).view.write (Elt F) fd (ReadAs.same.apply ((S2b arg2 u i).view.read (Elt F) X2)) Finset.univ))
      ∗ ((S2b arg2 u i).view.loc (c : Thread nD τ) ↦[(S2b arg2 u i).view.set]{q} X2)) ⊢ (Got2 c arg2 arg9 X2 q u i : sProp 𝕄) := by
  have e := pointsTo_rep (Ix := Unit) (Name := ℕ) (U := Pipeline.UD sig nD τ) (Lvl := ℕ) (c : Thread nD τ) (B2 arg9 u i)
    ((B2 arg9 u i).view.write (Elt F) fd (ReadAs.same.apply ((S2b arg2 u i).view.read (Elt F) X2)) Finset.univ) fullShare
  have hr : (B2 arg9 u i).view.read (Elt F) ((B2 arg9 u i).view.write (Elt F) fd (ReadAs.same.apply ((S2b arg2 u i).view.read (Elt F) X2)) Finset.univ)
    = (S2b arg2 u i).view.read (Elt F) X2 := funext fun x => View.read_write_of_mem _ _ (Finset.mem_univ x)
  rw [hr] at e
  unfold Got2
  iintro ⟨H1, H2⟩
  isplitl [H1]
  · iapply (Entails.of_eq e); iexact H1
  · iexact H2

variable {α : Type} (bd : Option Variants.none.V)

/-- Chunk `i`'s two copies started. -/
theorem start_pair (q : PosShare TreeShare) (u i n : ℕ) (hi : i < n)
    (o2 : Fin 1 → ℕ) (h2 : ∀ a, o2 a + S1.size a ≤ S2.size a) (e2 : o2 = oC u)
    (o3 : Fin 4 → ℕ) (h3 : ∀ a, o3 a + S1x1x256x128.size a ≤ S2x9x256x128.size a) (e3 : o3 = oB1 u i)
    (o4 : Fin 4 → ℕ) (h4 : ∀ a, o4 a + S1x256x1x128.size a ≤ S6x2304x4x128.size a) (e4 : o4 = oS1 u i)
    (o5 : Fin 5 → ℕ) (h5 : ∀ a, o5 a + S1x1x4x8x256.size a ≤ S2x9x4x8x256.size a) (e5 : o5 = oB2 u i)
    (o6 : Fin 4 → ℕ) (h6 : ∀ a, o6 a + S1x4x8x256.size a ≤ S6x16x8x2304.size a) (e6 : o6 = oS2 u i)
    (p1 p2 p3 p4 p5 p6) (R : sProp 𝕄) :
    iprop(((Src c arg1 arg2 X1 X2 q u i ∗ Dst (F := F) c arg8 arg9 u i) ∗ R) ∗ Bat c arg1 arg2 arg8 arg9 arg16 X1 X2 q u n (2 * i) 0)
      ⊢ wp Idealize.ShloMosaic.frame (wpE (defs₀ (F := F)) Variants.none (c : Thread nD τ) bd) Set.univ
        (do Prog.lift (.enqueueDma (mS1 arg1 o4 h4) (.here (mB1 arg8 o3 h3)) (.dma (cell arg16 o2 h2)) p1 p2 p3)
            Prog.lift (.enqueueDma (mS2 arg2 o6 h6) (.here (mB2 arg9 o5 h5)) (.dma (cell arg16 o2 h2)) p4 p5 p6)
            pure 0#32 : Prog (TpuEff nD τ sig (Elt F) Λ₀ .tc) (BitVec 32))
        (fun _ => iprop(R ∗ Bat c arg1 arg2 arg8 arg9 arg16 X1 X2 q u n (2 * (i + 1)) 0)) := by
  subst e2 e3 e4 e5 e6
  unfold Src Dst Bat
  iintro ⟨⟨⟨⟨HS1, HS2⟩, ⟨⟨%f1, HD1⟩, ⟨%f2, HD2⟩⟩⟩, HR⟩, HB⟩
  iapply (Transfers.wp_dmaMixedBatch (countersEmb (nD := nD) (τ := τ) (sig := sig) (Ix := Unit) (Val := Elt F) (Name := ℕ) (U := Pipeline.UD sig nD τ) (Lvl := ℕ)) Variants.none (c : Thread nD τ) bd () (amt arg8 arg9 n) (le_refl _) (by omega : 2 * i < 2 * n)
    (by unfold amt; rw [if_pos (by simp)]) (Nat.zero_le _)
    ((delivered1 c arg1 arg8 X1 q u i f1).trans (Entails.of_eq (Ring.interleaved_even n _ _ i (by omega)).symm))) $$ [HS1 HD1 HB]
  · isplitl [HS1]; · iexact HS1
    isplitl [HD1]; · iexact HD1
    iexact HB
  iintro HB
  iapply (Transfers.wp_dmaMixedBatch (countersEmb (nD := nD) (τ := τ) (sig := sig) (Ix := Unit) (Val := Elt F) (Name := ℕ) (U := Pipeline.UD sig nD τ) (Lvl := ℕ)) Variants.none (c : Thread nD τ) bd () (amt arg8 arg9 n) (le_refl _) (by omega : 2 * i + 1 < 2 * n)
    (by unfold amt; rw [if_neg (by simp)]) (Nat.zero_le _)
    ((delivered2 c arg2 arg9 X2 q u i f2).trans (Entails.of_eq (Ring.interleaved_odd n _ _ i (by omega)).symm))) $$ [HS2 HD2 HB]
  · isplitl [HS2]; · iexact HS2
    isplitl [HD2]; · iexact HD2
    iexact HB
  iintro HB
  rw [show ((Prog.ret PUnit.unit).bind fun _ => Pure.pure 0#32 : Prog (TpuEff nD τ sig (Elt F) Λ₀ .tc) (BitVec 32)) = Prog.ret 0#32 from rfl]
  sl_step
  isplitl [HR]; · iexact HR
  iexact HB

theorem sumTo_even (n i : ℕ) (hi : i ≤ n) : Transfers.sumTo (amt arg8 arg9 n) (2 * i) = i * ((B1 arg8 0 0).view.dmaCredit + (B2 arg9 0 0).view.dmaCredit) := by
  induction i with
  | zero => rw [Nat.zero_mul]; exact Transfers.sumTo_zero _
  | succ i ih =>
    rw [show 2 * (i + 1) = 2 * i + 1 + 1 by omega, Transfers.sumTo_succ _ (by omega : 2 * i + 1 < 2 * n), Transfers.sumTo_succ _ (by omega : 2 * i < 2 * n), ih (by omega)]
    unfold amt
    rw [if_pos (by simp), if_neg (by simp), Nat.add_mul, Nat.one_mul]; omega

/-- Chunk `i`'s two copies waited for. -/
theorem wait_pair (q : PosShare TreeShare) (u i n : ℕ) (hi : i < n)
    (o2 : Fin 1 → ℕ) (h2 : ∀ a, o2 a + S1.size a ≤ S2.size a) (e2 : o2 = oC u)
    (o3 : Fin 4 → ℕ) (h3 : ∀ a, o3 a + S1x1x256x128.size a ≤ S2x9x256x128.size a)
    (o4 : Fin 4 → ℕ) (h4 : ∀ a, o4 a + S1x256x1x128.size a ≤ S6x2304x4x128.size a)
    (o5 : Fin 5 → ℕ) (h5 : ∀ a, o5 a + S1x1x4x8x256.size a ≤ S2x9x4x8x256.size a)
    (o6 : Fin 4 → ℕ) (h6 : ∀ a, o6 a + S1x4x8x256.size a ≤ S6x16x8x2304.size a)
    (p1 p2 p4 p5) (W : Waits sig Unit) :
    iprop(Bat c arg1 arg2 arg8 arg9 arg16 X1 X2 q u n (2 * n) (Transfers.sumTo (amt arg8 arg9 n) (2 * i)) ∗ owes (c : Thread nD τ) 0 W)
      ⊢ wp Idealize.ShloMosaic.frame (wpE (defs₀ (F := F)) Variants.none (c : Thread nD τ) bd) Set.univ
        (do Prog.lift (.waitDma2 (cell arg16 o2 h2) (mS1 arg1 o4 h4) (mB1 arg8 o3 h3) p1 p2)
            Prog.lift (.waitDma2 (cell arg16 o2 h2) (mS2 arg2 o6 h6) (mB2 arg9 o5 h5) p4 p5)
            pure 0#32 : Prog (TpuEff nD τ sig (Elt F) Λ₀ .tc) (BitVec 32))
        (fun _ => iprop(∃ W', Bat c arg1 arg2 arg8 arg9 arg16 X1 X2 q u n (2 * n) (Transfers.sumTo (amt arg8 arg9 n) (2 * (i + 1))) ∗ owes (c : Thread nD τ) 0 W')) := by
  subst e2
  unfold Bat
  have hT := sumTo_even arg8 arg9 n n le_rfl
  have hI := sumTo_even arg8 arg9 n i (by omega)
  have hJ := sumTo_even arg8 arg9 n (i + 1) (by omega)
  have hM := Nat.mul_le_mul_right ((B1 arg8 0 0).view.dmaCredit + (B2 arg9 0 0).view.dmaCredit) (show i + 1 ≤ n by omega)
  rw [Nat.add_mul, Nat.one_mul] at hJ hM
  have hu1 : Transfers.sumTo (amt arg8 arg9 n) (2 * i) + (B1 arg8 0 0).view.dmaCredit ≤ Transfers.sumTo (amt arg8 arg9 n) (2 * n) := by omega
  have hu2 : Transfers.sumTo (amt arg8 arg9 n) (2 * i) + (B1 arg8 0 0).view.dmaCredit + (B2 arg9 0 0).view.dmaCredit ≤ Transfers.sumTo (amt arg8 arg9 n) (2 * n) := by omega
  iintro ⟨HB, HO⟩
  iapply (Transfers.wp_waitMixedBatchSized (countersEmb (nD := nD) (τ := τ) (sig := sig) (Ix := Unit) (Val := Elt F) (Name := ℕ) (U := Pipeline.UD sig nD τ) (Lvl := ℕ)) Variants.none (c : Thread nD τ) bd () (J := (B1 arg8 0 0).view.dmaCredit) rfl hu1) $$ [HB HO]
  · isplitl [HB]; · iexact HB
    iexact HO
  iintro ⟨HB, HO⟩
  iapply (Transfers.wp_waitMixedBatchSized (countersEmb (nD := nD) (τ := τ) (sig := sig) (Ix := Unit) (Val := Elt F) (Name := ℕ) (U := Pipeline.UD sig nD τ) (Lvl := ℕ)) Variants.none (c : Thread nD τ) bd () (J := (B2 arg9 0 0).view.dmaCredit) rfl hu2) $$ [HB HO]
  · isplitl [HB]; · iexact HB
    iexact HO
  iintro ⟨HB, HO⟩
  rw [show ((Prog.ret PUnit.unit).bind fun _ => Pure.pure 0#32 : Prog (TpuEff nD τ sig (Elt F) Λ₀ .tc) (BitVec 32)) = Prog.ret 0#32 from rfl]
  sl_step
  iexists _
  isplitl [HB]
  · rw [show Transfers.sumTo (amt arg8 arg9 n) (2 * (i + 1)) = Transfers.sumTo (amt arg8 arg9 n) (2 * i) + (B1 arg8 0 0).view.dmaCredit + (B2 arg9 0 0).view.dmaCredit by omega]
    iexact HB
  · iexact HO

end Held

end Cert.KernelIdeal.Hand
-- ==== Proof.Ideal.Trips.lean ====
module

public import proofs.«01_k».proof.Proof.Ideal.Copies

@[expose] public section

set_option maxRecDepth 16384
set_option maxHeartbeats 4000000

/-! One trip of each copy loop, by the loop's invariant. -/

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

section Trips
variable (c : Dev nD) (bd : Option Variants.none.V)
variable (arg0 : Memref sig .tc .smem S6 .i32) (harg0 : arg0.IsWhole) (arg1 : Memref sig .tc .hbm S6x2304x4x128 .i32) (harg1 : arg1.IsWhole) (arg2 : Memref sig .tc .hbm S6x16x8x2304 .f32) (harg2 : arg2.IsWhole) (arg3 : Memref sig .tc .vmem S6x64x128 .f32) (harg3 : arg3.IsWhole) (arg4 : Memref sig .tc .vmem S16x256x512 .bf16) (harg4 : arg4.IsWhole) (arg5 : Memref sig .tc .vmem S54x64x256 .f32) (harg5 : arg5.IsWhole) (arg6 : Memref sig .tc .vmem S54x64x256 .f32) (harg6 : arg6.IsWhole) (arg7 : Memref sig .tc .vmem S6x64x2304 .f32) (harg7 : arg7.IsWhole) (arg8 : Memref sig .tc .vmem S2x9x256x128 .i32) (harg8 : arg8.IsWhole) (arg9 : Memref sig .tc .vmem S2x9x4x8x256 .f32) (harg9 : arg9.IsWhole) (arg10 : Memref sig .tc .vmem S16x512x256 .bf16) (harg10 : arg10.IsWhole) (arg11 : Memref sig .tc .vmem S2x512x128 .i32) (harg11 : arg11.IsWhole) (arg12 : Memref sig .tc .vmem S4x8x256 .f32) (harg12 : arg12.IsWhole) (arg13 : Memref sig .tc .vmem S2048x256 .bf16) (harg13 : arg13.IsWhole) (arg14 : Memref sig .tc .vmem S9x16x256 .f32) (harg14 : arg14.IsWhole) (arg15 : Memref sig .tc .vmem S16x2048 .bf16) (harg15 : arg15.IsWhole) (arg16 : DmaSems sig S2)
variable (X1 : BufTy.Contents (Elt F) arg1.view.ty) (X2 : BufTy.Contents (Elt F) arg2.view.ty)

/-- Before trip `k` of the loop that starts unit `u`'s copies: the first `k` chunks' copies are issued, the blocks of the
other chunks are at hand. -/
def StartInv (q : PosShare TreeShare) (u n k : ℕ) : sProp 𝕄 :=
  iprop(bigSep (Ring.rangeSet 9 k 9) (fun i => iprop(Src c arg1 arg2 X1 X2 q u i.val ∗ Dst (F := F) c arg8 arg9 u i.val))
    ∗ Bat c arg1 arg2 arg8 arg9 arg16 X1 X2 q u n (2 * k) 0)

/-- Before trip `k` of the loop that waits for them. -/
def WaitInv (q : PosShare TreeShare) (u n k : ℕ) : sProp 𝕄 :=
  iprop(∃ W, Bat c arg1 arg2 arg8 arg9 arg16 X1 X2 q u n (2 * n) (Transfers.sumTo (amt arg8 arg9 n) (2 * k)) ∗ owes (c : Thread nD τ) 0 W)

theorem StartInv_head (q : PosShare TreeShare) (u n k : ℕ) (hk : k < 9) :
    StartInv c arg1 arg2 arg8 arg9 arg16 X1 X2 q u n k
      ⊢ (iprop(((Src c arg1 arg2 X1 X2 q u k ∗ Dst (F := F) c arg8 arg9 u k)
          ∗ bigSep (Ring.rangeSet 9 (k + 1) 9) (fun i => iprop(Src c arg1 arg2 X1 X2 q u i.val ∗ Dst (F := F) c arg8 arg9 u i.val)))
        ∗ Bat c arg1 arg2 arg8 arg9 arg16 X1 X2 q u n (2 * k) 0) : sProp 𝕄) := by
  unfold StartInv
  rw [Ring.bigSep_rangeSet_head hk hk]

theorem start_trip1 (q : PosShare TreeShare) (v2 : Elt F .i32) (k0_hw1 : k0_chk1 v2) (hF : Fits v2) (k : Fin (k0_t1_loop v2).trips) (acc : BitVec 32) :
    StartInv c arg1 arg2 arg8 arg9 arg16 X1 X2 q 0 (nch v2) k
      ⊢ wp Idealize.ShloMosaic.frame (wpE (defs₀ (F := F)) Variants.none (c : Thread nD τ) bd) Set.univ (k0_t1_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 v2 k0_hw1 k acc) (fun _ => StartInv c arg1 arg2 arg8 arg9 arg16 X1 X2 q 0 (nch v2) (k + 1)) := by
  have h9 := nch_le v2 hF
  have hk : k.val < nch v2 := k.isLt
  refine (StartInv_head c arg1 arg2 arg8 arg9 arg16 X1 X2 q 0 (nch v2) k (by omega)).trans ?_
  exact start_pair c arg1 arg2 arg8 arg9 arg16 X1 X2 bd q 0 k (nch v2) hk
    k0_off2 k0_off2_inb rfl
    (k0_off3 v2 k) (k0_off3_inb v2 k0_hw1 k) (off3_eq v2 hF k)
    (k0_off4 v2 k) (k0_off4_inb v2 k0_hw1 k) (off4_eq v2 hF k)
    (k0_off5 v2 k) (k0_off5_inb v2 k0_hw1 k) (off5_eq v2 hF k)
    (k0_off6 v2 k) (k0_off6_inb v2 k0_hw1 k) (off6_eq v2 hF k) _ _ _ _ _ _ _

theorem start_trip4 (q : PosShare TreeShare) (v108 : IVec S16x128 32) (a b : BitVec 32) (k0_t3 : Fin k0_t3_loop.trips) (k0_h1 : k0_cond1 k0_t3 = 1#1)
    (v417 : Elt F .i32) (k0_hw2 : k0_chk2 k0_t3 v417) (hF : Fits v417) (k : Fin (k0_t4_loop v417).trips) (acc : BitVec 32) :
    StartInv c arg1 arg2 arg8 arg9 arg16 X1 X2 q (k0_t3 + 1) (nch v417) k
      ⊢ wp Idealize.ShloMosaic.frame (wpE (defs₀ (F := F)) Variants.none (c : Thread nD τ) bd) Set.univ (k0_t4_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 v108 a b k0_t3 k0_h1 v417 k0_hw2 k acc)
        (fun _ => StartInv c arg1 arg2 arg8 arg9 arg16 X1 X2 q (k0_t3 + 1) (nch v417) (k + 1)) := by
  have h9 := nch_le v417 hF
  have hk : k.val < nch v417 := k.isLt
  have ht := (cond1_iff k0_t3).mp k0_h1
  refine (StartInv_head c arg1 arg2 arg8 arg9 arg16 X1 X2 q (k0_t3 + 1) (nch v417) k (by omega)).trans ?_
  exact start_pair c arg1 arg2 arg8 arg9 arg16 X1 X2 bd q (k0_t3 + 1) k (nch v417) hk
    (k0_off14 k0_t3) (k0_off14_inb k0_t3 k0_h1) (k0_off14_eq k0_t3)
    (k0_off15 k0_t3 v417 k) (k0_off15_inb k0_t3 v417 k0_hw2 k k0_h1) (off15_eq k0_t3 v417 hF k)
    (k0_off16 k0_t3 v417 k) (k0_off16_inb k0_t3 v417 k0_hw2 k k0_h1) (off16_eq k0_t3 v417 hF k ht)
    (k0_off17 k0_t3 v417 k) (k0_off17_inb k0_t3 v417 k0_hw2 k k0_h1) (off17_eq k0_t3 v417 hF k)
    (k0_off18 k0_t3 v417 k) (k0_off18_inb k0_t3 v417 k0_hw2 k k0_h1) (off18_eq k0_t3 v417 hF k ht) _ _ _ _ _ _ _

theorem wait_trip6 (q : PosShare TreeShare) (k0_t3 : Fin k0_t3_loop.trips) (arg17 v110 v111 v112 : BitVec 32) (v114 : Elt F .i32) (k0_hw4 : k0_chk4 k0_t3 v114)
    (v116 : BitVec 32) (v118 v259 : Elt F .i32) (k0_hw3 : k0_chk3 k0_t3 v259) (hF : Fits v259) (k : Fin (k0_t6_loop v259).trips) (acc : BitVec 32) :
    WaitInv c arg1 arg2 arg8 arg9 arg16 X1 X2 q k0_t3 (nch v259) k
      ⊢ wp Idealize.ShloMosaic.frame (wpE (defs₀ (F := F)) Variants.none (c : Thread nD τ) bd) Set.univ (k0_t6_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 k0_t3 arg17 v110 v111 v112 v114 k0_hw4 v116 v118 v259 k0_hw3 k acc)
        (fun _ => WaitInv c arg1 arg2 arg8 arg9 arg16 X1 X2 q k0_t3 (nch v259) (k + 1)) := by
  have h9 := nch_le v259 hF
  have hk : k.val < nch v259 := k.isLt
  unfold WaitInv
  iintro ⟨%W, H⟩
  iapply (wait_pair c arg1 arg2 arg8 arg9 arg16 X1 X2 bd q k0_t3 k (nch v259) hk
    (k0_off25 k0_t3) (k0_off25_inb k0_t3) (k0_off25_eq k0_t3)
    (k0_off26 k0_t3 v259 k) (k0_off26_inb k0_t3 v259 k0_hw3 k)
    (k0_off27 k0_t3 v259 k) (k0_off27_inb k0_t3 v259 k0_hw3 k)
    (k0_off28 k0_t3 v259 k) (k0_off28_inb k0_t3 v259 k0_hw3 k)
    (k0_off29 k0_t3 v259 k) (k0_off29_inb k0_t3 v259 k0_hw3 k) _ _ _ _ W)
  iexact H

end Trips

end Cert.KernelIdeal.Hand
-- ==== Proof.Ideal.Slots.lean ====
module

public import proofs.«01_k».proof.Proof.Ideal.Trips

@[expose] public section

set_option maxRecDepth 16384
set_option maxHeartbeats 4000000

/-! A slot of the double buffers: free, with a unit's copies in flight, or filled; and the steps between. -/

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

section Slots
variable (c : Dev nD) (arg1 : Memref sig .tc .hbm S6x2304x4x128 .i32) (arg2 : Memref sig .tc .hbm S6x16x8x2304 .f32)
variable (arg8 : Memref sig .tc .vmem S2x9x256x128 .i32) (arg9 : Memref sig .tc .vmem S2x9x4x8x256 .f32) (arg16 : DmaSems sig S2)
variable (X1 : BufTy.Contents (Elt F) arg1.view.ty) (X2 : BufTy.Contents (Elt F) arg2.view.ty)

/-- The share of the operands that slot `u % 2` reads with. -/
def shr (u : ℕ) : PosShare TreeShare := if u % 2 = 0 then fullShare.left else fullShare.right

/-- Slot `u % 2` with nothing in flight. -/
def Free (u : ℕ) : sProp 𝕄 :=
  iprop(bigSep Finset.univ (fun i : Fin 9 => Dst (F := F) c arg8 arg9 u i.val) ∗ Ops c arg1 arg2 X1 X2 (shr u)
    ∗ semVal ((c : Thread nD τ), SemLoc.dma (cellOf arg16 u)) 0)

/-- Slot `u % 2` with the `n` chunks of unit `u` in flight. -/
def Busy (u n : ℕ) : sProp 𝕄 :=
  iprop(StartInv c arg1 arg2 arg8 arg9 arg16 X1 X2 (shr u) u n n ∗ Rest c arg1 arg2 X1 X2 (shr u) u)

/-- A filled chunk of unit `u`. -/
def Got (u i : ℕ) : sProp 𝕄 := iprop(Got1 c arg1 arg8 X1 (shr u) u i ∗ Got2 c arg2 arg9 X2 (shr u) u i)

/-- Slot `u % 2` with the `n` chunks of unit `u` filled. -/
def Ready (u n : ℕ) : sProp 𝕄 :=
  iprop(bigSep (Ring.rangeSet 9 0 n) (fun i => Got c arg1 arg2 arg8 arg9 X1 X2 u i.val)
    ∗ bigSep (Ring.rangeSet 9 n 9) (fun i => iprop(Src c arg1 arg2 X1 X2 (shr u) u i.val ∗ Dst (F := F) c arg8 arg9 u i.val))
    ∗ Rest c arg1 arg2 X1 X2 (shr u) u ∗ semVal ((c : Thread nD τ), SemLoc.dma (cellOf arg16 u)) 0)

theorem B1_congr (m : Memref sig .tc .vmem S2x9x256x128 .i32) (s s' i : ℕ) (h : s % 2 = s' % 2) : B1 m s i = B1 m s' i := by
  have e : oB1 s i = oB1 s' i := by simp only [oB1, h]
  have key : ∀ (o o' : Fin 4 → ℕ) (ho ho'), o = o' → mB1 m o ho = mB1 m o' ho' := by intro o o' ho ho' e; subst e; rfl
  exact key _ _ _ _ e
theorem B2_congr (m : Memref sig .tc .vmem S2x9x4x8x256 .f32) (s s' i : ℕ) (h : s % 2 = s' % 2) : B2 m s i = B2 m s' i := by
  have e : oB2 s i = oB2 s' i := by simp only [oB2, h]
  have key : ∀ (o o' : Fin 5 → ℕ) (ho ho'), o = o' → mB2 m o ho = mB2 m o' ho' := by intro o o' ho ho' e; subst e; rfl
  exact key _ _ _ _ e
theorem cell_congr (m : DmaSems sig S2) (s s' : ℕ) (h : s % 2 = s' % 2) : cellOf m s = cellOf m s' := by
  have e : oC s = oC s' := by simp only [oC, h]
  have key : ∀ (o o' : Fin 1 → ℕ) (ho ho'), o = o' → cell m o ho = cell m o' ho' := by intro o o' ho ho' e; subst e; rfl
  exact key _ _ _ _ e

theorem Dst_congr (s s' i : ℕ) (h : s % 2 = s' % 2) : Dst (F := F) c arg8 arg9 s i = Dst (F := F) c arg8 arg9 s' i := by
  unfold Dst
  have k1 : ∀ (m m' : Memref sig .tc .vmem S256x128 .i32), m = m' → (iprop(∃ f, m.view.loc (c : Thread nD τ) ↦[m.view.set]{fullShare} f) : sProp 𝕄)
    = iprop(∃ f, m'.view.loc (c : Thread nD τ) ↦[m'.view.set]{fullShare} f) := by intro m m' e; subst e; rfl
  have k2 : ∀ (m m' : Memref sig .tc .vmem S4x8x256 .f32), m = m' → (iprop(∃ f, m.view.loc (c : Thread nD τ) ↦[m.view.set]{fullShare} f) : sProp 𝕄)
    = iprop(∃ f, m'.view.loc (c : Thread nD τ) ↦[m'.view.set]{fullShare} f) := by intro m m' e; subst e; rfl
  exact congrArg₂ (fun P Q => iprop(P ∗ Q)) (k1 _ _ (B1_congr arg8 s s' i h)) (k2 _ _ (B2_congr arg9 s s' i h))

/-- Which slot is free depends on the unit's parity alone. -/
theorem Free_congr (u u' : ℕ) (h : u % 2 = u' % 2) :
    Free c arg1 arg2 arg8 arg9 arg16 X1 X2 u = Free c arg1 arg2 arg8 arg9 arg16 X1 X2 u' := by
  unfold Free shr
  rw [h, cell_congr arg16 u u' h, show (fun i : Fin 9 => Dst (F := F) c arg8 arg9 u i.val) = (fun i : Fin 9 => Dst (F := F) c arg8 arg9 u' i.val) from
    funext fun i => Dst_congr c arg8 arg9 u u' i h]

/-- A free slot is ready for the loop that starts a unit's copies. -/
theorem Free_start (u n : ℕ) :
    Free c arg1 arg2 arg8 arg9 arg16 X1 X2 u
      ⊢ (|={Set.univ}=> iprop(StartInv c arg1 arg2 arg8 arg9 arg16 X1 X2 (shr u) u n 0 ∗ Rest c arg1 arg2 X1 X2 (shr u) u) : sProp 𝕄) := by
  unfold Free
  iintro ⟨HD, HO, HS⟩
  ihave HO := (Ops_split c arg1 arg2 X1 X2 (shr u) u).1 $$ HO
  icases HO with ⟨HS1, HR⟩
  imod (Transfers.mixedBatch_alloc' (countersEmb (nD := nD) (τ := τ) (sig := sig) (Ix := Unit) (Val := Elt F) (Name := ℕ) (U := Pipeline.UD sig nD τ) (Lvl := ℕ)) (c : Thread nD τ) () (amt arg8 arg9 n)
    (Ring.interleaved n (Got1 c arg1 arg8 X1 (shr u) u) (Got2 c arg2 arg9 X2 (shr u) u)) (sm := SemLoc.dma (cellOf arg16 u)) (E := Set.univ)) $$ HS with HB
  imodintro
  isplitl [HD HS1 HB]
  · unfold StartInv Bat
    isplitl [HD HS1]
    · rw [Ring.rangeSet_univ]
      iapply (Entails.of_eq (bigSep_sep Finset.univ _ _).symm)
      refine (show iprop(_ ∗ _) ⊢ iprop(_ ∗ _) from ?_)
      iintro ⟨H1, H2⟩
      isplitl [H2]; · iexact H2
      iexact H1
    · iexact HB
  · iexact HR

/-- Every copy waited for, the slot is filled. -/
theorem Busy_collect (u n : ℕ) (hn : n ≤ 9) :
    iprop(Transfers.MixedBatch (countersEmb (nD := nD) (τ := τ) (sig := sig) (Ix := Unit) (Val := Elt F) (Name := ℕ) (U := Pipeline.UD sig nD τ) (Lvl := ℕ)) (c : Thread nD τ) (SemLoc.dma (cellOf arg16 u)) () (amt arg8 arg9 n)
        (Ring.interleaved n (Got1 c arg1 arg8 X1 (shr u) u) (Got2 c arg2 arg9 X2 (shr u) u)) (2 * n) (Transfers.sumTo (amt arg8 arg9 n) (2 * n))
      ∗ bigSep (Ring.rangeSet 9 n 9) (fun i => iprop(Src c arg1 arg2 X1 X2 (shr u) u i.val ∗ Dst (F := F) c arg8 arg9 u i.val))
      ∗ Rest c arg1 arg2 X1 X2 (shr u) u)
      ⊢ (|={Set.univ}=> Ready c arg1 arg2 arg8 arg9 arg16 X1 X2 u n : sProp 𝕄) := by
  iintro ⟨HB, HD, HR⟩
  imod (Transfers.mixedBatch_collect' (countersEmb (nD := nD) (τ := τ) (sig := sig) (Ix := Unit) (Val := Elt F) (Name := ℕ) (U := Pipeline.UD sig nD τ) (Lvl := ℕ)) (c : Thread nD τ) (sm := SemLoc.dma (cellOf arg16 u)) (ι := ()) (amt_pos arg8 arg9 n)) $$ HB with ⟨HG, HS⟩
  imodintro
  unfold Ready
  isplitl [HG]
  · have e1 := Ring.bigSep_interleaved n (Got1 c arg1 arg8 X1 (shr u) u) (Got2 c arg2 arg9 X2 (shr u) u)
    have e2 := Ring.bigSep_rangeSet_eq_range (NB := 9) (lo := 0) (hi := n) hn (Φ := fun i : Fin 9 => Got c arg1 arg2 arg8 arg9 X1 X2 u i.val)
      (fun i => Got c arg1 arg2 arg8 arg9 X1 X2 u i) (fun k h => by simp only [Nat.zero_add])
    rw [e2, Nat.sub_zero]
    iapply (show iprop(bigSep (Finset.range n) (Got1 c arg1 arg8 X1 (shr u) u) ∗ bigSep (Finset.range n) (Got2 c arg2 arg9 X2 (shr u) u))
      ⊢ bigSep (Finset.range n) (fun i => Got c arg1 arg2 arg8 arg9 X1 X2 u i) from Entails.of_eq (bigSep_sep (Finset.range n) _ _).symm)
    iapply (Entails.of_eq e1); iexact HG
  · isplitl [HD]; · iexact HD
    isplitl [HR]; · iexact HR
    iexact HS

/-- The copies all started, the loop that waits for them may begin. -/
theorem StartInv_wait (q : PosShare TreeShare) (u n : ℕ) (W : Waits sig Unit) :
    iprop(StartInv c arg1 arg2 arg8 arg9 arg16 X1 X2 q u n n ∗ owes (c : Thread nD τ) 0 W)
      ⊢ iprop(bigSep (Ring.rangeSet 9 n 9) (fun i => iprop(Src c arg1 arg2 X1 X2 q u i.val ∗ Dst (F := F) c arg8 arg9 u i.val))
        ∗ WaitInv c arg1 arg2 arg8 arg9 arg16 X1 X2 q u n 0) := by
  unfold StartInv WaitInv
  iintro ⟨⟨H1, H2⟩, HO⟩
  isplitl [H1]; · iexact H1
  iexists W
  isplitl [H2]
  · iapply (show Bat c arg1 arg2 arg8 arg9 arg16 X1 X2 q u n (2 * n) 0 ⊢ Bat c arg1 arg2 arg8 arg9 arg16 X1 X2 q u n (2 * n) (Transfers.sumTo (amt arg8 arg9 n) (2 * 0)) from .rfl)
    iexact H2
  · iexact HO

/-- The waits over, the slot is filled. -/
theorem WaitInv_collect (u n k : ℕ) (hn : n ≤ 9) (hk : k = n) :
    iprop(WaitInv c arg1 arg2 arg8 arg9 arg16 X1 X2 (shr u) u n k
      ∗ bigSep (Ring.rangeSet 9 n 9) (fun i => iprop(Src c arg1 arg2 X1 X2 (shr u) u i.val ∗ Dst (F := F) c arg8 arg9 u i.val))
      ∗ Rest c arg1 arg2 X1 X2 (shr u) u)
      ⊢ (|={Set.univ}=> iprop(Ready c arg1 arg2 arg8 arg9 arg16 X1 X2 u n ∗ ∃ W, owes (c : Thread nD τ) 0 W) : sProp 𝕄) := by
  subst hk
  unfold WaitInv Bat
  iintro ⟨⟨%W, HB, HO⟩, HD, HR⟩
  imod (Busy_collect c arg1 arg2 arg8 arg9 arg16 X1 X2 u k hn) $$ [HB HD HR] with HY
  · isplitl [HB]
    · iexact HB
    isplitl [HD]; · iexact HD
    iexact HR
  imodintro
  isplitl [HY]; · iexact HY
  iexists W; iexact HO

theorem Got_open (u i : ℕ) :
    Got c arg1 arg2 arg8 arg9 X1 X2 u i ⊢ (iprop(Src c arg1 arg2 X1 X2 (shr u) u i ∗ Dst (F := F) c arg8 arg9 u i) : sProp 𝕄) := by
  unfold Got Got1 Got2 Src Dst
  iintro ⟨⟨H1, H2⟩, H3, H4⟩
  isplitl [H2 H4]
  · isplitl [H2]; · iexact H2
    iexact H4
  · isplitl [H1]; · iexists _; iexact H1
    iexists _; iexact H3

/-- A filled slot is free again. -/
theorem Ready_free (u n : ℕ) (hn : n ≤ 9) :
    Ready c arg1 arg2 arg8 arg9 arg16 X1 X2 u n ⊢ Free c arg1 arg2 arg8 arg9 arg16 X1 X2 u := by
  unfold Ready Free
  iintro ⟨HG, HD, HR, HS⟩
  ihave HG := (show bigSep (Ring.rangeSet 9 0 n) (fun i : Fin 9 => Got c arg1 arg2 arg8 arg9 X1 X2 u i.val)
    ⊢ bigSep (Ring.rangeSet 9 0 n) (fun i : Fin 9 => iprop(Src c arg1 arg2 X1 X2 (shr u) u i.val ∗ Dst (F := F) c arg8 arg9 u i.val)) from
      bigSep_mono fun i _ => Got_open c arg1 arg2 arg8 arg9 X1 X2 u i.val) $$ HG
  have e0 := Ring.bigSep_rangeSet_split (NB := 9) (Φ := fun i : Fin 9 => iprop(Src c arg1 arg2 X1 X2 (shr u) u i.val ∗ Dst (F := F) c arg8 arg9 u i.val)) (Nat.zero_le n) hn
  rw [Ring.rangeSet_univ] at e0
  have e1 : bigSep Finset.univ (fun i : Fin 9 => iprop(Src c arg1 arg2 X1 X2 (shr u) u i.val ∗ Dst (F := F) c arg8 arg9 u i.val))
    = iprop(bigSep Finset.univ (fun i : Fin 9 => Src c arg1 arg2 X1 X2 (shr u) u i.val) ∗ bigSep Finset.univ (fun i : Fin 9 => Dst (F := F) c arg8 arg9 u i.val)) :=
    bigSep_sep Finset.univ _ _
  ihave H := (Entails.of_eq (e0.symm.trans e1)) $$ [HG HD]
  · isplitl [HG]; · iexact HG
    iexact HD
  icases H with ⟨H1, H2⟩
  isplitl [H2]; · iexact H2
  isplitl [H1 HR]
  · iapply (Ops_split c arg1 arg2 X1 X2 (shr u) u).2
    isplitl [H1]; · iexact H1
    iexact HR
  · iexact HS

/-- A filled slot with chunk `i` taken out, to be put back as it was. -/
theorem Ready_focus (u n i : ℕ) (hi : i < n) (hn : n ≤ 9) :
    bigSep (Ring.rangeSet 9 0 n) (fun i => Got c arg1 arg2 arg8 arg9 X1 X2 u i.val)
      ⊢ (iprop(Got c arg1 arg2 arg8 arg9 X1 X2 u i ∗ (Got c arg1 arg2 arg8 arg9 X1 X2 u i -∗ bigSep (Ring.rangeSet 9 0 n) (fun i => Got c arg1 arg2 arg8 arg9 X1 X2 u i.val))) : sProp 𝕄) := by
  have hm : (⟨i, by omega⟩ : Fin 9) ∈ Ring.rangeSet 9 0 n := (Ring.mem_rangeSet 0 n _).mpr ⟨Nat.zero_le _, hi⟩
  have e : bigSep (Ring.rangeSet 9 0 n) (fun i => Got c arg1 arg2 arg8 arg9 X1 X2 u i.val)
    = iprop(Got c arg1 arg2 arg8 arg9 X1 X2 u i ∗ bigSep ((Ring.rangeSet 9 0 n).erase ⟨i, by omega⟩) (fun i => Got c arg1 arg2 arg8 arg9 X1 X2 u i.val)) :=
    Eq.trans (congrArg (fun s => bigSep s (fun i : Fin 9 => Got c arg1 arg2 arg8 arg9 X1 X2 u i.val)) (Finset.insert_erase hm).symm) (bigSep_insert (Finset.notMem_erase _ _))
  rw [e]
  iintro ⟨H1, H2⟩
  isplitl [H1]; · iexact H1
  iintro H1
  isplitl [H1]; · iexact H1
  iexact H2

end Slots

end Cert.KernelIdeal.Hand
-- ==== Proof.Ideal.TripK.lean ====
module

public import proofs.«01_k».proof.Proof.Ideal.Copies

@[expose] public section

set_option maxRecDepth 16384
set_option maxHeartbeats 4000000

/-! One chunk of a unit: its keys rebuilt, rotated and dotted with the queries, into one row of the score buffer. -/

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

theorem acc35 (m : Memref sig .tc .vmem S2x9x256x128 .i32) (t : Fin k0_t3_loop.trips) (v : BitVec 32) (hF : Fits v) (k : Fin (k0_t8_loop v).trips)
    (h : ∀ a, k0_off35 t v k a + S1x1x256x128.size a ≤ S2x9x256x128.size a) :
    (m.access (Rect.unit (s := S2x9x256x128) (k0_off35 t v k) S1x1x256x128.size h)).set ⊆ (B1 m t k).view.set := by
  have e := off35_eq t v hF k
  generalize k0_off35 t v k = o at h e
  subst e
  rw [B1_set]
  exact (View.set_slice _ _).le

theorem acc9 (m : Memref sig .tc .vmem S2x9x4x8x256 .f32) (t k g : ℕ) (hg : g < 4) (o : Fin 5 → ℕ) (e : o = ![t % 2, k % 9, g, 0, 0])
    (h : ∀ a, o a + S1x1x1x8x256.size a ≤ S2x9x4x8x256.size a) :
    (m.access (Rect.unit (s := S2x9x4x8x256) o S1x1x1x8x256.size h)).set ⊆ (B2 m t k).view.set := by
  subst e
  rw [B2_set]
  refine (View.set_slice _ _).le.trans (Finset.map_subset_map.mpr fun x hx => ?_)
  have hx := Rect.mem_set_unit.mp hx
  refine Rect.mem_set_unit.mpr fun a => ?_
  have := hx a
  fin_cases a <;> simp at this ⊢ <;> omega

/-- The trip's row of scores, and the run of the trip that stores it. -/
@[irreducible] def tripK (c : Dev nD) (bd : Option Variants.none.V) (arg0 : Memref sig .tc .smem S6 .i32) (harg0 : arg0.IsWhole) (arg1 : Memref sig .tc .hbm S6x2304x4x128 .i32) (harg1 : arg1.IsWhole) (arg2 : Memref sig .tc .hbm S6x16x8x2304 .f32) (harg2 : arg2.IsWhole) (arg3 : Memref sig .tc .vmem S6x64x128 .f32) (harg3 : arg3.IsWhole) (arg4 : Memref sig .tc .vmem S16x256x512 .bf16) (harg4 : arg4.IsWhole) (arg5 : Memref sig .tc .vmem S54x64x256 .f32) (harg5 : arg5.IsWhole) (arg6 : Memref sig .tc .vmem S54x64x256 .f32) (harg6 : arg6.IsWhole) (arg7 : Memref sig .tc .vmem S6x64x2304 .f32) (harg7 : arg7.IsWhole) (arg8 : Memref sig .tc .vmem S2x9x256x128 .i32) (harg8 : arg8.IsWhole) (arg9 : Memref sig .tc .vmem S2x9x4x8x256 .f32) (harg9 : arg9.IsWhole) (arg10 : Memref sig .tc .vmem S16x512x256 .bf16) (harg10 : arg10.IsWhole) (arg11 : Memref sig .tc .vmem S2x512x128 .i32) (harg11 : arg11.IsWhole) (arg12 : Memref sig .tc .vmem S4x8x256 .f32) (harg12 : arg12.IsWhole) (arg13 : Memref sig .tc .vmem S2048x256 .bf16) (harg13 : arg13.IsWhole) (arg14 : Memref sig .tc .vmem S9x16x256 .f32) (harg14 : arg14.IsWhole) (arg15 : Memref sig .tc .vmem S16x2048 .bf16) (harg15 : arg15.IsWhole) (arg16 : DmaSems sig S2)
    (k0_t3 : Fin k0_t3_loop.trips) (arg17 v110 v111 v112 : BitVec 32) (v114 : Elt F .i32) (k0_hw4 : k0_chk4 k0_t3 v114) (hF : Fits v114) (v116 : BitVec 32) (v118 : Elt F .i32)
    (X5 : BufTy.Contents (Elt F) arg5.view.ty) (X6 : BufTy.Contents (Elt F) arg6.view.ty) (X8 : BufTy.Contents (Elt F) arg8.view.ty) (X9 : BufTy.Contents (Elt F) arg9.view.ty)
    (X10 : BufTy.Contents (Elt F) arg10.view.ty) (X15 : BufTy.Contents (Elt F) arg15.view.ty) (k : Fin (k0_t8_loop v114).trips) (acc : BitVec 32) :
    Σ' (V : S1x16x256.Idx → Elt F .f32), PLift (∀ (f11 : BufTy.Contents (Elt F) arg11.view.ty) (f12 : BufTy.Contents (Elt F) arg12.view.ty)
      (f13 : BufTy.Contents (Elt F) arg13.view.ty) (f14 : BufTy.Contents (Elt F) arg14.view.ty),
    (iprop((arg5.view.loc (c : Thread nD τ) ↦[arg5.view.set]{fullShare} X5) ∗ (arg6.view.loc (c : Thread nD τ) ↦[arg6.view.set]{fullShare} X6)
       ∗ ((B1 arg8 k0_t3 k).view.loc (c : Thread nD τ) ↦[(B1 arg8 k0_t3 k).view.set]{fullShare} X8)
       ∗ ((B2 arg9 k0_t3 k).view.loc (c : Thread nD τ) ↦[(B2 arg9 k0_t3 k).view.set]{fullShare} X9)
       ∗ (arg10.view.loc (c : Thread nD τ) ↦[arg10.view.set]{fullShare} X10) ∗ (arg15.view.loc (c : Thread nD τ) ↦[arg15.view.set]{fullShare} X15)
       ∗ (arg11.view.loc (c : Thread nD τ) ↦[arg11.view.set]{fullShare} f11) ∗ (arg12.view.loc (c : Thread nD τ) ↦[arg12.view.set]{fullShare} f12)
       ∗ (arg13.view.loc (c : Thread nD τ) ↦[arg13.view.set]{fullShare} f13) ∗ (arg14.view.loc (c : Thread nD τ) ↦[arg14.view.set]{fullShare} f14)) : sProp 𝕄)
      ⊢ wp Idealize.ShloMosaic.frame (wpE (defs₀ (F := F)) Variants.none (c : Thread nD τ) bd) Set.univ (k0_t8_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 k0_t3 arg17 v110 v111 v112 v114 k0_hw4 v116 v118 k acc)
          (fun _ => iprop((arg5.view.loc (c : Thread nD τ) ↦[arg5.view.set]{fullShare} X5) ∗ (arg6.view.loc (c : Thread nD τ) ↦[arg6.view.set]{fullShare} X6)
       ∗ ((B1 arg8 k0_t3 k).view.loc (c : Thread nD τ) ↦[(B1 arg8 k0_t3 k).view.set]{fullShare} X8)
       ∗ ((B2 arg9 k0_t3 k).view.loc (c : Thread nD τ) ↦[(B2 arg9 k0_t3 k).view.set]{fullShare} X9)
       ∗ (arg10.view.loc (c : Thread nD τ) ↦[arg10.view.set]{fullShare} X10) ∗ (arg15.view.loc (c : Thread nD τ) ↦[arg15.view.set]{fullShare} X15)
       ∗ (∃ f, arg11.view.loc (c : Thread nD τ) ↦[arg11.view.set]{fullShare} f) ∗ (∃ f, arg12.view.loc (c : Thread nD τ) ↦[arg12.view.set]{fullShare} f)
       ∗ (∃ f, arg13.view.loc (c : Thread nD τ) ↦[arg13.view.set]{fullShare} f)
       ∗ (arg14.view.loc (c : Thread nD τ) ↦[arg14.view.set]{fullShare} arg14.view.writes (Elt F) f14
            [⟨Rect.unit (s := S9x16x256) (k0_off42 v114 k) S1x16x256.size (k0_off42_inb k0_t3 v114 k0_hw4 k), V⟩])))) := by
  refine ⟨?_, ⟨?_⟩⟩
  case refine_2 =>
    intro f11 f12 f13 f14
    have h8 : (arg8.access (Rect.unit (s := S2x9x256x128) (k0_off35 k0_t3 v114 k) S1x1x256x128.size (k0_off35_inb k0_t3 v114 k0_hw4 k))).set ⊆ (B1 arg8 k0_t3 k).view.set :=
      acc35 arg8 k0_t3 v114 hF k _
    have h90 : (arg9.access (Rect.unit (s := S2x9x4x8x256) (k0_off36 k0_t3 v114 k) S1x1x1x8x256.size (k0_off36_inb k0_t3 v114 k0_hw4 k))).set ⊆ (B2 arg9 k0_t3 k).view.set :=
      acc9 arg9 k0_t3 k 0 (by omega) _ (off36_eq k0_t3 v114 hF k) _
    have h91 : (arg9.access (Rect.unit (s := S2x9x4x8x256) (k0_off37 k0_t3 v114 k) S1x1x1x8x256.size (k0_off37_inb k0_t3 v114 k0_hw4 k))).set ⊆ (B2 arg9 k0_t3 k).view.set :=
      acc9 arg9 k0_t3 k 1 (by omega) _ (off37_eq k0_t3 v114 hF k) _
    have h92 : (arg9.access (Rect.unit (s := S2x9x4x8x256) (k0_off38 k0_t3 v114 k) S1x1x1x8x256.size (k0_off38_inb k0_t3 v114 k0_hw4 k))).set ⊆ (B2 arg9 k0_t3 k).view.set :=
      acc9 arg9 k0_t3 k 2 (by omega) _ (off38_eq k0_t3 v114 hF k) _
    have h93 : (arg9.access (Rect.unit (s := S2x9x4x8x256) (k0_off39 k0_t3 v114 k) S1x1x1x8x256.size (k0_off39_inb k0_t3 v114 k0_hw4 k))).set ⊆ (B2 arg9 k0_t3 k).view.set :=
      acc9 arg9 k0_t3 k 3 (by omega) _ (off39_eq k0_t3 v114 hF k) _
    unfold k0_t8_body
    iintro ⟨HR5, HR6, HR8, HR9, HR10, HR15, HW11, HW12, HW13, HW14⟩
    sl_exec
    sl_step
    isplitl [HR5]; · iexact HR5
    isplitl [HR6]; · iexact HR6
    isplitl [HR8]; · iexact HR8
    isplitl [HR9]; · iexact HR9
    isplitl [HR10]; · iexact HR10
    isplitl [HR15]; · iexact HR15
    isplitl [HW11]; · iexists _; iexact HW11
    isplitl [HW12]; · iexists _; iexact HW12
    isplitl [HW13]; · iexists _; iexact HW13
    iexact HW14

end Cert.KernelIdeal.Hand
-- ==== Proof.Ideal.KLoop.lean ====
module

public import proofs.«01_k».proof.Proof.Ideal.Slots
public import proofs.«01_k».proof.Proof.Ideal.TripK
public import Idealize.ShloMosaic.Lib.WritesUnit
public import Idealize.ShloMosaic.Lib.Pointwise.Index

@[expose] public section

set_option maxRecDepth 16384
set_option maxHeartbeats 4000000

/-! The loop over a unit's chunks: what it has written of the scores after `k` chunks. -/

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

section KLoop
variable (c : Dev nD) (bd : Option Variants.none.V) (arg0 : Memref sig .tc .smem S6 .i32) (harg0 : arg0.IsWhole) (arg1 : Memref sig .tc .hbm S6x2304x4x128 .i32) (harg1 : arg1.IsWhole) (arg2 : Memref sig .tc .hbm S6x16x8x2304 .f32) (harg2 : arg2.IsWhole) (arg3 : Memref sig .tc .vmem S6x64x128 .f32) (harg3 : arg3.IsWhole) (arg4 : Memref sig .tc .vmem S16x256x512 .bf16) (harg4 : arg4.IsWhole) (arg5 : Memref sig .tc .vmem S54x64x256 .f32) (harg5 : arg5.IsWhole) (arg6 : Memref sig .tc .vmem S54x64x256 .f32) (harg6 : arg6.IsWhole) (arg7 : Memref sig .tc .vmem S6x64x2304 .f32) (harg7 : arg7.IsWhole) (arg8 : Memref sig .tc .vmem S2x9x256x128 .i32) (harg8 : arg8.IsWhole) (arg9 : Memref sig .tc .vmem S2x9x4x8x256 .f32) (harg9 : arg9.IsWhole) (arg10 : Memref sig .tc .vmem S16x512x256 .bf16) (harg10 : arg10.IsWhole) (arg11 : Memref sig .tc .vmem S2x512x128 .i32) (harg11 : arg11.IsWhole) (arg12 : Memref sig .tc .vmem S4x8x256 .f32) (harg12 : arg12.IsWhole) (arg13 : Memref sig .tc .vmem S2048x256 .bf16) (harg13 : arg13.IsWhole) (arg14 : Memref sig .tc .vmem S9x16x256 .f32) (harg14 : arg14.IsWhole) (arg15 : Memref sig .tc .vmem S16x2048 .bf16) (harg15 : arg15.IsWhole) (arg16 : DmaSems sig S2)
  (X1 : BufTy.Contents (Elt F) arg1.view.ty) (X2 : BufTy.Contents (Elt F) arg2.view.ty)
  (k0_t3 : Fin k0_t3_loop.trips) (arg17 v110 v111 v112 : BitVec 32) (v114 : Elt F .i32) (k0_hw4 : k0_chk4 k0_t3 v114) (hF : Fits v114) (v116 : BitVec 32) (v118 : Elt F .i32)
  (X5 : BufTy.Contents (Elt F) arg5.view.ty) (X6 : BufTy.Contents (Elt F) arg6.view.ty)
  (X10 : BufTy.Contents (Elt F) arg10.view.ty) (X15 : BufTy.Contents (Elt F) arg15.view.ty)

/-- The scores of chunk `i`: the trip's, for a chunk the unit has; nothing in particular after them. -/
def Row (i : ℕ) : S1x16x256.Idx → Elt F .f32 :=
  if h : i < (k0_t8_loop v114).trips then
    (tripK c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 k0_t3 arg17 v110 v111 v112 v114 k0_hw4 hF v116 v118 X5 X6
      ((B1 arg8 k0_t3 i).view.rep ((S1b arg1 k0_t3 i).view.read (Elt F) X1)) ((B2 arg9 k0_t3 i).view.rep ((S2b arg2 k0_t3 i).view.read (Elt F) X2))
      X10 X15 ⟨i, h⟩ 0#32).1
  else fun _ => Scalar.ofBits .f32 0#32

/-- The first `k` chunks' scores have been written. -/
def Scored (k : ℕ) (f14 : BufTy.Contents (Elt F) arg14.view.ty) : Prop :=
  ∀ (i : Fin 9) (a : Fin 16) (b : Fin 256), i.val < k → arg14.view.read (Elt F) f14 (ix3 i a b : S9x16x256.Idx)
    = Row c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 X1 X2 k0_t3 arg17 v110 v111 v112 v114 k0_hw4 hF v116 v118 X5 X6 X10 X15 i.val (ix3 0 a b)

/-- What holds before trip `k`. -/
def KInv (k : ℕ) : sProp 𝕄 :=
  iprop((arg5.view.loc (c : Thread nD τ) ↦[arg5.view.set]{fullShare} X5) ∗ (arg6.view.loc (c : Thread nD τ) ↦[arg6.view.set]{fullShare} X6)
    ∗ (arg10.view.loc (c : Thread nD τ) ↦[arg10.view.set]{fullShare} X10) ∗ (arg15.view.loc (c : Thread nD τ) ↦[arg15.view.set]{fullShare} X15)
    ∗ bigSep (Ring.rangeSet 9 0 (nch v114)) (fun i => Got c arg1 arg2 arg8 arg9 X1 X2 k0_t3 i.val)
    ∗ (∃ f, arg11.view.loc (c : Thread nD τ) ↦[arg11.view.set]{fullShare} f) ∗ (∃ f, arg12.view.loc (c : Thread nD τ) ↦[arg12.view.set]{fullShare} f)
    ∗ (∃ f, arg13.view.loc (c : Thread nD τ) ↦[arg13.view.set]{fullShare} f)
    ∗ (∃ f14, ⌜Scored c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 X1 X2 k0_t3 arg17 v110 v111 v112 v114 k0_hw4 hF v116 v118 X5 X6 X10 X15 k f14⌝
        ∗ (arg14.view.loc (c : Thread nD τ) ↦[arg14.view.set]{fullShare} f14)))

theorem Scored_step (k : Fin (k0_t8_loop v114).trips) (f14 : BufTy.Contents (Elt F) arg14.view.ty) (V : S1x16x256.Idx → Elt F .f32)
    (hV : Row c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 X1 X2 k0_t3 arg17 v110 v111 v112 v114 k0_hw4 hF v116 v118 X5 X6 X10 X15 k = V)
    (h : Scored c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 X1 X2 k0_t3 arg17 v110 v111 v112 v114 k0_hw4 hF v116 v118 X5 X6 X10 X15 k f14) :
    Scored c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 X1 X2 k0_t3 arg17 v110 v111 v112 v114 k0_hw4 hF v116 v118 X5 X6 X10 X15 (k + 1)
      (arg14.view.writes (Elt F) f14 [⟨Rect.unit (s := S9x16x256) (k0_off42 v114 k) S1x16x256.size (k0_off42_inb k0_t3 v114 k0_hw4 k), V⟩]) := by
  intro i a b hi
  by_cases hik : i.val = k.val
  · refine (View.read_writes_cons_unit_of_mem arg14.view f14 _ V [] (ix3 i a b : S9x16x256.Idx) (ix3 0 a b) (off42_eq v114 hF k) ?_).trans ?_
    · intro j; fin_cases j <;> simp <;> omega
    · rw [hik, hV]
  · refine (View.read_writes_cons_unit_of_not_mem arg14.view f14 _ V [] (ix3 i a b : S9x16x256.Idx) (off42_eq v114 hF k) 0 ?_).trans ?_
    · simp [ix3_0]; omega
    · exact h i a b (by omega)

theorem trip8 (k : Fin (k0_t8_loop v114).trips) (acc : BitVec 32) :
    KInv c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 X1 X2 k0_t3 arg17 v110 v111 v112 v114 k0_hw4 hF v116 v118 X5 X6 X10 X15 k
      ⊢ wp Idealize.ShloMosaic.frame (wpE (defs₀ (F := F)) Variants.none (c : Thread nD τ) bd) Set.univ (k0_t8_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 k0_t3 arg17 v110 v111 v112 v114 k0_hw4 v116 v118 k acc)
        (fun _ => KInv c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 X1 X2 k0_t3 arg17 v110 v111 v112 v114 k0_hw4 hF v116 v118 X5 X6 X10 X15 (k + 1)) := by
  have hn := nch_le v114 hF
  have hk : k.val < nch v114 := k.isLt
  have hV : Row c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 X1 X2 k0_t3 arg17 v110 v111 v112 v114 k0_hw4 hF v116 v118 X5 X6 X10 X15 k = _ := dif_pos k.isLt
  rw [show k0_t8_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 k0_t3 arg17 v110 v111 v112 v114 k0_hw4 v116 v118 k acc = k0_t8_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 k0_t3 arg17 v110 v111 v112 v114 k0_hw4 v116 v118 k 0#32 from rfl]
  have run := (tripK c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 k0_t3 arg17 v110 v111 v112 v114 k0_hw4 hF v116 v118 X5 X6
      ((B1 arg8 k0_t3 k).view.rep ((S1b arg1 k0_t3 k).view.read (Elt F) X1)) ((B2 arg9 k0_t3 k).view.rep ((S2b arg2 k0_t3 k).view.read (Elt F) X2))
      X10 X15 k 0#32).2.down
  unfold KInv
  iintro ⟨H5, H6, H10, H15, HG, ⟨%f11, H11⟩, ⟨%f12, H12⟩, ⟨%f13, H13⟩, ⟨%f14, %hs, H14⟩⟩
  have hs' := Scored_step c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 X1 X2 k0_t3 arg17 v110 v111 v112 v114 k0_hw4 hF v116 v118 X5 X6 X10 X15 k f14 _ hV hs
  ihave HG := (Ready_focus c arg1 arg2 arg8 arg9 X1 X2 k0_t3 (nch v114) k hk hn) $$ HG
  icases HG with ⟨Hk, HG⟩
  unfold Got Got1 Got2
  icases Hk with ⟨⟨H8, Ha⟩, H9, Hb⟩
  iapply ((run f11 f12 f13 f14).trans (wp_wand _ _ _)) $$ [H5 H6 H8 H9 H10 H15 H11 H12 H13 H14]
  · isplitl [H5]; · iexact H5
    isplitl [H6]; · iexact H6
    isplitl [H8]; · iexact H8
    isplitl [H9]; · iexact H9
    isplitl [H10]; · iexact H10
    isplitl [H15]; · iexact H15
    isplitl [H11]; · iexact H11
    isplitl [H12]; · iexact H12
    isplitl [H13]; · iexact H13
    iexact H14
  · iintro %a ⟨H5, H6, H8, H9, H10, H15, H11, H12, H13, H14⟩
    isplitl [H5]; · iexact H5
    isplitl [H6]; · iexact H6
    isplitl [H10]; · iexact H10
    isplitl [H15]; · iexact H15
    isplitl [HG H8 Ha H9 Hb]
    · iapply HG
      isplitl [H8 Ha]
      · isplitl [H8]; · iexact H8
        iexact Ha
      · isplitl [H9]; · iexact H9
        iexact Hb
    isplitl [H11]; · iexact H11
    isplitl [H12]; · iexact H12
    isplitl [H13]; · iexact H13
    iexists _
    isplitr; · ipureintro; exact hs'
    iexact H14
end KLoop

end Cert.KernelIdeal.Hand
-- ==== Proof.Ideal.Out.lean ====
module

public import proofs.«01_k».proof.Proof.Ideal.Blocks
public import Idealize.ShloMosaic.Lib.WritesUnit
public import Idealize.ShloMosaic.Lib.Pointwise

@[expose] public section

set_option maxRecDepth 16384
set_option maxHeartbeats 4000000

/-! The masked rows of scores, and what a unit's nine stores leave in the output. -/

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- Chunk `i`'s rows as they are stored: scaled, and `-inf` past the length `v`. -/
def mrow (v : Elt F .i32) (i : ℕ) (r : Vec F S1x16x256 .f32) : FVec F S1x16x256 .f32 :=
  shapeCast S1x16x256 (select (cmpi .slt (addi (iota .tc S16x256 32 [1] iota_S16x256_d1_w32) (broadcast S16x256 (BitVec.ofNat 32 (256 * i)))) (broadcast S16x256 v))
    (mulf (shapeCast S16x256 r shapeCasts_S1x16x256_S16x256) (broadcast S16x256 (Scalar.ofBits .f32 0x3DB504F3#32 : F .f32)))
    (broadcast S16x256 (Scalar.ofBits .f32 0xFF800000#32 : F .f32))) shapeCasts_S16x256_S1x16x256

theorem mask_beyond (v : BitVec 32) (i : ℕ) (hi : i < 9) (h : v.toInt ≤ 256 * i) (y : S16x256.Idx) :
    cmpi .slt (addi (iota .tc S16x256 32 [1] iota_S16x256_d1_w32) (broadcast S16x256 (BitVec.ofNat 32 (256 * i)))) (broadcast S16x256 v) y = 0#1 := by
  have hy := (y 1).isLt
  have e : cmpi .slt (addi (iota .tc S16x256 32 [1] iota_S16x256_d1_w32) (broadcast S16x256 (BitVec.ofNat 32 (256 * i)))) (broadcast S16x256 v) y
    = BitVec.ofBool (BitVec.slt (BitVec.ofNat 32 (y 1).val + BitVec.ofNat 32 (256 * i)) v) := by
    have e1 : iota .tc S16x256 32 [1] iota_S16x256_d1_w32 y = BitVec.ofNat 32 (y 1).val := by
      rw [iota_apply]; simp
    show BitVec.ofBool (BitVec.slt (iota .tc S16x256 32 [1] iota_S16x256_d1_w32 y + BitVec.ofNat 32 (256 * i)) v) = _
    rw [e1]
  rw [e]
  have : BitVec.slt (BitVec.ofNat 32 (y 1).val + BitVec.ofNat 32 (256 * i)) v = false := by
    have hy' : (y 1).val < 256 := hy
    have e2 : (BitVec.ofNat 32 (y 1).val + BitVec.ofNat 32 (256 * i)).toInt = (y 1).val + 256 * i := by
      have e3 : (BitVec.ofNat 32 (y 1).val + BitVec.ofNat 32 (256 * i)).toNat = (y 1).val + 256 * i := by
        rw [← BitVec.ofNat_add, BitVec.toNat_ofNat, Nat.mod_eq_of_lt]; omega
      rw [BitVec.toInt_eq_toNat_of_lt (by rw [e3]; omega), e3]; omega
    rw [BitVec.slt, e2, decide_eq_false_iff_not]; omega
  rw [this]; rfl

/-- A chunk wholly past the length is stored the same whatever its scores. -/
theorem mrow_beyond (v : BitVec 32) (i : ℕ) (hi : i < 9) (h : v.toInt ≤ 256 * i) (r r' : Vec F S1x16x256 .f32) :
    mrow (F := F) v i r = mrow v i r' := by
  unfold mrow
  congr 1
  funext y
  simp only [select]
  rw [mask_beyond v i hi h y]
  rfl

/-- A chunk's loaded row is the scores written there. -/
theorem readAt14 (arg14 : Memref sig .tc .vmem S9x16x256 .f32) (f : BufTy.Contents (Elt F) arg14.view.ty) (i : Fin 9)
    (o : Fin 3 → ℕ) (h : ∀ a, o a + S1x16x256.size a ≤ S9x16x256.size a) (e : o = ![i.val, 0, 0]) (R : S1x16x256.Idx → Elt F .f32)
    (hR : ∀ a b, arg14.view.read (Elt F) f (ix3 i a b : S9x16x256.Idx) = R (ix3 0 a b)) :
    View.readAt (Elt F) arg14.view (Rect.unit (s := S9x16x256) o S1x16x256.size h).toLoadRect f = R := by
  subst e
  funext x
  have hx : x = ix3 0 (x 1) (x 2) := by
    funext j; fin_cases j
    · exact Fin.ext (by have := (x 0).isLt; simp at this ⊢; omega)
    · rfl
    · rfl
  refine Eq.trans ?_ ((hR (x 1) (x 2)).trans (congrArg R hx.symm))
  show arg14.view.read (Elt F) f _ = _
  congr 1
  funext j
  have h0 : (x 0).val = 0 := by have := (x 0).isLt; simp at this; omega
  fin_cases j <;> apply Fin.ext <;> simp [h0]

theorem in14 (i : Fin 9) : ∀ a, (![i.val, 0, 0] : Fin 3 → ℕ) a + S1x16x256.size a ≤ S9x16x256.size a := by
  intro a; fin_cases a <;> simp

/-- What is stored for chunk `i` from the buffer of scores, once the unit's chunks are in it. -/
theorem stored_eq (arg14 : Memref sig .tc .vmem S9x16x256 .f32) (f : BufTy.Contents (Elt F) arg14.view.ty) (w : Elt F .i32) (hF : Fits w)
    (R : ℕ → S1x16x256.Idx → Elt F .f32) (k : ℕ) (hk : k = nch w)
    (hs : ∀ (i : Fin 9) (a : Fin 16) (b : Fin 256), i.val < k → arg14.view.read (Elt F) f (ix3 i a b : S9x16x256.Idx) = R i.val (ix3 0 a b)) (i : Fin 9) :
    mrow (F := F) w i.val (View.readAt (Elt F) arg14.view (Rect.unit (s := S9x16x256) ![i.val, 0, 0] S1x16x256.size (in14 i)).toLoadRect f) = mrow w i.val (R i.val) := by
  subst hk
  by_cases h : i.val < nch w
  · rw [readAt14 arg14 f i ![i.val, 0, 0] (in14 i) rfl (R i.val) fun a b => hs i a b h]
  · exact mrow_beyond w i.val i.isLt (beyond w hF i.val (by omega)) _ _

section Stores
variable (arg7 : Memref sig .tc .vmem S6x64x2304 .f32) (U : Fin k0_t3_loop.trips → ℕ → S1x16x256.Idx → Elt F .f32)

/-- The first `k` units' blocks of the output are as `U` says. -/
def OutOK (k : ℕ) (f : BufTy.Contents (Elt F) arg7.view.ty) : Prop :=
  ∀ (u : Fin k0_t3_loop.trips) (i : Fin 9) (a : Fin 16) (b : Fin 256), u.val < k →
    arg7.view.read (Elt F) f (ix3 ⟨u.val % 6, by omega⟩ ⟨16 * (u.val / 6) + a.val, by have := t_lt u; omega⟩ ⟨256 * i.val + b.val, by omega⟩ : S6x64x2304.Idx)
      = U u i (ix3 0 a b)

theorem OutOK_step (t : Fin k0_t3_loop.trips) (f : BufTy.Contents (Elt F) arg7.view.ty) (h : OutOK arg7 U t f)
    (o0 o1 o2 o3 o4 o5 o6 o7 o8 : Fin 3 → ℕ)
    (h0 : ∀ a, o0 a + S1x16x256.size a ≤ S6x64x2304.size a) (h1 : ∀ a, o1 a + S1x16x256.size a ≤ S6x64x2304.size a)
    (h2 : ∀ a, o2 a + S1x16x256.size a ≤ S6x64x2304.size a) (h3 : ∀ a, o3 a + S1x16x256.size a ≤ S6x64x2304.size a)
    (h4 : ∀ a, o4 a + S1x16x256.size a ≤ S6x64x2304.size a) (h5 : ∀ a, o5 a + S1x16x256.size a ≤ S6x64x2304.size a)
    (h6 : ∀ a, o6 a + S1x16x256.size a ≤ S6x64x2304.size a) (h7 : ∀ a, o7 a + S1x16x256.size a ≤ S6x64x2304.size a)
    (h8 : ∀ a, o8 a + S1x16x256.size a ≤ S6x64x2304.size a)
    (e0 : o0 = ![t.val % 6, 16 * (t.val / 6), 0]) (e1 : o1 = ![t.val % 6, 16 * (t.val / 6), 256]) (e2 : o2 = ![t.val % 6, 16 * (t.val / 6), 512])
    (e3 : o3 = ![t.val % 6, 16 * (t.val / 6), 768]) (e4 : o4 = ![t.val % 6, 16 * (t.val / 6), 1024]) (e5 : o5 = ![t.val % 6, 16 * (t.val / 6), 1280])
    (e6 : o6 = ![t.val % 6, 16 * (t.val / 6), 1536]) (e7 : o7 = ![t.val % 6, 16 * (t.val / 6), 1792]) (e8 : o8 = ![t.val % 6, 16 * (t.val / 6), 2048])
    (W : Fin 9 → S1x16x256.Idx → Elt F .f32) (hW : ∀ i a b, W i (ix3 0 a b) = U t i.val (ix3 0 a b)) :
    OutOK arg7 U (t + 1) (arg7.view.writes (Elt F) f
      [⟨Rect.unit (s := S6x64x2304) o8 S1x16x256.size h8, W 8⟩, ⟨Rect.unit (s := S6x64x2304) o7 S1x16x256.size h7, W 7⟩,
       ⟨Rect.unit (s := S6x64x2304) o6 S1x16x256.size h6, W 6⟩, ⟨Rect.unit (s := S6x64x2304) o5 S1x16x256.size h5, W 5⟩,
       ⟨Rect.unit (s := S6x64x2304) o4 S1x16x256.size h4, W 4⟩, ⟨Rect.unit (s := S6x64x2304) o3 S1x16x256.size h3, W 3⟩,
       ⟨Rect.unit (s := S6x64x2304) o2 S1x16x256.size h2, W 2⟩, ⟨Rect.unit (s := S6x64x2304) o1 S1x16x256.size h1, W 1⟩,
       ⟨Rect.unit (s := S6x64x2304) o0 S1x16x256.size h0, W 0⟩]) := by
  subst e0 e1 e2 e3 e4 e5 e6 e7 e8
  have ht := t_lt t
  rintro ⟨u, hu24⟩ i a b hu
  by_cases hut : u = t.val
  · subst hut
    rw [← hW]
    have hit : ∀ (o : ℕ) (ho) (L : List (View.Piece (Elt F) S6x64x2304 .f32)) (V : S1x16x256.Idx → Elt F .f32), 256 * i.val = o →
        arg7.view.read (Elt F) (arg7.view.writes (Elt F) f (⟨Rect.unit (s := S6x64x2304) ![t.val % 6, 16 * (t.val / 6), o] S1x16x256.size ho, V⟩ :: L))
          (ix3 ⟨t.val % 6, by omega⟩ ⟨16 * (t.val / 6) + a.val, by omega⟩ ⟨256 * i.val + b.val, by omega⟩ : S6x64x2304.Idx) = V (ix3 0 a b) := by
      intro o ho L V e
      refine View.read_writes_cons_unit_of_mem arg7.view f ho V L _ (ix3 0 a b) rfl ?_
      intro j; fin_cases j <;> simp <;> omega
    have miss : ∀ (o : ℕ) (ho) (L : List (View.Piece (Elt F) S6x64x2304 .f32)) (V : S1x16x256.Idx → Elt F .f32), (256 * i.val + 256 ≤ o ∨ o + 256 ≤ 256 * i.val) →
        arg7.view.read (Elt F) (arg7.view.writes (Elt F) f (⟨Rect.unit (s := S6x64x2304) ![t.val % 6, 16 * (t.val / 6), o] S1x16x256.size ho, V⟩ :: L))
          (ix3 ⟨t.val % 6, by omega⟩ ⟨16 * (t.val / 6) + a.val, by omega⟩ ⟨256 * i.val + b.val, by omega⟩ : S6x64x2304.Idx)
        = arg7.view.read (Elt F) (arg7.view.writes (Elt F) f L)
          (ix3 ⟨t.val % 6, by omega⟩ ⟨16 * (t.val / 6) + a.val, by omega⟩ ⟨256 * i.val + b.val, by omega⟩ : S6x64x2304.Idx) := by
      intro o ho L V e
      refine View.read_writes_cons_unit_of_not_mem arg7.view f ho V L _ rfl 2 ?_
      simp; omega
    fin_cases i
    · rw [miss 2048 h8 _ _ (by simp), miss 1792 h7 _ _ (by simp), miss 1536 h6 _ _ (by simp), miss 1280 h5 _ _ (by simp), miss 1024 h4 _ _ (by simp), miss 768 h3 _ _ (by simp), miss 512 h2 _ _ (by simp), miss 256 h1 _ _ (by simp)]
      exact hit 0 h0 _ _ rfl
    · rw [miss 2048 h8 _ _ (by simp), miss 1792 h7 _ _ (by simp), miss 1536 h6 _ _ (by simp), miss 1280 h5 _ _ (by simp), miss 1024 h4 _ _ (by simp), miss 768 h3 _ _ (by simp), miss 512 h2 _ _ (by simp)]
      exact hit 256 h1 _ _ rfl
    · rw [miss 2048 h8 _ _ (by simp), miss 1792 h7 _ _ (by simp), miss 1536 h6 _ _ (by simp), miss 1280 h5 _ _ (by simp), miss 1024 h4 _ _ (by simp), miss 768 h3 _ _ (by simp)]
      exact hit 512 h2 _ _ rfl
    · rw [miss 2048 h8 _ _ (by simp), miss 1792 h7 _ _ (by simp), miss 1536 h6 _ _ (by simp), miss 1280 h5 _ _ (by simp), miss 1024 h4 _ _ (by simp)]
      exact hit 768 h3 _ _ rfl
    · rw [miss 2048 h8 _ _ (by simp), miss 1792 h7 _ _ (by simp), miss 1536 h6 _ _ (by simp), miss 1280 h5 _ _ (by simp)]
      exact hit 1024 h4 _ _ rfl
    · rw [miss 2048 h8 _ _ (by simp), miss 1792 h7 _ _ (by simp), miss 1536 h6 _ _ (by simp)]
      exact hit 1280 h5 _ _ rfl
    · rw [miss 2048 h8 _ _ (by simp), miss 1792 h7 _ _ (by simp)]
      exact hit 1536 h6 _ _ rfl
    · rw [miss 2048 h8 _ _ (by simp)]
      exact hit 1792 h7 _ _ rfl
    · exact hit 2048 h8 _ _ rfl
  · have hu24' : u < 24 := t_lt ⟨u, hu24⟩
    refine Eq.trans ?_ (h ⟨u, hu24⟩ i a b (by simp at hu ⊢; omega))
    have miss : ∀ (o : ℕ) (ho) (L : List (View.Piece (Elt F) S6x64x2304 .f32)) (V : S1x16x256.Idx → Elt F .f32),
        arg7.view.read (Elt F) (arg7.view.writes (Elt F) f (⟨Rect.unit (s := S6x64x2304) ![t.val % 6, 16 * (t.val / 6), o] S1x16x256.size ho, V⟩ :: L))
          (ix3 ⟨u % 6, by omega⟩ ⟨16 * (u / 6) + a.val, by omega⟩ ⟨256 * i.val + b.val, by omega⟩ : S6x64x2304.Idx)
        = arg7.view.read (Elt F) (arg7.view.writes (Elt F) f L)
          (ix3 ⟨u % 6, by omega⟩ ⟨16 * (u / 6) + a.val, by omega⟩ ⟨256 * i.val + b.val, by omega⟩ : S6x64x2304.Idx) := by
      intro o ho L V
      by_cases h6 : u % 6 = t.val % 6
      · refine View.read_writes_cons_unit_of_not_mem arg7.view f ho V L _ rfl 1 ?_
        have : u / 6 ≠ t.val / 6 := by omega
        simp; omega
      · refine View.read_writes_cons_unit_of_not_mem arg7.view f ho V L _ rfl 0 ?_
        simp; omega
    rw [miss 2048 h8, miss 1792 h7, miss 1536 h6, miss 1280 h5, miss 1024 h4, miss 768 h3, miss 512 h2, miss 256 h1, miss 0 h0]
    rfl
end Stores

end Cert.KernelIdeal.Hand
-- ==== Proof.Ideal.Unit.lean ====
module

public import proofs.«01_k».proof.Proof.Ideal.KLoop
public import proofs.«01_k».proof.Proof.Ideal.Out

@[expose] public section

set_option maxRecDepth 16384
set_option maxHeartbeats 4000000

/-! One unit: its copies waited for, the next unit's started, its chunks scored and stored. -/

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- The word of the lengths at offset `o`. -/
abbrev wordAt (arg0 : Memref sig .tc .smem S6 .i32) (X0 : BufTy.Contents (Elt F) arg0.view.ty) (o : Fin 1 → ℕ) (h : ∀ a, o a + S1.size a ≤ S6.size a) : Elt F .i32 :=
  View.readAt (Elt F) arg0.view (Rect.unit (s := S6) o S1.size h).toLoadRect X0 (Shape.Idx.first (numel1_S1.symm ▸ Nat.one_pos))

theorem wordAt_fits (arg0 : Memref sig .tc .smem S6 .i32) (X0 : BufTy.Contents (Elt F) arg0.view.ty) (hX : ∀ x, Fits (arg0.view.read (Elt F) X0 x))
    (o : Fin 1 → ℕ) (h : ∀ a, o a + S1.size a ≤ S6.size a) : Fits (wordAt arg0 X0 o h) := hX _

/-- The length of the row of batch that unit `t` scores, as the unit reads it. -/
abbrev word12 (arg0 : Memref sig .tc .smem S6 .i32) (X0 : BufTy.Contents (Elt F) arg0.view.ty) (t : Fin k0_t3_loop.trips) : Elt F .i32 :=
  wordAt arg0 X0 (k0_off12 t) (k0_off12_inb t)
theorem word12_fits (arg0 : Memref sig .tc .smem S6 .i32) (X0 : BufTy.Contents (Elt F) arg0.view.ty) (hX : ∀ x, Fits (arg0.view.read (Elt F) X0 x))
    (t : Fin k0_t3_loop.trips) : Fits (word12 arg0 X0 t) := hX _

theorem inW (u : ℕ) : ∀ a, (![u % 6] : Fin 1 → ℕ) a + S1.size a ≤ S6.size a := by
  intro a; have := Nat.mod_lt u (show 0 < 6 by omega); fin_cases a; simp; omega
/-- The length of the row of batch of unit `u`. -/
def lenw (arg0 : Memref sig .tc .smem S6 .i32) (X0 : BufTy.Contents (Elt F) arg0.view.ty) (u : ℕ) : Elt F .i32 := wordAt arg0 X0 ![u % 6] (inW u)

theorem wordAt_eq (arg0 : Memref sig .tc .smem S6 .i32) (X0 : BufTy.Contents (Elt F) arg0.view.ty) (o o' : Fin 1 → ℕ) (h h') (e : o = o') :
    wordAt arg0 X0 o h = wordAt arg0 X0 o' h' := by subst e; rfl
theorem word12_eq (arg0 : Memref sig .tc .smem S6 .i32) (X0 : BufTy.Contents (Elt F) arg0.view.ty) (t : Fin k0_t3_loop.trips) :
    word12 arg0 X0 t = lenw arg0 X0 t := wordAt_eq arg0 X0 _ _ _ _ (k0_off12_eq t)
theorem word13_eq (arg0 : Memref sig .tc .smem S6 .i32) (X0 : BufTy.Contents (Elt F) arg0.view.ty) (t : Fin k0_t3_loop.trips) (h1 : k0_cond1 t = 1#1) :
    wordAt arg0 X0 (k0_off13 t) (k0_off13_inb t h1) = lenw arg0 X0 (t.val + 1) := wordAt_eq arg0 X0 _ _ _ _ (k0_off13_eq t)

/-- The query's rows with all but those of head group `g` zero. -/
def qmask (v108 : IVec S16x128 32) (q : Vec F S1x16x128 .f32) (g : BitVec 32) : FVec F S16x128 .bf16 :=
  shapeCast S16x128 (truncf .bf16 (select (cmpi .eq v108 (broadcast S16x128 g)) (shapeCast S16x128 q shapeCasts_S1x16x128_S16x128)
    (broadcast S16x128 (Scalar.ofBits .f32 0x00000000#32 : F .f32))) bitsLt_bf16_f32) shapeCasts_S16x128_S16x128

/-- The block-diagonal query unit `t` builds. -/
def qbuf (arg3 : Memref sig .tc .vmem S6x64x128 .f32) (arg15 : Memref sig .tc .vmem S16x2048 .bf16) (X3 : BufTy.Contents (Elt F) arg3.view.ty)
    (v108 : IVec S16x128 32) (t : Fin k0_t3_loop.trips) : BufTy.Contents (Elt F) arg15.view.ty :=
  let q : Vec F S1x16x128 .f32 := View.readAt (Elt F) arg3.view (Rect.unit (s := S6x64x128) (k0_off24 t) S1x16x128.size (k0_off24_inb t)).toLoadRect X3
  arg15.view.writes (Elt F) arg15.view.junk
    [⟨Rect.unit (s := S16x2048) ![0, 1920] S16x128.size inb_S16x2048_S16x128_0_1920, qmask v108 q 15#32⟩,
     ⟨Rect.unit (s := S16x2048) ![0, 1792] S16x128.size inb_S16x2048_S16x128_0_1792, qmask v108 q 14#32⟩,
     ⟨Rect.unit (s := S16x2048) ![0, 1664] S16x128.size inb_S16x2048_S16x128_0_1664, qmask v108 q 13#32⟩,
     ⟨Rect.unit (s := S16x2048) ![0, 1536] S16x128.size inb_S16x2048_S16x128_0_1536, qmask v108 q 12#32⟩,
     ⟨Rect.unit (s := S16x2048) ![0, 1408] S16x128.size inb_S16x2048_S16x128_0_1408, qmask v108 q 11#32⟩,
     ⟨Rect.unit (s := S16x2048) ![0, 1280] S16x128.size inb_S16x2048_S16x128_0_1280, qmask v108 q 10#32⟩,
     ⟨Rect.unit (s := S16x2048) ![0, 1152] S16x128.size inb_S16x2048_S16x128_0_1152, qmask v108 q 9#32⟩,
     ⟨Rect.unit (s := S16x2048) ![0, 1024] S16x128.size inb_S16x2048_S16x128_0_1024, qmask v108 q 8#32⟩,
     ⟨Rect.unit (s := S16x2048) ![0, 896] S16x128.size inb_S16x2048_S16x128_0_896, qmask v108 q 7#32⟩,
     ⟨Rect.unit (s := S16x2048) ![0, 768] S16x128.size inb_S16x2048_S16x128_0_768, qmask v108 q 6#32⟩,
     ⟨Rect.unit (s := S16x2048) ![0, 640] S16x128.size inb_S16x2048_S16x128_0_640, qmask v108 q 5#32⟩,
     ⟨Rect.unit (s := S16x2048) ![0, 512] S16x128.size inb_S16x2048_S16x128_0_512, qmask v108 q 4#32⟩,
     ⟨Rect.unit (s := S16x2048) ![0, 384] S16x128.size inb_S16x2048_S16x128_0_384, qmask v108 q 3#32⟩,
     ⟨Rect.unit (s := S16x2048) ![0, 256] S16x128.size inb_S16x2048_S16x128_0_256, qmask v108 q 2#32⟩,
     ⟨Rect.unit (s := S16x2048) ![0, 128] S16x128.size inb_S16x2048_S16x128_0_128, qmask v108 q 1#32⟩,
     ⟨Rect.unit (s := S16x2048) ![0, 0] S16x128.size inb_S16x2048_S16x128_0_0, qmask v108 q 0#32⟩]

section Unit
variable (c : Dev nD) (bd : Option Variants.none.V) (arg0 : Memref sig .tc .smem S6 .i32) (harg0 : arg0.IsWhole) (arg1 : Memref sig .tc .hbm S6x2304x4x128 .i32) (harg1 : arg1.IsWhole) (arg2 : Memref sig .tc .hbm S6x16x8x2304 .f32) (harg2 : arg2.IsWhole) (arg3 : Memref sig .tc .vmem S6x64x128 .f32) (harg3 : arg3.IsWhole) (arg4 : Memref sig .tc .vmem S16x256x512 .bf16) (harg4 : arg4.IsWhole) (arg5 : Memref sig .tc .vmem S54x64x256 .f32) (harg5 : arg5.IsWhole) (arg6 : Memref sig .tc .vmem S54x64x256 .f32) (harg6 : arg6.IsWhole) (arg7 : Memref sig .tc .vmem S6x64x2304 .f32) (harg7 : arg7.IsWhole) (arg8 : Memref sig .tc .vmem S2x9x256x128 .i32) (harg8 : arg8.IsWhole) (arg9 : Memref sig .tc .vmem S2x9x4x8x256 .f32) (harg9 : arg9.IsWhole) (arg10 : Memref sig .tc .vmem S16x512x256 .bf16) (harg10 : arg10.IsWhole) (arg11 : Memref sig .tc .vmem S2x512x128 .i32) (harg11 : arg11.IsWhole) (arg12 : Memref sig .tc .vmem S4x8x256 .f32) (harg12 : arg12.IsWhole) (arg13 : Memref sig .tc .vmem S2048x256 .bf16) (harg13 : arg13.IsWhole) (arg14 : Memref sig .tc .vmem S9x16x256 .f32) (harg14 : arg14.IsWhole) (arg15 : Memref sig .tc .vmem S16x2048 .bf16) (harg15 : arg15.IsWhole) (arg16 : DmaSems sig S2)
  (X0 : BufTy.Contents (Elt F) arg0.view.ty) (hX : ∀ x, Fits (arg0.view.read (Elt F) X0 x))
  (X1 : BufTy.Contents (Elt F) arg1.view.ty) (X2 : BufTy.Contents (Elt F) arg2.view.ty) (X3 : BufTy.Contents (Elt F) arg3.view.ty)
  (X5 : BufTy.Contents (Elt F) arg5.view.ty) (X6 : BufTy.Contents (Elt F) arg6.view.ty)
  (X10 : BufTy.Contents (Elt F) arg10.view.ty) (v108 : IVec S16x128 32)

/-- What unit `t` stores for chunk `i`. -/
def UOut (t : Fin k0_t3_loop.trips) (i : ℕ) : S1x16x256.Idx → Elt F .f32 :=
  mrow (word12 arg0 X0 t) i (Row c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 X1 X2 t (Scf.iv 0#32 1#32 t) (Scalar.divsi (Scf.iv 0#32 1#32 t) 6#32) (Scalar.remsi (Scf.iv 0#32 1#32 t) 6#32) (Scalar.remsi (Scf.iv 0#32 1#32 t) 2#32) (word12 arg0 X0 t) (chk4_of t _ (word12_fits arg0 X0 hX t)) (word12_fits arg0 X0 hX t) (Scalar.divsi (Scalar.addi (word12 arg0 X0 t) 255#32) 256#32) (word12 arg0 X0 t) X5 X6 X10 (qbuf arg3 arg15 X3 v108 t) i)

/-- The two slots before unit `k`. -/
def Slots (k : ℕ) : sProp 𝕄 :=
  if k < 24 then iprop(Busy c arg1 arg2 arg8 arg9 arg16 X1 X2 k (nch (lenw arg0 X0 k)) ∗ Free c arg1 arg2 arg8 arg9 arg16 X1 X2 (k + 1))
  else iprop(Free c arg1 arg2 arg8 arg9 arg16 X1 X2 k ∗ Free c arg1 arg2 arg8 arg9 arg16 X1 X2 (k + 1))

/-- What holds before unit `k`. -/
def UInv (k : ℕ) : sProp 𝕄 :=
  iprop((arg0.view.loc (c : Thread nD τ) ↦[arg0.view.set]{fullShare} X0) ∗ (arg3.view.loc (c : Thread nD τ) ↦[arg3.view.set]{fullShare} X3) ∗ (arg5.view.loc (c : Thread nD τ) ↦[arg5.view.set]{fullShare} X5) ∗ (arg6.view.loc (c : Thread nD τ) ↦[arg6.view.set]{fullShare} X6) ∗ (arg10.view.loc (c : Thread nD τ) ↦[arg10.view.set]{fullShare} X10)
    ∗ (∃ f, arg11.view.loc (c : Thread nD τ) ↦[arg11.view.set]{fullShare} f) ∗ (∃ f, arg12.view.loc (c : Thread nD τ) ↦[arg12.view.set]{fullShare} f) ∗ (∃ f, arg13.view.loc (c : Thread nD τ) ↦[arg13.view.set]{fullShare} f) ∗ (∃ f, arg14.view.loc (c : Thread nD τ) ↦[arg14.view.set]{fullShare} f) ∗ (∃ f, arg15.view.loc (c : Thread nD τ) ↦[arg15.view.set]{fullShare} f)
    ∗ (∃ W, owes (c : Thread nD τ) 0 W)
    ∗ (∃ f7, ⌜OutOK arg7 (UOut c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 X0 hX X1 X2 X3 X5 X6 X10 v108) k f7⌝ ∗ (arg7.view.loc (c : Thread nD τ) ↦[arg7.view.set]{fullShare} f7))
    ∗ Slots c arg0 arg1 arg2 arg8 arg9 arg16 X0 X1 X2 k)

theorem unit_trip_last (t : Fin k0_t3_loop.trips) (h1 : ¬ k0_cond1 t = 1#1) :
    UInv c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 X0 hX X1 X2 X3 X5 X6 X10 v108 t
      ⊢ wp Idealize.ShloMosaic.frame (wpE (defs₀ (F := F)) Variants.none (c : Thread nD τ) bd) Set.univ (k0_t3_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 v108 t ())
        (fun _ => UInv c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 X0 hX X1 X2 X3 X5 X6 X10 v108 (t + 1)) := by
    have f4 := word12_fits arg0 X0 hX t
    have c4 := chk4_of t _ f4
    have c3 := chk3_of t _ f4
    have hn := nch_le _ f4
    have ht : ¬ t.val + 1 < 24 := fun h => h1 ((cond1_iff t).mpr h)
    have e12 := word12_eq arg0 X0 t
    unfold UInv Slots
    rw [if_pos (t_lt t), if_neg ht, ← e12]
    unfold k0_t3_body Busy
    iintro ⟨H0, H3, H5, H6, H10, ⟨%f11, H11⟩, ⟨%f12, H12⟩, ⟨%f13, H13⟩, ⟨%f14, H14⟩, ⟨%f15, H15⟩, ⟨%W, HO⟩, ⟨%f7, %hf7, H7⟩, ⟨HB, HR⟩, HF⟩
    ihave HW := (StartInv_wait c arg1 arg2 arg8 arg9 arg16 X1 X2 (shr t) t (nch (word12 arg0 X0 t)) W) $$ [HB HO]
    · isplitl [HB]; · iexact HB
      iexact HO
    icases HW with ⟨HBs, HW⟩
    sl_exec

    sl_for (fun k _ => WaitInv c arg1 arg2 arg8 arg9 arg16 X1 X2 (shr t) t (nch (word12 arg0 X0 t)) k) $$ [HW]
    · intro k acc
      exact wait_trip6 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 X1 X2 (shr t) t _ _ _ _ _ _ _ _ _ _ f4 k acc
    · iexact HW
    iintro %acc HI
    imod (WaitInv_collect c arg1 arg2 arg8 arg9 arg16 X1 X2 t (nch (word12 arg0 X0 t)) _ hn rfl) $$ [HI HBs HR] with ⟨HY, HO⟩
    · isplitl [HI]; · iexact HI
      isplitl [HBs]; · iexact HBs
      iexact HR
    unfold Ready
    icases HY with ⟨HG, HBs, HR, HS⟩
    sl_exec
    sl_for (fun k _ => KInv c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 X1 X2 t (Scf.iv 0#32 1#32 t) (Scalar.divsi (Scf.iv 0#32 1#32 t) 6#32) (Scalar.remsi (Scf.iv 0#32 1#32 t) 6#32) (Scalar.remsi (Scf.iv 0#32 1#32 t) 2#32) (word12 arg0 X0 t) (chk4_of t _ (word12_fits arg0 X0 hX t)) (word12_fits arg0 X0 hX t) (Scalar.divsi (Scalar.addi (word12 arg0 X0 t) 255#32) 256#32) (word12 arg0 X0 t) X5 X6 X10 (qbuf arg3 arg15 X3 v108 t) k) $$ [H5 H6 H10 H15 HG H11 H12 H13 H14]
    · intro k acc
      exact trip8 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 X1 X2 t _ _ _ _ _ _ f4 _ _ X5 X6 X10 (qbuf arg3 arg15 X3 v108 t) k acc
    · unfold KInv
      isplitl [H5]; · iexact H5
      isplitl [H6]; · iexact H6
      isplitl [H10]; · iexact H10
      isplitl [H15]; · iexact H15
      isplitl [HG]; · iexact HG
      isplitl [H11]; · iexists _; iexact H11
      isplitl [H12]; · iexists _; iexact H12
      isplitl [H13]; · iexists _; iexact H13
      iexists f14
      isplitr
      · ipureintro; intro i a b h; exact absurd h (Nat.not_lt_zero _)
      iexact H14
    iintro %acc HI
    unfold KInv
    icases HI with ⟨H5, H6, H10, H15, HG, ⟨%g11, H11⟩, ⟨%g12, H12⟩, ⟨%g13, H13⟩, ⟨%g14, %hs, H14⟩⟩
    sl_exec
    have hf7' := OutOK_step arg7 (UOut c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 X0 hX X1 X2 X3 X5 X6 X10 v108) t f7 hf7 _ _ _ _ _ _ _ _ _
      (k0_off51_inb t) (k0_off52_inb t) (k0_off53_inb t) (k0_off54_inb t) (k0_off55_inb t) (k0_off56_inb t) (k0_off57_inb t) (k0_off58_inb t) (k0_off59_inb t)
      (k0_off51_eq t) (k0_off52_eq t) (k0_off53_eq t) (k0_off54_eq t) (k0_off55_eq t) (k0_off56_eq t) (k0_off57_eq t) (k0_off58_eq t) (k0_off59_eq t)
      (fun i => mrow (F := F) (word12 arg0 X0 t) i.val (View.readAt (Elt F) arg14.view (Rect.unit (s := S9x16x256) ![i.val, 0, 0] S1x16x256.size (in14 i)).toLoadRect g14))
      (fun i a b => congrFun (stored_eq arg14 g14 (word12 arg0 X0 t) f4 _ _ rfl hs i) _)
    ihave HF' := (Ready_free c arg1 arg2 arg8 arg9 arg16 X1 X2 t (nch (word12 arg0 X0 t)) hn) $$ [HG HBs HR HS]
    · unfold Ready
      isplitl [HG]; · iexact HG
      isplitl [HBs]; · iexact HBs
      isplitl [HR]; · iexact HR
      iexact HS
    ihave HF' := (Entails.of_eq (Free_congr c arg1 arg2 arg8 arg9 arg16 X1 X2 t (t + 1 + 1) (by omega))) $$ HF'
    sl_step
    isplitl [H0]; · iexact H0
    isplitl [H3]; · iexact H3
    isplitl [H5]; · iexact H5
    isplitl [H6]; · iexact H6
    isplitl [H10]; · iexact H10
    isplitl [H11]; · iexists _; iexact H11
    isplitl [H12]; · iexists _; iexact H12
    isplitl [H13]; · iexists _; iexact H13
    isplitl [H14]; · iexists _; iexact H14
    isplitl [H15]; · iexists _; iexact H15
    isplitl [HO]; · iexact HO
    isplitl [H7]
    · iexists _
      isplitr; · ipureintro; exact hf7'
      iexact H7
    isplitl [HF]; · iexact HF
    iexact HF'

theorem unit_trip_next (t : Fin k0_t3_loop.trips) (h1 : k0_cond1 t = 1#1) :
    UInv c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 X0 hX X1 X2 X3 X5 X6 X10 v108 t
      ⊢ wp Idealize.ShloMosaic.frame (wpE (defs₀ (F := F)) Variants.none (c : Thread nD τ) bd) Set.univ (k0_t3_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 v108 t ())
        (fun _ => UInv c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 X0 hX X1 X2 X3 X5 X6 X10 v108 (t + 1)) := by
    have f4 := word12_fits arg0 X0 hX t
    have c4 := chk4_of t _ f4
    have c3 := chk3_of t _ f4
    have hn := nch_le _ f4
    have ht : t.val + 1 < 24 := (cond1_iff t).mp h1
    have f2 := wordAt_fits arg0 X0 hX (k0_off13 t) (k0_off13_inb t h1)
    have c2 := chk2_of t _ f2
    have e13 := word13_eq arg0 X0 t h1
    have e12 := word12_eq arg0 X0 t
    unfold UInv Slots
    rw [if_pos (t_lt t), if_pos ht, ← e12, ← e13]
    unfold k0_t3_body Busy
    iintro ⟨H0, H3, H5, H6, H10, ⟨%f11, H11⟩, ⟨%f12, H12⟩, ⟨%f13, H13⟩, ⟨%f14, H14⟩, ⟨%f15, H15⟩, ⟨%W, HO⟩, ⟨%f7, %hf7, H7⟩, ⟨HB, HR⟩, HF⟩
    ihave HW := (StartInv_wait c arg1 arg2 arg8 arg9 arg16 X1 X2 (shr t) t (nch (word12 arg0 X0 t)) W) $$ [HB HO]
    · isplitl [HB]; · iexact HB
      iexact HO
    icases HW with ⟨HBs, HW⟩
    imod (Free_start c arg1 arg2 arg8 arg9 arg16 X1 X2 (t + 1) (nch (wordAt arg0 X0 (k0_off13 t) (k0_off13_inb t h1)))) $$ HF with ⟨HN, HNR⟩
    sl_exec
    sl_for (fun k _ => StartInv c arg1 arg2 arg8 arg9 arg16 X1 X2 (shr (t + 1)) (t + 1) (nch (wordAt arg0 X0 (k0_off13 t) (k0_off13_inb t h1))) k) $$ [HN]
    · intro k acc
      exact start_trip4 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 X1 X2 (shr (t + 1)) v108 _ _ t h1 _ _ f2 k acc
    · iexact HN
    iintro %acc HN
    sl_exec

    sl_for (fun k _ => WaitInv c arg1 arg2 arg8 arg9 arg16 X1 X2 (shr t) t (nch (word12 arg0 X0 t)) k) $$ [HW]
    · intro k acc
      exact wait_trip6 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 X1 X2 (shr t) t _ _ _ _ _ _ _ _ _ _ f4 k acc
    · iexact HW
    iintro %acc HI
    imod (WaitInv_collect c arg1 arg2 arg8 arg9 arg16 X1 X2 t (nch (word12 arg0 X0 t)) _ hn rfl) $$ [HI HBs HR] with ⟨HY, HO⟩
    · isplitl [HI]; · iexact HI
      isplitl [HBs]; · iexact HBs
      iexact HR
    unfold Ready
    icases HY with ⟨HG, HBs, HR, HS⟩
    sl_exec
    sl_for (fun k _ => KInv c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 X1 X2 t (Scf.iv 0#32 1#32 t) (Scalar.divsi (Scf.iv 0#32 1#32 t) 6#32) (Scalar.remsi (Scf.iv 0#32 1#32 t) 6#32) (Scalar.remsi (Scf.iv 0#32 1#32 t) 2#32) (word12 arg0 X0 t) (chk4_of t _ (word12_fits arg0 X0 hX t)) (word12_fits arg0 X0 hX t) (Scalar.divsi (Scalar.addi (word12 arg0 X0 t) 255#32) 256#32) (word12 arg0 X0 t) X5 X6 X10 (qbuf arg3 arg15 X3 v108 t) k) $$ [H5 H6 H10 H15 HG H11 H12 H13 H14]
    · intro k acc
      exact trip8 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 X1 X2 t _ _ _ _ _ _ f4 _ _ X5 X6 X10 (qbuf arg3 arg15 X3 v108 t) k acc
    · unfold KInv
      isplitl [H5]; · iexact H5
      isplitl [H6]; · iexact H6
      isplitl [H10]; · iexact H10
      isplitl [H15]; · iexact H15
      isplitl [HG]; · iexact HG
      isplitl [H11]; · iexists _; iexact H11
      isplitl [H12]; · iexists _; iexact H12
      isplitl [H13]; · iexists _; iexact H13
      iexists f14
      isplitr
      · ipureintro; intro i a b h; exact absurd h (Nat.not_lt_zero _)
      iexact H14
    iintro %acc HI
    unfold KInv
    icases HI with ⟨H5, H6, H10, H15, HG, ⟨%g11, H11⟩, ⟨%g12, H12⟩, ⟨%g13, H13⟩, ⟨%g14, %hs, H14⟩⟩
    sl_exec
    have hf7' := OutOK_step arg7 (UOut c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 X0 hX X1 X2 X3 X5 X6 X10 v108) t f7 hf7 _ _ _ _ _ _ _ _ _
      (k0_off51_inb t) (k0_off52_inb t) (k0_off53_inb t) (k0_off54_inb t) (k0_off55_inb t) (k0_off56_inb t) (k0_off57_inb t) (k0_off58_inb t) (k0_off59_inb t)
      (k0_off51_eq t) (k0_off52_eq t) (k0_off53_eq t) (k0_off54_eq t) (k0_off55_eq t) (k0_off56_eq t) (k0_off57_eq t) (k0_off58_eq t) (k0_off59_eq t)
      (fun i => mrow (F := F) (word12 arg0 X0 t) i.val (View.readAt (Elt F) arg14.view (Rect.unit (s := S9x16x256) ![i.val, 0, 0] S1x16x256.size (in14 i)).toLoadRect g14))
      (fun i a b => congrFun (stored_eq arg14 g14 (word12 arg0 X0 t) f4 _ _ rfl hs i) _)
    ihave HF' := (Ready_free c arg1 arg2 arg8 arg9 arg16 X1 X2 t (nch (word12 arg0 X0 t)) hn) $$ [HG HBs HR HS]
    · unfold Ready
      isplitl [HG]; · iexact HG
      isplitl [HBs]; · iexact HBs
      isplitl [HR]; · iexact HR
      iexact HS
    ihave HF' := (Entails.of_eq (Free_congr c arg1 arg2 arg8 arg9 arg16 X1 X2 t (t + 1 + 1) (by omega))) $$ HF'
    sl_step
    isplitl [H0]; · iexact H0
    isplitl [H3]; · iexact H3
    isplitl [H5]; · iexact H5
    isplitl [H6]; · iexact H6
    isplitl [H10]; · iexact H10
    isplitl [H11]; · iexists _; iexact H11
    isplitl [H12]; · iexists _; iexact H12
    isplitl [H13]; · iexists _; iexact H13
    isplitl [H14]; · iexists _; iexact H14
    isplitl [H15]; · iexists _; iexact H15
    isplitl [HO]; · iexact HO
    isplitl [H7]
    · iexists _
      isplitr; · ipureintro; exact hf7'
      iexact H7
    isplitl [HN HNR]
    · isplitl [HN]; · iexact HN
      iexact HNR
    iexact HF'

end Unit

end Cert.KernelIdeal.Hand
-- ==== Proof.Ideal.Body.lean ====
module

public import proofs.«01_k».proof.Proof.Ideal.Unit
public import Idealize.ShloMosaic.Lib.SparseCore.Launch

@[expose] public section

set_option maxRecDepth 16384
set_option maxHeartbeats 4000000

/-! The kernel's body: the first unit's copies, the transposed weights, the units. -/

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

section Start
variable (c : Dev nD) (arg1 : Memref sig .tc .hbm S6x2304x4x128 .i32) (arg2 : Memref sig .tc .hbm S6x16x8x2304 .f32)
variable (arg8 : Memref sig .tc .vmem S2x9x256x128 .i32) (arg9 : Memref sig .tc .vmem S2x9x4x8x256 .f32) (arg16 : DmaSems sig S2)
variable (X1 : BufTy.Contents (Elt F) arg1.view.ty) (X2 : BufTy.Contents (Elt F) arg2.view.ty)

theorem Ops_share : Ops c arg1 arg2 X1 X2 fullShare ⊣⊢ iprop(Ops c arg1 arg2 X1 X2 fullShare.left ∗ Ops c arg1 arg2 X1 X2 fullShare.right) := by
  have e1 := pointsTo_share (Ix := Unit) (Name := ℕ) (U := Pipeline.UD sig nD τ) (Lvl := ℕ) (ℓ := arg1.view.loc (c : Thread nD τ)) (I := arg1.view.set) (f := X1) (PosShare.mem_left_op_right fullShare)
  have e2 := pointsTo_share (Ix := Unit) (Name := ℕ) (U := Pipeline.UD sig nD τ) (Lvl := ℕ) (ℓ := arg2.view.loc (c : Thread nD τ)) (I := arg2.view.set) (f := X2) (PosShare.mem_left_op_right fullShare)
  unfold Ops
  constructor
  · iintro ⟨H1, H2⟩
    ihave H1 := e1.1 $$ H1
    ihave H2 := e2.1 $$ H2
    icases H1 with ⟨H1, H1'⟩
    icases H2 with ⟨H2, H2'⟩
    isplitl [H1 H2]
    · isplitl [H1]; · iexact H1
      iexact H2
    · isplitl [H1']; · iexact H1'
      iexact H2'
  · iintro ⟨⟨H1, H2⟩, H1', H2'⟩
    isplitl [H1 H1']
    · iapply e1.2
      isplitl [H1]; · iexact H1
      iexact H1'
    · iapply e2.2
      isplitl [H2]; · iexact H2
      iexact H2'

theorem Dst_slots : bigSep Finset.univ (fun b : Fin 2 × Fin 9 => Dst (F := F) c arg8 arg9 b.1.val b.2.val)
    = iprop(bigSep Finset.univ (fun i : Fin 9 => Dst (F := F) c arg8 arg9 0 i.val) ∗ bigSep Finset.univ (fun i : Fin 9 => Dst (F := F) c arg8 arg9 1 i.val)) := by
  have e : (Finset.univ : Finset (Fin 2 × Fin 9)) = Finset.univ ×ˢ Finset.univ := rfl
  rw [e, SparseCore.bigSep_product, bigSep_fin_two]; rfl

/-- Both slots are free at the start. -/
theorem Free_init (f8 : BufTy.Contents (Elt F) arg8.view.ty) (f9 : BufTy.Contents (Elt F) arg9.view.ty) :
    iprop((arg8.view.loc (c : Thread nD τ) ↦[arg8.view.set]{fullShare} f8) ∗ (arg9.view.loc (c : Thread nD τ) ↦[arg9.view.set]{fullShare} f9) ∗ Ops c arg1 arg2 X1 X2 fullShare ∗ semVal ((c : Thread nD τ), SemLoc.dma (cellOf arg16 0)) 0 ∗ semVal ((c : Thread nD τ), SemLoc.dma (cellOf arg16 1)) 0)
      ⊢ (iprop(Free c arg1 arg2 arg8 arg9 arg16 X1 X2 0 ∗ Free c arg1 arg2 arg8 arg9 arg16 X1 X2 1) : sProp 𝕄) := by
  iintro ⟨H8, H9, HO, HS0, HS1⟩
  ihave HD := (Dst_split c arg8 arg9 f8 f9) $$ [H8 H9]
  · isplitl [H8]; · iexact H8
    iexact H9
  ihave HD := (Entails.of_eq (Dst_slots c arg8 arg9)) $$ HD
  icases HD with ⟨HD0, HD1⟩
  ihave HO := (Ops_share c arg1 arg2 X1 X2).1 $$ HO
  icases HO with ⟨HO0, HO1⟩
  unfold Free
  isplitl [HD0 HO0 HS0]
  · isplitl [HD0]; · iexact HD0
    isplitl [HO0]; · iexact HO0
    iexact HS0
  · isplitl [HD1]; · iexact HD1
    isplitl [HO1]; · iexact HO1
    iexact HS1

/-- And both are free at the end. -/
theorem Free_end (f8 : BufTy.Contents (Elt F) arg8.view.ty) (f9 : BufTy.Contents (Elt F) arg9.view.ty) (u v : ℕ) (hu : u % 2 = 0) (hv : v % 2 = 1) :
    iprop(Free c arg1 arg2 arg8 arg9 arg16 X1 X2 u ∗ Free c arg1 arg2 arg8 arg9 arg16 X1 X2 v)
      ⊢ (iprop((∃ f, arg8.view.loc (c : Thread nD τ) ↦[arg8.view.set]{fullShare} f) ∗ (∃ f, arg9.view.loc (c : Thread nD τ) ↦[arg9.view.set]{fullShare} f) ∗ Ops c arg1 arg2 X1 X2 fullShare ∗ semVal ((c : Thread nD τ), SemLoc.dma (cellOf arg16 0)) 0 ∗ semVal ((c : Thread nD τ), SemLoc.dma (cellOf arg16 1)) 0) : sProp 𝕄) := by
  rw [Free_congr c arg1 arg2 arg8 arg9 arg16 X1 X2 u 0 hu, Free_congr c arg1 arg2 arg8 arg9 arg16 X1 X2 v 1 hv]
  unfold Free
  iintro ⟨⟨HD0, HO0, HS0⟩, HD1, HO1, HS1⟩
  ihave HD := (Entails.of_eq (Dst_slots (F := F) c arg8 arg9).symm) $$ [HD0 HD1]
  · isplitl [HD0]; · iexact HD0
    iexact HD1
  ihave HD := (Dst_join c arg8 arg9 f8 f9) $$ HD
  icases HD with ⟨H8, H9⟩
  isplitl [H8]; · iexact H8
  isplitl [H9]; · iexact H9
  isplitl [HO0 HO1]
  · iapply (Ops_share c arg1 arg2 X1 X2).2
    isplitl [HO0]; · iexact HO0
    iexact HO1
  isplitl [HS0]; · iexact HS0
  iexact HS1
end Start

/-- A head's weights transposed. -/
def wT (w : Vec F S1x256x512 .bf16) : FVec F S1x512x256 .bf16 :=
  shapeCast S1x512x256 (transpose S512x256 [1, 0] (shapeCast S256x512 w shapeCasts_S1x256x512_S256x512) transposes_S256x512_p1_0_S512x256) shapeCasts_S512x256_S1x512x256

/-- The transposed weights as the body leaves them. -/
def wbuf (arg4 : Memref sig .tc .vmem S16x256x512 .bf16) (arg10 : Memref sig .tc .vmem S16x512x256 .bf16) (X4 : BufTy.Contents (Elt F) arg4.view.ty) :
    BufTy.Contents (Elt F) arg10.view.ty :=
  arg10.view.writes (Elt F) arg10.view.junk
    [⟨Rect.unit (s := S16x512x256) ![15, 0, 0] S1x512x256.size inb_S16x512x256_S1x512x256_15_0_0, wT (View.readAt (Elt F) arg4.view (Rect.unit (s := S16x256x512) ![15, 0, 0] S1x256x512.size inb_S16x256x512_S1x256x512_15_0_0).toLoadRect X4)⟩,
     ⟨Rect.unit (s := S16x512x256) ![14, 0, 0] S1x512x256.size inb_S16x512x256_S1x512x256_14_0_0, wT (View.readAt (Elt F) arg4.view (Rect.unit (s := S16x256x512) ![14, 0, 0] S1x256x512.size inb_S16x256x512_S1x256x512_14_0_0).toLoadRect X4)⟩,
     ⟨Rect.unit (s := S16x512x256) ![13, 0, 0] S1x512x256.size inb_S16x512x256_S1x512x256_13_0_0, wT (View.readAt (Elt F) arg4.view (Rect.unit (s := S16x256x512) ![13, 0, 0] S1x256x512.size inb_S16x256x512_S1x256x512_13_0_0).toLoadRect X4)⟩,
     ⟨Rect.unit (s := S16x512x256) ![12, 0, 0] S1x512x256.size inb_S16x512x256_S1x512x256_12_0_0, wT (View.readAt (Elt F) arg4.view (Rect.unit (s := S16x256x512) ![12, 0, 0] S1x256x512.size inb_S16x256x512_S1x256x512_12_0_0).toLoadRect X4)⟩,
     ⟨Rect.unit (s := S16x512x256) ![11, 0, 0] S1x512x256.size inb_S16x512x256_S1x512x256_11_0_0, wT (View.readAt (Elt F) arg4.view (Rect.unit (s := S16x256x512) ![11, 0, 0] S1x256x512.size inb_S16x256x512_S1x256x512_11_0_0).toLoadRect X4)⟩,
     ⟨Rect.unit (s := S16x512x256) ![10, 0, 0] S1x512x256.size inb_S16x512x256_S1x512x256_10_0_0, wT (View.readAt (Elt F) arg4.view (Rect.unit (s := S16x256x512) ![10, 0, 0] S1x256x512.size inb_S16x256x512_S1x256x512_10_0_0).toLoadRect X4)⟩,
     ⟨Rect.unit (s := S16x512x256) ![9, 0, 0] S1x512x256.size inb_S16x512x256_S1x512x256_9_0_0, wT (View.readAt (Elt F) arg4.view (Rect.unit (s := S16x256x512) ![9, 0, 0] S1x256x512.size inb_S16x256x512_S1x256x512_9_0_0).toLoadRect X4)⟩,
     ⟨Rect.unit (s := S16x512x256) ![8, 0, 0] S1x512x256.size inb_S16x512x256_S1x512x256_8_0_0, wT (View.readAt (Elt F) arg4.view (Rect.unit (s := S16x256x512) ![8, 0, 0] S1x256x512.size inb_S16x256x512_S1x256x512_8_0_0).toLoadRect X4)⟩,
     ⟨Rect.unit (s := S16x512x256) ![7, 0, 0] S1x512x256.size inb_S16x512x256_S1x512x256_7_0_0, wT (View.readAt (Elt F) arg4.view (Rect.unit (s := S16x256x512) ![7, 0, 0] S1x256x512.size inb_S16x256x512_S1x256x512_7_0_0).toLoadRect X4)⟩,
     ⟨Rect.unit (s := S16x512x256) ![6, 0, 0] S1x512x256.size inb_S16x512x256_S1x512x256_6_0_0, wT (View.readAt (Elt F) arg4.view (Rect.unit (s := S16x256x512) ![6, 0, 0] S1x256x512.size inb_S16x256x512_S1x256x512_6_0_0).toLoadRect X4)⟩,
     ⟨Rect.unit (s := S16x512x256) ![5, 0, 0] S1x512x256.size inb_S16x512x256_S1x512x256_5_0_0, wT (View.readAt (Elt F) arg4.view (Rect.unit (s := S16x256x512) ![5, 0, 0] S1x256x512.size inb_S16x256x512_S1x256x512_5_0_0).toLoadRect X4)⟩,
     ⟨Rect.unit (s := S16x512x256) ![4, 0, 0] S1x512x256.size inb_S16x512x256_S1x512x256_4_0_0, wT (View.readAt (Elt F) arg4.view (Rect.unit (s := S16x256x512) ![4, 0, 0] S1x256x512.size inb_S16x256x512_S1x256x512_4_0_0).toLoadRect X4)⟩,
     ⟨Rect.unit (s := S16x512x256) ![3, 0, 0] S1x512x256.size inb_S16x512x256_S1x512x256_3_0_0, wT (View.readAt (Elt F) arg4.view (Rect.unit (s := S16x256x512) ![3, 0, 0] S1x256x512.size inb_S16x256x512_S1x256x512_3_0_0).toLoadRect X4)⟩,
     ⟨Rect.unit (s := S16x512x256) ![2, 0, 0] S1x512x256.size inb_S16x512x256_S1x512x256_2_0_0, wT (View.readAt (Elt F) arg4.view (Rect.unit (s := S16x256x512) ![2, 0, 0] S1x256x512.size inb_S16x256x512_S1x256x512_2_0_0).toLoadRect X4)⟩,
     ⟨Rect.unit (s := S16x512x256) ![1, 0, 0] S1x512x256.size inb_S16x512x256_S1x512x256_1_0_0, wT (View.readAt (Elt F) arg4.view (Rect.unit (s := S16x256x512) ![1, 0, 0] S1x256x512.size inb_S16x256x512_S1x256x512_1_0_0).toLoadRect X4)⟩,
     ⟨Rect.unit (s := S16x512x256) ![0, 0, 0] S1x512x256.size inb_S16x512x256_S1x512x256_0_0_0, wT (View.readAt (Elt F) arg4.view (Rect.unit (s := S16x256x512) ![0, 0, 0] S1x256x512.size inb_S16x256x512_S1x256x512_0_0_0).toLoadRect X4)⟩]

section Body
variable (c : Dev nD) (bd : Option Variants.none.V) (arg0 : Memref sig .tc .smem S6 .i32) (harg0 : arg0.IsWhole) (arg1 : Memref sig .tc .hbm S6x2304x4x128 .i32) (harg1 : arg1.IsWhole) (arg2 : Memref sig .tc .hbm S6x16x8x2304 .f32) (harg2 : arg2.IsWhole) (arg3 : Memref sig .tc .vmem S6x64x128 .f32) (harg3 : arg3.IsWhole) (arg4 : Memref sig .tc .vmem S16x256x512 .bf16) (harg4 : arg4.IsWhole) (arg5 : Memref sig .tc .vmem S54x64x256 .f32) (harg5 : arg5.IsWhole) (arg6 : Memref sig .tc .vmem S54x64x256 .f32) (harg6 : arg6.IsWhole) (arg7 : Memref sig .tc .vmem S6x64x2304 .f32) (harg7 : arg7.IsWhole) (arg8 : Memref sig .tc .vmem S2x9x256x128 .i32) (harg8 : arg8.IsWhole) (arg9 : Memref sig .tc .vmem S2x9x4x8x256 .f32) (harg9 : arg9.IsWhole) (arg10 : Memref sig .tc .vmem S16x512x256 .bf16) (harg10 : arg10.IsWhole) (arg11 : Memref sig .tc .vmem S2x512x128 .i32) (harg11 : arg11.IsWhole) (arg12 : Memref sig .tc .vmem S4x8x256 .f32) (harg12 : arg12.IsWhole) (arg13 : Memref sig .tc .vmem S2048x256 .bf16) (harg13 : arg13.IsWhole) (arg14 : Memref sig .tc .vmem S9x16x256 .f32) (harg14 : arg14.IsWhole) (arg15 : Memref sig .tc .vmem S16x2048 .bf16) (harg15 : arg15.IsWhole) (arg16 : DmaSems sig S2)
  (X0 : BufTy.Contents (Elt F) arg0.view.ty) (hX : ∀ x, Fits (arg0.view.read (Elt F) X0 x))
  (X1 : BufTy.Contents (Elt F) arg1.view.ty) (X2 : BufTy.Contents (Elt F) arg2.view.ty) (X3 : BufTy.Contents (Elt F) arg3.view.ty)
  (X4 : BufTy.Contents (Elt F) arg4.view.ty) (X5 : BufTy.Contents (Elt F) arg5.view.ty) (X6 : BufTy.Contents (Elt F) arg6.view.ty)

theorem unit_trip (X10 : BufTy.Contents (Elt F) arg10.view.ty) (v108 : IVec S16x128 32) (t : Fin k0_t3_loop.trips) (acc : Unit) :
    UInv c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 X0 hX X1 X2 X3 X5 X6 X10 v108 t
      ⊢ wp Idealize.ShloMosaic.frame (wpE (defs₀ (F := F)) Variants.none (c : Thread nD τ) bd) Set.univ (k0_t3_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 v108 t acc)
        (fun _ => UInv c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 X0 hX X1 X2 X3 X5 X6 X10 v108 (t + 1)) := by
  by_cases h1 : k0_cond1 t = 1#1
  · exact unit_trip_next c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 X0 hX X1 X2 X3 X5 X6 X10 v108 t h1
  · exact unit_trip_last c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 X0 hX X1 X2 X3 X5 X6 X10 v108 t h1

/-- The body run: the output holds every unit's rows, and all else is given back. -/
theorem body_run (f7 : BufTy.Contents (Elt F) arg7.view.ty) (f8 : BufTy.Contents (Elt F) arg8.view.ty) (f9 : BufTy.Contents (Elt F) arg9.view.ty)
    (f10 : BufTy.Contents (Elt F) arg10.view.ty) (f11 : BufTy.Contents (Elt F) arg11.view.ty) (f12 : BufTy.Contents (Elt F) arg12.view.ty)
    (f13 : BufTy.Contents (Elt F) arg13.view.ty) (f14 : BufTy.Contents (Elt F) arg14.view.ty) (f15 : BufTy.Contents (Elt F) arg15.view.ty) (W : Waits sig Unit) :
    (iprop((arg0.view.loc (c : Thread nD τ) ↦[arg0.view.set]{fullShare} X0) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ Ops c arg1 arg2 X1 X2 fullShare
      ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15) ∗ semVal ((c : Thread nD τ), SemLoc.dma (cellOf arg16 0)) 0 ∗ semVal ((c : Thread nD τ), SemLoc.dma (cellOf arg16 1)) 0 ∗ owes (c : Thread nD τ) 0 W) : sProp 𝕄)
      ⊢ wp Idealize.ShloMosaic.frame (wpE (defs₀ (F := F)) Variants.none (c : Thread nD τ) bd) Set.univ (cc0_palu_decode (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16)
        (fun _ => iprop((arg0.view.loc (c : Thread nD τ) ↦[arg0.view.set]{fullShare} X0) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ Ops c arg1 arg2 X1 X2 fullShare
          ∗ (∃ g7, ⌜OutOK arg7 (UOut c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 X0 hX X1 X2 X3 X5 X6 (wbuf arg4 arg10 X4) (iota .tc S16x128 32 [0] iota_S16x128_d0_w32)) 24 g7⌝ ∗ (arg7.view.loc (c : Thread nD τ) ↦[arg7.view.set]{fullShare} g7))
          ∗ (∃ f, arg8.view.loc (c : Thread nD τ) ↦[arg8.view.set]{fullShare} f) ∗ (∃ f, arg9.view.loc (c : Thread nD τ) ↦[arg9.view.set]{fullShare} f) ∗ (∃ f, arg10.view.loc (c : Thread nD τ) ↦[arg10.view.set]{fullShare} f) ∗ (∃ f, arg11.view.loc (c : Thread nD τ) ↦[arg11.view.set]{fullShare} f) ∗ (∃ f, arg12.view.loc (c : Thread nD τ) ↦[arg12.view.set]{fullShare} f) ∗ (∃ f, arg13.view.loc (c : Thread nD τ) ↦[arg13.view.set]{fullShare} f) ∗ (∃ f, arg14.view.loc (c : Thread nD τ) ↦[arg14.view.set]{fullShare} f) ∗ (∃ f, arg15.view.loc (c : Thread nD τ) ↦[arg15.view.set]{fullShare} f) ∗ semVal ((c : Thread nD τ), SemLoc.dma (cellOf arg16 0)) 0 ∗ semVal ((c : Thread nD τ), SemLoc.dma (cellOf arg16 1)) 0 ∗ (∃ W, owes (c : Thread nD τ) 0 W))) := by
  have f2 := wordAt_fits arg0 X0 hX k0_off1 k0_off1_inb
  have c1 := chk1_of _ f2
  have e1 : wordAt arg0 X0 k0_off1 k0_off1_inb = lenw arg0 X0 0 := wordAt_eq arg0 X0 _ _ _ _ k0_off1_eq
  rw [cc0_palu_decode_eq_skeleton]
  unfold cc0_palu_decode_skel
  iintro ⟨H0, H3, H4, H5, H6, HOps, H7, H8, H9, H10, H11, H12, H13, H14, H15, HS0, HS1, HO⟩
  ihave HF := (Free_init c arg1 arg2 arg8 arg9 arg16 X1 X2 f8 f9) $$ [H8 H9 HOps HS0 HS1]
  · isplitl [H8]; · iexact H8
    isplitl [H9]; · iexact H9
    isplitl [HOps]; · iexact HOps
    isplitl [HS0]; · iexact HS0
    iexact HS1
  icases HF with ⟨HF0, HF1⟩
  imod (Free_start c arg1 arg2 arg8 arg9 arg16 X1 X2 0 (nch (wordAt arg0 X0 k0_off1 k0_off1_inb))) $$ HF0 with ⟨HN, HNR⟩
  sl_exec
  sl_for (fun k _ => StartInv c arg1 arg2 arg8 arg9 arg16 X1 X2 (shr 0) 0 (nch (wordAt arg0 X0 k0_off1 k0_off1_inb)) k) $$ [HN]
  · intro k acc
    exact start_trip1 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 X1 X2 (shr 0) _ c1 f2 k acc
  · iexact HN
  iintro %acc HN
  sl_exec
  sl_for (fun k _ => UInv c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 X0 hX X1 X2 X3 X5 X6 (wbuf arg4 arg10 X4) (iota .tc S16x128 32 [0] iota_S16x128_d0_w32) k) $$ [H0 H3 H5 H6 H10 H11 H12 H13 H14 H15 HO H7 HN HNR HF1]
  · intro k acc
    exact unit_trip c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 X0 hX X1 X2 X3 X5 X6 (wbuf arg4 arg10 X4) (iota .tc S16x128 32 [0] iota_S16x128_d0_w32) k acc
  · unfold UInv Slots
    rw [if_pos (by omega), ← e1]
    isplitl [H0]; · iexact H0
    isplitl [H3]; · iexact H3
    isplitl [H5]; · iexact H5
    isplitl [H6]; · iexact H6
    isplitl [H10]; · iexact H10
    isplitl [H11]; · iexists _; iexact H11
    isplitl [H12]; · iexists _; iexact H12
    isplitl [H13]; · iexists _; iexact H13
    isplitl [H14]; · iexists _; iexact H14
    isplitl [H15]; · iexists _; iexact H15
    isplitl [HO]; · iexists _; iexact HO
    isplitl [H7]
    · iexists f7
      isplitr
      · ipureintro; intro u i a b h; exact absurd h (Nat.not_lt_zero _)
      iexact H7
    isplitl [HN HNR]
    · unfold Busy
      isplitl [HN]; · iexact HN
      iexact HNR
    iexact HF1
  iintro %acc HI
  unfold UInv Slots
  rw [if_neg (by decide)]
  icases HI with ⟨H0, H3, H5, H6, ⟨H10, H11, H12, H13, H14, H15, HO, H7, HF0, HF1⟩⟩
  ihave HF := (Free_end c arg1 arg2 arg8 arg9 arg16 X1 X2 f8 f9 24 25 rfl rfl) $$ [HF0 HF1]
  · isplitl [HF0]; · iexact HF0
    iexact HF1
  icases HF with ⟨H8, H9, HOps, HS0, HS1⟩
  sl_exec
  sl_step
  isplitl [H0]; · iexact H0
  isplitl [H3]; · iexact H3
  isplitl [H4]; · iexact H4
  isplitl [H5]; · iexact H5
  isplitl [H6]; · iexact H6
  isplitl [HOps]; · iexact HOps
  isplitl [H7]; · iexact H7
  isplitl [H8]; · iexact H8
  isplitl [H9]; · iexact H9
  isplitl [H10]; · iexists _; iexact H10
  isplitl [H11]; · iexact H11
  isplitl [H12]; · iexact H12
  isplitl [H13]; · iexact H13
  isplitl [H14]; · iexact H14
  isplitl [H15]; · iexact H15
  isplitl [HS0]; · iexact HS0
  isplitl [HS1]; · iexact HS1
  iexact HO
end Body

end Cert.KernelIdeal.Hand
-- ==== Proof.Ideal.Frame.lean ====
module

public import proofs.«01_k».proof.Proof.Ideal.Body
public import proofs.«01_k».proof.Proof.Gen.KernelIdeal.Frame
public import Idealize.ShloMosaic.Lib.Pipeline.FrameBody

@[expose] public section

set_option maxRecDepth 16384
set_option maxHeartbeats 4000000

/-! The launch of the kernel: its proof data, the body's obligation, the run and the frame. -/

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

open Idealize.ShloMosaic.Pipeline (Dat BodyObligation)

variable (m : (ℓ : Loc nD τ sig) → Buf (Elt F) ℓ) (ρ : Dev nD → PrngReg)

/-! ## The run up to the call, and the windows' blocks, at the algebra of the copies -/

theorem hmain (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-! ## What the body is called on -/

abbrev ms0 (t : Fin cfg0.N) : Memref sig .tc .smem S6 .i32 := win0_0.stage (cfg0.slots t 0)
abbrev ms1 (t : Fin cfg0.N) : Memref sig .tc .vmem S6x64x128 .f32 := win0_1.stage (cfg0.slots t 1)
abbrev ms2 (t : Fin cfg0.N) : Memref sig .tc .vmem S16x256x512 .bf16 := win0_2.stage (cfg0.slots t 2)
abbrev ms3 (t : Fin cfg0.N) : Memref sig .tc .vmem S54x64x256 .f32 := win0_3.stage (cfg0.slots t 3)
abbrev ms4 (t : Fin cfg0.N) : Memref sig .tc .vmem S54x64x256 .f32 := win0_4.stage (cfg0.slots t 4)
abbrev ms5 (t : Fin cfg0.N) : Memref sig .tc .vmem S6x64x2304 .f32 := win0_5.stage (cfg0.slots t 5)
abbrev sc0 : Memref sig .tc .vmem S2x9x256x128 .i32 := Memref.whole cc0_scratch0
abbrev sc1 : Memref sig .tc .vmem S2x9x4x8x256 .f32 := Memref.whole cc0_scratch1
abbrev sc2 : Memref sig .tc .vmem S16x512x256 .bf16 := Memref.whole cc0_scratch2
abbrev sc3 : Memref sig .tc .vmem S2x512x128 .i32 := Memref.whole cc0_scratch3
abbrev sc4 : Memref sig .tc .vmem S4x8x256 .f32 := Memref.whole cc0_scratch4
abbrev sc5 : Memref sig .tc .vmem S2048x256 .bf16 := Memref.whole cc0_scratch5
abbrev sc6 : Memref sig .tc .vmem S9x16x256 .f32 := Memref.whole cc0_scratch6
abbrev sc7 : Memref sig .tc .vmem S16x2048 .bf16 := Memref.whole cc0_scratch7
abbrev hb1 : Memref sig .tc .hbm S6x2304x4x128 .i32 := Memref.whole main_v18
abbrev hb2 : Memref sig .tc .hbm S6x16x8x2304 .f32 := Memref.whole main_v19

/-- The contents of input window `j`'s staging buffer: its block. -/
abbrev X0 (c : Dev nD) (t : Fin cfg0.N) : BufTy.Contents (Elt F) (ms0 t).view.ty := (ms0 t).view.rep (iblk m c 0 t)
abbrev X3 (c : Dev nD) (t : Fin cfg0.N) : BufTy.Contents (Elt F) (ms1 t).view.ty := (ms1 t).view.rep (iblk m c 1 t)
abbrev X4 (c : Dev nD) (t : Fin cfg0.N) : BufTy.Contents (Elt F) (ms2 t).view.ty := (ms2 t).view.rep (iblk m c 2 t)
abbrev X5 (c : Dev nD) (t : Fin cfg0.N) : BufTy.Contents (Elt F) (ms3 t).view.ty := (ms3 t).view.rep (iblk m c 3 t)
abbrev X6 (c : Dev nD) (t : Fin cfg0.N) : BufTy.Contents (Elt F) (ms4 t).view.ty := (ms4 t).view.rep (iblk m c 4 t)

/-- No cached length exceeds the cache's. -/
def Lens : Prop := ∀ (c : Dev nD) (t : Fin cfg0.N) (x : S6.Idx), Fits (iblk m c 0 t x)

variable (hP : Lens m)
include hP in
theorem hX0 (c : Dev nD) (t : Fin cfg0.N) (x : S6.Idx) : Fits ((ms0 t).view.read (Elt F) (X0 m c t) x) := by
  have e : (ms0 t).view.read (Elt F) (X0 m c t) = iblk m c 0 t := View.read_rep _ _
  rw [e]; exact hP c t x

/-- The scores of each unit and chunk. -/
def U0 (c : Dev nD) (t : Fin cfg0.N) : Fin k0_t3_loop.trips → ℕ → S1x16x256.Idx → Elt F .f32 :=
  UOut c none (ms0 t) (hstage0_0 0) hb1 (Memref.isWhole_whole _) hb2 (Memref.isWhole_whole _) (ms1 t) (hstage0_1 0) (ms2 t) (hstage0_2 0) (ms3 t) (hstage0_3 0) (ms4 t) (hstage0_4 0) (ms5 t) (hstage0_5 0) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) cc0_scratch8 (X0 m c t) (hX0 m hP c t) (V m c main_v18) (V m c main_v19) (X3 m c t) (X5 m c t) (X6 m c t) (wbuf (ms2 t) sc2 (X4 m c t)) (iota .tc S16x128 32 [0] iota_S16x128_d0_w32)

theorem unit_lt {a b : ℕ} (ha : a < 64) (hb : b < 6) : 6 * (a / 16) + b < k0_t3_loop.trips := by
  have : k0_t3_loop.trips = 24 := by decide
  omega

/-- The whole output: row 16·(h/16)+… of sequence b is unit 6·(h/16)+b's. -/
def out0 (c : Dev nD) (t : Fin cfg0.N) : S6x64x2304.Idx → Elt F .f32 := fun x =>
  U0 m hP c t ⟨6 * ((x 1).val / 16) + (x 0).val, unit_lt (x 1).isLt (x 0).isLt⟩ ((x 2).val / 256)
    (ix3 0 ⟨(x 1).val % 16, Nat.mod_lt _ (by decide)⟩ ⟨(x 2).val % 256, Nat.mod_lt _ (by decide)⟩)

theorem out0_of (c : Dev nD) (t : Fin cfg0.N) (g : BufTy.Contents (Elt F) (ms5 t).view.ty) (h : OutOK (ms5 t) (U0 m hP c t) 24 g) :
    (ms5 t).view.read (Elt F) g = out0 m hP c t := by
  funext x
  have h0 : (x 0).val < 6 := (x 0).isLt
  have h1 : (x 1).val < 64 := (x 1).isLt
  have h2 : (x 2).val < 2304 := (x 2).isLt
  have := h ⟨6 * ((x 1).val / 16) + (x 0).val, unit_lt (x 1).isLt (x 0).isLt⟩ ⟨(x 2).val / 256, Nat.div_lt_of_lt_mul h2⟩ ⟨(x 1).val % 16, Nat.mod_lt _ (by decide)⟩ ⟨(x 2).val % 256, Nat.mod_lt _ (by decide)⟩ (by
    have : 6 * ((x 1).val / 16) + (x 0).val < k0_t3_loop.trips := unit_lt (x 1).isLt (x 0).isLt
    have e : k0_t3_loop.trips = 24 := by decide
    rw [e] at this; exact this)
  refine Eq.trans (congrArg _ ?_) this
  funext a; apply Fin.ext
  match a with
  | 0 => show (x 0).val = (6 * ((x 1).val / 16) + (x 0).val) % 6; omega
  | 1 => show (x 1).val = 16 * ((6 * ((x 1).val / 16) + (x 0).val) / 6) + (x 1).val % 16; omega
  | 2 => show (x 2).val = 256 * ((x 2).val / 256) + (x 2).val % 256; omega

/-! ## The copies' semaphores and the operands left in HBM -/

abbrev osem0 : Fin 2 → SemLoc sig := fun j => (![SemLoc.dma 6, SemLoc.dma 7] : Fin 2 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma (cellOf cc0_scratch8 0)) 0 ∗ semVal ((c : Thread nD τ), SemLoc.dma (cellOf cc0_scratch8 1)) 0) := by
  rw [Pipeline.ownSems0_eq_of_list c osem0 [0, 1] (by decide) (by decide)]; rfl
def H0 : Finset (Ref sig .tc) := {main_v18, main_v19}
theorem H0_sub : H0 ⊆ Pipeline.restRefs sig spec0 := by decide
theorem hbmPts0_eq (c : Dev nD) :
    (bigSep H0 (fun b => ((c : Thread nD τ).loc b) ↦{fullShare} V m c b) : sProp 𝕄) = Ops c hb1 hb2 (V m c main_v18) (V m c main_v19) fullShare := by
  rw [BI.bigSep_eq_bigSepL_of_eq [main_v18, main_v19] (by decide) (by decide)]
  unfold Ops
  rw [show hb1.view.set = Finset.univ from View.set_whole _, show hb2.view.set = Finset.univ from View.set_whole _]
  rfl

theorem PhiD0_eq (c : Dev nD) :
    (Pipeline.ΦD osem0 spec0 H0 (V m) c : sProp 𝕄)
      = iprop(iprop((∃ d, owns (c : Thread nD τ) sc0 fullShare d) ∗ (∃ d, owns (c : Thread nD τ) sc1 fullShare d) ∗ (∃ d, owns (c : Thread nD τ) sc2 fullShare d) ∗ (∃ d, owns (c : Thread nD τ) sc3 fullShare d) ∗ (∃ d, owns (c : Thread nD τ) sc4 fullShare d) ∗ (∃ d, owns (c : Thread nD τ) sc5 fullShare d) ∗ (∃ d, owns (c : Thread nD τ) sc6 fullShare d) ∗ (∃ d, owns (c : Thread nD τ) sc7 fullShare d)) ∗ (∃ r, prngReg c r)
          ∗ iprop(semVal ((c : Thread nD τ), SemLoc.dma (cellOf cc0_scratch8 0)) 0 ∗ semVal ((c : Thread nD τ), SemLoc.dma (cellOf cc0_scratch8 1)) 0)
          ∗ Ops c hb1 hb2 (V m c main_v18) (V m c main_v19) fullShare) := by
  rw [Pipeline.ΦD_eq, scopedRest0_eq, ownSems00_eq, hbmPts0_eq]; simp only [sc0, sc1, sc2, sc3, sc4, sc5, sc6, sc7, owns_whole]; try rfl

/-! ## The proof data, the body, the run -/

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => out0 m hP c t
  Φ _ := Pipeline.ΦD osem0 spec0 H0 (V m) c
  q _ := fullShare
  owed _ := 0

theorem A_eq (c : Dev nD) (w : Fin cfg0.W) : (dats m hP 0 c).A w = V m c (Pipeline.arrRef spec0 w) := by dsimp only [dats]
theorem after_0 (c : Dev nD) (t : Fin cfg0.N) : (dats m hP 0 c).after 0 t = iblk m c 0 t := by dsimp only [dats]
theorem after_1 (c : Dev nD) (t : Fin cfg0.N) : (dats m hP 0 c).after 1 t = iblk m c 1 t := by dsimp only [dats]
theorem after_2 (c : Dev nD) (t : Fin cfg0.N) : (dats m hP 0 c).after 2 t = iblk m c 2 t := by dsimp only [dats]
theorem after_3 (c : Dev nD) (t : Fin cfg0.N) : (dats m hP 0 c).after 3 t = iblk m c 3 t := by dsimp only [dats]
theorem after_4 (c : Dev nD) (t : Fin cfg0.N) : (dats m hP 0 c).after 4 t = iblk m c 4 t := by dsimp only [dats]
theorem after_5 (c : Dev nD) (t : Fin cfg0.N) : (dats m hP 0 c).after 5 t = out0 m hP c t := by dsimp only [dats]
theorem before_0 (c : Dev nD) (t : Fin cfg0.N) (d) : (dats m hP 0 c).before 0 t d = iblk m c 0 t :=
  ((dats m hP 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m hP 0 c).before 1 t d = iblk m c 1 t :=
  ((dats m hP 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg0.N) (d) : (dats m hP 0 c).before 2 t d = iblk m c 2 t :=
  ((dats m hP 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin cfg0.N) (d) : (dats m hP 0 c).before 3 t d = iblk m c 3 t :=
  ((dats m hP 0 c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
theorem before_4 (c : Dev nD) (t : Fin cfg0.N) (d) : (dats m hP 0 c).before 4 t d = iblk m c 4 t :=
  ((dats m hP 0 c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)

def bodyPre (c : Dev nD) (t : Fin cfg0.N) : sProp 𝕄 :=
  iprop((dats m hP 0 c).Φ t.castSucc ∗ (dats m hP 0 c).owesAt () t.castSucc
    ∗ (∃ d, owns (c : Thread nD τ) (ms0 t) fullShare ((dats m hP 0 c).before 0 t d))
    ∗ (∃ d, owns (c : Thread nD τ) (ms1 t) fullShare ((dats m hP 0 c).before 1 t d))
    ∗ (∃ d, owns (c : Thread nD τ) (ms2 t) fullShare ((dats m hP 0 c).before 2 t d))
    ∗ (∃ d, owns (c : Thread nD τ) (ms3 t) fullShare ((dats m hP 0 c).before 3 t d))
    ∗ (∃ d, owns (c : Thread nD τ) (ms4 t) fullShare ((dats m hP 0 c).before 4 t d))
    ∗ (∃ d, owns (c : Thread nD τ) (ms5 t) fullShare ((dats m hP 0 c).before 5 t d)))
def bodyPost (c : Dev nD) (t : Fin cfg0.N) : sProp 𝕄 :=
  iprop((dats m hP 0 c).Φ t.succ ∗ (dats m hP 0 c).owesAt () t.succ
    ∗ owns (c : Thread nD τ) (ms0 t) fullShare ((dats m hP 0 c).after 0 t)
    ∗ owns (c : Thread nD τ) (ms1 t) fullShare ((dats m hP 0 c).after 1 t)
    ∗ owns (c : Thread nD τ) (ms2 t) fullShare ((dats m hP 0 c).after 2 t)
    ∗ owns (c : Thread nD τ) (ms3 t) fullShare ((dats m hP 0 c).after 3 t)
    ∗ owns (c : Thread nD τ) (ms4 t) fullShare ((dats m hP 0 c).after 4 t)
    ∗ owns (c : Thread nD τ) (ms5 t) fullShare ((dats m hP 0 c).after 5 t))

theorem owns_hold (c : Dev nD) {sp : Space} {S : Shape} {e : EltTy} (M : Memref sig .tc sp S e) (X : S.Idx → Elt F e) :
    (owns (c : Thread nD τ) M fullShare X : sProp 𝕄) ⊢ M.view.loc (c : Thread nD τ) ↦[M.view.set]{fullShare} M.view.rep X := by
  unfold owns
  iintro ⟨%f, %e, H⟩
  subst e
  iapply (pointsTo_rep_entails (Ix := Unit) (Name := ℕ) (U := Pipeline.UD sig nD τ) (Lvl := ℕ) (c : Thread nD τ) M f fullShare)
  iexact H

theorem hold_owns (c : Dev nD) {sp : Space} {S : Shape} {e : EltTy} (M : Memref sig .tc sp S e) (X : S.Idx → Elt F e)
    (f : Buf (Elt F) (M.view.loc (c : Thread nD τ))) (h : M.view.read (Elt F) f = X) :
    (M.view.loc (c : Thread nD τ) ↦[M.view.set]{fullShare} f : sProp 𝕄) ⊢ owns (c : Thread nD τ) M fullShare X := by
  unfold owns
  iintro H
  iexists f
  isplitr
  · ipureintro; exact h
  iexact H

theorem sound_body (c : Dev nD) (t : Fin cfg0.N) :
    bodyPre m hP c t ⊢ wp frame (wpE (defs₀ (F := F)) Variants.none c none) Set.univ (bodyAt0 t) (fun _ => bodyPost m hP c t) := by
  unfold bodyPre bodyPost bodyAt0
  rw [show (dats m hP 0 c).Φ t.succ = (dats m hP 0 c).Φ t.castSucc from rfl]
  simp only [after_0, after_1, after_2, after_3, after_4, after_5, before_0, before_1, before_2, before_3, before_4]
  rw [show (dats m hP 0 c).Φ t.castSucc = Pipeline.ΦD osem0 spec0 H0 (V m) c from rfl, PhiD0_eq]
  unfold Dat.owesAt Pipeline.owesWithin
  rw [show (dats m hP 0 c).owed t.castSucc = 0 from rfl, show (dats m hP 0 c).owed t.succ = 0 from rfl]
  iintro ⟨⟨⟨⟨%s0, HA0⟩, ⟨%s1, HA1⟩, ⟨%s2, HA2⟩, ⟨%s3, HA3⟩, ⟨%s4, HA4⟩, ⟨%s5, HA5⟩, ⟨%s6, HA6⟩, ⟨%s7, HA7⟩⟩, Hg, ⟨HS0, HS1⟩, HOps⟩, ⟨%W, -, HW⟩, ⟨%d0, H0⟩, ⟨%d1, H1⟩, ⟨%d2, H2⟩, ⟨%d3, H3⟩, ⟨%d4, H4⟩, ⟨%d5, H5⟩⟩
  ihave H0 := (owns_hold c (ms0 t) _) $$ H0
  ihave H1 := (owns_hold c (ms1 t) _) $$ H1
  ihave H2 := (owns_hold c (ms2 t) _) $$ H2
  ihave H3 := (owns_hold c (ms3 t) _) $$ H3
  ihave H4 := (owns_hold c (ms4 t) _) $$ H4
  ihave H5 := (owns_hold c (ms5 t) _) $$ H5
  ihave HA0 := (owns_hold c sc0 _) $$ HA0
  ihave HA1 := (owns_hold c sc1 _) $$ HA1
  ihave HA2 := (owns_hold c sc2 _) $$ HA2
  ihave HA3 := (owns_hold c sc3 _) $$ HA3
  ihave HA4 := (owns_hold c sc4 _) $$ HA4
  ihave HA5 := (owns_hold c sc5 _) $$ HA5
  ihave HA6 := (owns_hold c sc6 _) $$ HA6
  ihave HA7 := (owns_hold c sc7 _) $$ HA7
  iapply ((body_run c none (ms0 t) (hstage0_0 0) hb1 (Memref.isWhole_whole _) hb2 (Memref.isWhole_whole _) (ms1 t) (hstage0_1 0) (ms2 t) (hstage0_2 0) (ms3 t) (hstage0_3 0) (ms4 t) (hstage0_4 0) (ms5 t) (hstage0_5 0) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) cc0_scratch8 (X0 m c t) (hX0 m hP c t) (V m c main_v18) (V m c main_v19) (X3 m c t) (X4 m c t) (X5 m c t) (X6 m c t) _ _ _ _ _ _ _ _ _ W).trans (wp_wand _ _ _)) $$ [H0 H1 H2 H3 H4 H5 HOps HW HS0 HS1 HA0 HA1 HA2 HA3 HA4 HA5 HA6 HA7]
  · isplitl [H0]; · iexact H0
    isplitl [H1]; · iexact H1
    isplitl [H2]; · iexact H2
    isplitl [H3]; · iexact H3
    isplitl [H4]; · iexact H4
    isplitl [HOps]; · iexact HOps
    isplitl [H5]; · iexact H5
    isplitl [HA0]; · iexact HA0
    isplitl [HA1]; · iexact HA1
    isplitl [HA2]; · iexact HA2
    isplitl [HA3]; · iexact HA3
    isplitl [HA4]; · iexact HA4
    isplitl [HA5]; · iexact HA5
    isplitl [HA6]; · iexact HA6
    isplitl [HA7]; · iexact HA7
    isplitl [HS0]; · iexact HS0
    isplitl [HS1]; · iexact HS1
    iexact HW
  iintro %_ ⟨H0, H1, H2, H3, H4, HOps, ⟨%g, %hg, H5⟩, ⟨%e0, HA0⟩, ⟨%e1, HA1⟩, ⟨%e2, HA2⟩, ⟨%e3, HA3⟩, ⟨%e4, HA4⟩, ⟨%e5, HA5⟩, ⟨%e6, HA6⟩, ⟨%e7, HA7⟩, HS0, HS1, ⟨%W', HW⟩⟩
  isplitl [HA0 HA1 HA2 HA3 HA4 HA5 HA6 HA7 Hg HS0 HS1 HOps]
  · isplitl [HA0 HA1 HA2 HA3 HA4 HA5 HA6 HA7]
    · isplitl [HA0]; · iexists _; iapply (hold_owns c sc0 _ _ rfl); iexact HA0
      isplitl [HA1]; · iexists _; iapply (hold_owns c sc1 _ _ rfl); iexact HA1
      isplitl [HA2]; · iexists _; iapply (hold_owns c sc2 _ _ rfl); iexact HA2
      isplitl [HA3]; · iexists _; iapply (hold_owns c sc3 _ _ rfl); iexact HA3
      isplitl [HA4]; · iexists _; iapply (hold_owns c sc4 _ _ rfl); iexact HA4
      isplitl [HA5]; · iexists _; iapply (hold_owns c sc5 _ _ rfl); iexact HA5
      isplitl [HA6]; · iexists _; iapply (hold_owns c sc6 _ _ rfl); iexact HA6
      iexists _; iapply (hold_owns c sc7 _ _ rfl); iexact HA7
    isplitl [Hg]; · iexact Hg
    isplitl [HS0 HS1]
    · isplitl [HS0]; · iexact HS0
      iexact HS1
    iexact HOps
  isplitl [HW]
  · iexists W'; isplitr; · ipureintro; exact fun _ _ => Or.inl trivial
    iexact HW
  isplitl [H0]; · iapply (hold_owns c (ms0 t) _ _ (View.read_rep _ _)); iexact H0
  isplitl [H1]; · iapply (hold_owns c (ms1 t) _ _ (View.read_rep _ _)); iexact H1
  isplitl [H2]; · iapply (hold_owns c (ms2 t) _ _ (View.read_rep _ _)); iexact H2
  isplitl [H3]; · iapply (hold_owns c (ms3 t) _ _ (View.read_rep _ _)); iexact H3
  isplitl [H4]; · iapply (hold_owns c (ms4 t) _ _ (View.read_rep _ _)); iexact H4
  iapply (hold_owns c (ms5 t) _ _ (out0_of m hP c t g hg)); iexact H5

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m hP 0 c) (defs₀ (F := F)) Variants.none () Set.univ := fun t => by
  rw [bigSep_W0, bigSep_W0, defs₀_row]
  exact triple_restated (sound_body m hP c t) rfl .rfl fun _ => .rfl

set_option backward.isDefEq.respectTransparency.types false in
theorem run_main : θ_run defs (onTc (τ := τ) (main (F := F))) (s₀ m ρ) (fun r => Pipeline.FramePost cfgs (dats m hP) 0 (V m) r ∧ r.2.sem = fun _ => 0) :=
  Pipeline.θ_run_frame_dma (Q' := _) cfgs (dats m hP) (0 : Fin 1) launch0 osem0 defs₀ Variants.none ownSemFacts0 H0 H0_sub m ρ main
    (hbody := fun c => (body_obligation m hP c).loose) (hshare := fun c => (dats m hP 0 c).share_full fun _ => rfl)
    (howed := fun _ _ => rfl) (V := V m) (hmain := hmain m Variants.none) (hA := A_eq m hP)
    (hin := fun _ => .rfl) (hout := fun _ => .rfl)

/-- The run: the output array holds `out0` written back, every argument is as it was, every semaphore at zero. -/
theorem frame : θ_run defs (onTc (τ := τ) (main (F := F))) ⟨m, fun _ => 0, ρ⟩ (fun r => (∀ c : Dev nD,
      r.2.mem ((c.tc : Thread nD τ).loc main_v24) = (dats m hP 0 c).arrAt 5 (Fin.last cfg0.N)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) ∧ r.2.sem = fun _ => 0) :=
  (θ_run defs _ _).mono (fun _ h => ⟨fun c => ⟨((h.1 c).1 5),
      ((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).1 1).trans (((dats m hP 0 c).arrAt_in 1 rfl _).trans ((A_eq m hP c 1).trans (V_main_arg2 m c))),
      ((h.1 c).1 2).trans (((dats m hP 0 c).arrAt_in 2 rfl _).trans ((A_eq m hP c 2).trans (V_main_arg3 m c))),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c),
      ((h.1 c).1 0).trans (((dats m hP 0 c).arrAt_in 0 rfl _).trans ((A_eq m hP c 0).trans (V_main_arg6 m c)))⟩, h.2⟩) (run_main m ρ hP)

end Cert.KernelIdeal.Hand
-- ==== Proof.Ideal.Lens.lean ====
module

public import proofs.«01_k».proof.Proof.Ideal.Frame
public import proofs.«01_k».proof.Proof.Gen.Pre_lengths_fit

@[expose] public section

/-! The precondition gives what the run asks: no cached length exceeds the cache's. -/

noncomputable section

namespace Cert.KernelIdeal.Hand

open Cert.KernelIdeal Cert.KernelIdeal.Gen
open Idealize.ShloMosaic Idealize.ShloMosaic.TcCoe

variable {F : FTy → Type} [FloatOps F]

theorem fits_of_pre (a0 : IVec Cert.Pre_lengths_fit.S6x2304x16x128 8) (a1 : FVec F Cert.Pre_lengths_fit.S6x2304x16x8 .f32) (a2 : FVec F Cert.Pre_lengths_fit.S6x64x128 .f32)
    (a3 : FVec F Cert.Pre_lengths_fit.S16x256x512 .bf16) (a4 a5 : FVec F Cert.Pre_lengths_fit.S6x2304x64 .f32) (a6 : IVec Cert.Pre_lengths_fit.S6 32)
    (h : Cert.Pre_lengths_fit.fn (F := F) a0 a1 a2 a3 a4 a5 a6 = fun _ => 1#1) (x : Cert.Pre_lengths_fit.S6.Idx) : Fits (a6 x) := by
  have e := congrFun h x
  have e' : BitVec.ofBool ((a6 x).sle 2304#32) = 1#1 := e
  have e2 : (a6 x).sle 2304#32 = true := by
    cases hb : (a6 x).sle 2304#32
    · rw [hb] at e'; exact absurd e' (by decide)
    · rfl
  unfold Fits
  rw [BitVec.sle_iff_toInt_le] at e2
  exact e2

theorem lens_of_pre (m : (ℓ : Loc nD τ sig) → Buf (Elt F) ℓ)
    (h : ∀ c : Dev nD, Cert.Pre_lengths_fit.fn (F := F) (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) (m ((c.tc : Thread nD τ).loc main_arg6)) = fun _ => 1#1) :
    Lens m := by
  intro c t x
  have e : iblk m c 0 t = ((cfg0.win 0).blk t).view.read (Elt F) (V m c main_arg6) := rfl
  rw [e, V_main_arg6, View.read_apply]
  exact fits_of_pre _ _ _ _ _ _ _ (h c) _

end Cert.KernelIdeal.Hand
-- ==== Proof.Bits.Words.lean ====
module

public import proofs.«01_k».proof.Proof.Gen.Kernel
public import Idealize.ShloMosaic.Lib.LoopRemainder
public import Idealize.ShloMosaic.Lib.ClampedCount

@[expose] public section

set_option maxRecDepth 16384

/-! The kernel's integer arithmetic: the number of 256-key chunks of a batch row and the offsets of its copies, loads
and stores, in closed form. -/

namespace Cert.Kernel.Hand

open Cert.Kernel Cert.Kernel.Gen
open Idealize.ShloMosaic Idealize.ShloMosaic.TcCoe

/-- The number of chunks of 256 keys that the cache length `v` reaches into. -/
abbrev nch (v : BitVec 32) : ℕ := (k0_t1_loop v).trips

/-- The length `v`, read signed, stays within the cache. -/
def Fits (v : BitVec 32) : Prop := v.toInt ≤ 2304

theorem count_word (v : BitVec 32) (h : Fits v) :
    (Scalar.divsi (Scalar.addi v 255#32) 256#32).toInt = (v.toInt + 255).tdiv 256 := by
  unfold Fits at h
  have h0 : -(2:ℤ)^31 ≤ v.toInt := by have := BitVec.le_toInt v; omega
  have h1 : (v + 255#32).toInt = v.toInt + 255 := by
    rw [BitVec.toInt_add]
    have : (255#32 : BitVec 32).toInt = 255 := by decide
    rw [this]
    apply Int.bmod_eq_of_le <;> omega
  have hc : ¬ IntOp.SDivCorner (Scalar.addi v 255#32) 256#32 := by
    unfold IntOp.SDivCorner
    rintro (h | ⟨_, h⟩) <;> exact absurd h (by decide)
  unfold Scalar.divsi IntOp.divsi
  rw [if_neg hc]
  show ((v + 255#32).sdiv 256#32).toInt = _
  rw [BitVec.toInt_sdiv_of_ne_or_ne _ _ (Or.inr (by decide)), h1]
  rfl

theorem loop_ub (v : BitVec 32) : (k0_t1_loop v).ub = Scalar.divsi (Scalar.addi v 255#32) 256#32 := by
  show Scalar.addi 0#32 (Scalar.muli (Scalar.divsi (Scalar.subi _ 0#32) 1#32) 1#32) = _
  exact ClampedCount.ub_norm_step_one _ _

theorem nch_eq (v : BitVec 32) (h : Fits v) : nch v = ((v.toInt + 255).tdiv 256).toNat := by
  show Scf.trips 0#32 (k0_t1_loop v).ub 1#32 = _
  unfold Scf.trips
  rw [loop_ub, count_word v h]
  have h0 : (0#32 : BitVec 32).toInt = 0 := by decide
  have h1 : (1#32 : BitVec 32).toInt = 1 := by decide
  rw [h0, h1]; simp

theorem nch_le (v : BitVec 32) (h : Fits v) : nch v ≤ 9 := by
  rw [nch_eq v h]
  have : (v.toInt + 255).tdiv 256 ≤ 9 := by
    unfold Fits at h
    rcases Int.le_total 0 (v.toInt + 255) with h2 | h2
    · rw [Int.tdiv_eq_ediv_of_nonneg h2]; omega
    · have h3 : (v.toInt + 255).tdiv 256 ≤ 0 := by
        have h4 := Int.neg_tdiv (v.toInt + 255) 256
        rw [Int.tdiv_eq_ediv_of_nonneg (by omega : 0 ≤ -(v.toInt + 255))] at h4
        omega
      omega
  omega

/-- A chunk past the count lies wholly beyond the length. -/
theorem beyond (v : BitVec 32) (h : Fits v) (i : ℕ) (hi : nch v ≤ i) : v.toInt ≤ 256 * i := by
  rw [nch_eq v h] at hi
  rcases Int.le_total 0 (v.toInt + 255) with h2 | h2
  · rw [Int.tdiv_eq_ediv_of_nonneg h2] at hi; omega
  · omega

theorem loop_ok (v : BitVec 32) (h : Fits v) : (k0_t1_loop v).OK := by
  show Scf.OK 0#32 (k0_t1_loop v).ub 1#32
  refine ⟨by decide, ?_⟩
  have : Scf.trips 0#32 (k0_t1_loop v).ub 1#32 ≤ 9 := nch_le v h
  have h0 : (0#32 : BitVec 32).toInt = 0 := by decide
  have h1 : (1#32 : BitVec 32).toInt = 1 := by decide
  rw [h0, h1]; omega

theorem iv_toNat (k : ℕ) (hk : k < 2^20) : (Scf.iv 0#32 1#32 k).toNat = k := by
  simp only [Scf.iv, BitVec.toNat_add, BitVec.toNat_mul, BitVec.toNat_ofNat]
  omega

theorem iv_mul_toNat (k : ℕ) (hk : k < 2^20) : (Scalar.muli (Scf.iv 0#32 1#32 k) 256#32).toNat = k * 256 := by
  simp only [Scalar.muli, IntOp.muli, BitVec.toNat_mul, iv_toNat k hk, BitVec.toNat_ofNat]
  omega

theorem rem_elim {P : Prop} (a x : BitVec 32)
    (k : Fin (Scf.trips (Scalar.addi a (Scalar.muli (Scalar.divsi x 1#32) 1#32)) (Scalar.addi a x) 1#32)) : P :=
  (Scf.rem_no_trip a x k).elim

/-! ### Block offsets -/

/-- Chunk `i` of slot `s` of the code buffer. -/
abbrev oB1 (s i : ℕ) : Fin 4 → ℕ := ![s % 2, i % 9, 0, 0]
/-- Chunk `i` of slot `s` of the scale buffer. -/
abbrev oB2 (s i : ℕ) : Fin 5 → ℕ := ![s % 2, i % 9, 0, 0, 0]
/-- Chunk `i` of unit `u` in the code words: batch row `u % 6`, group quad `u / 6`. -/
abbrev oS1 (u i : ℕ) : Fin 4 → ℕ := ![u % 6, i % 9 * 256, u / 6 % 4, 0]
/-- Chunk `i` of unit `u` in the scales. -/
abbrev oS2 (u i : ℕ) : Fin 4 → ℕ := ![u % 6, u / 6 % 4 * 4, 0, i % 9 * 256]

theorem inB1 (s i : ℕ) : ∀ a, oB1 s i a + S1x1x256x128.size a ≤ S2x9x256x128.size a := by
  intro a; fin_cases a <;> simp <;> omega
theorem inB2 (s i : ℕ) : ∀ a, oB2 s i a + S1x1x4x8x256.size a ≤ S2x9x4x8x256.size a := by
  intro a; fin_cases a <;> simp <;> omega
theorem inS1 (u i : ℕ) : ∀ a, oS1 u i a + S1x256x1x128.size a ≤ S6x2304x4x128.size a := by
  intro a; fin_cases a <;> simp <;> omega
theorem inS2 (u i : ℕ) : ∀ a, oS2 u i a + S1x4x8x256.size a ≤ S6x16x8x2304.size a := by
  intro a; fin_cases a <;> simp <;> omega

section Unit0
variable (v : BitVec 32) (h : Fits v) (k : Fin (nch v))
include h

theorem off3_eq : k0_off3 v k = oB1 0 k := by
  have := nch_le v h; have := k.isLt
  funext a; fin_cases a
  · rfl
  · show (Scf.iv 0#32 1#32 k).toNat = k % 9
    rw [iv_toNat _ (by omega)]; omega
  · rfl
  · rfl
theorem off4_eq : k0_off4 v k = oS1 0 k := by
  have := nch_le v h; have := k.isLt
  funext a; fin_cases a
  · rfl
  · show (Scalar.muli (Scf.iv 0#32 1#32 k) 256#32).toNat = k % 9 * 256
    rw [iv_mul_toNat _ (by omega)]; omega
  · rfl
  · rfl
theorem off5_eq : k0_off5 v k = oB2 0 k := by
  have := nch_le v h; have := k.isLt
  funext a; fin_cases a
  · rfl
  · show (Scf.iv 0#32 1#32 k).toNat = k % 9
    rw [iv_toNat _ (by omega)]; omega
  · rfl
  · rfl
  · rfl
theorem off6_eq : k0_off6 v k = oS2 0 k := by
  have := nch_le v h; have := k.isLt
  funext a; fin_cases a
  · rfl
  · rfl
  · rfl
  · show (Scalar.muli (Scf.iv 0#32 1#32 k) 256#32).toNat = k % 9 * 256
    rw [iv_mul_toNat _ (by omega)]; omega
end Unit0

section UnitT
variable (t : Fin k0_t3_loop.trips) (v : BitVec 32) (h : Fits v) (k : Fin (nch v))

theorem t_lt : t.val < 24 := t.isLt

theorem w_rem2 : ∀ t : Fin k0_t3_loop.trips, (Scalar.remsi (Scf.iv 0#32 1#32 t.val) 2#32).toNat = t.val % 2 := by decide +kernel
theorem w_rem2' : ∀ t : Fin k0_t3_loop.trips,
    (Scalar.remsi (Scalar.addi (Scf.iv 0#32 1#32 t.val) 1#32) 2#32).toNat = (t.val + 1) % 2 := by decide +kernel
theorem w_rem6' : ∀ t : Fin k0_t3_loop.trips,
    (Scalar.remsi (Scalar.addi (Scf.iv 0#32 1#32 t.val) 1#32) 6#32).toNat = (t.val + 1) % 6 := by decide +kernel
theorem w_div6' : ∀ t : Fin k0_t3_loop.trips,
    (Scalar.divsi (Scalar.addi (Scf.iv 0#32 1#32 t.val) 1#32) 6#32).toNat = (t.val + 1) / 6 := by decide +kernel
theorem w_div6m' : ∀ t : Fin k0_t3_loop.trips,
    (Scalar.muli (Scalar.divsi (Scalar.addi (Scf.iv 0#32 1#32 t.val) 1#32) 6#32) 4#32).toNat = (t.val + 1) / 6 * 4 := by decide +kernel
theorem w_rem6 : ∀ t : Fin k0_t3_loop.trips, (Scalar.remsi (Scf.iv 0#32 1#32 t.val) 6#32).toNat = t.val % 6 := by decide +kernel
theorem w_div6 : ∀ t : Fin k0_t3_loop.trips, (Scalar.divsi (Scf.iv 0#32 1#32 t.val) 6#32).toNat = t.val / 6 := by decide +kernel
theorem w_div6m : ∀ t : Fin k0_t3_loop.trips,
    (Scalar.muli (Scalar.divsi (Scf.iv 0#32 1#32 t.val) 6#32) 4#32).toNat = t.val / 6 * 4 := by decide +kernel

/-- Whether a next unit is started: in every trip but the last. -/
theorem cond1_iff : ∀ t : Fin k0_t3_loop.trips, k0_cond1 t = 1#1 ↔ t.val + 1 < 24 := by decide +kernel

include h

theorem off15_eq : k0_off15 t v k = oB1 (t + 1) k := by
  have := nch_le v h; have := k.isLt
  funext a; fin_cases a
  · exact w_rem2' t
  · show (Scf.iv 0#32 1#32 k).toNat = k % 9
    rw [iv_toNat _ (by omega)]; omega
  · rfl
  · rfl
theorem off16_eq (ht : t.val + 1 < 24) : k0_off16 t v k = oS1 (t + 1) k := by
  have := nch_le v h; have := k.isLt
  funext a; fin_cases a
  · exact w_rem6' t
  · show (Scalar.muli (Scf.iv 0#32 1#32 k) 256#32).toNat = k % 9 * 256
    rw [iv_mul_toNat _ (by omega)]; omega
  · show _ = (t.val + 1) / 6 % 4
    rw [Nat.mod_eq_of_lt (by omega)]; exact w_div6' t
  · rfl
theorem off17_eq : k0_off17 t v k = oB2 (t + 1) k := by
  have := nch_le v h; have := k.isLt
  funext a; fin_cases a
  · exact w_rem2' t
  · show (Scf.iv 0#32 1#32 k).toNat = k % 9
    rw [iv_toNat _ (by omega)]; omega
  · rfl
  · rfl
  · rfl
theorem off18_eq (ht : t.val + 1 < 24) : k0_off18 t v k = oS2 (t + 1) k := by
  have := nch_le v h; have := k.isLt
  funext a; fin_cases a
  · exact w_rem6' t
  · show _ = (t.val + 1) / 6 % 4 * 4
    rw [Nat.mod_eq_of_lt (by omega)]; exact w_div6m' t
  · rfl
  · show (Scalar.muli (Scf.iv 0#32 1#32 k) 256#32).toNat = k % 9 * 256
    rw [iv_mul_toNat _ (by omega)]; omega

theorem off26_eq : k0_off26 t v k = oB1 t k := by
  have := nch_le v h; have := k.isLt
  funext a; fin_cases a
  · exact w_rem2 t
  · show (Scf.iv 0#32 1#32 k).toNat = k % 9
    rw [iv_toNat _ (by omega)]; omega
  · rfl
  · rfl
theorem off27_eq : k0_off27 t v k = oS1 t k := by
  have := nch_le v h; have := k.isLt
  funext a; fin_cases a
  · exact w_rem6 t
  · show (Scalar.muli (Scf.iv 0#32 1#32 k) 256#32).toNat = k % 9 * 256
    rw [iv_mul_toNat _ (by omega)]; omega
  · show _ = t.val / 6 % 4
    rw [Nat.mod_eq_of_lt (by have := t_lt t; omega)]; exact w_div6 t
  · rfl
theorem off28_eq : k0_off28 t v k = oB2 t k := by
  have := nch_le v h; have := k.isLt
  funext a; fin_cases a
  · exact w_rem2 t
  · show (Scf.iv 0#32 1#32 k).toNat = k % 9
    rw [iv_toNat _ (by omega)]; omega
  · rfl
  · rfl
  · rfl
theorem off29_eq : k0_off29 t v k = oS2 t k := by
  have := nch_le v h; have := k.isLt
  funext a; fin_cases a
  · exact w_rem6 t
  · show _ = t.val / 6 % 4 * 4
    rw [Nat.mod_eq_of_lt (by have := t_lt t; omega)]; exact w_div6m t
  · rfl
  · show (Scalar.muli (Scf.iv 0#32 1#32 k) 256#32).toNat = k % 9 * 256
    rw [iv_mul_toNat _ (by omega)]; omega

theorem off35_eq : k0_off35 t v k = oB1 t k := by
  have := nch_le v h; have := k.isLt
  funext a; fin_cases a
  · exact w_rem2 t
  · show (Scf.iv 0#32 1#32 k).toNat = k % 9
    rw [iv_toNat _ (by omega)]; omega
  · rfl
  · rfl
theorem off36_eq : k0_off36 t v k = ![t.val % 2, k.val % 9, 0, 0, 0] := by
  have := nch_le v h; have := k.isLt
  funext a; fin_cases a
  · exact w_rem2 t
  · show (Scf.iv 0#32 1#32 k).toNat = k % 9
    rw [iv_toNat _ (by omega)]; omega
  all_goals rfl
theorem off37_eq : k0_off37 t v k = ![t.val % 2, k.val % 9, 1, 0, 0] := by
  have := nch_le v h; have := k.isLt
  funext a; fin_cases a
  · exact w_rem2 t
  · show (Scf.iv 0#32 1#32 k).toNat = k % 9
    rw [iv_toNat _ (by omega)]; omega
  all_goals rfl
theorem off38_eq : k0_off38 t v k = ![t.val % 2, k.val % 9, 2, 0, 0] := by
  have := nch_le v h; have := k.isLt
  funext a; fin_cases a
  · exact w_rem2 t
  · show (Scf.iv 0#32 1#32 k).toNat = k % 9
    rw [iv_toNat _ (by omega)]; omega
  all_goals rfl
theorem off39_eq : k0_off39 t v k = ![t.val % 2, k.val % 9, 3, 0, 0] := by
  have := nch_le v h; have := k.isLt
  funext a; fin_cases a
  · exact w_rem2 t
  · show (Scf.iv 0#32 1#32 k).toNat = k % 9
    rw [iv_toNat _ (by omega)]; omega
  all_goals rfl
theorem off41_eq : k0_off41 t v k = ![t.val % 6 * 9 + k.val, 0, 0] := by
  have := nch_le v h; have := k.isLt
  funext a; fin_cases a
  · show (Scalar.addi (Scalar.muli (Scalar.remsi (Scf.iv 0#32 1#32 t.val) 6#32) 9#32) (Scf.iv 0#32 1#32 k)).toNat = t.val % 6 * 9 + k.val
    simp only [Scalar.addi, Scalar.muli, IntOp.addi, IntOp.muli, BitVec.toNat_add, BitVec.toNat_mul, w_rem6 t,
      iv_toNat k.val (by omega), BitVec.toNat_ofNat]
    omega
  all_goals rfl
end UnitT

theorem off42_eq (v : BitVec 32) (h : Fits v) (k : Fin (k0_t8_loop v).trips) : k0_off42 v k = ![k.val, 0, 0] := by
  have h7 := nch_le v h; have h8 : k.val < nch v := k.isLt
  have h9 : (Scf.iv 0#32 1#32 k.val).toNat = k.val := iv_toNat k.val (by omega)
  have h10 : k0_off42 v k = ![(Scf.iv 0#32 1#32 k.val).toNat, 0, 0] := rfl
  rw [h10, h9]

/-! ### The assumed conditions hold of a length that fits -/

theorem chk1_of (v : BitVec 32) (h : Fits v) : k0_chk1 v := by
  refine ⟨loop_ok v h, fun k => ?_, fun k => ?_, fun k => ?_, fun k => ?_, fun k => ?_, Scf.rem_ok _ _,
    fun k => rem_elim _ _ k, fun k => rem_elim _ _ k, fun k => rem_elim _ _ k, fun k => rem_elim _ _ k, fun k => rem_elim _ _ k⟩
  · have := nch_le v h; have := k.isLt
    show 256 ∣ (Scalar.muli (Scf.iv 0#32 1#32 k) 256#32).toNat
    rw [iv_mul_toNat _ (by have : k.val < nch v := k.isLt; omega)]; exact ⟨k, Nat.mul_comm _ _⟩
  · rw [off3_eq v h k]; exact inB1 _ _
  · rw [off4_eq v h k]; exact inS1 _ _
  · rw [off5_eq v h k]; exact inB2 _ _
  · rw [off6_eq v h k]; exact inS2 _ _

theorem chk2_of (t : Fin k0_t3_loop.trips) (v : BitVec 32) (h : Fits v) : k0_chk2 t v := by
  refine ⟨fun _ => loop_ok v h, fun k _ => ?_, fun k _ => ?_, fun k hc => ?_, fun k _ => ?_, fun k hc => ?_, fun _ => Scf.rem_ok _ _,
    fun k => rem_elim _ _ k, fun k => rem_elim _ _ k, fun k => rem_elim _ _ k, fun k => rem_elim _ _ k, fun k => rem_elim _ _ k⟩
  · have := nch_le v h
    show 256 ∣ (Scalar.muli (Scf.iv 0#32 1#32 k) 256#32).toNat
    rw [iv_mul_toNat _ (by have : k.val < nch v := k.isLt; omega)]; exact ⟨k, Nat.mul_comm _ _⟩
  · rw [off15_eq t v h k]; exact inB1 _ _
  · rw [off16_eq t v h k ((cond1_iff t).1 hc)]; exact inS1 _ _
  · rw [off17_eq t v h k]; exact inB2 _ _
  · rw [off18_eq t v h k ((cond1_iff t).1 hc)]; exact inS2 _ _

theorem chk3_of (t : Fin k0_t3_loop.trips) (v : BitVec 32) (h : Fits v) : k0_chk3 t v := by
  refine ⟨loop_ok v h, fun k => ?_, fun k => ?_, fun k => ?_, fun k => ?_, fun k => ?_, Scf.rem_ok _ _,
    fun k => rem_elim _ _ k, fun k => rem_elim _ _ k, fun k => rem_elim _ _ k, fun k => rem_elim _ _ k, fun k => rem_elim _ _ k⟩
  · have := nch_le v h
    show 256 ∣ (Scalar.muli (Scf.iv 0#32 1#32 k) 256#32).toNat
    rw [iv_mul_toNat _ (by have : k.val < nch v := k.isLt; omega)]; exact ⟨k, Nat.mul_comm _ _⟩
  · rw [off26_eq t v h k]; exact inB1 _ _
  · rw [off27_eq t v h k]; exact inS1 _ _
  · rw [off28_eq t v h k]; exact inB2 _ _
  · rw [off29_eq t v h k]; exact inS2 _ _

set_option maxHeartbeats 1000000 in
theorem chk4_of (t : Fin k0_t3_loop.trips) (v : BitVec 32) (h : Fits v) : k0_chk4 t v := by
  have hn := nch_le v h
  refine ⟨loop_ok v h, fun k => ?_, fun k => ?_, fun k => ?_, fun k => ?_, fun k => ?_, fun k => ?_, fun k => ?_, Scf.rem_ok _ _,
    fun k => rem_elim _ _ k, fun k => rem_elim _ _ k, fun k => rem_elim _ _ k, fun k => rem_elim _ _ k, fun k => rem_elim _ _ k,
    fun k => rem_elim _ _ k, fun k => rem_elim _ _ k⟩
  · rw [off35_eq t v h k]; exact inB1 _ _
  · rw [off36_eq t v h k]; intro a; fin_cases a <;> simp <;> omega
  · rw [off37_eq t v h k]; intro a; fin_cases a <;> simp <;> omega
  · rw [off38_eq t v h k]; intro a; fin_cases a <;> simp <;> omega
  · rw [off39_eq t v h k]; intro a; fin_cases a <;> simp <;> omega
  · have : k.val < nch v := k.isLt
    rw [off41_eq t v h k]; intro a; fin_cases a <;> simp <;> omega
  · have : k.val < nch v := k.isLt
    rw [off42_eq v h k]; intro a; fin_cases a <;> simp <;> omega

end Cert.Kernel.Hand
-- ==== Proof.Bits.Blocks.lean ====
module

public import proofs.«01_k».proof.Proof.Bits.Words
public import proofs.«01_k».proof.Proof.Gen.Kernel.Skeleton
public import proofs.«01_k».proof.Proof.Gen.Kernel.Launch
public import Idealize.ShloMosaic.Lib.Pipeline.FrameBody
public import Idealize.ShloMosaic.Lib.MixedBatch
public import Idealize.ShloMosaic.Lib.Ring
public import Idealize.ShloMosaic.Lib.DeliveryRep
public import Idealize.ShloMosaic.Lib.Tactic

@[expose] public section

set_option maxRecDepth 16384

/-! The blocks that the chunk copies move: chunk `i` of a unit in the two operands, and of a slot in the two double
buffers; how each array splits into them and joins again. -/

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-! ### The blocks -/

abbrev mB1 (m : Memref sig .tc .vmem S2x9x256x128 .i32) (o : Fin 4 → ℕ) (h : ∀ a, o a + S1x1x256x128.size a ≤ S2x9x256x128.size a) :
    Memref sig .tc .vmem S256x128 .i32 :=
  (m.slice (Rect.unit (s := S2x9x256x128) o S1x1x256x128.size h) (fun _ => rfl)).squeeze S256x128 squeezes_S1x1x256x128_S256x128
abbrev mB2 (m : Memref sig .tc .vmem S2x9x4x8x256 .f32) (o : Fin 5 → ℕ) (h : ∀ a, o a + S1x1x4x8x256.size a ≤ S2x9x4x8x256.size a) :
    Memref sig .tc .vmem S4x8x256 .f32 :=
  (m.slice (Rect.unit (s := S2x9x4x8x256) o S1x1x4x8x256.size h) (fun _ => rfl)).squeeze S4x8x256 squeezes_S1x1x4x8x256_S4x8x256
abbrev mS1 (m : Memref sig .tc .hbm S6x2304x4x128 .i32) (o : Fin 4 → ℕ) (h : ∀ a, o a + S1x256x1x128.size a ≤ S6x2304x4x128.size a) :
    Memref sig .tc .hbm S256x128 .i32 :=
  (m.slice (Rect.unit (s := S6x2304x4x128) o S1x256x1x128.size h) (fun _ => rfl)).squeeze S256x128 squeezes_S1x256x1x128_S256x128
abbrev mS2 (m : Memref sig .tc .hbm S6x16x8x2304 .f32) (o : Fin 4 → ℕ) (h : ∀ a, o a + S1x4x8x256.size a ≤ S6x16x8x2304.size a) :
    Memref sig .tc .hbm S4x8x256 .f32 :=
  (m.slice (Rect.unit (s := S6x16x8x2304) o S1x4x8x256.size h) (fun _ => rfl)).squeeze S4x8x256 squeezes_S1x4x8x256_S4x8x256
/-- The semaphore of a slot. -/
abbrev cell (m : DmaSems sig S2) (o : Fin 1 → ℕ) (h : ∀ a, o a + S1.size a ≤ S2.size a) : DmaSem sig :=
  ((m.slice (Rect.unit (s := S2) o S1.size h)).squeeze S_ squeezes_S1_S_).sem

abbrev oC (s : ℕ) : Fin 1 → ℕ := ![s % 2]
theorem inC (s : ℕ) : ∀ a, oC s a + S1.size a ≤ S2.size a := by
  intro a; fin_cases a; simp; omega

abbrev B1 (m : Memref sig .tc .vmem S2x9x256x128 .i32) (s i : ℕ) := mB1 m (oB1 s i) (inB1 s i)
abbrev B2 (m : Memref sig .tc .vmem S2x9x4x8x256 .f32) (s i : ℕ) := mB2 m (oB2 s i) (inB2 s i)
abbrev S1b (m : Memref sig .tc .hbm S6x2304x4x128 .i32) (u i : ℕ) := mS1 m (oS1 u i) (inS1 u i)
abbrev S2b (m : Memref sig .tc .hbm S6x16x8x2304 .f32) (u i : ℕ) := mS2 m (oS2 u i) (inS2 u i)
abbrev cellOf (m : DmaSems sig S2) (s : ℕ) := cell m (oC s) (inC s)

theorem B1_set (m : Memref sig .tc .vmem S2x9x256x128 .i32) (s i : ℕ) :
    (B1 m s i).view.set = (Rect.unit (s := S2x9x256x128) (oB1 s i) S1x1x256x128.size (inB1 s i)).set.map m.view.emb :=
  (View.set_reshape _ _).trans (View.set_slice _ _)
theorem B2_set (m : Memref sig .tc .vmem S2x9x4x8x256 .f32) (s i : ℕ) :
    (B2 m s i).view.set = (Rect.unit (s := S2x9x4x8x256) (oB2 s i) S1x1x4x8x256.size (inB2 s i)).set.map m.view.emb :=
  (View.set_reshape _ _).trans (View.set_slice _ _)
theorem S1b_set (m : Memref sig .tc .hbm S6x2304x4x128 .i32) (u i : ℕ) :
    (S1b m u i).view.set = (Rect.unit (s := S6x2304x4x128) (oS1 u i) S1x256x1x128.size (inS1 u i)).set.map m.view.emb :=
  (View.set_reshape _ _).trans (View.set_slice _ _)
theorem S2b_set (m : Memref sig .tc .hbm S6x16x8x2304 .f32) (u i : ℕ) :
    (S2b m u i).view.set = (Rect.unit (s := S6x16x8x2304) (oS2 u i) S1x4x8x256.size (inS2 u i)).set.map m.view.emb :=
  (View.set_reshape _ _).trans (View.set_slice _ _)

/-! ### Disjointness and covers -/

theorem B1_disj (m : Memref sig .tc .vmem S2x9x256x128 .i32) (b b' : Fin 2 × Fin 9) (h : b ≠ b') :
    Disjoint (B1 m b.1 b.2).view.set (B1 m b'.1 b'.2).view.set := by
  rw [B1_set, B1_set]
  refine (Finset.disjoint_map m.view.emb).mpr ?_
  by_cases h1 : b.1.val = b'.1.val
  · have h2 : b.2.val ≠ b'.2.val := fun e => h (Prod.ext (Fin.ext h1) (Fin.ext e))
    exact Rect.unit_disjoint 1 (by simp [Nat.mod_eq_of_lt b.2.isLt, Nat.mod_eq_of_lt b'.2.isLt]; omega)
  · exact Rect.unit_disjoint 0 (by simp; omega)

theorem B2_disj (m : Memref sig .tc .vmem S2x9x4x8x256 .f32) (b b' : Fin 2 × Fin 9) (h : b ≠ b') :
    Disjoint (B2 m b.1 b.2).view.set (B2 m b'.1 b'.2).view.set := by
  rw [B2_set, B2_set]
  refine (Finset.disjoint_map m.view.emb).mpr ?_
  by_cases h1 : b.1.val = b'.1.val
  · have h2 : b.2.val ≠ b'.2.val := fun e => h (Prod.ext (Fin.ext h1) (Fin.ext e))
    exact Rect.unit_disjoint 1 (by simp [Nat.mod_eq_of_lt b.2.isLt, Nat.mod_eq_of_lt b'.2.isLt]; omega)
  · exact Rect.unit_disjoint 0 (by simp; omega)

theorem S1b_disj (m : Memref sig .tc .hbm S6x2304x4x128 .i32) (u : ℕ) (b b' : Fin 9) (h : b ≠ b') :
    Disjoint (S1b m u b).view.set (S1b m u b').view.set := by
  rw [S1b_set, S1b_set]
  refine (Finset.disjoint_map m.view.emb).mpr ?_
  have h2 : b.val ≠ b'.val := fun e => h (Fin.ext e)
  exact Rect.unit_disjoint 1 (by simp [Nat.mod_eq_of_lt b.isLt, Nat.mod_eq_of_lt b'.isLt]; omega)

theorem S2b_disj (m : Memref sig .tc .hbm S6x16x8x2304 .f32) (u : ℕ) (b b' : Fin 9) (h : b ≠ b') :
    Disjoint (S2b m u b).view.set (S2b m u b').view.set := by
  rw [S2b_set, S2b_set]
  refine (Finset.disjoint_map m.view.emb).mpr ?_
  have h2 : b.val ≠ b'.val := fun e => h (Fin.ext e)
  exact Rect.unit_disjoint 3 (by simp [Nat.mod_eq_of_lt b.isLt, Nat.mod_eq_of_lt b'.isLt]; omega)

theorem B1_cover (m : Memref sig .tc .vmem S2x9x256x128 .i32) :
    (Finset.univ : Finset (Fin 2 × Fin 9)).biUnion (fun b => (B1 m b.1 b.2).view.set) = m.view.set := by
  ext x
  rw [Finset.mem_biUnion]
  constructor
  · rintro ⟨b, -, hx⟩; rw [B1_set] at hx
    obtain ⟨y, -, rfl⟩ := Finset.mem_map.mp hx
    exact Finset.mem_map_of_mem _ (Finset.mem_univ y)
  · intro hx
    obtain ⟨y, -, rfl⟩ := Finset.mem_map.mp hx
    have h0 : (y 0).val < 2 := (y 0).isLt
    have h1 : (y 1).val < 9 := (y 1).isLt
    have h2 : (y 2).val < 256 := (y 2).isLt
    have h3 : (y 3).val < 128 := (y 3).isLt
    refine ⟨(⟨y 0, h0⟩, ⟨y 1, h1⟩), Finset.mem_univ _, ?_⟩
    rw [B1_set]; refine Finset.mem_map.mpr ⟨y, Rect.mem_set_unit.mpr fun a => ?_, rfl⟩
    fin_cases a <;> simp <;> omega

theorem B2_cover (m : Memref sig .tc .vmem S2x9x4x8x256 .f32) :
    (Finset.univ : Finset (Fin 2 × Fin 9)).biUnion (fun b => (B2 m b.1 b.2).view.set) = m.view.set := by
  ext x
  rw [Finset.mem_biUnion]
  constructor
  · rintro ⟨b, -, hx⟩; rw [B2_set] at hx
    obtain ⟨y, -, rfl⟩ := Finset.mem_map.mp hx
    exact Finset.mem_map_of_mem _ (Finset.mem_univ y)
  · intro hx
    obtain ⟨y, -, rfl⟩ := Finset.mem_map.mp hx
    have h0 : (y 0).val < 2 := (y 0).isLt
    have h1 : (y 1).val < 9 := (y 1).isLt
    have h2 : (y 2).val < 4 := (y 2).isLt
    have h3 : (y 3).val < 8 := (y 3).isLt
    have h4 : (y 4).val < 256 := (y 4).isLt
    refine ⟨(⟨y 0, h0⟩, ⟨y 1, h1⟩), Finset.mem_univ _, ?_⟩
    rw [B2_set]; refine Finset.mem_map.mpr ⟨y, Rect.mem_set_unit.mpr fun a => ?_, rfl⟩
    fin_cases a <;> simp <;> omega

/-! ### What is held -/

section Held
variable (c : Dev nD) (arg1 : Memref sig .tc .hbm S6x2304x4x128 .i32) (arg2 : Memref sig .tc .hbm S6x16x8x2304 .f32)
variable (arg8 : Memref sig .tc .vmem S2x9x256x128 .i32) (arg9 : Memref sig .tc .vmem S2x9x4x8x256 .f32) (arg16 : DmaSems sig S2)
variable (X1 : BufTy.Contents (Elt F) arg1.view.ty) (X2 : BufTy.Contents (Elt F) arg2.view.ty)

/-- Half of a read-only array's share: one half for each slot. -/
abbrev half : PosShare TreeShare := fullShare.left

/-- The two destination blocks of chunk `i` in slot `s`, at any contents. -/
def Dst (s i : ℕ) : sProp 𝕄 :=
  iprop((∃ f, (B1 arg8 s i).view.loc (c : Thread nD τ) ↦[(B1 arg8 s i).view.set]{fullShare} f)
    ∗ (∃ f, (B2 arg9 s i).view.loc (c : Thread nD τ) ↦[(B2 arg9 s i).view.set]{fullShare} f))

/-- The two source blocks of chunk `i` of unit `u`. -/
def Src (q : PosShare TreeShare) (u i : ℕ) : sProp 𝕄 :=
  iprop(((S1b arg1 u i).view.loc (c : Thread nD τ) ↦[(S1b arg1 u i).view.set]{q} X1)
    ∗ ((S2b arg2 u i).view.loc (c : Thread nD τ) ↦[(S2b arg2 u i).view.set]{q} X2))

/-- What the copy of chunk `i`'s codes delivers. -/
def Got1 (q : PosShare TreeShare) (u i : ℕ) : sProp 𝕄 :=
  iprop(((B1 arg8 u i).view.loc (c : Thread nD τ) ↦[(B1 arg8 u i).view.set]{fullShare} (B1 arg8 u i).view.rep ((S1b arg1 u i).view.read (Elt F) X1))
    ∗ ((S1b arg1 u i).view.loc (c : Thread nD τ) ↦[(S1b arg1 u i).view.set]{q} X1))
/-- What the copy of chunk `i`'s scales delivers. -/
def Got2 (q : PosShare TreeShare) (u i : ℕ) : sProp 𝕄 :=
  iprop(((B2 arg9 u i).view.loc (c : Thread nD τ) ↦[(B2 arg9 u i).view.set]{fullShare} (B2 arg9 u i).view.rep ((S2b arg2 u i).view.read (Elt F) X2))
    ∗ ((S2b arg2 u i).view.loc (c : Thread nD τ) ↦[(S2b arg2 u i).view.set]{q} X2))

instance Got1_storable (q : PosShare TreeShare) (u i : ℕ) : Storable (upEmb : UEmb _ 𝕄) (Got1 c arg1 arg8 X1 q u i) := by
  unfold Got1; infer_instance
instance Got2_storable (q : PosShare TreeShare) (u i : ℕ) : Storable (upEmb : UEmb _ 𝕄) (Got2 c arg2 arg9 X2 q u i) := by
  unfold Got2; infer_instance

/-- The elements of the codes, and of the scales, that unit `u` copies none of. -/
def Rest (q : PosShare TreeShare) (u : ℕ) : sProp 𝕄 :=
  iprop((arg1.view.loc (c : Thread nD τ) ↦[arg1.view.set \ Finset.univ.biUnion (fun i : Fin 9 => (S1b arg1 u i).view.set)]{q} X1)
    ∗ (arg2.view.loc (c : Thread nD τ) ↦[arg2.view.set \ Finset.univ.biUnion (fun i : Fin 9 => (S2b arg2 u i).view.set)]{q} X2))

/-- Both operands whole, at share `q`. -/
def Ops (q : PosShare TreeShare) : sProp 𝕄 :=
  iprop((arg1.view.loc (c : Thread nD τ) ↦[arg1.view.set]{q} X1) ∗ (arg2.view.loc (c : Thread nD τ) ↦[arg2.view.set]{q} X2))

theorem S1b_sub (u : ℕ) : Finset.univ.biUnion (fun i : Fin 9 => (S1b arg1 u i).view.set) ⊆ arg1.view.set := by
  intro x; rw [Finset.mem_biUnion]
  rintro ⟨i, -, h⟩; rw [S1b_set] at h; obtain ⟨y, -, rfl⟩ := Finset.mem_map.mp h
  exact Finset.mem_map_of_mem _ (Finset.mem_univ y)
theorem S2b_sub (u : ℕ) : Finset.univ.biUnion (fun i : Fin 9 => (S2b arg2 u i).view.set) ⊆ arg2.view.set := by
  intro x; rw [Finset.mem_biUnion]
  rintro ⟨i, -, h⟩; rw [S2b_set] at h; obtain ⟨y, -, rfl⟩ := Finset.mem_map.mp h
  exact Finset.mem_map_of_mem _ (Finset.mem_univ y)

/-- A half share of the operands is the unit's blocks and the rest. -/
theorem Ops_split (q : PosShare TreeShare) (u : ℕ) :
    Ops c arg1 arg2 X1 X2 q ⊣⊢ iprop(bigSep Finset.univ (fun i : Fin 9 => Src c arg1 arg2 X1 X2 q u i.val) ∗ Rest c arg1 arg2 X1 X2 q u) := by
  have h1 := pointsTo_split_subset (Ix := Unit) (Name := ℕ) (U := Pipeline.UD sig nD τ) (Lvl := ℕ) (q := q) (ℓ := arg1.view.loc (c : Thread nD τ)) (f := X1) (S1b_sub arg1 u)
  have h2 := pointsTo_split_subset (Ix := Unit) (Name := ℕ) (U := Pipeline.UD sig nD τ) (Lvl := ℕ) (q := q) (ℓ := arg2.view.loc (c : Thread nD τ)) (f := X2) (S2b_sub arg2 u)
  have e1 := pointsTo_biUnion (Ix := Unit) (Name := ℕ) (U := Pipeline.UD sig nD τ) (Lvl := ℕ) (q := q) (ℓ := arg1.view.loc (c : Thread nD τ)) (f := X1)
    Finset.univ (fun i : Fin 9 => (S1b arg1 u i).view.set) (fun b _ b' _ h => S1b_disj arg1 u b b' h)
  have e2 := pointsTo_biUnion (Ix := Unit) (Name := ℕ) (U := Pipeline.UD sig nD τ) (Lvl := ℕ) (q := q) (ℓ := arg2.view.loc (c : Thread nD τ)) (f := X2)
    Finset.univ (fun i : Fin 9 => (S2b arg2 u i).view.set) (fun b _ b' _ h => S2b_disj arg2 u b b' h)
  rw [e1] at h1; rw [e2] at h2
  have e3 : bigSep Finset.univ (fun i : Fin 9 => Src c arg1 arg2 X1 X2 q u i.val)
      = iprop(bigSep Finset.univ (fun i : Fin 9 => ((S1b arg1 u i).view.loc (c : Thread nD τ) ↦[(S1b arg1 u i).view.set]{q} X1 : sProp 𝕄))
        ∗ bigSep Finset.univ (fun i : Fin 9 => ((S2b arg2 u i).view.loc (c : Thread nD τ) ↦[(S2b arg2 u i).view.set]{q} X2 : sProp 𝕄))) :=
    bigSep_sep Finset.univ _ _
  rw [e3]
  constructor
  · unfold Ops Rest
    iintro ⟨H1, H2⟩
    ihave H1 := h1.1 $$ H1
    ihave H2 := h2.1 $$ H2
    icases H1 with ⟨Ha, Hb⟩
    icases H2 with ⟨Hc, Hd⟩
    isplitl [Ha Hc]
    · isplitl [Ha]; · iexact Ha
      iexact Hc
    · isplitl [Hb]; · iexact Hb
      iexact Hd
  · unfold Ops Rest
    iintro ⟨⟨Ha, Hc⟩, Hb, Hd⟩
    isplitl [Ha Hb]
    · iapply h1.2; isplitl [Ha]; · iexact Ha
      iexact Hb
    · iapply h2.2; isplitl [Hc]; · iexact Hc
      iexact Hd

/-- The two double buffers, at any contents, are their blocks. -/
theorem Dst_split (f8 : BufTy.Contents (Elt F) arg8.view.ty) (f9 : BufTy.Contents (Elt F) arg9.view.ty) :
    iprop((arg8.view.loc (c : Thread nD τ) ↦[arg8.view.set]{fullShare} f8) ∗ (arg9.view.loc (c : Thread nD τ) ↦[arg9.view.set]{fullShare} f9))
      ⊢ (bigSep Finset.univ (fun b : Fin 2 × Fin 9 => Dst (F := F) c arg8 arg9 b.1.val b.2.val) : sProp 𝕄) := by
  have e1 := Ring.pointsTo_sub_blocks (Ix := Unit) (Name := ℕ) (U := Pipeline.UD sig nD τ) (Lvl := ℕ) (ℓ := arg8.view.loc (c : Thread nD τ))
    (fun b : Fin 2 × Fin 9 => (B1 arg8 b.1 b.2).view.set) (B1_disj arg8) _ (B1_cover arg8) (q := fullShare) f8
  have e2 := Ring.pointsTo_sub_blocks (Ix := Unit) (Name := ℕ) (U := Pipeline.UD sig nD τ) (Lvl := ℕ) (ℓ := arg9.view.loc (c : Thread nD τ))
    (fun b : Fin 2 × Fin 9 => (B2 arg9 b.1 b.2).view.set) (B2_disj arg9) _ (B2_cover arg9) (q := fullShare) f9
  rw [e1, e2]
  have hb (b : Fin 2 × Fin 9) : iprop(((B1 arg8 b.1 b.2).view.loc (c : Thread nD τ) ↦[(B1 arg8 b.1 b.2).view.set]{fullShare} f8)
      ∗ ((B2 arg9 b.1 b.2).view.loc (c : Thread nD τ) ↦[(B2 arg9 b.1 b.2).view.set]{fullShare} f9)) ⊢ (Dst (F := F) c arg8 arg9 b.1.val b.2.val : sProp 𝕄) := by
    unfold Dst
    iintro ⟨H1, H2⟩
    isplitl [H1]
    · iexists _; iexact H1
    · iexists _; iexact H2
  exact (Entails.of_eq (bigSep_sep Finset.univ _ _).symm).trans (bigSep_mono fun b _ => hb b)

theorem Dst_join (f8 : BufTy.Contents (Elt F) arg8.view.ty) (f9 : BufTy.Contents (Elt F) arg9.view.ty) :
    bigSep Finset.univ (fun b : Fin 2 × Fin 9 => Dst (F := F) c arg8 arg9 b.1.val b.2.val)
      ⊢ (iprop((∃ f, arg8.view.loc (c : Thread nD τ) ↦[arg8.view.set]{fullShare} f) ∗ (∃ f, arg9.view.loc (c : Thread nD τ) ↦[arg9.view.set]{fullShare} f)) : sProp 𝕄) := by
  have e1 := Ring.pointsTo_sub_blocks_join_exists (Ix := Unit) (Name := ℕ) (U := Pipeline.UD sig nD τ) (Lvl := ℕ) (ℓ := arg8.view.loc (c : Thread nD τ))
    (fun b : Fin 2 × Fin 9 => (B1 arg8 b.1 b.2).view.set) (B1_disj arg8) _ (B1_cover arg8) (q := fullShare) f8
  have e2 := Ring.pointsTo_sub_blocks_join_exists (Ix := Unit) (Name := ℕ) (U := Pipeline.UD sig nD τ) (Lvl := ℕ) (ℓ := arg9.view.loc (c : Thread nD τ))
    (fun b : Fin 2 × Fin 9 => (B2 arg9 b.1 b.2).view.set) (B2_disj arg9) _ (B2_cover arg9) (q := fullShare) f9
  refine (Entails.of_eq (bigSep_sep Finset.univ _ _)).trans (show iprop(_ ∗ _) ⊢ _ from ?_)
  iintro ⟨H1, H2⟩
  isplitl [H1]
  · iapply e1; iexact H1
  · iapply e2; iexact H2

end Held

end Cert.Kernel.Hand
-- ==== Proof.Bits.Copies.lean ====
module

public import proofs.«01_k».proof.Proof.Bits.Blocks

@[expose] public section

set_option maxRecDepth 16384

/-! The loops that start a unit's copies and wait for them: all on the slot's one semaphore, as one batch of
alternately a code block and a scale block. -/

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

section Held
variable (c : Dev nD) (arg1 : Memref sig .tc .hbm S6x2304x4x128 .i32) (arg2 : Memref sig .tc .hbm S6x16x8x2304 .f32)
variable (arg8 : Memref sig .tc .vmem S2x9x256x128 .i32) (arg9 : Memref sig .tc .vmem S2x9x4x8x256 .f32) (arg16 : DmaSems sig S2)
variable (X1 : BufTy.Contents (Elt F) arg1.view.ty) (X2 : BufTy.Contents (Elt F) arg2.view.ty)

/-- The amounts of a batch of `n` chunks: code block, scale block, code block, … -/
def amt (n : ℕ) : Fin (2 * n) → ℕ := fun t => if t.val % 2 = 0 then (B1 arg8 0 0).view.dmaCredit else (B2 arg9 0 0).view.dmaCredit

theorem amt_pos (n : ℕ) (t : Fin (2 * n)) : 0 < amt arg8 arg9 n t := by
  unfold amt; split
  · exact View.dmaCredit_pos _ (by decide)
  · exact View.dmaCredit_pos _ (by decide)

/-- The batch of unit `u`'s copies, `n` chunks of them: `j` issued, `w` units of credit waited for. -/
def Bat (q : PosShare TreeShare) (u n j w : ℕ) : sProp 𝕄 :=
  Transfers.MixedBatch (countersEmb (nD := nD) (τ := τ) (sig := sig) (Ix := Unit) (Val := Elt F) (Name := ℕ) (U := Pipeline.UD sig nD τ) (Lvl := ℕ)) (c : Thread nD τ) (SemLoc.dma (cellOf arg16 u)) () (amt arg8 arg9 n)
    (Ring.interleaved n (Got1 c arg1 arg8 X1 q u) (Got2 c arg2 arg9 X2 q u)) j w

theorem delivered1 (q : PosShare TreeShare) (u i : ℕ) (fd : Buf (Elt F) ((B1 arg8 u i).view.loc (c : Thread nD τ))) :
    iprop(((B1 arg8 u i).view.loc (c : Thread nD τ) ↦[(B1 arg8 u i).view.set]{fullShare}
        ((B1 arg8 u i).view.write (Elt F) fd (ReadAs.same.apply ((S1b arg1 u i).view.read (Elt F) X1)) Finset.univ))
      ∗ ((S1b arg1 u i).view.loc (c : Thread nD τ) ↦[(S1b arg1 u i).view.set]{q} X1)) ⊢ (Got1 c arg1 arg8 X1 q u i : sProp 𝕄) := by
  have e := pointsTo_rep (Ix := Unit) (Name := ℕ) (U := Pipeline.UD sig nD τ) (Lvl := ℕ) (c : Thread nD τ) (B1 arg8 u i)
    ((B1 arg8 u i).view.write (Elt F) fd (ReadAs.same.apply ((S1b arg1 u i).view.read (Elt F) X1)) Finset.univ) fullShare
  have hr : (B1 arg8 u i).view.read (Elt F) ((B1 arg8 u i).view.write (Elt F) fd (ReadAs.same.apply ((S1b arg1 u i).view.read (Elt F) X1)) Finset.univ)
    = (S1b arg1 u i).view.read (Elt F) X1 := funext fun x => View.read_write_of_mem _ _ (Finset.mem_univ x)
  rw [hr] at e
  unfold Got1
  iintro ⟨H1, H2⟩
  isplitl [H1]
  · iapply (Entails.of_eq e); iexact H1
  · iexact H2

theorem delivered2 (q : PosShare TreeShare) (u i : ℕ) (fd : Buf (Elt F) ((B2 arg9 u i).view.loc (c : Thread nD τ))) :
    iprop(((B2 arg9 u i).view.loc (c : Thread nD τ) ↦[(B2 arg9 u i).view.set]{fullShare}
        ((B2 arg9 u i).view.write (Elt F) fd (ReadAs.same.apply ((S2b arg2 u i).view.read (Elt F) X2)) Finset.univ))
      ∗ ((S2b arg2 u i).view.loc (c : Thread nD τ) ↦[(S2b arg2 u i).view.set]{q} X2)) ⊢ (Got2 c arg2 arg9 X2 q u i : sProp 𝕄) := by
  have e := pointsTo_rep (Ix := Unit) (Name := ℕ) (U := Pipeline.UD sig nD τ) (Lvl := ℕ) (c : Thread nD τ) (B2 arg9 u i)
    ((B2 arg9 u i).view.write (Elt F) fd (ReadAs.same.apply ((S2b arg2 u i).view.read (Elt F) X2)) Finset.univ) fullShare
  have hr : (B2 arg9 u i).view.read (Elt F) ((B2 arg9 u i).view.write (Elt F) fd (ReadAs.same.apply ((S2b arg2 u i).view.read (Elt F) X2)) Finset.univ)
    = (S2b arg2 u i).view.read (Elt F) X2 := funext fun x => View.read_write_of_mem _ _ (Finset.mem_univ x)
  rw [hr] at e
  unfold Got2
  iintro ⟨H1, H2⟩
  isplitl [H1]
  · iapply (Entails.of_eq e); iexact H1
  · iexact H2

variable {α : Type} (bd : Option Variants.none.V)

/-- Chunk `i`'s two copies started. -/
theorem start_pair (q : PosShare TreeShare) (u i n : ℕ) (hi : i < n)
    (o2 : Fin 1 → ℕ) (h2 : ∀ a, o2 a + S1.size a ≤ S2.size a) (e2 : o2 = oC u)
    (o3 : Fin 4 → ℕ) (h3 : ∀ a, o3 a + S1x1x256x128.size a ≤ S2x9x256x128.size a) (e3 : o3 = oB1 u i)
    (o4 : Fin 4 → ℕ) (h4 : ∀ a, o4 a + S1x256x1x128.size a ≤ S6x2304x4x128.size a) (e4 : o4 = oS1 u i)
    (o5 : Fin 5 → ℕ) (h5 : ∀ a, o5 a + S1x1x4x8x256.size a ≤ S2x9x4x8x256.size a) (e5 : o5 = oB2 u i)
    (o6 : Fin 4 → ℕ) (h6 : ∀ a, o6 a + S1x4x8x256.size a ≤ S6x16x8x2304.size a) (e6 : o6 = oS2 u i)
    (p1 p2 p3 p4 p5 p6) (R : sProp 𝕄) :
    iprop(((Src c arg1 arg2 X1 X2 q u i ∗ Dst (F := F) c arg8 arg9 u i) ∗ R) ∗ Bat c arg1 arg2 arg8 arg9 arg16 X1 X2 q u n (2 * i) 0)
      ⊢ wp Idealize.ShloMosaic.frame (wpE (defs₀ (F := F)) Variants.none (c : Thread nD τ) bd) Set.univ
        (do Prog.lift (.enqueueDma (mS1 arg1 o4 h4) (.here (mB1 arg8 o3 h3)) (.dma (cell arg16 o2 h2)) p1 p2 p3)
            Prog.lift (.enqueueDma (mS2 arg2 o6 h6) (.here (mB2 arg9 o5 h5)) (.dma (cell arg16 o2 h2)) p4 p5 p6)
            pure 0#32 : Prog (TpuEff nD τ sig (Elt F) Λ₀ .tc) (BitVec 32))
        (fun _ => iprop(R ∗ Bat c arg1 arg2 arg8 arg9 arg16 X1 X2 q u n (2 * (i + 1)) 0)) := by
  subst e2 e3 e4 e5 e6
  unfold Src Dst Bat
  iintro ⟨⟨⟨⟨HS1, HS2⟩, ⟨⟨%f1, HD1⟩, ⟨%f2, HD2⟩⟩⟩, HR⟩, HB⟩
  iapply (Transfers.wp_dmaMixedBatch (countersEmb (nD := nD) (τ := τ) (sig := sig) (Ix := Unit) (Val := Elt F) (Name := ℕ) (U := Pipeline.UD sig nD τ) (Lvl := ℕ)) Variants.none (c : Thread nD τ) bd () (amt arg8 arg9 n) (le_refl _) (by omega : 2 * i < 2 * n)
    (by unfold amt; rw [if_pos (by simp)]) (Nat.zero_le _)
    ((delivered1 c arg1 arg8 X1 q u i f1).trans (Entails.of_eq (Ring.interleaved_even n _ _ i (by omega)).symm))) $$ [HS1 HD1 HB]
  · isplitl [HS1]; · iexact HS1
    isplitl [HD1]; · iexact HD1
    iexact HB
  iintro HB
  iapply (Transfers.wp_dmaMixedBatch (countersEmb (nD := nD) (τ := τ) (sig := sig) (Ix := Unit) (Val := Elt F) (Name := ℕ) (U := Pipeline.UD sig nD τ) (Lvl := ℕ)) Variants.none (c : Thread nD τ) bd () (amt arg8 arg9 n) (le_refl _) (by omega : 2 * i + 1 < 2 * n)
    (by unfold amt; rw [if_neg (by simp)]) (Nat.zero_le _)
    ((delivered2 c arg2 arg9 X2 q u i f2).trans (Entails.of_eq (Ring.interleaved_odd n _ _ i (by omega)).symm))) $$ [HS2 HD2 HB]
  · isplitl [HS2]; · iexact HS2
    isplitl [HD2]; · iexact HD2
    iexact HB
  iintro HB
  rw [show ((Prog.ret PUnit.unit).bind fun _ => Pure.pure 0#32 : Prog (TpuEff nD τ sig (Elt F) Λ₀ .tc) (BitVec 32)) = Prog.ret 0#32 from rfl]
  sl_step
  isplitl [HR]; · iexact HR
  iexact HB

theorem sumTo_even (n i : ℕ) (hi : i ≤ n) : Transfers.sumTo (amt arg8 arg9 n) (2 * i) = i * ((B1 arg8 0 0).view.dmaCredit + (B2 arg9 0 0).view.dmaCredit) := by
  induction i with
  | zero => rw [Nat.zero_mul]; exact Transfers.sumTo_zero _
  | succ i ih =>
    rw [show 2 * (i + 1) = 2 * i + 1 + 1 by omega, Transfers.sumTo_succ _ (by omega : 2 * i + 1 < 2 * n), Transfers.sumTo_succ _ (by omega : 2 * i < 2 * n), ih (by omega)]
    unfold amt
    rw [if_pos (by simp), if_neg (by simp), Nat.add_mul, Nat.one_mul]; omega

/-- Chunk `i`'s two copies waited for. -/
theorem wait_pair (q : PosShare TreeShare) (u i n : ℕ) (hi : i < n)
    (o2 : Fin 1 → ℕ) (h2 : ∀ a, o2 a + S1.size a ≤ S2.size a) (e2 : o2 = oC u)
    (o3 : Fin 4 → ℕ) (h3 : ∀ a, o3 a + S1x1x256x128.size a ≤ S2x9x256x128.size a)
    (o4 : Fin 4 → ℕ) (h4 : ∀ a, o4 a + S1x256x1x128.size a ≤ S6x2304x4x128.size a)
    (o5 : Fin 5 → ℕ) (h5 : ∀ a, o5 a + S1x1x4x8x256.size a ≤ S2x9x4x8x256.size a)
    (o6 : Fin 4 → ℕ) (h6 : ∀ a, o6 a + S1x4x8x256.size a ≤ S6x16x8x2304.size a)
    (p1 p2 p4 p5) (W : Waits sig Unit) :
    iprop(Bat c arg1 arg2 arg8 arg9 arg16 X1 X2 q u n (2 * n) (Transfers.sumTo (amt arg8 arg9 n) (2 * i)) ∗ owes (c : Thread nD τ) 0 W)
      ⊢ wp Idealize.ShloMosaic.frame (wpE (defs₀ (F := F)) Variants.none (c : Thread nD τ) bd) Set.univ
        (do Prog.lift (.waitDma2 (cell arg16 o2 h2) (mS1 arg1 o4 h4) (mB1 arg8 o3 h3) p1 p2)
            Prog.lift (.waitDma2 (cell arg16 o2 h2) (mS2 arg2 o6 h6) (mB2 arg9 o5 h5) p4 p5)
            pure 0#32 : Prog (TpuEff nD τ sig (Elt F) Λ₀ .tc) (BitVec 32))
        (fun _ => iprop(∃ W', Bat c arg1 arg2 arg8 arg9 arg16 X1 X2 q u n (2 * n) (Transfers.sumTo (amt arg8 arg9 n) (2 * (i + 1))) ∗ owes (c : Thread nD τ) 0 W')) := by
  subst e2
  unfold Bat
  have hT := sumTo_even arg8 arg9 n n le_rfl
  have hI := sumTo_even arg8 arg9 n i (by omega)
  have hJ := sumTo_even arg8 arg9 n (i + 1) (by omega)
  have hM := Nat.mul_le_mul_right ((B1 arg8 0 0).view.dmaCredit + (B2 arg9 0 0).view.dmaCredit) (show i + 1 ≤ n by omega)
  rw [Nat.add_mul, Nat.one_mul] at hJ hM
  have hu1 : Transfers.sumTo (amt arg8 arg9 n) (2 * i) + (B1 arg8 0 0).view.dmaCredit ≤ Transfers.sumTo (amt arg8 arg9 n) (2 * n) := by omega
  have hu2 : Transfers.sumTo (amt arg8 arg9 n) (2 * i) + (B1 arg8 0 0).view.dmaCredit + (B2 arg9 0 0).view.dmaCredit ≤ Transfers.sumTo (amt arg8 arg9 n) (2 * n) := by omega
  iintro ⟨HB, HO⟩
  iapply (Transfers.wp_waitMixedBatchSized (countersEmb (nD := nD) (τ := τ) (sig := sig) (Ix := Unit) (Val := Elt F) (Name := ℕ) (U := Pipeline.UD sig nD τ) (Lvl := ℕ)) Variants.none (c : Thread nD τ) bd () (J := (B1 arg8 0 0).view.dmaCredit) rfl hu1) $$ [HB HO]
  · isplitl [HB]; · iexact HB
    iexact HO
  iintro ⟨HB, HO⟩
  iapply (Transfers.wp_waitMixedBatchSized (countersEmb (nD := nD) (τ := τ) (sig := sig) (Ix := Unit) (Val := Elt F) (Name := ℕ) (U := Pipeline.UD sig nD τ) (Lvl := ℕ)) Variants.none (c : Thread nD τ) bd () (J := (B2 arg9 0 0).view.dmaCredit) rfl hu2) $$ [HB HO]
  · isplitl [HB]; · iexact HB
    iexact HO
  iintro ⟨HB, HO⟩
  rw [show ((Prog.ret PUnit.unit).bind fun _ => Pure.pure 0#32 : Prog (TpuEff nD τ sig (Elt F) Λ₀ .tc) (BitVec 32)) = Prog.ret 0#32 from rfl]
  sl_step
  iexists _
  isplitl [HB]
  · rw [show Transfers.sumTo (amt arg8 arg9 n) (2 * (i + 1)) = Transfers.sumTo (amt arg8 arg9 n) (2 * i) + (B1 arg8 0 0).view.dmaCredit + (B2 arg9 0 0).view.dmaCredit by omega]
    iexact HB
  · iexact HO

end Held

end Cert.Kernel.Hand
-- ==== Proof.Bits.Trips.lean ====
module

public import proofs.«01_k».proof.Proof.Bits.Copies

@[expose] public section

set_option maxRecDepth 16384
set_option maxHeartbeats 4000000

/-! One trip of each copy loop, by the loop's invariant. -/

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

section Trips
variable (c : Dev nD) (bd : Option Variants.none.V)
variable (arg0 : Memref sig .tc .smem S6 .i32) (harg0 : arg0.IsWhole) (arg1 : Memref sig .tc .hbm S6x2304x4x128 .i32) (harg1 : arg1.IsWhole) (arg2 : Memref sig .tc .hbm S6x16x8x2304 .f32) (harg2 : arg2.IsWhole) (arg3 : Memref sig .tc .vmem S6x64x128 .f32) (harg3 : arg3.IsWhole) (arg4 : Memref sig .tc .vmem S16x256x512 .bf16) (harg4 : arg4.IsWhole) (arg5 : Memref sig .tc .vmem S54x64x256 .f32) (harg5 : arg5.IsWhole) (arg6 : Memref sig .tc .vmem S54x64x256 .f32) (harg6 : arg6.IsWhole) (arg7 : Memref sig .tc .vmem S6x64x2304 .f32) (harg7 : arg7.IsWhole) (arg8 : Memref sig .tc .vmem S2x9x256x128 .i32) (harg8 : arg8.IsWhole) (arg9 : Memref sig .tc .vmem S2x9x4x8x256 .f32) (harg9 : arg9.IsWhole) (arg10 : Memref sig .tc .vmem S16x512x256 .bf16) (harg10 : arg10.IsWhole) (arg11 : Memref sig .tc .vmem S2x512x128 .i32) (harg11 : arg11.IsWhole) (arg12 : Memref sig .tc .vmem S4x8x256 .f32) (harg12 : arg12.IsWhole) (arg13 : Memref sig .tc .vmem S2048x256 .bf16) (harg13 : arg13.IsWhole) (arg14 : Memref sig .tc .vmem S9x16x256 .f32) (harg14 : arg14.IsWhole) (arg15 : Memref sig .tc .vmem S16x2048 .bf16) (harg15 : arg15.IsWhole) (arg16 : DmaSems sig S2)
variable (X1 : BufTy.Contents (Elt F) arg1.view.ty) (X2 : BufTy.Contents (Elt F) arg2.view.ty)

/-- Before trip `k` of the loop that starts unit `u`'s copies: the first `k` chunks' copies are issued, the blocks of the
other chunks are at hand. -/
def StartInv (q : PosShare TreeShare) (u n k : ℕ) : sProp 𝕄 :=
  iprop(bigSep (Ring.rangeSet 9 k 9) (fun i => iprop(Src c arg1 arg2 X1 X2 q u i.val ∗ Dst (F := F) c arg8 arg9 u i.val))
    ∗ Bat c arg1 arg2 arg8 arg9 arg16 X1 X2 q u n (2 * k) 0)

/-- Before trip `k` of the loop that waits for them. -/
def WaitInv (q : PosShare TreeShare) (u n k : ℕ) : sProp 𝕄 :=
  iprop(∃ W, Bat c arg1 arg2 arg8 arg9 arg16 X1 X2 q u n (2 * n) (Transfers.sumTo (amt arg8 arg9 n) (2 * k)) ∗ owes (c : Thread nD τ) 0 W)

theorem StartInv_head (q : PosShare TreeShare) (u n k : ℕ) (hk : k < 9) :
    StartInv c arg1 arg2 arg8 arg9 arg16 X1 X2 q u n k
      ⊢ (iprop(((Src c arg1 arg2 X1 X2 q u k ∗ Dst (F := F) c arg8 arg9 u k)
          ∗ bigSep (Ring.rangeSet 9 (k + 1) 9) (fun i => iprop(Src c arg1 arg2 X1 X2 q u i.val ∗ Dst (F := F) c arg8 arg9 u i.val)))
        ∗ Bat c arg1 arg2 arg8 arg9 arg16 X1 X2 q u n (2 * k) 0) : sProp 𝕄) := by
  unfold StartInv
  rw [Ring.bigSep_rangeSet_head hk hk]

theorem start_trip1 (q : PosShare TreeShare) (v2 : Elt F .i32) (k0_hw1 : k0_chk1 v2) (hF : Fits v2) (k : Fin (k0_t1_loop v2).trips) (acc : BitVec 32) :
    StartInv c arg1 arg2 arg8 arg9 arg16 X1 X2 q 0 (nch v2) k
      ⊢ wp Idealize.ShloMosaic.frame (wpE (defs₀ (F := F)) Variants.none (c : Thread nD τ) bd) Set.univ (k0_t1_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 v2 k0_hw1 k acc) (fun _ => StartInv c arg1 arg2 arg8 arg9 arg16 X1 X2 q 0 (nch v2) (k + 1)) := by
  have h9 := nch_le v2 hF
  have hk : k.val < nch v2 := k.isLt
  refine (StartInv_head c arg1 arg2 arg8 arg9 arg16 X1 X2 q 0 (nch v2) k (by omega)).trans ?_
  exact start_pair c arg1 arg2 arg8 arg9 arg16 X1 X2 bd q 0 k (nch v2) hk
    k0_off2 k0_off2_inb rfl
    (k0_off3 v2 k) (k0_off3_inb v2 k0_hw1 k) (off3_eq v2 hF k)
    (k0_off4 v2 k) (k0_off4_inb v2 k0_hw1 k) (off4_eq v2 hF k)
    (k0_off5 v2 k) (k0_off5_inb v2 k0_hw1 k) (off5_eq v2 hF k)
    (k0_off6 v2 k) (k0_off6_inb v2 k0_hw1 k) (off6_eq v2 hF k) _ _ _ _ _ _ _

theorem start_trip4 (q : PosShare TreeShare) (v108 : IVec S16x128 32) (a b : BitVec 32) (k0_t3 : Fin k0_t3_loop.trips) (k0_h1 : k0_cond1 k0_t3 = 1#1)
    (v417 : Elt F .i32) (k0_hw2 : k0_chk2 k0_t3 v417) (hF : Fits v417) (k : Fin (k0_t4_loop v417).trips) (acc : BitVec 32) :
    StartInv c arg1 arg2 arg8 arg9 arg16 X1 X2 q (k0_t3 + 1) (nch v417) k
      ⊢ wp Idealize.ShloMosaic.frame (wpE (defs₀ (F := F)) Variants.none (c : Thread nD τ) bd) Set.univ (k0_t4_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 v108 a b k0_t3 k0_h1 v417 k0_hw2 k acc)
        (fun _ => StartInv c arg1 arg2 arg8 arg9 arg16 X1 X2 q (k0_t3 + 1) (nch v417) (k + 1)) := by
  have h9 := nch_le v417 hF
  have hk : k.val < nch v417 := k.isLt
  have ht := (cond1_iff k0_t3).mp k0_h1
  refine (StartInv_head c arg1 arg2 arg8 arg9 arg16 X1 X2 q (k0_t3 + 1) (nch v417) k (by omega)).trans ?_
  exact start_pair c arg1 arg2 arg8 arg9 arg16 X1 X2 bd q (k0_t3 + 1) k (nch v417) hk
    (k0_off14 k0_t3) (k0_off14_inb k0_t3 k0_h1) (k0_off14_eq k0_t3)
    (k0_off15 k0_t3 v417 k) (k0_off15_inb k0_t3 v417 k0_hw2 k k0_h1) (off15_eq k0_t3 v417 hF k)
    (k0_off16 k0_t3 v417 k) (k0_off16_inb k0_t3 v417 k0_hw2 k k0_h1) (off16_eq k0_t3 v417 hF k ht)
    (k0_off17 k0_t3 v417 k) (k0_off17_inb k0_t3 v417 k0_hw2 k k0_h1) (off17_eq k0_t3 v417 hF k)
    (k0_off18 k0_t3 v417 k) (k0_off18_inb k0_t3 v417 k0_hw2 k k0_h1) (off18_eq k0_t3 v417 hF k ht) _ _ _ _ _ _ _

theorem wait_trip6 (q : PosShare TreeShare) (k0_t3 : Fin k0_t3_loop.trips) (arg17 v110 v111 v112 : BitVec 32) (v114 : Elt F .i32) (k0_hw4 : k0_chk4 k0_t3 v114)
    (v116 : BitVec 32) (v118 v259 : Elt F .i32) (k0_hw3 : k0_chk3 k0_t3 v259) (hF : Fits v259) (k : Fin (k0_t6_loop v259).trips) (acc : BitVec 32) :
    WaitInv c arg1 arg2 arg8 arg9 arg16 X1 X2 q k0_t3 (nch v259) k
      ⊢ wp Idealize.ShloMosaic.frame (wpE (defs₀ (F := F)) Variants.none (c : Thread nD τ) bd) Set.univ (k0_t6_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 k0_t3 arg17 v110 v111 v112 v114 k0_hw4 v116 v118 v259 k0_hw3 k acc)
        (fun _ => WaitInv c arg1 arg2 arg8 arg9 arg16 X1 X2 q k0_t3 (nch v259) (k + 1)) := by
  have h9 := nch_le v259 hF
  have hk : k.val < nch v259 := k.isLt
  unfold WaitInv
  iintro ⟨%W, H⟩
  iapply (wait_pair c arg1 arg2 arg8 arg9 arg16 X1 X2 bd q k0_t3 k (nch v259) hk
    (k0_off25 k0_t3) (k0_off25_inb k0_t3) (k0_off25_eq k0_t3)
    (k0_off26 k0_t3 v259 k) (k0_off26_inb k0_t3 v259 k0_hw3 k)
    (k0_off27 k0_t3 v259 k) (k0_off27_inb k0_t3 v259 k0_hw3 k)
    (k0_off28 k0_t3 v259 k) (k0_off28_inb k0_t3 v259 k0_hw3 k)
    (k0_off29 k0_t3 v259 k) (k0_off29_inb k0_t3 v259 k0_hw3 k) _ _ _ _ W)
  iexact H

end Trips

end Cert.Kernel.Hand
-- ==== Proof.Bits.Slots.lean ====
module

public import proofs.«01_k».proof.Proof.Bits.Trips

@[expose] public section

set_option maxRecDepth 16384
set_option maxHeartbeats 4000000

/-! A slot of the double buffers: free, with a unit's copies in flight, or filled; and the steps between. -/

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

section Slots
variable (c : Dev nD) (arg1 : Memref sig .tc .hbm S6x2304x4x128 .i32) (arg2 : Memref sig .tc .hbm S6x16x8x2304 .f32)
variable (arg8 : Memref sig .tc .vmem S2x9x256x128 .i32) (arg9 : Memref sig .tc .vmem S2x9x4x8x256 .f32) (arg16 : DmaSems sig S2)
variable (X1 : BufTy.Contents (Elt F) arg1.view.ty) (X2 : BufTy.Contents (Elt F) arg2.view.ty)

/-- The share of the operands that slot `u % 2` reads with. -/
def shr (u : ℕ) : PosShare TreeShare := if u % 2 = 0 then fullShare.left else fullShare.right

/-- Slot `u % 2` with nothing in flight. -/
def Free (u : ℕ) : sProp 𝕄 :=
  iprop(bigSep Finset.univ (fun i : Fin 9 => Dst (F := F) c arg8 arg9 u i.val) ∗ Ops c arg1 arg2 X1 X2 (shr u)
    ∗ semVal ((c : Thread nD τ), SemLoc.dma (cellOf arg16 u)) 0)

/-- Slot `u % 2` with the `n` chunks of unit `u` in flight. -/
def Busy (u n : ℕ) : sProp 𝕄 :=
  iprop(StartInv c arg1 arg2 arg8 arg9 arg16 X1 X2 (shr u) u n n ∗ Rest c arg1 arg2 X1 X2 (shr u) u)

/-- A filled chunk of unit `u`. -/
def Got (u i : ℕ) : sProp 𝕄 := iprop(Got1 c arg1 arg8 X1 (shr u) u i ∗ Got2 c arg2 arg9 X2 (shr u) u i)

/-- Slot `u % 2` with the `n` chunks of unit `u` filled. -/
def Ready (u n : ℕ) : sProp 𝕄 :=
  iprop(bigSep (Ring.rangeSet 9 0 n) (fun i => Got c arg1 arg2 arg8 arg9 X1 X2 u i.val)
    ∗ bigSep (Ring.rangeSet 9 n 9) (fun i => iprop(Src c arg1 arg2 X1 X2 (shr u) u i.val ∗ Dst (F := F) c arg8 arg9 u i.val))
    ∗ Rest c arg1 arg2 X1 X2 (shr u) u ∗ semVal ((c : Thread nD τ), SemLoc.dma (cellOf arg16 u)) 0)

theorem B1_congr (m : Memref sig .tc .vmem S2x9x256x128 .i32) (s s' i : ℕ) (h : s % 2 = s' % 2) : B1 m s i = B1 m s' i := by
  have e : oB1 s i = oB1 s' i := by simp only [oB1, h]
  have key : ∀ (o o' : Fin 4 → ℕ) (ho ho'), o = o' → mB1 m o ho = mB1 m o' ho' := by intro o o' ho ho' e; subst e; rfl
  exact key _ _ _ _ e
theorem B2_congr (m : Memref sig .tc .vmem S2x9x4x8x256 .f32) (s s' i : ℕ) (h : s % 2 = s' % 2) : B2 m s i = B2 m s' i := by
  have e : oB2 s i = oB2 s' i := by simp only [oB2, h]
  have key : ∀ (o o' : Fin 5 → ℕ) (ho ho'), o = o' → mB2 m o ho = mB2 m o' ho' := by intro o o' ho ho' e; subst e; rfl
  exact key _ _ _ _ e
theorem cell_congr (m : DmaSems sig S2) (s s' : ℕ) (h : s % 2 = s' % 2) : cellOf m s = cellOf m s' := by
  have e : oC s = oC s' := by simp only [oC, h]
  have key : ∀ (o o' : Fin 1 → ℕ) (ho ho'), o = o' → cell m o ho = cell m o' ho' := by intro o o' ho ho' e; subst e; rfl
  exact key _ _ _ _ e

theorem Dst_congr (s s' i : ℕ) (h : s % 2 = s' % 2) : Dst (F := F) c arg8 arg9 s i = Dst (F := F) c arg8 arg9 s' i := by
  unfold Dst
  have k1 : ∀ (m m' : Memref sig .tc .vmem S256x128 .i32), m = m' → (iprop(∃ f, m.view.loc (c : Thread nD τ) ↦[m.view.set]{fullShare} f) : sProp 𝕄)
    = iprop(∃ f, m'.view.loc (c : Thread nD τ) ↦[m'.view.set]{fullShare} f) := by intro m m' e; subst e; rfl
  have k2 : ∀ (m m' : Memref sig .tc .vmem S4x8x256 .f32), m = m' → (iprop(∃ f, m.view.loc (c : Thread nD τ) ↦[m.view.set]{fullShare} f) : sProp 𝕄)
    = iprop(∃ f, m'.view.loc (c : Thread nD τ) ↦[m'.view.set]{fullShare} f) := by intro m m' e; subst e; rfl
  exact congrArg₂ (fun P Q => iprop(P ∗ Q)) (k1 _ _ (B1_congr arg8 s s' i h)) (k2 _ _ (B2_congr arg9 s s' i h))

/-- Which slot is free depends on the unit's parity alone. -/
theorem Free_congr (u u' : ℕ) (h : u % 2 = u' % 2) :
    Free c arg1 arg2 arg8 arg9 arg16 X1 X2 u = Free c arg1 arg2 arg8 arg9 arg16 X1 X2 u' := by
  unfold Free shr
  rw [h, cell_congr arg16 u u' h, show (fun i : Fin 9 => Dst (F := F) c arg8 arg9 u i.val) = (fun i : Fin 9 => Dst (F := F) c arg8 arg9 u' i.val) from
    funext fun i => Dst_congr c arg8 arg9 u u' i h]

/-- A free slot is ready for the loop that starts a unit's copies. -/
theorem Free_start (u n : ℕ) :
    Free c arg1 arg2 arg8 arg9 arg16 X1 X2 u
      ⊢ (|={Set.univ}=> iprop(StartInv c arg1 arg2 arg8 arg9 arg16 X1 X2 (shr u) u n 0 ∗ Rest c arg1 arg2 X1 X2 (shr u) u) : sProp 𝕄) := by
  unfold Free
  iintro ⟨HD, HO, HS⟩
  ihave HO := (Ops_split c arg1 arg2 X1 X2 (shr u) u).1 $$ HO
  icases HO with ⟨HS1, HR⟩
  imod (Transfers.mixedBatch_alloc' (countersEmb (nD := nD) (τ := τ) (sig := sig) (Ix := Unit) (Val := Elt F) (Name := ℕ) (U := Pipeline.UD sig nD τ) (Lvl := ℕ)) (c : Thread nD τ) () (amt arg8 arg9 n)
    (Ring.interleaved n (Got1 c arg1 arg8 X1 (shr u) u) (Got2 c arg2 arg9 X2 (shr u) u)) (sm := SemLoc.dma (cellOf arg16 u)) (E := Set.univ)) $$ HS with HB
  imodintro
  isplitl [HD HS1 HB]
  · unfold StartInv Bat
    isplitl [HD HS1]
    · rw [Ring.rangeSet_univ]
      iapply (Entails.of_eq (bigSep_sep Finset.univ _ _).symm)
      refine (show iprop(_ ∗ _) ⊢ iprop(_ ∗ _) from ?_)
      iintro ⟨H1, H2⟩
      isplitl [H2]; · iexact H2
      iexact H1
    · iexact HB
  · iexact HR

/-- Every copy waited for, the slot is filled. -/
theorem Busy_collect (u n : ℕ) (hn : n ≤ 9) :
    iprop(Transfers.MixedBatch (countersEmb (nD := nD) (τ := τ) (sig := sig) (Ix := Unit) (Val := Elt F) (Name := ℕ) (U := Pipeline.UD sig nD τ) (Lvl := ℕ)) (c : Thread nD τ) (SemLoc.dma (cellOf arg16 u)) () (amt arg8 arg9 n)
        (Ring.interleaved n (Got1 c arg1 arg8 X1 (shr u) u) (Got2 c arg2 arg9 X2 (shr u) u)) (2 * n) (Transfers.sumTo (amt arg8 arg9 n) (2 * n))
      ∗ bigSep (Ring.rangeSet 9 n 9) (fun i => iprop(Src c arg1 arg2 X1 X2 (shr u) u i.val ∗ Dst (F := F) c arg8 arg9 u i.val))
      ∗ Rest c arg1 arg2 X1 X2 (shr u) u)
      ⊢ (|={Set.univ}=> Ready c arg1 arg2 arg8 arg9 arg16 X1 X2 u n : sProp 𝕄) := by
  iintro ⟨HB, HD, HR⟩
  imod (Transfers.mixedBatch_collect' (countersEmb (nD := nD) (τ := τ) (sig := sig) (Ix := Unit) (Val := Elt F) (Name := ℕ) (U := Pipeline.UD sig nD τ) (Lvl := ℕ)) (c : Thread nD τ) (sm := SemLoc.dma (cellOf arg16 u)) (ι := ()) (amt_pos arg8 arg9 n)) $$ HB with ⟨HG, HS⟩
  imodintro
  unfold Ready
  isplitl [HG]
  · have e1 := Ring.bigSep_interleaved n (Got1 c arg1 arg8 X1 (shr u) u) (Got2 c arg2 arg9 X2 (shr u) u)
    have e2 := Ring.bigSep_rangeSet_eq_range (NB := 9) (lo := 0) (hi := n) hn (Φ := fun i : Fin 9 => Got c arg1 arg2 arg8 arg9 X1 X2 u i.val)
      (fun i => Got c arg1 arg2 arg8 arg9 X1 X2 u i) (fun k h => by simp only [Nat.zero_add])
    rw [e2, Nat.sub_zero]
    iapply (show iprop(bigSep (Finset.range n) (Got1 c arg1 arg8 X1 (shr u) u) ∗ bigSep (Finset.range n) (Got2 c arg2 arg9 X2 (shr u) u))
      ⊢ bigSep (Finset.range n) (fun i => Got c arg1 arg2 arg8 arg9 X1 X2 u i) from Entails.of_eq (bigSep_sep (Finset.range n) _ _).symm)
    iapply (Entails.of_eq e1); iexact HG
  · isplitl [HD]; · iexact HD
    isplitl [HR]; · iexact HR
    iexact HS

/-- The copies all started, the loop that waits for them may begin. -/
theorem StartInv_wait (q : PosShare TreeShare) (u n : ℕ) (W : Waits sig Unit) :
    iprop(StartInv c arg1 arg2 arg8 arg9 arg16 X1 X2 q u n n ∗ owes (c : Thread nD τ) 0 W)
      ⊢ iprop(bigSep (Ring.rangeSet 9 n 9) (fun i => iprop(Src c arg1 arg2 X1 X2 q u i.val ∗ Dst (F := F) c arg8 arg9 u i.val))
        ∗ WaitInv c arg1 arg2 arg8 arg9 arg16 X1 X2 q u n 0) := by
  unfold StartInv WaitInv
  iintro ⟨⟨H1, H2⟩, HO⟩
  isplitl [H1]; · iexact H1
  iexists W
  isplitl [H2]
  · iapply (show Bat c arg1 arg2 arg8 arg9 arg16 X1 X2 q u n (2 * n) 0 ⊢ Bat c arg1 arg2 arg8 arg9 arg16 X1 X2 q u n (2 * n) (Transfers.sumTo (amt arg8 arg9 n) (2 * 0)) from .rfl)
    iexact H2
  · iexact HO

/-- The waits over, the slot is filled. -/
theorem WaitInv_collect (u n k : ℕ) (hn : n ≤ 9) (hk : k = n) :
    iprop(WaitInv c arg1 arg2 arg8 arg9 arg16 X1 X2 (shr u) u n k
      ∗ bigSep (Ring.rangeSet 9 n 9) (fun i => iprop(Src c arg1 arg2 X1 X2 (shr u) u i.val ∗ Dst (F := F) c arg8 arg9 u i.val))
      ∗ Rest c arg1 arg2 X1 X2 (shr u) u)
      ⊢ (|={Set.univ}=> iprop(Ready c arg1 arg2 arg8 arg9 arg16 X1 X2 u n ∗ ∃ W, owes (c : Thread nD τ) 0 W) : sProp 𝕄) := by
  subst hk
  unfold WaitInv Bat
  iintro ⟨⟨%W, HB, HO⟩, HD, HR⟩
  imod (Busy_collect c arg1 arg2 arg8 arg9 arg16 X1 X2 u k hn) $$ [HB HD HR] with HY
  · isplitl [HB]
    · iexact HB
    isplitl [HD]; · iexact HD
    iexact HR
  imodintro
  isplitl [HY]; · iexact HY
  iexists W; iexact HO

theorem Got_open (u i : ℕ) :
    Got c arg1 arg2 arg8 arg9 X1 X2 u i ⊢ (iprop(Src c arg1 arg2 X1 X2 (shr u) u i ∗ Dst (F := F) c arg8 arg9 u i) : sProp 𝕄) := by
  unfold Got Got1 Got2 Src Dst
  iintro ⟨⟨H1, H2⟩, H3, H4⟩
  isplitl [H2 H4]
  · isplitl [H2]; · iexact H2
    iexact H4
  · isplitl [H1]; · iexists _; iexact H1
    iexists _; iexact H3

/-- A filled slot is free again. -/
theorem Ready_free (u n : ℕ) (hn : n ≤ 9) :
    Ready c arg1 arg2 arg8 arg9 arg16 X1 X2 u n ⊢ Free c arg1 arg2 arg8 arg9 arg16 X1 X2 u := by
  unfold Ready Free
  iintro ⟨HG, HD, HR, HS⟩
  ihave HG := (show bigSep (Ring.rangeSet 9 0 n) (fun i : Fin 9 => Got c arg1 arg2 arg8 arg9 X1 X2 u i.val)
    ⊢ bigSep (Ring.rangeSet 9 0 n) (fun i : Fin 9 => iprop(Src c arg1 arg2 X1 X2 (shr u) u i.val ∗ Dst (F := F) c arg8 arg9 u i.val)) from
      bigSep_mono fun i _ => Got_open c arg1 arg2 arg8 arg9 X1 X2 u i.val) $$ HG
  have e0 := Ring.bigSep_rangeSet_split (NB := 9) (Φ := fun i : Fin 9 => iprop(Src c arg1 arg2 X1 X2 (shr u) u i.val ∗ Dst (F := F) c arg8 arg9 u i.val)) (Nat.zero_le n) hn
  rw [Ring.rangeSet_univ] at e0
  have e1 : bigSep Finset.univ (fun i : Fin 9 => iprop(Src c arg1 arg2 X1 X2 (shr u) u i.val ∗ Dst (F := F) c arg8 arg9 u i.val))
    = iprop(bigSep Finset.univ (fun i : Fin 9 => Src c arg1 arg2 X1 X2 (shr u) u i.val) ∗ bigSep Finset.univ (fun i : Fin 9 => Dst (F := F) c arg8 arg9 u i.val)) :=
    bigSep_sep Finset.univ _ _
  ihave H := (Entails.of_eq (e0.symm.trans e1)) $$ [HG HD]
  · isplitl [HG]; · iexact HG
    iexact HD
  icases H with ⟨H1, H2⟩
  isplitl [H2]; · iexact H2
  isplitl [H1 HR]
  · iapply (Ops_split c arg1 arg2 X1 X2 (shr u) u).2
    isplitl [H1]; · iexact H1
    iexact HR
  · iexact HS

/-- A filled slot with chunk `i` taken out, to be put back as it was. -/
theorem Ready_focus (u n i : ℕ) (hi : i < n) (hn : n ≤ 9) :
    bigSep (Ring.rangeSet 9 0 n) (fun i => Got c arg1 arg2 arg8 arg9 X1 X2 u i.val)
      ⊢ (iprop(Got c arg1 arg2 arg8 arg9 X1 X2 u i ∗ (Got c arg1 arg2 arg8 arg9 X1 X2 u i -∗ bigSep (Ring.rangeSet 9 0 n) (fun i => Got c arg1 arg2 arg8 arg9 X1 X2 u i.val))) : sProp 𝕄) := by
  have hm : (⟨i, by omega⟩ : Fin 9) ∈ Ring.rangeSet 9 0 n := (Ring.mem_rangeSet 0 n _).mpr ⟨Nat.zero_le _, hi⟩
  have e : bigSep (Ring.rangeSet 9 0 n) (fun i => Got c arg1 arg2 arg8 arg9 X1 X2 u i.val)
    = iprop(Got c arg1 arg2 arg8 arg9 X1 X2 u i ∗ bigSep ((Ring.rangeSet 9 0 n).erase ⟨i, by omega⟩) (fun i => Got c arg1 arg2 arg8 arg9 X1 X2 u i.val)) :=
    Eq.trans (congrArg (fun s => bigSep s (fun i : Fin 9 => Got c arg1 arg2 arg8 arg9 X1 X2 u i.val)) (Finset.insert_erase hm).symm) (bigSep_insert (Finset.notMem_erase _ _))
  rw [e]
  iintro ⟨H1, H2⟩
  isplitl [H1]; · iexact H1
  iintro H1
  isplitl [H1]; · iexact H1
  iexact H2

end Slots

end Cert.Kernel.Hand
-- ==== Proof.Bits.TripK.lean ====
module

public import proofs.«01_k».proof.Proof.Bits.Copies

@[expose] public section

set_option maxRecDepth 16384
set_option maxHeartbeats 4000000

/-! One chunk of a unit: its keys rebuilt, rotated and dotted with the queries, into one row of the score buffer. -/

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

theorem acc35 (m : Memref sig .tc .vmem S2x9x256x128 .i32) (t : Fin k0_t3_loop.trips) (v : BitVec 32) (hF : Fits v) (k : Fin (k0_t8_loop v).trips)
    (h : ∀ a, k0_off35 t v k a + S1x1x256x128.size a ≤ S2x9x256x128.size a) :
    (m.access (Rect.unit (s := S2x9x256x128) (k0_off35 t v k) S1x1x256x128.size h)).set ⊆ (B1 m t k).view.set := by
  have e := off35_eq t v hF k
  generalize k0_off35 t v k = o at h e
  subst e
  rw [B1_set]
  exact (View.set_slice _ _).le

theorem acc9 (m : Memref sig .tc .vmem S2x9x4x8x256 .f32) (t k g : ℕ) (hg : g < 4) (o : Fin 5 → ℕ) (e : o = ![t % 2, k % 9, g, 0, 0])
    (h : ∀ a, o a + S1x1x1x8x256.size a ≤ S2x9x4x8x256.size a) :
    (m.access (Rect.unit (s := S2x9x4x8x256) o S1x1x1x8x256.size h)).set ⊆ (B2 m t k).view.set := by
  subst e
  rw [B2_set]
  refine (View.set_slice _ _).le.trans (Finset.map_subset_map.mpr fun x hx => ?_)
  have hx := Rect.mem_set_unit.mp hx
  refine Rect.mem_set_unit.mpr fun a => ?_
  have := hx a
  fin_cases a <;> simp at this ⊢ <;> omega

/-- The trip's row of scores, and the run of the trip that stores it. -/
@[irreducible] def tripK (c : Dev nD) (bd : Option Variants.none.V) (arg0 : Memref sig .tc .smem S6 .i32) (harg0 : arg0.IsWhole) (arg1 : Memref sig .tc .hbm S6x2304x4x128 .i32) (harg1 : arg1.IsWhole) (arg2 : Memref sig .tc .hbm S6x16x8x2304 .f32) (harg2 : arg2.IsWhole) (arg3 : Memref sig .tc .vmem S6x64x128 .f32) (harg3 : arg3.IsWhole) (arg4 : Memref sig .tc .vmem S16x256x512 .bf16) (harg4 : arg4.IsWhole) (arg5 : Memref sig .tc .vmem S54x64x256 .f32) (harg5 : arg5.IsWhole) (arg6 : Memref sig .tc .vmem S54x64x256 .f32) (harg6 : arg6.IsWhole) (arg7 : Memref sig .tc .vmem S6x64x2304 .f32) (harg7 : arg7.IsWhole) (arg8 : Memref sig .tc .vmem S2x9x256x128 .i32) (harg8 : arg8.IsWhole) (arg9 : Memref sig .tc .vmem S2x9x4x8x256 .f32) (harg9 : arg9.IsWhole) (arg10 : Memref sig .tc .vmem S16x512x256 .bf16) (harg10 : arg10.IsWhole) (arg11 : Memref sig .tc .vmem S2x512x128 .i32) (harg11 : arg11.IsWhole) (arg12 : Memref sig .tc .vmem S4x8x256 .f32) (harg12 : arg12.IsWhole) (arg13 : Memref sig .tc .vmem S2048x256 .bf16) (harg13 : arg13.IsWhole) (arg14 : Memref sig .tc .vmem S9x16x256 .f32) (harg14 : arg14.IsWhole) (arg15 : Memref sig .tc .vmem S16x2048 .bf16) (harg15 : arg15.IsWhole) (arg16 : DmaSems sig S2)
    (k0_t3 : Fin k0_t3_loop.trips) (arg17 v110 v111 v112 : BitVec 32) (v114 : Elt F .i32) (k0_hw4 : k0_chk4 k0_t3 v114) (hF : Fits v114) (v116 : BitVec 32) (v118 : Elt F .i32)
    (X5 : BufTy.Contents (Elt F) arg5.view.ty) (X6 : BufTy.Contents (Elt F) arg6.view.ty) (X8 : BufTy.Contents (Elt F) arg8.view.ty) (X9 : BufTy.Contents (Elt F) arg9.view.ty)
    (X10 : BufTy.Contents (Elt F) arg10.view.ty) (X15 : BufTy.Contents (Elt F) arg15.view.ty) (k : Fin (k0_t8_loop v114).trips) (acc : BitVec 32) :
    Σ' (V : S1x16x256.Idx → Elt F .f32), PLift (∀ (f11 : BufTy.Contents (Elt F) arg11.view.ty) (f12 : BufTy.Contents (Elt F) arg12.view.ty)
      (f13 : BufTy.Contents (Elt F) arg13.view.ty) (f14 : BufTy.Contents (Elt F) arg14.view.ty),
    (iprop((arg5.view.loc (c : Thread nD τ) ↦[arg5.view.set]{fullShare} X5) ∗ (arg6.view.loc (c : Thread nD τ) ↦[arg6.view.set]{fullShare} X6)
       ∗ ((B1 arg8 k0_t3 k).view.loc (c : Thread nD τ) ↦[(B1 arg8 k0_t3 k).view.set]{fullShare} X8)
       ∗ ((B2 arg9 k0_t3 k).view.loc (c : Thread nD τ) ↦[(B2 arg9 k0_t3 k).view.set]{fullShare} X9)
       ∗ (arg10.view.loc (c : Thread nD τ) ↦[arg10.view.set]{fullShare} X10) ∗ (arg15.view.loc (c : Thread nD τ) ↦[arg15.view.set]{fullShare} X15)
       ∗ (arg11.view.loc (c : Thread nD τ) ↦[arg11.view.set]{fullShare} f11) ∗ (arg12.view.loc (c : Thread nD τ) ↦[arg12.view.set]{fullShare} f12)
       ∗ (arg13.view.loc (c : Thread nD τ) ↦[arg13.view.set]{fullShare} f13) ∗ (arg14.view.loc (c : Thread nD τ) ↦[arg14.view.set]{fullShare} f14)) : sProp 𝕄)
      ⊢ wp Idealize.ShloMosaic.frame (wpE (defs₀ (F := F)) Variants.none (c : Thread nD τ) bd) Set.univ (k0_t8_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 k0_t3 arg17 v110 v111 v112 v114 k0_hw4 v116 v118 k acc)
          (fun _ => iprop((arg5.view.loc (c : Thread nD τ) ↦[arg5.view.set]{fullShare} X5) ∗ (arg6.view.loc (c : Thread nD τ) ↦[arg6.view.set]{fullShare} X6)
       ∗ ((B1 arg8 k0_t3 k).view.loc (c : Thread nD τ) ↦[(B1 arg8 k0_t3 k).view.set]{fullShare} X8)
       ∗ ((B2 arg9 k0_t3 k).view.loc (c : Thread nD τ) ↦[(B2 arg9 k0_t3 k).view.set]{fullShare} X9)
       ∗ (arg10.view.loc (c : Thread nD τ) ↦[arg10.view.set]{fullShare} X10) ∗ (arg15.view.loc (c : Thread nD τ) ↦[arg15.view.set]{fullShare} X15)
       ∗ (∃ f, arg11.view.loc (c : Thread nD τ) ↦[arg11.view.set]{fullShare} f) ∗ (∃ f, arg12.view.loc (c : Thread nD τ) ↦[arg12.view.set]{fullShare} f)
       ∗ (∃ f, arg13.view.loc (c : Thread nD τ) ↦[arg13.view.set]{fullShare} f)
       ∗ (arg14.view.loc (c : Thread nD τ) ↦[arg14.view.set]{fullShare} arg14.view.writes (Elt F) f14
            [⟨Rect.unit (s := S9x16x256) (k0_off42 v114 k) S1x16x256.size (k0_off42_inb k0_t3 v114 k0_hw4 k), V⟩])))) := by
  refine ⟨?_, ⟨?_⟩⟩
  case refine_2 =>
    intro f11 f12 f13 f14
    have h8 : (arg8.access (Rect.unit (s := S2x9x256x128) (k0_off35 k0_t3 v114 k) S1x1x256x128.size (k0_off35_inb k0_t3 v114 k0_hw4 k))).set ⊆ (B1 arg8 k0_t3 k).view.set :=
      acc35 arg8 k0_t3 v114 hF k _
    have h90 : (arg9.access (Rect.unit (s := S2x9x4x8x256) (k0_off36 k0_t3 v114 k) S1x1x1x8x256.size (k0_off36_inb k0_t3 v114 k0_hw4 k))).set ⊆ (B2 arg9 k0_t3 k).view.set :=
      acc9 arg9 k0_t3 k 0 (by omega) _ (off36_eq k0_t3 v114 hF k) _
    have h91 : (arg9.access (Rect.unit (s := S2x9x4x8x256) (k0_off37 k0_t3 v114 k) S1x1x1x8x256.size (k0_off37_inb k0_t3 v114 k0_hw4 k))).set ⊆ (B2 arg9 k0_t3 k).view.set :=
      acc9 arg9 k0_t3 k 1 (by omega) _ (off37_eq k0_t3 v114 hF k) _
    have h92 : (arg9.access (Rect.unit (s := S2x9x4x8x256) (k0_off38 k0_t3 v114 k) S1x1x1x8x256.size (k0_off38_inb k0_t3 v114 k0_hw4 k))).set ⊆ (B2 arg9 k0_t3 k).view.set :=
      acc9 arg9 k0_t3 k 2 (by omega) _ (off38_eq k0_t3 v114 hF k) _
    have h93 : (arg9.access (Rect.unit (s := S2x9x4x8x256) (k0_off39 k0_t3 v114 k) S1x1x1x8x256.size (k0_off39_inb k0_t3 v114 k0_hw4 k))).set ⊆ (B2 arg9 k0_t3 k).view.set :=
      acc9 arg9 k0_t3 k 3 (by omega) _ (off39_eq k0_t3 v114 hF k) _
    unfold k0_t8_body
    iintro ⟨HR5, HR6, HR8, HR9, HR10, HR15, HW11, HW12, HW13, HW14⟩
    sl_exec
    sl_step
    isplitl [HR5]; · iexact HR5
    isplitl [HR6]; · iexact HR6
    isplitl [HR8]; · iexact HR8
    isplitl [HR9]; · iexact HR9
    isplitl [HR10]; · iexact HR10
    isplitl [HR15]; · iexact HR15
    isplitl [HW11]; · iexists _; iexact HW11
    isplitl [HW12]; · iexists _; iexact HW12
    isplitl [HW13]; · iexists _; iexact HW13
    iexact HW14

end Cert.Kernel.Hand
-- ==== Proof.Bits.KLoop.lean ====
module

public import proofs.«01_k».proof.Proof.Bits.Slots
public import proofs.«01_k».proof.Proof.Bits.TripK
public import Idealize.ShloMosaic.Lib.WritesUnit
public import Idealize.ShloMosaic.Lib.Pointwise.Index

@[expose] public section

set_option maxRecDepth 16384
set_option maxHeartbeats 4000000

/-! The loop over a unit's chunks: what it has written of the scores after `k` chunks. -/

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

section KLoop
variable (c : Dev nD) (bd : Option Variants.none.V) (arg0 : Memref sig .tc .smem S6 .i32) (harg0 : arg0.IsWhole) (arg1 : Memref sig .tc .hbm S6x2304x4x128 .i32) (harg1 : arg1.IsWhole) (arg2 : Memref sig .tc .hbm S6x16x8x2304 .f32) (harg2 : arg2.IsWhole) (arg3 : Memref sig .tc .vmem S6x64x128 .f32) (harg3 : arg3.IsWhole) (arg4 : Memref sig .tc .vmem S16x256x512 .bf16) (harg4 : arg4.IsWhole) (arg5 : Memref sig .tc .vmem S54x64x256 .f32) (harg5 : arg5.IsWhole) (arg6 : Memref sig .tc .vmem S54x64x256 .f32) (harg6 : arg6.IsWhole) (arg7 : Memref sig .tc .vmem S6x64x2304 .f32) (harg7 : arg7.IsWhole) (arg8 : Memref sig .tc .vmem S2x9x256x128 .i32) (harg8 : arg8.IsWhole) (arg9 : Memref sig .tc .vmem S2x9x4x8x256 .f32) (harg9 : arg9.IsWhole) (arg10 : Memref sig .tc .vmem S16x512x256 .bf16) (harg10 : arg10.IsWhole) (arg11 : Memref sig .tc .vmem S2x512x128 .i32) (harg11 : arg11.IsWhole) (arg12 : Memref sig .tc .vmem S4x8x256 .f32) (harg12 : arg12.IsWhole) (arg13 : Memref sig .tc .vmem S2048x256 .bf16) (harg13 : arg13.IsWhole) (arg14 : Memref sig .tc .vmem S9x16x256 .f32) (harg14 : arg14.IsWhole) (arg15 : Memref sig .tc .vmem S16x2048 .bf16) (harg15 : arg15.IsWhole) (arg16 : DmaSems sig S2)
  (X1 : BufTy.Contents (Elt F) arg1.view.ty) (X2 : BufTy.Contents (Elt F) arg2.view.ty)
  (k0_t3 : Fin k0_t3_loop.trips) (arg17 v110 v111 v112 : BitVec 32) (v114 : Elt F .i32) (k0_hw4 : k0_chk4 k0_t3 v114) (hF : Fits v114) (v116 : BitVec 32) (v118 : Elt F .i32)
  (X5 : BufTy.Contents (Elt F) arg5.view.ty) (X6 : BufTy.Contents (Elt F) arg6.view.ty)
  (X10 : BufTy.Contents (Elt F) arg10.view.ty) (X15 : BufTy.Contents (Elt F) arg15.view.ty)

/-- The scores of chunk `i`: the trip's, for a chunk the unit has; nothing in particular after them. -/
def Row (i : ℕ) : S1x16x256.Idx → Elt F .f32 :=
  if h : i < (k0_t8_loop v114).trips then
    (tripK c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 k0_t3 arg17 v110 v111 v112 v114 k0_hw4 hF v116 v118 X5 X6
      ((B1 arg8 k0_t3 i).view.rep ((S1b arg1 k0_t3 i).view.read (Elt F) X1)) ((B2 arg9 k0_t3 i).view.rep ((S2b arg2 k0_t3 i).view.read (Elt F) X2))
      X10 X15 ⟨i, h⟩ 0#32).1
  else fun _ => Scalar.ofBits .f32 0#32

/-- The first `k` chunks' scores have been written. -/
def Scored (k : ℕ) (f14 : BufTy.Contents (Elt F) arg14.view.ty) : Prop :=
  ∀ (i : Fin 9) (a : Fin 16) (b : Fin 256), i.val < k → arg14.view.read (Elt F) f14 (ix3 i a b : S9x16x256.Idx)
    = Row c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 X1 X2 k0_t3 arg17 v110 v111 v112 v114 k0_hw4 hF v116 v118 X5 X6 X10 X15 i.val (ix3 0 a b)

/-- What holds before trip `k`. -/
def KInv (k : ℕ) : sProp 𝕄 :=
  iprop((arg5.view.loc (c : Thread nD τ) ↦[arg5.view.set]{fullShare} X5) ∗ (arg6.view.loc (c : Thread nD τ) ↦[arg6.view.set]{fullShare} X6)
    ∗ (arg10.view.loc (c : Thread nD τ) ↦[arg10.view.set]{fullShare} X10) ∗ (arg15.view.loc (c : Thread nD τ) ↦[arg15.view.set]{fullShare} X15)
    ∗ bigSep (Ring.rangeSet 9 0 (nch v114)) (fun i => Got c arg1 arg2 arg8 arg9 X1 X2 k0_t3 i.val)
    ∗ (∃ f, arg11.view.loc (c : Thread nD τ) ↦[arg11.view.set]{fullShare} f) ∗ (∃ f, arg12.view.loc (c : Thread nD τ) ↦[arg12.view.set]{fullShare} f)
    ∗ (∃ f, arg13.view.loc (c : Thread nD τ) ↦[arg13.view.set]{fullShare} f)
    ∗ (∃ f14, ⌜Scored c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 X1 X2 k0_t3 arg17 v110 v111 v112 v114 k0_hw4 hF v116 v118 X5 X6 X10 X15 k f14⌝
        ∗ (arg14.view.loc (c : Thread nD τ) ↦[arg14.view.set]{fullShare} f14)))

theorem Scored_step (k : Fin (k0_t8_loop v114).trips) (f14 : BufTy.Contents (Elt F) arg14.view.ty) (V : S1x16x256.Idx → Elt F .f32)
    (hV : Row c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 X1 X2 k0_t3 arg17 v110 v111 v112 v114 k0_hw4 hF v116 v118 X5 X6 X10 X15 k = V)
    (h : Scored c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 X1 X2 k0_t3 arg17 v110 v111 v112 v114 k0_hw4 hF v116 v118 X5 X6 X10 X15 k f14) :
    Scored c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 X1 X2 k0_t3 arg17 v110 v111 v112 v114 k0_hw4 hF v116 v118 X5 X6 X10 X15 (k + 1)
      (arg14.view.writes (Elt F) f14 [⟨Rect.unit (s := S9x16x256) (k0_off42 v114 k) S1x16x256.size (k0_off42_inb k0_t3 v114 k0_hw4 k), V⟩]) := by
  intro i a b hi
  by_cases hik : i.val = k.val
  · refine (View.read_writes_cons_unit_of_mem arg14.view f14 _ V [] (ix3 i a b : S9x16x256.Idx) (ix3 0 a b) (off42_eq v114 hF k) ?_).trans ?_
    · intro j; fin_cases j <;> simp <;> omega
    · rw [hik, hV]
  · refine (View.read_writes_cons_unit_of_not_mem arg14.view f14 _ V [] (ix3 i a b : S9x16x256.Idx) (off42_eq v114 hF k) 0 ?_).trans ?_
    · simp [ix3_0]; omega
    · exact h i a b (by omega)

theorem trip8 (k : Fin (k0_t8_loop v114).trips) (acc : BitVec 32) :
    KInv c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 X1 X2 k0_t3 arg17 v110 v111 v112 v114 k0_hw4 hF v116 v118 X5 X6 X10 X15 k
      ⊢ wp Idealize.ShloMosaic.frame (wpE (defs₀ (F := F)) Variants.none (c : Thread nD τ) bd) Set.univ (k0_t8_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 k0_t3 arg17 v110 v111 v112 v114 k0_hw4 v116 v118 k acc)
        (fun _ => KInv c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 X1 X2 k0_t3 arg17 v110 v111 v112 v114 k0_hw4 hF v116 v118 X5 X6 X10 X15 (k + 1)) := by
  have hn := nch_le v114 hF
  have hk : k.val < nch v114 := k.isLt
  have hV : Row c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 X1 X2 k0_t3 arg17 v110 v111 v112 v114 k0_hw4 hF v116 v118 X5 X6 X10 X15 k = _ := dif_pos k.isLt
  rw [show k0_t8_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 k0_t3 arg17 v110 v111 v112 v114 k0_hw4 v116 v118 k acc = k0_t8_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 k0_t3 arg17 v110 v111 v112 v114 k0_hw4 v116 v118 k 0#32 from rfl]
  have run := (tripK c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 k0_t3 arg17 v110 v111 v112 v114 k0_hw4 hF v116 v118 X5 X6
      ((B1 arg8 k0_t3 k).view.rep ((S1b arg1 k0_t3 k).view.read (Elt F) X1)) ((B2 arg9 k0_t3 k).view.rep ((S2b arg2 k0_t3 k).view.read (Elt F) X2))
      X10 X15 k 0#32).2.down
  unfold KInv
  iintro ⟨H5, H6, H10, H15, HG, ⟨%f11, H11⟩, ⟨%f12, H12⟩, ⟨%f13, H13⟩, ⟨%f14, %hs, H14⟩⟩
  have hs' := Scored_step c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 X1 X2 k0_t3 arg17 v110 v111 v112 v114 k0_hw4 hF v116 v118 X5 X6 X10 X15 k f14 _ hV hs
  ihave HG := (Ready_focus c arg1 arg2 arg8 arg9 X1 X2 k0_t3 (nch v114) k hk hn) $$ HG
  icases HG with ⟨Hk, HG⟩
  unfold Got Got1 Got2
  icases Hk with ⟨⟨H8, Ha⟩, H9, Hb⟩
  iapply ((run f11 f12 f13 f14).trans (wp_wand _ _ _)) $$ [H5 H6 H8 H9 H10 H15 H11 H12 H13 H14]
  · isplitl [H5]; · iexact H5
    isplitl [H6]; · iexact H6
    isplitl [H8]; · iexact H8
    isplitl [H9]; · iexact H9
    isplitl [H10]; · iexact H10
    isplitl [H15]; · iexact H15
    isplitl [H11]; · iexact H11
    isplitl [H12]; · iexact H12
    isplitl [H13]; · iexact H13
    iexact H14
  · iintro %a ⟨H5, H6, H8, H9, H10, H15, H11, H12, H13, H14⟩
    isplitl [H5]; · iexact H5
    isplitl [H6]; · iexact H6
    isplitl [H10]; · iexact H10
    isplitl [H15]; · iexact H15
    isplitl [HG H8 Ha H9 Hb]
    · iapply HG
      isplitl [H8 Ha]
      · isplitl [H8]; · iexact H8
        iexact Ha
      · isplitl [H9]; · iexact H9
        iexact Hb
    isplitl [H11]; · iexact H11
    isplitl [H12]; · iexact H12
    isplitl [H13]; · iexact H13
    iexists _
    isplitr; · ipureintro; exact hs'
    iexact H14
end KLoop

end Cert.Kernel.Hand
-- ==== Proof.Bits.Out.lean ====
module

public import proofs.«01_k».proof.Proof.Bits.Blocks
public import Idealize.ShloMosaic.Lib.WritesUnit
public import Idealize.ShloMosaic.Lib.Pointwise

@[expose] public section

set_option maxRecDepth 16384
set_option maxHeartbeats 4000000

/-! The masked rows of scores, and what a unit's nine stores leave in the output. -/

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- Chunk `i`'s rows as they are stored: scaled, and `-inf` past the length `v`. -/
def mrow (v : Elt F .i32) (i : ℕ) (r : Vec F S1x16x256 .f32) : FVec F S1x16x256 .f32 :=
  shapeCast S1x16x256 (select (cmpi .slt (addi (iota .tc S16x256 32 [1] iota_S16x256_d1_w32) (broadcast S16x256 (BitVec.ofNat 32 (256 * i)))) (broadcast S16x256 v))
    (mulf (shapeCast S16x256 r shapeCasts_S1x16x256_S16x256) (broadcast S16x256 (Scalar.ofBits .f32 0x3DB504F3#32 : F .f32)))
    (broadcast S16x256 (Scalar.ofBits .f32 0xFF800000#32 : F .f32))) shapeCasts_S16x256_S1x16x256

theorem mask_beyond (v : BitVec 32) (i : ℕ) (hi : i < 9) (h : v.toInt ≤ 256 * i) (y : S16x256.Idx) :
    cmpi .slt (addi (iota .tc S16x256 32 [1] iota_S16x256_d1_w32) (broadcast S16x256 (BitVec.ofNat 32 (256 * i)))) (broadcast S16x256 v) y = 0#1 := by
  have hy := (y 1).isLt
  have e : cmpi .slt (addi (iota .tc S16x256 32 [1] iota_S16x256_d1_w32) (broadcast S16x256 (BitVec.ofNat 32 (256 * i)))) (broadcast S16x256 v) y
    = BitVec.ofBool (BitVec.slt (BitVec.ofNat 32 (y 1).val + BitVec.ofNat 32 (256 * i)) v) := by
    have e1 : iota .tc S16x256 32 [1] iota_S16x256_d1_w32 y = BitVec.ofNat 32 (y 1).val := by
      rw [iota_apply]; simp
    show BitVec.ofBool (BitVec.slt (iota .tc S16x256 32 [1] iota_S16x256_d1_w32 y + BitVec.ofNat 32 (256 * i)) v) = _
    rw [e1]
  rw [e]
  have : BitVec.slt (BitVec.ofNat 32 (y 1).val + BitVec.ofNat 32 (256 * i)) v = false := by
    have hy' : (y 1).val < 256 := hy
    have e2 : (BitVec.ofNat 32 (y 1).val + BitVec.ofNat 32 (256 * i)).toInt = (y 1).val + 256 * i := by
      have e3 : (BitVec.ofNat 32 (y 1).val + BitVec.ofNat 32 (256 * i)).toNat = (y 1).val + 256 * i := by
        rw [← BitVec.ofNat_add, BitVec.toNat_ofNat, Nat.mod_eq_of_lt]; omega
      rw [BitVec.toInt_eq_toNat_of_lt (by rw [e3]; omega), e3]; omega
    rw [BitVec.slt, e2, decide_eq_false_iff_not]; omega
  rw [this]; rfl

/-- A chunk wholly past the length is stored the same whatever its scores. -/
theorem mrow_beyond (v : BitVec 32) (i : ℕ) (hi : i < 9) (h : v.toInt ≤ 256 * i) (r r' : Vec F S1x16x256 .f32) :
    mrow (F := F) v i r = mrow v i r' := by
  unfold mrow
  congr 1
  funext y
  simp only [select]
  rw [mask_beyond v i hi h y]
  rfl

/-- A chunk's loaded row is the scores written there. -/
theorem readAt14 (arg14 : Memref sig .tc .vmem S9x16x256 .f32) (f : BufTy.Contents (Elt F) arg14.view.ty) (i : Fin 9)
    (o : Fin 3 → ℕ) (h : ∀ a, o a + S1x16x256.size a ≤ S9x16x256.size a) (e : o = ![i.val, 0, 0]) (R : S1x16x256.Idx → Elt F .f32)
    (hR : ∀ a b, arg14.view.read (Elt F) f (ix3 i a b : S9x16x256.Idx) = R (ix3 0 a b)) :
    View.readAt (Elt F) arg14.view (Rect.unit (s := S9x16x256) o S1x16x256.size h).toLoadRect f = R := by
  subst e
  funext x
  have hx : x = ix3 0 (x 1) (x 2) := by
    funext j; fin_cases j
    · exact Fin.ext (by have := (x 0).isLt; simp at this ⊢; omega)
    · rfl
    · rfl
  refine Eq.trans ?_ ((hR (x 1) (x 2)).trans (congrArg R hx.symm))
  show arg14.view.read (Elt F) f _ = _
  congr 1
  funext j
  have h0 : (x 0).val = 0 := by have := (x 0).isLt; simp at this; omega
  fin_cases j <;> apply Fin.ext <;> simp [h0]

theorem in14 (i : Fin 9) : ∀ a, (![i.val, 0, 0] : Fin 3 → ℕ) a + S1x16x256.size a ≤ S9x16x256.size a := by
  intro a; fin_cases a <;> simp

/-- What is stored for chunk `i` from the buffer of scores, once the unit's chunks are in it. -/
theorem stored_eq (arg14 : Memref sig .tc .vmem S9x16x256 .f32) (f : BufTy.Contents (Elt F) arg14.view.ty) (w : Elt F .i32) (hF : Fits w)
    (R : ℕ → S1x16x256.Idx → Elt F .f32) (k : ℕ) (hk : k = nch w)
    (hs : ∀ (i : Fin 9) (a : Fin 16) (b : Fin 256), i.val < k → arg14.view.read (Elt F) f (ix3 i a b : S9x16x256.Idx) = R i.val (ix3 0 a b)) (i : Fin 9) :
    mrow (F := F) w i.val (View.readAt (Elt F) arg14.view (Rect.unit (s := S9x16x256) ![i.val, 0, 0] S1x16x256.size (in14 i)).toLoadRect f) = mrow w i.val (R i.val) := by
  subst hk
  by_cases h : i.val < nch w
  · rw [readAt14 arg14 f i ![i.val, 0, 0] (in14 i) rfl (R i.val) fun a b => hs i a b h]
  · exact mrow_beyond w i.val i.isLt (beyond w hF i.val (by omega)) _ _

section Stores
variable (arg7 : Memref sig .tc .vmem S6x64x2304 .f32) (U : Fin k0_t3_loop.trips → ℕ → S1x16x256.Idx → Elt F .f32)

/-- The first `k` units' blocks of the output are as `U` says. -/
def OutOK (k : ℕ) (f : BufTy.Contents (Elt F) arg7.view.ty) : Prop :=
  ∀ (u : Fin k0_t3_loop.trips) (i : Fin 9) (a : Fin 16) (b : Fin 256), u.val < k →
    arg7.view.read (Elt F) f (ix3 ⟨u.val % 6, by omega⟩ ⟨16 * (u.val / 6) + a.val, by have := t_lt u; omega⟩ ⟨256 * i.val + b.val, by omega⟩ : S6x64x2304.Idx)
      = U u i (ix3 0 a b)

theorem OutOK_step (t : Fin k0_t3_loop.trips) (f : BufTy.Contents (Elt F) arg7.view.ty) (h : OutOK arg7 U t f)
    (o0 o1 o2 o3 o4 o5 o6 o7 o8 : Fin 3 → ℕ)
    (h0 : ∀ a, o0 a + S1x16x256.size a ≤ S6x64x2304.size a) (h1 : ∀ a, o1 a + S1x16x256.size a ≤ S6x64x2304.size a)
    (h2 : ∀ a, o2 a + S1x16x256.size a ≤ S6x64x2304.size a) (h3 : ∀ a, o3 a + S1x16x256.size a ≤ S6x64x2304.size a)
    (h4 : ∀ a, o4 a + S1x16x256.size a ≤ S6x64x2304.size a) (h5 : ∀ a, o5 a + S1x16x256.size a ≤ S6x64x2304.size a)
    (h6 : ∀ a, o6 a + S1x16x256.size a ≤ S6x64x2304.size a) (h7 : ∀ a, o7 a + S1x16x256.size a ≤ S6x64x2304.size a)
    (h8 : ∀ a, o8 a + S1x16x256.size a ≤ S6x64x2304.size a)
    (e0 : o0 = ![t.val % 6, 16 * (t.val / 6), 0]) (e1 : o1 = ![t.val % 6, 16 * (t.val / 6), 256]) (e2 : o2 = ![t.val % 6, 16 * (t.val / 6), 512])
    (e3 : o3 = ![t.val % 6, 16 * (t.val / 6), 768]) (e4 : o4 = ![t.val % 6, 16 * (t.val / 6), 1024]) (e5 : o5 = ![t.val % 6, 16 * (t.val / 6), 1280])
    (e6 : o6 = ![t.val % 6, 16 * (t.val / 6), 1536]) (e7 : o7 = ![t.val % 6, 16 * (t.val / 6), 1792]) (e8 : o8 = ![t.val % 6, 16 * (t.val / 6), 2048])
    (W : Fin 9 → S1x16x256.Idx → Elt F .f32) (hW : ∀ i a b, W i (ix3 0 a b) = U t i.val (ix3 0 a b)) :
    OutOK arg7 U (t + 1) (arg7.view.writes (Elt F) f
      [⟨Rect.unit (s := S6x64x2304) o8 S1x16x256.size h8, W 8⟩, ⟨Rect.unit (s := S6x64x2304) o7 S1x16x256.size h7, W 7⟩,
       ⟨Rect.unit (s := S6x64x2304) o6 S1x16x256.size h6, W 6⟩, ⟨Rect.unit (s := S6x64x2304) o5 S1x16x256.size h5, W 5⟩,
       ⟨Rect.unit (s := S6x64x2304) o4 S1x16x256.size h4, W 4⟩, ⟨Rect.unit (s := S6x64x2304) o3 S1x16x256.size h3, W 3⟩,
       ⟨Rect.unit (s := S6x64x2304) o2 S1x16x256.size h2, W 2⟩, ⟨Rect.unit (s := S6x64x2304) o1 S1x16x256.size h1, W 1⟩,
       ⟨Rect.unit (s := S6x64x2304) o0 S1x16x256.size h0, W 0⟩]) := by
  subst e0 e1 e2 e3 e4 e5 e6 e7 e8
  have ht := t_lt t
  rintro ⟨u, hu24⟩ i a b hu
  by_cases hut : u = t.val
  · subst hut
    rw [← hW]
    have hit : ∀ (o : ℕ) (ho) (L : List (View.Piece (Elt F) S6x64x2304 .f32)) (V : S1x16x256.Idx → Elt F .f32), 256 * i.val = o →
        arg7.view.read (Elt F) (arg7.view.writes (Elt F) f (⟨Rect.unit (s := S6x64x2304) ![t.val % 6, 16 * (t.val / 6), o] S1x16x256.size ho, V⟩ :: L))
          (ix3 ⟨t.val % 6, by omega⟩ ⟨16 * (t.val / 6) + a.val, by omega⟩ ⟨256 * i.val + b.val, by omega⟩ : S6x64x2304.Idx) = V (ix3 0 a b) := by
      intro o ho L V e
      refine View.read_writes_cons_unit_of_mem arg7.view f ho V L _ (ix3 0 a b) rfl ?_
      intro j; fin_cases j <;> simp <;> omega
    have miss : ∀ (o : ℕ) (ho) (L : List (View.Piece (Elt F) S6x64x2304 .f32)) (V : S1x16x256.Idx → Elt F .f32), (256 * i.val + 256 ≤ o ∨ o + 256 ≤ 256 * i.val) →
        arg7.view.read (Elt F) (arg7.view.writes (Elt F) f (⟨Rect.unit (s := S6x64x2304) ![t.val % 6, 16 * (t.val / 6), o] S1x16x256.size ho, V⟩ :: L))
          (ix3 ⟨t.val % 6, by omega⟩ ⟨16 * (t.val / 6) + a.val, by omega⟩ ⟨256 * i.val + b.val, by omega⟩ : S6x64x2304.Idx)
        = arg7.view.read (Elt F) (arg7.view.writes (Elt F) f L)
          (ix3 ⟨t.val % 6, by omega⟩ ⟨16 * (t.val / 6) + a.val, by omega⟩ ⟨256 * i.val + b.val, by omega⟩ : S6x64x2304.Idx) := by
      intro o ho L V e
      refine View.read_writes_cons_unit_of_not_mem arg7.view f ho V L _ rfl 2 ?_
      simp; omega
    fin_cases i
    · rw [miss 2048 h8 _ _ (by simp), miss 1792 h7 _ _ (by simp), miss 1536 h6 _ _ (by simp), miss 1280 h5 _ _ (by simp), miss 1024 h4 _ _ (by simp), miss 768 h3 _ _ (by simp), miss 512 h2 _ _ (by simp), miss 256 h1 _ _ (by simp)]
      exact hit 0 h0 _ _ rfl
    · rw [miss 2048 h8 _ _ (by simp), miss 1792 h7 _ _ (by simp), miss 1536 h6 _ _ (by simp), miss 1280 h5 _ _ (by simp), miss 1024 h4 _ _ (by simp), miss 768 h3 _ _ (by simp), miss 512 h2 _ _ (by simp)]
      exact hit 256 h1 _ _ rfl
    · rw [miss 2048 h8 _ _ (by simp), miss 1792 h7 _ _ (by simp), miss 1536 h6 _ _ (by simp), miss 1280 h5 _ _ (by simp), miss 1024 h4 _ _ (by simp), miss 768 h3 _ _ (by simp)]
      exact hit 512 h2 _ _ rfl
    · rw [miss 2048 h8 _ _ (by simp), miss 1792 h7 _ _ (by simp), miss 1536 h6 _ _ (by simp), miss 1280 h5 _ _ (by simp), miss 1024 h4 _ _ (by simp)]
      exact hit 768 h3 _ _ rfl
    · rw [miss 2048 h8 _ _ (by simp), miss 1792 h7 _ _ (by simp), miss 1536 h6 _ _ (by simp), miss 1280 h5 _ _ (by simp)]
      exact hit 1024 h4 _ _ rfl
    · rw [miss 2048 h8 _ _ (by simp), miss 1792 h7 _ _ (by simp), miss 1536 h6 _ _ (by simp)]
      exact hit 1280 h5 _ _ rfl
    · rw [miss 2048 h8 _ _ (by simp), miss 1792 h7 _ _ (by simp)]
      exact hit 1536 h6 _ _ rfl
    · rw [miss 2048 h8 _ _ (by simp)]
      exact hit 1792 h7 _ _ rfl
    · exact hit 2048 h8 _ _ rfl
  · have hu24' : u < 24 := t_lt ⟨u, hu24⟩
    refine Eq.trans ?_ (h ⟨u, hu24⟩ i a b (by simp at hu ⊢; omega))
    have miss : ∀ (o : ℕ) (ho) (L : List (View.Piece (Elt F) S6x64x2304 .f32)) (V : S1x16x256.Idx → Elt F .f32),
        arg7.view.read (Elt F) (arg7.view.writes (Elt F) f (⟨Rect.unit (s := S6x64x2304) ![t.val % 6, 16 * (t.val / 6), o] S1x16x256.size ho, V⟩ :: L))
          (ix3 ⟨u % 6, by omega⟩ ⟨16 * (u / 6) + a.val, by omega⟩ ⟨256 * i.val + b.val, by omega⟩ : S6x64x2304.Idx)
        = arg7.view.read (Elt F) (arg7.view.writes (Elt F) f L)
          (ix3 ⟨u % 6, by omega⟩ ⟨16 * (u / 6) + a.val, by omega⟩ ⟨256 * i.val + b.val, by omega⟩ : S6x64x2304.Idx) := by
      intro o ho L V
      by_cases h6 : u % 6 = t.val % 6
      · refine View.read_writes_cons_unit_of_not_mem arg7.view f ho V L _ rfl 1 ?_
        have : u / 6 ≠ t.val / 6 := by omega
        simp; omega
      · refine View.read_writes_cons_unit_of_not_mem arg7.view f ho V L _ rfl 0 ?_
        simp; omega
    rw [miss 2048 h8, miss 1792 h7, miss 1536 h6, miss 1280 h5, miss 1024 h4, miss 768 h3, miss 512 h2, miss 256 h1, miss 0 h0]
    rfl
end Stores

end Cert.Kernel.Hand
-- ==== Proof.Bits.Unit.lean ====
module

public import proofs.«01_k».proof.Proof.Bits.KLoop
public import proofs.«01_k».proof.Proof.Bits.Out

@[expose] public section

set_option maxRecDepth 16384
set_option maxHeartbeats 4000000

/-! One unit: its copies waited for, the next unit's started, its chunks scored and stored. -/

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- The word of the lengths at offset `o`. -/
abbrev wordAt (arg0 : Memref sig .tc .smem S6 .i32) (X0 : BufTy.Contents (Elt F) arg0.view.ty) (o : Fin 1 → ℕ) (h : ∀ a, o a + S1.size a ≤ S6.size a) : Elt F .i32 :=
  View.readAt (Elt F) arg0.view (Rect.unit (s := S6) o S1.size h).toLoadRect X0 (Shape.Idx.first (numel1_S1.symm ▸ Nat.one_pos))

theorem wordAt_fits (arg0 : Memref sig .tc .smem S6 .i32) (X0 : BufTy.Contents (Elt F) arg0.view.ty) (hX : ∀ x, Fits (arg0.view.read (Elt F) X0 x))
    (o : Fin 1 → ℕ) (h : ∀ a, o a + S1.size a ≤ S6.size a) : Fits (wordAt arg0 X0 o h) := hX _

/-- The length of the row of batch that unit `t` scores, as the unit reads it. -/
abbrev word12 (arg0 : Memref sig .tc .smem S6 .i32) (X0 : BufTy.Contents (Elt F) arg0.view.ty) (t : Fin k0_t3_loop.trips) : Elt F .i32 :=
  wordAt arg0 X0 (k0_off12 t) (k0_off12_inb t)
theorem word12_fits (arg0 : Memref sig .tc .smem S6 .i32) (X0 : BufTy.Contents (Elt F) arg0.view.ty) (hX : ∀ x, Fits (arg0.view.read (Elt F) X0 x))
    (t : Fin k0_t3_loop.trips) : Fits (word12 arg0 X0 t) := hX _

theorem inW (u : ℕ) : ∀ a, (![u % 6] : Fin 1 → ℕ) a + S1.size a ≤ S6.size a := by
  intro a; have := Nat.mod_lt u (show 0 < 6 by omega); fin_cases a; simp; omega
/-- The length of the row of batch of unit `u`. -/
def lenw (arg0 : Memref sig .tc .smem S6 .i32) (X0 : BufTy.Contents (Elt F) arg0.view.ty) (u : ℕ) : Elt F .i32 := wordAt arg0 X0 ![u % 6] (inW u)

theorem wordAt_eq (arg0 : Memref sig .tc .smem S6 .i32) (X0 : BufTy.Contents (Elt F) arg0.view.ty) (o o' : Fin 1 → ℕ) (h h') (e : o = o') :
    wordAt arg0 X0 o h = wordAt arg0 X0 o' h' := by subst e; rfl
theorem word12_eq (arg0 : Memref sig .tc .smem S6 .i32) (X0 : BufTy.Contents (Elt F) arg0.view.ty) (t : Fin k0_t3_loop.trips) :
    word12 arg0 X0 t = lenw arg0 X0 t := wordAt_eq arg0 X0 _ _ _ _ (k0_off12_eq t)
theorem word13_eq (arg0 : Memref sig .tc .smem S6 .i32) (X0 : BufTy.Contents (Elt F) arg0.view.ty) (t : Fin k0_t3_loop.trips) (h1 : k0_cond1 t = 1#1) :
    wordAt arg0 X0 (k0_off13 t) (k0_off13_inb t h1) = lenw arg0 X0 (t.val + 1) := wordAt_eq arg0 X0 _ _ _ _ (k0_off13_eq t)

/-- The query's rows with all but those of head group `g` zero. -/
def qmask (v108 : IVec S16x128 32) (q : Vec F S1x16x128 .f32) (g : BitVec 32) : FVec F S16x128 .bf16 :=
  shapeCast S16x128 (truncf .bf16 (select (cmpi .eq v108 (broadcast S16x128 g)) (shapeCast S16x128 q shapeCasts_S1x16x128_S16x128)
    (broadcast S16x128 (Scalar.ofBits .f32 0x00000000#32 : F .f32))) bitsLt_bf16_f32) shapeCasts_S16x128_S16x128

/-- The block-diagonal query unit `t` builds. -/
def qbuf (arg3 : Memref sig .tc .vmem S6x64x128 .f32) (arg15 : Memref sig .tc .vmem S16x2048 .bf16) (X3 : BufTy.Contents (Elt F) arg3.view.ty)
    (v108 : IVec S16x128 32) (t : Fin k0_t3_loop.trips) : BufTy.Contents (Elt F) arg15.view.ty :=
  let q : Vec F S1x16x128 .f32 := View.readAt (Elt F) arg3.view (Rect.unit (s := S6x64x128) (k0_off24 t) S1x16x128.size (k0_off24_inb t)).toLoadRect X3
  arg15.view.writes (Elt F) arg15.view.junk
    [⟨Rect.unit (s := S16x2048) ![0, 1920] S16x128.size inb_S16x2048_S16x128_0_1920, qmask v108 q 15#32⟩,
     ⟨Rect.unit (s := S16x2048) ![0, 1792] S16x128.size inb_S16x2048_S16x128_0_1792, qmask v108 q 14#32⟩,
     ⟨Rect.unit (s := S16x2048) ![0, 1664] S16x128.size inb_S16x2048_S16x128_0_1664, qmask v108 q 13#32⟩,
     ⟨Rect.unit (s := S16x2048) ![0, 1536] S16x128.size inb_S16x2048_S16x128_0_1536, qmask v108 q 12#32⟩,
     ⟨Rect.unit (s := S16x2048) ![0, 1408] S16x128.size inb_S16x2048_S16x128_0_1408, qmask v108 q 11#32⟩,
     ⟨Rect.unit (s := S16x2048) ![0, 1280] S16x128.size inb_S16x2048_S16x128_0_1280, qmask v108 q 10#32⟩,
     ⟨Rect.unit (s := S16x2048) ![0, 1152] S16x128.size inb_S16x2048_S16x128_0_1152, qmask v108 q 9#32⟩,
     ⟨Rect.unit (s := S16x2048) ![0, 1024] S16x128.size inb_S16x2048_S16x128_0_1024, qmask v108 q 8#32⟩,
     ⟨Rect.unit (s := S16x2048) ![0, 896] S16x128.size inb_S16x2048_S16x128_0_896, qmask v108 q 7#32⟩,
     ⟨Rect.unit (s := S16x2048) ![0, 768] S16x128.size inb_S16x2048_S16x128_0_768, qmask v108 q 6#32⟩,
     ⟨Rect.unit (s := S16x2048) ![0, 640] S16x128.size inb_S16x2048_S16x128_0_640, qmask v108 q 5#32⟩,
     ⟨Rect.unit (s := S16x2048) ![0, 512] S16x128.size inb_S16x2048_S16x128_0_512, qmask v108 q 4#32⟩,
     ⟨Rect.unit (s := S16x2048) ![0, 384] S16x128.size inb_S16x2048_S16x128_0_384, qmask v108 q 3#32⟩,
     ⟨Rect.unit (s := S16x2048) ![0, 256] S16x128.size inb_S16x2048_S16x128_0_256, qmask v108 q 2#32⟩,
     ⟨Rect.unit (s := S16x2048) ![0, 128] S16x128.size inb_S16x2048_S16x128_0_128, qmask v108 q 1#32⟩,
     ⟨Rect.unit (s := S16x2048) ![0, 0] S16x128.size inb_S16x2048_S16x128_0_0, qmask v108 q 0#32⟩]

section Unit
variable (c : Dev nD) (bd : Option Variants.none.V) (arg0 : Memref sig .tc .smem S6 .i32) (harg0 : arg0.IsWhole) (arg1 : Memref sig .tc .hbm S6x2304x4x128 .i32) (harg1 : arg1.IsWhole) (arg2 : Memref sig .tc .hbm S6x16x8x2304 .f32) (harg2 : arg2.IsWhole) (arg3 : Memref sig .tc .vmem S6x64x128 .f32) (harg3 : arg3.IsWhole) (arg4 : Memref sig .tc .vmem S16x256x512 .bf16) (harg4 : arg4.IsWhole) (arg5 : Memref sig .tc .vmem S54x64x256 .f32) (harg5 : arg5.IsWhole) (arg6 : Memref sig .tc .vmem S54x64x256 .f32) (harg6 : arg6.IsWhole) (arg7 : Memref sig .tc .vmem S6x64x2304 .f32) (harg7 : arg7.IsWhole) (arg8 : Memref sig .tc .vmem S2x9x256x128 .i32) (harg8 : arg8.IsWhole) (arg9 : Memref sig .tc .vmem S2x9x4x8x256 .f32) (harg9 : arg9.IsWhole) (arg10 : Memref sig .tc .vmem S16x512x256 .bf16) (harg10 : arg10.IsWhole) (arg11 : Memref sig .tc .vmem S2x512x128 .i32) (harg11 : arg11.IsWhole) (arg12 : Memref sig .tc .vmem S4x8x256 .f32) (harg12 : arg12.IsWhole) (arg13 : Memref sig .tc .vmem S2048x256 .bf16) (harg13 : arg13.IsWhole) (arg14 : Memref sig .tc .vmem S9x16x256 .f32) (harg14 : arg14.IsWhole) (arg15 : Memref sig .tc .vmem S16x2048 .bf16) (harg15 : arg15.IsWhole) (arg16 : DmaSems sig S2)
  (X0 : BufTy.Contents (Elt F) arg0.view.ty) (hX : ∀ x, Fits (arg0.view.read (Elt F) X0 x))
  (X1 : BufTy.Contents (Elt F) arg1.view.ty) (X2 : BufTy.Contents (Elt F) arg2.view.ty) (X3 : BufTy.Contents (Elt F) arg3.view.ty)
  (X5 : BufTy.Contents (Elt F) arg5.view.ty) (X6 : BufTy.Contents (Elt F) arg6.view.ty)
  (X10 : BufTy.Contents (Elt F) arg10.view.ty) (v108 : IVec S16x128 32)

/-- What unit `t` stores for chunk `i`. -/
def UOut (t : Fin k0_t3_loop.trips) (i : ℕ) : S1x16x256.Idx → Elt F .f32 :=
  mrow (word12 arg0 X0 t) i (Row c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 X1 X2 t (Scf.iv 0#32 1#32 t) (Scalar.divsi (Scf.iv 0#32 1#32 t) 6#32) (Scalar.remsi (Scf.iv 0#32 1#32 t) 6#32) (Scalar.remsi (Scf.iv 0#32 1#32 t) 2#32) (word12 arg0 X0 t) (chk4_of t _ (word12_fits arg0 X0 hX t)) (word12_fits arg0 X0 hX t) (Scalar.divsi (Scalar.addi (word12 arg0 X0 t) 255#32) 256#32) (word12 arg0 X0 t) X5 X6 X10 (qbuf arg3 arg15 X3 v108 t) i)

/-- The two slots before unit `k`. -/
def Slots (k : ℕ) : sProp 𝕄 :=
  if k < 24 then iprop(Busy c arg1 arg2 arg8 arg9 arg16 X1 X2 k (nch (lenw arg0 X0 k)) ∗ Free c arg1 arg2 arg8 arg9 arg16 X1 X2 (k + 1))
  else iprop(Free c arg1 arg2 arg8 arg9 arg16 X1 X2 k ∗ Free c arg1 arg2 arg8 arg9 arg16 X1 X2 (k + 1))

/-- What holds before unit `k`. -/
def UInv (k : ℕ) : sProp 𝕄 :=
  iprop((arg0.view.loc (c : Thread nD τ) ↦[arg0.view.set]{fullShare} X0) ∗ (arg3.view.loc (c : Thread nD τ) ↦[arg3.view.set]{fullShare} X3) ∗ (arg5.view.loc (c : Thread nD τ) ↦[arg5.view.set]{fullShare} X5) ∗ (arg6.view.loc (c : Thread nD τ) ↦[arg6.view.set]{fullShare} X6) ∗ (arg10.view.loc (c : Thread nD τ) ↦[arg10.view.set]{fullShare} X10)
    ∗ (∃ f, arg11.view.loc (c : Thread nD τ) ↦[arg11.view.set]{fullShare} f) ∗ (∃ f, arg12.view.loc (c : Thread nD τ) ↦[arg12.view.set]{fullShare} f) ∗ (∃ f, arg13.view.loc (c : Thread nD τ) ↦[arg13.view.set]{fullShare} f) ∗ (∃ f, arg14.view.loc (c : Thread nD τ) ↦[arg14.view.set]{fullShare} f) ∗ (∃ f, arg15.view.loc (c : Thread nD τ) ↦[arg15.view.set]{fullShare} f)
    ∗ (∃ W, owes (c : Thread nD τ) 0 W)
    ∗ (∃ f7, ⌜OutOK arg7 (UOut c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 X0 hX X1 X2 X3 X5 X6 X10 v108) k f7⌝ ∗ (arg7.view.loc (c : Thread nD τ) ↦[arg7.view.set]{fullShare} f7))
    ∗ Slots c arg0 arg1 arg2 arg8 arg9 arg16 X0 X1 X2 k)

theorem unit_trip_last (t : Fin k0_t3_loop.trips) (h1 : ¬ k0_cond1 t = 1#1) :
    UInv c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 X0 hX X1 X2 X3 X5 X6 X10 v108 t
      ⊢ wp Idealize.ShloMosaic.frame (wpE (defs₀ (F := F)) Variants.none (c : Thread nD τ) bd) Set.univ (k0_t3_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 v108 t ())
        (fun _ => UInv c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 X0 hX X1 X2 X3 X5 X6 X10 v108 (t + 1)) := by
    have f4 := word12_fits arg0 X0 hX t
    have c4 := chk4_of t _ f4
    have c3 := chk3_of t _ f4
    have hn := nch_le _ f4
    have ht : ¬ t.val + 1 < 24 := fun h => h1 ((cond1_iff t).mpr h)
    have e12 := word12_eq arg0 X0 t
    unfold UInv Slots
    rw [if_pos (t_lt t), if_neg ht, ← e12]
    unfold k0_t3_body Busy
    iintro ⟨H0, H3, H5, H6, H10, ⟨%f11, H11⟩, ⟨%f12, H12⟩, ⟨%f13, H13⟩, ⟨%f14, H14⟩, ⟨%f15, H15⟩, ⟨%W, HO⟩, ⟨%f7, %hf7, H7⟩, ⟨HB, HR⟩, HF⟩
    ihave HW := (StartInv_wait c arg1 arg2 arg8 arg9 arg16 X1 X2 (shr t) t (nch (word12 arg0 X0 t)) W) $$ [HB HO]
    · isplitl [HB]; · iexact HB
      iexact HO
    icases HW with ⟨HBs, HW⟩
    sl_exec

    sl_for (fun k _ => WaitInv c arg1 arg2 arg8 arg9 arg16 X1 X2 (shr t) t (nch (word12 arg0 X0 t)) k) $$ [HW]
    · intro k acc
      exact wait_trip6 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 X1 X2 (shr t) t _ _ _ _ _ _ _ _ _ _ f4 k acc
    · iexact HW
    iintro %acc HI
    imod (WaitInv_collect c arg1 arg2 arg8 arg9 arg16 X1 X2 t (nch (word12 arg0 X0 t)) _ hn rfl) $$ [HI HBs HR] with ⟨HY, HO⟩
    · isplitl [HI]; · iexact HI
      isplitl [HBs]; · iexact HBs
      iexact HR
    unfold Ready
    icases HY with ⟨HG, HBs, HR, HS⟩
    sl_exec
    sl_for (fun k _ => KInv c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 X1 X2 t (Scf.iv 0#32 1#32 t) (Scalar.divsi (Scf.iv 0#32 1#32 t) 6#32) (Scalar.remsi (Scf.iv 0#32 1#32 t) 6#32) (Scalar.remsi (Scf.iv 0#32 1#32 t) 2#32) (word12 arg0 X0 t) (chk4_of t _ (word12_fits arg0 X0 hX t)) (word12_fits arg0 X0 hX t) (Scalar.divsi (Scalar.addi (word12 arg0 X0 t) 255#32) 256#32) (word12 arg0 X0 t) X5 X6 X10 (qbuf arg3 arg15 X3 v108 t) k) $$ [H5 H6 H10 H15 HG H11 H12 H13 H14]
    · intro k acc
      exact trip8 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 X1 X2 t _ _ _ _ _ _ f4 _ _ X5 X6 X10 (qbuf arg3 arg15 X3 v108 t) k acc
    · unfold KInv
      isplitl [H5]; · iexact H5
      isplitl [H6]; · iexact H6
      isplitl [H10]; · iexact H10
      isplitl [H15]; · iexact H15
      isplitl [HG]; · iexact HG
      isplitl [H11]; · iexists _; iexact H11
      isplitl [H12]; · iexists _; iexact H12
      isplitl [H13]; · iexists _; iexact H13
      iexists f14
      isplitr
      · ipureintro; intro i a b h; exact absurd h (Nat.not_lt_zero _)
      iexact H14
    iintro %acc HI
    unfold KInv
    icases HI with ⟨H5, H6, H10, H15, HG, ⟨%g11, H11⟩, ⟨%g12, H12⟩, ⟨%g13, H13⟩, ⟨%g14, %hs, H14⟩⟩
    sl_exec
    have hf7' := OutOK_step arg7 (UOut c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 X0 hX X1 X2 X3 X5 X6 X10 v108) t f7 hf7 _ _ _ _ _ _ _ _ _
      (k0_off51_inb t) (k0_off52_inb t) (k0_off53_inb t) (k0_off54_inb t) (k0_off55_inb t) (k0_off56_inb t) (k0_off57_inb t) (k0_off58_inb t) (k0_off59_inb t)
      (k0_off51_eq t) (k0_off52_eq t) (k0_off53_eq t) (k0_off54_eq t) (k0_off55_eq t) (k0_off56_eq t) (k0_off57_eq t) (k0_off58_eq t) (k0_off59_eq t)
      (fun i => mrow (F := F) (word12 arg0 X0 t) i.val (View.readAt (Elt F) arg14.view (Rect.unit (s := S9x16x256) ![i.val, 0, 0] S1x16x256.size (in14 i)).toLoadRect g14))
      (fun i a b => congrFun (stored_eq arg14 g14 (word12 arg0 X0 t) f4 _ _ rfl hs i) _)
    ihave HF' := (Ready_free c arg1 arg2 arg8 arg9 arg16 X1 X2 t (nch (word12 arg0 X0 t)) hn) $$ [HG HBs HR HS]
    · unfold Ready
      isplitl [HG]; · iexact HG
      isplitl [HBs]; · iexact HBs
      isplitl [HR]; · iexact HR
      iexact HS
    ihave HF' := (Entails.of_eq (Free_congr c arg1 arg2 arg8 arg9 arg16 X1 X2 t (t + 1 + 1) (by omega))) $$ HF'
    sl_step
    isplitl [H0]; · iexact H0
    isplitl [H3]; · iexact H3
    isplitl [H5]; · iexact H5
    isplitl [H6]; · iexact H6
    isplitl [H10]; · iexact H10
    isplitl [H11]; · iexists _; iexact H11
    isplitl [H12]; · iexists _; iexact H12
    isplitl [H13]; · iexists _; iexact H13
    isplitl [H14]; · iexists _; iexact H14
    isplitl [H15]; · iexists _; iexact H15
    isplitl [HO]; · iexact HO
    isplitl [H7]
    · iexists _
      isplitr; · ipureintro; exact hf7'
      iexact H7
    isplitl [HF]; · iexact HF
    iexact HF'

theorem unit_trip_next (t : Fin k0_t3_loop.trips) (h1 : k0_cond1 t = 1#1) :
    UInv c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 X0 hX X1 X2 X3 X5 X6 X10 v108 t
      ⊢ wp Idealize.ShloMosaic.frame (wpE (defs₀ (F := F)) Variants.none (c : Thread nD τ) bd) Set.univ (k0_t3_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 v108 t ())
        (fun _ => UInv c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 X0 hX X1 X2 X3 X5 X6 X10 v108 (t + 1)) := by
    have f4 := word12_fits arg0 X0 hX t
    have c4 := chk4_of t _ f4
    have c3 := chk3_of t _ f4
    have hn := nch_le _ f4
    have ht : t.val + 1 < 24 := (cond1_iff t).mp h1
    have f2 := wordAt_fits arg0 X0 hX (k0_off13 t) (k0_off13_inb t h1)
    have c2 := chk2_of t _ f2
    have e13 := word13_eq arg0 X0 t h1
    have e12 := word12_eq arg0 X0 t
    unfold UInv Slots
    rw [if_pos (t_lt t), if_pos ht, ← e12, ← e13]
    unfold k0_t3_body Busy
    iintro ⟨H0, H3, H5, H6, H10, ⟨%f11, H11⟩, ⟨%f12, H12⟩, ⟨%f13, H13⟩, ⟨%f14, H14⟩, ⟨%f15, H15⟩, ⟨%W, HO⟩, ⟨%f7, %hf7, H7⟩, ⟨HB, HR⟩, HF⟩
    ihave HW := (StartInv_wait c arg1 arg2 arg8 arg9 arg16 X1 X2 (shr t) t (nch (word12 arg0 X0 t)) W) $$ [HB HO]
    · isplitl [HB]; · iexact HB
      iexact HO
    icases HW with ⟨HBs, HW⟩
    imod (Free_start c arg1 arg2 arg8 arg9 arg16 X1 X2 (t + 1) (nch (wordAt arg0 X0 (k0_off13 t) (k0_off13_inb t h1)))) $$ HF with ⟨HN, HNR⟩
    sl_exec
    sl_for (fun k _ => StartInv c arg1 arg2 arg8 arg9 arg16 X1 X2 (shr (t + 1)) (t + 1) (nch (wordAt arg0 X0 (k0_off13 t) (k0_off13_inb t h1))) k) $$ [HN]
    · intro k acc
      exact start_trip4 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 X1 X2 (shr (t + 1)) v108 _ _ t h1 _ _ f2 k acc
    · iexact HN
    iintro %acc HN
    sl_exec

    sl_for (fun k _ => WaitInv c arg1 arg2 arg8 arg9 arg16 X1 X2 (shr t) t (nch (word12 arg0 X0 t)) k) $$ [HW]
    · intro k acc
      exact wait_trip6 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 X1 X2 (shr t) t _ _ _ _ _ _ _ _ _ _ f4 k acc
    · iexact HW
    iintro %acc HI
    imod (WaitInv_collect c arg1 arg2 arg8 arg9 arg16 X1 X2 t (nch (word12 arg0 X0 t)) _ hn rfl) $$ [HI HBs HR] with ⟨HY, HO⟩
    · isplitl [HI]; · iexact HI
      isplitl [HBs]; · iexact HBs
      iexact HR
    unfold Ready
    icases HY with ⟨HG, HBs, HR, HS⟩
    sl_exec
    sl_for (fun k _ => KInv c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 X1 X2 t (Scf.iv 0#32 1#32 t) (Scalar.divsi (Scf.iv 0#32 1#32 t) 6#32) (Scalar.remsi (Scf.iv 0#32 1#32 t) 6#32) (Scalar.remsi (Scf.iv 0#32 1#32 t) 2#32) (word12 arg0 X0 t) (chk4_of t _ (word12_fits arg0 X0 hX t)) (word12_fits arg0 X0 hX t) (Scalar.divsi (Scalar.addi (word12 arg0 X0 t) 255#32) 256#32) (word12 arg0 X0 t) X5 X6 X10 (qbuf arg3 arg15 X3 v108 t) k) $$ [H5 H6 H10 H15 HG H11 H12 H13 H14]
    · intro k acc
      exact trip8 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 X1 X2 t _ _ _ _ _ _ f4 _ _ X5 X6 X10 (qbuf arg3 arg15 X3 v108 t) k acc
    · unfold KInv
      isplitl [H5]; · iexact H5
      isplitl [H6]; · iexact H6
      isplitl [H10]; · iexact H10
      isplitl [H15]; · iexact H15
      isplitl [HG]; · iexact HG
      isplitl [H11]; · iexists _; iexact H11
      isplitl [H12]; · iexists _; iexact H12
      isplitl [H13]; · iexists _; iexact H13
      iexists f14
      isplitr
      · ipureintro; intro i a b h; exact absurd h (Nat.not_lt_zero _)
      iexact H14
    iintro %acc HI
    unfold KInv
    icases HI with ⟨H5, H6, H10, H15, HG, ⟨%g11, H11⟩, ⟨%g12, H12⟩, ⟨%g13, H13⟩, ⟨%g14, %hs, H14⟩⟩
    sl_exec
    have hf7' := OutOK_step arg7 (UOut c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 X0 hX X1 X2 X3 X5 X6 X10 v108) t f7 hf7 _ _ _ _ _ _ _ _ _
      (k0_off51_inb t) (k0_off52_inb t) (k0_off53_inb t) (k0_off54_inb t) (k0_off55_inb t) (k0_off56_inb t) (k0_off57_inb t) (k0_off58_inb t) (k0_off59_inb t)
      (k0_off51_eq t) (k0_off52_eq t) (k0_off53_eq t) (k0_off54_eq t) (k0_off55_eq t) (k0_off56_eq t) (k0_off57_eq t) (k0_off58_eq t) (k0_off59_eq t)
      (fun i => mrow (F := F) (word12 arg0 X0 t) i.val (View.readAt (Elt F) arg14.view (Rect.unit (s := S9x16x256) ![i.val, 0, 0] S1x16x256.size (in14 i)).toLoadRect g14))
      (fun i a b => congrFun (stored_eq arg14 g14 (word12 arg0 X0 t) f4 _ _ rfl hs i) _)
    ihave HF' := (Ready_free c arg1 arg2 arg8 arg9 arg16 X1 X2 t (nch (word12 arg0 X0 t)) hn) $$ [HG HBs HR HS]
    · unfold Ready
      isplitl [HG]; · iexact HG
      isplitl [HBs]; · iexact HBs
      isplitl [HR]; · iexact HR
      iexact HS
    ihave HF' := (Entails.of_eq (Free_congr c arg1 arg2 arg8 arg9 arg16 X1 X2 t (t + 1 + 1) (by omega))) $$ HF'
    sl_step
    isplitl [H0]; · iexact H0
    isplitl [H3]; · iexact H3
    isplitl [H5]; · iexact H5
    isplitl [H6]; · iexact H6
    isplitl [H10]; · iexact H10
    isplitl [H11]; · iexists _; iexact H11
    isplitl [H12]; · iexists _; iexact H12
    isplitl [H13]; · iexists _; iexact H13
    isplitl [H14]; · iexists _; iexact H14
    isplitl [H15]; · iexists _; iexact H15
    isplitl [HO]; · iexact HO
    isplitl [H7]
    · iexists _
      isplitr; · ipureintro; exact hf7'
      iexact H7
    isplitl [HN HNR]
    · isplitl [HN]; · iexact HN
      iexact HNR
    iexact HF'

end Unit

end Cert.Kernel.Hand
-- ==== Proof.Bits.Body.lean ====
module

public import proofs.«01_k».proof.Proof.Bits.Unit
public import Idealize.ShloMosaic.Lib.SparseCore.Launch

@[expose] public section

set_option maxRecDepth 16384
set_option maxHeartbeats 4000000

/-! The kernel's body: the first unit's copies, the transposed weights, the units. -/

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

section Start
variable (c : Dev nD) (arg1 : Memref sig .tc .hbm S6x2304x4x128 .i32) (arg2 : Memref sig .tc .hbm S6x16x8x2304 .f32)
variable (arg8 : Memref sig .tc .vmem S2x9x256x128 .i32) (arg9 : Memref sig .tc .vmem S2x9x4x8x256 .f32) (arg16 : DmaSems sig S2)
variable (X1 : BufTy.Contents (Elt F) arg1.view.ty) (X2 : BufTy.Contents (Elt F) arg2.view.ty)

theorem Ops_share : Ops c arg1 arg2 X1 X2 fullShare ⊣⊢ iprop(Ops c arg1 arg2 X1 X2 fullShare.left ∗ Ops c arg1 arg2 X1 X2 fullShare.right) := by
  have e1 := pointsTo_share (Ix := Unit) (Name := ℕ) (U := Pipeline.UD sig nD τ) (Lvl := ℕ) (ℓ := arg1.view.loc (c : Thread nD τ)) (I := arg1.view.set) (f := X1) (PosShare.mem_left_op_right fullShare)
  have e2 := pointsTo_share (Ix := Unit) (Name := ℕ) (U := Pipeline.UD sig nD τ) (Lvl := ℕ) (ℓ := arg2.view.loc (c : Thread nD τ)) (I := arg2.view.set) (f := X2) (PosShare.mem_left_op_right fullShare)
  unfold Ops
  constructor
  · iintro ⟨H1, H2⟩
    ihave H1 := e1.1 $$ H1
    ihave H2 := e2.1 $$ H2
    icases H1 with ⟨H1, H1'⟩
    icases H2 with ⟨H2, H2'⟩
    isplitl [H1 H2]
    · isplitl [H1]; · iexact H1
      iexact H2
    · isplitl [H1']; · iexact H1'
      iexact H2'
  · iintro ⟨⟨H1, H2⟩, H1', H2'⟩
    isplitl [H1 H1']
    · iapply e1.2
      isplitl [H1]; · iexact H1
      iexact H1'
    · iapply e2.2
      isplitl [H2]; · iexact H2
      iexact H2'

theorem Dst_slots : bigSep Finset.univ (fun b : Fin 2 × Fin 9 => Dst (F := F) c arg8 arg9 b.1.val b.2.val)
    = iprop(bigSep Finset.univ (fun i : Fin 9 => Dst (F := F) c arg8 arg9 0 i.val) ∗ bigSep Finset.univ (fun i : Fin 9 => Dst (F := F) c arg8 arg9 1 i.val)) := by
  have e : (Finset.univ : Finset (Fin 2 × Fin 9)) = Finset.univ ×ˢ Finset.univ := rfl
  rw [e, SparseCore.bigSep_product, bigSep_fin_two]; rfl

/-- Both slots are free at the start. -/
theorem Free_init (f8 : BufTy.Contents (Elt F) arg8.view.ty) (f9 : BufTy.Contents (Elt F) arg9.view.ty) :
    iprop((arg8.view.loc (c : Thread nD τ) ↦[arg8.view.set]{fullShare} f8) ∗ (arg9.view.loc (c : Thread nD τ) ↦[arg9.view.set]{fullShare} f9) ∗ Ops c arg1 arg2 X1 X2 fullShare ∗ semVal ((c : Thread nD τ), SemLoc.dma (cellOf arg16 0)) 0 ∗ semVal ((c : Thread nD τ), SemLoc.dma (cellOf arg16 1)) 0)
      ⊢ (iprop(Free c arg1 arg2 arg8 arg9 arg16 X1 X2 0 ∗ Free c arg1 arg2 arg8 arg9 arg16 X1 X2 1) : sProp 𝕄) := by
  iintro ⟨H8, H9, HO, HS0, HS1⟩
  ihave HD := (Dst_split c arg8 arg9 f8 f9) $$ [H8 H9]
  · isplitl [H8]; · iexact H8
    iexact H9
  ihave HD := (Entails.of_eq (Dst_slots c arg8 arg9)) $$ HD
  icases HD with ⟨HD0, HD1⟩
  ihave HO := (Ops_share c arg1 arg2 X1 X2).1 $$ HO
  icases HO with ⟨HO0, HO1⟩
  unfold Free
  isplitl [HD0 HO0 HS0]
  · isplitl [HD0]; · iexact HD0
    isplitl [HO0]; · iexact HO0
    iexact HS0
  · isplitl [HD1]; · iexact HD1
    isplitl [HO1]; · iexact HO1
    iexact HS1

/-- And both are free at the end. -/
theorem Free_end (f8 : BufTy.Contents (Elt F) arg8.view.ty) (f9 : BufTy.Contents (Elt F) arg9.view.ty) (u v : ℕ) (hu : u % 2 = 0) (hv : v % 2 = 1) :
    iprop(Free c arg1 arg2 arg8 arg9 arg16 X1 X2 u ∗ Free c arg1 arg2 arg8 arg9 arg16 X1 X2 v)
      ⊢ (iprop((∃ f, arg8.view.loc (c : Thread nD τ) ↦[arg8.view.set]{fullShare} f) ∗ (∃ f, arg9.view.loc (c : Thread nD τ) ↦[arg9.view.set]{fullShare} f) ∗ Ops c arg1 arg2 X1 X2 fullShare ∗ semVal ((c : Thread nD τ), SemLoc.dma (cellOf arg16 0)) 0 ∗ semVal ((c : Thread nD τ), SemLoc.dma (cellOf arg16 1)) 0) : sProp 𝕄) := by
  rw [Free_congr c arg1 arg2 arg8 arg9 arg16 X1 X2 u 0 hu, Free_congr c arg1 arg2 arg8 arg9 arg16 X1 X2 v 1 hv]
  unfold Free
  iintro ⟨⟨HD0, HO0, HS0⟩, HD1, HO1, HS1⟩
  ihave HD := (Entails.of_eq (Dst_slots (F := F) c arg8 arg9).symm) $$ [HD0 HD1]
  · isplitl [HD0]; · iexact HD0
    iexact HD1
  ihave HD := (Dst_join c arg8 arg9 f8 f9) $$ HD
  icases HD with ⟨H8, H9⟩
  isplitl [H8]; · iexact H8
  isplitl [H9]; · iexact H9
  isplitl [HO0 HO1]
  · iapply (Ops_share c arg1 arg2 X1 X2).2
    isplitl [HO0]; · iexact HO0
    iexact HO1
  isplitl [HS0]; · iexact HS0
  iexact HS1
end Start

/-- A head's weights transposed. -/
def wT (w : Vec F S1x256x512 .bf16) : FVec F S1x512x256 .bf16 :=
  shapeCast S1x512x256 (transpose S512x256 [1, 0] (shapeCast S256x512 w shapeCasts_S1x256x512_S256x512) transposes_S256x512_p1_0_S512x256) shapeCasts_S512x256_S1x512x256

/-- The transposed weights as the body leaves them. -/
def wbuf (arg4 : Memref sig .tc .vmem S16x256x512 .bf16) (arg10 : Memref sig .tc .vmem S16x512x256 .bf16) (X4 : BufTy.Contents (Elt F) arg4.view.ty) :
    BufTy.Contents (Elt F) arg10.view.ty :=
  arg10.view.writes (Elt F) arg10.view.junk
    [⟨Rect.unit (s := S16x512x256) ![15, 0, 0] S1x512x256.size inb_S16x512x256_S1x512x256_15_0_0, wT (View.readAt (Elt F) arg4.view (Rect.unit (s := S16x256x512) ![15, 0, 0] S1x256x512.size inb_S16x256x512_S1x256x512_15_0_0).toLoadRect X4)⟩,
     ⟨Rect.unit (s := S16x512x256) ![14, 0, 0] S1x512x256.size inb_S16x512x256_S1x512x256_14_0_0, wT (View.readAt (Elt F) arg4.view (Rect.unit (s := S16x256x512) ![14, 0, 0] S1x256x512.size inb_S16x256x512_S1x256x512_14_0_0).toLoadRect X4)⟩,
     ⟨Rect.unit (s := S16x512x256) ![13, 0, 0] S1x512x256.size inb_S16x512x256_S1x512x256_13_0_0, wT (View.readAt (Elt F) arg4.view (Rect.unit (s := S16x256x512) ![13, 0, 0] S1x256x512.size inb_S16x256x512_S1x256x512_13_0_0).toLoadRect X4)⟩,
     ⟨Rect.unit (s := S16x512x256) ![12, 0, 0] S1x512x256.size inb_S16x512x256_S1x512x256_12_0_0, wT (View.readAt (Elt F) arg4.view (Rect.unit (s := S16x256x512) ![12, 0, 0] S1x256x512.size inb_S16x256x512_S1x256x512_12_0_0).toLoadRect X4)⟩,
     ⟨Rect.unit (s := S16x512x256) ![11, 0, 0] S1x512x256.size inb_S16x512x256_S1x512x256_11_0_0, wT (View.readAt (Elt F) arg4.view (Rect.unit (s := S16x256x512) ![11, 0, 0] S1x256x512.size inb_S16x256x512_S1x256x512_11_0_0).toLoadRect X4)⟩,
     ⟨Rect.unit (s := S16x512x256) ![10, 0, 0] S1x512x256.size inb_S16x512x256_S1x512x256_10_0_0, wT (View.readAt (Elt F) arg4.view (Rect.unit (s := S16x256x512) ![10, 0, 0] S1x256x512.size inb_S16x256x512_S1x256x512_10_0_0).toLoadRect X4)⟩,
     ⟨Rect.unit (s := S16x512x256) ![9, 0, 0] S1x512x256.size inb_S16x512x256_S1x512x256_9_0_0, wT (View.readAt (Elt F) arg4.view (Rect.unit (s := S16x256x512) ![9, 0, 0] S1x256x512.size inb_S16x256x512_S1x256x512_9_0_0).toLoadRect X4)⟩,
     ⟨Rect.unit (s := S16x512x256) ![8, 0, 0] S1x512x256.size inb_S16x512x256_S1x512x256_8_0_0, wT (View.readAt (Elt F) arg4.view (Rect.unit (s := S16x256x512) ![8, 0, 0] S1x256x512.size inb_S16x256x512_S1x256x512_8_0_0).toLoadRect X4)⟩,
     ⟨Rect.unit (s := S16x512x256) ![7, 0, 0] S1x512x256.size inb_S16x512x256_S1x512x256_7_0_0, wT (View.readAt (Elt F) arg4.view (Rect.unit (s := S16x256x512) ![7, 0, 0] S1x256x512.size inb_S16x256x512_S1x256x512_7_0_0).toLoadRect X4)⟩,
     ⟨Rect.unit (s := S16x512x256) ![6, 0, 0] S1x512x256.size inb_S16x512x256_S1x512x256_6_0_0, wT (View.readAt (Elt F) arg4.view (Rect.unit (s := S16x256x512) ![6, 0, 0] S1x256x512.size inb_S16x256x512_S1x256x512_6_0_0).toLoadRect X4)⟩,
     ⟨Rect.unit (s := S16x512x256) ![5, 0, 0] S1x512x256.size inb_S16x512x256_S1x512x256_5_0_0, wT (View.readAt (Elt F) arg4.view (Rect.unit (s := S16x256x512) ![5, 0, 0] S1x256x512.size inb_S16x256x512_S1x256x512_5_0_0).toLoadRect X4)⟩,
     ⟨Rect.unit (s := S16x512x256) ![4, 0, 0] S1x512x256.size inb_S16x512x256_S1x512x256_4_0_0, wT (View.readAt (Elt F) arg4.view (Rect.unit (s := S16x256x512) ![4, 0, 0] S1x256x512.size inb_S16x256x512_S1x256x512_4_0_0).toLoadRect X4)⟩,
     ⟨Rect.unit (s := S16x512x256) ![3, 0, 0] S1x512x256.size inb_S16x512x256_S1x512x256_3_0_0, wT (View.readAt (Elt F) arg4.view (Rect.unit (s := S16x256x512) ![3, 0, 0] S1x256x512.size inb_S16x256x512_S1x256x512_3_0_0).toLoadRect X4)⟩,
     ⟨Rect.unit (s := S16x512x256) ![2, 0, 0] S1x512x256.size inb_S16x512x256_S1x512x256_2_0_0, wT (View.readAt (Elt F) arg4.view (Rect.unit (s := S16x256x512) ![2, 0, 0] S1x256x512.size inb_S16x256x512_S1x256x512_2_0_0).toLoadRect X4)⟩,
     ⟨Rect.unit (s := S16x512x256) ![1, 0, 0] S1x512x256.size inb_S16x512x256_S1x512x256_1_0_0, wT (View.readAt (Elt F) arg4.view (Rect.unit (s := S16x256x512) ![1, 0, 0] S1x256x512.size inb_S16x256x512_S1x256x512_1_0_0).toLoadRect X4)⟩,
     ⟨Rect.unit (s := S16x512x256) ![0, 0, 0] S1x512x256.size inb_S16x512x256_S1x512x256_0_0_0, wT (View.readAt (Elt F) arg4.view (Rect.unit (s := S16x256x512) ![0, 0, 0] S1x256x512.size inb_S16x256x512_S1x256x512_0_0_0).toLoadRect X4)⟩]

section Body
variable (c : Dev nD) (bd : Option Variants.none.V) (arg0 : Memref sig .tc .smem S6 .i32) (harg0 : arg0.IsWhole) (arg1 : Memref sig .tc .hbm S6x2304x4x128 .i32) (harg1 : arg1.IsWhole) (arg2 : Memref sig .tc .hbm S6x16x8x2304 .f32) (harg2 : arg2.IsWhole) (arg3 : Memref sig .tc .vmem S6x64x128 .f32) (harg3 : arg3.IsWhole) (arg4 : Memref sig .tc .vmem S16x256x512 .bf16) (harg4 : arg4.IsWhole) (arg5 : Memref sig .tc .vmem S54x64x256 .f32) (harg5 : arg5.IsWhole) (arg6 : Memref sig .tc .vmem S54x64x256 .f32) (harg6 : arg6.IsWhole) (arg7 : Memref sig .tc .vmem S6x64x2304 .f32) (harg7 : arg7.IsWhole) (arg8 : Memref sig .tc .vmem S2x9x256x128 .i32) (harg8 : arg8.IsWhole) (arg9 : Memref sig .tc .vmem S2x9x4x8x256 .f32) (harg9 : arg9.IsWhole) (arg10 : Memref sig .tc .vmem S16x512x256 .bf16) (harg10 : arg10.IsWhole) (arg11 : Memref sig .tc .vmem S2x512x128 .i32) (harg11 : arg11.IsWhole) (arg12 : Memref sig .tc .vmem S4x8x256 .f32) (harg12 : arg12.IsWhole) (arg13 : Memref sig .tc .vmem S2048x256 .bf16) (harg13 : arg13.IsWhole) (arg14 : Memref sig .tc .vmem S9x16x256 .f32) (harg14 : arg14.IsWhole) (arg15 : Memref sig .tc .vmem S16x2048 .bf16) (harg15 : arg15.IsWhole) (arg16 : DmaSems sig S2)
  (X0 : BufTy.Contents (Elt F) arg0.view.ty) (hX : ∀ x, Fits (arg0.view.read (Elt F) X0 x))
  (X1 : BufTy.Contents (Elt F) arg1.view.ty) (X2 : BufTy.Contents (Elt F) arg2.view.ty) (X3 : BufTy.Contents (Elt F) arg3.view.ty)
  (X4 : BufTy.Contents (Elt F) arg4.view.ty) (X5 : BufTy.Contents (Elt F) arg5.view.ty) (X6 : BufTy.Contents (Elt F) arg6.view.ty)

theorem unit_trip (X10 : BufTy.Contents (Elt F) arg10.view.ty) (v108 : IVec S16x128 32) (t : Fin k0_t3_loop.trips) (acc : Unit) :
    UInv c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 X0 hX X1 X2 X3 X5 X6 X10 v108 t
      ⊢ wp Idealize.ShloMosaic.frame (wpE (defs₀ (F := F)) Variants.none (c : Thread nD τ) bd) Set.univ (k0_t3_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 v108 t acc)
        (fun _ => UInv c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 X0 hX X1 X2 X3 X5 X6 X10 v108 (t + 1)) := by
  by_cases h1 : k0_cond1 t = 1#1
  · exact unit_trip_next c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 X0 hX X1 X2 X3 X5 X6 X10 v108 t h1
  · exact unit_trip_last c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 X0 hX X1 X2 X3 X5 X6 X10 v108 t h1

/-- The body run: the output holds every unit's rows, and all else is given back. -/
theorem body_run (f7 : BufTy.Contents (Elt F) arg7.view.ty) (f8 : BufTy.Contents (Elt F) arg8.view.ty) (f9 : BufTy.Contents (Elt F) arg9.view.ty)
    (f10 : BufTy.Contents (Elt F) arg10.view.ty) (f11 : BufTy.Contents (Elt F) arg11.view.ty) (f12 : BufTy.Contents (Elt F) arg12.view.ty)
    (f13 : BufTy.Contents (Elt F) arg13.view.ty) (f14 : BufTy.Contents (Elt F) arg14.view.ty) (f15 : BufTy.Contents (Elt F) arg15.view.ty) (W : Waits sig Unit) :
    (iprop((arg0.view.loc (c : Thread nD τ) ↦[arg0.view.set]{fullShare} X0) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ Ops c arg1 arg2 X1 X2 fullShare
      ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15) ∗ semVal ((c : Thread nD τ), SemLoc.dma (cellOf arg16 0)) 0 ∗ semVal ((c : Thread nD τ), SemLoc.dma (cellOf arg16 1)) 0 ∗ owes (c : Thread nD τ) 0 W) : sProp 𝕄)
      ⊢ wp Idealize.ShloMosaic.frame (wpE (defs₀ (F := F)) Variants.none (c : Thread nD τ) bd) Set.univ (cc0_palu_decode (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16)
        (fun _ => iprop((arg0.view.loc (c : Thread nD τ) ↦[arg0.view.set]{fullShare} X0) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ Ops c arg1 arg2 X1 X2 fullShare
          ∗ (∃ g7, ⌜OutOK arg7 (UOut c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 X0 hX X1 X2 X3 X5 X6 (wbuf arg4 arg10 X4) (iota .tc S16x128 32 [0] iota_S16x128_d0_w32)) 24 g7⌝ ∗ (arg7.view.loc (c : Thread nD τ) ↦[arg7.view.set]{fullShare} g7))
          ∗ (∃ f, arg8.view.loc (c : Thread nD τ) ↦[arg8.view.set]{fullShare} f) ∗ (∃ f, arg9.view.loc (c : Thread nD τ) ↦[arg9.view.set]{fullShare} f) ∗ (∃ f, arg10.view.loc (c : Thread nD τ) ↦[arg10.view.set]{fullShare} f) ∗ (∃ f, arg11.view.loc (c : Thread nD τ) ↦[arg11.view.set]{fullShare} f) ∗ (∃ f, arg12.view.loc (c : Thread nD τ) ↦[arg12.view.set]{fullShare} f) ∗ (∃ f, arg13.view.loc (c : Thread nD τ) ↦[arg13.view.set]{fullShare} f) ∗ (∃ f, arg14.view.loc (c : Thread nD τ) ↦[arg14.view.set]{fullShare} f) ∗ (∃ f, arg15.view.loc (c : Thread nD τ) ↦[arg15.view.set]{fullShare} f) ∗ semVal ((c : Thread nD τ), SemLoc.dma (cellOf arg16 0)) 0 ∗ semVal ((c : Thread nD τ), SemLoc.dma (cellOf arg16 1)) 0 ∗ (∃ W, owes (c : Thread nD τ) 0 W))) := by
  have f2 := wordAt_fits arg0 X0 hX k0_off1 k0_off1_inb
  have c1 := chk1_of _ f2
  have e1 : wordAt arg0 X0 k0_off1 k0_off1_inb = lenw arg0 X0 0 := wordAt_eq arg0 X0 _ _ _ _ k0_off1_eq
  rw [cc0_palu_decode_eq_skeleton]
  unfold cc0_palu_decode_skel
  iintro ⟨H0, H3, H4, H5, H6, HOps, H7, H8, H9, H10, H11, H12, H13, H14, H15, HS0, HS1, HO⟩
  ihave HF := (Free_init c arg1 arg2 arg8 arg9 arg16 X1 X2 f8 f9) $$ [H8 H9 HOps HS0 HS1]
  · isplitl [H8]; · iexact H8
    isplitl [H9]; · iexact H9
    isplitl [HOps]; · iexact HOps
    isplitl [HS0]; · iexact HS0
    iexact HS1
  icases HF with ⟨HF0, HF1⟩
  imod (Free_start c arg1 arg2 arg8 arg9 arg16 X1 X2 0 (nch (wordAt arg0 X0 k0_off1 k0_off1_inb))) $$ HF0 with ⟨HN, HNR⟩
  sl_exec
  sl_for (fun k _ => StartInv c arg1 arg2 arg8 arg9 arg16 X1 X2 (shr 0) 0 (nch (wordAt arg0 X0 k0_off1 k0_off1_inb)) k) $$ [HN]
  · intro k acc
    exact start_trip1 c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 X1 X2 (shr 0) _ c1 f2 k acc
  · iexact HN
  iintro %acc HN
  sl_exec
  sl_for (fun k _ => UInv c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 X0 hX X1 X2 X3 X5 X6 (wbuf arg4 arg10 X4) (iota .tc S16x128 32 [0] iota_S16x128_d0_w32) k) $$ [H0 H3 H5 H6 H10 H11 H12 H13 H14 H15 HO H7 HN HNR HF1]
  · intro k acc
    exact unit_trip c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 X0 hX X1 X2 X3 X5 X6 (wbuf arg4 arg10 X4) (iota .tc S16x128 32 [0] iota_S16x128_d0_w32) k acc
  · unfold UInv Slots
    rw [if_pos (by omega), ← e1]
    isplitl [H0]; · iexact H0
    isplitl [H3]; · iexact H3
    isplitl [H5]; · iexact H5
    isplitl [H6]; · iexact H6
    isplitl [H10]; · iexact H10
    isplitl [H11]; · iexists _; iexact H11
    isplitl [H12]; · iexists _; iexact H12
    isplitl [H13]; · iexists _; iexact H13
    isplitl [H14]; · iexists _; iexact H14
    isplitl [H15]; · iexists _; iexact H15
    isplitl [HO]; · iexists _; iexact HO
    isplitl [H7]
    · iexists f7
      isplitr
      · ipureintro; intro u i a b h; exact absurd h (Nat.not_lt_zero _)
      iexact H7
    isplitl [HN HNR]
    · unfold Busy
      isplitl [HN]; · iexact HN
      iexact HNR
    iexact HF1
  iintro %acc HI
  unfold UInv Slots
  rw [if_neg (by decide)]
  icases HI with ⟨H0, H3, H5, H6, ⟨H10, H11, H12, H13, H14, H15, HO, H7, HF0, HF1⟩⟩
  ihave HF := (Free_end c arg1 arg2 arg8 arg9 arg16 X1 X2 f8 f9 24 25 rfl rfl) $$ [HF0 HF1]
  · isplitl [HF0]; · iexact HF0
    iexact HF1
  icases HF with ⟨H8, H9, HOps, HS0, HS1⟩
  sl_exec
  sl_step
  isplitl [H0]; · iexact H0
  isplitl [H3]; · iexact H3
  isplitl [H4]; · iexact H4
  isplitl [H5]; · iexact H5
  isplitl [H6]; · iexact H6
  isplitl [HOps]; · iexact HOps
  isplitl [H7]; · iexact H7
  isplitl [H8]; · iexact H8
  isplitl [H9]; · iexact H9
  isplitl [H10]; · iexists _; iexact H10
  isplitl [H11]; · iexact H11
  isplitl [H12]; · iexact H12
  isplitl [H13]; · iexact H13
  isplitl [H14]; · iexact H14
  isplitl [H15]; · iexact H15
  isplitl [HS0]; · iexact HS0
  isplitl [HS1]; · iexact HS1
  iexact HO
end Body

end Cert.Kernel.Hand
-- ==== Proof.Bits.Frame.lean ====
module

public import proofs.«01_k».proof.Proof.Bits.Body
public import proofs.«01_k».proof.Proof.Gen.Kernel.Frame
public import Idealize.ShloMosaic.Lib.Pipeline.FrameBody

@[expose] public section

set_option maxRecDepth 16384
set_option maxHeartbeats 4000000

/-! The launch of the kernel: its proof data, the body's obligation, the run and the frame. -/

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

open Idealize.ShloMosaic.Pipeline (Dat BodyObligation)

variable (m : (ℓ : Loc nD τ sig) → Buf (Elt F) ℓ) (ρ : Dev nD → PrngReg)

/-! ## The run up to the call, and the windows' blocks, at the algebra of the copies -/

theorem hmain (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-! ## What the body is called on -/

abbrev ms0 (t : Fin cfg0.N) : Memref sig .tc .smem S6 .i32 := win0_0.stage (cfg0.slots t 0)
abbrev ms1 (t : Fin cfg0.N) : Memref sig .tc .vmem S6x64x128 .f32 := win0_1.stage (cfg0.slots t 1)
abbrev ms2 (t : Fin cfg0.N) : Memref sig .tc .vmem S16x256x512 .bf16 := win0_2.stage (cfg0.slots t 2)
abbrev ms3 (t : Fin cfg0.N) : Memref sig .tc .vmem S54x64x256 .f32 := win0_3.stage (cfg0.slots t 3)
abbrev ms4 (t : Fin cfg0.N) : Memref sig .tc .vmem S54x64x256 .f32 := win0_4.stage (cfg0.slots t 4)
abbrev ms5 (t : Fin cfg0.N) : Memref sig .tc .vmem S6x64x2304 .f32 := win0_5.stage (cfg0.slots t 5)
abbrev sc0 : Memref sig .tc .vmem S2x9x256x128 .i32 := Memref.whole cc0_scratch0
abbrev sc1 : Memref sig .tc .vmem S2x9x4x8x256 .f32 := Memref.whole cc0_scratch1
abbrev sc2 : Memref sig .tc .vmem S16x512x256 .bf16 := Memref.whole cc0_scratch2
abbrev sc3 : Memref sig .tc .vmem S2x512x128 .i32 := Memref.whole cc0_scratch3
abbrev sc4 : Memref sig .tc .vmem S4x8x256 .f32 := Memref.whole cc0_scratch4
abbrev sc5 : Memref sig .tc .vmem S2048x256 .bf16 := Memref.whole cc0_scratch5
abbrev sc6 : Memref sig .tc .vmem S9x16x256 .f32 := Memref.whole cc0_scratch6
abbrev sc7 : Memref sig .tc .vmem S16x2048 .bf16 := Memref.whole cc0_scratch7
abbrev hb1 : Memref sig .tc .hbm S6x2304x4x128 .i32 := Memref.whole main_v18
abbrev hb2 : Memref sig .tc .hbm S6x16x8x2304 .f32 := Memref.whole main_v19

/-- The contents of input window `j`'s staging buffer: its block. -/
abbrev X0 (c : Dev nD) (t : Fin cfg0.N) : BufTy.Contents (Elt F) (ms0 t).view.ty := (ms0 t).view.rep (iblk m c 0 t)
abbrev X3 (c : Dev nD) (t : Fin cfg0.N) : BufTy.Contents (Elt F) (ms1 t).view.ty := (ms1 t).view.rep (iblk m c 1 t)
abbrev X4 (c : Dev nD) (t : Fin cfg0.N) : BufTy.Contents (Elt F) (ms2 t).view.ty := (ms2 t).view.rep (iblk m c 2 t)
abbrev X5 (c : Dev nD) (t : Fin cfg0.N) : BufTy.Contents (Elt F) (ms3 t).view.ty := (ms3 t).view.rep (iblk m c 3 t)
abbrev X6 (c : Dev nD) (t : Fin cfg0.N) : BufTy.Contents (Elt F) (ms4 t).view.ty := (ms4 t).view.rep (iblk m c 4 t)

/-- No cached length exceeds the cache's. -/
def Lens : Prop := ∀ (c : Dev nD) (t : Fin cfg0.N) (x : S6.Idx), Fits (iblk m c 0 t x)

variable (hP : Lens m)
include hP in
theorem hX0 (c : Dev nD) (t : Fin cfg0.N) (x : S6.Idx) : Fits ((ms0 t).view.read (Elt F) (X0 m c t) x) := by
  have e : (ms0 t).view.read (Elt F) (X0 m c t) = iblk m c 0 t := View.read_rep _ _
  rw [e]; exact hP c t x

/-- The scores of each unit and chunk. -/
def U0 (c : Dev nD) (t : Fin cfg0.N) : Fin k0_t3_loop.trips → ℕ → S1x16x256.Idx → Elt F .f32 :=
  UOut c none (ms0 t) (hstage0_0 0) hb1 (Memref.isWhole_whole _) hb2 (Memref.isWhole_whole _) (ms1 t) (hstage0_1 0) (ms2 t) (hstage0_2 0) (ms3 t) (hstage0_3 0) (ms4 t) (hstage0_4 0) (ms5 t) (hstage0_5 0) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) cc0_scratch8 (X0 m c t) (hX0 m hP c t) (V m c main_v18) (V m c main_v19) (X3 m c t) (X5 m c t) (X6 m c t) (wbuf (ms2 t) sc2 (X4 m c t)) (iota .tc S16x128 32 [0] iota_S16x128_d0_w32)

theorem unit_lt {a b : ℕ} (ha : a < 64) (hb : b < 6) : 6 * (a / 16) + b < k0_t3_loop.trips := by
  have : k0_t3_loop.trips = 24 := by decide
  omega

/-- The whole output: row 16·(h/16)+… of sequence b is unit 6·(h/16)+b's. -/
def out0 (c : Dev nD) (t : Fin cfg0.N) : S6x64x2304.Idx → Elt F .f32 := fun x =>
  U0 m hP c t ⟨6 * ((x 1).val / 16) + (x 0).val, unit_lt (x 1).isLt (x 0).isLt⟩ ((x 2).val / 256)
    (ix3 0 ⟨(x 1).val % 16, Nat.mod_lt _ (by decide)⟩ ⟨(x 2).val % 256, Nat.mod_lt _ (by decide)⟩)

theorem out0_of (c : Dev nD) (t : Fin cfg0.N) (g : BufTy.Contents (Elt F) (ms5 t).view.ty) (h : OutOK (ms5 t) (U0 m hP c t) 24 g) :
    (ms5 t).view.read (Elt F) g = out0 m hP c t := by
  funext x
  have h0 : (x 0).val < 6 := (x 0).isLt
  have h1 : (x 1).val < 64 := (x 1).isLt
  have h2 : (x 2).val < 2304 := (x 2).isLt
  have := h ⟨6 * ((x 1).val / 16) + (x 0).val, unit_lt (x 1).isLt (x 0).isLt⟩ ⟨(x 2).val / 256, Nat.div_lt_of_lt_mul h2⟩ ⟨(x 1).val % 16, Nat.mod_lt _ (by decide)⟩ ⟨(x 2).val % 256, Nat.mod_lt _ (by decide)⟩ (by
    have : 6 * ((x 1).val / 16) + (x 0).val < k0_t3_loop.trips := unit_lt (x 1).isLt (x 0).isLt
    have e : k0_t3_loop.trips = 24 := by decide
    rw [e] at this; exact this)
  refine Eq.trans (congrArg _ ?_) this
  funext a; apply Fin.ext
  match a with
  | 0 => show (x 0).val = (6 * ((x 1).val / 16) + (x 0).val) % 6; omega
  | 1 => show (x 1).val = 16 * ((6 * ((x 1).val / 16) + (x 0).val) / 6) + (x 1).val % 16; omega
  | 2 => show (x 2).val = 256 * ((x 2).val / 256) + (x 2).val % 256; omega

/-! ## The copies' semaphores and the operands left in HBM -/

abbrev osem0 : Fin 2 → SemLoc sig := fun j => (![SemLoc.dma 6, SemLoc.dma 7] : Fin 2 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma (cellOf cc0_scratch8 0)) 0 ∗ semVal ((c : Thread nD τ), SemLoc.dma (cellOf cc0_scratch8 1)) 0) := by
  rw [Pipeline.ownSems0_eq_of_list c osem0 [0, 1] (by decide) (by decide)]; rfl
def H0 : Finset (Ref sig .tc) := {main_v18, main_v19}
theorem H0_sub : H0 ⊆ Pipeline.restRefs sig spec0 := by decide
theorem hbmPts0_eq (c : Dev nD) :
    (bigSep H0 (fun b => ((c : Thread nD τ).loc b) ↦{fullShare} V m c b) : sProp 𝕄) = Ops c hb1 hb2 (V m c main_v18) (V m c main_v19) fullShare := by
  rw [BI.bigSep_eq_bigSepL_of_eq [main_v18, main_v19] (by decide) (by decide)]
  unfold Ops
  rw [show hb1.view.set = Finset.univ from View.set_whole _, show hb2.view.set = Finset.univ from View.set_whole _]
  rfl

theorem PhiD0_eq (c : Dev nD) :
    (Pipeline.ΦD osem0 spec0 H0 (V m) c : sProp 𝕄)
      = iprop(iprop((∃ d, owns (c : Thread nD τ) sc0 fullShare d) ∗ (∃ d, owns (c : Thread nD τ) sc1 fullShare d) ∗ (∃ d, owns (c : Thread nD τ) sc2 fullShare d) ∗ (∃ d, owns (c : Thread nD τ) sc3 fullShare d) ∗ (∃ d, owns (c : Thread nD τ) sc4 fullShare d) ∗ (∃ d, owns (c : Thread nD τ) sc5 fullShare d) ∗ (∃ d, owns (c : Thread nD τ) sc6 fullShare d) ∗ (∃ d, owns (c : Thread nD τ) sc7 fullShare d)) ∗ (∃ r, prngReg c r)
          ∗ iprop(semVal ((c : Thread nD τ), SemLoc.dma (cellOf cc0_scratch8 0)) 0 ∗ semVal ((c : Thread nD τ), SemLoc.dma (cellOf cc0_scratch8 1)) 0)
          ∗ Ops c hb1 hb2 (V m c main_v18) (V m c main_v19) fullShare) := by
  rw [Pipeline.ΦD_eq, scopedRest0_eq, ownSems00_eq, hbmPts0_eq]; simp only [sc0, sc1, sc2, sc3, sc4, sc5, sc6, sc7, owns_whole]; try rfl

/-! ## The proof data, the body, the run -/

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => out0 m hP c t
  Φ _ := Pipeline.ΦD osem0 spec0 H0 (V m) c
  q _ := fullShare
  owed _ := 0

theorem A_eq (c : Dev nD) (w : Fin cfg0.W) : (dats m hP 0 c).A w = V m c (Pipeline.arrRef spec0 w) := by dsimp only [dats]
theorem after_0 (c : Dev nD) (t : Fin cfg0.N) : (dats m hP 0 c).after 0 t = iblk m c 0 t := by dsimp only [dats]
theorem after_1 (c : Dev nD) (t : Fin cfg0.N) : (dats m hP 0 c).after 1 t = iblk m c 1 t := by dsimp only [dats]
theorem after_2 (c : Dev nD) (t : Fin cfg0.N) : (dats m hP 0 c).after 2 t = iblk m c 2 t := by dsimp only [dats]
theorem after_3 (c : Dev nD) (t : Fin cfg0.N) : (dats m hP 0 c).after 3 t = iblk m c 3 t := by dsimp only [dats]
theorem after_4 (c : Dev nD) (t : Fin cfg0.N) : (dats m hP 0 c).after 4 t = iblk m c 4 t := by dsimp only [dats]
theorem after_5 (c : Dev nD) (t : Fin cfg0.N) : (dats m hP 0 c).after 5 t = out0 m hP c t := by dsimp only [dats]
theorem before_0 (c : Dev nD) (t : Fin cfg0.N) (d) : (dats m hP 0 c).before 0 t d = iblk m c 0 t :=
  ((dats m hP 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m hP 0 c).before 1 t d = iblk m c 1 t :=
  ((dats m hP 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg0.N) (d) : (dats m hP 0 c).before 2 t d = iblk m c 2 t :=
  ((dats m hP 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin cfg0.N) (d) : (dats m hP 0 c).before 3 t d = iblk m c 3 t :=
  ((dats m hP 0 c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
theorem before_4 (c : Dev nD) (t : Fin cfg0.N) (d) : (dats m hP 0 c).before 4 t d = iblk m c 4 t :=
  ((dats m hP 0 c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)

def bodyPre (c : Dev nD) (t : Fin cfg0.N) : sProp 𝕄 :=
  iprop((dats m hP 0 c).Φ t.castSucc ∗ (dats m hP 0 c).owesAt () t.castSucc
    ∗ (∃ d, owns (c : Thread nD τ) (ms0 t) fullShare ((dats m hP 0 c).before 0 t d))
    ∗ (∃ d, owns (c : Thread nD τ) (ms1 t) fullShare ((dats m hP 0 c).before 1 t d))
    ∗ (∃ d, owns (c : Thread nD τ) (ms2 t) fullShare ((dats m hP 0 c).before 2 t d))
    ∗ (∃ d, owns (c : Thread nD τ) (ms3 t) fullShare ((dats m hP 0 c).before 3 t d))
    ∗ (∃ d, owns (c : Thread nD τ) (ms4 t) fullShare ((dats m hP 0 c).before 4 t d))
    ∗ (∃ d, owns (c : Thread nD τ) (ms5 t) fullShare ((dats m hP 0 c).before 5 t d)))
def bodyPost (c : Dev nD) (t : Fin cfg0.N) : sProp 𝕄 :=
  iprop((dats m hP 0 c).Φ t.succ ∗ (dats m hP 0 c).owesAt () t.succ
    ∗ owns (c : Thread nD τ) (ms0 t) fullShare ((dats m hP 0 c).after 0 t)
    ∗ owns (c : Thread nD τ) (ms1 t) fullShare ((dats m hP 0 c).after 1 t)
    ∗ owns (c : Thread nD τ) (ms2 t) fullShare ((dats m hP 0 c).after 2 t)
    ∗ owns (c : Thread nD τ) (ms3 t) fullShare ((dats m hP 0 c).after 3 t)
    ∗ owns (c : Thread nD τ) (ms4 t) fullShare ((dats m hP 0 c).after 4 t)
    ∗ owns (c : Thread nD τ) (ms5 t) fullShare ((dats m hP 0 c).after 5 t))

theorem owns_hold (c : Dev nD) {sp : Space} {S : Shape} {e : EltTy} (M : Memref sig .tc sp S e) (X : S.Idx → Elt F e) :
    (owns (c : Thread nD τ) M fullShare X : sProp 𝕄) ⊢ M.view.loc (c : Thread nD τ) ↦[M.view.set]{fullShare} M.view.rep X := by
  unfold owns
  iintro ⟨%f, %e, H⟩
  subst e
  iapply (pointsTo_rep_entails (Ix := Unit) (Name := ℕ) (U := Pipeline.UD sig nD τ) (Lvl := ℕ) (c : Thread nD τ) M f fullShare)
  iexact H

theorem hold_owns (c : Dev nD) {sp : Space} {S : Shape} {e : EltTy} (M : Memref sig .tc sp S e) (X : S.Idx → Elt F e)
    (f : Buf (Elt F) (M.view.loc (c : Thread nD τ))) (h : M.view.read (Elt F) f = X) :
    (M.view.loc (c : Thread nD τ) ↦[M.view.set]{fullShare} f : sProp 𝕄) ⊢ owns (c : Thread nD τ) M fullShare X := by
  unfold owns
  iintro H
  iexists f
  isplitr
  · ipureintro; exact h
  iexact H

theorem sound_body (c : Dev nD) (t : Fin cfg0.N) :
    bodyPre m hP c t ⊢ wp frame (wpE (defs₀ (F := F)) Variants.none c none) Set.univ (bodyAt0 t) (fun _ => bodyPost m hP c t) := by
  unfold bodyPre bodyPost bodyAt0
  rw [show (dats m hP 0 c).Φ t.succ = (dats m hP 0 c).Φ t.castSucc from rfl]
  simp only [after_0, after_1, after_2, after_3, after_4, after_5, before_0, before_1, before_2, before_3, before_4]
  rw [show (dats m hP 0 c).Φ t.castSucc = Pipeline.ΦD osem0 spec0 H0 (V m) c from rfl, PhiD0_eq]
  unfold Dat.owesAt Pipeline.owesWithin
  rw [show (dats m hP 0 c).owed t.castSucc = 0 from rfl, show (dats m hP 0 c).owed t.succ = 0 from rfl]
  iintro ⟨⟨⟨⟨%s0, HA0⟩, ⟨%s1, HA1⟩, ⟨%s2, HA2⟩, ⟨%s3, HA3⟩, ⟨%s4, HA4⟩, ⟨%s5, HA5⟩, ⟨%s6, HA6⟩, ⟨%s7, HA7⟩⟩, Hg, ⟨HS0, HS1⟩, HOps⟩, ⟨%W, -, HW⟩, ⟨%d0, H0⟩, ⟨%d1, H1⟩, ⟨%d2, H2⟩, ⟨%d3, H3⟩, ⟨%d4, H4⟩, ⟨%d5, H5⟩⟩
  ihave H0 := (owns_hold c (ms0 t) _) $$ H0
  ihave H1 := (owns_hold c (ms1 t) _) $$ H1
  ihave H2 := (owns_hold c (ms2 t) _) $$ H2
  ihave H3 := (owns_hold c (ms3 t) _) $$ H3
  ihave H4 := (owns_hold c (ms4 t) _) $$ H4
  ihave H5 := (owns_hold c (ms5 t) _) $$ H5
  ihave HA0 := (owns_hold c sc0 _) $$ HA0
  ihave HA1 := (owns_hold c sc1 _) $$ HA1
  ihave HA2 := (owns_hold c sc2 _) $$ HA2
  ihave HA3 := (owns_hold c sc3 _) $$ HA3
  ihave HA4 := (owns_hold c sc4 _) $$ HA4
  ihave HA5 := (owns_hold c sc5 _) $$ HA5
  ihave HA6 := (owns_hold c sc6 _) $$ HA6
  ihave HA7 := (owns_hold c sc7 _) $$ HA7
  iapply ((body_run c none (ms0 t) (hstage0_0 0) hb1 (Memref.isWhole_whole _) hb2 (Memref.isWhole_whole _) (ms1 t) (hstage0_1 0) (ms2 t) (hstage0_2 0) (ms3 t) (hstage0_3 0) (ms4 t) (hstage0_4 0) (ms5 t) (hstage0_5 0) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) cc0_scratch8 (X0 m c t) (hX0 m hP c t) (V m c main_v18) (V m c main_v19) (X3 m c t) (X4 m c t) (X5 m c t) (X6 m c t) _ _ _ _ _ _ _ _ _ W).trans (wp_wand _ _ _)) $$ [H0 H1 H2 H3 H4 H5 HOps HW HS0 HS1 HA0 HA1 HA2 HA3 HA4 HA5 HA6 HA7]
  · isplitl [H0]; · iexact H0
    isplitl [H1]; · iexact H1
    isplitl [H2]; · iexact H2
    isplitl [H3]; · iexact H3
    isplitl [H4]; · iexact H4
    isplitl [HOps]; · iexact HOps
    isplitl [H5]; · iexact H5
    isplitl [HA0]; · iexact HA0
    isplitl [HA1]; · iexact HA1
    isplitl [HA2]; · iexact HA2
    isplitl [HA3]; · iexact HA3
    isplitl [HA4]; · iexact HA4
    isplitl [HA5]; · iexact HA5
    isplitl [HA6]; · iexact HA6
    isplitl [HA7]; · iexact HA7
    isplitl [HS0]; · iexact HS0
    isplitl [HS1]; · iexact HS1
    iexact HW
  iintro %_ ⟨H0, H1, H2, H3, H4, HOps, ⟨%g, %hg, H5⟩, ⟨%e0, HA0⟩, ⟨%e1, HA1⟩, ⟨%e2, HA2⟩, ⟨%e3, HA3⟩, ⟨%e4, HA4⟩, ⟨%e5, HA5⟩, ⟨%e6, HA6⟩, ⟨%e7, HA7⟩, HS0, HS1, ⟨%W', HW⟩⟩
  isplitl [HA0 HA1 HA2 HA3 HA4 HA5 HA6 HA7 Hg HS0 HS1 HOps]
  · isplitl [HA0 HA1 HA2 HA3 HA4 HA5 HA6 HA7]
    · isplitl [HA0]; · iexists _; iapply (hold_owns c sc0 _ _ rfl); iexact HA0
      isplitl [HA1]; · iexists _; iapply (hold_owns c sc1 _ _ rfl); iexact HA1
      isplitl [HA2]; · iexists _; iapply (hold_owns c sc2 _ _ rfl); iexact HA2
      isplitl [HA3]; · iexists _; iapply (hold_owns c sc3 _ _ rfl); iexact HA3
      isplitl [HA4]; · iexists _; iapply (hold_owns c sc4 _ _ rfl); iexact HA4
      isplitl [HA5]; · iexists _; iapply (hold_owns c sc5 _ _ rfl); iexact HA5
      isplitl [HA6]; · iexists _; iapply (hold_owns c sc6 _ _ rfl); iexact HA6
      iexists _; iapply (hold_owns c sc7 _ _ rfl); iexact HA7
    isplitl [Hg]; · iexact Hg
    isplitl [HS0 HS1]
    · isplitl [HS0]; · iexact HS0
      iexact HS1
    iexact HOps
  isplitl [HW]
  · iexists W'; isplitr; · ipureintro; exact fun _ _ => Or.inl trivial
    iexact HW
  isplitl [H0]; · iapply (hold_owns c (ms0 t) _ _ (View.read_rep _ _)); iexact H0
  isplitl [H1]; · iapply (hold_owns c (ms1 t) _ _ (View.read_rep _ _)); iexact H1
  isplitl [H2]; · iapply (hold_owns c (ms2 t) _ _ (View.read_rep _ _)); iexact H2
  isplitl [H3]; · iapply (hold_owns c (ms3 t) _ _ (View.read_rep _ _)); iexact H3
  isplitl [H4]; · iapply (hold_owns c (ms4 t) _ _ (View.read_rep _ _)); iexact H4
  iapply (hold_owns c (ms5 t) _ _ (out0_of m hP c t g hg)); iexact H5

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m hP 0 c) (defs₀ (F := F)) Variants.none () Set.univ := fun t => by
  rw [bigSep_W0, bigSep_W0, defs₀_row]
  exact triple_restated (sound_body m hP c t) rfl .rfl fun _ => .rfl

set_option backward.isDefEq.respectTransparency.types false in
theorem run_main : θ_run defs (onTc (τ := τ) (main (F := F))) (s₀ m ρ) (fun r => Pipeline.FramePost cfgs (dats m hP) 0 (V m) r ∧ r.2.sem = fun _ => 0) :=
  Pipeline.θ_run_frame_dma (Q' := _) cfgs (dats m hP) (0 : Fin 1) launch0 osem0 defs₀ Variants.none ownSemFacts0 H0 H0_sub m ρ main
    (hbody := fun c => (body_obligation m hP c).loose) (hshare := fun c => (dats m hP 0 c).share_full fun _ => rfl)
    (howed := fun _ _ => rfl) (V := V m) (hmain := hmain m Variants.none) (hA := A_eq m hP)
    (hin := fun _ => .rfl) (hout := fun _ => .rfl)

/-- The run: the output array holds `out0` written back, every argument is as it was, every semaphore at zero. -/
theorem frame : θ_run defs (onTc (τ := τ) (main (F := F))) ⟨m, fun _ => 0, ρ⟩ (fun r => (∀ c : Dev nD,
      r.2.mem ((c.tc : Thread nD τ).loc main_v24) = (dats m hP 0 c).arrAt 5 (Fin.last cfg0.N)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) ∧ r.2.sem = fun _ => 0) :=
  (θ_run defs _ _).mono (fun _ h => ⟨fun c => ⟨((h.1 c).1 5),
      ((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).1 1).trans (((dats m hP 0 c).arrAt_in 1 rfl _).trans ((A_eq m hP c 1).trans (V_main_arg2 m c))),
      ((h.1 c).1 2).trans (((dats m hP 0 c).arrAt_in 2 rfl _).trans ((A_eq m hP c 2).trans (V_main_arg3 m c))),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c),
      ((h.1 c).1 0).trans (((dats m hP 0 c).arrAt_in 0 rfl _).trans ((A_eq m hP c 0).trans (V_main_arg6 m c)))⟩, h.2⟩) (run_main m ρ hP)

end Cert.Kernel.Hand
-- ==== Proof.Bits.Lens.lean ====
module

public import proofs.«01_k».proof.Proof.Bits.Frame
public import proofs.«01_k».proof.Proof.Gen.Pre_lengths_fit

@[expose] public section

/-! The precondition gives what the run asks: no cached length exceeds the cache's. -/

noncomputable section

namespace Cert.Kernel.Hand

open Cert.Kernel Cert.Kernel.Gen
open Idealize.ShloMosaic Idealize.ShloMosaic.TcCoe

variable {F : FTy → Type} [FloatOps F]

theorem fits_of_pre (a0 : IVec Cert.Pre_lengths_fit.S6x2304x16x128 8) (a1 : FVec F Cert.Pre_lengths_fit.S6x2304x16x8 .f32) (a2 : FVec F Cert.Pre_lengths_fit.S6x64x128 .f32)
    (a3 : FVec F Cert.Pre_lengths_fit.S16x256x512 .bf16) (a4 a5 : FVec F Cert.Pre_lengths_fit.S6x2304x64 .f32) (a6 : IVec Cert.Pre_lengths_fit.S6 32)
    (h : Cert.Pre_lengths_fit.fn (F := F) a0 a1 a2 a3 a4 a5 a6 = fun _ => 1#1) (x : Cert.Pre_lengths_fit.S6.Idx) : Fits (a6 x) := by
  have e := congrFun h x
  have e' : BitVec.ofBool ((a6 x).sle 2304#32) = 1#1 := e
  have e2 : (a6 x).sle 2304#32 = true := by
    cases hb : (a6 x).sle 2304#32
    · rw [hb] at e'; exact absurd e' (by decide)
    · rfl
  unfold Fits
  rw [BitVec.sle_iff_toInt_le] at e2
  exact e2

theorem lens_of_pre (m : (ℓ : Loc nD τ sig) → Buf (Elt F) ℓ)
    (h : ∀ c : Dev nD, Cert.Pre_lengths_fit.fn (F := F) (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) (m ((c.tc : Thread nD τ).loc main_arg6)) = fun _ => 1#1) :
    Lens m := by
  intro c t x
  have e : iblk m c 0 t = ((cfg0.win 0).blk t).view.read (Elt F) (V m c main_arg6) := rfl
  rw [e, V_main_arg6, View.read_apply]
  exact fits_of_pre _ _ _ _ _ _ _ (h c) _

end Cert.Kernel.Hand
-- ==== Proof.Spec.lean ====
module

public import Idealize.ShloMosaic.Lib.Pointwise

@[expose] public section

set_option maxRecDepth 16384
set_option maxHeartbeats 4000000

/-! The masked scores, entry by entry: what both programs compute. -/

noncomputable section

namespace Cert.Scores

open Idealize.ShloMosaic Idealize.ShloMosaic.TcCoe

/-- The signed low half of a code byte, as a 32-bit word. -/
def nibLo (c : BitVec 8) : BitVec 32 := ((c.zeroExtend 32 &&& 15#32) ^^^ 8#32) - 8#32
/-- The signed high half of a code byte, as a 32-bit word. -/
def nibHi (c : BitVec 8) : BitVec 32 := (((c.zeroExtend 32).sshiftRight 4) ^^^ 8#32) - 8#32
/-- A code byte's half `p` as a number. -/
def nib (p : Fin 2) (c : BitVec 8) : EReal := (((if p = 0 then nibLo c else nibHi c).toInt : ℝ) : EReal)

/-- Latent row `2 r + p`. -/
def row2 (r : Fin 128) (p : Fin 2) : Fin 256 := ⟨2 * r.val + p.val, by omega⟩
/-- The block of sixteen bytes (thirty-two codes) byte `r` lies in. -/
def blk (r : Fin 128) : Fin 8 := ⟨r.val / 16, by omega⟩

abbrev Codes := (⟨4, ![6, 2304, 16, 128]⟩ : Shape).Idx → BitVec 8
abbrev Scales := (⟨4, ![6, 2304, 16, 8]⟩ : Shape).Idx → EReal
abbrev Query := (⟨3, ![6, 64, 128]⟩ : Shape).Idx → EReal
abbrev Weights := (⟨3, ![16, 256, 512]⟩ : Shape).Idx → EReal
abbrev Angles := (⟨3, ![6, 2304, 64]⟩ : Shape).Idx → EReal
abbrev Lengths := (⟨1, ![6]⟩ : Shape).Idx → BitVec 32

variable (x0 : Codes) (x1 : Scales) (x2 : Query) (x3 : Weights) (x4 x5 : Angles) (x6 : Lengths)

/-- One half of a rebuilt key's entry: the sum over the codes in half `p` of the bytes. -/
def part (p : Fin 2) (b : Fin 6) (t : Fin 2304) (g : Fin 16) (c : Fin 512) : EReal :=
  ∑ r : Fin 128, x3 (ix3 g (row2 r p) c) * (nib p (x0 (ix4 b t g r)) * x1 (ix4 b t g (blk r)))

/-- A rebuilt key's entry. -/
def key (b : Fin 6) (t : Fin 2304) (g : Fin 16) (c : Fin 512) : EReal :=
  part x0 x1 x3 0 b t g c + part x0 x1 x3 1 b t g c

/-- Column `d` of head `h` among its group's 512 columns. -/
def col (h : Fin 64) (d : Fin 128) : Fin 512 := ⟨h.val % 4 * 128 + d.val, by omega⟩
/-- The group of head `h`. -/
def grp (h : Fin 64) : Fin 16 := ⟨h.val / 4, by omega⟩
def lo (d : Fin 64) : Fin 128 := ⟨d.val, by omega⟩
def hi (d : Fin 64) : Fin 128 := ⟨64 + d.val, by omega⟩

/-- The rotated key's entry. -/
def rot (b : Fin 6) (t : Fin 2304) (h : Fin 64) (d : Fin 128) : EReal :=
  if hd : d.val < 64 then
    key x0 x1 x3 b t (grp h) (col h (lo ⟨d.val, hd⟩)) * x4 (ix3 b t ⟨d.val, hd⟩)
      - key x0 x1 x3 b t (grp h) (col h (hi ⟨d.val, hd⟩)) * x5 (ix3 b t ⟨d.val, hd⟩)
  else
    key x0 x1 x3 b t (grp h) (col h (hi ⟨d.val - 64, by omega⟩)) * x4 (ix3 b t ⟨d.val - 64, by omega⟩)
      + key x0 x1 x3 b t (grp h) (col h (lo ⟨d.val - 64, by omega⟩)) * x5 (ix3 b t ⟨d.val - 64, by omega⟩)

/-- The scaled score of query head `h` against the key at `t`. -/
def dotp (b : Fin 6) (h : Fin 64) (t : Fin 2304) : EReal :=
  (∑ d : Fin 128, x2 (ix3 b h d) * rot x0 x1 x3 x4 x5 b t h d) * FloatOps.ofBits (F := Ideal) (φ := .f32) 0x3DB504F3#32

/-- The masked score. -/
def score (b : Fin 6) (h : Fin 64) (t : Fin 2304) : EReal :=
  if (BitVec.ofNat 32 t.val).slt (x6 (ix1 b)) then dotp x0 x1 x2 x3 x4 x5 b h t
  else FloatOps.ofBits (F := Ideal) (φ := .f32) 0xFF800000#32

end Cert.Scores
-- ==== Proof.Ideal.Entry.lean ====
module

public import proofs.«01_k».proof.Proof.Ideal.Frame
public import Idealize.ShloMosaic.Lib.StableHlo.ReadAt
public import Idealize.ShloMosaic.Lib.BitcastFour
public import Idealize.ShloMosaic.Lib.Pointwise
public import proofs.«01_k».proof.Proof.Spec

@[expose] public section

set_option maxRecDepth 16384
set_option maxHeartbeats 4000000

/-! The buffers the call is made on, entry by entry, from the arguments. -/

noncomputable section

namespace Cert.KernelIdeal.Hand

open Cert.KernelIdeal Cert.KernelIdeal.Gen Cert.Scores
open Idealize.ShloMosaic Idealize.ShloMosaic.TcCoe Idealize.SL.Sem

variable (m : (ℓ : Loc nD τ sig) → Buf (Elt Ideal) ℓ) (c : Dev nD)

/-- The arguments' contents. -/
abbrev a0 : Codes := m ((c.tc : Thread nD τ).loc main_arg0)
abbrev a1 : Scales := m ((c.tc : Thread nD τ).loc main_arg1)
abbrev a2 : Query := m ((c.tc : Thread nD τ).loc main_arg2)
abbrev a3 : Weights := m ((c.tc : Thread nD τ).loc main_arg3)
abbrev a4 : Angles := m ((c.tc : Thread nD τ).loc main_arg4)
abbrev a5 : Angles := m ((c.tc : Thread nD τ).loc main_arg5)
abbrev a6 : Lengths := m ((c.tc : Thread nD τ).loc main_arg6)

/-- Byte `g` of a word joined from four bytes. -/
theorem byte_of_four (b : Fin 4 → BitVec 8) (g : Fin 4) :
    ((b 0).setWidth 32 ||| ((b 1).setWidth 32 <<< 8) ||| ((b 2).setWidth 32 <<< 16) ||| ((b 3).setWidth 32 <<< 24)).extractLsb' (8 * g.val) 8 = b g := by
  apply BitVec.eq_of_getLsbD_eq
  intro i hi
  rw [BitVec.getLsbD_extractLsb', four_bytes_getLsbD b (8 * g.val + i) (by omega)]
  have h1 : (8 * g.val + i) / 8 = g.val := by omega
  have h2 : (8 * g.val + i) % 8 = i := by omega
  simp only [h1, h2, hi, decide_true, Bool.true_and]

/-- The four groups' codes, packed in the bytes of a word. -/
theorem words_at (b : Fin 6) (t : Fin 2304) (q : Fin 4) (r : Fin 128) (g : Fin 4) :
    (Gen.V m c main_v18 (ix4 b t q r : S6x2304x4x128.Idx) : BitVec 32).extractLsb' (8 * g.val) 8 = a0 m c (ix4 b t ⟨4 * q.val + g.val, by omega⟩ r) := by
  refine Eq.trans (congrArg (BitVec.extractLsb' (8 * g.val) 8) ?_) (byte_of_four (fun g : Fin 4 => a0 m c (ix4 b t ⟨q.val * 4 + g.val, by omega⟩ r)) g |>.trans ?_)
  · unfold Gen.V
    after_reads_at
    rfl
  · exact congrArg (fun x => a0 m c (ix4 b t x r)) (Fin.ext (by show q.val * 4 + g.val = 4 * q.val + g.val; omega))

theorem scales_at (b : Fin 6) (g : Fin 16) (n : Fin 8) (t : Fin 2304) :
    (Gen.V m c main_v19 (ix4 b g n t : S6x16x8x2304.Idx) : EReal) = a1 m c (ix4 b t g n) := by
  unfold Gen.V
  after_reads_at

theorem cos_at (b : Fin 6) (k : Fin 9) (d : Fin 64) (t : Fin 256) :
    (Gen.V m c main_v21 (ix3 ⟨b.val * 9 + k.val, by omega⟩ d t : S54x64x256.Idx) : EReal) = a4 m c (ix3 b ⟨256 * k.val + t.val, by omega⟩ d) := by
  unfold Gen.V
  after_reads_at
  have e1 : (⟨(b.val * 9 + k.val) / 9, by omega⟩ : Fin 6) = b := Fin.ext (by show (b.val * 9 + k.val) / 9 = b.val; omega)
  have e2 : (⟨(b.val * 9 + k.val) % 9 * 256 + t.val, by omega⟩ : Fin 2304) = ⟨256 * k.val + t.val, by omega⟩ := Fin.ext (by show (b.val * 9 + k.val) % 9 * 256 + t.val = 256 * k.val + t.val; omega)
  exact congrArg₂ (fun x y => a4 m c (ix3 x y d)) e1 e2

theorem sin_at (b : Fin 6) (k : Fin 9) (d : Fin 64) (t : Fin 256) :
    (Gen.V m c main_v23 (ix3 ⟨b.val * 9 + k.val, by omega⟩ d t : S54x64x256.Idx) : EReal) = a5 m c (ix3 b ⟨256 * k.val + t.val, by omega⟩ d) := by
  unfold Gen.V
  after_reads_at
  have e1 : (⟨(b.val * 9 + k.val) / 9, by omega⟩ : Fin 6) = b := Fin.ext (by show (b.val * 9 + k.val) / 9 = b.val; omega)
  have e2 : (⟨(b.val * 9 + k.val) % 9 * 256 + t.val, by omega⟩ : Fin 2304) = ⟨256 * k.val + t.val, by omega⟩ := Fin.ext (by show (b.val * 9 + k.val) % 9 * 256 + t.val = 256 * k.val + t.val; omega)
  exact congrArg₂ (fun x y => a5 m c (ix3 x y d)) e1 e2

end Cert.KernelIdeal.Hand
-- ==== Proof.Ideal.Rotate.lean ====
module

public import proofs.«01_k».proof.Proof.Gen.KernelIdeal.Skeleton
public import proofs.«01_k».proof.Proof.Spec
public import Idealize.ShloMosaic.Lib.Pointwise

@[expose] public section

set_option maxRecDepth 16384
set_option maxHeartbeats 4000000

/-! The rotated keys as one function of the key buffer's rows. -/

noncomputable section

namespace Cert.KernelIdeal.Hand

open Cert.KernelIdeal Cert.KernelIdeal.Gen Cert.Scores
open Idealize.ShloMosaic Idealize.ShloMosaic.TcCoe Idealize.SL.Sem

/-- The rotated keys of a chunk, row `512 g + 128 j + d` for the group's `g`, head `j` and column `d`. -/
def rotK (K : Fin 4 → FVec Ideal S512x256 .f32) (cs sn : FVec Ideal S64x256 .f32) (g : Fin 4) (c : Fin 512) (t : Fin 256) : EReal :=
  if h : c.val % 128 < 64 then
    K g (ix2 c t) * cs (ix2 ⟨c.val % 128, h⟩ t) - K g (ix2 ⟨c.val + 64, by omega⟩ t) * sn (ix2 ⟨c.val % 128, h⟩ t)
  else
    K g (ix2 c t) * cs (ix2 ⟨c.val % 128 - 64, by omega⟩ t) + K g (ix2 ⟨c.val - 64, by omega⟩ t) * sn (ix2 ⟨c.val % 128 - 64, by omega⟩ t)

/-- The same as contents of the key buffer. -/
def rotB (K : Fin 4 → FVec Ideal S512x256 .f32) (cs sn : FVec Ideal S64x256 .f32) (y : S2048x256.Idx) : EReal :=
  rotK K cs sn ⟨(y 0).val / 512, by have : (y 0).val < 2048 := (y 0).isLt; omega⟩ ⟨(y 0).val % 512, by omega⟩ (y 1)

/-- A piece of the first halves. -/
def loP (K : FVec Ideal S512x256 .f32) (cs sn : FVec Ideal S64x256 .f32) (a b : ℕ) (ha : S512x256.Slices ![a, 0] S64x256) (hb : S512x256.Slices ![b, 0] S64x256) : FVec Ideal S64x256 .bf16 :=
  shapeCast S64x256 (truncf .bf16 (subf (mulf (extractStridedSlice S64x256 ![a, 0] K ha) cs) (mulf (extractStridedSlice S64x256 ![b, 0] K hb) sn)) bitsLt_bf16_f32) shapeCasts_S64x256_S64x256

/-- A piece of the second halves. -/
def hiP (K : FVec Ideal S512x256 .f32) (cs sn : FVec Ideal S64x256 .f32) (a b : ℕ) (ha : S512x256.Slices ![a, 0] S64x256) (hb : S512x256.Slices ![b, 0] S64x256) : FVec Ideal S64x256 .bf16 :=
  shapeCast S64x256 (truncf .bf16 (addf (mulf (extractStridedSlice S64x256 ![b, 0] K hb) cs) (mulf (extractStridedSlice S64x256 ![a, 0] K ha) sn)) bitsLt_bf16_f32) shapeCasts_S64x256_S64x256

theorem emb_row (o : ℕ) (inb : ∀ a, (![o, 0] : Fin 2 → ℕ) a + S64x256.size a ≤ S2048x256.size a) (d : Fin 64) (t : Fin 256) (ho : o + d.val < 2048) :
    (Rect.unit (s := S2048x256) ![o, 0] S64x256.size inb).emb (ix2 d t) = ix2 ⟨o + d.val, ho⟩ t := by
  funext a
  match a with
  | ⟨0, _⟩ => exact Fin.ext (by show o + 1 * d.val = o + d.val; omega)
  | ⟨1, _⟩ => exact Fin.ext (by show 0 + 1 * t.val = t.val; omega)

theorem slice_row (K : FVec Ideal S512x256 .f32) (a : ℕ) (ha : S512x256.Slices ![a, 0] S64x256) (d : Fin 64) (t : Fin 256) (hd : a + d.val < 512) :
    extractStridedSlice S64x256 ![a, 0] K ha (ix2 d t) = K (ix2 ⟨a + d.val, hd⟩ t) := by
  refine congrArg K ?_
  funext i
  match i with
  | ⟨0, _⟩ => exact Fin.ext (by show a + d.val = a + d.val; rfl)
  | ⟨1, _⟩ => exact Fin.ext (by show 0 + t.val = t.val; omega)

theorem lo_piece (K : Fin 4 → FVec Ideal S512x256 .f32) (cs sn : FVec Ideal S64x256 .f32) (g j : Fin 4) (o a b : ℕ) (ho : o = 512 * g.val + 128 * j.val)
    (ea : a = 128 * j.val) (eb : b = 128 * j.val + 64) (ha : S512x256.Slices ![a, 0] S64x256) (hb : S512x256.Slices ![b, 0] S64x256)
    (inb : ∀ i, (![o, 0] : Fin 2 → ℕ) i + S64x256.size i ≤ S2048x256.size i) (x : S64x256.Idx) :
    loP (K g) cs sn a b ha hb x = rotB K cs sn ((Rect.unit (s := S2048x256) ![o, 0] S64x256.size inb).emb x) := by
  obtain ⟨d, t, rfl⟩ : ∃ (d : Fin 64) (t : Fin 256), x = ix2 d t := ⟨x 0, x 1, by funext i; match i with | ⟨0, _⟩ => rfl | ⟨1, _⟩ => rfl⟩
  rw [emb_row o inb d t (by omega)]
  have e : loP (K g) cs sn a b ha hb (ix2 d t) = (extractStridedSlice S64x256 ![a, 0] (K g) ha (ix2 d t)) * cs (ix2 d t) - (extractStridedSlice S64x256 ![b, 0] (K g) hb (ix2 d t)) * sn (ix2 d t) := by
    pointwise [loP]
  rw [e, slice_row _ _ _ _ _ (by omega), slice_row _ _ _ _ _ (by omega)]
  show _ = rotK K cs sn ⟨(o + d.val) / 512, _⟩ ⟨(o + d.val) % 512, _⟩ t
  have e1 : (⟨(o + d.val) / 512, by omega⟩ : Fin 4) = g := Fin.ext (by show (o + d.val) / 512 = g.val; omega)
  have e2 : (⟨(o + d.val) % 512, by omega⟩ : Fin 512) = ⟨a + d.val, by omega⟩ := Fin.ext (by show (o + d.val) % 512 = a + d.val; omega)
  rw [e1, e2]
  unfold rotK
  have h : (a + d.val) % 128 = d.val := by omega
  simp only [h, d.isLt, dif_pos]
  have e3 : b + d.val = a + d.val + 64 := by omega
  simp only [e3]

theorem hi_piece (K : Fin 4 → FVec Ideal S512x256 .f32) (cs sn : FVec Ideal S64x256 .f32) (g j : Fin 4) (o a b : ℕ) (ho : o = 512 * g.val + 128 * j.val + 64)
    (ea : a = 128 * j.val) (eb : b = 128 * j.val + 64) (ha : S512x256.Slices ![a, 0] S64x256) (hb : S512x256.Slices ![b, 0] S64x256)
    (inb : ∀ i, (![o, 0] : Fin 2 → ℕ) i + S64x256.size i ≤ S2048x256.size i) (x : S64x256.Idx) :
    hiP (K g) cs sn a b ha hb x = rotB K cs sn ((Rect.unit (s := S2048x256) ![o, 0] S64x256.size inb).emb x) := by
  obtain ⟨d, t, rfl⟩ : ∃ (d : Fin 64) (t : Fin 256), x = ix2 d t := ⟨x 0, x 1, by funext i; match i with | ⟨0, _⟩ => rfl | ⟨1, _⟩ => rfl⟩
  rw [emb_row o inb d t (by omega)]
  have e : hiP (K g) cs sn a b ha hb (ix2 d t) = (extractStridedSlice S64x256 ![b, 0] (K g) hb (ix2 d t)) * cs (ix2 d t) + (extractStridedSlice S64x256 ![a, 0] (K g) ha (ix2 d t)) * sn (ix2 d t) := by
    pointwise [hiP]
  rw [e, slice_row _ _ _ _ _ (by omega), slice_row _ _ _ _ _ (by omega)]
  show _ = rotK K cs sn ⟨(o + d.val) / 512, _⟩ ⟨(o + d.val) % 512, _⟩ t
  have e1 : (⟨(o + d.val) / 512, by omega⟩ : Fin 4) = g := Fin.ext (by show (o + d.val) / 512 = g.val; omega)
  have e2 : (⟨(o + d.val) % 512, by omega⟩ : Fin 512) = ⟨b + d.val, by omega⟩ := Fin.ext (by show (o + d.val) % 512 = b + d.val; omega)
  rw [e1, e2]
  unfold rotK
  have h : (b + d.val) % 128 = d.val + 64 := by omega
  have h' : ¬ d.val + 64 < 64 := by omega
  simp only [h, h', dif_neg, not_false_eq_true]
  have e3 : b + d.val - 64 = a + d.val := by omega
  simp only [e3, Nat.add_sub_cancel]

end Cert.KernelIdeal.Hand
-- ==== Proof.Ideal.Codes.lean ====
module

public import proofs.«01_k».proof.Proof.Gen.KernelIdeal.Skeleton
public import proofs.«01_k».proof.Proof.Spec
public import Idealize.ShloMosaic.Lib.Pointwise
public import Idealize.ShloMosaic.Lib.BitcastFour

@[expose] public section

set_option maxRecDepth 16384
set_option maxHeartbeats 4000000

/-! The packed codes: bytes of the words, halves of the bytes. -/

noncomputable section

namespace Cert.KernelIdeal.Hand

open Cert.KernelIdeal Cert.KernelIdeal.Gen Cert.Scores
open Idealize.ShloMosaic Idealize.ShloMosaic.TcCoe Idealize.SL.Sem

/-- A byte's two signed halves, packed as two sixteen-bit numbers. -/
def dword (c : BitVec 8) : BitVec 32 :=
  IntOp.ori (IntOp.andi (IntOp.subi (IntOp.xori (IntOp.andi (c.signExtend 32) 15#32) 8#32) 8#32) 65535#32)
    (IntOp.shli .vector (IntOp.shrsi .vector (c.signExtend 32) 4#32) 16#32)

theorem dword_all : ∀ n : Fin 256, ((dword (BitVec.ofFin n)).extractLsb' 0 16).toInt = (nibLo (BitVec.ofFin n)).toInt ∧
    ((dword (BitVec.ofFin n)).extractLsb' 16 16).toInt = (nibHi (BitVec.ofFin n)).toInt := by decide +kernel

theorem dword_lo (c : BitVec 8) : ((dword c).extractLsb' 0 16).toInt = (nibLo c).toInt := (dword_all c.toFin).1
theorem dword_hi (c : BitVec 8) : ((dword c).extractLsb' 16 16).toInt = (nibHi c).toInt := (dword_all c.toFin).2

/-- The two sixteen-bit halves of the words of a matrix, as rows. -/
theorem bitcast_half (w : S128x256.Idx → BitVec 32) (r : Fin 256) (t : Fin 256) :
    bitcast S256x256 16 w bitcasts_S128x256_w32_S256x256_w16 (ix2 r t) =
      (w (ix2 ⟨r.val / 2, by omega⟩ t)).extractLsb' (16 * (r.val % 2)) 16 := by
  rw [bitcast_32_16]
  congr 2
  funext a
  match a with
  | ⟨0, _⟩ => exact Fin.ext ((bitcasts_S128x256_w32_S256x256_w16.srcIdx_row _ _ _ ⟨0, Nat.zero_lt_two⟩ rfl))
  | ⟨1, _⟩ => exact Fin.ext ((bitcasts_S128x256_w32_S256x256_w16.srcIdx_other _ _ _ ⟨1, Nat.one_lt_two⟩ (by decide)))

/-- Row `4 r + g` of the bytes: byte `g` of the words' row `r`. -/
theorem bitcast_byte (w : S128x256.Idx → BitVec 32) (r : Fin 128) (g : Fin 4) (t : Fin 256) :
    bitcast S512x256 8 w bitcasts_S128x256_w32_S512x256_w8 (ix2 ⟨4 * r.val + g.val, by omega⟩ t) =
      (w (ix2 r t)).extractLsb' (8 * g.val) 8 := by
  apply BitVec.eq_of_getLsbD_eq
  intro i hi
  rw [bitcast_getLsbD w _ _ i hi (by decide), BitVec.getLsbD_extractLsb']
  simp only [hi, decide_true, Bool.true_and]
  have er : Shape.row S512x256 (ix2 (⟨4 * r.val + g.val, by omega⟩ : Fin 512) t) = 4 * r.val + g.val := rfl
  have e1 : ((4 * r.val + g.val) * 8 + i) / 32 = r.val := by omega
  have e2 : ((4 * r.val + g.val) * 8 + i) % 32 = 8 * g.val + i := by omega
  simp only [er, e2]
  congr 2
  funext a
  match a with
  | ⟨0, _⟩ => exact Fin.ext ((bitcasts_S128x256_w32_S512x256_w8.srcIdx_row _ _ _ ⟨0, Nat.zero_lt_two⟩ rfl).trans e1)
  | ⟨1, _⟩ => exact Fin.ext ((bitcasts_S128x256_w32_S512x256_w8.srcIdx_other _ _ _ ⟨1, Nat.one_lt_two⟩ (by decide)))

theorem pay1_apply (w : Vec Ideal S1x1x256x128 .i32) (r : Fin 128) (g : Fin 4) (t : Fin 256) :
    k0_pay1 w (ix2 ⟨4 * r.val + g.val, by omega⟩ t) = dword (BitVec.extractLsb' (8 * g.val) 8 (w (ix4 0 0 t r) : BitVec 32)) := by
  have h := bitcast_byte (transpose S128x256 [1, 0] (shapeCast S256x128 w shapeCasts_S1x1x256x128_S256x128) transposes_S256x128_p1_0_S128x256) r g t
  have e : transpose S128x256 [1, 0] (shapeCast S256x128 w shapeCasts_S1x1x256x128_S256x128) transposes_S256x128_p1_0_S128x256 (ix2 r t) = w (ix4 0 0 t r) := by
    pointwise
  rw [e] at h
  rw [← h]; rfl

/-- One group's rebuilt keys: weights times the scaled codes, the halves of the words as rows. -/
def kf (W : FVec Ideal S512x256 .bf16) (w : IVec S128x256 32) (s0 s1 s2 s3 s4 s5 s6 s7 : FVec Ideal S32x256 .f32) : FVec Ideal S512x256 .f32 :=
  matmul dot_S512x256_S256x256_S512x256_1_0_0_1_n_n none W
    (mulf (sitofp .bf16 (bitcast S256x256 16 w bitcasts_S128x256_w32_S256x256_w16))
      (truncf .bf16 (concatenate S256x256 0 [⟨S32x256, s0⟩, ⟨S32x256, s1⟩, ⟨S32x256, s2⟩, ⟨S32x256, s3⟩, ⟨S32x256, s4⟩, ⟨S32x256, s5⟩, ⟨S32x256, s6⟩, ⟨S32x256, s7⟩] concatenates_S32x256_S32x256_S32x256_S32x256_S32x256_S32x256_S32x256_S32x256_S256x256_d0) bitsLt_bf16_f32))
    (constant S512x256 .f32 0x00000000#32)

/-- The eight scale rows, each on thirty-two rows. -/
theorem scales_apply (s0 s1 s2 s3 s4 s5 s6 s7 : FVec Ideal S32x256 .f32) (S : Fin 8 → Fin 256 → EReal)
    (h0 : ∀ i t, s0 (ix2 i t) = S 0 t) (h1 : ∀ i t, s1 (ix2 i t) = S 1 t) (h2 : ∀ i t, s2 (ix2 i t) = S 2 t) (h3 : ∀ i t, s3 (ix2 i t) = S 3 t)
    (h4 : ∀ i t, s4 (ix2 i t) = S 4 t) (h5 : ∀ i t, s5 (ix2 i t) = S 5 t) (h6 : ∀ i t, s6 (ix2 i t) = S 6 t) (h7 : ∀ i t, s7 (ix2 i t) = S 7 t) (r t : Fin 256) :
    concatenate S256x256 0 [⟨S32x256, s0⟩, ⟨S32x256, s1⟩, ⟨S32x256, s2⟩, ⟨S32x256, s3⟩, ⟨S32x256, s4⟩, ⟨S32x256, s5⟩, ⟨S32x256, s6⟩, ⟨S32x256, s7⟩] concatenates_S32x256_S32x256_S32x256_S32x256_S32x256_S32x256_S32x256_S32x256_S256x256_d0 (ix2 r t)
      = S ⟨r.val / 32, by omega⟩ t := by
  pointwise
  split_ifs <;> simp only [h0, h1, h2, h3, h4, h5, h6, h7] <;> congr 1 <;> apply Fin.ext <;>
    first
    | (show (0 : Nat) = r.val / 32; omega)
    | (show (1 : Nat) = r.val / 32; omega)
    | (show (2 : Nat) = r.val / 32; omega)
    | (show (3 : Nat) = r.val / 32; omega)
    | (show (4 : Nat) = r.val / 32; omega)
    | (show (5 : Nat) = r.val / 32; omega)
    | (show (6 : Nat) = r.val / 32; omega)
    | (show (7 : Nat) = r.val / 32; omega)

theorem kf_apply (W : FVec Ideal S512x256 .bf16) (w : IVec S128x256 32) (s0 s1 s2 s3 s4 s5 s6 s7 : FVec Ideal S32x256 .f32) (S : Fin 8 → Fin 256 → EReal)
    (h0 : ∀ i t, s0 (ix2 i t) = S 0 t) (h1 : ∀ i t, s1 (ix2 i t) = S 1 t) (h2 : ∀ i t, s2 (ix2 i t) = S 2 t) (h3 : ∀ i t, s3 (ix2 i t) = S 3 t)
    (h4 : ∀ i t, s4 (ix2 i t) = S 4 t) (h5 : ∀ i t, s5 (ix2 i t) = S 5 t) (h6 : ∀ i t, s6 (ix2 i t) = S 6 t) (h7 : ∀ i t, s7 (ix2 i t) = S 7 t)
    (c : Fin 512) (t : Fin 256) : kf W w s0 s1 s2 s3 s4 s5 s6 s7 (ix2 c t) =
      ∑ r : Fin 256, W (ix2 c r) * (((((w (ix2 ⟨r.val / 2, by omega⟩ t)).extractLsb' (16 * (r.val % 2)) 16).toInt : ℝ) : EReal) * S ⟨r.val / 32, by omega⟩ t) := by
  have hb := bitcast_half w
  have hs := scales_apply s0 s1 s2 s3 s4 s5 s6 s7 S h0 h1 h2 h3 h4 h5 h6 h7
  unfold kf
  generalize concatenate S256x256 0 _ _ = C at hs ⊢
  generalize bitcast S256x256 16 w _ = B at hb ⊢
  pointwise
  simp only [hs, hb]
  rfl

end Cert.KernelIdeal.Hand
-- ==== Proof.Ideal.Keys.lean ====
module

public import proofs.«01_k».proof.Proof.Ideal.TripK
public import proofs.«01_k».proof.Proof.Ideal.Rotate
public import proofs.«01_k».proof.Proof.Ideal.Codes

@[expose] public section

set_option maxRecDepth 16384
set_option maxHeartbeats 4000000

/-! A chunk's rotated keys, read back from the pieces they were stored in. -/

noncomputable section

namespace Cert.KernelIdeal.Hand

open Cert.KernelIdeal Cert.KernelIdeal.Gen Cert.Scores
open Idealize.ShloMosaic Idealize.ShloMosaic.TcCoe Idealize.SL.Sem

variable (arg5 : Memref sig .tc .vmem S54x64x256 .f32) (arg6 : Memref sig .tc .vmem S54x64x256 .f32) (arg8 : Memref sig .tc .vmem S2x9x256x128 .i32)
  (arg9 : Memref sig .tc .vmem S2x9x4x8x256 .f32) (arg10 : Memref sig .tc .vmem S16x512x256 .bf16) (arg11 : Memref sig .tc .vmem S2x512x128 .i32)
  (arg12 : Memref sig .tc .vmem S4x8x256 .f32) (arg13 : Memref sig .tc .vmem S2048x256 .bf16)
  (k0_t3 : Fin k0_t3_loop.trips) (v114 : Elt Ideal .i32) (k0_hw4 : k0_chk4 k0_t3 v114)
  (X5 : BufTy.Contents (Elt Ideal) arg5.view.ty) (X6 : BufTy.Contents (Elt Ideal) arg6.view.ty) (X8 : BufTy.Contents (Elt Ideal) arg8.view.ty) (X9 : BufTy.Contents (Elt Ideal) arg9.view.ty)
  (X10 : BufTy.Contents (Elt Ideal) arg10.view.ty) (k : Fin (k0_t8_loop v114).trips)

/-- The four groups' rebuilt keys. -/
def kG : Fin 4 → FVec Ideal S512x256 .f32 :=
  ![tripK.sl.r_2 (F := Ideal) arg8 arg9 arg10 arg11 arg12 k0_t3 v114 k0_hw4 X8 X9 X10 k, tripK.sl.r_8 (F := Ideal) arg8 arg9 arg10 arg11 arg12 k0_t3 v114 k0_hw4 X8 X9 X10 k,
    tripK.sl.r_15 (F := Ideal) arg8 arg9 arg10 arg11 arg12 k0_t3 v114 k0_hw4 X8 X9 X10 k, tripK.sl.r_27 (F := Ideal) arg8 arg9 arg10 arg11 arg12 k0_t3 v114 k0_hw4 X8 X9 X10 k]

/-- A chunk's rows of the table of cosines or of sines. -/
def csG : FVec Ideal S64x256 .f32 :=
  shapeCast S64x256 (View.readAt (Elt Ideal) arg5.view (Rect.unit (s := S54x64x256) (k0_off41 k0_t3 v114 k) S1x64x256.size (k0_off41_inb k0_t3 v114 k0_hw4 k)).toLoadRect X5) shapeCasts_S1x64x256_S64x256

theorem keys_pieces : ∀ p ∈ tripK.sl.HW13_32 (F := Ideal) arg5 arg6 arg8 arg9 arg10 arg11 arg12 k0_t3 v114 k0_hw4 X5 X6 X8 X9 X10 k, ∀ x : p.1.shape.Idx,
    p.2 x = rotB (kG arg8 arg9 arg10 arg11 arg12 k0_t3 v114 k0_hw4 X8 X9 X10 k) (csG arg5 k0_t3 v114 k0_hw4 X5 k) (csG arg6 k0_t3 v114 k0_hw4 X6 k) (p.1.emb x) := by
  unfold tripK.sl.HW13_32
  refine List.forall_mem_cons.mpr ⟨hi_piece (kG arg8 arg9 arg10 arg11 arg12 k0_t3 v114 k0_hw4 X8 X9 X10 k) (csG arg5 k0_t3 v114 k0_hw4 X5 k) (csG arg6 k0_t3 v114 k0_hw4 X6 k) 3 3 1984 384 448 rfl rfl rfl slices_S512x256_o384_0_S64x256 slices_S512x256_o448_0_S64x256 inb_S2048x256_S64x256_1984_0, ?_⟩
  refine List.forall_mem_cons.mpr ⟨lo_piece (kG arg8 arg9 arg10 arg11 arg12 k0_t3 v114 k0_hw4 X8 X9 X10 k) (csG arg5 k0_t3 v114 k0_hw4 X5 k) (csG arg6 k0_t3 v114 k0_hw4 X6 k) 3 3 1920 384 448 rfl rfl rfl slices_S512x256_o384_0_S64x256 slices_S512x256_o448_0_S64x256 inb_S2048x256_S64x256_1920_0, ?_⟩
  refine List.forall_mem_cons.mpr ⟨hi_piece (kG arg8 arg9 arg10 arg11 arg12 k0_t3 v114 k0_hw4 X8 X9 X10 k) (csG arg5 k0_t3 v114 k0_hw4 X5 k) (csG arg6 k0_t3 v114 k0_hw4 X6 k) 3 2 1856 256 320 rfl rfl rfl slices_S512x256_o256_0_S64x256 slices_S512x256_o320_0_S64x256 inb_S2048x256_S64x256_1856_0, ?_⟩
  refine List.forall_mem_cons.mpr ⟨lo_piece (kG arg8 arg9 arg10 arg11 arg12 k0_t3 v114 k0_hw4 X8 X9 X10 k) (csG arg5 k0_t3 v114 k0_hw4 X5 k) (csG arg6 k0_t3 v114 k0_hw4 X6 k) 3 2 1792 256 320 rfl rfl rfl slices_S512x256_o256_0_S64x256 slices_S512x256_o320_0_S64x256 inb_S2048x256_S64x256_1792_0, ?_⟩
  refine List.forall_mem_cons.mpr ⟨hi_piece (kG arg8 arg9 arg10 arg11 arg12 k0_t3 v114 k0_hw4 X8 X9 X10 k) (csG arg5 k0_t3 v114 k0_hw4 X5 k) (csG arg6 k0_t3 v114 k0_hw4 X6 k) 3 1 1728 128 192 rfl rfl rfl slices_S512x256_o128_0_S64x256 slices_S512x256_o192_0_S64x256 inb_S2048x256_S64x256_1728_0, ?_⟩
  refine List.forall_mem_cons.mpr ⟨lo_piece (kG arg8 arg9 arg10 arg11 arg12 k0_t3 v114 k0_hw4 X8 X9 X10 k) (csG arg5 k0_t3 v114 k0_hw4 X5 k) (csG arg6 k0_t3 v114 k0_hw4 X6 k) 3 1 1664 128 192 rfl rfl rfl slices_S512x256_o128_0_S64x256 slices_S512x256_o192_0_S64x256 inb_S2048x256_S64x256_1664_0, ?_⟩
  refine List.forall_mem_cons.mpr ⟨hi_piece (kG arg8 arg9 arg10 arg11 arg12 k0_t3 v114 k0_hw4 X8 X9 X10 k) (csG arg5 k0_t3 v114 k0_hw4 X5 k) (csG arg6 k0_t3 v114 k0_hw4 X6 k) 3 0 1600 0 64 rfl rfl rfl slices_S512x256_o0_0_S64x256 slices_S512x256_o64_0_S64x256 inb_S2048x256_S64x256_1600_0, ?_⟩
  refine List.forall_mem_cons.mpr ⟨lo_piece (kG arg8 arg9 arg10 arg11 arg12 k0_t3 v114 k0_hw4 X8 X9 X10 k) (csG arg5 k0_t3 v114 k0_hw4 X5 k) (csG arg6 k0_t3 v114 k0_hw4 X6 k) 3 0 1536 0 64 rfl rfl rfl slices_S512x256_o0_0_S64x256 slices_S512x256_o64_0_S64x256 inb_S2048x256_S64x256_1536_0, ?_⟩
  refine List.forall_mem_cons.mpr ⟨hi_piece (kG arg8 arg9 arg10 arg11 arg12 k0_t3 v114 k0_hw4 X8 X9 X10 k) (csG arg5 k0_t3 v114 k0_hw4 X5 k) (csG arg6 k0_t3 v114 k0_hw4 X6 k) 2 3 1472 384 448 rfl rfl rfl slices_S512x256_o384_0_S64x256 slices_S512x256_o448_0_S64x256 inb_S2048x256_S64x256_1472_0, ?_⟩
  refine List.forall_mem_cons.mpr ⟨lo_piece (kG arg8 arg9 arg10 arg11 arg12 k0_t3 v114 k0_hw4 X8 X9 X10 k) (csG arg5 k0_t3 v114 k0_hw4 X5 k) (csG arg6 k0_t3 v114 k0_hw4 X6 k) 2 3 1408 384 448 rfl rfl rfl slices_S512x256_o384_0_S64x256 slices_S512x256_o448_0_S64x256 inb_S2048x256_S64x256_1408_0, ?_⟩
  refine List.forall_mem_cons.mpr ⟨hi_piece (kG arg8 arg9 arg10 arg11 arg12 k0_t3 v114 k0_hw4 X8 X9 X10 k) (csG arg5 k0_t3 v114 k0_hw4 X5 k) (csG arg6 k0_t3 v114 k0_hw4 X6 k) 2 2 1344 256 320 rfl rfl rfl slices_S512x256_o256_0_S64x256 slices_S512x256_o320_0_S64x256 inb_S2048x256_S64x256_1344_0, ?_⟩
  refine List.forall_mem_cons.mpr ⟨lo_piece (kG arg8 arg9 arg10 arg11 arg12 k0_t3 v114 k0_hw4 X8 X9 X10 k) (csG arg5 k0_t3 v114 k0_hw4 X5 k) (csG arg6 k0_t3 v114 k0_hw4 X6 k) 2 2 1280 256 320 rfl rfl rfl slices_S512x256_o256_0_S64x256 slices_S512x256_o320_0_S64x256 inb_S2048x256_S64x256_1280_0, ?_⟩
  refine List.forall_mem_cons.mpr ⟨hi_piece (kG arg8 arg9 arg10 arg11 arg12 k0_t3 v114 k0_hw4 X8 X9 X10 k) (csG arg5 k0_t3 v114 k0_hw4 X5 k) (csG arg6 k0_t3 v114 k0_hw4 X6 k) 2 1 1216 128 192 rfl rfl rfl slices_S512x256_o128_0_S64x256 slices_S512x256_o192_0_S64x256 inb_S2048x256_S64x256_1216_0, ?_⟩
  refine List.forall_mem_cons.mpr ⟨lo_piece (kG arg8 arg9 arg10 arg11 arg12 k0_t3 v114 k0_hw4 X8 X9 X10 k) (csG arg5 k0_t3 v114 k0_hw4 X5 k) (csG arg6 k0_t3 v114 k0_hw4 X6 k) 2 1 1152 128 192 rfl rfl rfl slices_S512x256_o128_0_S64x256 slices_S512x256_o192_0_S64x256 inb_S2048x256_S64x256_1152_0, ?_⟩
  refine List.forall_mem_cons.mpr ⟨hi_piece (kG arg8 arg9 arg10 arg11 arg12 k0_t3 v114 k0_hw4 X8 X9 X10 k) (csG arg5 k0_t3 v114 k0_hw4 X5 k) (csG arg6 k0_t3 v114 k0_hw4 X6 k) 2 0 1088 0 64 rfl rfl rfl slices_S512x256_o0_0_S64x256 slices_S512x256_o64_0_S64x256 inb_S2048x256_S64x256_1088_0, ?_⟩
  refine List.forall_mem_cons.mpr ⟨lo_piece (kG arg8 arg9 arg10 arg11 arg12 k0_t3 v114 k0_hw4 X8 X9 X10 k) (csG arg5 k0_t3 v114 k0_hw4 X5 k) (csG arg6 k0_t3 v114 k0_hw4 X6 k) 2 0 1024 0 64 rfl rfl rfl slices_S512x256_o0_0_S64x256 slices_S512x256_o64_0_S64x256 inb_S2048x256_S64x256_1024_0, ?_⟩
  refine List.forall_mem_cons.mpr ⟨hi_piece (kG arg8 arg9 arg10 arg11 arg12 k0_t3 v114 k0_hw4 X8 X9 X10 k) (csG arg5 k0_t3 v114 k0_hw4 X5 k) (csG arg6 k0_t3 v114 k0_hw4 X6 k) 1 3 960 384 448 rfl rfl rfl slices_S512x256_o384_0_S64x256 slices_S512x256_o448_0_S64x256 inb_S2048x256_S64x256_960_0, ?_⟩
  refine List.forall_mem_cons.mpr ⟨lo_piece (kG arg8 arg9 arg10 arg11 arg12 k0_t3 v114 k0_hw4 X8 X9 X10 k) (csG arg5 k0_t3 v114 k0_hw4 X5 k) (csG arg6 k0_t3 v114 k0_hw4 X6 k) 1 3 896 384 448 rfl rfl rfl slices_S512x256_o384_0_S64x256 slices_S512x256_o448_0_S64x256 inb_S2048x256_S64x256_896_0, ?_⟩
  refine List.forall_mem_cons.mpr ⟨hi_piece (kG arg8 arg9 arg10 arg11 arg12 k0_t3 v114 k0_hw4 X8 X9 X10 k) (csG arg5 k0_t3 v114 k0_hw4 X5 k) (csG arg6 k0_t3 v114 k0_hw4 X6 k) 1 2 832 256 320 rfl rfl rfl slices_S512x256_o256_0_S64x256 slices_S512x256_o320_0_S64x256 inb_S2048x256_S64x256_832_0, ?_⟩
  refine List.forall_mem_cons.mpr ⟨lo_piece (kG arg8 arg9 arg10 arg11 arg12 k0_t3 v114 k0_hw4 X8 X9 X10 k) (csG arg5 k0_t3 v114 k0_hw4 X5 k) (csG arg6 k0_t3 v114 k0_hw4 X6 k) 1 2 768 256 320 rfl rfl rfl slices_S512x256_o256_0_S64x256 slices_S512x256_o320_0_S64x256 inb_S2048x256_S64x256_768_0, ?_⟩
  refine List.forall_mem_cons.mpr ⟨hi_piece (kG arg8 arg9 arg10 arg11 arg12 k0_t3 v114 k0_hw4 X8 X9 X10 k) (csG arg5 k0_t3 v114 k0_hw4 X5 k) (csG arg6 k0_t3 v114 k0_hw4 X6 k) 1 1 704 128 192 rfl rfl rfl slices_S512x256_o128_0_S64x256 slices_S512x256_o192_0_S64x256 inb_S2048x256_S64x256_704_0, ?_⟩
  refine List.forall_mem_cons.mpr ⟨lo_piece (kG arg8 arg9 arg10 arg11 arg12 k0_t3 v114 k0_hw4 X8 X9 X10 k) (csG arg5 k0_t3 v114 k0_hw4 X5 k) (csG arg6 k0_t3 v114 k0_hw4 X6 k) 1 1 640 128 192 rfl rfl rfl slices_S512x256_o128_0_S64x256 slices_S512x256_o192_0_S64x256 inb_S2048x256_S64x256_640_0, ?_⟩
  refine List.forall_mem_cons.mpr ⟨hi_piece (kG arg8 arg9 arg10 arg11 arg12 k0_t3 v114 k0_hw4 X8 X9 X10 k) (csG arg5 k0_t3 v114 k0_hw4 X5 k) (csG arg6 k0_t3 v114 k0_hw4 X6 k) 1 0 576 0 64 rfl rfl rfl slices_S512x256_o0_0_S64x256 slices_S512x256_o64_0_S64x256 inb_S2048x256_S64x256_576_0, ?_⟩
  refine List.forall_mem_cons.mpr ⟨lo_piece (kG arg8 arg9 arg10 arg11 arg12 k0_t3 v114 k0_hw4 X8 X9 X10 k) (csG arg5 k0_t3 v114 k0_hw4 X5 k) (csG arg6 k0_t3 v114 k0_hw4 X6 k) 1 0 512 0 64 rfl rfl rfl slices_S512x256_o0_0_S64x256 slices_S512x256_o64_0_S64x256 inb_S2048x256_S64x256_512_0, ?_⟩
  refine List.forall_mem_cons.mpr ⟨hi_piece (kG arg8 arg9 arg10 arg11 arg12 k0_t3 v114 k0_hw4 X8 X9 X10 k) (csG arg5 k0_t3 v114 k0_hw4 X5 k) (csG arg6 k0_t3 v114 k0_hw4 X6 k) 0 3 448 384 448 rfl rfl rfl slices_S512x256_o384_0_S64x256 slices_S512x256_o448_0_S64x256 inb_S2048x256_S64x256_448_0, ?_⟩
  refine List.forall_mem_cons.mpr ⟨lo_piece (kG arg8 arg9 arg10 arg11 arg12 k0_t3 v114 k0_hw4 X8 X9 X10 k) (csG arg5 k0_t3 v114 k0_hw4 X5 k) (csG arg6 k0_t3 v114 k0_hw4 X6 k) 0 3 384 384 448 rfl rfl rfl slices_S512x256_o384_0_S64x256 slices_S512x256_o448_0_S64x256 inb_S2048x256_S64x256_384_0, ?_⟩
  refine List.forall_mem_cons.mpr ⟨hi_piece (kG arg8 arg9 arg10 arg11 arg12 k0_t3 v114 k0_hw4 X8 X9 X10 k) (csG arg5 k0_t3 v114 k0_hw4 X5 k) (csG arg6 k0_t3 v114 k0_hw4 X6 k) 0 2 320 256 320 rfl rfl rfl slices_S512x256_o256_0_S64x256 slices_S512x256_o320_0_S64x256 inb_S2048x256_S64x256_320_0, ?_⟩
  refine List.forall_mem_cons.mpr ⟨lo_piece (kG arg8 arg9 arg10 arg11 arg12 k0_t3 v114 k0_hw4 X8 X9 X10 k) (csG arg5 k0_t3 v114 k0_hw4 X5 k) (csG arg6 k0_t3 v114 k0_hw4 X6 k) 0 2 256 256 320 rfl rfl rfl slices_S512x256_o256_0_S64x256 slices_S512x256_o320_0_S64x256 inb_S2048x256_S64x256_256_0, ?_⟩
  refine List.forall_mem_cons.mpr ⟨hi_piece (kG arg8 arg9 arg10 arg11 arg12 k0_t3 v114 k0_hw4 X8 X9 X10 k) (csG arg5 k0_t3 v114 k0_hw4 X5 k) (csG arg6 k0_t3 v114 k0_hw4 X6 k) 0 1 192 128 192 rfl rfl rfl slices_S512x256_o128_0_S64x256 slices_S512x256_o192_0_S64x256 inb_S2048x256_S64x256_192_0, ?_⟩
  refine List.forall_mem_cons.mpr ⟨lo_piece (kG arg8 arg9 arg10 arg11 arg12 k0_t3 v114 k0_hw4 X8 X9 X10 k) (csG arg5 k0_t3 v114 k0_hw4 X5 k) (csG arg6 k0_t3 v114 k0_hw4 X6 k) 0 1 128 128 192 rfl rfl rfl slices_S512x256_o128_0_S64x256 slices_S512x256_o192_0_S64x256 inb_S2048x256_S64x256_128_0, ?_⟩
  refine List.forall_mem_cons.mpr ⟨hi_piece (kG arg8 arg9 arg10 arg11 arg12 k0_t3 v114 k0_hw4 X8 X9 X10 k) (csG arg5 k0_t3 v114 k0_hw4 X5 k) (csG arg6 k0_t3 v114 k0_hw4 X6 k) 0 0 64 0 64 rfl rfl rfl slices_S512x256_o0_0_S64x256 slices_S512x256_o64_0_S64x256 inb_S2048x256_S64x256_64_0, ?_⟩
  refine List.forall_mem_cons.mpr ⟨lo_piece (kG arg8 arg9 arg10 arg11 arg12 k0_t3 v114 k0_hw4 X8 X9 X10 k) (csG arg5 k0_t3 v114 k0_hw4 X5 k) (csG arg6 k0_t3 v114 k0_hw4 X6 k) 0 0 0 0 64 rfl rfl rfl slices_S512x256_o0_0_S64x256 slices_S512x256_o64_0_S64x256 inb_S2048x256_S64x256_0_0, ?_⟩
  intro p hp; exact absurd hp List.not_mem_nil

/-- The rows 64 n to 64 n + 63 for n from 0 to 31 are all rows. -/
theorem keys_cover (y : S2048x256.Idx) : ∃ p ∈ tripK.sl.HW13_32 (F := Ideal) arg5 arg6 arg8 arg9 arg10 arg11 arg12 k0_t3 v114 k0_hw4 X5 X6 X8 X9 X10 k, y ∈ p.1.set :=
  View.cover_of_tiledL (s := S2048x256) (tripK.sl.HW13_32 (F := Ideal) arg5 arg6 arg8 arg9 arg10 arg11 arg12 k0_t3 v114 k0_hw4 X5 X6 X8 X9 X10 k) S64x256.size (by rfl) y

theorem keys_read (B : LoadRect S2048x256) : arg13.view.readCov (tripK.sl.HW13_32 (F := Ideal) arg5 arg6 arg8 arg9 arg10 arg11 arg12 k0_t3 v114 k0_hw4 X5 X6 X8 X9 X10 k) B =
    fun j => rotB (kG arg8 arg9 arg10 arg11 arg12 k0_t3 v114 k0_hw4 X8 X9 X10 k) (csG arg5 k0_t3 v114 k0_hw4 X5 k) (csG arg6 k0_t3 v114 k0_hw4 X6 k) (B.idx j) := by
  rw [View.readCov_eq_canon']
  funext j
  exact View.canon_apply_of_pieces _ _ (keys_pieces arg5 arg6 arg8 arg9 arg10 arg11 arg12 k0_t3 v114 k0_hw4 X5 X6 X8 X9 X10 k) _ (keys_cover arg5 arg6 arg8 arg9 arg10 arg11 arg12 k0_t3 v114 k0_hw4 X5 X6 X8 X9 X10 k _)

end Cert.KernelIdeal.Hand
-- ==== Proof.Ideal.Rebuilt.lean ====
module

public import proofs.«01_k».proof.Proof.Ideal.Keys

@[expose] public section

set_option maxRecDepth 16384
set_option maxHeartbeats 4000000

/-! A chunk's rebuilt keys from its words, scales and weights. -/

noncomputable section

namespace Cert.KernelIdeal.Hand

open Cert.KernelIdeal Cert.KernelIdeal.Gen Cert.Scores
open Idealize.ShloMosaic Idealize.ShloMosaic.TcCoe Idealize.SL.Sem

variable (arg5 : Memref sig .tc .vmem S54x64x256 .f32) (arg6 : Memref sig .tc .vmem S54x64x256 .f32) (arg8 : Memref sig .tc .vmem S2x9x256x128 .i32)
  (arg9 : Memref sig .tc .vmem S2x9x4x8x256 .f32) (arg10 : Memref sig .tc .vmem S16x512x256 .bf16) (arg11 : Memref sig .tc .vmem S2x512x128 .i32)
  (arg12 : Memref sig .tc .vmem S4x8x256 .f32) (arg13 : Memref sig .tc .vmem S2048x256 .bf16)
  (k0_t3 : Fin k0_t3_loop.trips) (v114 : Elt Ideal .i32) (k0_hw4 : k0_chk4 k0_t3 v114)
  (X5 : BufTy.Contents (Elt Ideal) arg5.view.ty) (X6 : BufTy.Contents (Elt Ideal) arg6.view.ty) (X8 : BufTy.Contents (Elt Ideal) arg8.view.ty) (X9 : BufTy.Contents (Elt Ideal) arg9.view.ty)
  (X10 : BufTy.Contents (Elt Ideal) arg10.view.ty) (k : Fin (k0_t8_loop v114).trips)

/-- The two pieces of the unpacked words: one matrix, its two halves of columns side by side. -/
theorem words_read (B : LoadRect S2x512x128) : arg11.view.readCov (tripK.sl.HW11_2 (F := Ideal) arg8 k0_t3 v114 k0_hw4 X8 k) B =
    fun j => k0_pay1 (tripK.sl.v416 (F := Ideal) arg8 k0_t3 v114 k0_hw4 X8 k) (ix2 (B.idx j 1) ⟨(B.idx j 0).val * 128 + (B.idx j 2).val, by
      have h0 : (B.idx j 0).val < 2 := (B.idx j 0).isLt; have h2 : (B.idx j 2).val < 128 := (B.idx j 2).isLt; omega⟩) := by
  rw [View.readCov_eq_canon']
  funext j
  refine View.canon_apply_of_pieces (fun y : S2x512x128.Idx => k0_pay1 (tripK.sl.v416 (F := Ideal) arg8 k0_t3 v114 k0_hw4 X8 k) (ix2 (y 1) ⟨(y 0).val * 128 + (y 2).val, by
      have h0 : (y 0).val < 2 := (y 0).isLt; have h2 : (y 2).val < 128 := (y 2).isLt; omega⟩)) _ ?_ _
    (View.cover_of_tiledL (s := S2x512x128) (tripK.sl.HW11_2 (F := Ideal) arg8 k0_t3 v114 k0_hw4 X8 k) S1x512x128.size (by rfl) _)
  unfold tripK.sl.HW11_2
  generalize tripK.sl.v416 (F := Ideal) arg8 k0_t3 v114 k0_hw4 X8 k = w
  refine List.forall_mem_cons.mpr ⟨fun x => ?_, List.forall_mem_cons.mpr ⟨fun x => ?_, fun p hp => absurd hp List.not_mem_nil⟩⟩
  · obtain ⟨a, r, l, rfl⟩ : ∃ (a : Fin 1) (r : Fin 512) (l : Fin 128), x = ix3 a r l := ⟨x 0, x 1, x 2, by funext i; match i with | ⟨0, _⟩ => rfl | ⟨1, _⟩ => rfl | ⟨2, _⟩ => rfl⟩
    have e : k0_pay3 w (ix3 a r l) = k0_pay1 w (ix2 r ⟨128 + l.val, by omega⟩) := by
      unfold k0_pay3; generalize k0_pay1 w = D; pointwise
    refine e.trans (congrArg _ ?_)
    funext i
    match i with
    | ⟨0, _⟩ => exact Fin.ext (by show r.val = 0 + 1 * r.val; omega)
    | ⟨1, _⟩ => exact Fin.ext (by show 128 + l.val = (1 + 1 * a.val) * 128 + (0 + 1 * l.val); omega)
  · obtain ⟨a, r, l, rfl⟩ : ∃ (a : Fin 1) (r : Fin 512) (l : Fin 128), x = ix3 a r l := ⟨x 0, x 1, x 2, by funext i; match i with | ⟨0, _⟩ => rfl | ⟨1, _⟩ => rfl | ⟨2, _⟩ => rfl⟩
    have e : k0_pay2 w (ix3 a r l) = k0_pay1 w (ix2 r ⟨l.val, by omega⟩) := by
      unfold k0_pay2; generalize k0_pay1 w = D; pointwise
    refine e.trans (congrArg _ ?_)
    funext i
    match i with
    | ⟨0, _⟩ => exact Fin.ext (by show r.val = 0 + 1 * r.val; omega)
    | ⟨1, _⟩ => exact Fin.ext (by show l.val = (0 + 1 * a.val) * 128 + (0 + 1 * l.val); omega)

/-- The four groups' scales of a chunk. -/
def svec : Fin 4 → Vec Ideal S1x1x1x8x256 .f32 :=
  ![tripK.sl.v444 (F := Ideal) arg9 k0_t3 v114 k0_hw4 X9 k, tripK.sl.v453 (F := Ideal) arg9 k0_t3 v114 k0_hw4 X9 k, tripK.sl.v462 (F := Ideal) arg9 k0_t3 v114 k0_hw4 X9 k, tripK.sl.v471 (F := Ideal) arg9 k0_t3 v114 k0_hw4 X9 k]

theorem scale_piece (v : Vec Ideal S1x1x1x8x256 .f32) (a : Fin 1) (m : Fin 8) (l : Fin 256) : k0_pay4 v (ix3 a m l) = v (ix5 0 0 0 m l) := by
  pointwise [k0_pay4]

theorem scales_read (B : LoadRect S4x8x256) : arg12.view.readCov (tripK.sl.HW12_4 (F := Ideal) arg9 k0_t3 v114 k0_hw4 X9 k) B =
    fun j => svec arg9 k0_t3 v114 k0_hw4 X9 k (B.idx j 0) (ix5 0 0 0 (B.idx j 1) (B.idx j 2)) := by
  rw [View.readCov_eq_canon']
  funext j
  refine View.canon_apply_of_pieces (fun y : S4x8x256.Idx => svec arg9 k0_t3 v114 k0_hw4 X9 k (y 0) (ix5 0 0 0 (y 1) (y 2))) _ ?_ _
    (View.cover_of_tiledL (s := S4x8x256) (tripK.sl.HW12_4 (F := Ideal) arg9 k0_t3 v114 k0_hw4 X9 k) S1x8x256.size (by rfl) _)
  have key : ∀ (g : Fin 4) (o : ℕ) (ho : o = g.val) (inb : ∀ i, (![o, 0, 0] : Fin 3 → ℕ) i + S1x8x256.size i ≤ S4x8x256.size i) (x : S1x8x256.Idx),
      k0_pay4 (svec arg9 k0_t3 v114 k0_hw4 X9 k g) x = (fun y : S4x8x256.Idx => svec arg9 k0_t3 v114 k0_hw4 X9 k (y 0) (ix5 0 0 0 (y 1) (y 2))) ((Rect.unit (s := S4x8x256) ![o, 0, 0] S1x8x256.size inb).emb x) := by
    intro g o ho inb x
    subst ho
    obtain ⟨a, r, l, rfl⟩ : ∃ (a : Fin 1) (r : Fin 8) (l : Fin 256), x = ix3 a r l := ⟨x 0, x 1, x 2, by funext i; match i with | ⟨0, _⟩ => rfl | ⟨1, _⟩ => rfl | ⟨2, _⟩ => rfl⟩
    rw [scale_piece]
    have e0 : (Rect.unit (s := S4x8x256) ![g.val, 0, 0] S1x8x256.size inb).emb (ix3 a r l) 0 = g := Fin.ext (by show g.val + 1 * a.val = g.val; omega)
    have e1 : (Rect.unit (s := S4x8x256) ![g.val, 0, 0] S1x8x256.size inb).emb (ix3 a r l) 1 = r := Fin.ext (by show 0 + 1 * r.val = r.val; omega)
    have e2 : (Rect.unit (s := S4x8x256) ![g.val, 0, 0] S1x8x256.size inb).emb (ix3 a r l) 2 = l := Fin.ext (by show 0 + 1 * l.val = l.val; omega)
    simp only [e0, e1, e2]
  unfold tripK.sl.HW12_4
  exact List.forall_mem_cons.mpr ⟨key 3 3 rfl inb_S4x8x256_S1x8x256_3_0_0, List.forall_mem_cons.mpr ⟨key 2 2 rfl inb_S4x8x256_S1x8x256_2_0_0,
    List.forall_mem_cons.mpr ⟨key 1 1 rfl inb_S4x8x256_S1x8x256_1_0_0, List.forall_mem_cons.mpr ⟨key 0 0 rfl inb_S4x8x256_S1x8x256_0_0_0, fun p hp => absurd hp List.not_mem_nil⟩⟩⟩⟩

theorem side_by_side (a b : S1x128x128.Idx → BitVec 32) (r : Fin 128) (t : Fin 256) :
    concatenate S128x256 1 [⟨S128x128, shapeCast S128x128 a shapeCasts_S1x128x128_S128x128⟩, ⟨S128x128, shapeCast S128x128 b shapeCasts_S1x128x128_S128x128⟩]
      concatenates_S128x128_S128x128_S128x256_d1 (ix2 r t) = if h : t.val < 128 then a (ix3 0 r ⟨t.val, h⟩) else b (ix3 0 r ⟨t.val - 128, by omega⟩) := by
  pointwise

/-- Group `g`'s words: every fourth row. -/
def wB (g : Fin 4) : IVec S128x256 32 := concatenate S128x256 1
  [⟨S128x128, shapeCast S128x128 (arg11.view.readCov (tripK.sl.HW11_2 (F := Ideal) arg8 k0_t3 v114 k0_hw4 X8 k) ⟨![0, g.val, 0], S1x128x128.size, ![1, 4, 1], by intro a; fin_cases a <;> simp <;> omega⟩) shapeCasts_S1x128x128_S128x128⟩,
   ⟨S128x128, shapeCast S128x128 (arg11.view.readCov (tripK.sl.HW11_2 (F := Ideal) arg8 k0_t3 v114 k0_hw4 X8 k) ⟨![1, g.val, 0], S1x128x128.size, ![1, 4, 1], by intro a; fin_cases a <;> simp <;> omega⟩) shapeCasts_S1x128x128_S128x128⟩]
  concatenates_S128x128_S128x128_S128x256_d1

theorem wB_apply (g : Fin 4) (r : Fin 128) (t : Fin 256) : wB arg8 arg11 k0_t3 v114 k0_hw4 X8 k g (ix2 r t) =
    dword (BitVec.extractLsb' (8 * g.val) 8 (tripK.sl.v416 (F := Ideal) arg8 k0_t3 v114 k0_hw4 X8 k (ix4 0 0 t r) : BitVec 32)) := by
  rw [← pay1_apply]
  unfold wB
  rw [words_read, words_read, side_by_side]
  have ht := t.isLt
  by_cases h : t.val < 128
  · rw [dif_pos h]
    refine congrArg _ ?_
    funext i
    match i with
    | ⟨0, _⟩ => exact Fin.ext (by show g.val + 4 * r.val = 4 * r.val + g.val; omega)
    | ⟨1, _⟩ => exact Fin.ext (by show (0 + 1 * 0) * 128 + (0 + 1 * t.val) = t.val; omega)
  · rw [dif_neg h]
    refine congrArg _ ?_
    funext i
    match i with
    | ⟨0, _⟩ => exact Fin.ext (by show g.val + 4 * r.val = 4 * r.val + g.val; omega)
    | ⟨1, _⟩ => exact Fin.ext (by show (1 + 1 * 0) * 128 + (0 + 1 * (t.val - 128)) = t.val; omega)

/-- A group's scale row, on thirty-two rows. -/
def sB (g : Fin 4) (m : Fin 8) : FVec Ideal S32x256 .f32 :=
  broadcastTo S32x256 (shapeCast S1x256 (shapeCast S1x256 (arg12.view.readCov (tripK.sl.HW12_4 (F := Ideal) arg9 k0_t3 v114 k0_hw4 X9 k)
    (Rect.unit (s := S4x8x256) ![g.val, m.val, 0] S1x1x256.size (by intro a; fin_cases a <;> simp <;> omega)).toLoadRect) shapeCasts_S1x1x256_S1x256) shapeCasts_S1x256_S1x256) broadcasts_S1x256_S32x256

theorem sB_apply (g : Fin 4) (m : Fin 8) (i : Fin 32) (t : Fin 256) : sB arg9 arg12 k0_t3 v114 k0_hw4 X9 k g m (ix2 i t) = svec arg9 k0_t3 v114 k0_hw4 X9 k g (ix5 0 0 0 m t) := by
  unfold sB
  rw [scales_read]
  generalize svec arg9 k0_t3 v114 k0_hw4 X9 k = D
  pointwise

/-- Group `g`'s weights, transposed. -/
def wtG (g : Fin 4) : FVec Ideal S512x256 .bf16 :=
  shapeCast S512x256 (View.readAt (Elt Ideal) arg10.view (Rect.unit (s := S16x512x256) (k0_off40 k0_t3 (BitVec.ofNat 32 g.val)) S1x512x256.size (k0_off40_inb k0_t3 g)).toLoadRect X10) shapeCasts_S1x512x256_S512x256

theorem kG_eq (g : Fin 4) : kG arg8 arg9 arg10 arg11 arg12 k0_t3 v114 k0_hw4 X8 X9 X10 k g = kf (wtG arg10 k0_t3 X10 g) (wB arg8 arg11 k0_t3 v114 k0_hw4 X8 k g)
    (sB arg9 arg12 k0_t3 v114 k0_hw4 X9 k g 0) (sB arg9 arg12 k0_t3 v114 k0_hw4 X9 k g 1) (sB arg9 arg12 k0_t3 v114 k0_hw4 X9 k g 2) (sB arg9 arg12 k0_t3 v114 k0_hw4 X9 k g 3)
    (sB arg9 arg12 k0_t3 v114 k0_hw4 X9 k g 4) (sB arg9 arg12 k0_t3 v114 k0_hw4 X9 k g 5) (sB arg9 arg12 k0_t3 v114 k0_hw4 X9 k g 6) (sB arg9 arg12 k0_t3 v114 k0_hw4 X9 k g 7) := by
  match g with
  | 0 => rfl
  | 1 => rfl
  | 2 => rfl
  | 3 => rfl

theorem sum_halves (f : Fin 256 → EReal) : ∑ r, f r = (∑ r, f (row2 r 0)) + ∑ r, f (row2 r 1) := by
  rw [← (finProdFinEquiv (m := 128) (n := 2)).sum_comp, Fintype.sum_prod_type, ← Finset.sum_add_distrib]
  refine Finset.sum_congr rfl fun r _ => ?_
  rw [Fin.sum_univ_two]
  exact congrArg₂ (· + ·) (congrArg f (Fin.ext (by show 0 + 2 * r.val = 2 * r.val + 0; omega))) (congrArg f (Fin.ext (by show 1 + 2 * r.val = 2 * r.val + 1; omega)))

/-- The rebuilt keys of a chunk's group, entry by entry. -/
theorem kG_apply (g : Fin 4) (c : Fin 512) (t : Fin 256) : kG arg8 arg9 arg10 arg11 arg12 k0_t3 v114 k0_hw4 X8 X9 X10 k g (ix2 c t) =
    (∑ r : Fin 128, wtG arg10 k0_t3 X10 g (ix2 c (row2 r 0)) * (nib 0 (BitVec.extractLsb' (8 * g.val) 8 (tripK.sl.v416 (F := Ideal) arg8 k0_t3 v114 k0_hw4 X8 k (ix4 0 0 t r) : BitVec 32)) * svec arg9 k0_t3 v114 k0_hw4 X9 k g (ix5 0 0 0 (blk r) t)))
    + ∑ r : Fin 128, wtG arg10 k0_t3 X10 g (ix2 c (row2 r 1)) * (nib 1 (BitVec.extractLsb' (8 * g.val) 8 (tripK.sl.v416 (F := Ideal) arg8 k0_t3 v114 k0_hw4 X8 k (ix4 0 0 t r) : BitVec 32)) * svec arg9 k0_t3 v114 k0_hw4 X9 k g (ix5 0 0 0 (blk r) t)) := by
  rw [kG_eq, kf_apply _ _ _ _ _ _ _ _ _ _ (fun m t => svec arg9 k0_t3 v114 k0_hw4 X9 k g (ix5 0 0 0 m t)) (sB_apply _ _ _ _ _ _ _ g 0) (sB_apply _ _ _ _ _ _ _ g 1) (sB_apply _ _ _ _ _ _ _ g 2)
    (sB_apply _ _ _ _ _ _ _ g 3) (sB_apply _ _ _ _ _ _ _ g 4) (sB_apply _ _ _ _ _ _ _ g 5) (sB_apply _ _ _ _ _ _ _ g 6) (sB_apply _ _ _ _ _ _ _ g 7), sum_halves]
  congr 1
  · refine Finset.sum_congr rfl fun r _ => ?_
    have e1 : (⟨(row2 r 0).val / 2, by omega⟩ : Fin 128) = r := Fin.ext (by show (2 * r.val + 0) / 2 = r.val; omega)
    have e2 : (row2 r 0).val % 2 = 0 := by show (2 * r.val + 0) % 2 = 0; omega
    have e3 : (⟨(row2 r 0).val / 32, by omega⟩ : Fin 8) = blk r := Fin.ext (by show (2 * r.val + 0) / 32 = r.val / 16; omega)
    rw [e1, e2, e3, wB_apply, dword_lo]; rfl
  · refine Finset.sum_congr rfl fun r _ => ?_
    have e1 : (⟨(row2 r 1).val / 2, by omega⟩ : Fin 128) = r := Fin.ext (by show (2 * r.val + 1) / 2 = r.val; omega)
    have e2 : (row2 r 1).val % 2 = 1 := by show (2 * r.val + 1) % 2 = 1; omega
    have e3 : (⟨(row2 r 1).val / 32, by omega⟩ : Fin 8) = blk r := Fin.ext (by show (2 * r.val + 1) / 32 = r.val / 16; omega)
    rw [e1, e2, e3, wB_apply, dword_hi]; rfl

end Cert.KernelIdeal.Hand
-- ==== Proof.Ideal.Score.lean ====
module

public import proofs.«01_k».proof.Proof.Ideal.Rebuilt
public import proofs.«01_k».proof.Proof.Ideal.Unit

@[expose] public section

set_option maxRecDepth 16384
set_option maxHeartbeats 4000000

/-! A chunk's scores: the block-diagonal query against the rotated keys. -/

noncomputable section

namespace Cert.KernelIdeal.Hand

open Cert.KernelIdeal Cert.KernelIdeal.Gen Cert.Scores
open Idealize.ShloMosaic Idealize.ShloMosaic.TcCoe Idealize.SL.Sem

/-- The row numbers of the mask of a block-diagonal query. -/
abbrev rows108 : IVec S16x128 32 := iota .tc S16x128 32 [0] iota_S16x128_d0_w32

/-- The block-diagonal query: head `i`'s row holds its query in columns `128 i` to `128 i + 127`, zero elsewhere. -/
def qdiag (q : Vec Ideal S1x16x128 .f32) (i : Fin 16) (r : Fin 2048) : EReal :=
  if r.val / 128 = i.val then q (ix3 0 i ⟨r.val % 128, by omega⟩) else 0

theorem eqw : ∀ (i g : Fin 16), (BitVec.ofNat 32 i.val == BitVec.ofNat 32 g.val) = decide (g.val = i.val) := by decide +kernel

theorem qmask_apply (q : Vec Ideal S1x16x128 .f32) (g : Fin 16) (i : Fin 16) (d : Fin 128) :
    qmask (F := Ideal) rows108 q (BitVec.ofNat 32 g.val) (ix2 i d) = if g.val = i.val then q (ix3 0 i d) else 0 := by
  pointwise [qmask]
  show Scalar.select (BitVec.ofBool (BitVec.ofNat 32 i.val == BitVec.ofNat 32 g.val)) _ _ = _
  rw [eqw]
  by_cases h : g.val = i.val
  · simp only [h, decide_true]; rfl
  · simp only [h, decide_false, if_false]; rfl

theorem qpiece (q : Vec Ideal S1x16x128 .f32) (g : Fin 16) (o : ℕ) (ho : o = 128 * g.val)
    (inb : ∀ a, (![0, o] : Fin 2 → ℕ) a + S16x128.size a ≤ S16x2048.size a) (x : S16x128.Idx) :
    qmask (F := Ideal) rows108 q (BitVec.ofNat 32 g.val) x = (fun y : S16x2048.Idx => qdiag q (y 0) (y 1)) ((Rect.unit (s := S16x2048) ![0, o] S16x128.size inb).emb x) := by
  obtain ⟨i, d, rfl⟩ : ∃ (i : Fin 16) (d : Fin 128), x = ix2 i d := ⟨x 0, x 1, by funext i; match i with | ⟨0, _⟩ => rfl | ⟨1, _⟩ => rfl⟩
  rw [qmask_apply]
  have e0 : (Rect.unit (s := S16x2048) ![0, o] S16x128.size inb).emb (ix2 i d) 0 = i := Fin.ext (by show 0 + 1 * i.val = i.val; omega)
  have e1 : (Rect.unit (s := S16x2048) ![0, o] S16x128.size inb).emb (ix2 i d) 1 = (⟨o + d.val, by omega⟩ : Fin 2048) := Fin.ext (by show o + 1 * d.val = o + d.val; omega)
  simp only [e0, e1]
  unfold qdiag
  have h1 : (o + d.val) / 128 = g.val := by omega
  have h2 : (o + d.val) % 128 = d.val := by omega
  simp only [h1, h2]

theorem qbuf_read (arg3 : Memref sig .tc .vmem S6x64x128 .f32) (arg15 : Memref sig .tc .vmem S16x2048 .bf16) (X3 : BufTy.Contents (Elt Ideal) arg3.view.ty)
    (t : Fin k0_t3_loop.trips) (B : LoadRect S16x2048) : View.readAt (Elt Ideal) arg15.view B (qbuf (F := Ideal) arg3 arg15 X3 rows108 t) =
    fun j => qdiag (View.readAt (Elt Ideal) arg3.view (Rect.unit (s := S6x64x128) (k0_off24 t) S1x16x128.size (k0_off24_inb t)).toLoadRect X3) (B.idx j 0) (B.idx j 1) := by
  unfold qbuf
  dsimp only
  rw [View.readAt_writes_junk_eq_canon]
  funext j
  generalize (View.readAt (Elt Ideal) arg3.view (Rect.unit (s := S6x64x128) (k0_off24 t) S1x16x128.size (k0_off24_inb t)).toLoadRect X3) = q
  refine View.canon_apply_of_pieces (Val := Elt Ideal) (e := .bf16) (S := S16x2048) (fun y : S16x2048.Idx => qdiag q (y 0) (y 1)) _ ?_ _ ?_
  rotate_left
  · exact View.cover_of_tiledL (s := S16x2048) _ S16x128.size (by rfl) _
  refine List.forall_mem_cons.mpr ⟨qpiece q 15 1920 rfl inb_S16x2048_S16x128_0_1920, ?_⟩
  refine List.forall_mem_cons.mpr ⟨qpiece q 14 1792 rfl inb_S16x2048_S16x128_0_1792, ?_⟩
  refine List.forall_mem_cons.mpr ⟨qpiece q 13 1664 rfl inb_S16x2048_S16x128_0_1664, ?_⟩
  refine List.forall_mem_cons.mpr ⟨qpiece q 12 1536 rfl inb_S16x2048_S16x128_0_1536, ?_⟩
  refine List.forall_mem_cons.mpr ⟨qpiece q 11 1408 rfl inb_S16x2048_S16x128_0_1408, ?_⟩
  refine List.forall_mem_cons.mpr ⟨qpiece q 10 1280 rfl inb_S16x2048_S16x128_0_1280, ?_⟩
  refine List.forall_mem_cons.mpr ⟨qpiece q 9 1152 rfl inb_S16x2048_S16x128_0_1152, ?_⟩
  refine List.forall_mem_cons.mpr ⟨qpiece q 8 1024 rfl inb_S16x2048_S16x128_0_1024, ?_⟩
  refine List.forall_mem_cons.mpr ⟨qpiece q 7 896 rfl inb_S16x2048_S16x128_0_896, ?_⟩
  refine List.forall_mem_cons.mpr ⟨qpiece q 6 768 rfl inb_S16x2048_S16x128_0_768, ?_⟩
  refine List.forall_mem_cons.mpr ⟨qpiece q 5 640 rfl inb_S16x2048_S16x128_0_640, ?_⟩
  refine List.forall_mem_cons.mpr ⟨qpiece q 4 512 rfl inb_S16x2048_S16x128_0_512, ?_⟩
  refine List.forall_mem_cons.mpr ⟨qpiece q 3 384 rfl inb_S16x2048_S16x128_0_384, ?_⟩
  refine List.forall_mem_cons.mpr ⟨qpiece q 2 256 rfl inb_S16x2048_S16x128_0_256, ?_⟩
  refine List.forall_mem_cons.mpr ⟨qpiece q 1 128 rfl inb_S16x2048_S16x128_0_128, ?_⟩
  refine List.forall_mem_cons.mpr ⟨qpiece q 0 0 rfl inb_S16x2048_S16x128_0_0, ?_⟩
  exact fun p hp => absurd hp List.not_mem_nil

/-- A sum over 2048 rows against the block-diagonal query keeps head `i`'s rows. -/
theorem sum_diag (q : Vec Ideal S1x16x128 .f32) (i : Fin 16) (K : Fin 2048 → EReal) :
    (∑ r : Fin 1024, qdiag q i ⟨r.val, by omega⟩ * K ⟨r.val, by omega⟩) + (∑ r : Fin 1024, qdiag q i ⟨1024 + r.val, by omega⟩ * K ⟨1024 + r.val, by omega⟩)
      = ∑ d : Fin 128, q (ix3 0 i d) * K ⟨128 * i.val + d.val, by omega⟩ := by
  have h := Fin.sum_univ_add (a := 1024) (b := 1024) (fun r : Fin 2048 => qdiag q i r * K r)
  refine h.symm.trans ?_
  rw [← (finProdFinEquiv (m := 16) (n := 128)).sum_comp, Fintype.sum_prod_type, Finset.sum_eq_single i]
  · refine Finset.sum_congr rfl fun d _ => ?_
    have e : (finProdFinEquiv (m := 16) (n := 128) (i, d) : Fin 2048) = ⟨128 * i.val + d.val, by omega⟩ := Fin.ext (by show d.val + 128 * i.val = _; simp only []; omega)
    show qdiag q i (finProdFinEquiv (m := 16) (n := 128) (i, d)) * K (finProdFinEquiv (m := 16) (n := 128) (i, d)) = _
    rw [e]
    unfold qdiag
    have h1 : (128 * i.val + d.val) / 128 = i.val := by omega
    have h2 : (128 * i.val + d.val) % 128 = d.val := by omega
    simp only [h1, h2, if_pos]
  · intro g _ hg
    refine Finset.sum_eq_zero fun d _ => ?_
    have e : (finProdFinEquiv (m := 16) (n := 128) (g, d) : Fin 2048) = ⟨128 * g.val + d.val, by omega⟩ := Fin.ext (by show d.val + 128 * g.val = _; simp only []; omega)
    show qdiag q i (finProdFinEquiv (m := 16) (n := 128) (g, d)) * K (finProdFinEquiv (m := 16) (n := 128) (g, d)) = _
    rw [e]
    unfold qdiag
    have h1 : ¬ (128 * g.val + d.val) / 128 = i.val := by
      intro h'; exact hg (Fin.ext (by omega))
    simp only [h1, if_false, zero_mul]
  · intro h; exact absurd (Finset.mem_univ i) h

theorem pay256_apply (a b : Vec Ideal S16x1024 .bf16) (x y : Vec Ideal S1024x256 .bf16) (i : Fin 16) (t : Fin 256) :
    k0_pay256 a x b y (ix3 0 i t) = (∑ r : Fin 1024, a (ix2 i r) * x (ix2 r t)) + ∑ r : Fin 1024, b (ix2 i r) * y (ix2 r t) := by
  pointwise [k0_pay256]

variable (c : Dev nD) (bd : Option Variants.none.V) (arg0 : Memref sig .tc .smem S6 .i32) (harg0 : arg0.IsWhole) (arg1 : Memref sig .tc .hbm S6x2304x4x128 .i32) (harg1 : arg1.IsWhole) (arg2 : Memref sig .tc .hbm S6x16x8x2304 .f32) (harg2 : arg2.IsWhole) (arg3 : Memref sig .tc .vmem S6x64x128 .f32) (harg3 : arg3.IsWhole) (arg4 : Memref sig .tc .vmem S16x256x512 .bf16) (harg4 : arg4.IsWhole) (arg5 : Memref sig .tc .vmem S54x64x256 .f32) (harg5 : arg5.IsWhole) (arg6 : Memref sig .tc .vmem S54x64x256 .f32) (harg6 : arg6.IsWhole) (arg7 : Memref sig .tc .vmem S6x64x2304 .f32) (harg7 : arg7.IsWhole) (arg8 : Memref sig .tc .vmem S2x9x256x128 .i32) (harg8 : arg8.IsWhole) (arg9 : Memref sig .tc .vmem S2x9x4x8x256 .f32) (harg9 : arg9.IsWhole) (arg10 : Memref sig .tc .vmem S16x512x256 .bf16) (harg10 : arg10.IsWhole) (arg11 : Memref sig .tc .vmem S2x512x128 .i32) (harg11 : arg11.IsWhole) (arg12 : Memref sig .tc .vmem S4x8x256 .f32) (harg12 : arg12.IsWhole) (arg13 : Memref sig .tc .vmem S2048x256 .bf16) (harg13 : arg13.IsWhole) (arg14 : Memref sig .tc .vmem S9x16x256 .f32) (harg14 : arg14.IsWhole) (arg15 : Memref sig .tc .vmem S16x2048 .bf16) (harg15 : arg15.IsWhole) (arg16 : DmaSems sig S2)
  (k0_t3 : Fin k0_t3_loop.trips) (arg17 v110 v111 v112 : BitVec 32) (v114 : Elt Ideal .i32) (k0_hw4 : k0_chk4 k0_t3 v114) (hF : Fits v114) (v116 : BitVec 32) (v118 : Elt Ideal .i32)
  (X3 : BufTy.Contents (Elt Ideal) arg3.view.ty) (X5 : BufTy.Contents (Elt Ideal) arg5.view.ty) (X6 : BufTy.Contents (Elt Ideal) arg6.view.ty) (X8 : BufTy.Contents (Elt Ideal) arg8.view.ty) (X9 : BufTy.Contents (Elt Ideal) arg9.view.ty)
  (X10 : BufTy.Contents (Elt Ideal) arg10.view.ty) (k : Fin (k0_t8_loop v114).trips)

/-- A chunk's scores: the query heads against the rotated keys. -/
theorem trip_apply (i : Fin 16) (t : Fin 256) :
    (tripK (F := Ideal) c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 k0_t3 arg17 v110 v111 v112 v114 k0_hw4 hF v116 v118 X5 X6 X8 X9 X10 (qbuf (F := Ideal) arg3 arg15 X3 rows108 k0_t3) k 0#32).1 (ix3 0 i t)
      = ∑ d : Fin 128, View.readAt (Elt Ideal) arg3.view (Rect.unit (s := S6x64x128) (k0_off24 k0_t3) S1x16x128.size (k0_off24_inb k0_t3)).toLoadRect X3 (ix3 0 i d)
          * rotK (kG arg8 arg9 arg10 arg11 arg12 k0_t3 v114 k0_hw4 X8 X9 X10 k) (csG arg5 k0_t3 v114 k0_hw4 X5 k) (csG arg6 k0_t3 v114 k0_hw4 X6 k) ⟨i.val / 4, by omega⟩ ⟨i.val % 4 * 128 + d.val, by omega⟩ t := by
  unfold tripK
  dsimp only
  rw [pay256_apply, qbuf_read, qbuf_read]
  unfold tripK.sl.v967 tripK.sl.v970
  rw [keys_read, keys_read]
  generalize (View.readAt (Elt Ideal) arg3.view (Rect.unit (s := S6x64x128) (k0_off24 k0_t3) S1x16x128.size (k0_off24_inb k0_t3)).toLoadRect X3) = q
  generalize kG arg8 arg9 arg10 arg11 arg12 k0_t3 v114 k0_hw4 X8 X9 X10 k = K
  generalize csG arg5 k0_t3 v114 k0_hw4 X5 k = cs
  generalize csG arg6 k0_t3 v114 k0_hw4 X6 k = sn
  refine Eq.trans ?_ ((sum_diag q i (fun r => rotB K cs sn (ix2 r t))).trans ?_)
  · congr 1
    · refine Finset.sum_congr rfl fun r _ => ?_
      have e1 : (Rect.unit (s := S16x2048) ![0, 0] ![16, 1024] inb_S16x2048_S16x1024_0_0).toLoadRect.idx (ix2 i r) = ix2 i ⟨r.val, by omega⟩ := by
        funext a; match a with
        | ⟨0, _⟩ => exact Fin.ext (by show 0 + 1 * i.val = i.val; omega)
        | ⟨1, _⟩ => exact Fin.ext (by show 0 + 1 * r.val = r.val; omega)
      have e2 : (Rect.unit (s := S2048x256) ![0, 0] S1024x256.size inb_S2048x256_S1024x256_0_0).toLoadRect.idx (ix2 r t) = ix2 ⟨r.val, by omega⟩ t := by
        funext a; match a with
        | ⟨0, _⟩ => exact Fin.ext (by show 0 + 1 * r.val = r.val; omega)
        | ⟨1, _⟩ => exact Fin.ext (by show 0 + 1 * t.val = t.val; omega)
      exact congrArg₂ (· * ·) (congrArg (fun y : S16x2048.Idx => qdiag q (y 0) (y 1)) e1) (congrArg (rotB K cs sn) e2)
    · refine Finset.sum_congr rfl fun r _ => ?_
      have e1 : (Rect.unit (s := S16x2048) ![0, 1024] ![16, 1024] inb_S16x2048_S16x1024_0_1024).toLoadRect.idx (ix2 i r) = ix2 i ⟨1024 + r.val, by omega⟩ := by
        funext a; match a with
        | ⟨0, _⟩ => exact Fin.ext (by show 0 + 1 * i.val = i.val; omega)
        | ⟨1, _⟩ => exact Fin.ext (by show 1024 + 1 * r.val = 1024 + r.val; omega)
      have e2 : (Rect.unit (s := S2048x256) ![1024, 0] S1024x256.size inb_S2048x256_S1024x256_1024_0).toLoadRect.idx (ix2 r t) = ix2 ⟨1024 + r.val, by omega⟩ t := by
        funext a; match a with
        | ⟨0, _⟩ => exact Fin.ext (by show 1024 + 1 * r.val = 1024 + r.val; omega)
        | ⟨1, _⟩ => exact Fin.ext (by show 0 + 1 * t.val = t.val; omega)
      exact congrArg₂ (· * ·) (congrArg (fun y : S16x2048.Idx => qdiag q (y 0) (y 1)) e1) (congrArg (rotB K cs sn) e2)
  · refine Finset.sum_congr rfl fun d _ => ?_
    refine congrArg (q (ix3 0 i d) * ·) ?_
    show rotK K cs sn ⟨(128 * i.val + d.val) / 512, _⟩ ⟨(128 * i.val + d.val) % 512, _⟩ t = _
    congr 1 <;> apply Fin.ext
    · show (128 * i.val + d.val) / 512 = i.val / 4; omega
    · show (128 * i.val + d.val) % 512 = i.val % 4 * 128 + d.val; omega

end Cert.KernelIdeal.Hand
-- ==== Proof.Ideal.Input.lean ====
module

public import proofs.«01_k».proof.Proof.Ideal.Entry
public import proofs.«01_k».proof.Proof.Ideal.Score

@[expose] public section

set_option maxRecDepth 16384
set_option maxHeartbeats 4000000

/-! What the unit reads of the arguments. -/

noncomputable section

namespace Cert.KernelIdeal.Hand

open Cert.KernelIdeal Cert.KernelIdeal.Gen Cert.Scores
open Idealize.ShloMosaic Idealize.ShloMosaic.TcCoe Idealize.SL.Sem

theorem read_B1 (M : Memref sig .tc .vmem S2x9x256x128 .i32) (s i : ℕ) (f : BufTy.Contents (Elt Ideal) (B1 M s i).view.ty) (t : Fin 256) (r : Fin 128) :
    (B1 M s i).view.read (Elt Ideal) f (ix2 t r : S256x128.Idx) = View.readAt (Elt Ideal) M.view (Rect.unit (s := S2x9x256x128) (oB1 s i) S1x1x256x128.size (inB1 s i)).toLoadRect f (ix4 0 0 t r : S1x1x256x128.Idx) := by
  have e : Shape.reshapeEquiv (s := S1x1x256x128) (s' := S256x128) squeezes_S1x1x256x128_S256x128.numel_eq (ix2 t r) = (ix4 0 0 t r : S1x1x256x128.Idx) := by
    have h : ∀ f : S1x1x256x128.Idx → S1x1x256x128.Idx, shapeCast S256x128 f squeezes_S1x1x256x128_S256x128.numel_eq (ix2 t r : S256x128.Idx) = f (ix4 0 0 t r) := by
      intro f; pointwise
    exact h id
  exact congrArg (fun y => M.view.read (Elt Ideal) f ((Rect.unit (s := S2x9x256x128) (oB1 s i) S1x1x256x128.size (inB1 s i)).emb y)) e

theorem read_B2 (M : Memref sig .tc .vmem S2x9x4x8x256 .f32) (s i : ℕ) (f : BufTy.Contents (Elt Ideal) (B2 M s i).view.ty) (g : Fin 4) (n : Fin 8) (t : Fin 256) :
    (B2 M s i).view.read (Elt Ideal) f (ix3 g n t : S4x8x256.Idx) = View.readAt (Elt Ideal) M.view (Rect.unit (s := S2x9x4x8x256) (oB2 s i) S1x1x4x8x256.size (inB2 s i)).toLoadRect f (ix5 0 0 g n t : S1x1x4x8x256.Idx) := by
  have e : Shape.reshapeEquiv (s := S1x1x4x8x256) (s' := S4x8x256) squeezes_S1x1x4x8x256_S4x8x256.numel_eq (ix3 g n t) = (ix5 0 0 g n t : S1x1x4x8x256.Idx) := by
    have h : ∀ f : S1x1x4x8x256.Idx → S1x1x4x8x256.Idx, shapeCast S4x8x256 f squeezes_S1x1x4x8x256_S4x8x256.numel_eq (ix3 g n t : S4x8x256.Idx) = f (ix5 0 0 g n t) := by
      intro f; pointwise
    exact h id
  exact congrArg (fun y => M.view.read (Elt Ideal) f ((Rect.unit (s := S2x9x4x8x256) (oB2 s i) S1x1x4x8x256.size (inB2 s i)).emb y)) e

theorem read_S1b (M : Memref sig .tc .hbm S6x2304x4x128 .i32) (s i : ℕ) (f : BufTy.Contents (Elt Ideal) (S1b M s i).view.ty) (t : Fin 256) (r : Fin 128) :
    (S1b M s i).view.read (Elt Ideal) f (ix2 t r : S256x128.Idx) = View.readAt (Elt Ideal) M.view (Rect.unit (s := S6x2304x4x128) (oS1 s i) S1x256x1x128.size (inS1 s i)).toLoadRect f (ix4 0 t 0 r : S1x256x1x128.Idx) := by
  have e : Shape.reshapeEquiv (s := S1x256x1x128) (s' := S256x128) squeezes_S1x256x1x128_S256x128.numel_eq (ix2 t r) = (ix4 0 t 0 r : S1x256x1x128.Idx) := by
    have h : ∀ f : S1x256x1x128.Idx → S1x256x1x128.Idx, shapeCast S256x128 f squeezes_S1x256x1x128_S256x128.numel_eq (ix2 t r : S256x128.Idx) = f (ix4 0 t 0 r) := by
      intro f; pointwise
    exact h id
  exact congrArg (fun y => M.view.read (Elt Ideal) f ((Rect.unit (s := S6x2304x4x128) (oS1 s i) S1x256x1x128.size (inS1 s i)).emb y)) e

theorem read_S2b (M : Memref sig .tc .hbm S6x16x8x2304 .f32) (s i : ℕ) (f : BufTy.Contents (Elt Ideal) (S2b M s i).view.ty) (g : Fin 4) (n : Fin 8) (t : Fin 256) :
    (S2b M s i).view.read (Elt Ideal) f (ix3 g n t : S4x8x256.Idx) = View.readAt (Elt Ideal) M.view (Rect.unit (s := S6x16x8x2304) (oS2 s i) S1x4x8x256.size (inS2 s i)).toLoadRect f (ix4 0 g n t : S1x4x8x256.Idx) := by
  have e : Shape.reshapeEquiv (s := S1x4x8x256) (s' := S4x8x256) squeezes_S1x4x8x256_S4x8x256.numel_eq (ix3 g n t) = (ix4 0 g n t : S1x4x8x256.Idx) := by
    have h : ∀ f : S1x4x8x256.Idx → S1x4x8x256.Idx, shapeCast S4x8x256 f squeezes_S1x4x8x256_S4x8x256.numel_eq (ix3 g n t : S4x8x256.Idx) = f (ix4 0 g n t) := by
      intro f; pointwise
    exact h id
  exact congrArg (fun y => M.view.read (Elt Ideal) f ((Rect.unit (s := S6x16x8x2304) (oS2 s i) S1x4x8x256.size (inS2 s i)).emb y)) e

variable (m : (ℓ : Loc nD τ sig) → Buf (Elt Ideal) ℓ) (c : Dev nD)

theorem iblk_0 (t : Fin cfg0.N) (x : S6.Idx) : iblk m c 0 t x = Gen.V m c main_arg6 x := by
  have e : ((cfg0.win 0).blk t).view.emb x = x := by
    funext a; apply Fin.ext; fin_cases t
    match a with
    | ⟨0, _⟩ => show 0 * _ + 1 * _ = _; omega
  show Gen.V m c main_arg6 (((cfg0.win 0).blk t).view.emb x) = _
  rw [e]
theorem iblk_1 (t : Fin cfg0.N) (x : S6x64x128.Idx) : iblk m c 1 t x = Gen.V m c main_arg2 x := by
  have e : ((cfg0.win 1).blk t).view.emb x = x := by
    funext a; apply Fin.ext; fin_cases t
    match a with
    | ⟨0, _⟩ => show 0 * _ + 1 * _ = _; omega
    | ⟨1, _⟩ => show 0 * _ + 1 * _ = _; omega
    | ⟨2, _⟩ => show 0 * _ + 1 * _ = _; omega
  show Gen.V m c main_arg2 (((cfg0.win 1).blk t).view.emb x) = _
  rw [e]
theorem iblk_2 (t : Fin cfg0.N) (x : S16x256x512.Idx) : iblk m c 2 t x = Gen.V m c main_arg3 x := by
  have e : ((cfg0.win 2).blk t).view.emb x = x := by
    funext a; apply Fin.ext; fin_cases t
    match a with
    | ⟨0, _⟩ => show 0 * _ + 1 * _ = _; omega
    | ⟨1, _⟩ => show 0 * _ + 1 * _ = _; omega
    | ⟨2, _⟩ => show 0 * _ + 1 * _ = _; omega
  show Gen.V m c main_arg3 (((cfg0.win 2).blk t).view.emb x) = _
  rw [e]
theorem iblk_3 (t : Fin cfg0.N) (x : S54x64x256.Idx) : iblk m c 3 t x = Gen.V m c main_v21 x := by
  have e : ((cfg0.win 3).blk t).view.emb x = x := by
    funext a; apply Fin.ext; fin_cases t
    match a with
    | ⟨0, _⟩ => show 0 * _ + 1 * _ = _; omega
    | ⟨1, _⟩ => show 0 * _ + 1 * _ = _; omega
    | ⟨2, _⟩ => show 0 * _ + 1 * _ = _; omega
  show Gen.V m c main_v21 (((cfg0.win 3).blk t).view.emb x) = _
  rw [e]
theorem iblk_4 (t : Fin cfg0.N) (x : S54x64x256.Idx) : iblk m c 4 t x = Gen.V m c main_v23 x := by
  have e : ((cfg0.win 4).blk t).view.emb x = x := by
    funext a; apply Fin.ext; fin_cases t
    match a with
    | ⟨0, _⟩ => show 0 * _ + 1 * _ = _; omega
    | ⟨1, _⟩ => show 0 * _ + 1 * _ = _; omega
    | ⟨2, _⟩ => show 0 * _ + 1 * _ = _; omega
  show Gen.V m c main_v23 (((cfg0.win 4).blk t).view.emb x) = _
  rw [e]

end Cert.KernelIdeal.Hand
-- ==== Proof.Ideal.Weights.lean ====
module

public import proofs.«01_k».proof.Proof.Ideal.Body
public import proofs.«01_k».proof.Proof.Ideal.Rebuilt

@[expose] public section

set_option maxRecDepth 16384
set_option maxHeartbeats 400000

/-! The weights, transposed by the body and read back by group. -/

noncomputable section

namespace Cert.KernelIdeal.Hand

open Cert.KernelIdeal Cert.KernelIdeal.Gen Cert.Scores
open Idealize.ShloMosaic Idealize.ShloMosaic.TcCoe Idealize.SL.Sem

/-- A load from a buffer that holds `f` reads `f`. -/
theorem readAt_rep {sp : Space} {S : Shape} {e : EltTy} (M : Memref sig .tc sp S e) (f : S.Idx → Elt Ideal e) (R : LoadRect S) :
    View.readAt (Elt Ideal) M.view R (M.view.rep f) = fun j => f (R.idx j) := by
  funext j
  rw [View.readAt_apply, View.read_rep]

/-! ## The transposed weights -/

/-- A group's block among the weights. -/
def emb3 (g : Fin 16) (j : S1x256x512.Idx) : S16x256x512.Idx := ix3 g (j 1) (j 2)

theorem wT_apply (w : Vec Ideal S1x256x512 .bf16) (a : Fin 1) (c : Fin 512) (r : Fin 256) : wT (F := Ideal) w (ix3 a c r) = w (ix3 0 r c) := by
  pointwise [wT]

theorem wpiece (arg4 : Memref sig .tc .vmem S16x256x512 .bf16) (W : S16x256x512.Idx → EReal) (g : ℕ) (hg : g < 16) (inb : ∀ a, (![g, 0, 0] : Fin 3 → ℕ) a + S1x512x256.size a ≤ S16x512x256.size a)
    (inb' : ∀ a, (![g, 0, 0] : Fin 3 → ℕ) a + S1x256x512.size a ≤ S16x256x512.size a) (x : S1x512x256.Idx) :
    wT (F := Ideal) (View.readAt (Elt Ideal) arg4.view (Rect.unit (s := S16x256x512) ![g, 0, 0] S1x256x512.size inb').toLoadRect (arg4.view.rep (Val := Elt Ideal) W)) x
      = (fun y : S16x512x256.Idx => W (ix3 (y 0) (y 2) (y 1))) ((Rect.unit (s := S16x512x256) ![g, 0, 0] S1x512x256.size inb).emb x) := by
  obtain ⟨a, c, r, rfl⟩ : ∃ (a : Fin 1) (c : Fin 512) (r : Fin 256), x = ix3 a c r := ⟨x 0, x 1, x 2, by funext i; match i with | ⟨0, _⟩ => rfl | ⟨1, _⟩ => rfl | ⟨2, _⟩ => rfl⟩
  rw [wT_apply]
  refine (congrFun (readAt_rep arg4 W (Rect.unit (s := S16x256x512) ![g, 0, 0] S1x256x512.size inb').toLoadRect) (ix3 0 r c)).trans (congrArg W ?_)
  funext i
  match i with
  | ⟨0, _⟩ => exact Fin.ext (by show g + 1 * 0 = g + 1 * a.val; omega)
  | ⟨1, _⟩ => exact Fin.ext (by show 0 + 1 * r.val = 0 + 1 * r.val; rfl)
  | ⟨2, _⟩ => exact Fin.ext (by show 0 + 1 * c.val = 0 + 1 * c.val; rfl)

theorem wbuf_read (arg4 : Memref sig .tc .vmem S16x256x512 .bf16) (arg10 : Memref sig .tc .vmem S16x512x256 .bf16) (W : S16x256x512.Idx → EReal) (B : LoadRect S16x512x256) :
    View.readAt (Elt Ideal) arg10.view B (wbuf (F := Ideal) arg4 arg10 (arg4.view.rep (Val := Elt Ideal) W)) = fun j => W (ix3 (B.idx j 0) (B.idx j 2) (B.idx j 1)) := by
  unfold wbuf
  rw [View.readAt_writes_junk_eq_canon]
  funext j
  refine View.canon_apply_of_pieces (Val := Elt Ideal) (e := .bf16) (S := S16x512x256) (fun y : S16x512x256.Idx => W (ix3 (y 0) (y 2) (y 1))) _ ?_ _ ?_
  rotate_left
  · exact View.cover_of_tiledL (s := S16x512x256) _ S1x512x256.size (by rfl) _
  refine List.forall_mem_cons.mpr ⟨wpiece arg4 W 15 (by omega) inb_S16x512x256_S1x512x256_15_0_0 inb_S16x256x512_S1x256x512_15_0_0, ?_⟩
  refine List.forall_mem_cons.mpr ⟨wpiece arg4 W 14 (by omega) inb_S16x512x256_S1x512x256_14_0_0 inb_S16x256x512_S1x256x512_14_0_0, ?_⟩
  refine List.forall_mem_cons.mpr ⟨wpiece arg4 W 13 (by omega) inb_S16x512x256_S1x512x256_13_0_0 inb_S16x256x512_S1x256x512_13_0_0, ?_⟩
  refine List.forall_mem_cons.mpr ⟨wpiece arg4 W 12 (by omega) inb_S16x512x256_S1x512x256_12_0_0 inb_S16x256x512_S1x256x512_12_0_0, ?_⟩
  refine List.forall_mem_cons.mpr ⟨wpiece arg4 W 11 (by omega) inb_S16x512x256_S1x512x256_11_0_0 inb_S16x256x512_S1x256x512_11_0_0, ?_⟩
  refine List.forall_mem_cons.mpr ⟨wpiece arg4 W 10 (by omega) inb_S16x512x256_S1x512x256_10_0_0 inb_S16x256x512_S1x256x512_10_0_0, ?_⟩
  refine List.forall_mem_cons.mpr ⟨wpiece arg4 W 9 (by omega) inb_S16x512x256_S1x512x256_9_0_0 inb_S16x256x512_S1x256x512_9_0_0, ?_⟩
  refine List.forall_mem_cons.mpr ⟨wpiece arg4 W 8 (by omega) inb_S16x512x256_S1x512x256_8_0_0 inb_S16x256x512_S1x256x512_8_0_0, ?_⟩
  refine List.forall_mem_cons.mpr ⟨wpiece arg4 W 7 (by omega) inb_S16x512x256_S1x512x256_7_0_0 inb_S16x256x512_S1x256x512_7_0_0, ?_⟩
  refine List.forall_mem_cons.mpr ⟨wpiece arg4 W 6 (by omega) inb_S16x512x256_S1x512x256_6_0_0 inb_S16x256x512_S1x256x512_6_0_0, ?_⟩
  refine List.forall_mem_cons.mpr ⟨wpiece arg4 W 5 (by omega) inb_S16x512x256_S1x512x256_5_0_0 inb_S16x256x512_S1x256x512_5_0_0, ?_⟩
  refine List.forall_mem_cons.mpr ⟨wpiece arg4 W 4 (by omega) inb_S16x512x256_S1x512x256_4_0_0 inb_S16x256x512_S1x256x512_4_0_0, ?_⟩
  refine List.forall_mem_cons.mpr ⟨wpiece arg4 W 3 (by omega) inb_S16x512x256_S1x512x256_3_0_0 inb_S16x256x512_S1x256x512_3_0_0, ?_⟩
  refine List.forall_mem_cons.mpr ⟨wpiece arg4 W 2 (by omega) inb_S16x512x256_S1x512x256_2_0_0 inb_S16x256x512_S1x256x512_2_0_0, ?_⟩
  refine List.forall_mem_cons.mpr ⟨wpiece arg4 W 1 (by omega) inb_S16x512x256_S1x512x256_1_0_0 inb_S16x256x512_S1x256x512_1_0_0, ?_⟩
  refine List.forall_mem_cons.mpr ⟨wpiece arg4 W 0 (by omega) inb_S16x512x256_S1x512x256_0_0_0 inb_S16x256x512_S1x256x512_0_0_0, ?_⟩
  exact fun p hp => absurd hp List.not_mem_nil

theorem drop1 (f : S1x512x256.Idx → EReal) (c : Fin 512) (r : Fin 256) : shapeCast S512x256 f shapeCasts_S1x512x256_S512x256 (ix2 c r) = f (ix3 0 c r) := by
  pointwise

theorem wtG_apply (arg4 : Memref sig .tc .vmem S16x256x512 .bf16) (arg10 : Memref sig .tc .vmem S16x512x256 .bf16) (W : S16x256x512.Idx → EReal) (t : Fin k0_t3_loop.trips) (g : Fin 4) (c : Fin 512) (r : Fin 256) (q : Fin 16) (hq : q.val = 4 * (t.val / 6) + g.val) :
    wtG arg10 t (wbuf (F := Ideal) arg4 arg10 (arg4.view.rep (Val := Elt Ideal) W)) g (ix2 c r) = W (ix3 q r c) := by
  have e : wtG arg10 t (wbuf (F := Ideal) arg4 arg10 (arg4.view.rep (Val := Elt Ideal) W)) g (ix2 c r) = View.readAt (Elt Ideal) arg10.view (Rect.unit (s := S16x512x256) (k0_off40 t (BitVec.ofNat 32 g.val)) S1x512x256.size (k0_off40_inb t g)).toLoadRect
      (wbuf (F := Ideal) arg4 arg10 (arg4.view.rep (Val := Elt Ideal) W)) (ix3 0 c r) := by
    exact drop1 _ c r
  rw [e, wbuf_read]
  refine congrArg W ?_
  have ho := Gen.k0_off40_eq t g
  funext i
  match i with
  | ⟨0, _⟩ => exact Fin.ext (by show k0_off40 t (BitVec.ofNat 32 g.val) 0 + 1 * 0 = q.val; rw [ho, hq]; rfl)
  | ⟨1, _⟩ => exact Fin.ext (by show k0_off40 t (BitVec.ofNat 32 g.val) 2 + 1 * r.val = r.val; rw [ho]; show 0 + 1 * r.val = r.val; omega)
  | ⟨2, _⟩ => exact Fin.ext (by show k0_off40 t (BitVec.ofNat 32 g.val) 1 + 1 * c.val = c.val; rw [ho]; show 0 + 1 * c.val = c.val; omega)

end Cert.KernelIdeal.Hand
-- ==== Proof.Ideal.Reads.lean ====
module

public import proofs.«01_k».proof.Proof.Ideal.Input
public import proofs.«01_k».proof.Proof.Ideal.Weights

@[expose] public section

set_option maxRecDepth 16384
set_option maxHeartbeats 400000

/-! What a chunk reads, entry by entry. -/

noncomputable section

namespace Cert.KernelIdeal.Hand

open Cert.KernelIdeal Cert.KernelIdeal.Gen Cert.Scores
open Idealize.ShloMosaic Idealize.ShloMosaic.TcCoe Idealize.SL.Sem

theorem readAt_off {κ : Kind} {sp : Space} {S : Shape} {e : EltTy} (v : View sig κ sp S e) {o o' : Fin S.rank → ℕ} (he : o = o') (size : Fin S.rank → ℕ) (h h') (X : BufTy.Contents (Elt Ideal) v.ty)
    (j : (Rect.unit (s := S) o size h).toLoadRect.shape.Idx) :
    View.readAt (Elt Ideal) v (Rect.unit (s := S) o size h).toLoadRect X j = View.readAt (Elt Ideal) v (Rect.unit (s := S) o' size h').toLoadRect X j := by
  subst he; rfl

theorem drop_q (f : S1x64x256.Idx → EReal) (d : Fin 64) (t : Fin 256) : shapeCast S64x256 f shapeCasts_S1x64x256_S64x256 (ix2 d t) = f (ix3 0 d t) := by
  pointwise

section Reads
variable (t : Fin k0_t3_loop.trips) (v : Elt Ideal .i32) (hw : k0_chk4 t v) (hF : Fits v) (k : Fin (k0_t8_loop v).trips)
include hF

/-- A chunk's rows of a table. -/
theorem csG_apply (arg5 : Memref sig .tc .vmem S54x64x256 .f32) (W : S54x64x256.Idx → EReal) (d : Fin 64) (t' : Fin 256) (p : Fin 54) (hp : p.val = t.val % 6 * 9 + k.val) :
    csG arg5 t v hw (arg5.view.rep (Val := Elt Ideal) W) k (ix2 d t') = W (ix3 p d t') := by
  unfold csG
  refine (drop_q _ d t').trans ((congrFun (readAt_rep arg5 W (Rect.unit (s := S54x64x256) (k0_off41 t v k) S1x64x256.size (k0_off41_inb t v hw k)).toLoadRect) (ix3 0 d t')).trans (congrArg W ?_))
  have ho := off41_eq t v hF k
  funext i
  match i with
  | ⟨0, _⟩ => exact Fin.ext (by show k0_off41 t v k 0 + 1 * 0 = p.val; rw [ho, hp]; rfl)
  | ⟨1, _⟩ => exact Fin.ext (by show k0_off41 t v k 1 + 1 * d.val = d.val; rw [ho]; show 0 + 1 * d.val = d.val; omega)
  | ⟨2, _⟩ => exact Fin.ext (by show k0_off41 t v k 2 + 1 * t'.val = t'.val; rw [ho]; show 0 + 1 * t'.val = t'.val; omega)

omit hF in
/-- The unit's query rows. -/
theorem query_apply (arg3 : Memref sig .tc .vmem S6x64x128 .f32) (W : S6x64x128.Idx → EReal) (i : Fin 16) (d : Fin 128) (b : Fin 6) (h : Fin 64) (hb : b.val = t.val % 6) (hh : h.val = 16 * (t.val / 6) + i.val) :
    View.readAt (Elt Ideal) arg3.view (Rect.unit (s := S6x64x128) (k0_off24 t) S1x16x128.size (k0_off24_inb t)).toLoadRect (arg3.view.rep (Val := Elt Ideal) W) (ix3 0 i d) = W (ix3 b h d) := by
  refine (congrFun (readAt_rep arg3 W (Rect.unit (s := S6x64x128) (k0_off24 t) S1x16x128.size (k0_off24_inb t)).toLoadRect) (ix3 0 i d)).trans (congrArg W ?_)
  have ho := Gen.k0_off24_eq t
  funext a
  match a with
  | ⟨0, _⟩ => exact Fin.ext (by show k0_off24 t 0 + 1 * 0 = b.val; rw [ho, hb]; rfl)
  | ⟨1, _⟩ => exact Fin.ext (by show k0_off24 t 1 + 1 * i.val = h.val; rw [ho, hh]; show 16 * (t.val / 6) + 1 * i.val = _; omega)
  | ⟨2, _⟩ => exact Fin.ext (by show k0_off24 t 2 + 1 * d.val = d.val; rw [ho]; show 0 + 1 * d.val = d.val; omega)

/-- The chunk's words, as they lie in the packed codes. -/
theorem v416_apply (arg8 : Memref sig .tc .vmem S2x9x256x128 .i32) (arg1 : Memref sig .tc .hbm S6x2304x4x128 .i32) (X1 : BufTy.Contents (Elt Ideal) arg1.view.ty) (t' : Fin 256) (r : Fin 128)
    (b : Fin 6) (T : Fin 2304) (q : Fin 4) (hb : b.val = t.val % 6) (hT : T.val = 256 * k.val + t'.val) (hq : q.val = t.val / 6) :
    tripK.sl.v416 (F := Ideal) arg8 t v hw ((B1 arg8 t k).view.rep ((S1b arg1 t k).view.read (Elt Ideal) X1)) k (ix4 0 0 t' r) = arg1.view.read (Elt Ideal) X1 (ix4 b T q r) := by
  have hk := nch_le v hF
  have hk' : k.val < nch v := k.isLt
  unfold tripK.sl.v416
  refine (readAt_off arg8.view (off35_eq t v hF k) S1x1x256x128.size _ (inB1 t k) _ (ix4 0 0 t' r)).trans ?_
  refine (read_B1 arg8 t k _ t' r).symm.trans ((congrFun (View.read_rep (B1 arg8 t k).view _) (ix2 t' r)).trans ((read_S1b arg1 t k X1 t' r).trans ?_))
  refine congrArg (arg1.view.read (Elt Ideal) X1) ?_
  funext a
  match a with
  | ⟨0, _⟩ => exact Fin.ext (by show t.val % 6 + 1 * 0 = b.val; omega)
  | ⟨1, _⟩ => exact Fin.ext (by show k.val % 9 * 256 + 1 * t'.val = T.val; omega)
  | ⟨2, _⟩ => exact Fin.ext (by show t.val / 6 % 4 + 1 * 0 = q.val; omega)
  | ⟨3, _⟩ => exact Fin.ext (by show 0 + 1 * r.val = r.val; omega)

omit hF in
/-- One group's scales of a slot. -/
theorem slot_read (arg9 : Memref sig .tc .vmem S2x9x4x8x256 .f32) (s i : ℕ) (o : Fin 5 → ℕ) (h : ∀ a, o a + S1x1x1x8x256.size a ≤ S2x9x4x8x256.size a) (g : Fin 4) (ho : o = ![s % 2, i % 9, g.val, 0, 0])
    (X9 : BufTy.Contents (Elt Ideal) arg9.view.ty) (n : Fin 8) (t' : Fin 256) :
    View.readAt (Elt Ideal) arg9.view (Rect.unit (s := S2x9x4x8x256) o S1x1x1x8x256.size h).toLoadRect X9 (ix5 0 0 0 n t')
      = View.readAt (Elt Ideal) arg9.view (Rect.unit (s := S2x9x4x8x256) (oB2 s i) S1x1x4x8x256.size (inB2 s i)).toLoadRect X9 (ix5 0 0 g n t') := by
  subst ho
  refine congrArg (arg9.view.read (Elt Ideal) X9) ?_
  funext a
  match a with
  | ⟨0, _⟩ => rfl
  | ⟨1, _⟩ => rfl
  | ⟨2, _⟩ => exact Fin.ext (by show g.val + 1 * 0 = 0 + 1 * g.val; omega)
  | ⟨3, _⟩ => rfl
  | ⟨4, _⟩ => rfl

theorem svec_slot (arg9 : Memref sig .tc .vmem S2x9x4x8x256 .f32) (X9 : BufTy.Contents (Elt Ideal) arg9.view.ty) (g : Fin 4) (n : Fin 8) (t' : Fin 256) :
    svec arg9 t v hw X9 k g (ix5 0 0 0 n t')
      = View.readAt (Elt Ideal) arg9.view (Rect.unit (s := S2x9x4x8x256) (oB2 t k) S1x1x4x8x256.size (inB2 t k)).toLoadRect X9 (ix5 0 0 g n t') :=
  match g with
  | ⟨0, _⟩ => slot_read arg9 t k (k0_off36 t v k) (k0_off36_inb t v hw k) 0 (off36_eq t v hF k) X9 n t'
  | ⟨1, _⟩ => slot_read arg9 t k (k0_off37 t v k) (k0_off37_inb t v hw k) 1 (off37_eq t v hF k) X9 n t'
  | ⟨2, _⟩ => slot_read arg9 t k (k0_off38 t v k) (k0_off38_inb t v hw k) 2 (off38_eq t v hF k) X9 n t'
  | ⟨3, _⟩ => slot_read arg9 t k (k0_off39 t v k) (k0_off39_inb t v hw k) 3 (off39_eq t v hF k) X9 n t'

/-- The chunk's scales, as they lie in the transposed scales. -/
theorem svec_apply (arg9 : Memref sig .tc .vmem S2x9x4x8x256 .f32) (arg2 : Memref sig .tc .hbm S6x16x8x2304 .f32) (X2 : BufTy.Contents (Elt Ideal) arg2.view.ty) (g : Fin 4) (n : Fin 8) (t' : Fin 256)
    (b : Fin 6) (T : Fin 2304) (q : Fin 16) (hb : b.val = t.val % 6) (hT : T.val = 256 * k.val + t'.val) (hq : q.val = 4 * (t.val / 6) + g.val) :
    svec arg9 t v hw ((B2 arg9 t k).view.rep ((S2b arg2 t k).view.read (Elt Ideal) X2)) k g (ix5 0 0 0 n t') = arg2.view.read (Elt Ideal) X2 (ix4 b q n T) := by
  have hk := nch_le v hF
  have hk' : k.val < nch v := k.isLt
  have ht := t_lt t
  refine (svec_slot t v hw hF k arg9 _ g n t').trans ?_
  refine (read_B2 arg9 t k _ g n t').symm.trans ((congrFun (View.read_rep (B2 arg9 t k).view _) (ix3 g n t')).trans ((read_S2b arg2 t k X2 g n t').trans ?_))
  refine congrArg (arg2.view.read (Elt Ideal) X2) ?_
  funext a
  match a with
  | ⟨0, _⟩ => exact Fin.ext (by show t.val % 6 + 1 * 0 = b.val; omega)
  | ⟨1, _⟩ => exact Fin.ext (by show t.val / 6 % 4 * 4 + 1 * g.val = q.val; omega)
  | ⟨2, _⟩ => exact Fin.ext (by show 0 + 1 * n.val = n.val; omega)
  | ⟨3, _⟩ => exact Fin.ext (by show k.val % 9 * 256 + 1 * t'.val = T.val; omega)

end Reads

end Cert.KernelIdeal.Hand
-- ==== Proof.Ideal.Chunk.lean ====
module

public import proofs.«01_k».proof.Proof.Ideal.Reads

@[expose] public section

set_option maxRecDepth 16384
set_option maxHeartbeats 4000000

/-! A chunk's keys, rotated keys and stored row are the ones the scores are made of. -/

noncomputable section

namespace Cert.KernelIdeal.Hand

open Cert.KernelIdeal Cert.KernelIdeal.Gen Cert.Scores
open Idealize.ShloMosaic Idealize.ShloMosaic.TcCoe Idealize.SL.Sem

/-! ## Bounds of the indices -/

theorem lt_four (q g : Fin 4) : 4 * q.val + g.val < 16 := by omega
theorem lt_rows (b : Fin 6) (k : Fin 9) : b.val * 9 + k.val < 54 := by omega
theorem lt_cache (k : Fin 9) (t : Fin 256) : 256 * k.val + t.val < 2304 := by omega
theorem lt_quarter (i : Fin 16) : i.val / 4 < 4 := by omega
theorem lt_cols (i : Fin 16) (d : Fin 128) : i.val % 4 * 128 + d.val < 512 := by omega

/-- The rotation, entry by entry. -/
theorem rotK_eq (x0 : Codes) (x1 : Scales) (x3 : Weights) (x4 x5 : Angles) (b : Fin 6) (T : Fin 2304) (t' : Fin 256) (K : Fin 4 → FVec Ideal S512x256 .f32) (cs sn : FVec Ideal S64x256 .f32) (u : ℕ)
    (i : Fin 16) (d : Fin 128) (h : Fin 64) (hh : h.val = 16 * u + i.val)
    (hK : ∀ c : Fin 512, K ⟨i.val / 4, lt_quarter i⟩ (ix2 c t') = key x0 x1 x3 b T (grp h) c) (hC : ∀ e : Fin 64, cs (ix2 e t') = x4 (ix3 b T e)) (hS : ∀ e : Fin 64, sn (ix2 e t') = x5 (ix3 b T e)) :
    rotK K cs sn ⟨i.val / 4, lt_quarter i⟩ ⟨i.val % 4 * 128 + d.val, lt_cols i d⟩ t' = rot x0 x1 x3 x4 x5 b T h d := by
  have hm : (i.val % 4 * 128 + d.val) % 128 = d.val := by omega
  have hi4 : i.val % 4 = h.val % 4 := by omega
  unfold rotK rot
  by_cases hd : d.val < 64
  · rw [dif_pos (show (i.val % 4 * 128 + d.val) % 128 < 64 by omega), dif_pos hd, hK, hK, hC, hS]
    have c1 : (⟨i.val % 4 * 128 + d.val, by omega⟩ : Fin 512) = col h (lo ⟨d.val, hd⟩) := Fin.ext (by show i.val % 4 * 128 + d.val = h.val % 4 * 128 + d.val; omega)
    have c2 : (⟨i.val % 4 * 128 + d.val + 64, by omega⟩ : Fin 512) = col h (hi ⟨d.val, hd⟩) := Fin.ext (by show i.val % 4 * 128 + d.val + 64 = h.val % 4 * 128 + (64 + d.val); omega)
    have c3 : (⟨(i.val % 4 * 128 + d.val) % 128, by omega⟩ : Fin 64) = ⟨d.val, hd⟩ := Fin.ext hm
    rw [← c1, ← c2]
    exact congrArg (fun y : Fin 64 => key x0 x1 x3 b T (grp h) ⟨i.val % 4 * 128 + d.val, by omega⟩ * x4 (ix3 b T y) - key x0 x1 x3 b T (grp h) ⟨i.val % 4 * 128 + d.val + 64, by omega⟩ * x5 (ix3 b T y)) c3
  · rw [dif_neg (show ¬ (i.val % 4 * 128 + d.val) % 128 < 64 by omega), dif_neg hd, hK, hK, hC, hS]
    have c1 : (⟨i.val % 4 * 128 + d.val, by omega⟩ : Fin 512) = col h (hi ⟨d.val - 64, by omega⟩) := Fin.ext (by show i.val % 4 * 128 + d.val = h.val % 4 * 128 + (64 + (d.val - 64)); omega)
    have c2 : (⟨i.val % 4 * 128 + d.val - 64, by omega⟩ : Fin 512) = col h (lo ⟨d.val - 64, by omega⟩) := Fin.ext (by show i.val % 4 * 128 + d.val - 64 = h.val % 4 * 128 + (d.val - 64); omega)
    have c3 : (⟨(i.val % 4 * 128 + d.val) % 128 - 64, by omega⟩ : Fin 64) = ⟨d.val - 64, by omega⟩ := Fin.ext (by show (i.val % 4 * 128 + d.val) % 128 - 64 = d.val - 64; omega)
    rw [← c1, ← c2]
    exact congrArg (fun y : Fin 64 => key x0 x1 x3 b T (grp h) ⟨i.val % 4 * 128 + d.val, by omega⟩ * x4 (ix3 b T y) + key x0 x1 x3 b T (grp h) ⟨i.val % 4 * 128 + d.val - 64, by omega⟩ * x5 (ix3 b T y)) c3

section Chunk
variable (arg1 : Memref sig .tc .hbm S6x2304x4x128 .i32) (arg2 : Memref sig .tc .hbm S6x16x8x2304 .f32) (arg3 : Memref sig .tc .vmem S6x64x128 .f32) (arg4 : Memref sig .tc .vmem S16x256x512 .bf16)
  (arg5 : Memref sig .tc .vmem S54x64x256 .f32) (arg6 : Memref sig .tc .vmem S54x64x256 .f32) (arg8 : Memref sig .tc .vmem S2x9x256x128 .i32)
  (arg9 : Memref sig .tc .vmem S2x9x4x8x256 .f32) (arg10 : Memref sig .tc .vmem S16x512x256 .bf16) (arg11 : Memref sig .tc .vmem S2x512x128 .i32)
  (arg12 : Memref sig .tc .vmem S4x8x256 .f32)
  (t : Fin k0_t3_loop.trips) (v : Elt Ideal .i32) (hw : k0_chk4 t v) (hF : Fits v) (k : Fin (k0_t8_loop v).trips)
  (X1 : BufTy.Contents (Elt Ideal) arg1.view.ty) (X2 : BufTy.Contents (Elt Ideal) arg2.view.ty)
  (x0 : Codes) (x1 : Scales) (x2 : Query) (x3 : Weights) (x4 x5 : Angles) (x6 : Lengths) (W5 W6 : S54x64x256.Idx → EReal)
  (h1 : ∀ (b : Fin 6) (T : Fin 2304) (q : Fin 4) (r : Fin 128) (g : Fin 4), (arg1.view.read (Elt Ideal) X1 (ix4 b T q r : S6x2304x4x128.Idx) : BitVec 32).extractLsb' (8 * g.val) 8 = x0 (ix4 b T ⟨4 * q.val + g.val, lt_four q g⟩ r))
  (h2 : ∀ (b : Fin 6) (g : Fin 16) (n : Fin 8) (T : Fin 2304), arg2.view.read (Elt Ideal) X2 (ix4 b g n T : S6x16x8x2304.Idx) = x1 (ix4 b T g n))
  (h5 : ∀ (b : Fin 6) (k : Fin 9) (d : Fin 64) (t : Fin 256), W5 (ix3 ⟨b.val * 9 + k.val, lt_rows b k⟩ d t) = x4 (ix3 b ⟨256 * k.val + t.val, lt_cache k t⟩ d))
  (h6 : ∀ (b : Fin 6) (k : Fin 9) (d : Fin 64) (t : Fin 256), W6 (ix3 ⟨b.val * 9 + k.val, lt_rows b k⟩ d t) = x5 (ix3 b ⟨256 * k.val + t.val, lt_cache k t⟩ d))
  (b : Fin 6) (T : Fin 2304) (t' : Fin 256) (hb : b.val = t.val % 6) (hT : T.val = 256 * k.val + t'.val)
include hF h1 h2 hb hT

/-- A group's rebuilt keys. -/
theorem kG_key (g : Fin 4) (c : Fin 512) (gg : Fin 16) (hg : gg.val = 4 * (t.val / 6) + g.val) :
    kG arg8 arg9 arg10 arg11 arg12 t v hw ((B1 arg8 t k).view.rep ((S1b arg1 t k).view.read (Elt Ideal) X1)) ((B2 arg9 t k).view.rep ((S2b arg2 t k).view.read (Elt Ideal) X2)) (wbuf (F := Ideal) arg4 arg10 (arg4.view.rep (Val := Elt Ideal) x3)) k g (ix2 c t') = key x0 x1 x3 b T gg c := by
  have ht := t_lt t
  refine (kG_apply arg8 arg9 arg10 arg11 arg12 t v hw _ _ _ k g c t').trans ?_
  have hs : ∀ (p : Fin 2), (∑ r : Fin 128, wtG arg10 t (wbuf (F := Ideal) arg4 arg10 (arg4.view.rep (Val := Elt Ideal) x3)) g (ix2 c (row2 r p))
      * (nib p (BitVec.extractLsb' (8 * g.val) 8 (tripK.sl.v416 (F := Ideal) arg8 t v hw ((B1 arg8 t k).view.rep ((S1b arg1 t k).view.read (Elt Ideal) X1)) k (ix4 0 0 t' r) : BitVec 32))
        * svec arg9 t v hw ((B2 arg9 t k).view.rep ((S2b arg2 t k).view.read (Elt Ideal) X2)) k g (ix5 0 0 0 (blk r) t'))) = part x0 x1 x3 p b T gg c := by
    intro p
    refine Finset.sum_congr rfl fun r _ => ?_
    rw [wtG_apply arg4 arg10 x3 t g c (row2 r p) gg hg, v416_apply t v hw hF k arg8 arg1 X1 t' r b T ⟨t.val / 6, by omega⟩ hb hT rfl,
      svec_apply t v hw hF k arg9 arg2 X2 g (blk r) t' b T gg hb hT hg, h1, h2]
    have e : (⟨4 * (t.val / 6) + g.val, by omega⟩ : Fin 16) = gg := Fin.ext hg.symm
    exact congrArg (fun y => x3 (ix3 gg (row2 r p) c) * (nib p (x0 (ix4 b T y r)) * x1 (ix4 b T gg (blk r)))) e
  exact congrArg₂ (· + ·) (hs 0) (hs 1)

include h5 h6 in
/-- A head's rotated keys. -/
theorem rotK_rot (n : Fin 9) (hn : n.val = k.val) (i : Fin 16) (d : Fin 128) (h : Fin 64) (hh : h.val = 16 * (t.val / 6) + i.val) :
    rotK (kG arg8 arg9 arg10 arg11 arg12 t v hw ((B1 arg8 t k).view.rep ((S1b arg1 t k).view.read (Elt Ideal) X1)) ((B2 arg9 t k).view.rep ((S2b arg2 t k).view.read (Elt Ideal) X2)) (wbuf (F := Ideal) arg4 arg10 (arg4.view.rep (Val := Elt Ideal) x3)) k) (csG arg5 t v hw (arg5.view.rep (Val := Elt Ideal) W5) k) (csG arg6 t v hw (arg6.view.rep (Val := Elt Ideal) W6) k) ⟨i.val / 4, lt_quarter i⟩ ⟨i.val % 4 * 128 + d.val, lt_cols i d⟩ t'
      = rot x0 x1 x3 x4 x5 b T h d := by
  have ht := t_lt t
  have eT : (⟨256 * n.val + t'.val, by omega⟩ : Fin 2304) = T := Fin.ext (by rw [hT, ← hn])
  have hp : b.val * 9 + n.val = t.val % 6 * 9 + k.val := by rw [hb, hn]
  have hg : (grp h).val = 4 * (t.val / 6) + (⟨i.val / 4, by omega⟩ : Fin 4).val := by
    show h.val / 4 = 4 * (t.val / 6) + i.val / 4; omega
  have hK : ∀ c : Fin 512, kG arg8 arg9 arg10 arg11 arg12 t v hw ((B1 arg8 t k).view.rep ((S1b arg1 t k).view.read (Elt Ideal) X1)) ((B2 arg9 t k).view.rep ((S2b arg2 t k).view.read (Elt Ideal) X2)) (wbuf (F := Ideal) arg4 arg10 (arg4.view.rep (Val := Elt Ideal) x3)) k ⟨i.val / 4, by omega⟩ (ix2 c t') = key x0 x1 x3 b T (grp h) c := fun c =>
    kG_key arg1 arg2 arg4 arg8 arg9 arg10 arg11 arg12 t v hw hF k X1 X2 x0 x1 x3 h1 h2 b T t' hb hT ⟨i.val / 4, by omega⟩ c (grp h) hg
  have hC : ∀ e : Fin 64, csG arg5 t v hw (arg5.view.rep (Val := Elt Ideal) W5) k (ix2 e t') = x4 (ix3 b T e) := fun e => by
    refine (csG_apply t v hw hF k arg5 W5 e t' ⟨b.val * 9 + n.val, by omega⟩ hp).trans ?_
    exact (h5 b n e t').trans (congrArg (fun y => x4 (ix3 b y e)) eT)
  have hS : ∀ e : Fin 64, csG arg6 t v hw (arg6.view.rep (Val := Elt Ideal) W6) k (ix2 e t') = x5 (ix3 b T e) := fun e => by
    refine (csG_apply t v hw hF k arg6 W6 e t' ⟨b.val * 9 + n.val, by omega⟩ hp).trans ?_
    exact (h6 b n e t').trans (congrArg (fun y => x5 (ix3 b y e)) eT)
  exact rotK_eq x0 x1 x3 x4 x5 b T t' _ _ _ (t.val / 6) i d h hh hK hC hS

end Chunk

/-! ## A stored row -/

/-- A position's word, wherever it is computed. -/
theorem pos_word (i : ℕ) (hi : i < 9) (t' : Fin 256) : BitVec.ofNat 32 t'.val + BitVec.ofNat 32 (256 * i) = BitVec.ofNat 32 (256 * i + t'.val) := by
  rw [← BitVec.ofNat_add, Nat.add_comm]

theorem mrow_apply (v : BitVec 32) (i : ℕ) (hi : i < 9) (r : Vec Ideal S1x16x256 .f32) (a : Fin 16) (t' : Fin 256) :
    mrow (F := Ideal) v i r (ix3 0 a t') = if (BitVec.ofNat 32 (256 * i + t'.val)).slt v then r (ix3 0 a t') * FloatOps.ofBits (F := Ideal) (φ := .f32) 0x3DB504F3#32
      else FloatOps.ofBits (F := Ideal) (φ := .f32) 0xFF800000#32 := by
  have hp : mrow (F := Ideal) v i r (ix3 0 a t') = Scalar.select (IntOp.cmpi .slt (IntOp.addi (BitVec.ofNat 32 t'.val) (BitVec.ofNat 32 (256 * i))) v) (r (ix3 0 a t') * FloatOps.ofBits (F := Ideal) (φ := .f32) 0x3DB504F3#32)
      (FloatOps.ofBits (F := Ideal) (φ := .f32) 0xFF800000#32) := by
    pointwise [mrow]
  rw [hp, show IntOp.addi (BitVec.ofNat 32 t'.val) (BitVec.ofNat 32 (256 * i)) = BitVec.ofNat 32 (256 * i + t'.val) from pos_word i hi t']
  show Scalar.select (BitVec.ofBool (BitVec.slt (BitVec.ofNat 32 (256 * i + t'.val)) v)) _ _ = _
  cases hs : BitVec.slt (BitVec.ofNat 32 (256 * i + t'.val)) v <;> rfl

end Cert.KernelIdeal.Hand
-- ==== Proof.Ideal.Result.lean ====
module

public import proofs.«01_k».proof.Proof.Ideal.Chunk

@[expose] public section

set_option maxRecDepth 16384
set_option maxHeartbeats 4000000

/-! The kernel's output, entry by entry, is the masked scores. -/

noncomputable section

namespace Cert.KernelIdeal.Hand

open Cert.KernelIdeal Cert.KernelIdeal.Gen Cert.Scores
open Idealize.ShloMosaic Idealize.ShloMosaic.TcCoe Idealize.SL.Sem

section Unit
variable (c : Dev nD) (bd : Option Variants.none.V) (arg0 : Memref sig .tc .smem S6 .i32) (harg0 : arg0.IsWhole) (arg1 : Memref sig .tc .hbm S6x2304x4x128 .i32) (harg1 : arg1.IsWhole) (arg2 : Memref sig .tc .hbm S6x16x8x2304 .f32) (harg2 : arg2.IsWhole) (arg3 : Memref sig .tc .vmem S6x64x128 .f32) (harg3 : arg3.IsWhole) (arg4 : Memref sig .tc .vmem S16x256x512 .bf16) (harg4 : arg4.IsWhole) (arg5 : Memref sig .tc .vmem S54x64x256 .f32) (harg5 : arg5.IsWhole) (arg6 : Memref sig .tc .vmem S54x64x256 .f32) (harg6 : arg6.IsWhole) (arg7 : Memref sig .tc .vmem S6x64x2304 .f32) (harg7 : arg7.IsWhole) (arg8 : Memref sig .tc .vmem S2x9x256x128 .i32) (harg8 : arg8.IsWhole) (arg9 : Memref sig .tc .vmem S2x9x4x8x256 .f32) (harg9 : arg9.IsWhole) (arg10 : Memref sig .tc .vmem S16x512x256 .bf16) (harg10 : arg10.IsWhole) (arg11 : Memref sig .tc .vmem S2x512x128 .i32) (harg11 : arg11.IsWhole) (arg12 : Memref sig .tc .vmem S4x8x256 .f32) (harg12 : arg12.IsWhole) (arg13 : Memref sig .tc .vmem S2048x256 .bf16) (harg13 : arg13.IsWhole) (arg14 : Memref sig .tc .vmem S9x16x256 .f32) (harg14 : arg14.IsWhole) (arg15 : Memref sig .tc .vmem S16x2048 .bf16) (harg15 : arg15.IsWhole) (arg16 : DmaSems sig S2)
  (L : S6.Idx → BitVec 32) (hX : ∀ x, Fits (arg0.view.read (Elt Ideal) (arg0.view.rep (Val := Elt Ideal) L) x))
  (X1 : BufTy.Contents (Elt Ideal) arg1.view.ty) (X2 : BufTy.Contents (Elt Ideal) arg2.view.ty)
  (x0 : Codes) (x1 : Scales) (x2 : Query) (x3 : Weights) (x4 x5 : Angles) (x6 : Lengths) (Q : S6x64x128.Idx → EReal) (W5 W6 : S54x64x256.Idx → EReal)
  (h1 : ∀ (b : Fin 6) (T : Fin 2304) (q : Fin 4) (r : Fin 128) (g : Fin 4), (arg1.view.read (Elt Ideal) X1 (ix4 b T q r : S6x2304x4x128.Idx) : BitVec 32).extractLsb' (8 * g.val) 8 = x0 (ix4 b T ⟨4 * q.val + g.val, lt_four q g⟩ r))
  (h2 : ∀ (b : Fin 6) (g : Fin 16) (n : Fin 8) (T : Fin 2304), arg2.view.read (Elt Ideal) X2 (ix4 b g n T : S6x16x8x2304.Idx) = x1 (ix4 b T g n))
  (hQ : ∀ (b : Fin 6) (h : Fin 64) (d : Fin 128), Q (ix3 b h d) = x2 (ix3 b h d))
  (h5 : ∀ (b : Fin 6) (k : Fin 9) (d : Fin 64) (t : Fin 256), W5 (ix3 ⟨b.val * 9 + k.val, lt_rows b k⟩ d t) = x4 (ix3 b ⟨256 * k.val + t.val, lt_cache k t⟩ d))
  (h6 : ∀ (b : Fin 6) (k : Fin 9) (d : Fin 64) (t : Fin 256), W6 (ix3 ⟨b.val * 9 + k.val, lt_rows b k⟩ d t) = x5 (ix3 b ⟨256 * k.val + t.val, lt_cache k t⟩ d))
  (hL : ∀ b : Fin 6, L (ix1 b) = x6 (ix1 b))
  (t : Fin k0_t3_loop.trips) (i : Fin 9) (a : Fin 16) (t' : Fin 256)
  (b : Fin 6) (h : Fin 64) (T : Fin 2304) (hb : b.val = t.val % 6) (hh : h.val = 16 * (t.val / 6) + a.val) (hT : T.val = 256 * i.val + t'.val)

include hL hb in
theorem word12_apply : word12 (F := Ideal) arg0 (arg0.view.rep (Val := Elt Ideal) L) t = x6 (ix1 b) := by
  have e : (Rect.unit (s := S6) (k0_off12 t) S1.size (k0_off12_inb t)).toLoadRect.idx (Shape.Idx.first (numel1_S1.symm ▸ Nat.one_pos)) = ix1 b := by
    have ho := k0_off12_eq t
    funext i
    match i with
    | ⟨0, _⟩ => exact Fin.ext (by show k0_off12 t 0 + 1 * 0 = b.val; rw [ho, hb]; rfl)
  refine (congrFun (readAt_rep arg0 L (Rect.unit (s := S6) (k0_off12 t) S1.size (k0_off12_inb t)).toLoadRect) _).trans ?_
  exact (congrArg L e).trans (hL b)

/-- A position inside the length lies in a chunk the unit has. -/
theorem in_chunk (v : BitVec 32) (hF : Fits v) (i : Fin 9) (t' : Fin 256) (hs : (BitVec.ofNat 32 (256 * i.val + t'.val)).slt v = true) : i.val < (k0_t8_loop v).trips := by
  by_contra hn
  have hb := beyond v hF i.val (Nat.le_of_not_lt hn)
  have e2 : (BitVec.ofNat 32 (256 * i.val + t'.val)).toInt = ((256 * i.val + t'.val : ℕ) : ℤ) := by
    have e3 : (BitVec.ofNat 32 (256 * i.val + t'.val)).toNat = 256 * i.val + t'.val := by
      rw [BitVec.toNat_ofNat, Nat.mod_eq_of_lt]; omega
    rw [BitVec.toInt_eq_toNat_of_lt (by rw [e3]; omega), e3]
  rw [BitVec.slt_iff_toInt_lt, e2] at hs
  omega

include h1 h2 hQ h5 h6 hL hb hh hT in
/-- A unit stores its chunk's scores. -/
theorem UOut_score :
    UOut (F := Ideal) c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 (arg0.view.rep (Val := Elt Ideal) L) hX X1 X2 (arg3.view.rep (Val := Elt Ideal) Q) (arg5.view.rep (Val := Elt Ideal) W5) (arg6.view.rep (Val := Elt Ideal) W6)
      (wbuf (F := Ideal) arg4 arg10 (arg4.view.rep (Val := Elt Ideal) x3)) rows108 t i.val (ix3 0 a t') = score x0 x1 x2 x3 x4 x5 x6 b h T := by
  have hw := word12_apply arg0 L x6 hL t b hb
  unfold UOut
  refine (mrow_apply (word12 (F := Ideal) arg0 (arg0.view.rep (Val := Elt Ideal) L) t) i.val i.isLt _ a t').trans ?_
  unfold score
  rw [hT, ← hw]
  by_cases hs : (BitVec.ofNat 32 (256 * i.val + t'.val)).slt (word12 (F := Ideal) arg0 (arg0.view.rep (Val := Elt Ideal) L) t) = true
  · rw [if_pos hs, if_pos hs]
    have hlt := in_chunk _ (word12_fits arg0 (arg0.view.rep (Val := Elt Ideal) L) hX t) i t' hs
    unfold dotp
    refine congrArg (· * FloatOps.ofBits (F := Ideal) (φ := .f32) 0x3DB504F3#32) ?_
    unfold Row
    rw [dif_pos hlt]
    refine (trip_apply c bd arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 t _ _ _ _ _ _ _ _ _ (arg3.view.rep (Val := Elt Ideal) Q) (arg5.view.rep (Val := Elt Ideal) W5) (arg6.view.rep (Val := Elt Ideal) W6) _ _ (wbuf (F := Ideal) arg4 arg10 (arg4.view.rep (Val := Elt Ideal) x3)) ⟨i.val, hlt⟩ a t').trans ?_
    refine Finset.sum_congr rfl fun d _ => congrArg₂ (· * ·) ?_ ?_
    · exact (query_apply t arg3 Q a d b h hb hh).trans (hQ b h d)
    · exact rotK_rot arg1 arg2 arg4 arg5 arg6 arg8 arg9 arg10 arg11 arg12 t _ _ (word12_fits arg0 (arg0.view.rep (Val := Elt Ideal) L) hX t) ⟨i.val, hlt⟩ X1 X2 x0 x1 x3 x4 x5 W5 W6 h1 h2 h5 h6 b T t' hb hT i rfl a d h hh
  · rw [if_neg hs, if_neg hs]
end Unit

variable (m : (ℓ : Loc nD τ sig) → Buf (Elt Ideal) ℓ) (hP : Lens m) (c : Dev nD)

/-- The kernel's output is the masked scores. -/
theorem out0_score (t : Fin cfg0.N) (b : Fin 6) (h : Fin 64) (T : Fin 2304) :
    out0 m hP c t (ix3 b h T : S6x64x2304.Idx) = score (a0 m c) (a1 m c) (a2 m c) (a3 m c) (a4 m c) (a5 m c) (a6 m c) b h T := by
  have e3 : (iblk m c 2 t : S16x256x512.Idx → EReal) = a3 m c := funext fun x => (iblk_2 m c t x).trans (congrFun (V_main_arg3 m c) x)
  unfold out0 U0
  refine (UOut_score c none (ms0 t) (hstage0_0 0) hb1 (Memref.isWhole_whole _) hb2 (Memref.isWhole_whole _) (ms1 t) (hstage0_1 0) (ms2 t) (hstage0_2 0) (ms3 t) (hstage0_3 0) (ms4 t) (hstage0_4 0) (ms5 t) (hstage0_5 0) sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) sc7 (Memref.isWhole_whole _) cc0_scratch8 (iblk m c 0 t) (hX0 m hP c t) (Gen.V m c main_v18) (Gen.V m c main_v19)
    (a0 m c) (a1 m c) (a2 m c) (iblk m c 2 t) (a4 m c) (a5 m c) (a6 m c) (iblk m c 1 t) (iblk m c 3 t) (iblk m c 4 t)
    (fun b T q r g => words_at m c b T q r g) (fun b g n T => scales_at m c b g n T)
    (fun b h d => (iblk_1 m c t _).trans (congrFun (V_main_arg2 m c) _))
    (fun b k d t' => (iblk_3 m c t _).trans (cos_at m c b k d t')) (fun b k d t' => (iblk_4 m c t _).trans (sin_at m c b k d t'))
    (fun b => (iblk_0 m c t _).trans (congrFun (V_main_arg6 m c) _))
    ⟨6 * (h.val / 16) + b.val, unit_lt h.isLt b.isLt⟩ ⟨T.val / 256, by omega⟩ ⟨h.val % 16, Nat.mod_lt _ (by decide)⟩ ⟨T.val % 256, Nat.mod_lt _ (by decide)⟩
    b h T (by show b.val = (6 * (h.val / 16) + b.val) % 6; omega) (by show h.val = 16 * ((6 * (h.val / 16) + b.val) / 6) + h.val % 16; omega) (by show T.val = 256 * (T.val / 256) + T.val % 256; omega)).trans ?_
  rw [e3]

end Cert.KernelIdeal.Hand
-- ==== Proof.Ideal.Output.lean ====
module

public import proofs.«01_k».proof.Proof.Ideal.Result
public import Idealize.ShloMosaic.Lib.Pipeline.ValueKit.Geometry

@[expose] public section

set_option maxRecDepth 16384
set_option maxHeartbeats 400000

/-! The output array ends holding the masked scores. -/

noncomputable section

namespace Cert.KernelIdeal.Hand

open Cert.KernelIdeal Cert.KernelIdeal.Gen Cert.Scores
open Idealize.ShloMosaic Idealize.ShloMosaic.TcCoe Idealize.SL.Sem

variable (m : (ℓ : Loc nD τ sig) → Buf (Elt Ideal) ℓ) (hP : Lens m) (c : Dev nD)

/-- The masked scores of the arguments. -/
def scores : S6x64x2304.Idx → EReal := fun x => score (a0 m c) (a1 m c) (a2 m c) (a3 m c) (a4 m c) (a5 m c) (a6 m c) (x 0) (x 1) (x 2)

theorem out0_eq (t : Fin cfg0.N) : out0 m hP c t = scores m c := by
  funext x
  obtain ⟨b, h, T, rfl⟩ : ∃ (b : Fin 6) (h : Fin 64) (T : Fin 2304), x = ix3 b h T := ⟨x 0, x 1, x 2, by funext i; match i with | ⟨0, _⟩ => rfl | ⟨1, _⟩ => rfl | ⟨2, _⟩ => rfl⟩
  exact out0_score m hP c t b h T

/-- The output array ends holding the masked scores. -/
theorem output_eq : (dats m hP 0 c).arrAt 5 (Fin.last cfg0.N) = scores m c := by
  refine Pipeline.Dat.arrAt_eq_of_after_last (dats m hP 0 c) 5 ⟨0, by decide⟩ (by decide +kernel) (scores m c) fun j => ?_
  rw [after_5, out0_eq]
  rfl

end Cert.KernelIdeal.Hand
-- ==== Proof.Reference.Run.lean ====
module

public import Idealize.ShloMosaic.Lib.StableHlo.Run
public import proofs.«01_k».proof.Proof.Gen.ReferenceIdeal

@[expose] public section

set_option maxRecDepth 16384
set_option maxHeartbeats 4000000

/-! The reference's run: a straight line of array operations, its result their fold. -/

noncomputable section

namespace Cert.ReferenceIdeal.Hand

open Cert.ReferenceIdeal Cert.ReferenceIdeal.Gen
open Idealize.ShloMosaic Idealize.ShloMosaic.TcCoe Idealize.ShloMosaic.StableHlo Idealize.SL.Sem

variable {F : FTy → Type} [FloatOps F]

/-- The operations, in order; the last four are the masked choice. -/
abbrev ops : List (HloOp τ sig (Elt F)) :=
  [ unary main_arg0 main_v0 ((extui 32 · natLt_8_32) : (⟨S6x2304x16x128, .i8⟩ : BufTy).Contents (Elt F) → (⟨S6x2304x16x128, .i32⟩ : BufTy).Contents (Elt F)),
    nullary main_c (constantI S_ 32 15#32),
    unary main_c main_v1 (broadcastInDim S6x2304x16x128 ![] bcast_S_S6x2304x16x128 : (⟨S_, .i32⟩ : BufTy).Contents (Elt F) → (⟨S6x2304x16x128, .i32⟩ : BufTy).Contents (Elt F)),
    binary main_v0 main_v1 main_v2 (andi : (⟨S6x2304x16x128, .i32⟩ : BufTy).Contents (Elt F) → (⟨S6x2304x16x128, .i32⟩ : BufTy).Contents (Elt F) → (⟨S6x2304x16x128, .i32⟩ : BufTy).Contents (Elt F)),
    nullary main_c_0 (constantI S_ 32 8#32),
    unary main_c_0 main_v3 (broadcastInDim S6x2304x16x128 ![] bcast_S_S6x2304x16x128 : (⟨S_, .i32⟩ : BufTy).Contents (Elt F) → (⟨S6x2304x16x128, .i32⟩ : BufTy).Contents (Elt F)),
    binary main_v2 main_v3 main_v4 (xori : (⟨S6x2304x16x128, .i32⟩ : BufTy).Contents (Elt F) → (⟨S6x2304x16x128, .i32⟩ : BufTy).Contents (Elt F) → (⟨S6x2304x16x128, .i32⟩ : BufTy).Contents (Elt F)),
    nullary main_c_1 (constantI S_ 32 8#32),
    unary main_c_1 main_v5 (broadcastInDim S6x2304x16x128 ![] bcast_S_S6x2304x16x128 : (⟨S_, .i32⟩ : BufTy).Contents (Elt F) → (⟨S6x2304x16x128, .i32⟩ : BufTy).Contents (Elt F)),
    binary main_v4 main_v5 main_v6 (subi : (⟨S6x2304x16x128, .i32⟩ : BufTy).Contents (Elt F) → (⟨S6x2304x16x128, .i32⟩ : BufTy).Contents (Elt F) → (⟨S6x2304x16x128, .i32⟩ : BufTy).Contents (Elt F)),
    nullary main_c_2 (constantI S_ 32 4#32),
    unary main_c_2 main_v7 (broadcastInDim S6x2304x16x128 ![] bcast_S_S6x2304x16x128 : (⟨S_, .i32⟩ : BufTy).Contents (Elt F) → (⟨S6x2304x16x128, .i32⟩ : BufTy).Contents (Elt F)),
    binary main_v0 main_v7 main_v8 (Host.shrsi : (⟨S6x2304x16x128, .i32⟩ : BufTy).Contents (Elt F) → (⟨S6x2304x16x128, .i32⟩ : BufTy).Contents (Elt F) → (⟨S6x2304x16x128, .i32⟩ : BufTy).Contents (Elt F)),
    nullary main_c_3 (constantI S_ 32 8#32),
    unary main_c_3 main_v9 (broadcastInDim S6x2304x16x128 ![] bcast_S_S6x2304x16x128 : (⟨S_, .i32⟩ : BufTy).Contents (Elt F) → (⟨S6x2304x16x128, .i32⟩ : BufTy).Contents (Elt F)),
    binary main_v8 main_v9 main_v10 (xori : (⟨S6x2304x16x128, .i32⟩ : BufTy).Contents (Elt F) → (⟨S6x2304x16x128, .i32⟩ : BufTy).Contents (Elt F) → (⟨S6x2304x16x128, .i32⟩ : BufTy).Contents (Elt F)),
    nullary main_c_4 (constantI S_ 32 8#32),
    unary main_c_4 main_v11 (broadcastInDim S6x2304x16x128 ![] bcast_S_S6x2304x16x128 : (⟨S_, .i32⟩ : BufTy).Contents (Elt F) → (⟨S6x2304x16x128, .i32⟩ : BufTy).Contents (Elt F)),
    binary main_v10 main_v11 main_v12 (subi : (⟨S6x2304x16x128, .i32⟩ : BufTy).Contents (Elt F) → (⟨S6x2304x16x128, .i32⟩ : BufTy).Contents (Elt F) → (⟨S6x2304x16x128, .i32⟩ : BufTy).Contents (Elt F)),
    unary main_arg1 main_v13 ((truncf .bf16 · bitsLt_bf16_f32) : (⟨S6x2304x16x8, .f32⟩ : BufTy).Contents (Elt F) → (⟨S6x2304x16x8, .bf16⟩ : BufTy).Contents (Elt F)),
    unary main_v13 main_v14 (broadcastInDim S6x2304x16x8x1 ![0, 1, 2, 3] bcast_S6x2304x16x8_S6x2304x16x8x1_0_1_2_3 : (⟨S6x2304x16x8, .bf16⟩ : BufTy).Contents (Elt F) → (⟨S6x2304x16x8x1, .bf16⟩ : BufTy).Contents (Elt F)),
    unary main_v6 main_v15 (sitofp .bf16 : (⟨S6x2304x16x128, .i32⟩ : BufTy).Contents (Elt F) → (⟨S6x2304x16x128, .bf16⟩ : BufTy).Contents (Elt F)),
    reshape main_v15 main_v16 (rfl : (.bf16 : EltTy) = .bf16) shapeCasts_S6x2304x16x128_S6x2304x16x8x16,
    unary main_v14 main_v17 (broadcastInDim S6x2304x16x8x16 ![0, 1, 2, 3, 4] bcast_S6x2304x16x8x1_S6x2304x16x8x16_0_1_2_3_4 : (⟨S6x2304x16x8x1, .bf16⟩ : BufTy).Contents (Elt F) → (⟨S6x2304x16x8x16, .bf16⟩ : BufTy).Contents (Elt F)),
    binary main_v16 main_v17 main_v18 (mulf : (⟨S6x2304x16x8x16, .bf16⟩ : BufTy).Contents (Elt F) → (⟨S6x2304x16x8x16, .bf16⟩ : BufTy).Contents (Elt F) → (⟨S6x2304x16x8x16, .bf16⟩ : BufTy).Contents (Elt F)),
    reshape main_v18 main_v19 (rfl : (.bf16 : EltTy) = .bf16) shapeCasts_S6x2304x16x8x16_S6x2304x16x128,
    unary main_v12 main_v20 (sitofp .bf16 : (⟨S6x2304x16x128, .i32⟩ : BufTy).Contents (Elt F) → (⟨S6x2304x16x128, .bf16⟩ : BufTy).Contents (Elt F)),
    reshape main_v20 main_v21 (rfl : (.bf16 : EltTy) = .bf16) shapeCasts_S6x2304x16x128_S6x2304x16x8x16,
    unary main_v14 main_v22 (broadcastInDim S6x2304x16x8x16 ![0, 1, 2, 3, 4] bcast_S6x2304x16x8x1_S6x2304x16x8x16_0_1_2_3_4 : (⟨S6x2304x16x8x1, .bf16⟩ : BufTy).Contents (Elt F) → (⟨S6x2304x16x8x16, .bf16⟩ : BufTy).Contents (Elt F)),
    binary main_v21 main_v22 main_v23 (mulf : (⟨S6x2304x16x8x16, .bf16⟩ : BufTy).Contents (Elt F) → (⟨S6x2304x16x8x16, .bf16⟩ : BufTy).Contents (Elt F) → (⟨S6x2304x16x8x16, .bf16⟩ : BufTy).Contents (Elt F)),
    reshape main_v23 main_v24 (rfl : (.bf16 : EltTy) = .bf16) shapeCasts_S6x2304x16x8x16_S6x2304x16x128,
    unary main_arg3 main_v25 ((Host.slice S16x128x512 ![0, 0, 0] ![1, 2, 1] · slicesBy_S16x256x512_S16x128x512_0s1_0s2_0s1) : (⟨S16x256x512, .bf16⟩ : BufTy).Contents (Elt F) → (⟨S16x128x512, .bf16⟩ : BufTy).Contents (Elt F)),
    binary main_v25 main_v19 main_v26 ((fun l r => Host.dotGeneral dot_S16x128x512_S6x2304x16x128_S16x512x6x2304_1_3_2_01_0_2 none l r) : (⟨S16x128x512, .bf16⟩ : BufTy).Contents (Elt F) → (⟨S6x2304x16x128, .bf16⟩ : BufTy).Contents (Elt F) → (⟨S16x512x6x2304, .f32⟩ : BufTy).Contents (Elt F)),
    unary main_v26 main_v27 ((transpose S6x2304x16x512 [2, 3, 0, 1] · transposes_S16x512x6x2304_S6x2304x16x512_2_3_0_1) : (⟨S16x512x6x2304, .f32⟩ : BufTy).Contents (Elt F) → (⟨S6x2304x16x512, .f32⟩ : BufTy).Contents (Elt F)),
    unary main_arg3 main_v28 ((Host.slice S16x128x512 ![0, 1, 0] ![1, 2, 1] · slicesBy_S16x256x512_S16x128x512_0s1_1s2_0s1) : (⟨S16x256x512, .bf16⟩ : BufTy).Contents (Elt F) → (⟨S16x128x512, .bf16⟩ : BufTy).Contents (Elt F)),
    binary main_v28 main_v24 main_v29 ((fun l r => Host.dotGeneral dot_S16x128x512_S6x2304x16x128_S16x512x6x2304_1_3_2_01_0_2 none l r) : (⟨S16x128x512, .bf16⟩ : BufTy).Contents (Elt F) → (⟨S6x2304x16x128, .bf16⟩ : BufTy).Contents (Elt F) → (⟨S16x512x6x2304, .f32⟩ : BufTy).Contents (Elt F)),
    unary main_v29 main_v30 ((transpose S6x2304x16x512 [2, 3, 0, 1] · transposes_S16x512x6x2304_S6x2304x16x512_2_3_0_1) : (⟨S16x512x6x2304, .f32⟩ : BufTy).Contents (Elt F) → (⟨S6x2304x16x512, .f32⟩ : BufTy).Contents (Elt F)),
    binary main_v27 main_v30 main_v31 (addf : (⟨S6x2304x16x512, .f32⟩ : BufTy).Contents (Elt F) → (⟨S6x2304x16x512, .f32⟩ : BufTy).Contents (Elt F) → (⟨S6x2304x16x512, .f32⟩ : BufTy).Contents (Elt F)),
    reshape main_v31 main_v32 (rfl : (.f32 : EltTy) = .f32) shapeCasts_S6x2304x16x512_S6x2304x64x128,
    binary main_arg4 main_arg4 main_v33 ((fun a b => concatenate S6x2304x128 2 [⟨S6x2304x64, a⟩, ⟨S6x2304x64, b⟩] concatenates_S6x2304x64_S6x2304x64_S6x2304x128_d2) : (⟨S6x2304x64, .f32⟩ : BufTy).Contents (Elt F) → (⟨S6x2304x64, .f32⟩ : BufTy).Contents (Elt F) → (⟨S6x2304x128, .f32⟩ : BufTy).Contents (Elt F)),
    unary main_v33 main_v34 (broadcastInDim S6x2304x1x128 ![0, 1, 3] bcast_S6x2304x128_S6x2304x1x128_0_1_3 : (⟨S6x2304x128, .f32⟩ : BufTy).Contents (Elt F) → (⟨S6x2304x1x128, .f32⟩ : BufTy).Contents (Elt F)),
    binary main_arg5 main_arg5 main_v35 ((fun a b => concatenate S6x2304x128 2 [⟨S6x2304x64, a⟩, ⟨S6x2304x64, b⟩] concatenates_S6x2304x64_S6x2304x64_S6x2304x128_d2) : (⟨S6x2304x64, .f32⟩ : BufTy).Contents (Elt F) → (⟨S6x2304x64, .f32⟩ : BufTy).Contents (Elt F) → (⟨S6x2304x128, .f32⟩ : BufTy).Contents (Elt F)),
    unary main_v35 main_v36 (broadcastInDim S6x2304x1x128 ![0, 1, 3] bcast_S6x2304x128_S6x2304x1x128_0_1_3 : (⟨S6x2304x128, .f32⟩ : BufTy).Contents (Elt F) → (⟨S6x2304x1x128, .f32⟩ : BufTy).Contents (Elt F)),
    unary main_v32 main_v37 ((extractStridedSlice S6x2304x64x64 ![0, 0, 0, 64] · slices_S6x2304x64x128_S6x2304x64x64_0_0_0_64) : (⟨S6x2304x64x128, .f32⟩ : BufTy).Contents (Elt F) → (⟨S6x2304x64x64, .f32⟩ : BufTy).Contents (Elt F)),
    unary main_v37 main_v38 (Host.negf : (⟨S6x2304x64x64, .f32⟩ : BufTy).Contents (Elt F) → (⟨S6x2304x64x64, .f32⟩ : BufTy).Contents (Elt F)),
    unary main_v32 main_v39 ((extractStridedSlice S6x2304x64x64 ![0, 0, 0, 0] · slices_S6x2304x64x128_S6x2304x64x64_0_0_0_0) : (⟨S6x2304x64x128, .f32⟩ : BufTy).Contents (Elt F) → (⟨S6x2304x64x64, .f32⟩ : BufTy).Contents (Elt F)),
    binary main_v38 main_v39 main_v40 ((fun a b => concatenate S6x2304x64x128 3 [⟨S6x2304x64x64, a⟩, ⟨S6x2304x64x64, b⟩] concatenates_S6x2304x64x64_S6x2304x64x64_S6x2304x64x128_d3) : (⟨S6x2304x64x64, .f32⟩ : BufTy).Contents (Elt F) → (⟨S6x2304x64x64, .f32⟩ : BufTy).Contents (Elt F) → (⟨S6x2304x64x128, .f32⟩ : BufTy).Contents (Elt F)),
    unary main_v34 main_v41 (broadcastInDim S6x2304x64x128 ![0, 1, 2, 3] bcast_S6x2304x1x128_S6x2304x64x128_0_1_2_3 : (⟨S6x2304x1x128, .f32⟩ : BufTy).Contents (Elt F) → (⟨S6x2304x64x128, .f32⟩ : BufTy).Contents (Elt F)),
    binary main_v32 main_v41 main_v42 (mulf : (⟨S6x2304x64x128, .f32⟩ : BufTy).Contents (Elt F) → (⟨S6x2304x64x128, .f32⟩ : BufTy).Contents (Elt F) → (⟨S6x2304x64x128, .f32⟩ : BufTy).Contents (Elt F)),
    unary main_v36 main_v43 (broadcastInDim S6x2304x64x128 ![0, 1, 2, 3] bcast_S6x2304x1x128_S6x2304x64x128_0_1_2_3 : (⟨S6x2304x1x128, .f32⟩ : BufTy).Contents (Elt F) → (⟨S6x2304x64x128, .f32⟩ : BufTy).Contents (Elt F)),
    binary main_v40 main_v43 main_v44 (mulf : (⟨S6x2304x64x128, .f32⟩ : BufTy).Contents (Elt F) → (⟨S6x2304x64x128, .f32⟩ : BufTy).Contents (Elt F) → (⟨S6x2304x64x128, .f32⟩ : BufTy).Contents (Elt F)),
    binary main_v42 main_v44 main_v45 (addf : (⟨S6x2304x64x128, .f32⟩ : BufTy).Contents (Elt F) → (⟨S6x2304x64x128, .f32⟩ : BufTy).Contents (Elt F) → (⟨S6x2304x64x128, .f32⟩ : BufTy).Contents (Elt F)),
    unary main_v45 main_v46 ((truncf .bf16 · bitsLt_bf16_f32) : (⟨S6x2304x64x128, .f32⟩ : BufTy).Contents (Elt F) → (⟨S6x2304x64x128, .bf16⟩ : BufTy).Contents (Elt F)),
    unary main_arg2 main_v47 ((truncf .bf16 · bitsLt_bf16_f32) : (⟨S6x64x128, .f32⟩ : BufTy).Contents (Elt F) → (⟨S6x64x128, .bf16⟩ : BufTy).Contents (Elt F)),
    binary main_v47 main_v46 main_v48 ((fun l r => Host.dotGeneral dot_S6x64x128_S6x2304x64x128_S6x64x2304_2_3_n_1_01_02 none l r) : (⟨S6x64x128, .bf16⟩ : BufTy).Contents (Elt F) → (⟨S6x2304x64x128, .bf16⟩ : BufTy).Contents (Elt F) → (⟨S6x64x2304, .f32⟩ : BufTy).Contents (Elt F)),
    nullary main_cst (constant S_ .f32 0x3DB504F3#32),
    unary main_cst main_v49 (broadcastInDim S6x64x2304 ![] bcast_S_S6x64x2304 : (⟨S_, .f32⟩ : BufTy).Contents (Elt F) → (⟨S6x64x2304, .f32⟩ : BufTy).Contents (Elt F)),
    binary main_v48 main_v49 main_v50 (mulf : (⟨S6x64x2304, .f32⟩ : BufTy).Contents (Elt F) → (⟨S6x64x2304, .f32⟩ : BufTy).Contents (Elt F) → (⟨S6x64x2304, .f32⟩ : BufTy).Contents (Elt F)),
    nullary main_v51 (iotaInDim S2304 32 0),
    unary main_v51 main_v52 (broadcastInDim S1x1x2304 ![2] bcast_S2304_S1x1x2304_2 : (⟨S2304, .i32⟩ : BufTy).Contents (Elt F) → (⟨S1x1x2304, .i32⟩ : BufTy).Contents (Elt F)),
    unary main_arg6 main_v53 (broadcastInDim S6x1x1 ![0] bcast_S6_S6x1x1_0 : (⟨S6, .i32⟩ : BufTy).Contents (Elt F) → (⟨S6x1x1, .i32⟩ : BufTy).Contents (Elt F)),
    unary main_v52 main_v54 (broadcastInDim S6x1x2304 ![0, 1, 2] bcast_S1x1x2304_S6x1x2304_0_1_2 : (⟨S1x1x2304, .i32⟩ : BufTy).Contents (Elt F) → (⟨S6x1x2304, .i32⟩ : BufTy).Contents (Elt F)),
    unary main_v53 main_v55 (broadcastInDim S6x1x2304 ![0, 1, 2] bcast_S6x1x1_S6x1x2304_0_1_2 : (⟨S6x1x1, .i32⟩ : BufTy).Contents (Elt F) → (⟨S6x1x2304, .i32⟩ : BufTy).Contents (Elt F)),
    binary main_v54 main_v55 main_v56 (cmpi .slt : (⟨S6x1x2304, .i32⟩ : BufTy).Contents (Elt F) → (⟨S6x1x2304, .i32⟩ : BufTy).Contents (Elt F) → (⟨S6x1x2304, .i1⟩ : BufTy).Contents (Elt F)),
    nullary main_cst_5 (constant S_ .f32 0xFF800000#32),
    unary main_cst_5 main_call0_v0 (id : (⟨S_, .f32⟩ : BufTy).Contents (Elt F) → (⟨S_, .f32⟩ : BufTy).Contents (Elt F)),
    unary main_v56 main_call0_v1 (broadcastInDim S6x64x2304 ![0, 1, 2] bcast_S6x1x2304_S6x64x2304_0_1_2 : (⟨S6x1x2304, .i1⟩ : BufTy).Contents (Elt F) → (⟨S6x64x2304, .i1⟩ : BufTy).Contents (Elt F)),
    unary main_call0_v0 main_call0_v2 (broadcastInDim S6x64x2304 ![] bcast_S_S6x64x2304 : (⟨S_, .f32⟩ : BufTy).Contents (Elt F) → (⟨S6x64x2304, .f32⟩ : BufTy).Contents (Elt F)),
    ternary main_call0_v1 main_v50 main_call0_v2 main_v57 (select : (⟨S6x64x2304, .i1⟩ : BufTy).Contents (Elt F) → (⟨S6x64x2304, .f32⟩ : BufTy).Contents (Elt F) → (⟨S6x64x2304, .f32⟩ : BufTy).Contents (Elt F) → (⟨S6x64x2304, .f32⟩ : BufTy).Contents (Elt F)) ]

theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨unary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., unary_bufs_sub .., unary_bufs_sub .., unary_bufs_sub .., reshape_bufs_sub .., unary_bufs_sub .., binary_bufs_sub .., reshape_bufs_sub .., unary_bufs_sub .., reshape_bufs_sub .., unary_bufs_sub .., binary_bufs_sub .., reshape_bufs_sub .., unary_bufs_sub .., binary_bufs_sub .., unary_bufs_sub .., unary_bufs_sub .., binary_bufs_sub .., unary_bufs_sub .., binary_bufs_sub .., reshape_bufs_sub .., binary_bufs_sub .., unary_bufs_sub .., binary_bufs_sub .., unary_bufs_sub .., unary_bufs_sub .., unary_bufs_sub .., unary_bufs_sub .., binary_bufs_sub .., unary_bufs_sub .., binary_bufs_sub .., unary_bufs_sub .., binary_bufs_sub .., binary_bufs_sub .., unary_bufs_sub .., unary_bufs_sub .., binary_bufs_sub .., nullary_bufs_sub .., unary_bufs_sub .., binary_bufs_sub .., nullary_bufs_sub .., unary_bufs_sub .., unary_bufs_sub .., unary_bufs_sub .., unary_bufs_sub .., binary_bufs_sub .., nullary_bufs_sub ..,
   unary_bufs_sub .., unary_bufs_sub .., unary_bufs_sub .., ternary_bufs_sub ..⟩

/-- Every buffer ends at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

theorem arg0_eq (V : Valuation τ sig (Elt F)) : after ops V (main_arg0 : DevRef τ sig) = V (main_arg0 : DevRef τ sig) := by
  simp only [after_cons, after_nil]
  rfl
theorem arg1_eq (V : Valuation τ sig (Elt F)) : after ops V (main_arg1 : DevRef τ sig) = V (main_arg1 : DevRef τ sig) := by
  simp only [after_cons, after_nil]
  rfl
theorem arg2_eq (V : Valuation τ sig (Elt F)) : after ops V (main_arg2 : DevRef τ sig) = V (main_arg2 : DevRef τ sig) := by
  simp only [after_cons, after_nil]
  rfl
theorem arg3_eq (V : Valuation τ sig (Elt F)) : after ops V (main_arg3 : DevRef τ sig) = V (main_arg3 : DevRef τ sig) := by
  simp only [after_cons, after_nil]
  rfl
theorem arg4_eq (V : Valuation τ sig (Elt F)) : after ops V (main_arg4 : DevRef τ sig) = V (main_arg4 : DevRef τ sig) := by
  simp only [after_cons, after_nil]
  rfl
theorem arg5_eq (V : Valuation τ sig (Elt F)) : after ops V (main_arg5 : DevRef τ sig) = V (main_arg5 : DevRef τ sig) := by
  simp only [after_cons, after_nil]
  rfl
theorem arg6_eq (V : Valuation τ sig (Elt F)) : after ops V (main_arg6 : DevRef τ sig) = V (main_arg6 : DevRef τ sig) := by
  simp only [after_cons, after_nil]
  rfl

end Cert.ReferenceIdeal.Hand
-- ==== Proof.Reference.Value.lean ====
module

public import proofs.«01_k».proof.Proof.Reference.Run
public import proofs.«01_k».proof.Proof.Spec
public import Idealize.ShloMosaic.Lib.Pointwise

@[expose] public section

set_option maxRecDepth 16384
set_option maxHeartbeats 4000000

/-! The reference's result, entry by entry. -/

noncomputable section

namespace Cert.ReferenceIdeal.Hand

open Cert.ReferenceIdeal Cert.ReferenceIdeal.Gen Cert.Scores
open Idealize.ShloMosaic Idealize.ShloMosaic.TcCoe Idealize.ShloMosaic.StableHlo Idealize.SL.Sem

/-- The codes of the low halves, scaled. -/
def evens (x0 : S6x2304x16x128.Idx → BitVec 8) (x1 : S6x2304x16x8.Idx → EReal) : S6x2304x16x128.Idx → EReal :=
  let r_v0 := ((extui 32 · natLt_8_32)) x0
  let r_c := (constantI S_ 32 15#32)
  let r_v1 := (broadcastInDim S6x2304x16x128 ![] bcast_S_S6x2304x16x128) r_c
  let r_v2 := (andi) r_v0 r_v1
  let r_c_0 := (constantI S_ 32 8#32)
  let r_v3 := (broadcastInDim S6x2304x16x128 ![] bcast_S_S6x2304x16x128) r_c_0
  let r_v4 := (xori) r_v2 r_v3
  let r_c_1 := (constantI S_ 32 8#32)
  let r_v5 := (broadcastInDim S6x2304x16x128 ![] bcast_S_S6x2304x16x128) r_c_1
  let r_v6 := (subi) r_v4 r_v5
  let r_v13 := ((truncf (F := Ideal) .bf16 · bitsLt_bf16_f32)) x1
  let r_v14 := (broadcastInDim S6x2304x16x8x1 ![0, 1, 2, 3] bcast_S6x2304x16x8_S6x2304x16x8x1_0_1_2_3) r_v13
  let r_v15 := (sitofp (F := Ideal) .bf16) r_v6
  let r_v16 := shapeCast S6x2304x16x8x16 r_v15 shapeCasts_S6x2304x16x128_S6x2304x16x8x16
  let r_v17 := (broadcastInDim S6x2304x16x8x16 ![0, 1, 2, 3, 4] bcast_S6x2304x16x8x1_S6x2304x16x8x16_0_1_2_3_4) r_v14
  let r_v18 := (mulf (F := Ideal) (φ := .f32)) r_v16 r_v17
  let r_v19 := shapeCast S6x2304x16x128 r_v18 shapeCasts_S6x2304x16x8x16_S6x2304x16x128
  r_v19

/-- The codes of the high halves, scaled. -/
def odds (x0 : S6x2304x16x128.Idx → BitVec 8) (x1 : S6x2304x16x8.Idx → EReal) : S6x2304x16x128.Idx → EReal :=
  let r_v0 := ((extui 32 · natLt_8_32)) x0
  let r_c_2 := (constantI S_ 32 4#32)
  let r_v7 := (broadcastInDim S6x2304x16x128 ![] bcast_S_S6x2304x16x128) r_c_2
  let r_v8 := (Host.shrsi) r_v0 r_v7
  let r_c_3 := (constantI S_ 32 8#32)
  let r_v9 := (broadcastInDim S6x2304x16x128 ![] bcast_S_S6x2304x16x128) r_c_3
  let r_v10 := (xori) r_v8 r_v9
  let r_c_4 := (constantI S_ 32 8#32)
  let r_v11 := (broadcastInDim S6x2304x16x128 ![] bcast_S_S6x2304x16x128) r_c_4
  let r_v12 := (subi) r_v10 r_v11
  let r_v13 := ((truncf (F := Ideal) .bf16 · bitsLt_bf16_f32)) x1
  let r_v14 := (broadcastInDim S6x2304x16x8x1 ![0, 1, 2, 3] bcast_S6x2304x16x8_S6x2304x16x8x1_0_1_2_3) r_v13
  let r_v20 := (sitofp (F := Ideal) .bf16) r_v12
  let r_v21 := shapeCast S6x2304x16x8x16 r_v20 shapeCasts_S6x2304x16x128_S6x2304x16x8x16
  let r_v22 := (broadcastInDim S6x2304x16x8x16 ![0, 1, 2, 3, 4] bcast_S6x2304x16x8x1_S6x2304x16x8x16_0_1_2_3_4) r_v14
  let r_v23 := (mulf (F := Ideal) (φ := .f32)) r_v21 r_v22
  let r_v24 := shapeCast S6x2304x16x128 r_v23 shapeCasts_S6x2304x16x8x16_S6x2304x16x128
  r_v24

/-- The rebuilt keys, heads side by side within their group. -/
def keys (r_v19 r_v24 : S6x2304x16x128.Idx → EReal) (x3 : S16x256x512.Idx → EReal) : S6x2304x16x512.Idx → EReal :=
  let r_v25 := ((Host.slice S16x128x512 ![0, 0, 0] ![1, 2, 1] · slicesBy_S16x256x512_S16x128x512_0s1_0s2_0s1)) x3
  let r_v26 := ((fun l r => Host.dotGeneral (F := Ideal) (φ₁ := .bf16) (φ₂ := .bf16) dot_S16x128x512_S6x2304x16x128_S16x512x6x2304_1_3_2_01_0_2 none l r)) r_v25 r_v19
  let r_v27 := ((transpose S6x2304x16x512 [2, 3, 0, 1] · transposes_S16x512x6x2304_S6x2304x16x512_2_3_0_1)) r_v26
  let r_v28 := ((Host.slice S16x128x512 ![0, 1, 0] ![1, 2, 1] · slicesBy_S16x256x512_S16x128x512_0s1_1s2_0s1)) x3
  let r_v29 := ((fun l r => Host.dotGeneral (F := Ideal) (φ₁ := .bf16) (φ₂ := .bf16) dot_S16x128x512_S6x2304x16x128_S16x512x6x2304_1_3_2_01_0_2 none l r)) r_v28 r_v24
  let r_v30 := ((transpose S6x2304x16x512 [2, 3, 0, 1] · transposes_S16x512x6x2304_S6x2304x16x512_2_3_0_1)) r_v29
  let r_v31 := (addf (F := Ideal) (φ := .f32)) r_v27 r_v30
  r_v31

/-- The rotated keys. -/
def rots (r_v31 : S6x2304x16x512.Idx → EReal) (x4 x5 : S6x2304x64.Idx → EReal) : S6x2304x64x128.Idx → EReal :=
  let r_v32 := shapeCast S6x2304x64x128 r_v31 shapeCasts_S6x2304x16x512_S6x2304x64x128
  let r_v33 := ((fun a b => concatenate S6x2304x128 2 [⟨S6x2304x64, a⟩, ⟨S6x2304x64, b⟩] concatenates_S6x2304x64_S6x2304x64_S6x2304x128_d2)) x4 x4
  let r_v34 := (broadcastInDim S6x2304x1x128 ![0, 1, 3] bcast_S6x2304x128_S6x2304x1x128_0_1_3) r_v33
  let r_v35 := ((fun a b => concatenate S6x2304x128 2 [⟨S6x2304x64, a⟩, ⟨S6x2304x64, b⟩] concatenates_S6x2304x64_S6x2304x64_S6x2304x128_d2)) x5 x5
  let r_v36 := (broadcastInDim S6x2304x1x128 ![0, 1, 3] bcast_S6x2304x128_S6x2304x1x128_0_1_3) r_v35
  let r_v37 := ((extractStridedSlice S6x2304x64x64 ![0, 0, 0, 64] · slices_S6x2304x64x128_S6x2304x64x64_0_0_0_64)) r_v32
  let r_v38 := (Host.negf (F := Ideal) (φ := .f32)) r_v37
  let r_v39 := ((extractStridedSlice S6x2304x64x64 ![0, 0, 0, 0] · slices_S6x2304x64x128_S6x2304x64x64_0_0_0_0)) r_v32
  let r_v40 := ((fun a b => concatenate S6x2304x64x128 3 [⟨S6x2304x64x64, a⟩, ⟨S6x2304x64x64, b⟩] concatenates_S6x2304x64x64_S6x2304x64x64_S6x2304x64x128_d3)) r_v38 r_v39
  let r_v41 := (broadcastInDim S6x2304x64x128 ![0, 1, 2, 3] bcast_S6x2304x1x128_S6x2304x64x128_0_1_2_3) r_v34
  let r_v42 := (mulf (F := Ideal) (φ := .f32)) r_v32 r_v41
  let r_v43 := (broadcastInDim S6x2304x64x128 ![0, 1, 2, 3] bcast_S6x2304x1x128_S6x2304x64x128_0_1_2_3) r_v36
  let r_v44 := (mulf (F := Ideal) (φ := .f32)) r_v40 r_v43
  let r_v45 := (addf (F := Ideal) (φ := .f32)) r_v42 r_v44
  let r_v46 := ((truncf (F := Ideal) .bf16 · bitsLt_bf16_f32)) r_v45
  r_v46

/-- The masked scores. -/
def outs (r_v46 : S6x2304x64x128.Idx → EReal) (x2 : S6x64x128.Idx → EReal) (x6 : S6.Idx → BitVec 32) : S6x64x2304.Idx → EReal :=
  let r_v47 := ((truncf (F := Ideal) .bf16 · bitsLt_bf16_f32)) x2
  let r_v48 := ((fun l r => Host.dotGeneral (F := Ideal) (φ₁ := .bf16) (φ₂ := .bf16) dot_S6x64x128_S6x2304x64x128_S6x64x2304_2_3_n_1_01_02 none l r)) r_v47 r_v46
  let r_cst := (constant (F := Ideal) S_ .f32 0x3DB504F3#32)
  let r_v49 := (broadcastInDim S6x64x2304 ![] bcast_S_S6x64x2304) r_cst
  let r_v50 := (mulf (F := Ideal) (φ := .f32)) r_v48 r_v49
  let r_v51 := (iotaInDim S2304 32 0)
  let r_v52 := (broadcastInDim S1x1x2304 ![2] bcast_S2304_S1x1x2304_2) r_v51
  let r_v53 := (broadcastInDim S6x1x1 ![0] bcast_S6_S6x1x1_0) x6
  let r_v54 := (broadcastInDim S6x1x2304 ![0, 1, 2] bcast_S1x1x2304_S6x1x2304_0_1_2) r_v52
  let r_v55 := (broadcastInDim S6x1x2304 ![0, 1, 2] bcast_S6x1x1_S6x1x2304_0_1_2) r_v53
  let r_v56 := (cmpi .slt) r_v54 r_v55
  let r_cst_5 := (constant (F := Ideal) S_ .f32 0xFF800000#32)
  select (broadcastInDim S6x64x2304 ![0, 1, 2] bcast_S6x1x2304_S6x64x2304_0_1_2 r_v56) r_v50 (broadcastInDim S6x64x2304 ![] bcast_S_S6x64x2304 r_cst_5)

theorem evens_apply (x0 : S6x2304x16x128.Idx → BitVec 8) (x1 : S6x2304x16x8.Idx → EReal) (b : Fin 6) (t : Fin 2304)
    (g : Fin 16) (r : Fin 128) : evens x0 x1 (ix4 b t g r) = nib 0 (x0 (ix4 b t g r)) * x1 (ix4 b t g (blk r)) := by
  pointwise [evens]
  rfl

theorem odds_apply (x0 : S6x2304x16x128.Idx → BitVec 8) (x1 : S6x2304x16x8.Idx → EReal) (b : Fin 6) (t : Fin 2304)
    (g : Fin 16) (r : Fin 128) : odds x0 x1 (ix4 b t g r) = nib 1 (x0 (ix4 b t g r)) * x1 (ix4 b t g (blk r)) := by
  pointwise [odds]
  rfl

theorem keys_apply (e o : S6x2304x16x128.Idx → EReal) (x3 : S16x256x512.Idx → EReal) (b : Fin 6) (t : Fin 2304)
    (g : Fin 16) (c : Fin 512) : keys e o x3 (ix4 b t g c) =
      (∑ r : Fin 128, x3 (ix3 g (row2 r 0) c) * e (ix4 b t g r)) + ∑ r : Fin 128, x3 (ix3 g (row2 r 1) c) * o (ix4 b t g r) := by
  pointwise [keys]
  have e1 : ∀ x : Fin 128, (⟨1 + 2 * x.val, by omega⟩ : Fin 256) = row2 x 1 := fun x => Fin.ext (by show 1 + 2 * x.val = 2 * x.val + 1; omega)
  simp only [e1]
  rfl

theorem rots_apply (x0 : S6x2304x16x128.Idx → BitVec 8) (x1 : S6x2304x16x8.Idx → EReal) (x3 : S16x256x512.Idx → EReal)
    (x4 x5 : S6x2304x64.Idx → EReal) (b : Fin 6) (t : Fin 2304) (h : Fin 64) (d : Fin 128) :
    rots (keys (evens x0 x1) (odds x0 x1) x3) x4 x5 (ix4 b t h d) = rot x0 x1 x3 x4 x5 b t h d := by
  have hk : ∀ c, keys (evens x0 x1) (odds x0 x1) x3 (ix4 b t (grp h) c) = key x0 x1 x3 b t (grp h) c := fun c => by
    rw [keys_apply]; simp only [evens_apply, odds_apply]; rfl
  unfold rot; simp only [← hk]
  pointwise [rots]
  by_cases hd : d.val < 64
  · simp only [hd, dif_pos]
    rw [EReal.neg_mul, ← sub_eq_add_neg]; rfl
  · simp only [hd, dif_neg, not_false_eq_true]
    have e : (⟨h.val % 4 * 128 + d.val, by omega⟩ : Fin 512) = col h (hi ⟨d.val - 64, by omega⟩) := Fin.ext (by show h.val % 4 * 128 + d.val = h.val % 4 * 128 + (64 + (d.val - 64)); omega)
    rw [e]; rfl

theorem outs_apply (k : S6x2304x64x128.Idx → EReal) (x2 : S6x64x128.Idx → EReal) (x6 : S6.Idx → BitVec 32) (b : Fin 6) (h : Fin 64)
    (t : Fin 2304) : outs k x2 x6 (ix3 b h t) = if (BitVec.ofNat 32 t.val).slt (x6 (ix1 b)) then
      (∑ d : Fin 128, x2 (ix3 b h d) * k (ix4 b t h d)) * FloatOps.ofBits (F := Ideal) (φ := .f32) 0x3DB504F3#32
     else FloatOps.ofBits (F := Ideal) (φ := .f32) 0xFF800000#32 := by
  pointwise [outs]
  show Scalar.select (BitVec.ofBool ((BitVec.ofNat 32 t.val).slt (x6 (ix1 b)))) _ _ = _
  cases (BitVec.ofNat 32 t.val).slt (x6 (ix1 b)) <;> rfl

/-- The reference's result is the masked scores. -/
theorem outs_score (x0 : S6x2304x16x128.Idx → BitVec 8) (x1 : S6x2304x16x8.Idx → EReal) (x2 : S6x64x128.Idx → EReal) (x3 : S16x256x512.Idx → EReal)
    (x4 x5 : S6x2304x64.Idx → EReal) (x6 : S6.Idx → BitVec 32) (b : Fin 6) (h : Fin 64) (t : Fin 2304) :
    outs (rots (keys (evens x0 x1) (odds x0 x1) x3) x4 x5) x2 x6 (ix3 b h t) = score x0 x1 x2 x3 x4 x5 x6 b h t := by
  rw [outs_apply]; simp only [rots_apply]; rfl

/-- What the run leaves in the result buffer. -/
theorem result_eq (V : Valuation τ sig (Elt Ideal)) : after (ops (F := Ideal)) V (main_v57 : DevRef τ sig) =
    outs (rots (keys (evens (V (main_arg0 : DevRef τ sig)) (V (main_arg1 : DevRef τ sig))) (odds (V (main_arg0 : DevRef τ sig)) (V (main_arg1 : DevRef τ sig))) (V (main_arg3 : DevRef τ sig)))
      (V (main_arg4 : DevRef τ sig)) (V (main_arg5 : DevRef τ sig))) (V (main_arg2 : DevRef τ sig)) (V (main_arg6 : DevRef τ sig)) := by
  after_results_simp
  rfl

end Cert.ReferenceIdeal.Hand
-- ==== Proof.New.Walsh.lean ====
module

public import Mathlib.Data.EReal.Operations
public import Mathlib.Algebra.BigOperators.Fin
public import Mathlib.Tactic.NormNum

@[expose] public section

set_option maxRecDepth 16384

/-! The butterflies of the Hadamard transform of 256 real numbers, and the transform as one sum of signed terms. -/

noncomputable section

namespace Cert.Walsh

/-- A number's bits folded onto its lowest one: odd when it has an odd number of ones (below 256). -/
def par (n : ℕ) : ℕ :=
  let a := n ^^^ (n >>> 4)
  let b := a ^^^ (a >>> 2)
  (b ^^^ (b >>> 1)) &&& 1

/-- The transform's sign at row `i`, column `j`. -/
def sg (i j : ℕ) : ℤ := if par (i &&& j) = 1 then -1 else 1

/-- One stage at distance `h`, of real numbers. -/
def stage (h : ℕ) (x : ℕ → ℝ) (i : ℕ) : ℝ :=
  if i / h % 2 = 0 then x (i / (2 * h) * (2 * h) + i % h) + x (i / (2 * h) * (2 * h) + i % h + h)
  else x (i / (2 * h) * (2 * h) + i % h) - x (i / (2 * h) * (2 * h) + i % h + h)

/-- What a stage at distance `h` needs of the signs and of its two indices. -/
def Good (h : ℕ) : Prop := ∀ i : Fin 256,
  (i / (2 * h) * (2 * h) + i % h + h < 256 ∧ (i / (2 * h) * (2 * h) + i % h) / h * h = i / (2 * h) * (2 * h)
    ∧ (i / (2 * h) * (2 * h) + i % h + h) / h * h = i / (2 * h) * (2 * h) + h)
  ∧ ∀ j : Fin h, sg (i / (2 * h) * (2 * h) + i % h) j = sg i j ∧ sg (i / (2 * h) * (2 * h) + i % h + h) j = (if i / h % 2 = 0 then sg i (h + j) else - sg i (h + j))

instance (h : ℕ) : Decidable (Good h) := by unfold Good; infer_instance

theorem good : ∀ h ∈ [1, 2, 4, 8, 16, 32, 64, 128], Good h := by decide +kernel

/-- Before a stage each number is a signed sum over its block of `h`; after it, over its block of `2 h`. -/
theorem stage_sum (h k : ℕ) (hk : k = 2 * h) (hg : Good h) (x y : ℕ → ℝ)
    (hy : ∀ i < 256, y i = ∑ j ∈ Finset.range h, (sg i j : ℝ) * x (i / h * h + j)) (i : ℕ) (hi : i < 256) :
    stage h y i = ∑ j ∈ Finset.range k, (sg i j : ℝ) * x (i / k * k + j) := by
  subst hk
  obtain ⟨⟨h1, h2, h3⟩, h4⟩ := hg ⟨i, hi⟩
  simp only at h1 h2 h3 h4
  rw [two_mul h, Finset.sum_range_add, ← two_mul]
  unfold stage
  rw [hy _ (by omega), hy _ h1, h2, h3]
  have ea : ∀ j ∈ Finset.range h, (sg (i / (2 * h) * (2 * h) + i % h) j : ℝ) * x (i / (2 * h) * (2 * h) + j)
      = (sg i j : ℝ) * x (i / (2 * h) * (2 * h) + j) := fun j hj => by
    rw [(h4 ⟨j, Finset.mem_range.mp hj⟩).1]
  rw [Finset.sum_congr rfl ea]
  by_cases hb : i / h % 2 = 0
  · rw [if_pos hb]
    congr 1
    refine Finset.sum_congr rfl fun j hj => ?_
    rw [(h4 ⟨j, Finset.mem_range.mp hj⟩).2, if_pos hb, Nat.add_assoc]
  · rw [if_neg hb, sub_eq_add_neg, ← Finset.sum_neg_distrib]
    congr 1
    refine Finset.sum_congr rfl fun j hj => ?_
    rw [(h4 ⟨j, Finset.mem_range.mp hj⟩).2, if_neg hb, Nat.add_assoc]
    push_cast
    ring

/-- All eight stages, of real numbers. -/
def stages (x : ℕ → ℝ) : ℕ → ℝ :=
  stage 128 (stage 64 (stage 32 (stage 16 (stage 8 (stage 4 (stage 2 (stage 1 x)))))))

/-- The eight stages are the signed sum over all 256 numbers. -/
theorem stages_sum (x : ℕ → ℝ) (i : ℕ) (hi : i < 256) :
    stages x i = ∑ j ∈ Finset.range 256, (sg i j : ℝ) * x j := by
  have h0 : ∀ i < 256, x i = ∑ j ∈ Finset.range 1, (sg i j : ℝ) * x (i / 1 * 1 + j) := fun i _ => by
    simp [sg, par]
  have h1 := stage_sum 1 2 rfl (good 1 (by simp)) x (x) h0
  have h2 := stage_sum 2 4 rfl (good 2 (by simp)) x (stage 1 x) h1
  have h3 := stage_sum 4 8 rfl (good 4 (by simp)) x (stage 2 (stage 1 x)) h2
  have h4 := stage_sum 8 16 rfl (good 8 (by simp)) x (stage 4 (stage 2 (stage 1 x))) h3
  have h5 := stage_sum 16 32 rfl (good 16 (by simp)) x (stage 8 (stage 4 (stage 2 (stage 1 x)))) h4
  have h6 := stage_sum 32 64 rfl (good 32 (by simp)) x (stage 16 (stage 8 (stage 4 (stage 2 (stage 1 x))))) h5
  have h7 := stage_sum 64 128 rfl (good 64 (by simp)) x (stage 32 (stage 16 (stage 8 (stage 4 (stage 2 (stage 1 x)))))) h6
  have h8 := stage_sum 128 256 rfl (good 128 (by simp)) x (stage 64 (stage 32 (stage 16 (stage 8 (stage 4 (stage 2 (stage 1 x))))))) h7 i hi
  refine h8.trans (Finset.sum_congr rfl fun j _ => ?_)
  rw [Nat.div_eq_of_lt hi, Nat.zero_mul, Nat.zero_add]

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- One stage at distance `h`, of extended reals. -/
def bfly (h : ℕ) (x : Fin 256 → EReal) (i : Fin 256) : EReal :=
  if i.val / h % 2 = 0 then x (Fin.ofNat 256 (i.val / (2 * h) * (2 * h) + i.val % h)) + x (Fin.ofNat 256 (i.val / (2 * h) * (2 * h) + i.val % h + h))
  else x (Fin.ofNat 256 (i.val / (2 * h) * (2 * h) + i.val % h)) - x (Fin.ofNat 256 (i.val / (2 * h) * (2 * h) + i.val % h + h))

theorem bfly_coe (h : ℕ) (hg : Good h) (x : Fin 256 → EReal) (r : ℕ → ℝ) (hx : ∀ i : Fin 256, x i = (r i.val : EReal)) (i : Fin 256) :
    bfly h x i = (stage h r i.val : EReal) := by
  obtain ⟨⟨h1, -, -⟩, -⟩ := hg i
  unfold bfly stage
  rw [hx, hx, Fin.val_ofNat, Fin.val_ofNat, Nat.mod_eq_of_lt h1, Nat.mod_eq_of_lt (by omega : i.val / (2 * h) * (2 * h) + i.val % h < 256)]
  split
  · rw [EReal.coe_add]
  · rw [EReal.coe_sub]

/-- All eight stages. -/
def hadamard (x : Fin 256 → EReal) : Fin 256 → EReal :=
  bfly 128 (bfly 64 (bfly 32 (bfly 16 (bfly 8 (bfly 4 (bfly 2 (bfly 1 x)))))))

/-- The eight stages of finite numbers are the signed sum over all of them. -/
theorem hadamard_sum (x : Fin 256 → EReal) (hx : ∀ i, ∃ r : ℝ, x i = r) (i : Fin 256) :
    hadamard x i = ∑ j : Fin 256, (((sg i.val j.val : ℤ) : ℝ) : EReal) * x j := by
  choose r hr using hx
  have h0 : ∀ i : Fin 256, x i = ((fun n => r (Fin.ofNat 256 n)) i.val : EReal) := fun i => by
    rw [hr]; simp
  have h1 := bfly_coe 1 (good 1 (by simp)) (x) (fun n => r (Fin.ofNat 256 n)) h0
  have h2 := bfly_coe 2 (good 2 (by simp)) (bfly 1 (x)) (stage 1 (fun n => r (Fin.ofNat 256 n))) h1
  have h3 := bfly_coe 4 (good 4 (by simp)) (bfly 2 (bfly 1 (x))) (stage 2 (stage 1 (fun n => r (Fin.ofNat 256 n)))) h2
  have h4 := bfly_coe 8 (good 8 (by simp)) (bfly 4 (bfly 2 (bfly 1 (x)))) (stage 4 (stage 2 (stage 1 (fun n => r (Fin.ofNat 256 n))))) h3
  have h5 := bfly_coe 16 (good 16 (by simp)) (bfly 8 (bfly 4 (bfly 2 (bfly 1 (x))))) (stage 8 (stage 4 (stage 2 (stage 1 (fun n => r (Fin.ofNat 256 n)))))) h4
  have h6 := bfly_coe 32 (good 32 (by simp)) (bfly 16 (bfly 8 (bfly 4 (bfly 2 (bfly 1 (x)))))) (stage 16 (stage 8 (stage 4 (stage 2 (stage 1 (fun n => r (Fin.ofNat 256 n))))))) h5
  have h7 := bfly_coe 64 (good 64 (by simp)) (bfly 32 (bfly 16 (bfly 8 (bfly 4 (bfly 2 (bfly 1 (x))))))) (stage 32 (stage 16 (stage 8 (stage 4 (stage 2 (stage 1 (fun n => r (Fin.ofNat 256 n)))))))) h6
  have h8 := bfly_coe 128 (good 128 (by simp)) (bfly 64 (bfly 32 (bfly 16 (bfly 8 (bfly 4 (bfly 2 (bfly 1 (x)))))))) (stage 64 (stage 32 (stage 16 (stage 8 (stage 4 (stage 2 (stage 1 (fun n => r (Fin.ofNat 256 n))))))))) h7 i
  refine h8.trans ?_
  refine (congrArg _ (stages_sum _ i.val i.isLt)).trans ?_
  rw [Finset.sum_range]
  simp only [hr, ← EReal.coe_mul]
  rw [← coe_sum]
  refine congrArg _ (Finset.sum_congr rfl fun j _ => ?_)
  have e : (Fin.ofNat 256 j.val : Fin 256) = j := Fin.ext (Nat.mod_eq_of_lt j.isLt)
  simp only [e]

end Cert.Walsh
-- ==== Proof.New.Quant.lean ====
module

public import proofs.«01_k».proof.Proof.New.Walsh
public import Idealize.ShloMosaic.Lib.Pointwise

@[expose] public section

/-! A transformed row's codes and scales. -/

noncomputable section

namespace Cert.Quant

open Idealize.ShloMosaic

/-- The row scaled by a sixteenth. -/
def yS (h : Fin 256 → EReal) (d : Fin 256) : EReal := h d * Ideal.ofBits .f32 1031798784#32

/-- The greatest magnitude of a block of 32. -/
def mS (h : Fin 256 → EReal) (n : Fin 8) : EReal :=
  Finset.fold max (Ideal.ofBits .f32 4286578688#32) (fun k : Fin 32 => FloatOps.absf (F := Ideal) (φ := .f32) (yS h ⟨n.val * 32 + k.val, by omega⟩)) Finset.univ

/-- The block's scale. -/
def sS (h : Fin 256 → EReal) (n : Fin 8) : EReal := if 0 < mS h n then Ideal.div (mS h n) (Ideal.ofBits .f32 1088421888#32) else 1

/-- The rounded and clipped quotient. -/
def qS (h : Fin 256 → EReal) (d : Fin 256) : EReal :=
  min (Ideal.ofBits .f32 1088421888#32) (max (Ideal.ofBits .f32 3235905536#32)
    (Ideal.liftRound Ideal.roundHalfEven (Ideal.div (yS h d) (sS h ⟨d.val / 32, by omega⟩))))

/-- Two codes in a byte. -/
def byte (a b : EReal) : BitVec 8 :=
  BitVec.setWidth 8 (IntOp.ori (IntOp.andi (FloatOps.fptosi (F := Ideal) (φ := .f32) 32 a) 15#32)
    (IntOp.shli ArithUnit.host (IntOp.andi (FloatOps.fptosi (F := Ideal) (φ := .f32) 32 b) 15#32) 4#32))

/-- Byte `r` of the row's codes. -/
def codeS (h : Fin 256 → EReal) (r : Fin 128) : BitVec 8 := byte (qS h ⟨2 * r.val, by omega⟩) (qS h ⟨1 + 2 * r.val, by omega⟩)

end Cert.Quant
-- ==== Proof.New.KerEntry.lean ====
module

public import proofs.«01_k».proof.Proof.Gen.NewKernelIdeal.Value
public import Idealize.ShloMosaic.Lib.Pointwise
public import proofs.«01_k».proof.Proof.New.Quant

@[expose] public section

set_option maxRecDepth 16384
set_option maxHeartbeats 4000000

/-! The kernel's values, entry by entry. -/

noncomputable section

namespace Cert.NewKernelIdeal.Hand

open Cert.NewKernelIdeal Cert.NewKernelIdeal.Gen Cert.Walsh Cert.Quant
open Idealize.ShloMosaic Idealize.ShloMosaic.TcCoe

/-- The matrix is the one of signs. -/
theorem had_at (d r : Fin 256) : k0_pay8 (F := Ideal) (ix2 d r) = (((sg d.val r.val : ℤ) : ℝ) : EReal) := by
  have n1 : Ideal.ofBits .f32 3212836864#32 = -1 := IdealRules.sign_bit.ideal_negOnePat .f32
  have hb : BitVec.ofNat 32 d.val &&& BitVec.ofNat 32 r.val = BitVec.ofNat 32 (d.val &&& r.val) := (BitVec.ofNat_and ..).symm
  have hl : d.val &&& r.val < 256 := lt_of_le_of_lt Nat.and_le_left d.isLt
  have key : ∀ a : Fin 256, IntOp.cmpi .eq (IntOp.andi (IntOp.xori (IntOp.xori (IntOp.xori (BitVec.ofNat 32 a.val) (IntOp.shrsi ArithUnit.vector (BitVec.ofNat 32 a.val) 4#32)) (IntOp.shrsi ArithUnit.vector (IntOp.xori (BitVec.ofNat 32 a.val) (IntOp.shrsi ArithUnit.vector (BitVec.ofNat 32 a.val) 4#32)) 2#32)) (IntOp.shrsi ArithUnit.vector (IntOp.xori (IntOp.xori (BitVec.ofNat 32 a.val) (IntOp.shrsi ArithUnit.vector (BitVec.ofNat 32 a.val) 4#32)) (IntOp.shrsi ArithUnit.vector (IntOp.xori (BitVec.ofNat 32 a.val) (IntOp.shrsi ArithUnit.vector (BitVec.ofNat 32 a.val) 4#32)) 2#32)) 1#32)) 1#32) 1#32
      = if par a.val = 1 then 1#1 else 0#1 := by
    decide +kernel
  have hk := key ⟨d.val &&& r.val, hl⟩
  have ha : IntOp.andi (BitVec.ofNat 32 d.val) (BitVec.ofNat 32 r.val) = BitVec.ofNat 32 (d.val &&& r.val) := hb
  unfold k0_pay8
  pointwise
  refine Eq.trans (b := if par (d.val &&& r.val) = 1 then (-1 : EReal) else 1) ?_ ?_
  · rw [ha, n1]
    refine (congrArg (fun m => Scalar.select m (-1 : EReal) 1) hk).trans ?_
    by_cases hp : par (d.val &&& r.val) = 1
    · rw [if_pos hp, if_pos hp]; rfl
    · rw [if_neg hp, if_neg hp]; rfl
  · unfold sg
    split <;> norm_num

/-- The transformed row of lane `t`. -/
def lane (x : FVec Ideal S96x256 .bf16) (t : Fin 128) (d : Fin 256) : EReal :=
  ∑ r : Fin 256, k0_pay8 (F := Ideal) (ix2 d r) * if h : t.val < 96 then (x (ix2 ⟨t.val, h⟩ r) : EReal) else 0

variable (x : FVec Ideal S96x256 .bf16)

theorem y_at (n : Fin 8) (k : Fin 32) (t : Fin 128) : k0_pay28 (F := Ideal) k0_pay8 x (ix3 n k t) = yS (lane x t) ⟨n.val * 32 + k.val, by omega⟩ := by
  unfold yS lane
  generalize k0_pay8 (F := Ideal) = h
  unfold k0_pay28
  pointwise

theorem s_at (n : Fin 8) (t : Fin 128) : k0_pay29 (F := Ideal) k0_pay8 x (ix2 n t) = sS (lane x t) n := by
  have hm : mS (lane x t) n = Finset.fold max (Ideal.ofBits .f32 4286578688#32) (fun k : Fin 32 => FloatOps.absf (F := Ideal) (φ := .f32) (k0_pay28 (F := Ideal) k0_pay8 x (ix3 n k t))) Finset.univ := by
    unfold mS
    exact congrArg (fun f => Finset.fold max (Ideal.ofBits .f32 4286578688#32) f Finset.univ) (funext fun k => by rw [y_at])
  unfold sS
  rw [hm]
  unfold k0_pay29
  generalize k0_pay28 (F := Ideal) k0_pay8 x = D
  pointwise

theorem q_at (d : Fin 256) (t : Fin 128) : k0_pay30 (F := Ideal) k0_pay8 x (ix2 d t) = qS (lane x t) d := by
  refine Eq.trans (b := min (Ideal.ofBits .f32 1088421888#32) (max (Ideal.ofBits .f32 3235905536#32)
    (Ideal.liftRound Ideal.roundHalfEven (Ideal.div (k0_pay28 (F := Ideal) k0_pay8 x (ix3 ⟨d.val / 32, by omega⟩ ⟨d.val % 32, by omega⟩ t)) (k0_pay29 (F := Ideal) k0_pay8 x (ix2 ⟨d.val / 32, by omega⟩ t)))))) ?_ ?_
  · unfold k0_pay30
    generalize k0_pay28 (F := Ideal) k0_pay8 x = D
    generalize k0_pay29 (F := Ideal) k0_pay8 x = S
    pointwise
  · unfold qS
    rw [y_at, s_at]
    have e : (⟨d.val / 32 * 32 + d.val % 32, by omega⟩ : Fin 256) = d := Fin.ext (by show d.val / 32 * 32 + d.val % 32 = d.val; omega)
    simp only [e]

/-! The new value's are the new key's. -/

theorem s_v : k0_pay10 (F := Ideal) x = k0_pay29 k0_pay8 x := rfl

theorem q_v : k0_pay12 (F := Ideal) kernelRun0_A.sl.cst_12 (k0_pay11 x) = k0_pay30 k0_pay8 x := rfl

/-- The product, with its signs. -/
theorem lane_sum (t : Fin 96) (d : Fin 256) :
    lane x ⟨t.val, by omega⟩ d = ∑ r : Fin 256, (((sg d.val r.val : ℤ) : ℝ) : EReal) * (x (ix2 t r) : EReal) := by
  unfold lane
  refine Finset.sum_congr rfl fun r _ => ?_
  rw [had_at, dif_pos t.isLt]

/-- A row of reals is transformed by the stages. -/
theorem lane_eq (t : Fin 96) (hx : ∀ r : Fin 256, ∃ a : ℝ, (x (ix2 t r) : EReal) = a) :
    lane x ⟨t.val, by omega⟩ = hadamard fun r => (x (ix2 t r) : EReal) := by
  funext d
  rw [hadamard_sum _ hx, lane_sum]

end Cert.NewKernelIdeal.Hand
-- ==== Proof.New.KerStores.lean ====
module

public import proofs.«01_k».proof.Proof.New.KerEntry

@[expose] public section

set_option maxRecDepth 16384
set_option maxHeartbeats 4000000

/-! Each store's payload, entry by entry: a sequence's lanes of the codes or of the scales. -/

noncomputable section

namespace Cert.NewKernelIdeal.Hand

open Cert.NewKernelIdeal Cert.NewKernelIdeal.Gen Cert.Quant
open Idealize.ShloMosaic Idealize.ShloMosaic.TcCoe

variable (Q O : FVec Ideal S128x128 .f32) (S : FVec Ideal S8x128 .f32) (g : Fin 16) (r : Fin 128) (n : Fin 8)

theorem kc0 : k0_pay34 (k0_pay31 (F := Ideal) Q) (k0_pay32 (F := Ideal) O) (ix3 0 g r) = byte (Q (ix2 r ⟨0 + g.val, by omega⟩)) (O (ix2 r ⟨0 + g.val, by omega⟩)) := by
  unfold k0_pay34 k0_pay33 k0_pay31 k0_pay32 byte
  pointwise
  rfl

theorem kc1 : k0_pay36 (k0_pay31 (F := Ideal) Q) (k0_pay32 (F := Ideal) O) (ix3 0 g r) = byte (Q (ix2 r ⟨16 + g.val, by omega⟩)) (O (ix2 r ⟨16 + g.val, by omega⟩)) := by
  unfold k0_pay36 k0_pay33 k0_pay31 k0_pay32 byte
  pointwise
  rfl

theorem kc2 : k0_pay38 (k0_pay31 (F := Ideal) Q) (k0_pay32 (F := Ideal) O) (ix3 0 g r) = byte (Q (ix2 r ⟨32 + g.val, by omega⟩)) (O (ix2 r ⟨32 + g.val, by omega⟩)) := by
  unfold k0_pay38 k0_pay33 k0_pay31 k0_pay32 byte
  pointwise
  rfl

theorem kc3 : k0_pay2 (k0_pay33 (k0_pay31 (F := Ideal) Q) (k0_pay32 (F := Ideal) O)) (ix3 0 g r) = byte (Q (ix2 r ⟨48 + g.val, by omega⟩)) (O (ix2 r ⟨48 + g.val, by omega⟩)) := by
  unfold k0_pay2 k0_pay33 k0_pay31 k0_pay32 byte
  pointwise
  rfl

theorem kc4 : k0_pay4 (k0_pay33 (k0_pay31 (F := Ideal) Q) (k0_pay32 (F := Ideal) O)) (ix3 0 g r) = byte (Q (ix2 r ⟨64 + g.val, by omega⟩)) (O (ix2 r ⟨64 + g.val, by omega⟩)) := by
  unfold k0_pay4 k0_pay33 k0_pay31 k0_pay32 byte
  pointwise
  rfl

theorem kc5 : k0_pay6 (k0_pay33 (k0_pay31 (F := Ideal) Q) (k0_pay32 (F := Ideal) O)) (ix3 0 g r) = byte (Q (ix2 r ⟨80 + g.val, by omega⟩)) (O (ix2 r ⟨80 + g.val, by omega⟩)) := by
  unfold k0_pay6 k0_pay33 k0_pay31 k0_pay32 byte
  pointwise
  rfl

theorem vc0 : k0_pay14 (F := Ideal) Q O (ix3 0 g r) = byte (Q (ix2 r ⟨0 + g.val, by omega⟩)) (O (ix2 r ⟨0 + g.val, by omega⟩)) := by
  unfold k0_pay14 k0_pay13 byte
  pointwise
  rfl

theorem vc1 : k0_pay16 (F := Ideal) Q O (ix3 0 g r) = byte (Q (ix2 r ⟨16 + g.val, by omega⟩)) (O (ix2 r ⟨16 + g.val, by omega⟩)) := by
  unfold k0_pay16 k0_pay13 byte
  pointwise
  rfl

theorem vc2 : k0_pay19 (k0_pay13 (F := Ideal) Q O) (ix3 0 g r) = byte (Q (ix2 r ⟨32 + g.val, by omega⟩)) (O (ix2 r ⟨32 + g.val, by omega⟩)) := by
  unfold k0_pay19 k0_pay13 byte
  pointwise
  rfl

theorem vc3 : k0_pay21 (k0_pay13 (F := Ideal) Q O) (ix3 0 g r) = byte (Q (ix2 r ⟨48 + g.val, by omega⟩)) (O (ix2 r ⟨48 + g.val, by omega⟩)) := by
  unfold k0_pay21 k0_pay13 byte
  pointwise
  rfl

theorem vc4 : k0_pay23 (k0_pay13 (F := Ideal) Q O) (ix3 0 g r) = byte (Q (ix2 r ⟨64 + g.val, by omega⟩)) (O (ix2 r ⟨64 + g.val, by omega⟩)) := by
  unfold k0_pay23 k0_pay13 byte
  pointwise
  rfl

theorem vc5 : k0_pay26 (k0_pay25 (k0_pay13 (F := Ideal) Q O)) (ix3 0 g r) = byte (Q (ix2 r ⟨80 + g.val, by omega⟩)) (O (ix2 r ⟨80 + g.val, by omega⟩)) := by
  unfold k0_pay26 k0_pay25 k0_pay13 byte
  pointwise
  rfl

theorem ks0 : k0_pay35 (F := Ideal) S (ix3 0 n g) = S (ix2 n ⟨0 + g.val, by omega⟩) := by
  unfold k0_pay35
  pointwise

theorem ks1 : k0_pay37 (F := Ideal) S (ix3 0 n g) = S (ix2 n ⟨16 + g.val, by omega⟩) := by
  unfold k0_pay37
  pointwise

theorem ks2 : k0_pay1 (F := Ideal) (k0_pay39 (F := Ideal) S) (ix3 0 n g) = S (ix2 n ⟨32 + g.val, by omega⟩) := by
  unfold k0_pay1 k0_pay39
  pointwise

theorem ks3 : k0_pay3 (F := Ideal) S (ix3 0 n g) = S (ix2 n ⟨48 + g.val, by omega⟩) := by
  unfold k0_pay3
  pointwise

theorem ks4 : k0_pay5 (F := Ideal) S (ix3 0 n g) = S (ix2 n ⟨64 + g.val, by omega⟩) := by
  unfold k0_pay5
  pointwise

theorem ks5 : k0_pay7 (F := Ideal) S (ix3 0 n g) = S (ix2 n ⟨80 + g.val, by omega⟩) := by
  unfold k0_pay7
  pointwise

theorem vs0 : k0_pay15 (F := Ideal) S (ix3 0 n g) = S (ix2 n ⟨0 + g.val, by omega⟩) := by
  unfold k0_pay15
  pointwise

theorem vs1 : k0_pay18 (F := Ideal) (k0_pay17 (F := Ideal) S) (ix3 0 n g) = S (ix2 n ⟨16 + g.val, by omega⟩) := by
  unfold k0_pay18 k0_pay17
  pointwise

theorem vs2 : k0_pay20 (F := Ideal) S (ix3 0 n g) = S (ix2 n ⟨32 + g.val, by omega⟩) := by
  unfold k0_pay20
  pointwise

theorem vs3 : k0_pay22 (F := Ideal) S (ix3 0 n g) = S (ix2 n ⟨48 + g.val, by omega⟩) := by
  unfold k0_pay22
  pointwise

theorem vs4 : k0_pay24 (F := Ideal) S (ix3 0 n g) = S (ix2 n ⟨64 + g.val, by omega⟩) := by
  unfold k0_pay24
  pointwise

theorem vs5 : k0_pay27 (F := Ideal) S (ix3 0 n g) = S (ix2 n ⟨80 + g.val, by omega⟩) := by
  unfold k0_pay27
  pointwise

end Cert.NewKernelIdeal.Hand
-- ==== Proof.New.KerOut.lean ====
module

public import proofs.«01_k».proof.Proof.New.KerStores
public import Idealize.ShloMosaic.Lib.Pipeline.ValueKit.Basic

@[expose] public section

set_option maxRecDepth 16384
set_option maxHeartbeats 4000000

/-! What the kernel's body leaves in its four output buffers. -/

noncomputable section

namespace Cert.NewKernelIdeal.Hand

open Cert.NewKernelIdeal Cert.NewKernelIdeal.Gen Cert.Quant
open Idealize.ShloMosaic Idealize.ShloMosaic.TcCoe

/-- The lane of sequence `b`'s group `g`. -/
def ln (b : Fin 6) (g : Fin 16) : Fin 128 := ⟨16 * b.val + g.val, by omega⟩

/-- The codes and the scales of all lanes. -/
def codesK (x : FVec Ideal S96x256 .bf16) : S6x16x128.Idx → BitVec 8 := fun y => codeS (lane x (ln (y 0) (y 1))) (y 2)
def scalesK (x : FVec Ideal S96x256 .bf16) : S6x8x16.Idx → EReal := fun y => sS (lane x (ln (y 0) (y 2))) (y 1)

/-- A load of every other row of what a store of the whole left. -/
theorem strided (v : View sig .tc .vmem S256x128 .f32) (w : S256x128.Idx → Elt Ideal .f32) (L : List (View.Piece (Elt Ideal) S256x128 .f32)) (o : ℕ) (ho : o < 2)
    (inb0 : ∀ a, (![0, 0] : Fin 2 → ℕ) a + S256x128.size a ≤ S256x128.size a) (inb) (r t : Fin 128) :
    v.readCov ((⟨Rect.unit (s := S256x128) ![0, 0] S256x128.size inb0, w⟩ : View.Piece (Elt Ideal) S256x128 .f32) :: L)
      (⟨![o, 0], S128x128.size, ![2, 1], inb⟩ : LoadRect S256x128) (ix2 r t : S128x128.Idx) = w (ix2 ⟨o + 2 * r.val, by omega⟩ t) := by
  rw [View.readCov_eq_canon', View.canon_cons_unit_lit _ _ _ (by decide)]
  refine congrArg w (funext fun a => ?_)
  match a with
  | ⟨0, _⟩ => rfl
  | ⟨1, _⟩ => exact Fin.ext (by show 0 + 1 * t.val = t.val; omega)

variable (c : Dev nD) (arg0 : Memref sig .tc .vmem S96x256 .bf16) (harg0 : arg0.IsWhole) (arg1 : Memref sig .tc .vmem S96x256 .bf16) (harg1 : arg1.IsWhole)
  (arg2 : Memref sig .tc .vmem S6x16x128 .i8) (harg2 : arg2.IsWhole) (arg3 : Memref sig .tc .vmem S6x8x16 .f32) (harg3 : arg3.IsWhole)
  (arg4 : Memref sig .tc .vmem S6x16x128 .i8) (harg4 : arg4.IsWhole) (arg5 : Memref sig .tc .vmem S6x8x16 .f32) (harg5 : arg5.IsWhole)
  (arg6 : Memref sig .tc .vmem S256x128 .f32) (harg6 : arg6.IsWhole) (x0 x1 : Vec Ideal S96x256 .bf16)

theorem load (x : Vec Ideal S96x256 .bf16) :
    View.readAt (Elt Ideal) arg0.view (Rect.unit (s := S96x256) ![0, 0] S96x256.size inb_S96x256_S96x256_0_0).toLoadRect (harg0.unread x) = x := by
  rw [View.readAt_eq_ld, harg0.read_unread]
  exact View.ld_unit_lit _ _ (by decide)

theorem r_eq : kernelRun0_A.sl.r c arg1 harg1 x1 = k0_pay29 (F := Ideal) k0_pay8 x1 := by
  unfold kernelRun0_A.sl.r
  rw [load arg1 harg1 x1, s_v]

theorem r_5_eq : kernelRun0_A.sl.r_5 c arg0 harg0 x0 = k0_pay29 (F := Ideal) k0_pay8 x0 := by
  unfold kernelRun0_A.sl.r_5
  rw [load arg0 harg0 x0]

theorem v48_at (r t : Fin 128) : kernelRun0_A.sl.v48 c arg1 harg1 arg6 x1 (ix2 r t : S128x128.Idx) = qS (lane x1 t) ⟨2 * r.val, by omega⟩ := by
  unfold kernelRun0_A.sl.v48 kernelRun0_A.sl.HS0_1
  refine (strided arg6.view _ _ 0 (by decide) _ _ r t).trans ?_
  unfold kernelRun0_A.sl.r_1
  rw [load arg1 harg1 x1, q_v, q_at]
  exact congrArg (qS (lane x1 t)) (Fin.ext (by show 0 + 2 * r.val = 2 * r.val; omega))

theorem v50_at (r t : Fin 128) : kernelRun0_A.sl.v50 c arg1 harg1 arg6 x1 (ix2 r t : S128x128.Idx) = qS (lane x1 t) ⟨1 + 2 * r.val, by omega⟩ := by
  unfold kernelRun0_A.sl.v50 kernelRun0_A.sl.HS0_1
  refine (strided arg6.view _ _ 1 (by decide) _ _ r t).trans ?_
  unfold kernelRun0_A.sl.r_1
  rw [load arg1 harg1 x1, q_v, q_at]

theorem v142_at (r t : Fin 128) : kernelRun0_A.sl.v142 c arg0 harg0 arg1 harg1 arg6 x0 x1 (ix2 r t : S128x128.Idx) = qS (lane x0 t) ⟨2 * r.val, by omega⟩ := by
  unfold kernelRun0_A.sl.v142 kernelRun0_A.sl.HS0_2
  refine (strided arg6.view _ _ 0 (by decide) _ _ r t).trans ?_
  rw [load arg0 harg0 x0, q_at]
  exact congrArg (qS (lane x0 t)) (Fin.ext (by show 0 + 2 * r.val = 2 * r.val; omega))

theorem v144_at (r t : Fin 128) : kernelRun0_A.sl.v144 c arg0 harg0 arg1 harg1 arg6 x0 x1 (ix2 r t : S128x128.Idx) = qS (lane x0 t) ⟨1 + 2 * r.val, by omega⟩ := by
  unfold kernelRun0_A.sl.v144 kernelRun0_A.sl.HS0_2
  refine (strided arg6.view _ _ 1 (by decide) _ _ r t).trans ?_
  rw [load arg0 harg0 x0, q_at]

theorem code_piece (x : FVec Ideal S96x256 .bf16) (b : ℕ) (hb : b < 6) (P : S1x16x128.Idx → BitVec 8) (inb : ∀ a, (![b, 0, 0] : Fin 3 → ℕ) a + (![1, 16, 128] : Fin 3 → ℕ) a ≤ S6x16x128.size a)
    (hP : ∀ (g : Fin 16) (r : Fin 128), P (ix3 0 g r) = codeS (lane x ⟨16 * b + g.val, by omega⟩) r)
    (y : (Rect.unit (s := S6x16x128) ![b, 0, 0] ![1, 16, 128] inb).shape.Idx) :
    P y = codesK x ((Rect.unit (s := S6x16x128) ![b, 0, 0] ![1, 16, 128] inb).emb y) := by
  obtain ⟨a, g, r, rfl⟩ : ∃ (a : Fin 1) (g : Fin 16) (r : Fin 128), y = ix3 a g r := ⟨y 0, y 1, y 2, by funext i; match i with | ⟨0, _⟩ => rfl | ⟨1, _⟩ => rfl | ⟨2, _⟩ => rfl⟩
  obtain rfl : a = 0 := Subsingleton.elim _ _
  have e : (Rect.unit (s := S6x16x128) ![b, 0, 0] ![1, 16, 128] inb).emb (ix3 0 g r) = (ix3 ⟨b, hb⟩ g r : S6x16x128.Idx) := by
    funext i
    match i with
    | ⟨0, _⟩ => exact Fin.ext (by show b + 1 * 0 = b; omega)
    | ⟨1, _⟩ => exact Fin.ext (by show 0 + 1 * g.val = g.val; omega)
    | ⟨2, _⟩ => exact Fin.ext (by show 0 + 1 * r.val = r.val; omega)
  rw [e]
  exact hP g r

theorem scale_piece (x : FVec Ideal S96x256 .bf16) (b : ℕ) (hb : b < 6) (P : S1x8x16.Idx → EReal) (inb : ∀ a, (![b, 0, 0] : Fin 3 → ℕ) a + (![1, 8, 16] : Fin 3 → ℕ) a ≤ S6x8x16.size a)
    (hP : ∀ (n : Fin 8) (g : Fin 16), P (ix3 0 n g) = sS (lane x ⟨16 * b + g.val, by omega⟩) n)
    (y : (Rect.unit (s := S6x8x16) ![b, 0, 0] ![1, 8, 16] inb).shape.Idx) :
    P y = scalesK x ((Rect.unit (s := S6x8x16) ![b, 0, 0] ![1, 8, 16] inb).emb y) := by
  obtain ⟨a, n, g, rfl⟩ : ∃ (a : Fin 1) (n : Fin 8) (g : Fin 16), y = ix3 a n g := ⟨y 0, y 1, y 2, by funext i; match i with | ⟨0, _⟩ => rfl | ⟨1, _⟩ => rfl | ⟨2, _⟩ => rfl⟩
  obtain rfl : a = 0 := Subsingleton.elim _ _
  have e : (Rect.unit (s := S6x8x16) ![b, 0, 0] ![1, 8, 16] inb).emb (ix3 0 n g) = (ix3 ⟨b, hb⟩ n g : S6x8x16.Idx) := by
    funext i
    match i with
    | ⟨0, _⟩ => exact Fin.ext (by show b + 1 * 0 = b; omega)
    | ⟨1, _⟩ => exact Fin.ext (by show 0 + 1 * n.val = n.val; omega)
    | ⟨2, _⟩ => exact Fin.ext (by show 0 + 1 * g.val = g.val; omega)
  rw [e]
  exact hP n g

theorem out_2 : out0_A_2 c arg0 harg0 arg1 harg1 arg2 harg2 arg3 harg3 arg4 harg4 arg5 harg5 arg6 harg6 x0 x1 = codesK x0 := by
  funext y
  unfold out0_A_2
  refine View.read_writes_apply_of_pieces _ _ (codesK x0) _ ?_ y (cover0_A_2 c arg0 harg0 arg1 harg1 arg2 harg2 arg3 harg3 arg4 harg4 arg5 harg5 arg6 harg6 x0 x1 y)
  unfold kernelRun0_A
  dsimp only
  refine List.forall_mem_cons.mpr ⟨code_piece x0 5 (by decide) _ inb_S6x16x128_S1x16x128_5_0_0 fun g r => (kc5 (kernelRun0_A.sl.v142 c arg0 harg0 arg1 harg1 arg6 x0 x1) (kernelRun0_A.sl.v144 c arg0 harg0 arg1 harg1 arg6 x0 x1) g r).trans (by rw [v142_at, v144_at]; rfl),
    List.forall_mem_cons.mpr ⟨code_piece x0 4 (by decide) _ inb_S6x16x128_S1x16x128_4_0_0 fun g r => (kc4 (kernelRun0_A.sl.v142 c arg0 harg0 arg1 harg1 arg6 x0 x1) (kernelRun0_A.sl.v144 c arg0 harg0 arg1 harg1 arg6 x0 x1) g r).trans (by rw [v142_at, v144_at]; rfl),
    List.forall_mem_cons.mpr ⟨code_piece x0 3 (by decide) _ inb_S6x16x128_S1x16x128_3_0_0 fun g r => (kc3 (kernelRun0_A.sl.v142 c arg0 harg0 arg1 harg1 arg6 x0 x1) (kernelRun0_A.sl.v144 c arg0 harg0 arg1 harg1 arg6 x0 x1) g r).trans (by rw [v142_at, v144_at]; rfl),
    List.forall_mem_cons.mpr ⟨code_piece x0 2 (by decide) _ inb_S6x16x128_S1x16x128_2_0_0 fun g r => (kc2 (kernelRun0_A.sl.v142 c arg0 harg0 arg1 harg1 arg6 x0 x1) (kernelRun0_A.sl.v144 c arg0 harg0 arg1 harg1 arg6 x0 x1) g r).trans (by rw [v142_at, v144_at]; rfl),
    List.forall_mem_cons.mpr ⟨code_piece x0 1 (by decide) _ inb_S6x16x128_S1x16x128_1_0_0 fun g r => (kc1 (kernelRun0_A.sl.v142 c arg0 harg0 arg1 harg1 arg6 x0 x1) (kernelRun0_A.sl.v144 c arg0 harg0 arg1 harg1 arg6 x0 x1) g r).trans (by rw [v142_at, v144_at]; rfl),
    List.forall_mem_cons.mpr ⟨code_piece x0 0 (by decide) _ inb_S6x16x128_S1x16x128_0_0_0 fun g r => (kc0 (kernelRun0_A.sl.v142 c arg0 harg0 arg1 harg1 arg6 x0 x1) (kernelRun0_A.sl.v144 c arg0 harg0 arg1 harg1 arg6 x0 x1) g r).trans (by rw [v142_at, v144_at]; rfl),
    fun p hp => absurd hp List.not_mem_nil⟩⟩⟩⟩⟩⟩

theorem out_3 : out0_A_3 c arg0 harg0 arg1 harg1 arg2 harg2 arg3 harg3 arg4 harg4 arg5 harg5 arg6 harg6 x0 x1 = scalesK x0 := by
  funext y
  unfold out0_A_3
  refine View.read_writes_apply_of_pieces _ _ (scalesK x0) _ ?_ y (cover0_A_3 c arg0 harg0 arg1 harg1 arg2 harg2 arg3 harg3 arg4 harg4 arg5 harg5 arg6 harg6 x0 x1 y)
  unfold kernelRun0_A
  dsimp only
  have hS : ∀ (n : Fin 8) (t : Fin 128), kernelRun0_A.sl.r_5 c arg0 harg0 x0 (ix2 n t) = sS (lane x0 t) n := fun n t => by rw [r_5_eq, s_at]
  unfold kernelRun0_A.sl.r_9
  generalize kernelRun0_A.sl.r_5 c arg0 harg0 x0 = S at hS ⊢
  have h5 := scale_piece x0 5 (by decide) (k0_pay7 S) inb_S6x8x16_S1x8x16_5_0_0 (fun n g => (ks5 S g n).trans (hS n _))
  have h4 := scale_piece x0 4 (by decide) (k0_pay5 S) inb_S6x8x16_S1x8x16_4_0_0 (fun n g => (ks4 S g n).trans (hS n _))
  have h3 := scale_piece x0 3 (by decide) (k0_pay3 S) inb_S6x8x16_S1x8x16_3_0_0 (fun n g => (ks3 S g n).trans (hS n _))
  have h2 := scale_piece x0 2 (by decide) (k0_pay1 (k0_pay39 S)) inb_S6x8x16_S1x8x16_2_0_0 (fun n g => (ks2 S g n).trans (hS n _))
  have h1 := scale_piece x0 1 (by decide) (k0_pay37 S) inb_S6x8x16_S1x8x16_1_0_0 (fun n g => (ks1 S g n).trans (hS n _))
  have h0 := scale_piece x0 0 (by decide) (k0_pay35 S) inb_S6x8x16_S1x8x16_0_0_0 (fun n g => (ks0 S g n).trans (hS n _))
  exact List.forall_mem_cons.mpr ⟨h5, List.forall_mem_cons.mpr ⟨h4, List.forall_mem_cons.mpr ⟨h3, List.forall_mem_cons.mpr ⟨h2, List.forall_mem_cons.mpr ⟨h1, List.forall_mem_cons.mpr ⟨h0, fun p hp => absurd hp List.not_mem_nil⟩⟩⟩⟩⟩⟩

theorem out_4 : out0_A_4 c arg0 harg0 arg1 harg1 arg2 harg2 arg3 harg3 arg4 harg4 arg5 harg5 arg6 harg6 x0 x1 = codesK x1 := by
  funext y
  unfold out0_A_4
  refine View.read_writes_apply_of_pieces _ _ (codesK x1) _ ?_ y (cover0_A_4 c arg0 harg0 arg1 harg1 arg2 harg2 arg3 harg3 arg4 harg4 arg5 harg5 arg6 harg6 x0 x1 y)
  unfold kernelRun0_A
  dsimp only
  refine List.forall_mem_cons.mpr ⟨code_piece x1 5 (by decide) _ inb_S6x16x128_S1x16x128_5_0_0 fun g r => (vc5 (kernelRun0_A.sl.v48 c arg1 harg1 arg6 x1) (kernelRun0_A.sl.v50 c arg1 harg1 arg6 x1) g r).trans (by rw [v48_at, v50_at]; rfl),
    List.forall_mem_cons.mpr ⟨code_piece x1 4 (by decide) _ inb_S6x16x128_S1x16x128_4_0_0 fun g r => (vc4 (kernelRun0_A.sl.v48 c arg1 harg1 arg6 x1) (kernelRun0_A.sl.v50 c arg1 harg1 arg6 x1) g r).trans (by rw [v48_at, v50_at]; rfl),
    List.forall_mem_cons.mpr ⟨code_piece x1 3 (by decide) _ inb_S6x16x128_S1x16x128_3_0_0 fun g r => (vc3 (kernelRun0_A.sl.v48 c arg1 harg1 arg6 x1) (kernelRun0_A.sl.v50 c arg1 harg1 arg6 x1) g r).trans (by rw [v48_at, v50_at]; rfl),
    List.forall_mem_cons.mpr ⟨code_piece x1 2 (by decide) _ inb_S6x16x128_S1x16x128_2_0_0 fun g r => (vc2 (kernelRun0_A.sl.v48 c arg1 harg1 arg6 x1) (kernelRun0_A.sl.v50 c arg1 harg1 arg6 x1) g r).trans (by rw [v48_at, v50_at]; rfl),
    List.forall_mem_cons.mpr ⟨code_piece x1 1 (by decide) _ inb_S6x16x128_S1x16x128_1_0_0 fun g r => (vc1 (kernelRun0_A.sl.v48 c arg1 harg1 arg6 x1) (kernelRun0_A.sl.v50 c arg1 harg1 arg6 x1) g r).trans (by rw [v48_at, v50_at]; rfl),
    List.forall_mem_cons.mpr ⟨code_piece x1 0 (by decide) _ inb_S6x16x128_S1x16x128_0_0_0 fun g r => (vc0 (kernelRun0_A.sl.v48 c arg1 harg1 arg6 x1) (kernelRun0_A.sl.v50 c arg1 harg1 arg6 x1) g r).trans (by rw [v48_at, v50_at]; rfl),
    fun p hp => absurd hp List.not_mem_nil⟩⟩⟩⟩⟩⟩

theorem out_5 : out0_A_5 c arg0 harg0 arg1 harg1 arg2 harg2 arg3 harg3 arg4 harg4 arg5 harg5 arg6 harg6 x0 x1 = scalesK x1 := by
  funext y
  unfold out0_A_5
  refine View.read_writes_apply_of_pieces _ _ (scalesK x1) _ ?_ y (cover0_A_5 c arg0 harg0 arg1 harg1 arg2 harg2 arg3 harg3 arg4 harg4 arg5 harg5 arg6 harg6 x0 x1 y)
  unfold kernelRun0_A
  dsimp only
  have hS : ∀ (n : Fin 8) (t : Fin 128), kernelRun0_A.sl.r c arg1 harg1 x1 (ix2 n t) = sS (lane x1 t) n := fun n t => by rw [r_eq, s_at]
  unfold kernelRun0_A.sl.r_3
  generalize kernelRun0_A.sl.r c arg1 harg1 x1 = S at hS ⊢
  have h5 := scale_piece x1 5 (by decide) (k0_pay27 S) inb_S6x8x16_S1x8x16_5_0_0 (fun n g => (vs5 S g n).trans (hS n _))
  have h4 := scale_piece x1 4 (by decide) (k0_pay24 S) inb_S6x8x16_S1x8x16_4_0_0 (fun n g => (vs4 S g n).trans (hS n _))
  have h3 := scale_piece x1 3 (by decide) (k0_pay22 S) inb_S6x8x16_S1x8x16_3_0_0 (fun n g => (vs3 S g n).trans (hS n _))
  have h2 := scale_piece x1 2 (by decide) (k0_pay20 S) inb_S6x8x16_S1x8x16_2_0_0 (fun n g => (vs2 S g n).trans (hS n _))
  have h1 := scale_piece x1 1 (by decide) (k0_pay18 (k0_pay17 S)) inb_S6x8x16_S1x8x16_1_0_0 (fun n g => (vs1 S g n).trans (hS n _))
  have h0 := scale_piece x1 0 (by decide) (k0_pay15 S) inb_S6x8x16_S1x8x16_0_0_0 (fun n g => (vs0 S g n).trans (hS n _))
  exact List.forall_mem_cons.mpr ⟨h5, List.forall_mem_cons.mpr ⟨h4, List.forall_mem_cons.mpr ⟨h3, List.forall_mem_cons.mpr ⟨h2, List.forall_mem_cons.mpr ⟨h1, List.forall_mem_cons.mpr ⟨h0, fun p hp => absurd hp List.not_mem_nil⟩⟩⟩⟩⟩⟩

end Cert.NewKernelIdeal.Hand
-- ==== Proof.New.Infinite.lean ====
module

public import proofs.«01_k».proof.Proof.New.Quant

@[expose] public section

/-! A row with an infinite number: the transform is infinite everywhere, and its codes and scales are the same whatever the signs. -/

noncomputable section

namespace Cert.Quant

open Idealize.ShloMosaic Cert.Walsh

/-- Infinite, of either sign. -/
def Inf (x : EReal) : Prop := x = ⊤ ∨ x = ⊥

theorem inf_or_real (x : EReal) : Inf x ∨ ∃ r : ℝ, x = r := by
  induction x using EReal.rec with
  | coe r => exact .inr ⟨r, rfl⟩
  | bot => exact .inl (.inr rfl)
  | top => exact .inl (.inl rfl)

theorem inf_add {x : EReal} (h : Inf x) (y : EReal) : Inf (x + y) := by
  rcases h with rfl | rfl <;> induction y using EReal.rec <;> simp [Inf]

theorem inf_add' {x : EReal} (h : Inf x) (y : EReal) : Inf (y + x) := by
  rw [add_comm]; exact inf_add h y

theorem inf_neg {x : EReal} (h : Inf x) : Inf (-x) := by
  rcases h with rfl | rfl <;> simp [Inf]

theorem inf_sum {ι : Type} [DecidableEq ι] [Fintype ι] (f : ι → EReal) (j : ι) (h : Inf (f j)) : Inf (∑ i, f i) := by
  rw [← Finset.add_sum_erase _ _ (Finset.mem_univ j)]
  exact inf_add h _

/-- A stage carries infinity from a block of `h` to the block of `2 h` around it. -/
theorem inf_bfly (h : ℕ) (j : Fin 256) (hg : ∀ i : Fin 256, i.val / (2 * h) = j.val / (2 * h) →
      i.val / (2 * h) * (2 * h) + i.val % h + h < 256 ∧ ((i.val / (2 * h) * (2 * h) + i.val % h) / h = j.val / h ∨ (i.val / (2 * h) * (2 * h) + i.val % h + h) / h = j.val / h))
    (x : Fin 256 → EReal) (hx : ∀ i : Fin 256, i.val / h = j.val / h → Inf (x i)) (i : Fin 256) (hi : i.val / (2 * h) = j.val / (2 * h)) : Inf (bfly h x i) := by
  obtain ⟨hl, hs⟩ := hg i hi
  have e0 := Nat.mod_eq_of_lt (show i.val / (2 * h) * (2 * h) + i.val % h < 256 by omega)
  have e1 := Nat.mod_eq_of_lt hl
  unfold bfly
  rcases hs with hs | hs
  · have := hx (Fin.ofNat 256 (i.val / (2 * h) * (2 * h) + i.val % h)) (by rw [Fin.val_ofNat, e0]; exact hs)
    split
    · exact inf_add this _
    · rw [sub_eq_add_neg]; exact inf_add this _
  · have := hx (Fin.ofNat 256 (i.val / (2 * h) * (2 * h) + i.val % h + h)) (by rw [Fin.val_ofNat, e1]; exact hs)
    split
    · exact inf_add' this _
    · rw [sub_eq_add_neg]; exact inf_add' (inf_neg this) _

/-- One infinite number makes the whole transform infinite. -/
theorem inf_hadamard (x : Fin 256 → EReal) (j : Fin 256) (h : Inf (x j)) (i : Fin 256) : Inf (hadamard x i) := by
  have h0 : ∀ i : Fin 256, i.val / 1 = j.val / 1 → Inf (x i) := fun i hi => by
    rw [Nat.div_one, Nat.div_one] at hi
    rw [Fin.ext hi]; exact h
  have h1 := inf_bfly 1 j (fun i hi => by omega) _ h0
  have h2 := inf_bfly 2 j (fun i hi => by omega) _ h1
  have h3 := inf_bfly 4 j (fun i hi => by omega) _ h2
  have h4 := inf_bfly 8 j (fun i hi => by omega) _ h3
  have h5 := inf_bfly 16 j (fun i hi => by omega) _ h4
  have h6 := inf_bfly 32 j (fun i hi => by omega) _ h5
  have h7 := inf_bfly 64 j (fun i hi => by omega) _ h6
  exact inf_bfly 128 j (fun i hi => by omega) _ h7 i (by omega)

/-- So does one make the signed sum infinite. -/
theorem inf_signed (x : Fin 256 → EReal) (j : Fin 256) (h : Inf (x j)) (i : Fin 256) :
    Inf (∑ r : Fin 256, (((sg i.val r.val : ℤ) : ℝ) : EReal) * x r) := by
  refine inf_sum _ j ?_
  unfold sg
  split
  · simpa using inf_neg h
  · simpa using h

theorem sixteenth : Ideal.ofBits .f32 1031798784#32 = ((1 / 16 : ℝ) : EReal) := by
  simp [Ideal.ofBits, Ideal.ieee]
  rw [← EReal.coe_mul]
  norm_num

theorem seven : Ideal.ofBits .f32 1088421888#32 = ((7 : ℝ) : EReal) := by
  simp [Ideal.ofBits, Ideal.ieee]
  rw [← EReal.coe_mul]
  norm_num

variable (h : Fin 256 → EReal) (hh : ∀ d, Inf (h d))
include hh

theorem inf_yS (d : Fin 256) : Inf (yS h d) := by
  unfold yS
  rw [sixteenth]
  rcases hh d with e | e <;> rw [e]
  · exact .inl (EReal.top_mul_coe_of_pos (by norm_num))
  · exact .inr (EReal.bot_mul_coe_of_pos (by norm_num))

theorem inf_mS (n : Fin 8) : mS h n = ⊤ := by
  unfold mS
  refine top_le_iff.mp (Finset.le_fold_max _ |>.mpr (.inr ⟨0, Finset.mem_univ _, ?_⟩))
  show ⊤ ≤ max (yS h _) (-(yS h _))
  rcases inf_yS h hh ⟨n.val * 32 + (0 : Fin 32).val, by omega⟩ with e | e <;> rw [e] <;> simp

theorem inf_sS (n : Fin 8) : sS h n = ⊤ := by
  unfold sS
  rw [inf_mS h hh, seven, if_pos (by simp)]
  unfold Ideal.div
  rw [if_neg (by norm_num), ← EReal.coe_inv]
  exact EReal.top_mul_coe_of_pos (by norm_num)

theorem inf_qS (d : Fin 256) : qS h d = min (Ideal.ofBits .f32 1088421888#32) (max (Ideal.ofBits .f32 3235905536#32) (Ideal.liftRound Ideal.roundHalfEven 0)) := by
  unfold qS
  rw [inf_sS h hh]
  unfold Ideal.div
  rw [if_neg (by simp), EReal.inv_top, mul_zero]

theorem inf_codeS (h' : Fin 256 → EReal) (hh' : ∀ d, Inf (h' d)) (r : Fin 128) : codeS h r = codeS h' r := by
  unfold codeS
  simp only [inf_qS h hh, inf_qS h' hh']

end Cert.Quant
-- ==== Proof.New.KerResult.lean ====
module

public import proofs.«01_k».proof.Proof.New.KerOut
public import proofs.«01_k».proof.Proof.New.Infinite
public import Idealize.ShloMosaic.Lib.StableHlo.ReadAt
public import Idealize.ShloMosaic.Lib.Pipeline.ValueKit.Geometry

@[expose] public section

set_option maxRecDepth 16384
set_option maxHeartbeats 4000000

/-! The four output arrays, from the arguments. -/

noncomputable section

namespace Cert.NewKernelIdeal.Hand

open Cert.NewKernelIdeal Cert.NewKernelIdeal.Gen Cert.Quant Cert.Walsh
open Idealize.ShloMosaic Idealize.ShloMosaic.TcCoe Idealize.SL.Sem

/-- The codes and the scales of the new latents. -/
def codes (x : S6x1x16x256.Idx → EReal) : S6x16x128.Idx → BitVec 8 := fun y => codeS (hadamard fun r => x (ix4 (y 0) 0 (y 1) r)) (y 2)
def scales (x : S6x1x16x256.Idx → EReal) : S6x8x16.Idx → EReal := fun y => sS (hadamard fun r => x (ix4 (y 0) 0 (y 2) r)) (y 1)

variable (m : (ℓ : Loc nD τ sig) → Buf (Elt Ideal) ℓ) (c : Dev nD)

abbrev a0 : S6x1x16x256.Idx → EReal := m ((c.tc : Thread nD τ).loc main_arg0)
abbrev a1 : S6x1x16x256.Idx → EReal := m ((c.tc : Thread nD τ).loc main_arg1)

theorem iblk_0 (t : Fin cfg0.N) : iblk m c 0 t = Gen.V m c main_v0 := by
  funext x
  have e : ((cfg0.win 0).blk t).view.emb x = x := by
    funext a; apply Fin.ext; fin_cases t
    match a with
    | ⟨0, _⟩ => show 0 * _ + 1 * _ = _; omega
    | ⟨1, _⟩ => show 0 * _ + 1 * _ = _; omega
  show Gen.V m c main_v0 (((cfg0.win 0).blk t).view.emb x) = _
  rw [e]

theorem iblk_1 (t : Fin cfg0.N) : iblk m c 1 t = Gen.V m c main_v1 := by
  funext x
  have e : ((cfg0.win 1).blk t).view.emb x = x := by
    funext a; apply Fin.ext; fin_cases t
    match a with
    | ⟨0, _⟩ => show 0 * _ + 1 * _ = _; omega
    | ⟨1, _⟩ => show 0 * _ + 1 * _ = _; omega
  show Gen.V m c main_v1 (((cfg0.win 1).blk t).view.emb x) = _
  rw [e]

theorem v0_at (b : Fin 6) (g : Fin 16) (r : Fin 256) : (Gen.V m c main_v0 (ix2 ⟨16 * b.val + g.val, by omega⟩ r : S96x256.Idx) : EReal) = a0 m c (ix4 b 0 g r) := by
  unfold Gen.V
  after_reads_at

theorem v1_at (b : Fin 6) (g : Fin 16) (r : Fin 256) : (Gen.V m c main_v1 (ix2 ⟨16 * b.val + g.val, by omega⟩ r : S96x256.Idx) : EReal) = a1 m c (ix4 b 0 g r) := by
  unfold Gen.V
  after_reads_at

/-- The row of sequence `b`'s group `g`. -/
def l96 (b : Fin 6) (g : Fin 16) : Fin 96 := ⟨16 * b.val + g.val, by omega⟩

/-- A row of sequence `b`'s group `g` is a row of reals, or both its transforms are infinite everywhere. -/
theorem lane_cases (x : FVec Ideal S96x256 .bf16) (t : Fin 96) :
    lane x ⟨t.val, by omega⟩ = hadamard (fun r => (x (ix2 t r) : EReal))
      ∨ ((∀ d, Inf (lane x ⟨t.val, by omega⟩ d)) ∧ ∀ d, Inf (hadamard (fun r => (x (ix2 t r) : EReal)) d)) := by
  by_cases hx : ∀ r : Fin 256, ∃ a : ℝ, (x (ix2 t r) : EReal) = a
  · exact .inl (lane_eq x t hx)
  · obtain ⟨j, hj⟩ := not_forall.mp hx
    have hi := (inf_or_real _).resolve_right hj
    refine .inr ⟨fun d => ?_, inf_hadamard _ j hi⟩
    rw [lane_sum]
    exact inf_signed _ j hi d

theorem lane_codeS (x : FVec Ideal S96x256 .bf16) (t : Fin 96) (r : Fin 128) :
    codeS (lane x ⟨t.val, by omega⟩) r = codeS (hadamard (fun r => (x (ix2 t r) : EReal))) r := by
  rcases lane_cases x t with e | ⟨e, e'⟩
  · rw [e]
  · exact inf_codeS _ e _ e' r

theorem lane_sS (x : FVec Ideal S96x256 .bf16) (t : Fin 96) (n : Fin 8) :
    sS (lane x ⟨t.val, by omega⟩) n = sS (hadamard (fun r => (x (ix2 t r) : EReal))) n := by
  rcases lane_cases x t with e | ⟨e, e'⟩
  · rw [e]
  · exact (inf_sS _ e n).trans (inf_sS _ e' n).symm

theorem codesK_eq (x : FVec Ideal S96x256 .bf16) (a : S6x1x16x256.Idx → EReal) (hx : ∀ (b : Fin 6) (g : Fin 16) (r : Fin 256), (x (ix2 ⟨16 * b.val + g.val, by omega⟩ r) : EReal) = a (ix4 b 0 g r)) :
    codesK x = codes a := by
  funext y
  refine (lane_codeS x (l96 (y 0) (y 1)) (y 2)).trans ?_
  exact congrArg (fun h => codeS (hadamard h) (y 2)) (funext fun r => hx (y 0) (y 1) r)

theorem scalesK_eq (x : FVec Ideal S96x256 .bf16) (a : S6x1x16x256.Idx → EReal) (hx : ∀ (b : Fin 6) (g : Fin 16) (r : Fin 256), (x (ix2 ⟨16 * b.val + g.val, by omega⟩ r) : EReal) = a (ix4 b 0 g r)) :
    scalesK x = scales a := by
  funext y
  refine (lane_sS x (l96 (y 0) (y 2)) (y 1)).trans ?_
  exact congrArg (fun h => sS (hadamard h) (y 1)) (funext fun r => hx (y 0) (y 2) r)

theorem output_2 : (dats m 0 c).arrAt 2 cfg0.N = codes (a0 m c) := by
  refine Pipeline.Dat.arrAt_eq_of_after_last (dats m 0 c) 2 ⟨0, by decide⟩ (by decide +kernel) (codes (a0 m c)) fun j => ?_
  rw [after0_2]
  unfold outsAt0
  dsimp only
  rw [out_2, iblk_0, codesK_eq _ _ (v0_at m c)]
  rfl

theorem output_3 : (dats m 0 c).arrAt 3 cfg0.N = scales (a0 m c) := by
  refine Pipeline.Dat.arrAt_eq_of_after_last (dats m 0 c) 3 ⟨0, by decide⟩ (by decide +kernel) (scales (a0 m c)) fun j => ?_
  rw [after0_3]
  unfold outsAt0
  dsimp only
  rw [out_3, iblk_0, scalesK_eq _ _ (v0_at m c)]
  rfl

theorem output_4 : (dats m 0 c).arrAt 4 cfg0.N = codes (a1 m c) := by
  refine Pipeline.Dat.arrAt_eq_of_after_last (dats m 0 c) 4 ⟨0, by decide⟩ (by decide +kernel) (codes (a1 m c)) fun j => ?_
  rw [after0_4]
  unfold outsAt0
  dsimp only
  rw [out_4, iblk_1, codesK_eq _ _ (v1_at m c)]
  rfl

theorem output_5 : (dats m 0 c).arrAt 5 cfg0.N = scales (a1 m c) := by
  refine Pipeline.Dat.arrAt_eq_of_after_last (dats m 0 c) 5 ⟨0, by decide⟩ (by decide +kernel) (scales (a1 m c)) fun j => ?_
  rw [after0_5]
  unfold outsAt0
  dsimp only
  rw [out_5, iblk_1, scalesK_eq _ _ (v1_at m c)]
  rfl

end Cert.NewKernelIdeal.Hand
-- ==== Proof.New.RefOps.lean ====
module

public import proofs.«01_k».proof.Proof.Gen.NewReferenceIdeal
public import Idealize.ShloMosaic.Lib.StableHlo.Run

@[expose] public section

set_option maxRecDepth 16384
set_option maxHeartbeats 4000000

/-! The reference's operations, in order: for each latent eight butterflies (`k1` … `k128`, `v1` … `v128`, by
distance), the scaling and rounding (`kq`, `vq`) and the packing (`kc`, `vc`); then the results' last reshapes (`tl`).
A list that @main's text cuts in two is written as two. -/

noncomputable section

namespace Cert.NewReferenceIdeal.Hand

open Cert.NewReferenceIdeal Cert.NewReferenceIdeal.Gen
open Idealize.ShloMosaic Idealize.ShloMosaic.TcCoe Idealize.ShloMosaic.StableHlo Idealize.SL.Sem

variable {F : FTy → Type} [FloatOps F]

abbrev k1 : List (HloOp τ sig (Elt F)) :=
  [ unary main_arg0 main_v0 ((extf .f32 · bitsLt_bf16_f32) : (⟨S6x1x16x256, .bf16⟩ : BufTy).Contents (Elt F) → (⟨S6x1x16x256, .f32⟩ : BufTy).Contents (Elt F)),
    reshape main_v0 main_v1 (rfl : (.f32 : EltTy) = .f32) shapeCasts_S6x1x16x256_S6x1x16x128x2x1,
    unary main_v1 main_v2 ((extractStridedSlice S6x1x16x128x1x1 ![0, 0, 0, 0, 0, 0] · slices_S6x1x16x128x2x1_S6x1x16x128x1x1_0_0_0_0_0_0) : (⟨S6x1x16x128x2x1, .f32⟩ : BufTy).Contents (Elt F) → (⟨S6x1x16x128x1x1, .f32⟩ : BufTy).Contents (Elt F)),
    reshape main_v2 main_v3 (rfl : (.f32 : EltTy) = .f32) shapeCasts_S6x1x16x128x1x1_S6x1x16x128x1,
    unary main_v1 main_v4 ((extractStridedSlice S6x1x16x128x1x1 ![0, 0, 0, 0, 1, 0] · slices_S6x1x16x128x2x1_S6x1x16x128x1x1_0_0_0_0_1_0) : (⟨S6x1x16x128x2x1, .f32⟩ : BufTy).Contents (Elt F) → (⟨S6x1x16x128x1x1, .f32⟩ : BufTy).Contents (Elt F)),
    reshape main_v4 main_v5 (rfl : (.f32 : EltTy) = .f32) shapeCasts_S6x1x16x128x1x1_S6x1x16x128x1,
    binary main_v3 main_v5 main_v6 (addf : (⟨S6x1x16x128x1, .f32⟩ : BufTy).Contents (Elt F) → (⟨S6x1x16x128x1, .f32⟩ : BufTy).Contents (Elt F) → (⟨S6x1x16x128x1, .f32⟩ : BufTy).Contents (Elt F)),
    binary main_v3 main_v5 main_v7 (subf : (⟨S6x1x16x128x1, .f32⟩ : BufTy).Contents (Elt F) → (⟨S6x1x16x128x1, .f32⟩ : BufTy).Contents (Elt F) → (⟨S6x1x16x128x1, .f32⟩ : BufTy).Contents (Elt F)),
    unary main_v6 main_v8 (broadcastInDim S6x1x16x128x1x1 ![0, 1, 2, 3, 5] bcast_S6x1x16x128x1_S6x1x16x128x1x1_0_1_2_3_5 : (⟨S6x1x16x128x1, .f32⟩ : BufTy).Contents (Elt F) → (⟨S6x1x16x128x1x1, .f32⟩ : BufTy).Contents (Elt F)),
    unary main_v7 main_v9 (broadcastInDim S6x1x16x128x1x1 ![0, 1, 2, 3, 5] bcast_S6x1x16x128x1_S6x1x16x128x1x1_0_1_2_3_5 : (⟨S6x1x16x128x1, .f32⟩ : BufTy).Contents (Elt F) → (⟨S6x1x16x128x1x1, .f32⟩ : BufTy).Contents (Elt F)),
    binary main_v8 main_v9 main_v10 ((fun a b => concatenate S6x1x16x128x2x1 4 [⟨S6x1x16x128x1x1, a⟩, ⟨S6x1x16x128x1x1, b⟩] concatenates_S6x1x16x128x1x1_S6x1x16x128x1x1_S6x1x16x128x2x1_d4) : (⟨S6x1x16x128x1x1, .f32⟩ : BufTy).Contents (Elt F) → (⟨S6x1x16x128x1x1, .f32⟩ : BufTy).Contents (Elt F) → (⟨S6x1x16x128x2x1, .f32⟩ : BufTy).Contents (Elt F)),
    reshape main_v10 main_v11 (rfl : (.f32 : EltTy) = .f32) shapeCasts_S6x1x16x128x2x1_S6x1x16x256 ]

abbrev k2 : List (HloOp τ sig (Elt F)) :=
  [ reshape main_v11 main_v12 (rfl : (.f32 : EltTy) = .f32) shapeCasts_S6x1x16x256_S6x1x16x64x2x2,
    unary main_v12 main_v13 ((extractStridedSlice S6x1x16x64x1x2 ![0, 0, 0, 0, 0, 0] · slices_S6x1x16x64x2x2_S6x1x16x64x1x2_0_0_0_0_0_0) : (⟨S6x1x16x64x2x2, .f32⟩ : BufTy).Contents (Elt F) → (⟨S6x1x16x64x1x2, .f32⟩ : BufTy).Contents (Elt F)),
    reshape main_v13 main_v14 (rfl : (.f32 : EltTy) = .f32) shapeCasts_S6x1x16x64x1x2_S6x1x16x64x2,
    unary main_v12 main_v15 ((extractStridedSlice S6x1x16x64x1x2 ![0, 0, 0, 0, 1, 0] · slices_S6x1x16x64x2x2_S6x1x16x64x1x2_0_0_0_0_1_0) : (⟨S6x1x16x64x2x2, .f32⟩ : BufTy).Contents (Elt F) → (⟨S6x1x16x64x1x2, .f32⟩ : BufTy).Contents (Elt F)),
    reshape main_v15 main_v16 (rfl : (.f32 : EltTy) = .f32) shapeCasts_S6x1x16x64x1x2_S6x1x16x64x2,
    binary main_v14 main_v16 main_v17 (addf : (⟨S6x1x16x64x2, .f32⟩ : BufTy).Contents (Elt F) → (⟨S6x1x16x64x2, .f32⟩ : BufTy).Contents (Elt F) → (⟨S6x1x16x64x2, .f32⟩ : BufTy).Contents (Elt F)),
    binary main_v14 main_v16 main_v18 (subf : (⟨S6x1x16x64x2, .f32⟩ : BufTy).Contents (Elt F) → (⟨S6x1x16x64x2, .f32⟩ : BufTy).Contents (Elt F) → (⟨S6x1x16x64x2, .f32⟩ : BufTy).Contents (Elt F)),
    unary main_v17 main_v19 (broadcastInDim S6x1x16x64x1x2 ![0, 1, 2, 3, 5] bcast_S6x1x16x64x2_S6x1x16x64x1x2_0_1_2_3_5 : (⟨S6x1x16x64x2, .f32⟩ : BufTy).Contents (Elt F) → (⟨S6x1x16x64x1x2, .f32⟩ : BufTy).Contents (Elt F)),
    unary main_v18 main_v20 (broadcastInDim S6x1x16x64x1x2 ![0, 1, 2, 3, 5] bcast_S6x1x16x64x2_S6x1x16x64x1x2_0_1_2_3_5 : (⟨S6x1x16x64x2, .f32⟩ : BufTy).Contents (Elt F) → (⟨S6x1x16x64x1x2, .f32⟩ : BufTy).Contents (Elt F)),
    binary main_v19 main_v20 main_v21 ((fun a b => concatenate S6x1x16x64x2x2 4 [⟨S6x1x16x64x1x2, a⟩, ⟨S6x1x16x64x1x2, b⟩] concatenates_S6x1x16x64x1x2_S6x1x16x64x1x2_S6x1x16x64x2x2_d4) : (⟨S6x1x16x64x1x2, .f32⟩ : BufTy).Contents (Elt F) → (⟨S6x1x16x64x1x2, .f32⟩ : BufTy).Contents (Elt F) → (⟨S6x1x16x64x2x2, .f32⟩ : BufTy).Contents (Elt F)),
    reshape main_v21 main_v22 (rfl : (.f32 : EltTy) = .f32) shapeCasts_S6x1x16x64x2x2_S6x1x16x256 ]

abbrev k4 : List (HloOp τ sig (Elt F)) :=
  [ reshape main_v22 main_v23 (rfl : (.f32 : EltTy) = .f32) shapeCasts_S6x1x16x256_S6x1x16x32x2x4,
    unary main_v23 main_v24 ((extractStridedSlice S6x1x16x32x1x4 ![0, 0, 0, 0, 0, 0] · slices_S6x1x16x32x2x4_S6x1x16x32x1x4_0_0_0_0_0_0) : (⟨S6x1x16x32x2x4, .f32⟩ : BufTy).Contents (Elt F) → (⟨S6x1x16x32x1x4, .f32⟩ : BufTy).Contents (Elt F)),
    reshape main_v24 main_v25 (rfl : (.f32 : EltTy) = .f32) shapeCasts_S6x1x16x32x1x4_S6x1x16x32x4,
    unary main_v23 main_v26 ((extractStridedSlice S6x1x16x32x1x4 ![0, 0, 0, 0, 1, 0] · slices_S6x1x16x32x2x4_S6x1x16x32x1x4_0_0_0_0_1_0) : (⟨S6x1x16x32x2x4, .f32⟩ : BufTy).Contents (Elt F) → (⟨S6x1x16x32x1x4, .f32⟩ : BufTy).Contents (Elt F)),
    reshape main_v26 main_v27 (rfl : (.f32 : EltTy) = .f32) shapeCasts_S6x1x16x32x1x4_S6x1x16x32x4,
    binary main_v25 main_v27 main_v28 (addf : (⟨S6x1x16x32x4, .f32⟩ : BufTy).Contents (Elt F) → (⟨S6x1x16x32x4, .f32⟩ : BufTy).Contents (Elt F) → (⟨S6x1x16x32x4, .f32⟩ : BufTy).Contents (Elt F)),
    binary main_v25 main_v27 main_v29 (subf : (⟨S6x1x16x32x4, .f32⟩ : BufTy).Contents (Elt F) → (⟨S6x1x16x32x4, .f32⟩ : BufTy).Contents (Elt F) → (⟨S6x1x16x32x4, .f32⟩ : BufTy).Contents (Elt F)),
    unary main_v28 main_v30 (broadcastInDim S6x1x16x32x1x4 ![0, 1, 2, 3, 5] bcast_S6x1x16x32x4_S6x1x16x32x1x4_0_1_2_3_5 : (⟨S6x1x16x32x4, .f32⟩ : BufTy).Contents (Elt F) → (⟨S6x1x16x32x1x4, .f32⟩ : BufTy).Contents (Elt F)),
    unary main_v29 main_v31 (broadcastInDim S6x1x16x32x1x4 ![0, 1, 2, 3, 5] bcast_S6x1x16x32x4_S6x1x16x32x1x4_0_1_2_3_5 : (⟨S6x1x16x32x4, .f32⟩ : BufTy).Contents (Elt F) → (⟨S6x1x16x32x1x4, .f32⟩ : BufTy).Contents (Elt F)),
    binary main_v30 main_v31 main_v32 ((fun a b => concatenate S6x1x16x32x2x4 4 [⟨S6x1x16x32x1x4, a⟩, ⟨S6x1x16x32x1x4, b⟩] concatenates_S6x1x16x32x1x4_S6x1x16x32x1x4_S6x1x16x32x2x4_d4) : (⟨S6x1x16x32x1x4, .f32⟩ : BufTy).Contents (Elt F) → (⟨S6x1x16x32x1x4, .f32⟩ : BufTy).Contents (Elt F) → (⟨S6x1x16x32x2x4, .f32⟩ : BufTy).Contents (Elt F)),
    reshape main_v32 main_v33 (rfl : (.f32 : EltTy) = .f32) shapeCasts_S6x1x16x32x2x4_S6x1x16x256 ]

abbrev k8 : List (HloOp τ sig (Elt F)) :=
  [ reshape main_v33 main_v34 (rfl : (.f32 : EltTy) = .f32) shapeCasts_S6x1x16x256_S6x1x16x16x2x8,
    unary main_v34 main_v35 ((extractStridedSlice S6x1x16x16x1x8 ![0, 0, 0, 0, 0, 0] · slices_S6x1x16x16x2x8_S6x1x16x16x1x8_0_0_0_0_0_0) : (⟨S6x1x16x16x2x8, .f32⟩ : BufTy).Contents (Elt F) → (⟨S6x1x16x16x1x8, .f32⟩ : BufTy).Contents (Elt F)),
    reshape main_v35 main_v36 (rfl : (.f32 : EltTy) = .f32) shapeCasts_S6x1x16x16x1x8_S6x1x16x16x8,
    unary main_v34 main_v37 ((extractStridedSlice S6x1x16x16x1x8 ![0, 0, 0, 0, 1, 0] · slices_S6x1x16x16x2x8_S6x1x16x16x1x8_0_0_0_0_1_0) : (⟨S6x1x16x16x2x8, .f32⟩ : BufTy).Contents (Elt F) → (⟨S6x1x16x16x1x8, .f32⟩ : BufTy).Contents (Elt F)),
    reshape main_v37 main_v38 (rfl : (.f32 : EltTy) = .f32) shapeCasts_S6x1x16x16x1x8_S6x1x16x16x8,
    binary main_v36 main_v38 main_v39 (addf : (⟨S6x1x16x16x8, .f32⟩ : BufTy).Contents (Elt F) → (⟨S6x1x16x16x8, .f32⟩ : BufTy).Contents (Elt F) → (⟨S6x1x16x16x8, .f32⟩ : BufTy).Contents (Elt F)),
    binary main_v36 main_v38 main_v40 (subf : (⟨S6x1x16x16x8, .f32⟩ : BufTy).Contents (Elt F) → (⟨S6x1x16x16x8, .f32⟩ : BufTy).Contents (Elt F) → (⟨S6x1x16x16x8, .f32⟩ : BufTy).Contents (Elt F)),
    unary main_v39 main_v41 (broadcastInDim S6x1x16x16x1x8 ![0, 1, 2, 3, 5] bcast_S6x1x16x16x8_S6x1x16x16x1x8_0_1_2_3_5 : (⟨S6x1x16x16x8, .f32⟩ : BufTy).Contents (Elt F) → (⟨S6x1x16x16x1x8, .f32⟩ : BufTy).Contents (Elt F)),
    unary main_v40 main_v42 (broadcastInDim S6x1x16x16x1x8 ![0, 1, 2, 3, 5] bcast_S6x1x16x16x8_S6x1x16x16x1x8_0_1_2_3_5 : (⟨S6x1x16x16x8, .f32⟩ : BufTy).Contents (Elt F) → (⟨S6x1x16x16x1x8, .f32⟩ : BufTy).Contents (Elt F)),
    binary main_v41 main_v42 main_v43 ((fun a b => concatenate S6x1x16x16x2x8 4 [⟨S6x1x16x16x1x8, a⟩, ⟨S6x1x16x16x1x8, b⟩] concatenates_S6x1x16x16x1x8_S6x1x16x16x1x8_S6x1x16x16x2x8_d4) : (⟨S6x1x16x16x1x8, .f32⟩ : BufTy).Contents (Elt F) → (⟨S6x1x16x16x1x8, .f32⟩ : BufTy).Contents (Elt F) → (⟨S6x1x16x16x2x8, .f32⟩ : BufTy).Contents (Elt F)),
    reshape main_v43 main_v44 (rfl : (.f32 : EltTy) = .f32) shapeCasts_S6x1x16x16x2x8_S6x1x16x256 ]

abbrev k16 : List (HloOp τ sig (Elt F)) :=
  [ reshape main_v44 main_v45 (rfl : (.f32 : EltTy) = .f32) shapeCasts_S6x1x16x256_S6x1x16x8x2x16,
    unary main_v45 main_v46 ((extractStridedSlice S6x1x16x8x1x16 ![0, 0, 0, 0, 0, 0] · slices_S6x1x16x8x2x16_S6x1x16x8x1x16_0_0_0_0_0_0) : (⟨S6x1x16x8x2x16, .f32⟩ : BufTy).Contents (Elt F) → (⟨S6x1x16x8x1x16, .f32⟩ : BufTy).Contents (Elt F)),
    reshape main_v46 main_v47 (rfl : (.f32 : EltTy) = .f32) shapeCasts_S6x1x16x8x1x16_S6x1x16x8x16,
    unary main_v45 main_v48 ((extractStridedSlice S6x1x16x8x1x16 ![0, 0, 0, 0, 1, 0] · slices_S6x1x16x8x2x16_S6x1x16x8x1x16_0_0_0_0_1_0) : (⟨S6x1x16x8x2x16, .f32⟩ : BufTy).Contents (Elt F) → (⟨S6x1x16x8x1x16, .f32⟩ : BufTy).Contents (Elt F)),
    reshape main_v48 main_v49 (rfl : (.f32 : EltTy) = .f32) shapeCasts_S6x1x16x8x1x16_S6x1x16x8x16,
    binary main_v47 main_v49 main_v50 (addf : (⟨S6x1x16x8x16, .f32⟩ : BufTy).Contents (Elt F) → (⟨S6x1x16x8x16, .f32⟩ : BufTy).Contents (Elt F) → (⟨S6x1x16x8x16, .f32⟩ : BufTy).Contents (Elt F)),
    binary main_v47 main_v49 main_v51 (subf : (⟨S6x1x16x8x16, .f32⟩ : BufTy).Contents (Elt F) → (⟨S6x1x16x8x16, .f32⟩ : BufTy).Contents (Elt F) → (⟨S6x1x16x8x16, .f32⟩ : BufTy).Contents (Elt F)),
    unary main_v50 main_v52 (broadcastInDim S6x1x16x8x1x16 ![0, 1, 2, 3, 5] bcast_S6x1x16x8x16_S6x1x16x8x1x16_0_1_2_3_5 : (⟨S6x1x16x8x16, .f32⟩ : BufTy).Contents (Elt F) → (⟨S6x1x16x8x1x16, .f32⟩ : BufTy).Contents (Elt F)),
    unary main_v51 main_v53 (broadcastInDim S6x1x16x8x1x16 ![0, 1, 2, 3, 5] bcast_S6x1x16x8x16_S6x1x16x8x1x16_0_1_2_3_5 : (⟨S6x1x16x8x16, .f32⟩ : BufTy).Contents (Elt F) → (⟨S6x1x16x8x1x16, .f32⟩ : BufTy).Contents (Elt F)),
    binary main_v52 main_v53 main_v54 ((fun a b => concatenate S6x1x16x8x2x16 4 [⟨S6x1x16x8x1x16, a⟩, ⟨S6x1x16x8x1x16, b⟩] concatenates_S6x1x16x8x1x16_S6x1x16x8x1x16_S6x1x16x8x2x16_d4) : (⟨S6x1x16x8x1x16, .f32⟩ : BufTy).Contents (Elt F) → (⟨S6x1x16x8x1x16, .f32⟩ : BufTy).Contents (Elt F) → (⟨S6x1x16x8x2x16, .f32⟩ : BufTy).Contents (Elt F)),
    reshape main_v54 main_v55 (rfl : (.f32 : EltTy) = .f32) shapeCasts_S6x1x16x8x2x16_S6x1x16x256 ]

abbrev k32a : List (HloOp τ sig (Elt F)) :=
  [ reshape main_v55 main_v56 (rfl : (.f32 : EltTy) = .f32) shapeCasts_S6x1x16x256_S6x1x16x4x2x32,
    unary main_v56 main_v57 ((extractStridedSlice S6x1x16x4x1x32 ![0, 0, 0, 0, 0, 0] · slices_S6x1x16x4x2x32_S6x1x16x4x1x32_0_0_0_0_0_0) : (⟨S6x1x16x4x2x32, .f32⟩ : BufTy).Contents (Elt F) → (⟨S6x1x16x4x1x32, .f32⟩ : BufTy).Contents (Elt F)),
    reshape main_v57 main_v58 (rfl : (.f32 : EltTy) = .f32) shapeCasts_S6x1x16x4x1x32_S6x1x16x4x32,
    unary main_v56 main_v59 ((extractStridedSlice S6x1x16x4x1x32 ![0, 0, 0, 0, 1, 0] · slices_S6x1x16x4x2x32_S6x1x16x4x1x32_0_0_0_0_1_0) : (⟨S6x1x16x4x2x32, .f32⟩ : BufTy).Contents (Elt F) → (⟨S6x1x16x4x1x32, .f32⟩ : BufTy).Contents (Elt F)) ]

abbrev k32b : List (HloOp τ sig (Elt F)) :=
  [ reshape main_v59 main_v60 (rfl : (.f32 : EltTy) = .f32) shapeCasts_S6x1x16x4x1x32_S6x1x16x4x32,
    binary main_v58 main_v60 main_v61 (addf : (⟨S6x1x16x4x32, .f32⟩ : BufTy).Contents (Elt F) → (⟨S6x1x16x4x32, .f32⟩ : BufTy).Contents (Elt F) → (⟨S6x1x16x4x32, .f32⟩ : BufTy).Contents (Elt F)),
    binary main_v58 main_v60 main_v62 (subf : (⟨S6x1x16x4x32, .f32⟩ : BufTy).Contents (Elt F) → (⟨S6x1x16x4x32, .f32⟩ : BufTy).Contents (Elt F) → (⟨S6x1x16x4x32, .f32⟩ : BufTy).Contents (Elt F)),
    unary main_v61 main_v63 (broadcastInDim S6x1x16x4x1x32 ![0, 1, 2, 3, 5] bcast_S6x1x16x4x32_S6x1x16x4x1x32_0_1_2_3_5 : (⟨S6x1x16x4x32, .f32⟩ : BufTy).Contents (Elt F) → (⟨S6x1x16x4x1x32, .f32⟩ : BufTy).Contents (Elt F)),
    unary main_v62 main_v64 (broadcastInDim S6x1x16x4x1x32 ![0, 1, 2, 3, 5] bcast_S6x1x16x4x32_S6x1x16x4x1x32_0_1_2_3_5 : (⟨S6x1x16x4x32, .f32⟩ : BufTy).Contents (Elt F) → (⟨S6x1x16x4x1x32, .f32⟩ : BufTy).Contents (Elt F)),
    binary main_v63 main_v64 main_v65 ((fun a b => concatenate S6x1x16x4x2x32 4 [⟨S6x1x16x4x1x32, a⟩, ⟨S6x1x16x4x1x32, b⟩] concatenates_S6x1x16x4x1x32_S6x1x16x4x1x32_S6x1x16x4x2x32_d4) : (⟨S6x1x16x4x1x32, .f32⟩ : BufTy).Contents (Elt F) → (⟨S6x1x16x4x1x32, .f32⟩ : BufTy).Contents (Elt F) → (⟨S6x1x16x4x2x32, .f32⟩ : BufTy).Contents (Elt F)),
    reshape main_v65 main_v66 (rfl : (.f32 : EltTy) = .f32) shapeCasts_S6x1x16x4x2x32_S6x1x16x256 ]

abbrev k32 : List (HloOp τ sig (Elt F)) := k32a ++ k32b

abbrev k64 : List (HloOp τ sig (Elt F)) :=
  [ reshape main_v66 main_v67 (rfl : (.f32 : EltTy) = .f32) shapeCasts_S6x1x16x256_S6x1x16x2x2x64,
    unary main_v67 main_v68 ((extractStridedSlice S6x1x16x2x1x64 ![0, 0, 0, 0, 0, 0] · slices_S6x1x16x2x2x64_S6x1x16x2x1x64_0_0_0_0_0_0) : (⟨S6x1x16x2x2x64, .f32⟩ : BufTy).Contents (Elt F) → (⟨S6x1x16x2x1x64, .f32⟩ : BufTy).Contents (Elt F)),
    reshape main_v68 main_v69 (rfl : (.f32 : EltTy) = .f32) shapeCasts_S6x1x16x2x1x64_S6x1x16x2x64,
    unary main_v67 main_v70 ((extractStridedSlice S6x1x16x2x1x64 ![0, 0, 0, 0, 1, 0] · slices_S6x1x16x2x2x64_S6x1x16x2x1x64_0_0_0_0_1_0) : (⟨S6x1x16x2x2x64, .f32⟩ : BufTy).Contents (Elt F) → (⟨S6x1x16x2x1x64, .f32⟩ : BufTy).Contents (Elt F)),
    reshape main_v70 main_v71 (rfl : (.f32 : EltTy) = .f32) shapeCasts_S6x1x16x2x1x64_S6x1x16x2x64,
    binary main_v69 main_v71 main_v72 (addf : (⟨S6x1x16x2x64, .f32⟩ : BufTy).Contents (Elt F) → (⟨S6x1x16x2x64, .f32⟩ : BufTy).Contents (Elt F) → (⟨S6x1x16x2x64, .f32⟩ : BufTy).Contents (Elt F)),
    binary main_v69 main_v71 main_v73 (subf : (⟨S6x1x16x2x64, .f32⟩ : BufTy).Contents (Elt F) → (⟨S6x1x16x2x64, .f32⟩ : BufTy).Contents (Elt F) → (⟨S6x1x16x2x64, .f32⟩ : BufTy).Contents (Elt F)),
    unary main_v72 main_v74 (broadcastInDim S6x1x16x2x1x64 ![0, 1, 2, 3, 5] bcast_S6x1x16x2x64_S6x1x16x2x1x64_0_1_2_3_5 : (⟨S6x1x16x2x64, .f32⟩ : BufTy).Contents (Elt F) → (⟨S6x1x16x2x1x64, .f32⟩ : BufTy).Contents (Elt F)),
    unary main_v73 main_v75 (broadcastInDim S6x1x16x2x1x64 ![0, 1, 2, 3, 5] bcast_S6x1x16x2x64_S6x1x16x2x1x64_0_1_2_3_5 : (⟨S6x1x16x2x64, .f32⟩ : BufTy).Contents (Elt F) → (⟨S6x1x16x2x1x64, .f32⟩ : BufTy).Contents (Elt F)),
    binary main_v74 main_v75 main_v76 ((fun a b => concatenate S6x1x16x2x2x64 4 [⟨S6x1x16x2x1x64, a⟩, ⟨S6x1x16x2x1x64, b⟩] concatenates_S6x1x16x2x1x64_S6x1x16x2x1x64_S6x1x16x2x2x64_d4) : (⟨S6x1x16x2x1x64, .f32⟩ : BufTy).Contents (Elt F) → (⟨S6x1x16x2x1x64, .f32⟩ : BufTy).Contents (Elt F) → (⟨S6x1x16x2x2x64, .f32⟩ : BufTy).Contents (Elt F)),
    reshape main_v76 main_v77 (rfl : (.f32 : EltTy) = .f32) shapeCasts_S6x1x16x2x2x64_S6x1x16x256 ]

abbrev k128 : List (HloOp τ sig (Elt F)) :=
  [ reshape main_v77 main_v78 (rfl : (.f32 : EltTy) = .f32) shapeCasts_S6x1x16x256_S6x1x16x1x2x128,
    unary main_v78 main_v79 ((extractStridedSlice S6x1x16x1x1x128 ![0, 0, 0, 0, 0, 0] · slices_S6x1x16x1x2x128_S6x1x16x1x1x128_0_0_0_0_0_0) : (⟨S6x1x16x1x2x128, .f32⟩ : BufTy).Contents (Elt F) → (⟨S6x1x16x1x1x128, .f32⟩ : BufTy).Contents (Elt F)),
    reshape main_v79 main_v80 (rfl : (.f32 : EltTy) = .f32) shapeCasts_S6x1x16x1x1x128_S6x1x16x1x128,
    unary main_v78 main_v81 ((extractStridedSlice S6x1x16x1x1x128 ![0, 0, 0, 0, 1, 0] · slices_S6x1x16x1x2x128_S6x1x16x1x1x128_0_0_0_0_1_0) : (⟨S6x1x16x1x2x128, .f32⟩ : BufTy).Contents (Elt F) → (⟨S6x1x16x1x1x128, .f32⟩ : BufTy).Contents (Elt F)),
    reshape main_v81 main_v82 (rfl : (.f32 : EltTy) = .f32) shapeCasts_S6x1x16x1x1x128_S6x1x16x1x128,
    binary main_v80 main_v82 main_v83 (addf : (⟨S6x1x16x1x128, .f32⟩ : BufTy).Contents (Elt F) → (⟨S6x1x16x1x128, .f32⟩ : BufTy).Contents (Elt F) → (⟨S6x1x16x1x128, .f32⟩ : BufTy).Contents (Elt F)),
    binary main_v80 main_v82 main_v84 (subf : (⟨S6x1x16x1x128, .f32⟩ : BufTy).Contents (Elt F) → (⟨S6x1x16x1x128, .f32⟩ : BufTy).Contents (Elt F) → (⟨S6x1x16x1x128, .f32⟩ : BufTy).Contents (Elt F)),
    unary main_v83 main_v85 (broadcastInDim S6x1x16x1x1x128 ![0, 1, 2, 3, 5] bcast_S6x1x16x1x128_S6x1x16x1x1x128_0_1_2_3_5 : (⟨S6x1x16x1x128, .f32⟩ : BufTy).Contents (Elt F) → (⟨S6x1x16x1x1x128, .f32⟩ : BufTy).Contents (Elt F)),
    unary main_v84 main_v86 (broadcastInDim S6x1x16x1x1x128 ![0, 1, 2, 3, 5] bcast_S6x1x16x1x128_S6x1x16x1x1x128_0_1_2_3_5 : (⟨S6x1x16x1x128, .f32⟩ : BufTy).Contents (Elt F) → (⟨S6x1x16x1x1x128, .f32⟩ : BufTy).Contents (Elt F)),
    binary main_v85 main_v86 main_v87 ((fun a b => concatenate S6x1x16x1x2x128 4 [⟨S6x1x16x1x1x128, a⟩, ⟨S6x1x16x1x1x128, b⟩] concatenates_S6x1x16x1x1x128_S6x1x16x1x1x128_S6x1x16x1x2x128_d4) : (⟨S6x1x16x1x1x128, .f32⟩ : BufTy).Contents (Elt F) → (⟨S6x1x16x1x1x128, .f32⟩ : BufTy).Contents (Elt F) → (⟨S6x1x16x1x2x128, .f32⟩ : BufTy).Contents (Elt F)),
    reshape main_v87 main_v88 (rfl : (.f32 : EltTy) = .f32) shapeCasts_S6x1x16x1x2x128_S6x1x16x256 ]

abbrev kq : List (HloOp τ sig (Elt F)) :=
  [ nullary main_cst (constant S_ .f32 0x3D800000#32),
    unary main_cst main_v89 (broadcastInDim S6x1x16x256 ![] bcast_S_S6x1x16x256 : (⟨S_, .f32⟩ : BufTy).Contents (Elt F) → (⟨S6x1x16x256, .f32⟩ : BufTy).Contents (Elt F)),
    binary main_v88 main_v89 main_v90 (mulf : (⟨S6x1x16x256, .f32⟩ : BufTy).Contents (Elt F) → (⟨S6x1x16x256, .f32⟩ : BufTy).Contents (Elt F) → (⟨S6x1x16x256, .f32⟩ : BufTy).Contents (Elt F)),
    reshape main_v90 main_v91 (rfl : (.f32 : EltTy) = .f32) shapeCasts_S6x1x16x256_S6x1x16x8x32,
    unary main_v91 main_v92 (Host.absf : (⟨S6x1x16x8x32, .f32⟩ : BufTy).Contents (Elt F) → (⟨S6x1x16x8x32, .f32⟩ : BufTy).Contents (Elt F)),
    nullary main_cst_0 (constant S_ .f32 0xFF800000#32),
    binary main_v92 main_cst_0 main_v93 ((fun x v => Host.reduce FloatOps.maximumf x v reducesTo_S6x1x16x8x32_S6x1x16x8_d4 h_S_) : (⟨S6x1x16x8x32, .f32⟩ : BufTy).Contents (Elt F) → (⟨S_, .f32⟩ : BufTy).Contents (Elt F) → (⟨S6x1x16x8, .f32⟩ : BufTy).Contents (Elt F)),
    nullary main_cst_1 (constant S_ .f32 0x00000000#32),
    unary main_cst_1 main_v94 (broadcastInDim S6x1x16x8 ![] bcast_S_S6x1x16x8 : (⟨S_, .f32⟩ : BufTy).Contents (Elt F) → (⟨S6x1x16x8, .f32⟩ : BufTy).Contents (Elt F)),
    binary main_v93 main_v94 main_v95 (cmpf .ogt : (⟨S6x1x16x8, .f32⟩ : BufTy).Contents (Elt F) → (⟨S6x1x16x8, .f32⟩ : BufTy).Contents (Elt F) → (⟨S6x1x16x8, .i1⟩ : BufTy).Contents (Elt F)),
    nullary main_cst_2 (constant S_ .f32 0x40E00000#32),
    unary main_cst_2 main_v96 (broadcastInDim S6x1x16x8 ![] bcast_S_S6x1x16x8 : (⟨S_, .f32⟩ : BufTy).Contents (Elt F) → (⟨S6x1x16x8, .f32⟩ : BufTy).Contents (Elt F)),
    binary main_v93 main_v96 main_v97 (Host.divf : (⟨S6x1x16x8, .f32⟩ : BufTy).Contents (Elt F) → (⟨S6x1x16x8, .f32⟩ : BufTy).Contents (Elt F) → (⟨S6x1x16x8, .f32⟩ : BufTy).Contents (Elt F)),
    nullary main_cst_3 (constant S_ .f32 0x3F800000#32),
    TRef.unary (TRef.of (T := ⟨S_, .f32⟩) main_cst_3) (TRef.of (T := ⟨S6x1x16x8, .f32⟩) main_call0_v0) (broadcastInDim S6x1x16x8 ![] bcast_S_S6x1x16x8),
    TRef.ternary (TRef.of (T := ⟨S6x1x16x8, .i1⟩) main_v95) (TRef.of (T := ⟨S6x1x16x8, .f32⟩) main_v97) (TRef.of (T := ⟨S6x1x16x8, .f32⟩) main_call0_v0) (TRef.of (T := ⟨S6x1x16x8, .f32⟩) main_v98) select,
    unary main_v98 main_v99 (broadcastInDim S6x1x16x8x1 ![0, 1, 2, 3] bcast_S6x1x16x8_S6x1x16x8x1_0_1_2_3 : (⟨S6x1x16x8, .f32⟩ : BufTy).Contents (Elt F) → (⟨S6x1x16x8x1, .f32⟩ : BufTy).Contents (Elt F)),
    unary main_v99 main_v100 (broadcastInDim S6x1x16x8x32 ![0, 1, 2, 3, 4] bcast_S6x1x16x8x1_S6x1x16x8x32_0_1_2_3_4 : (⟨S6x1x16x8x1, .f32⟩ : BufTy).Contents (Elt F) → (⟨S6x1x16x8x32, .f32⟩ : BufTy).Contents (Elt F)),
    binary main_v91 main_v100 main_v101 (Host.divf : (⟨S6x1x16x8x32, .f32⟩ : BufTy).Contents (Elt F) → (⟨S6x1x16x8x32, .f32⟩ : BufTy).Contents (Elt F) → (⟨S6x1x16x8x32, .f32⟩ : BufTy).Contents (Elt F)),
    TRef.unary (TRef.of (T := ⟨S6x1x16x8x32, .f32⟩) main_v101) (TRef.of (T := ⟨S6x1x16x8x32, .f32⟩) main_v102) Host.roundeven,
    nullary main_cst_4 (constant S_ .f32 0xC0E00000#32),
    nullary main_cst_5 (constant S_ .f32 0x40E00000#32),
    TRef.unary (TRef.of (T := ⟨S_, .f32⟩) main_cst_4) (TRef.of (T := ⟨S_, .f32⟩) main_call2_v0) id,
    TRef.unary (TRef.of (T := ⟨S_, .f32⟩) main_call2_v0) (TRef.of (T := ⟨S6x1x16x8x32, .f32⟩) main_call2_v1) (broadcastInDim S6x1x16x8x32 ![] bcast_S_S6x1x16x8x32),
    TRef.binary (TRef.of (T := ⟨S6x1x16x8x32, .f32⟩) main_call2_v1) (TRef.of (T := ⟨S6x1x16x8x32, .f32⟩) main_v102) (TRef.of (T := ⟨S6x1x16x8x32, .f32⟩) main_call2_v2) maximumf,
    TRef.unary (TRef.of (T := ⟨S_, .f32⟩) main_cst_5) (TRef.of (T := ⟨S_, .f32⟩) main_call2_v3) id,
    TRef.unary (TRef.of (T := ⟨S_, .f32⟩) main_call2_v3) (TRef.of (T := ⟨S6x1x16x8x32, .f32⟩) main_call2_v4) (broadcastInDim S6x1x16x8x32 ![] bcast_S_S6x1x16x8x32),
    TRef.binary (TRef.of (T := ⟨S6x1x16x8x32, .f32⟩) main_call2_v4) (TRef.of (T := ⟨S6x1x16x8x32, .f32⟩) main_call2_v2) (TRef.of (T := ⟨S6x1x16x8x32, .f32⟩) main_v103) minimumf,
    unary main_v103 main_v104 (fptosi 32 : (⟨S6x1x16x8x32, .f32⟩ : BufTy).Contents (Elt F) → (⟨S6x1x16x8x32, .i32⟩ : BufTy).Contents (Elt F)),
    reshape main_v104 main_v105 (rfl : (.i32 : EltTy) = .i32) shapeCasts_S6x1x16x8x32_S6x1x16x256 ]

abbrev kca : List (HloOp τ sig (Elt F)) :=
  [ unary main_v105 main_v106 ((Host.slice S6x1x16x128 ![0, 0, 0, 0] ![1, 1, 1, 2] · slicesBy_S6x1x16x256_S6x1x16x128_0s1_0s1_0s1_0s2) : (⟨S6x1x16x256, .i32⟩ : BufTy).Contents (Elt F) → (⟨S6x1x16x128, .i32⟩ : BufTy).Contents (Elt F)),
    unary main_v105 main_v107 ((Host.slice S6x1x16x128 ![0, 0, 0, 1] ![1, 1, 1, 2] · slicesBy_S6x1x16x256_S6x1x16x128_0s1_0s1_0s1_1s2) : (⟨S6x1x16x256, .i32⟩ : BufTy).Contents (Elt F) → (⟨S6x1x16x128, .i32⟩ : BufTy).Contents (Elt F)),
    nullary main_c (constantI S_ 32 15#32),
    unary main_c main_v108 (broadcastInDim S6x1x16x128 ![] bcast_S_S6x1x16x128 : (⟨S_, .i32⟩ : BufTy).Contents (Elt F) → (⟨S6x1x16x128, .i32⟩ : BufTy).Contents (Elt F)),
    binary main_v106 main_v108 main_v109 (andi : (⟨S6x1x16x128, .i32⟩ : BufTy).Contents (Elt F) → (⟨S6x1x16x128, .i32⟩ : BufTy).Contents (Elt F) → (⟨S6x1x16x128, .i32⟩ : BufTy).Contents (Elt F)),
    nullary main_c_6 (constantI S_ 32 15#32),
    unary main_c_6 main_v110 (broadcastInDim S6x1x16x128 ![] bcast_S_S6x1x16x128 : (⟨S_, .i32⟩ : BufTy).Contents (Elt F) → (⟨S6x1x16x128, .i32⟩ : BufTy).Contents (Elt F)) ]

abbrev kcb : List (HloOp τ sig (Elt F)) :=
  [ binary main_v107 main_v110 main_v111 (andi : (⟨S6x1x16x128, .i32⟩ : BufTy).Contents (Elt F) → (⟨S6x1x16x128, .i32⟩ : BufTy).Contents (Elt F) → (⟨S6x1x16x128, .i32⟩ : BufTy).Contents (Elt F)),
    nullary main_c_7 (constantI S_ 32 4#32),
    unary main_c_7 main_v112 (broadcastInDim S6x1x16x128 ![] bcast_S_S6x1x16x128 : (⟨S_, .i32⟩ : BufTy).Contents (Elt F) → (⟨S6x1x16x128, .i32⟩ : BufTy).Contents (Elt F)),
    binary main_v111 main_v112 main_v113 (Host.shli : (⟨S6x1x16x128, .i32⟩ : BufTy).Contents (Elt F) → (⟨S6x1x16x128, .i32⟩ : BufTy).Contents (Elt F) → (⟨S6x1x16x128, .i32⟩ : BufTy).Contents (Elt F)),
    binary main_v109 main_v113 main_v114 (ori : (⟨S6x1x16x128, .i32⟩ : BufTy).Contents (Elt F) → (⟨S6x1x16x128, .i32⟩ : BufTy).Contents (Elt F) → (⟨S6x1x16x128, .i32⟩ : BufTy).Contents (Elt F)),
    unary main_v114 main_v115 ((trunci 8 · natLt_8_32) : (⟨S6x1x16x128, .i32⟩ : BufTy).Contents (Elt F) → (⟨S6x1x16x128, .i8⟩ : BufTy).Contents (Elt F)) ]

abbrev kc : List (HloOp τ sig (Elt F)) := kca ++ kcb

abbrev v1 : List (HloOp τ sig (Elt F)) :=
  [ unary main_arg1 main_v116 ((extf .f32 · bitsLt_bf16_f32) : (⟨S6x1x16x256, .bf16⟩ : BufTy).Contents (Elt F) → (⟨S6x1x16x256, .f32⟩ : BufTy).Contents (Elt F)),
    reshape main_v116 main_v117 (rfl : (.f32 : EltTy) = .f32) shapeCasts_S6x1x16x256_S6x1x16x128x2x1,
    unary main_v117 main_v118 ((extractStridedSlice S6x1x16x128x1x1 ![0, 0, 0, 0, 0, 0] · slices_S6x1x16x128x2x1_S6x1x16x128x1x1_0_0_0_0_0_0) : (⟨S6x1x16x128x2x1, .f32⟩ : BufTy).Contents (Elt F) → (⟨S6x1x16x128x1x1, .f32⟩ : BufTy).Contents (Elt F)),
    reshape main_v118 main_v119 (rfl : (.f32 : EltTy) = .f32) shapeCasts_S6x1x16x128x1x1_S6x1x16x128x1,
    unary main_v117 main_v120 ((extractStridedSlice S6x1x16x128x1x1 ![0, 0, 0, 0, 1, 0] · slices_S6x1x16x128x2x1_S6x1x16x128x1x1_0_0_0_0_1_0) : (⟨S6x1x16x128x2x1, .f32⟩ : BufTy).Contents (Elt F) → (⟨S6x1x16x128x1x1, .f32⟩ : BufTy).Contents (Elt F)),
    reshape main_v120 main_v121 (rfl : (.f32 : EltTy) = .f32) shapeCasts_S6x1x16x128x1x1_S6x1x16x128x1,
    binary main_v119 main_v121 main_v122 (addf : (⟨S6x1x16x128x1, .f32⟩ : BufTy).Contents (Elt F) → (⟨S6x1x16x128x1, .f32⟩ : BufTy).Contents (Elt F) → (⟨S6x1x16x128x1, .f32⟩ : BufTy).Contents (Elt F)),
    binary main_v119 main_v121 main_v123 (subf : (⟨S6x1x16x128x1, .f32⟩ : BufTy).Contents (Elt F) → (⟨S6x1x16x128x1, .f32⟩ : BufTy).Contents (Elt F) → (⟨S6x1x16x128x1, .f32⟩ : BufTy).Contents (Elt F)),
    unary main_v122 main_v124 (broadcastInDim S6x1x16x128x1x1 ![0, 1, 2, 3, 5] bcast_S6x1x16x128x1_S6x1x16x128x1x1_0_1_2_3_5 : (⟨S6x1x16x128x1, .f32⟩ : BufTy).Contents (Elt F) → (⟨S6x1x16x128x1x1, .f32⟩ : BufTy).Contents (Elt F)),
    unary main_v123 main_v125 (broadcastInDim S6x1x16x128x1x1 ![0, 1, 2, 3, 5] bcast_S6x1x16x128x1_S6x1x16x128x1x1_0_1_2_3_5 : (⟨S6x1x16x128x1, .f32⟩ : BufTy).Contents (Elt F) → (⟨S6x1x16x128x1x1, .f32⟩ : BufTy).Contents (Elt F)),
    binary main_v124 main_v125 main_v126 ((fun a b => concatenate S6x1x16x128x2x1 4 [⟨S6x1x16x128x1x1, a⟩, ⟨S6x1x16x128x1x1, b⟩] concatenates_S6x1x16x128x1x1_S6x1x16x128x1x1_S6x1x16x128x2x1_d4) : (⟨S6x1x16x128x1x1, .f32⟩ : BufTy).Contents (Elt F) → (⟨S6x1x16x128x1x1, .f32⟩ : BufTy).Contents (Elt F) → (⟨S6x1x16x128x2x1, .f32⟩ : BufTy).Contents (Elt F)),
    reshape main_v126 main_v127 (rfl : (.f32 : EltTy) = .f32) shapeCasts_S6x1x16x128x2x1_S6x1x16x256 ]

abbrev v2 : List (HloOp τ sig (Elt F)) :=
  [ reshape main_v127 main_v128 (rfl : (.f32 : EltTy) = .f32) shapeCasts_S6x1x16x256_S6x1x16x64x2x2,
    unary main_v128 main_v129 ((extractStridedSlice S6x1x16x64x1x2 ![0, 0, 0, 0, 0, 0] · slices_S6x1x16x64x2x2_S6x1x16x64x1x2_0_0_0_0_0_0) : (⟨S6x1x16x64x2x2, .f32⟩ : BufTy).Contents (Elt F) → (⟨S6x1x16x64x1x2, .f32⟩ : BufTy).Contents (Elt F)),
    reshape main_v129 main_v130 (rfl : (.f32 : EltTy) = .f32) shapeCasts_S6x1x16x64x1x2_S6x1x16x64x2,
    unary main_v128 main_v131 ((extractStridedSlice S6x1x16x64x1x2 ![0, 0, 0, 0, 1, 0] · slices_S6x1x16x64x2x2_S6x1x16x64x1x2_0_0_0_0_1_0) : (⟨S6x1x16x64x2x2, .f32⟩ : BufTy).Contents (Elt F) → (⟨S6x1x16x64x1x2, .f32⟩ : BufTy).Contents (Elt F)),
    reshape main_v131 main_v132 (rfl : (.f32 : EltTy) = .f32) shapeCasts_S6x1x16x64x1x2_S6x1x16x64x2,
    binary main_v130 main_v132 main_v133 (addf : (⟨S6x1x16x64x2, .f32⟩ : BufTy).Contents (Elt F) → (⟨S6x1x16x64x2, .f32⟩ : BufTy).Contents (Elt F) → (⟨S6x1x16x64x2, .f32⟩ : BufTy).Contents (Elt F)),
    binary main_v130 main_v132 main_v134 (subf : (⟨S6x1x16x64x2, .f32⟩ : BufTy).Contents (Elt F) → (⟨S6x1x16x64x2, .f32⟩ : BufTy).Contents (Elt F) → (⟨S6x1x16x64x2, .f32⟩ : BufTy).Contents (Elt F)),
    unary main_v133 main_v135 (broadcastInDim S6x1x16x64x1x2 ![0, 1, 2, 3, 5] bcast_S6x1x16x64x2_S6x1x16x64x1x2_0_1_2_3_5 : (⟨S6x1x16x64x2, .f32⟩ : BufTy).Contents (Elt F) → (⟨S6x1x16x64x1x2, .f32⟩ : BufTy).Contents (Elt F)),
    unary main_v134 main_v136 (broadcastInDim S6x1x16x64x1x2 ![0, 1, 2, 3, 5] bcast_S6x1x16x64x2_S6x1x16x64x1x2_0_1_2_3_5 : (⟨S6x1x16x64x2, .f32⟩ : BufTy).Contents (Elt F) → (⟨S6x1x16x64x1x2, .f32⟩ : BufTy).Contents (Elt F)),
    binary main_v135 main_v136 main_v137 ((fun a b => concatenate S6x1x16x64x2x2 4 [⟨S6x1x16x64x1x2, a⟩, ⟨S6x1x16x64x1x2, b⟩] concatenates_S6x1x16x64x1x2_S6x1x16x64x1x2_S6x1x16x64x2x2_d4) : (⟨S6x1x16x64x1x2, .f32⟩ : BufTy).Contents (Elt F) → (⟨S6x1x16x64x1x2, .f32⟩ : BufTy).Contents (Elt F) → (⟨S6x1x16x64x2x2, .f32⟩ : BufTy).Contents (Elt F)),
    reshape main_v137 main_v138 (rfl : (.f32 : EltTy) = .f32) shapeCasts_S6x1x16x64x2x2_S6x1x16x256 ]

abbrev v4 : List (HloOp τ sig (Elt F)) :=
  [ reshape main_v138 main_v139 (rfl : (.f32 : EltTy) = .f32) shapeCasts_S6x1x16x256_S6x1x16x32x2x4,
    unary main_v139 main_v140 ((extractStridedSlice S6x1x16x32x1x4 ![0, 0, 0, 0, 0, 0] · slices_S6x1x16x32x2x4_S6x1x16x32x1x4_0_0_0_0_0_0) : (⟨S6x1x16x32x2x4, .f32⟩ : BufTy).Contents (Elt F) → (⟨S6x1x16x32x1x4, .f32⟩ : BufTy).Contents (Elt F)),
    reshape main_v140 main_v141 (rfl : (.f32 : EltTy) = .f32) shapeCasts_S6x1x16x32x1x4_S6x1x16x32x4,
    unary main_v139 main_v142 ((extractStridedSlice S6x1x16x32x1x4 ![0, 0, 0, 0, 1, 0] · slices_S6x1x16x32x2x4_S6x1x16x32x1x4_0_0_0_0_1_0) : (⟨S6x1x16x32x2x4, .f32⟩ : BufTy).Contents (Elt F) → (⟨S6x1x16x32x1x4, .f32⟩ : BufTy).Contents (Elt F)),
    reshape main_v142 main_v143 (rfl : (.f32 : EltTy) = .f32) shapeCasts_S6x1x16x32x1x4_S6x1x16x32x4,
    binary main_v141 main_v143 main_v144 (addf : (⟨S6x1x16x32x4, .f32⟩ : BufTy).Contents (Elt F) → (⟨S6x1x16x32x4, .f32⟩ : BufTy).Contents (Elt F) → (⟨S6x1x16x32x4, .f32⟩ : BufTy).Contents (Elt F)),
    binary main_v141 main_v143 main_v145 (subf : (⟨S6x1x16x32x4, .f32⟩ : BufTy).Contents (Elt F) → (⟨S6x1x16x32x4, .f32⟩ : BufTy).Contents (Elt F) → (⟨S6x1x16x32x4, .f32⟩ : BufTy).Contents (Elt F)),
    unary main_v144 main_v146 (broadcastInDim S6x1x16x32x1x4 ![0, 1, 2, 3, 5] bcast_S6x1x16x32x4_S6x1x16x32x1x4_0_1_2_3_5 : (⟨S6x1x16x32x4, .f32⟩ : BufTy).Contents (Elt F) → (⟨S6x1x16x32x1x4, .f32⟩ : BufTy).Contents (Elt F)),
    unary main_v145 main_v147 (broadcastInDim S6x1x16x32x1x4 ![0, 1, 2, 3, 5] bcast_S6x1x16x32x4_S6x1x16x32x1x4_0_1_2_3_5 : (⟨S6x1x16x32x4, .f32⟩ : BufTy).Contents (Elt F) → (⟨S6x1x16x32x1x4, .f32⟩ : BufTy).Contents (Elt F)),
    binary main_v146 main_v147 main_v148 ((fun a b => concatenate S6x1x16x32x2x4 4 [⟨S6x1x16x32x1x4, a⟩, ⟨S6x1x16x32x1x4, b⟩] concatenates_S6x1x16x32x1x4_S6x1x16x32x1x4_S6x1x16x32x2x4_d4) : (⟨S6x1x16x32x1x4, .f32⟩ : BufTy).Contents (Elt F) → (⟨S6x1x16x32x1x4, .f32⟩ : BufTy).Contents (Elt F) → (⟨S6x1x16x32x2x4, .f32⟩ : BufTy).Contents (Elt F)),
    reshape main_v148 main_v149 (rfl : (.f32 : EltTy) = .f32) shapeCasts_S6x1x16x32x2x4_S6x1x16x256 ]

abbrev v8 : List (HloOp τ sig (Elt F)) :=
  [ reshape main_v149 main_v150 (rfl : (.f32 : EltTy) = .f32) shapeCasts_S6x1x16x256_S6x1x16x16x2x8,
    unary main_v150 main_v151 ((extractStridedSlice S6x1x16x16x1x8 ![0, 0, 0, 0, 0, 0] · slices_S6x1x16x16x2x8_S6x1x16x16x1x8_0_0_0_0_0_0) : (⟨S6x1x16x16x2x8, .f32⟩ : BufTy).Contents (Elt F) → (⟨S6x1x16x16x1x8, .f32⟩ : BufTy).Contents (Elt F)),
    reshape main_v151 main_v152 (rfl : (.f32 : EltTy) = .f32) shapeCasts_S6x1x16x16x1x8_S6x1x16x16x8,
    unary main_v150 main_v153 ((extractStridedSlice S6x1x16x16x1x8 ![0, 0, 0, 0, 1, 0] · slices_S6x1x16x16x2x8_S6x1x16x16x1x8_0_0_0_0_1_0) : (⟨S6x1x16x16x2x8, .f32⟩ : BufTy).Contents (Elt F) → (⟨S6x1x16x16x1x8, .f32⟩ : BufTy).Contents (Elt F)),
    reshape main_v153 main_v154 (rfl : (.f32 : EltTy) = .f32) shapeCasts_S6x1x16x16x1x8_S6x1x16x16x8,
    binary main_v152 main_v154 main_v155 (addf : (⟨S6x1x16x16x8, .f32⟩ : BufTy).Contents (Elt F) → (⟨S6x1x16x16x8, .f32⟩ : BufTy).Contents (Elt F) → (⟨S6x1x16x16x8, .f32⟩ : BufTy).Contents (Elt F)),
    binary main_v152 main_v154 main_v156 (subf : (⟨S6x1x16x16x8, .f32⟩ : BufTy).Contents (Elt F) → (⟨S6x1x16x16x8, .f32⟩ : BufTy).Contents (Elt F) → (⟨S6x1x16x16x8, .f32⟩ : BufTy).Contents (Elt F)),
    unary main_v155 main_v157 (broadcastInDim S6x1x16x16x1x8 ![0, 1, 2, 3, 5] bcast_S6x1x16x16x8_S6x1x16x16x1x8_0_1_2_3_5 : (⟨S6x1x16x16x8, .f32⟩ : BufTy).Contents (Elt F) → (⟨S6x1x16x16x1x8, .f32⟩ : BufTy).Contents (Elt F)),
    unary main_v156 main_v158 (broadcastInDim S6x1x16x16x1x8 ![0, 1, 2, 3, 5] bcast_S6x1x16x16x8_S6x1x16x16x1x8_0_1_2_3_5 : (⟨S6x1x16x16x8, .f32⟩ : BufTy).Contents (Elt F) → (⟨S6x1x16x16x1x8, .f32⟩ : BufTy).Contents (Elt F)),
    binary main_v157 main_v158 main_v159 ((fun a b => concatenate S6x1x16x16x2x8 4 [⟨S6x1x16x16x1x8, a⟩, ⟨S6x1x16x16x1x8, b⟩] concatenates_S6x1x16x16x1x8_S6x1x16x16x1x8_S6x1x16x16x2x8_d4) : (⟨S6x1x16x16x1x8, .f32⟩ : BufTy).Contents (Elt F) → (⟨S6x1x16x16x1x8, .f32⟩ : BufTy).Contents (Elt F) → (⟨S6x1x16x16x2x8, .f32⟩ : BufTy).Contents (Elt F)),
    reshape main_v159 main_v160 (rfl : (.f32 : EltTy) = .f32) shapeCasts_S6x1x16x16x2x8_S6x1x16x256 ]

abbrev v16a : List (HloOp τ sig (Elt F)) :=
  [ reshape main_v160 main_v161 (rfl : (.f32 : EltTy) = .f32) shapeCasts_S6x1x16x256_S6x1x16x8x2x16,
    unary main_v161 main_v162 ((extractStridedSlice S6x1x16x8x1x16 ![0, 0, 0, 0, 0, 0] · slices_S6x1x16x8x2x16_S6x1x16x8x1x16_0_0_0_0_0_0) : (⟨S6x1x16x8x2x16, .f32⟩ : BufTy).Contents (Elt F) → (⟨S6x1x16x8x1x16, .f32⟩ : BufTy).Contents (Elt F)),
    reshape main_v162 main_v163 (rfl : (.f32 : EltTy) = .f32) shapeCasts_S6x1x16x8x1x16_S6x1x16x8x16,
    unary main_v161 main_v164 ((extractStridedSlice S6x1x16x8x1x16 ![0, 0, 0, 0, 1, 0] · slices_S6x1x16x8x2x16_S6x1x16x8x1x16_0_0_0_0_1_0) : (⟨S6x1x16x8x2x16, .f32⟩ : BufTy).Contents (Elt F) → (⟨S6x1x16x8x1x16, .f32⟩ : BufTy).Contents (Elt F)),
    reshape main_v164 main_v165 (rfl : (.f32 : EltTy) = .f32) shapeCasts_S6x1x16x8x1x16_S6x1x16x8x16,
    binary main_v163 main_v165 main_v166 (addf : (⟨S6x1x16x8x16, .f32⟩ : BufTy).Contents (Elt F) → (⟨S6x1x16x8x16, .f32⟩ : BufTy).Contents (Elt F) → (⟨S6x1x16x8x16, .f32⟩ : BufTy).Contents (Elt F)),
    binary main_v163 main_v165 main_v167 (subf : (⟨S6x1x16x8x16, .f32⟩ : BufTy).Contents (Elt F) → (⟨S6x1x16x8x16, .f32⟩ : BufTy).Contents (Elt F) → (⟨S6x1x16x8x16, .f32⟩ : BufTy).Contents (Elt F)),
    unary main_v166 main_v168 (broadcastInDim S6x1x16x8x1x16 ![0, 1, 2, 3, 5] bcast_S6x1x16x8x16_S6x1x16x8x1x16_0_1_2_3_5 : (⟨S6x1x16x8x16, .f32⟩ : BufTy).Contents (Elt F) → (⟨S6x1x16x8x1x16, .f32⟩ : BufTy).Contents (Elt F)),
    unary main_v167 main_v169 (broadcastInDim S6x1x16x8x1x16 ![0, 1, 2, 3, 5] bcast_S6x1x16x8x16_S6x1x16x8x1x16_0_1_2_3_5 : (⟨S6x1x16x8x16, .f32⟩ : BufTy).Contents (Elt F) → (⟨S6x1x16x8x1x16, .f32⟩ : BufTy).Contents (Elt F)) ]

abbrev v16b : List (HloOp τ sig (Elt F)) :=
  [ binary main_v168 main_v169 main_v170 ((fun a b => concatenate S6x1x16x8x2x16 4 [⟨S6x1x16x8x1x16, a⟩, ⟨S6x1x16x8x1x16, b⟩] concatenates_S6x1x16x8x1x16_S6x1x16x8x1x16_S6x1x16x8x2x16_d4) : (⟨S6x1x16x8x1x16, .f32⟩ : BufTy).Contents (Elt F) → (⟨S6x1x16x8x1x16, .f32⟩ : BufTy).Contents (Elt F) → (⟨S6x1x16x8x2x16, .f32⟩ : BufTy).Contents (Elt F)),
    reshape main_v170 main_v171 (rfl : (.f32 : EltTy) = .f32) shapeCasts_S6x1x16x8x2x16_S6x1x16x256 ]

abbrev v16 : List (HloOp τ sig (Elt F)) := v16a ++ v16b

abbrev v32 : List (HloOp τ sig (Elt F)) :=
  [ reshape main_v171 main_v172 (rfl : (.f32 : EltTy) = .f32) shapeCasts_S6x1x16x256_S6x1x16x4x2x32,
    unary main_v172 main_v173 ((extractStridedSlice S6x1x16x4x1x32 ![0, 0, 0, 0, 0, 0] · slices_S6x1x16x4x2x32_S6x1x16x4x1x32_0_0_0_0_0_0) : (⟨S6x1x16x4x2x32, .f32⟩ : BufTy).Contents (Elt F) → (⟨S6x1x16x4x1x32, .f32⟩ : BufTy).Contents (Elt F)),
    reshape main_v173 main_v174 (rfl : (.f32 : EltTy) = .f32) shapeCasts_S6x1x16x4x1x32_S6x1x16x4x32,
    unary main_v172 main_v175 ((extractStridedSlice S6x1x16x4x1x32 ![0, 0, 0, 0, 1, 0] · slices_S6x1x16x4x2x32_S6x1x16x4x1x32_0_0_0_0_1_0) : (⟨S6x1x16x4x2x32, .f32⟩ : BufTy).Contents (Elt F) → (⟨S6x1x16x4x1x32, .f32⟩ : BufTy).Contents (Elt F)),
    reshape main_v175 main_v176 (rfl : (.f32 : EltTy) = .f32) shapeCasts_S6x1x16x4x1x32_S6x1x16x4x32,
    binary main_v174 main_v176 main_v177 (addf : (⟨S6x1x16x4x32, .f32⟩ : BufTy).Contents (Elt F) → (⟨S6x1x16x4x32, .f32⟩ : BufTy).Contents (Elt F) → (⟨S6x1x16x4x32, .f32⟩ : BufTy).Contents (Elt F)),
    binary main_v174 main_v176 main_v178 (subf : (⟨S6x1x16x4x32, .f32⟩ : BufTy).Contents (Elt F) → (⟨S6x1x16x4x32, .f32⟩ : BufTy).Contents (Elt F) → (⟨S6x1x16x4x32, .f32⟩ : BufTy).Contents (Elt F)),
    unary main_v177 main_v179 (broadcastInDim S6x1x16x4x1x32 ![0, 1, 2, 3, 5] bcast_S6x1x16x4x32_S6x1x16x4x1x32_0_1_2_3_5 : (⟨S6x1x16x4x32, .f32⟩ : BufTy).Contents (Elt F) → (⟨S6x1x16x4x1x32, .f32⟩ : BufTy).Contents (Elt F)),
    unary main_v178 main_v180 (broadcastInDim S6x1x16x4x1x32 ![0, 1, 2, 3, 5] bcast_S6x1x16x4x32_S6x1x16x4x1x32_0_1_2_3_5 : (⟨S6x1x16x4x32, .f32⟩ : BufTy).Contents (Elt F) → (⟨S6x1x16x4x1x32, .f32⟩ : BufTy).Contents (Elt F)),
    binary main_v179 main_v180 main_v181 ((fun a b => concatenate S6x1x16x4x2x32 4 [⟨S6x1x16x4x1x32, a⟩, ⟨S6x1x16x4x1x32, b⟩] concatenates_S6x1x16x4x1x32_S6x1x16x4x1x32_S6x1x16x4x2x32_d4) : (⟨S6x1x16x4x1x32, .f32⟩ : BufTy).Contents (Elt F) → (⟨S6x1x16x4x1x32, .f32⟩ : BufTy).Contents (Elt F) → (⟨S6x1x16x4x2x32, .f32⟩ : BufTy).Contents (Elt F)),
    reshape main_v181 main_v182 (rfl : (.f32 : EltTy) = .f32) shapeCasts_S6x1x16x4x2x32_S6x1x16x256 ]

abbrev v64 : List (HloOp τ sig (Elt F)) :=
  [ reshape main_v182 main_v183 (rfl : (.f32 : EltTy) = .f32) shapeCasts_S6x1x16x256_S6x1x16x2x2x64,
    unary main_v183 main_v184 ((extractStridedSlice S6x1x16x2x1x64 ![0, 0, 0, 0, 0, 0] · slices_S6x1x16x2x2x64_S6x1x16x2x1x64_0_0_0_0_0_0) : (⟨S6x1x16x2x2x64, .f32⟩ : BufTy).Contents (Elt F) → (⟨S6x1x16x2x1x64, .f32⟩ : BufTy).Contents (Elt F)),
    reshape main_v184 main_v185 (rfl : (.f32 : EltTy) = .f32) shapeCasts_S6x1x16x2x1x64_S6x1x16x2x64,
    unary main_v183 main_v186 ((extractStridedSlice S6x1x16x2x1x64 ![0, 0, 0, 0, 1, 0] · slices_S6x1x16x2x2x64_S6x1x16x2x1x64_0_0_0_0_1_0) : (⟨S6x1x16x2x2x64, .f32⟩ : BufTy).Contents (Elt F) → (⟨S6x1x16x2x1x64, .f32⟩ : BufTy).Contents (Elt F)),
    reshape main_v186 main_v187 (rfl : (.f32 : EltTy) = .f32) shapeCasts_S6x1x16x2x1x64_S6x1x16x2x64,
    binary main_v185 main_v187 main_v188 (addf : (⟨S6x1x16x2x64, .f32⟩ : BufTy).Contents (Elt F) → (⟨S6x1x16x2x64, .f32⟩ : BufTy).Contents (Elt F) → (⟨S6x1x16x2x64, .f32⟩ : BufTy).Contents (Elt F)),
    binary main_v185 main_v187 main_v189 (subf : (⟨S6x1x16x2x64, .f32⟩ : BufTy).Contents (Elt F) → (⟨S6x1x16x2x64, .f32⟩ : BufTy).Contents (Elt F) → (⟨S6x1x16x2x64, .f32⟩ : BufTy).Contents (Elt F)),
    unary main_v188 main_v190 (broadcastInDim S6x1x16x2x1x64 ![0, 1, 2, 3, 5] bcast_S6x1x16x2x64_S6x1x16x2x1x64_0_1_2_3_5 : (⟨S6x1x16x2x64, .f32⟩ : BufTy).Contents (Elt F) → (⟨S6x1x16x2x1x64, .f32⟩ : BufTy).Contents (Elt F)),
    unary main_v189 main_v191 (broadcastInDim S6x1x16x2x1x64 ![0, 1, 2, 3, 5] bcast_S6x1x16x2x64_S6x1x16x2x1x64_0_1_2_3_5 : (⟨S6x1x16x2x64, .f32⟩ : BufTy).Contents (Elt F) → (⟨S6x1x16x2x1x64, .f32⟩ : BufTy).Contents (Elt F)),
    binary main_v190 main_v191 main_v192 ((fun a b => concatenate S6x1x16x2x2x64 4 [⟨S6x1x16x2x1x64, a⟩, ⟨S6x1x16x2x1x64, b⟩] concatenates_S6x1x16x2x1x64_S6x1x16x2x1x64_S6x1x16x2x2x64_d4) : (⟨S6x1x16x2x1x64, .f32⟩ : BufTy).Contents (Elt F) → (⟨S6x1x16x2x1x64, .f32⟩ : BufTy).Contents (Elt F) → (⟨S6x1x16x2x2x64, .f32⟩ : BufTy).Contents (Elt F)),
    reshape main_v192 main_v193 (rfl : (.f32 : EltTy) = .f32) shapeCasts_S6x1x16x2x2x64_S6x1x16x256 ]

abbrev v128 : List (HloOp τ sig (Elt F)) :=
  [ reshape main_v193 main_v194 (rfl : (.f32 : EltTy) = .f32) shapeCasts_S6x1x16x256_S6x1x16x1x2x128,
    unary main_v194 main_v195 ((extractStridedSlice S6x1x16x1x1x128 ![0, 0, 0, 0, 0, 0] · slices_S6x1x16x1x2x128_S6x1x16x1x1x128_0_0_0_0_0_0) : (⟨S6x1x16x1x2x128, .f32⟩ : BufTy).Contents (Elt F) → (⟨S6x1x16x1x1x128, .f32⟩ : BufTy).Contents (Elt F)),
    reshape main_v195 main_v196 (rfl : (.f32 : EltTy) = .f32) shapeCasts_S6x1x16x1x1x128_S6x1x16x1x128,
    unary main_v194 main_v197 ((extractStridedSlice S6x1x16x1x1x128 ![0, 0, 0, 0, 1, 0] · slices_S6x1x16x1x2x128_S6x1x16x1x1x128_0_0_0_0_1_0) : (⟨S6x1x16x1x2x128, .f32⟩ : BufTy).Contents (Elt F) → (⟨S6x1x16x1x1x128, .f32⟩ : BufTy).Contents (Elt F)),
    reshape main_v197 main_v198 (rfl : (.f32 : EltTy) = .f32) shapeCasts_S6x1x16x1x1x128_S6x1x16x1x128,
    binary main_v196 main_v198 main_v199 (addf : (⟨S6x1x16x1x128, .f32⟩ : BufTy).Contents (Elt F) → (⟨S6x1x16x1x128, .f32⟩ : BufTy).Contents (Elt F) → (⟨S6x1x16x1x128, .f32⟩ : BufTy).Contents (Elt F)),
    binary main_v196 main_v198 main_v200 (subf : (⟨S6x1x16x1x128, .f32⟩ : BufTy).Contents (Elt F) → (⟨S6x1x16x1x128, .f32⟩ : BufTy).Contents (Elt F) → (⟨S6x1x16x1x128, .f32⟩ : BufTy).Contents (Elt F)),
    unary main_v199 main_v201 (broadcastInDim S6x1x16x1x1x128 ![0, 1, 2, 3, 5] bcast_S6x1x16x1x128_S6x1x16x1x1x128_0_1_2_3_5 : (⟨S6x1x16x1x128, .f32⟩ : BufTy).Contents (Elt F) → (⟨S6x1x16x1x1x128, .f32⟩ : BufTy).Contents (Elt F)),
    unary main_v200 main_v202 (broadcastInDim S6x1x16x1x1x128 ![0, 1, 2, 3, 5] bcast_S6x1x16x1x128_S6x1x16x1x1x128_0_1_2_3_5 : (⟨S6x1x16x1x128, .f32⟩ : BufTy).Contents (Elt F) → (⟨S6x1x16x1x1x128, .f32⟩ : BufTy).Contents (Elt F)),
    binary main_v201 main_v202 main_v203 ((fun a b => concatenate S6x1x16x1x2x128 4 [⟨S6x1x16x1x1x128, a⟩, ⟨S6x1x16x1x1x128, b⟩] concatenates_S6x1x16x1x1x128_S6x1x16x1x1x128_S6x1x16x1x2x128_d4) : (⟨S6x1x16x1x1x128, .f32⟩ : BufTy).Contents (Elt F) → (⟨S6x1x16x1x1x128, .f32⟩ : BufTy).Contents (Elt F) → (⟨S6x1x16x1x2x128, .f32⟩ : BufTy).Contents (Elt F)),
    reshape main_v203 main_v204 (rfl : (.f32 : EltTy) = .f32) shapeCasts_S6x1x16x1x2x128_S6x1x16x256 ]

abbrev vq : List (HloOp τ sig (Elt F)) :=
  [ nullary main_cst_8 (constant S_ .f32 0x3D800000#32),
    unary main_cst_8 main_v205 (broadcastInDim S6x1x16x256 ![] bcast_S_S6x1x16x256 : (⟨S_, .f32⟩ : BufTy).Contents (Elt F) → (⟨S6x1x16x256, .f32⟩ : BufTy).Contents (Elt F)),
    binary main_v204 main_v205 main_v206 (mulf : (⟨S6x1x16x256, .f32⟩ : BufTy).Contents (Elt F) → (⟨S6x1x16x256, .f32⟩ : BufTy).Contents (Elt F) → (⟨S6x1x16x256, .f32⟩ : BufTy).Contents (Elt F)),
    reshape main_v206 main_v207 (rfl : (.f32 : EltTy) = .f32) shapeCasts_S6x1x16x256_S6x1x16x8x32,
    unary main_v207 main_v208 (Host.absf : (⟨S6x1x16x8x32, .f32⟩ : BufTy).Contents (Elt F) → (⟨S6x1x16x8x32, .f32⟩ : BufTy).Contents (Elt F)),
    nullary main_cst_9 (constant S_ .f32 0xFF800000#32),
    binary main_v208 main_cst_9 main_v209 ((fun x v => Host.reduce FloatOps.maximumf x v reducesTo_S6x1x16x8x32_S6x1x16x8_d4 h_S_) : (⟨S6x1x16x8x32, .f32⟩ : BufTy).Contents (Elt F) → (⟨S_, .f32⟩ : BufTy).Contents (Elt F) → (⟨S6x1x16x8, .f32⟩ : BufTy).Contents (Elt F)),
    nullary main_cst_10 (constant S_ .f32 0x00000000#32),
    unary main_cst_10 main_v210 (broadcastInDim S6x1x16x8 ![] bcast_S_S6x1x16x8 : (⟨S_, .f32⟩ : BufTy).Contents (Elt F) → (⟨S6x1x16x8, .f32⟩ : BufTy).Contents (Elt F)),
    binary main_v209 main_v210 main_v211 (cmpf .ogt : (⟨S6x1x16x8, .f32⟩ : BufTy).Contents (Elt F) → (⟨S6x1x16x8, .f32⟩ : BufTy).Contents (Elt F) → (⟨S6x1x16x8, .i1⟩ : BufTy).Contents (Elt F)),
    nullary main_cst_11 (constant S_ .f32 0x40E00000#32),
    unary main_cst_11 main_v212 (broadcastInDim S6x1x16x8 ![] bcast_S_S6x1x16x8 : (⟨S_, .f32⟩ : BufTy).Contents (Elt F) → (⟨S6x1x16x8, .f32⟩ : BufTy).Contents (Elt F)),
    binary main_v209 main_v212 main_v213 (Host.divf : (⟨S6x1x16x8, .f32⟩ : BufTy).Contents (Elt F) → (⟨S6x1x16x8, .f32⟩ : BufTy).Contents (Elt F) → (⟨S6x1x16x8, .f32⟩ : BufTy).Contents (Elt F)),
    nullary main_cst_12 (constant S_ .f32 0x3F800000#32),
    TRef.unary (TRef.of (T := ⟨S_, .f32⟩) main_cst_12) (TRef.of (T := ⟨S6x1x16x8, .f32⟩) main_call3_v0) (broadcastInDim S6x1x16x8 ![] bcast_S_S6x1x16x8),
    TRef.ternary (TRef.of (T := ⟨S6x1x16x8, .i1⟩) main_v211) (TRef.of (T := ⟨S6x1x16x8, .f32⟩) main_v213) (TRef.of (T := ⟨S6x1x16x8, .f32⟩) main_call3_v0) (TRef.of (T := ⟨S6x1x16x8, .f32⟩) main_v214) select,
    unary main_v214 main_v215 (broadcastInDim S6x1x16x8x1 ![0, 1, 2, 3] bcast_S6x1x16x8_S6x1x16x8x1_0_1_2_3 : (⟨S6x1x16x8, .f32⟩ : BufTy).Contents (Elt F) → (⟨S6x1x16x8x1, .f32⟩ : BufTy).Contents (Elt F)),
    unary main_v215 main_v216 (broadcastInDim S6x1x16x8x32 ![0, 1, 2, 3, 4] bcast_S6x1x16x8x1_S6x1x16x8x32_0_1_2_3_4 : (⟨S6x1x16x8x1, .f32⟩ : BufTy).Contents (Elt F) → (⟨S6x1x16x8x32, .f32⟩ : BufTy).Contents (Elt F)),
    binary main_v207 main_v216 main_v217 (Host.divf : (⟨S6x1x16x8x32, .f32⟩ : BufTy).Contents (Elt F) → (⟨S6x1x16x8x32, .f32⟩ : BufTy).Contents (Elt F) → (⟨S6x1x16x8x32, .f32⟩ : BufTy).Contents (Elt F)),
    TRef.unary (TRef.of (T := ⟨S6x1x16x8x32, .f32⟩) main_v217) (TRef.of (T := ⟨S6x1x16x8x32, .f32⟩) main_v218) Host.roundeven,
    nullary main_cst_13 (constant S_ .f32 0xC0E00000#32),
    nullary main_cst_14 (constant S_ .f32 0x40E00000#32),
    TRef.unary (TRef.of (T := ⟨S_, .f32⟩) main_cst_13) (TRef.of (T := ⟨S_, .f32⟩) main_call5_v0) id,
    TRef.unary (TRef.of (T := ⟨S_, .f32⟩) main_call5_v0) (TRef.of (T := ⟨S6x1x16x8x32, .f32⟩) main_call5_v1) (broadcastInDim S6x1x16x8x32 ![] bcast_S_S6x1x16x8x32),
    TRef.binary (TRef.of (T := ⟨S6x1x16x8x32, .f32⟩) main_call5_v1) (TRef.of (T := ⟨S6x1x16x8x32, .f32⟩) main_v218) (TRef.of (T := ⟨S6x1x16x8x32, .f32⟩) main_call5_v2) maximumf,
    TRef.unary (TRef.of (T := ⟨S_, .f32⟩) main_cst_14) (TRef.of (T := ⟨S_, .f32⟩) main_call5_v3) id,
    TRef.unary (TRef.of (T := ⟨S_, .f32⟩) main_call5_v3) (TRef.of (T := ⟨S6x1x16x8x32, .f32⟩) main_call5_v4) (broadcastInDim S6x1x16x8x32 ![] bcast_S_S6x1x16x8x32),
    TRef.binary (TRef.of (T := ⟨S6x1x16x8x32, .f32⟩) main_call5_v4) (TRef.of (T := ⟨S6x1x16x8x32, .f32⟩) main_call5_v2) (TRef.of (T := ⟨S6x1x16x8x32, .f32⟩) main_v219) minimumf,
    unary main_v219 main_v220 (fptosi 32 : (⟨S6x1x16x8x32, .f32⟩ : BufTy).Contents (Elt F) → (⟨S6x1x16x8x32, .i32⟩ : BufTy).Contents (Elt F)),
    reshape main_v220 main_v221 (rfl : (.i32 : EltTy) = .i32) shapeCasts_S6x1x16x8x32_S6x1x16x256 ]

abbrev vca : List (HloOp τ sig (Elt F)) :=
  [ unary main_v221 main_v222 ((Host.slice S6x1x16x128 ![0, 0, 0, 0] ![1, 1, 1, 2] · slicesBy_S6x1x16x256_S6x1x16x128_0s1_0s1_0s1_0s2) : (⟨S6x1x16x256, .i32⟩ : BufTy).Contents (Elt F) → (⟨S6x1x16x128, .i32⟩ : BufTy).Contents (Elt F)) ]

abbrev vcb : List (HloOp τ sig (Elt F)) :=
  [ unary main_v221 main_v223 ((Host.slice S6x1x16x128 ![0, 0, 0, 1] ![1, 1, 1, 2] · slicesBy_S6x1x16x256_S6x1x16x128_0s1_0s1_0s1_1s2) : (⟨S6x1x16x256, .i32⟩ : BufTy).Contents (Elt F) → (⟨S6x1x16x128, .i32⟩ : BufTy).Contents (Elt F)),
    nullary main_c_15 (constantI S_ 32 15#32),
    unary main_c_15 main_v224 (broadcastInDim S6x1x16x128 ![] bcast_S_S6x1x16x128 : (⟨S_, .i32⟩ : BufTy).Contents (Elt F) → (⟨S6x1x16x128, .i32⟩ : BufTy).Contents (Elt F)),
    binary main_v222 main_v224 main_v225 (andi : (⟨S6x1x16x128, .i32⟩ : BufTy).Contents (Elt F) → (⟨S6x1x16x128, .i32⟩ : BufTy).Contents (Elt F) → (⟨S6x1x16x128, .i32⟩ : BufTy).Contents (Elt F)),
    nullary main_c_16 (constantI S_ 32 15#32),
    unary main_c_16 main_v226 (broadcastInDim S6x1x16x128 ![] bcast_S_S6x1x16x128 : (⟨S_, .i32⟩ : BufTy).Contents (Elt F) → (⟨S6x1x16x128, .i32⟩ : BufTy).Contents (Elt F)),
    binary main_v223 main_v226 main_v227 (andi : (⟨S6x1x16x128, .i32⟩ : BufTy).Contents (Elt F) → (⟨S6x1x16x128, .i32⟩ : BufTy).Contents (Elt F) → (⟨S6x1x16x128, .i32⟩ : BufTy).Contents (Elt F)),
    nullary main_c_17 (constantI S_ 32 4#32),
    unary main_c_17 main_v228 (broadcastInDim S6x1x16x128 ![] bcast_S_S6x1x16x128 : (⟨S_, .i32⟩ : BufTy).Contents (Elt F) → (⟨S6x1x16x128, .i32⟩ : BufTy).Contents (Elt F)),
    binary main_v227 main_v228 main_v229 (Host.shli : (⟨S6x1x16x128, .i32⟩ : BufTy).Contents (Elt F) → (⟨S6x1x16x128, .i32⟩ : BufTy).Contents (Elt F) → (⟨S6x1x16x128, .i32⟩ : BufTy).Contents (Elt F)),
    binary main_v225 main_v229 main_v230 (ori : (⟨S6x1x16x128, .i32⟩ : BufTy).Contents (Elt F) → (⟨S6x1x16x128, .i32⟩ : BufTy).Contents (Elt F) → (⟨S6x1x16x128, .i32⟩ : BufTy).Contents (Elt F)),
    unary main_v230 main_v231 ((trunci 8 · natLt_8_32) : (⟨S6x1x16x128, .i32⟩ : BufTy).Contents (Elt F) → (⟨S6x1x16x128, .i8⟩ : BufTy).Contents (Elt F)) ]

abbrev vc : List (HloOp τ sig (Elt F)) := vca ++ vcb

abbrev tl : List (HloOp τ sig (Elt F)) :=
  [ reshape main_v115 main_v232 (rfl : (.i8 : EltTy) = .i8) shapeCasts_S6x1x16x128_S6x16x128,
    reshape main_v98 main_v233 (rfl : (.f32 : EltTy) = .f32) shapeCasts_S6x1x16x8_S6x16x8,
    unary main_v233 main_v234 ((transpose S6x8x16 [0, 2, 1] · transposes_S6x16x8_S6x8x16_0_2_1) : (⟨S6x16x8, .f32⟩ : BufTy).Contents (Elt F) → (⟨S6x8x16, .f32⟩ : BufTy).Contents (Elt F)),
    reshape main_v231 main_v235 (rfl : (.i8 : EltTy) = .i8) shapeCasts_S6x1x16x128_S6x16x128,
    reshape main_v214 main_v236 (rfl : (.f32 : EltTy) = .f32) shapeCasts_S6x1x16x8_S6x16x8,
    unary main_v236 main_v237 ((transpose S6x8x16 [0, 2, 1] · transposes_S6x16x8_S6x8x16_0_2_1) : (⟨S6x16x8, .f32⟩ : BufTy).Contents (Elt F) → (⟨S6x8x16, .f32⟩ : BufTy).Contents (Elt F)) ]

/-- The operations of @main's window 0. -/
def w0 : List (HloOp τ sig (Elt F)) := k1 ++ (k2 ++ (k4 ++ (k8 ++ (k16 ++ k32a))))

theorem w0_eq (c : Dev nD) : main_part0 (F := F) c = seq w0 := rfl

/-- The operations of @main's window 1. -/
def w1 : List (HloOp τ sig (Elt F)) := k32b ++ (k64 ++ (k128 ++ (kq ++ kca)))

theorem w1_eq (c : Dev nD) : main_part1 (F := F) c = seq w1 := rfl

/-- The operations of @main's window 2. -/
def w2 : List (HloOp τ sig (Elt F)) := kcb ++ (v1 ++ (v2 ++ (v4 ++ (v8 ++ v16a))))

theorem w2_eq (c : Dev nD) : main_part2 (F := F) c = seq w2 := rfl

/-- The operations of @main's window 3. -/
def w3 : List (HloOp τ sig (Elt F)) := v16b ++ (v32 ++ (v64 ++ (v128 ++ (vq ++ vca))))

theorem w3_eq (c : Dev nD) : main_part3 (F := F) c = seq w3 := rfl

/-- The operations of @main's window 4. -/
def w4 : List (HloOp τ sig (Elt F)) := vcb ++ tl

theorem w4_eq (c : Dev nD) : main_part4 (F := F) c = seq w4 := rfl

def ops : List (HloOp τ sig (Elt F)) := w0 ++ (w1 ++ (w2 ++ (w3 ++ w4)))

theorem main_eq (c : Dev nD) : main (F := F) c = seq ops := by
  simp only [ops, seq_append, ← w0_eq c, ← w1_eq c, ← w2_eq c, ← w3_eq c, ← w4_eq c]
  rfl

theorem scopedRefs_eq : (Finset.univ.filter fun b : Ref sig .tc => b.isScoped) = ∅ := by decide
theorem scopedSems_eq : (Finset.univ.filter fun sm : SemLoc sig => sm.isScoped .tc) = ∅ := by decide

theorem k1_sub : (k1 : List (HloOp τ sig (Elt F))).Forall fun op => op.bufs ⊆ tcRefs τ sig :=
  ⟨unary_bufs_sub .., reshape_bufs_sub .., unary_bufs_sub .., reshape_bufs_sub .., unary_bufs_sub .., reshape_bufs_sub .., binary_bufs_sub .., binary_bufs_sub .., unary_bufs_sub .., unary_bufs_sub .., binary_bufs_sub .., reshape_bufs_sub ..⟩
theorem k1_fresh : (k1 : List (HloOp τ sig (Elt F))).Forall fun op => op.fresh = ∅ :=
  ⟨rfl, rfl, rfl, rfl, rfl, rfl, rfl, rfl, rfl, rfl, rfl, rfl⟩

theorem k2_sub : (k2 : List (HloOp τ sig (Elt F))).Forall fun op => op.bufs ⊆ tcRefs τ sig :=
  ⟨reshape_bufs_sub .., unary_bufs_sub .., reshape_bufs_sub .., unary_bufs_sub .., reshape_bufs_sub .., binary_bufs_sub .., binary_bufs_sub .., unary_bufs_sub .., unary_bufs_sub .., binary_bufs_sub .., reshape_bufs_sub ..⟩
theorem k2_fresh : (k2 : List (HloOp τ sig (Elt F))).Forall fun op => op.fresh = ∅ :=
  ⟨rfl, rfl, rfl, rfl, rfl, rfl, rfl, rfl, rfl, rfl, rfl⟩

theorem k4_sub : (k4 : List (HloOp τ sig (Elt F))).Forall fun op => op.bufs ⊆ tcRefs τ sig :=
  ⟨reshape_bufs_sub .., unary_bufs_sub .., reshape_bufs_sub .., unary_bufs_sub .., reshape_bufs_sub .., binary_bufs_sub .., binary_bufs_sub .., unary_bufs_sub .., unary_bufs_sub .., binary_bufs_sub .., reshape_bufs_sub ..⟩
theorem k4_fresh : (k4 : List (HloOp τ sig (Elt F))).Forall fun op => op.fresh = ∅ :=
  ⟨rfl, rfl, rfl, rfl, rfl, rfl, rfl, rfl, rfl, rfl, rfl⟩

theorem k8_sub : (k8 : List (HloOp τ sig (Elt F))).Forall fun op => op.bufs ⊆ tcRefs τ sig :=
  ⟨reshape_bufs_sub .., unary_bufs_sub .., reshape_bufs_sub .., unary_bufs_sub .., reshape_bufs_sub .., binary_bufs_sub .., binary_bufs_sub .., unary_bufs_sub .., unary_bufs_sub .., binary_bufs_sub .., reshape_bufs_sub ..⟩
theorem k8_fresh : (k8 : List (HloOp τ sig (Elt F))).Forall fun op => op.fresh = ∅ :=
  ⟨rfl, rfl, rfl, rfl, rfl, rfl, rfl, rfl, rfl, rfl, rfl⟩

theorem k16_sub : (k16 : List (HloOp τ sig (Elt F))).Forall fun op => op.bufs ⊆ tcRefs τ sig :=
  ⟨reshape_bufs_sub .., unary_bufs_sub .., reshape_bufs_sub .., unary_bufs_sub .., reshape_bufs_sub .., binary_bufs_sub .., binary_bufs_sub .., unary_bufs_sub .., unary_bufs_sub .., binary_bufs_sub .., reshape_bufs_sub ..⟩
theorem k16_fresh : (k16 : List (HloOp τ sig (Elt F))).Forall fun op => op.fresh = ∅ :=
  ⟨rfl, rfl, rfl, rfl, rfl, rfl, rfl, rfl, rfl, rfl, rfl⟩

theorem k32a_sub : (k32a : List (HloOp τ sig (Elt F))).Forall fun op => op.bufs ⊆ tcRefs τ sig :=
  ⟨reshape_bufs_sub .., unary_bufs_sub .., reshape_bufs_sub .., unary_bufs_sub ..⟩
theorem k32a_fresh : (k32a : List (HloOp τ sig (Elt F))).Forall fun op => op.fresh = ∅ :=
  ⟨rfl, rfl, rfl, rfl⟩

theorem k32b_sub : (k32b : List (HloOp τ sig (Elt F))).Forall fun op => op.bufs ⊆ tcRefs τ sig :=
  ⟨reshape_bufs_sub .., binary_bufs_sub .., binary_bufs_sub .., unary_bufs_sub .., unary_bufs_sub .., binary_bufs_sub .., reshape_bufs_sub ..⟩
theorem k32b_fresh : (k32b : List (HloOp τ sig (Elt F))).Forall fun op => op.fresh = ∅ :=
  ⟨rfl, rfl, rfl, rfl, rfl, rfl, rfl⟩

theorem k64_sub : (k64 : List (HloOp τ sig (Elt F))).Forall fun op => op.bufs ⊆ tcRefs τ sig :=
  ⟨reshape_bufs_sub .., unary_bufs_sub .., reshape_bufs_sub .., unary_bufs_sub .., reshape_bufs_sub .., binary_bufs_sub .., binary_bufs_sub .., unary_bufs_sub .., unary_bufs_sub .., binary_bufs_sub .., reshape_bufs_sub ..⟩
theorem k64_fresh : (k64 : List (HloOp τ sig (Elt F))).Forall fun op => op.fresh = ∅ :=
  ⟨rfl, rfl, rfl, rfl, rfl, rfl, rfl, rfl, rfl, rfl, rfl⟩

theorem k128_sub : (k128 : List (HloOp τ sig (Elt F))).Forall fun op => op.bufs ⊆ tcRefs τ sig :=
  ⟨reshape_bufs_sub .., unary_bufs_sub .., reshape_bufs_sub .., unary_bufs_sub .., reshape_bufs_sub .., binary_bufs_sub .., binary_bufs_sub .., unary_bufs_sub .., unary_bufs_sub .., binary_bufs_sub .., reshape_bufs_sub ..⟩
theorem k128_fresh : (k128 : List (HloOp τ sig (Elt F))).Forall fun op => op.fresh = ∅ :=
  ⟨rfl, rfl, rfl, rfl, rfl, rfl, rfl, rfl, rfl, rfl, rfl⟩

theorem kq_sub : (kq : List (HloOp τ sig (Elt F))).Forall fun op => op.bufs ⊆ tcRefs τ sig :=
  ⟨nullary_bufs_sub .., unary_bufs_sub .., binary_bufs_sub .., reshape_bufs_sub .., unary_bufs_sub .., nullary_bufs_sub .., binary_bufs_sub .., nullary_bufs_sub .., unary_bufs_sub .., binary_bufs_sub .., nullary_bufs_sub .., unary_bufs_sub .., binary_bufs_sub .., nullary_bufs_sub .., unary_bufs_sub .., ternary_bufs_sub .., unary_bufs_sub .., unary_bufs_sub .., binary_bufs_sub .., unary_bufs_sub .., nullary_bufs_sub .., nullary_bufs_sub .., unary_bufs_sub .., unary_bufs_sub .., binary_bufs_sub .., unary_bufs_sub .., unary_bufs_sub .., binary_bufs_sub .., unary_bufs_sub .., reshape_bufs_sub ..⟩
theorem kq_fresh : (kq : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem kca_sub : (kca : List (HloOp τ sig (Elt F))).Forall fun op => op.bufs ⊆ tcRefs τ sig :=
  ⟨unary_bufs_sub .., unary_bufs_sub .., nullary_bufs_sub .., unary_bufs_sub .., binary_bufs_sub .., nullary_bufs_sub .., unary_bufs_sub ..⟩
theorem kca_fresh : (kca : List (HloOp τ sig (Elt F))).Forall fun op => op.fresh = ∅ :=
  ⟨rfl, rfl, rfl, rfl, rfl, rfl, rfl⟩

theorem kcb_sub : (kcb : List (HloOp τ sig (Elt F))).Forall fun op => op.bufs ⊆ tcRefs τ sig :=
  ⟨binary_bufs_sub .., nullary_bufs_sub .., unary_bufs_sub .., binary_bufs_sub .., binary_bufs_sub .., unary_bufs_sub ..⟩
theorem kcb_fresh : (kcb : List (HloOp τ sig (Elt F))).Forall fun op => op.fresh = ∅ :=
  ⟨rfl, rfl, rfl, rfl, rfl, rfl⟩

theorem v1_sub : (v1 : List (HloOp τ sig (Elt F))).Forall fun op => op.bufs ⊆ tcRefs τ sig :=
  ⟨unary_bufs_sub .., reshape_bufs_sub .., unary_bufs_sub .., reshape_bufs_sub .., unary_bufs_sub .., reshape_bufs_sub .., binary_bufs_sub .., binary_bufs_sub .., unary_bufs_sub .., unary_bufs_sub .., binary_bufs_sub .., reshape_bufs_sub ..⟩
theorem v1_fresh : (v1 : List (HloOp τ sig (Elt F))).Forall fun op => op.fresh = ∅ :=
  ⟨rfl, rfl, rfl, rfl, rfl, rfl, rfl, rfl, rfl, rfl, rfl, rfl⟩

theorem v2_sub : (v2 : List (HloOp τ sig (Elt F))).Forall fun op => op.bufs ⊆ tcRefs τ sig :=
  ⟨reshape_bufs_sub .., unary_bufs_sub .., reshape_bufs_sub .., unary_bufs_sub .., reshape_bufs_sub .., binary_bufs_sub .., binary_bufs_sub .., unary_bufs_sub .., unary_bufs_sub .., binary_bufs_sub .., reshape_bufs_sub ..⟩
theorem v2_fresh : (v2 : List (HloOp τ sig (Elt F))).Forall fun op => op.fresh = ∅ :=
  ⟨rfl, rfl, rfl, rfl, rfl, rfl, rfl, rfl, rfl, rfl, rfl⟩

theorem v4_sub : (v4 : List (HloOp τ sig (Elt F))).Forall fun op => op.bufs ⊆ tcRefs τ sig :=
  ⟨reshape_bufs_sub .., unary_bufs_sub .., reshape_bufs_sub .., unary_bufs_sub .., reshape_bufs_sub .., binary_bufs_sub .., binary_bufs_sub .., unary_bufs_sub .., unary_bufs_sub .., binary_bufs_sub .., reshape_bufs_sub ..⟩
theorem v4_fresh : (v4 : List (HloOp τ sig (Elt F))).Forall fun op => op.fresh = ∅ :=
  ⟨rfl, rfl, rfl, rfl, rfl, rfl, rfl, rfl, rfl, rfl, rfl⟩

theorem v8_sub : (v8 : List (HloOp τ sig (Elt F))).Forall fun op => op.bufs ⊆ tcRefs τ sig :=
  ⟨reshape_bufs_sub .., unary_bufs_sub .., reshape_bufs_sub .., unary_bufs_sub .., reshape_bufs_sub .., binary_bufs_sub .., binary_bufs_sub .., unary_bufs_sub .., unary_bufs_sub .., binary_bufs_sub .., reshape_bufs_sub ..⟩
theorem v8_fresh : (v8 : List (HloOp τ sig (Elt F))).Forall fun op => op.fresh = ∅ :=
  ⟨rfl, rfl, rfl, rfl, rfl, rfl, rfl, rfl, rfl, rfl, rfl⟩

theorem v16a_sub : (v16a : List (HloOp τ sig (Elt F))).Forall fun op => op.bufs ⊆ tcRefs τ sig :=
  ⟨reshape_bufs_sub .., unary_bufs_sub .., reshape_bufs_sub .., unary_bufs_sub .., reshape_bufs_sub .., binary_bufs_sub .., binary_bufs_sub .., unary_bufs_sub .., unary_bufs_sub ..⟩
theorem v16a_fresh : (v16a : List (HloOp τ sig (Elt F))).Forall fun op => op.fresh = ∅ :=
  ⟨rfl, rfl, rfl, rfl, rfl, rfl, rfl, rfl, rfl⟩

theorem v16b_sub : (v16b : List (HloOp τ sig (Elt F))).Forall fun op => op.bufs ⊆ tcRefs τ sig :=
  ⟨binary_bufs_sub .., reshape_bufs_sub ..⟩
theorem v16b_fresh : (v16b : List (HloOp τ sig (Elt F))).Forall fun op => op.fresh = ∅ :=
  ⟨rfl, rfl⟩

theorem v32_sub : (v32 : List (HloOp τ sig (Elt F))).Forall fun op => op.bufs ⊆ tcRefs τ sig :=
  ⟨reshape_bufs_sub .., unary_bufs_sub .., reshape_bufs_sub .., unary_bufs_sub .., reshape_bufs_sub .., binary_bufs_sub .., binary_bufs_sub .., unary_bufs_sub .., unary_bufs_sub .., binary_bufs_sub .., reshape_bufs_sub ..⟩
theorem v32_fresh : (v32 : List (HloOp τ sig (Elt F))).Forall fun op => op.fresh = ∅ :=
  ⟨rfl, rfl, rfl, rfl, rfl, rfl, rfl, rfl, rfl, rfl, rfl⟩

theorem v64_sub : (v64 : List (HloOp τ sig (Elt F))).Forall fun op => op.bufs ⊆ tcRefs τ sig :=
  ⟨reshape_bufs_sub .., unary_bufs_sub .., reshape_bufs_sub .., unary_bufs_sub .., reshape_bufs_sub .., binary_bufs_sub .., binary_bufs_sub .., unary_bufs_sub .., unary_bufs_sub .., binary_bufs_sub .., reshape_bufs_sub ..⟩
theorem v64_fresh : (v64 : List (HloOp τ sig (Elt F))).Forall fun op => op.fresh = ∅ :=
  ⟨rfl, rfl, rfl, rfl, rfl, rfl, rfl, rfl, rfl, rfl, rfl⟩

theorem v128_sub : (v128 : List (HloOp τ sig (Elt F))).Forall fun op => op.bufs ⊆ tcRefs τ sig :=
  ⟨reshape_bufs_sub .., unary_bufs_sub .., reshape_bufs_sub .., unary_bufs_sub .., reshape_bufs_sub .., binary_bufs_sub .., binary_bufs_sub .., unary_bufs_sub .., unary_bufs_sub .., binary_bufs_sub .., reshape_bufs_sub ..⟩
theorem v128_fresh : (v128 : List (HloOp τ sig (Elt F))).Forall fun op => op.fresh = ∅ :=
  ⟨rfl, rfl, rfl, rfl, rfl, rfl, rfl, rfl, rfl, rfl, rfl⟩

theorem vq_sub : (vq : List (HloOp τ sig (Elt F))).Forall fun op => op.bufs ⊆ tcRefs τ sig :=
  ⟨nullary_bufs_sub .., unary_bufs_sub .., binary_bufs_sub .., reshape_bufs_sub .., unary_bufs_sub .., nullary_bufs_sub .., binary_bufs_sub .., nullary_bufs_sub .., unary_bufs_sub .., binary_bufs_sub .., nullary_bufs_sub .., unary_bufs_sub .., binary_bufs_sub .., nullary_bufs_sub .., unary_bufs_sub .., ternary_bufs_sub .., unary_bufs_sub .., unary_bufs_sub .., binary_bufs_sub .., unary_bufs_sub .., nullary_bufs_sub .., nullary_bufs_sub .., unary_bufs_sub .., unary_bufs_sub .., binary_bufs_sub .., unary_bufs_sub .., unary_bufs_sub .., binary_bufs_sub .., unary_bufs_sub .., reshape_bufs_sub ..⟩
theorem vq_fresh : (vq : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem vca_sub : (vca : List (HloOp τ sig (Elt F))).Forall fun op => op.bufs ⊆ tcRefs τ sig :=
  unary_bufs_sub ..
theorem vca_fresh : (vca : List (HloOp τ sig (Elt F))).Forall fun op => op.fresh = ∅ :=
  rfl

theorem vcb_sub : (vcb : List (HloOp τ sig (Elt F))).Forall fun op => op.bufs ⊆ tcRefs τ sig :=
  ⟨unary_bufs_sub .., nullary_bufs_sub .., unary_bufs_sub .., binary_bufs_sub .., nullary_bufs_sub .., unary_bufs_sub .., binary_bufs_sub .., nullary_bufs_sub .., unary_bufs_sub .., binary_bufs_sub .., binary_bufs_sub .., unary_bufs_sub ..⟩
theorem vcb_fresh : (vcb : List (HloOp τ sig (Elt F))).Forall fun op => op.fresh = ∅ :=
  ⟨rfl, rfl, rfl, rfl, rfl, rfl, rfl, rfl, rfl, rfl, rfl, rfl⟩

theorem tl_sub : (tl : List (HloOp τ sig (Elt F))).Forall fun op => op.bufs ⊆ tcRefs τ sig :=
  ⟨reshape_bufs_sub .., reshape_bufs_sub .., unary_bufs_sub .., reshape_bufs_sub .., reshape_bufs_sub .., unary_bufs_sub ..⟩
theorem tl_fresh : (tl : List (HloOp τ sig (Elt F))).Forall fun op => op.fresh = ∅ :=
  ⟨rfl, rfl, rfl, rfl, rfl, rfl⟩

theorem k1_keep (V : Valuation τ sig (Elt F)) (r : Ref sig .tc) (h : r ∉ [main_v0, main_v1, main_v2, main_v3, main_v4, main_v5, main_v6, main_v7, main_v8, main_v9, main_v10, main_v11]) : after k1 V (Proc.devRef .tc r) = V (Proc.devRef .tc r) :=
  after_of_writes_sub k1 V (forall_writes_sub_of_map rfl) h

theorem k2_keep (V : Valuation τ sig (Elt F)) (r : Ref sig .tc) (h : r ∉ [main_v12, main_v13, main_v14, main_v15, main_v16, main_v17, main_v18, main_v19, main_v20, main_v21, main_v22]) : after k2 V (Proc.devRef .tc r) = V (Proc.devRef .tc r) :=
  after_of_writes_sub k2 V (forall_writes_sub_of_map rfl) h

theorem k4_keep (V : Valuation τ sig (Elt F)) (r : Ref sig .tc) (h : r ∉ [main_v23, main_v24, main_v25, main_v26, main_v27, main_v28, main_v29, main_v30, main_v31, main_v32, main_v33]) : after k4 V (Proc.devRef .tc r) = V (Proc.devRef .tc r) :=
  after_of_writes_sub k4 V (forall_writes_sub_of_map rfl) h

theorem k8_keep (V : Valuation τ sig (Elt F)) (r : Ref sig .tc) (h : r ∉ [main_v34, main_v35, main_v36, main_v37, main_v38, main_v39, main_v40, main_v41, main_v42, main_v43, main_v44]) : after k8 V (Proc.devRef .tc r) = V (Proc.devRef .tc r) :=
  after_of_writes_sub k8 V (forall_writes_sub_of_map rfl) h

theorem k16_keep (V : Valuation τ sig (Elt F)) (r : Ref sig .tc) (h : r ∉ [main_v45, main_v46, main_v47, main_v48, main_v49, main_v50, main_v51, main_v52, main_v53, main_v54, main_v55]) : after k16 V (Proc.devRef .tc r) = V (Proc.devRef .tc r) :=
  after_of_writes_sub k16 V (forall_writes_sub_of_map rfl) h

theorem k32a_keep (V : Valuation τ sig (Elt F)) (r : Ref sig .tc) (h : r ∉ [main_v56, main_v57, main_v58, main_v59]) : after k32a V (Proc.devRef .tc r) = V (Proc.devRef .tc r) :=
  after_of_writes_sub k32a V (forall_writes_sub_of_map rfl) h

theorem k32b_keep (V : Valuation τ sig (Elt F)) (r : Ref sig .tc) (h : r ∉ [main_v60, main_v61, main_v62, main_v63, main_v64, main_v65, main_v66]) : after k32b V (Proc.devRef .tc r) = V (Proc.devRef .tc r) :=
  after_of_writes_sub k32b V (forall_writes_sub_of_map rfl) h

theorem k64_keep (V : Valuation τ sig (Elt F)) (r : Ref sig .tc) (h : r ∉ [main_v67, main_v68, main_v69, main_v70, main_v71, main_v72, main_v73, main_v74, main_v75, main_v76, main_v77]) : after k64 V (Proc.devRef .tc r) = V (Proc.devRef .tc r) :=
  after_of_writes_sub k64 V (forall_writes_sub_of_map rfl) h

theorem k128_keep (V : Valuation τ sig (Elt F)) (r : Ref sig .tc) (h : r ∉ [main_v78, main_v79, main_v80, main_v81, main_v82, main_v83, main_v84, main_v85, main_v86, main_v87, main_v88]) : after k128 V (Proc.devRef .tc r) = V (Proc.devRef .tc r) :=
  after_of_writes_sub k128 V (forall_writes_sub_of_map rfl) h

theorem kq_keep (V : Valuation τ sig (Elt F)) (r : Ref sig .tc) (h : r ∉ [main_cst, main_v89, main_v90, main_v91, main_v92, main_cst_0, main_v93, main_cst_1, main_v94, main_v95, main_cst_2, main_v96, main_v97, main_cst_3, main_call0_v0, main_v98, main_v99, main_v100, main_v101, main_v102, main_cst_4, main_cst_5, main_call2_v0, main_call2_v1, main_call2_v2, main_call2_v3, main_call2_v4, main_v103, main_v104, main_v105]) : after kq V (Proc.devRef .tc r) = V (Proc.devRef .tc r) :=
  after_of_writes_sub kq V (forall_writes_sub_of_map rfl) h

theorem kca_keep (V : Valuation τ sig (Elt F)) (r : Ref sig .tc) (h : r ∉ [main_v106, main_v107, main_c, main_v108, main_v109, main_c_6, main_v110]) : after kca V (Proc.devRef .tc r) = V (Proc.devRef .tc r) :=
  after_of_writes_sub kca V (forall_writes_sub_of_map rfl) h

theorem kcb_keep (V : Valuation τ sig (Elt F)) (r : Ref sig .tc) (h : r ∉ [main_v111, main_c_7, main_v112, main_v113, main_v114, main_v115]) : after kcb V (Proc.devRef .tc r) = V (Proc.devRef .tc r) :=
  after_of_writes_sub kcb V (forall_writes_sub_of_map rfl) h

theorem v1_keep (V : Valuation τ sig (Elt F)) (r : Ref sig .tc) (h : r ∉ [main_v116, main_v117, main_v118, main_v119, main_v120, main_v121, main_v122, main_v123, main_v124, main_v125, main_v126, main_v127]) : after v1 V (Proc.devRef .tc r) = V (Proc.devRef .tc r) :=
  after_of_writes_sub v1 V (forall_writes_sub_of_map rfl) h

theorem v2_keep (V : Valuation τ sig (Elt F)) (r : Ref sig .tc) (h : r ∉ [main_v128, main_v129, main_v130, main_v131, main_v132, main_v133, main_v134, main_v135, main_v136, main_v137, main_v138]) : after v2 V (Proc.devRef .tc r) = V (Proc.devRef .tc r) :=
  after_of_writes_sub v2 V (forall_writes_sub_of_map rfl) h

theorem v4_keep (V : Valuation τ sig (Elt F)) (r : Ref sig .tc) (h : r ∉ [main_v139, main_v140, main_v141, main_v142, main_v143, main_v144, main_v145, main_v146, main_v147, main_v148, main_v149]) : after v4 V (Proc.devRef .tc r) = V (Proc.devRef .tc r) :=
  after_of_writes_sub v4 V (forall_writes_sub_of_map rfl) h

theorem v8_keep (V : Valuation τ sig (Elt F)) (r : Ref sig .tc) (h : r ∉ [main_v150, main_v151, main_v152, main_v153, main_v154, main_v155, main_v156, main_v157, main_v158, main_v159, main_v160]) : after v8 V (Proc.devRef .tc r) = V (Proc.devRef .tc r) :=
  after_of_writes_sub v8 V (forall_writes_sub_of_map rfl) h

theorem v16a_keep (V : Valuation τ sig (Elt F)) (r : Ref sig .tc) (h : r ∉ [main_v161, main_v162, main_v163, main_v164, main_v165, main_v166, main_v167, main_v168, main_v169]) : after v16a V (Proc.devRef .tc r) = V (Proc.devRef .tc r) :=
  after_of_writes_sub v16a V (forall_writes_sub_of_map rfl) h

theorem v16b_keep (V : Valuation τ sig (Elt F)) (r : Ref sig .tc) (h : r ∉ [main_v170, main_v171]) : after v16b V (Proc.devRef .tc r) = V (Proc.devRef .tc r) :=
  after_of_writes_sub v16b V (forall_writes_sub_of_map rfl) h

theorem v32_keep (V : Valuation τ sig (Elt F)) (r : Ref sig .tc) (h : r ∉ [main_v172, main_v173, main_v174, main_v175, main_v176, main_v177, main_v178, main_v179, main_v180, main_v181, main_v182]) : after v32 V (Proc.devRef .tc r) = V (Proc.devRef .tc r) :=
  after_of_writes_sub v32 V (forall_writes_sub_of_map rfl) h

theorem v64_keep (V : Valuation τ sig (Elt F)) (r : Ref sig .tc) (h : r ∉ [main_v183, main_v184, main_v185, main_v186, main_v187, main_v188, main_v189, main_v190, main_v191, main_v192, main_v193]) : after v64 V (Proc.devRef .tc r) = V (Proc.devRef .tc r) :=
  after_of_writes_sub v64 V (forall_writes_sub_of_map rfl) h

theorem v128_keep (V : Valuation τ sig (Elt F)) (r : Ref sig .tc) (h : r ∉ [main_v194, main_v195, main_v196, main_v197, main_v198, main_v199, main_v200, main_v201, main_v202, main_v203, main_v204]) : after v128 V (Proc.devRef .tc r) = V (Proc.devRef .tc r) :=
  after_of_writes_sub v128 V (forall_writes_sub_of_map rfl) h

theorem vq_keep (V : Valuation τ sig (Elt F)) (r : Ref sig .tc) (h : r ∉ [main_cst_8, main_v205, main_v206, main_v207, main_v208, main_cst_9, main_v209, main_cst_10, main_v210, main_v211, main_cst_11, main_v212, main_v213, main_cst_12, main_call3_v0, main_v214, main_v215, main_v216, main_v217, main_v218, main_cst_13, main_cst_14, main_call5_v0, main_call5_v1, main_call5_v2, main_call5_v3, main_call5_v4, main_v219, main_v220, main_v221]) : after vq V (Proc.devRef .tc r) = V (Proc.devRef .tc r) :=
  after_of_writes_sub vq V (forall_writes_sub_of_map rfl) h

theorem vca_keep (V : Valuation τ sig (Elt F)) (r : Ref sig .tc) (h : r ∉ [main_v222]) : after vca V (Proc.devRef .tc r) = V (Proc.devRef .tc r) :=
  after_of_writes_sub vca V (forall_writes_sub_of_map rfl) h

theorem vcb_keep (V : Valuation τ sig (Elt F)) (r : Ref sig .tc) (h : r ∉ [main_v223, main_c_15, main_v224, main_v225, main_c_16, main_v226, main_v227, main_c_17, main_v228, main_v229, main_v230, main_v231]) : after vcb V (Proc.devRef .tc r) = V (Proc.devRef .tc r) :=
  after_of_writes_sub vcb V (forall_writes_sub_of_map rfl) h

theorem tl_keep (V : Valuation τ sig (Elt F)) (r : Ref sig .tc) (h : r ∉ [main_v232, main_v233, main_v234, main_v235, main_v236, main_v237]) : after tl V (Proc.devRef .tc r) = V (Proc.devRef .tc r) :=
  after_of_writes_sub tl V (forall_writes_sub_of_map rfl) h

theorem ops_sub : (ops : List (HloOp τ sig (Elt F))).Forall fun op => op.bufs ⊆ tcRefs τ sig := by
  simp only [ops, w0, w1, w2, w3, w4, List.forall_append]
  exact ⟨⟨k1_sub, k2_sub, k4_sub, k8_sub, k16_sub, k32a_sub⟩, ⟨k32b_sub, k64_sub, k128_sub, kq_sub, kca_sub⟩, ⟨kcb_sub, v1_sub, v2_sub, v4_sub, v8_sub, v16a_sub⟩, ⟨v16b_sub, v32_sub, v64_sub, v128_sub, vq_sub, vca_sub⟩, ⟨vcb_sub, tl_sub⟩⟩

theorem ops_fresh : ∀ op ∈ (ops : List (HloOp τ sig (Elt F))), op.fresh = ∅ := by
  rw [← List.forall_iff_forall_mem]
  simp only [ops, w0, w1, w2, w3, w4, List.forall_append]
  exact ⟨⟨k1_fresh, k2_fresh, k4_fresh, k8_fresh, k16_fresh, k32a_fresh⟩, ⟨k32b_fresh, k64_fresh, k128_fresh, kq_fresh, kca_fresh⟩, ⟨kcb_fresh, v1_fresh, v2_fresh, v4_fresh, v8_fresh, v16a_fresh⟩, ⟨v16b_fresh, v32_fresh, v64_fresh, v128_fresh, vq_fresh, vca_fresh⟩, ⟨vcb_fresh, tl_fresh⟩⟩

/-- Every buffer ends at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ (fun _ => ops_fresh)

theorem after_app (l₁ l₂ : List (HloOp τ sig (Elt F))) (V : Valuation τ sig (Elt F)) : after (l₁ ++ l₂) V = after l₂ (after l₁ V) := by
  induction l₁ generalizing V with
  | nil => rfl
  | cons op l ih => exact ih _

/-- The whole line as its lists. -/
theorem after_ops (V : Valuation τ sig (Elt F)) : after ops V =
    after tl (after vcb (after vca (after vq (after v128 (after v64 (after v32 (after v16b (after v16a (after v8 (after v4 (after v2 (after v1 (after kcb (after kca (after kq (after k128 (after k64 (after k32b (after k32a (after k16 (after k8 (after k4 (after k2 (after k1 V)))))))))))))))))))))))) := by
  simp only [ops, w0, w1, w2, w3, w4, after_app]

end Cert.NewReferenceIdeal.Hand
-- ==== Proof.New.Stages.lean ====
module

public import proofs.«01_k».proof.Proof.Gen.NewReferenceIdeal
public import proofs.«01_k».proof.Proof.New.Walsh
public import Idealize.ShloMosaic.Lib.Pointwise

@[expose] public section

set_option maxRecDepth 16384
set_option maxHeartbeats 4000000

/-! The reference's eight butterflies, each read at one entry. -/

noncomputable section

namespace Cert.NewReferenceIdeal.Hand

open Cert.NewReferenceIdeal Cert.NewReferenceIdeal.Gen Cert.Walsh
open Idealize.ShloMosaic Idealize.ShloMosaic.TcCoe Idealize.SL.Sem

/-- Row `g` of batch entry `b`. -/
def row (X : FVec Ideal S6x1x16x256 .f32) (b : Fin 6) (g : Fin 16) (i : Fin 256) : EReal := X (ix4 b 0 g i)

theorem entry_congr (X : FVec Ideal S6x1x16x256 .f32) (b : Fin 6) (g : Fin 16) (i j : Fin 256) (h : i.val = j.val) :
    X (ix4 b 0 g i) = X (ix4 b 0 g j) := by rw [Fin.ext h]

/-- The stage at distance 1. -/
def stage1 (X : FVec Ideal S6x1x16x256 .f32) : FVec Ideal S6x1x16x256 .f32 :=
  let v := shapeCast S6x1x16x128x2x1 X shapeCasts_S6x1x16x256_S6x1x16x128x2x1
  let p := shapeCast S6x1x16x128x1 (extractStridedSlice S6x1x16x128x1x1 ![0, 0, 0, 0, 0, 0] v slices_S6x1x16x128x2x1_S6x1x16x128x1x1_0_0_0_0_0_0) shapeCasts_S6x1x16x128x1x1_S6x1x16x128x1
  let q := shapeCast S6x1x16x128x1 (extractStridedSlice S6x1x16x128x1x1 ![0, 0, 0, 0, 1, 0] v slices_S6x1x16x128x2x1_S6x1x16x128x1x1_0_0_0_0_1_0) shapeCasts_S6x1x16x128x1x1_S6x1x16x128x1
  shapeCast S6x1x16x256 (concatenate S6x1x16x128x2x1 4
    [⟨S6x1x16x128x1x1, (broadcastInDim S6x1x16x128x1x1 ![0, 1, 2, 3, 5] bcast_S6x1x16x128x1_S6x1x16x128x1x1_0_1_2_3_5 (addf p q))⟩,
      ⟨S6x1x16x128x1x1, (broadcastInDim S6x1x16x128x1x1 ![0, 1, 2, 3, 5] bcast_S6x1x16x128x1_S6x1x16x128x1x1_0_1_2_3_5 (subf p q))⟩]
    concatenates_S6x1x16x128x1x1_S6x1x16x128x1x1_S6x1x16x128x2x1_d4) shapeCasts_S6x1x16x128x2x1_S6x1x16x256

theorem row_stage1 (X : FVec Ideal S6x1x16x256 .f32) (b : Fin 6) (g : Fin 16) : row (stage1 X) b g = bfly 1 (row X b g) := by
  funext i
  unfold row bfly
  pointwise [stage1]
  have hi := i.isLt
  split <;> split <;> first
    | omega
    | exact congrArg₂ _ (entry_congr _ _ _ _ _ (by simp only [Fin.val_ofNat]; omega)) (entry_congr _ _ _ _ _ (by simp only [Fin.val_ofNat]; omega))

/-- The stage at distance 2. -/
def stage2 (X : FVec Ideal S6x1x16x256 .f32) : FVec Ideal S6x1x16x256 .f32 :=
  let v := shapeCast S6x1x16x64x2x2 X shapeCasts_S6x1x16x256_S6x1x16x64x2x2
  let p := shapeCast S6x1x16x64x2 (extractStridedSlice S6x1x16x64x1x2 ![0, 0, 0, 0, 0, 0] v slices_S6x1x16x64x2x2_S6x1x16x64x1x2_0_0_0_0_0_0) shapeCasts_S6x1x16x64x1x2_S6x1x16x64x2
  let q := shapeCast S6x1x16x64x2 (extractStridedSlice S6x1x16x64x1x2 ![0, 0, 0, 0, 1, 0] v slices_S6x1x16x64x2x2_S6x1x16x64x1x2_0_0_0_0_1_0) shapeCasts_S6x1x16x64x1x2_S6x1x16x64x2
  shapeCast S6x1x16x256 (concatenate S6x1x16x64x2x2 4
    [⟨S6x1x16x64x1x2, (broadcastInDim S6x1x16x64x1x2 ![0, 1, 2, 3, 5] bcast_S6x1x16x64x2_S6x1x16x64x1x2_0_1_2_3_5 (addf p q))⟩,
      ⟨S6x1x16x64x1x2, (broadcastInDim S6x1x16x64x1x2 ![0, 1, 2, 3, 5] bcast_S6x1x16x64x2_S6x1x16x64x1x2_0_1_2_3_5 (subf p q))⟩]
    concatenates_S6x1x16x64x1x2_S6x1x16x64x1x2_S6x1x16x64x2x2_d4) shapeCasts_S6x1x16x64x2x2_S6x1x16x256

theorem row_stage2 (X : FVec Ideal S6x1x16x256 .f32) (b : Fin 6) (g : Fin 16) : row (stage2 X) b g = bfly 2 (row X b g) := by
  funext i
  unfold row bfly
  pointwise [stage2]
  have hi := i.isLt
  split <;> split <;> first
    | omega
    | exact congrArg₂ _ (entry_congr _ _ _ _ _ (by simp only [Fin.val_ofNat]; omega)) (entry_congr _ _ _ _ _ (by simp only [Fin.val_ofNat]; omega))

/-- The stage at distance 4. -/
def stage4 (X : FVec Ideal S6x1x16x256 .f32) : FVec Ideal S6x1x16x256 .f32 :=
  let v := shapeCast S6x1x16x32x2x4 X shapeCasts_S6x1x16x256_S6x1x16x32x2x4
  let p := shapeCast S6x1x16x32x4 (extractStridedSlice S6x1x16x32x1x4 ![0, 0, 0, 0, 0, 0] v slices_S6x1x16x32x2x4_S6x1x16x32x1x4_0_0_0_0_0_0) shapeCasts_S6x1x16x32x1x4_S6x1x16x32x4
  let q := shapeCast S6x1x16x32x4 (extractStridedSlice S6x1x16x32x1x4 ![0, 0, 0, 0, 1, 0] v slices_S6x1x16x32x2x4_S6x1x16x32x1x4_0_0_0_0_1_0) shapeCasts_S6x1x16x32x1x4_S6x1x16x32x4
  shapeCast S6x1x16x256 (concatenate S6x1x16x32x2x4 4
    [⟨S6x1x16x32x1x4, (broadcastInDim S6x1x16x32x1x4 ![0, 1, 2, 3, 5] bcast_S6x1x16x32x4_S6x1x16x32x1x4_0_1_2_3_5 (addf p q))⟩,
      ⟨S6x1x16x32x1x4, (broadcastInDim S6x1x16x32x1x4 ![0, 1, 2, 3, 5] bcast_S6x1x16x32x4_S6x1x16x32x1x4_0_1_2_3_5 (subf p q))⟩]
    concatenates_S6x1x16x32x1x4_S6x1x16x32x1x4_S6x1x16x32x2x4_d4) shapeCasts_S6x1x16x32x2x4_S6x1x16x256

theorem row_stage4 (X : FVec Ideal S6x1x16x256 .f32) (b : Fin 6) (g : Fin 16) : row (stage4 X) b g = bfly 4 (row X b g) := by
  funext i
  unfold row bfly
  pointwise [stage4]
  have hi := i.isLt
  split <;> split <;> first
    | omega
    | exact congrArg₂ _ (entry_congr _ _ _ _ _ (by simp only [Fin.val_ofNat]; omega)) (entry_congr _ _ _ _ _ (by simp only [Fin.val_ofNat]; omega))

/-- The stage at distance 8. -/
def stage8 (X : FVec Ideal S6x1x16x256 .f32) : FVec Ideal S6x1x16x256 .f32 :=
  let v := shapeCast S6x1x16x16x2x8 X shapeCasts_S6x1x16x256_S6x1x16x16x2x8
  let p := shapeCast S6x1x16x16x8 (extractStridedSlice S6x1x16x16x1x8 ![0, 0, 0, 0, 0, 0] v slices_S6x1x16x16x2x8_S6x1x16x16x1x8_0_0_0_0_0_0) shapeCasts_S6x1x16x16x1x8_S6x1x16x16x8
  let q := shapeCast S6x1x16x16x8 (extractStridedSlice S6x1x16x16x1x8 ![0, 0, 0, 0, 1, 0] v slices_S6x1x16x16x2x8_S6x1x16x16x1x8_0_0_0_0_1_0) shapeCasts_S6x1x16x16x1x8_S6x1x16x16x8
  shapeCast S6x1x16x256 (concatenate S6x1x16x16x2x8 4
    [⟨S6x1x16x16x1x8, (broadcastInDim S6x1x16x16x1x8 ![0, 1, 2, 3, 5] bcast_S6x1x16x16x8_S6x1x16x16x1x8_0_1_2_3_5 (addf p q))⟩,
      ⟨S6x1x16x16x1x8, (broadcastInDim S6x1x16x16x1x8 ![0, 1, 2, 3, 5] bcast_S6x1x16x16x8_S6x1x16x16x1x8_0_1_2_3_5 (subf p q))⟩]
    concatenates_S6x1x16x16x1x8_S6x1x16x16x1x8_S6x1x16x16x2x8_d4) shapeCasts_S6x1x16x16x2x8_S6x1x16x256

theorem row_stage8 (X : FVec Ideal S6x1x16x256 .f32) (b : Fin 6) (g : Fin 16) : row (stage8 X) b g = bfly 8 (row X b g) := by
  funext i
  unfold row bfly
  pointwise [stage8]
  have hi := i.isLt
  split <;> split <;> first
    | omega
    | exact congrArg₂ _ (entry_congr _ _ _ _ _ (by simp only [Fin.val_ofNat]; omega)) (entry_congr _ _ _ _ _ (by simp only [Fin.val_ofNat]; omega))

/-- The stage at distance 16. -/
def stage16 (X : FVec Ideal S6x1x16x256 .f32) : FVec Ideal S6x1x16x256 .f32 :=
  let v := shapeCast S6x1x16x8x2x16 X shapeCasts_S6x1x16x256_S6x1x16x8x2x16
  let p := shapeCast S6x1x16x8x16 (extractStridedSlice S6x1x16x8x1x16 ![0, 0, 0, 0, 0, 0] v slices_S6x1x16x8x2x16_S6x1x16x8x1x16_0_0_0_0_0_0) shapeCasts_S6x1x16x8x1x16_S6x1x16x8x16
  let q := shapeCast S6x1x16x8x16 (extractStridedSlice S6x1x16x8x1x16 ![0, 0, 0, 0, 1, 0] v slices_S6x1x16x8x2x16_S6x1x16x8x1x16_0_0_0_0_1_0) shapeCasts_S6x1x16x8x1x16_S6x1x16x8x16
  shapeCast S6x1x16x256 (concatenate S6x1x16x8x2x16 4
    [⟨S6x1x16x8x1x16, (broadcastInDim S6x1x16x8x1x16 ![0, 1, 2, 3, 5] bcast_S6x1x16x8x16_S6x1x16x8x1x16_0_1_2_3_5 (addf p q))⟩,
      ⟨S6x1x16x8x1x16, (broadcastInDim S6x1x16x8x1x16 ![0, 1, 2, 3, 5] bcast_S6x1x16x8x16_S6x1x16x8x1x16_0_1_2_3_5 (subf p q))⟩]
    concatenates_S6x1x16x8x1x16_S6x1x16x8x1x16_S6x1x16x8x2x16_d4) shapeCasts_S6x1x16x8x2x16_S6x1x16x256

theorem row_stage16 (X : FVec Ideal S6x1x16x256 .f32) (b : Fin 6) (g : Fin 16) : row (stage16 X) b g = bfly 16 (row X b g) := by
  funext i
  unfold row bfly
  pointwise [stage16]
  have hi := i.isLt
  split <;> split <;> first
    | omega
    | exact congrArg₂ _ (entry_congr _ _ _ _ _ (by simp only [Fin.val_ofNat]; omega)) (entry_congr _ _ _ _ _ (by simp only [Fin.val_ofNat]; omega))

/-- The stage at distance 32. -/
def stage32 (X : FVec Ideal S6x1x16x256 .f32) : FVec Ideal S6x1x16x256 .f32 :=
  let v := shapeCast S6x1x16x4x2x32 X shapeCasts_S6x1x16x256_S6x1x16x4x2x32
  let p := shapeCast S6x1x16x4x32 (extractStridedSlice S6x1x16x4x1x32 ![0, 0, 0, 0, 0, 0] v slices_S6x1x16x4x2x32_S6x1x16x4x1x32_0_0_0_0_0_0) shapeCasts_S6x1x16x4x1x32_S6x1x16x4x32
  let q := shapeCast S6x1x16x4x32 (extractStridedSlice S6x1x16x4x1x32 ![0, 0, 0, 0, 1, 0] v slices_S6x1x16x4x2x32_S6x1x16x4x1x32_0_0_0_0_1_0) shapeCasts_S6x1x16x4x1x32_S6x1x16x4x32
  shapeCast S6x1x16x256 (concatenate S6x1x16x4x2x32 4
    [⟨S6x1x16x4x1x32, (broadcastInDim S6x1x16x4x1x32 ![0, 1, 2, 3, 5] bcast_S6x1x16x4x32_S6x1x16x4x1x32_0_1_2_3_5 (addf p q))⟩,
      ⟨S6x1x16x4x1x32, (broadcastInDim S6x1x16x4x1x32 ![0, 1, 2, 3, 5] bcast_S6x1x16x4x32_S6x1x16x4x1x32_0_1_2_3_5 (subf p q))⟩]
    concatenates_S6x1x16x4x1x32_S6x1x16x4x1x32_S6x1x16x4x2x32_d4) shapeCasts_S6x1x16x4x2x32_S6x1x16x256

theorem row_stage32 (X : FVec Ideal S6x1x16x256 .f32) (b : Fin 6) (g : Fin 16) : row (stage32 X) b g = bfly 32 (row X b g) := by
  funext i
  unfold row bfly
  pointwise [stage32]
  have hi := i.isLt
  split <;> split <;> first
    | omega
    | exact congrArg₂ _ (entry_congr _ _ _ _ _ (by simp only [Fin.val_ofNat]; omega)) (entry_congr _ _ _ _ _ (by simp only [Fin.val_ofNat]; omega))

/-- The stage at distance 64. -/
def stage64 (X : FVec Ideal S6x1x16x256 .f32) : FVec Ideal S6x1x16x256 .f32 :=
  let v := shapeCast S6x1x16x2x2x64 X shapeCasts_S6x1x16x256_S6x1x16x2x2x64
  let p := shapeCast S6x1x16x2x64 (extractStridedSlice S6x1x16x2x1x64 ![0, 0, 0, 0, 0, 0] v slices_S6x1x16x2x2x64_S6x1x16x2x1x64_0_0_0_0_0_0) shapeCasts_S6x1x16x2x1x64_S6x1x16x2x64
  let q := shapeCast S6x1x16x2x64 (extractStridedSlice S6x1x16x2x1x64 ![0, 0, 0, 0, 1, 0] v slices_S6x1x16x2x2x64_S6x1x16x2x1x64_0_0_0_0_1_0) shapeCasts_S6x1x16x2x1x64_S6x1x16x2x64
  shapeCast S6x1x16x256 (concatenate S6x1x16x2x2x64 4
    [⟨S6x1x16x2x1x64, (broadcastInDim S6x1x16x2x1x64 ![0, 1, 2, 3, 5] bcast_S6x1x16x2x64_S6x1x16x2x1x64_0_1_2_3_5 (addf p q))⟩,
      ⟨S6x1x16x2x1x64, (broadcastInDim S6x1x16x2x1x64 ![0, 1, 2, 3, 5] bcast_S6x1x16x2x64_S6x1x16x2x1x64_0_1_2_3_5 (subf p q))⟩]
    concatenates_S6x1x16x2x1x64_S6x1x16x2x1x64_S6x1x16x2x2x64_d4) shapeCasts_S6x1x16x2x2x64_S6x1x16x256

theorem row_stage64 (X : FVec Ideal S6x1x16x256 .f32) (b : Fin 6) (g : Fin 16) : row (stage64 X) b g = bfly 64 (row X b g) := by
  funext i
  unfold row bfly
  pointwise [stage64]
  have hi := i.isLt
  split <;> split <;> first
    | omega
    | exact congrArg₂ _ (entry_congr _ _ _ _ _ (by simp only [Fin.val_ofNat]; omega)) (entry_congr _ _ _ _ _ (by simp only [Fin.val_ofNat]; omega))

/-- The stage at distance 128. -/
def stage128 (X : FVec Ideal S6x1x16x256 .f32) : FVec Ideal S6x1x16x256 .f32 :=
  let v := shapeCast S6x1x16x1x2x128 X shapeCasts_S6x1x16x256_S6x1x16x1x2x128
  let p := shapeCast S6x1x16x1x128 (extractStridedSlice S6x1x16x1x1x128 ![0, 0, 0, 0, 0, 0] v slices_S6x1x16x1x2x128_S6x1x16x1x1x128_0_0_0_0_0_0) shapeCasts_S6x1x16x1x1x128_S6x1x16x1x128
  let q := shapeCast S6x1x16x1x128 (extractStridedSlice S6x1x16x1x1x128 ![0, 0, 0, 0, 1, 0] v slices_S6x1x16x1x2x128_S6x1x16x1x1x128_0_0_0_0_1_0) shapeCasts_S6x1x16x1x1x128_S6x1x16x1x128
  shapeCast S6x1x16x256 (concatenate S6x1x16x1x2x128 4
    [⟨S6x1x16x1x1x128, (broadcastInDim S6x1x16x1x1x128 ![0, 1, 2, 3, 5] bcast_S6x1x16x1x128_S6x1x16x1x1x128_0_1_2_3_5 (addf p q))⟩,
      ⟨S6x1x16x1x1x128, (broadcastInDim S6x1x16x1x1x128 ![0, 1, 2, 3, 5] bcast_S6x1x16x1x128_S6x1x16x1x1x128_0_1_2_3_5 (subf p q))⟩]
    concatenates_S6x1x16x1x1x128_S6x1x16x1x1x128_S6x1x16x1x2x128_d4) shapeCasts_S6x1x16x1x2x128_S6x1x16x256

theorem row_stage128 (X : FVec Ideal S6x1x16x256 .f32) (b : Fin 6) (g : Fin 16) : row (stage128 X) b g = bfly 128 (row X b g) := by
  funext i
  unfold row bfly
  pointwise [stage128]
  have hi := i.isLt
  split <;> split <;> first
    | omega
    | exact congrArg₂ _ (entry_congr _ _ _ _ _ (by simp only [Fin.val_ofNat]; omega)) (entry_congr _ _ _ _ _ (by simp only [Fin.val_ofNat]; omega))

end Cert.NewReferenceIdeal.Hand
-- ==== Proof.New.RefVal.lean ====
module

public import proofs.«01_k».proof.Proof.New.RefOps
public import proofs.«01_k».proof.Proof.New.Stages

@[expose] public section

set_option maxRecDepth 16384
set_option maxHeartbeats 4000000

/-! What each list of the reference's operations leaves. -/

noncomputable section

namespace Cert.NewReferenceIdeal.Hand

open Cert.NewReferenceIdeal Cert.NewReferenceIdeal.Gen Cert.Walsh
open Idealize.ShloMosaic Idealize.ShloMosaic.TcCoe Idealize.ShloMosaic.StableHlo Idealize.SL.Sem

/-- The transformed rows, scaled, in blocks of 32. -/
def yR (H : FVec Ideal S6x1x16x256 .f32) : FVec Ideal S6x1x16x8x32 .f32 :=
  shapeCast S6x1x16x8x32 (mulf H (broadcastInDim S6x1x16x256 ![] bcast_S_S6x1x16x256 (constant S_ .f32 0x3D800000#32))) shapeCasts_S6x1x16x256_S6x1x16x8x32

/-- Each block's greatest magnitude. -/
def mR (H : FVec Ideal S6x1x16x256 .f32) : FVec Ideal S6x1x16x8 .f32 :=
  Host.reduce FloatOps.maximumf (Host.absf (yR H)) (constant S_ .f32 0xFF800000#32) reducesTo_S6x1x16x8x32_S6x1x16x8_d4 h_S_

/-- Each block's scale. -/
def sR (H : FVec Ideal S6x1x16x256 .f32) : FVec Ideal S6x1x16x8 .f32 :=
  select (cmpf .ogt (mR H) (broadcastInDim S6x1x16x8 ![] bcast_S_S6x1x16x8 (constant S_ .f32 0x00000000#32)))
    (Host.divf (mR H) (broadcastInDim S6x1x16x8 ![] bcast_S_S6x1x16x8 (constant S_ .f32 0x40E00000#32)))
    (broadcastInDim S6x1x16x8 ![] bcast_S_S6x1x16x8 (constant S_ .f32 0x3F800000#32))

/-- The rounded and clipped quotients. -/
def qR (H : FVec Ideal S6x1x16x256 .f32) : IVec S6x1x16x256 32 :=
  shapeCast S6x1x16x256 (fptosi 32 (minimumf (broadcastInDim S6x1x16x8x32 ![] bcast_S_S6x1x16x8x32 (constant S_ .f32 0x40E00000#32))
    (maximumf (broadcastInDim S6x1x16x8x32 ![] bcast_S_S6x1x16x8x32 (constant S_ .f32 0xC0E00000#32))
      (Host.roundeven (Host.divf (yR H) (broadcastInDim S6x1x16x8x32 ![0, 1, 2, 3, 4] bcast_S6x1x16x8x1_S6x1x16x8x32_0_1_2_3_4
        (broadcastInDim S6x1x16x8x1 ![0, 1, 2, 3] bcast_S6x1x16x8_S6x1x16x8x1_0_1_2_3 (sR H)))))))) shapeCasts_S6x1x16x8x32_S6x1x16x256

/-- Two codes to a byte. -/
def cR (q : IVec S6x1x16x256 32) : IVec S6x1x16x128 8 :=
  trunci 8 (ori (andi (Host.slice S6x1x16x128 ![0, 0, 0, 0] ![1, 1, 1, 2] q slicesBy_S6x1x16x256_S6x1x16x128_0s1_0s1_0s1_0s2)
      (broadcastInDim S6x1x16x128 ![] bcast_S_S6x1x16x128 (constantI S_ 32 15#32)))
    (Host.shli (andi (Host.slice S6x1x16x128 ![0, 0, 0, 1] ![1, 1, 1, 2] q slicesBy_S6x1x16x256_S6x1x16x128_0s1_0s1_0s1_1s2)
        (broadcastInDim S6x1x16x128 ![] bcast_S_S6x1x16x128 (constantI S_ 32 15#32)))
      (broadcastInDim S6x1x16x128 ![] bcast_S_S6x1x16x128 (constantI S_ 32 4#32)))) natLt_8_32

/-- The codes and the scales as they are returned. -/
def codesR (H : FVec Ideal S6x1x16x256 .f32) : IVec S6x16x128 8 := shapeCast S6x16x128 (cR (qR H)) shapeCasts_S6x1x16x128_S6x16x128
def scalesR (H : FVec Ideal S6x1x16x256 .f32) : FVec Ideal S6x8x16 .f32 :=
  transpose S6x8x16 [0, 2, 1] (shapeCast S6x16x8 (sR H) shapeCasts_S6x1x16x8_S6x16x8) transposes_S6x16x8_S6x8x16_0_2_1

/-- The eight stages. -/
def stages (X : FVec Ideal S6x1x16x256 .f32) : FVec Ideal S6x1x16x256 .f32 :=
  stage128 (stage64 (stage32 (stage16 (stage8 (stage4 (stage2 (stage1 X)))))))

theorem row_stages (X : FVec Ideal S6x1x16x256 .f32) (b : Fin 6) (g : Fin 16) : row (stages X) b g = hadamard (row X b g) := by
  unfold stages hadamard
  rw [row_stage128, row_stage64, row_stage32, row_stage16, row_stage8, row_stage4, row_stage2, row_stage1]

section
variable (V : Valuation τ sig (Elt Ideal))

theorem k1_val : after k1 V (Proc.devRef .tc main_v11) = stage1 (extf .f32 (V (Proc.devRef .tc main_arg0) : FVec Ideal S6x1x16x256 .bf16) bitsLt_bf16_f32) := by
  simp only [after_cons, after_nil]
  rfl

theorem k2_val : after k2 V (Proc.devRef .tc main_v22) = stage2 (V (Proc.devRef .tc main_v11)) := by
  simp only [after_cons, after_nil]
  rfl

theorem k4_val : after k4 V (Proc.devRef .tc main_v33) = stage4 (V (Proc.devRef .tc main_v22)) := by
  simp only [after_cons, after_nil]
  rfl

theorem k8_val : after k8 V (Proc.devRef .tc main_v44) = stage8 (V (Proc.devRef .tc main_v33)) := by
  simp only [after_cons, after_nil]
  rfl

theorem k16_val : after k16 V (Proc.devRef .tc main_v55) = stage16 (V (Proc.devRef .tc main_v44)) := by
  simp only [after_cons, after_nil]
  rfl

theorem k32_val : after k32b (after k32a V) (Proc.devRef .tc main_v66) = stage32 (V (Proc.devRef .tc main_v55)) := by
  simp only [after_cons, after_nil]
  rfl

theorem k64_val : after k64 V (Proc.devRef .tc main_v77) = stage64 (V (Proc.devRef .tc main_v66)) := by
  simp only [after_cons, after_nil]
  rfl

theorem k128_val : after k128 V (Proc.devRef .tc main_v88) = stage128 (V (Proc.devRef .tc main_v77)) := by
  simp only [after_cons, after_nil]
  rfl

set_option maxRecDepth 200000 in
theorem kq_scale : after kq V (Proc.devRef .tc main_v98) = sR (V (Proc.devRef .tc main_v88)) := by
  simp only [after_cons, after_nil]
  rfl

set_option maxRecDepth 200000 in
theorem kq_val : after kq V (Proc.devRef .tc main_v105) = qR (V (Proc.devRef .tc main_v88)) := by
  simp only [after_cons, after_nil]
  rfl

theorem kc_val : after kcb (after kca V) (Proc.devRef .tc main_v115) = cR (V (Proc.devRef .tc main_v105)) := by
  simp only [after_cons, after_nil]
  rfl

theorem v1_val : after v1 V (Proc.devRef .tc main_v127) = stage1 (extf .f32 (V (Proc.devRef .tc main_arg1) : FVec Ideal S6x1x16x256 .bf16) bitsLt_bf16_f32) := by
  simp only [after_cons, after_nil]
  rfl

theorem v2_val : after v2 V (Proc.devRef .tc main_v138) = stage2 (V (Proc.devRef .tc main_v127)) := by
  simp only [after_cons, after_nil]
  rfl

theorem v4_val : after v4 V (Proc.devRef .tc main_v149) = stage4 (V (Proc.devRef .tc main_v138)) := by
  simp only [after_cons, after_nil]
  rfl

theorem v8_val : after v8 V (Proc.devRef .tc main_v160) = stage8 (V (Proc.devRef .tc main_v149)) := by
  simp only [after_cons, after_nil]
  rfl

theorem v16_val : after v16b (after v16a V) (Proc.devRef .tc main_v171) = stage16 (V (Proc.devRef .tc main_v160)) := by
  simp only [after_cons, after_nil]
  rfl

theorem v32_val : after v32 V (Proc.devRef .tc main_v182) = stage32 (V (Proc.devRef .tc main_v171)) := by
  simp only [after_cons, after_nil]
  rfl

theorem v64_val : after v64 V (Proc.devRef .tc main_v193) = stage64 (V (Proc.devRef .tc main_v182)) := by
  simp only [after_cons, after_nil]
  rfl

theorem v128_val : after v128 V (Proc.devRef .tc main_v204) = stage128 (V (Proc.devRef .tc main_v193)) := by
  simp only [after_cons, after_nil]
  rfl

set_option maxRecDepth 200000 in
theorem vq_scale : after vq V (Proc.devRef .tc main_v214) = sR (V (Proc.devRef .tc main_v204)) := by
  simp only [after_cons, after_nil]
  rfl

set_option maxRecDepth 200000 in
theorem vq_val : after vq V (Proc.devRef .tc main_v221) = qR (V (Proc.devRef .tc main_v204)) := by
  simp only [after_cons, after_nil]
  rfl

theorem vc_val : after vcb (after vca V) (Proc.devRef .tc main_v231) = cR (V (Proc.devRef .tc main_v221)) := by
  simp only [after_cons, after_nil]
  rfl

theorem tl_kc : after tl V (Proc.devRef .tc main_v232) = shapeCast S6x16x128 (V (Proc.devRef .tc main_v115)) shapeCasts_S6x1x16x128_S6x16x128 := by
  simp only [after_cons, after_nil]
  rfl

theorem tl_ks : after tl V (Proc.devRef .tc main_v234) = transpose S6x8x16 [0, 2, 1] (shapeCast S6x16x8 (V (Proc.devRef .tc main_v98)) shapeCasts_S6x1x16x8_S6x16x8) transposes_S6x16x8_S6x8x16_0_2_1 := by
  simp only [after_cons, after_nil]
  rfl

theorem tl_vc : after tl V (Proc.devRef .tc main_v235) = shapeCast S6x16x128 (V (Proc.devRef .tc main_v231)) shapeCasts_S6x1x16x128_S6x16x128 := by
  simp only [after_cons, after_nil]
  rfl

theorem tl_vs : after tl V (Proc.devRef .tc main_v237) = transpose S6x8x16 [0, 2, 1] (shapeCast S6x16x8 (V (Proc.devRef .tc main_v214)) shapeCasts_S6x1x16x8_S6x16x8) transposes_S6x16x8_S6x8x16_0_2_1 := by
  simp only [after_cons, after_nil]
  rfl

end

end Cert.NewReferenceIdeal.Hand
-- ==== Proof.New.RefEntry.lean ====
module

public import proofs.«01_k».proof.Proof.New.RefVal
public import proofs.«01_k».proof.Proof.New.Quant

@[expose] public section

set_option maxRecDepth 16384
set_option maxHeartbeats 4000000

/-! The reference's codes and scales, entry by entry. -/

noncomputable section

namespace Cert.NewReferenceIdeal.Hand

open Cert.NewReferenceIdeal Cert.NewReferenceIdeal.Gen Cert.Walsh Cert.Quant
open Idealize.ShloMosaic Idealize.ShloMosaic.TcCoe

variable (H : FVec Ideal S6x1x16x256 .f32) (b : Fin 6) (g : Fin 16)

theorem yR_at (n : Fin 8) (k : Fin 32) : yR H (ix5 b 0 g n k) = yS (row H b g) ⟨n.val * 32 + k.val, by omega⟩ := by
  unfold yR
  pointwise
  rfl

theorem mR_at (n : Fin 8) : mR H (ix4 b 0 g n) = mS (row H b g) n := by
  refine Eq.trans (b := Finset.fold max (Ideal.ofBits .f32 4286578688#32) (fun k : Fin 32 => FloatOps.absf (F := Ideal) (φ := .f32) (yR H (ix5 b 0 g n k))) Finset.univ) ?_ ?_
  · unfold mR
    generalize yR H = Y
    pointwise
  · unfold mS
    exact congrArg (fun f => Finset.fold max (Ideal.ofBits .f32 4286578688#32) f Finset.univ) (funext fun k => by rw [yR_at])

theorem sR_at (n : Fin 8) : sR H (ix4 b 0 g n) = sS (row H b g) n := by
  unfold sS
  rw [← mR_at]
  unfold sR
  generalize mR H = M
  pointwise

theorem qR_at (d : Fin 256) : qR H (ix4 b 0 g d) = FloatOps.fptosi (F := Ideal) (φ := .f32) 32 (qS (row H b g) d) := by
  refine Eq.trans (b := FloatOps.fptosi (F := Ideal) (φ := .f32) 32 (min (Ideal.ofBits .f32 1088421888#32) (max (Ideal.ofBits .f32 3235905536#32)
    (Ideal.liftRound Ideal.roundHalfEven (Ideal.div (yR H (ix5 b 0 g ⟨d.val / 32, by omega⟩ ⟨d.val % 32, by omega⟩)) (sR H (ix4 b 0 g ⟨d.val / 32, by omega⟩))))))) ?_ ?_
  · unfold qR
    generalize yR H = Y
    generalize sR H = S
    pointwise
  · unfold qS
    rw [yR_at, sR_at]
    have e : (⟨d.val / 32 * 32 + d.val % 32, by omega⟩ : Fin 256) = d := Fin.ext (by show d.val / 32 * 32 + d.val % 32 = d.val; omega)
    simp only [e]

theorem codesR_at (r : Fin 128) : codesR H (ix3 b g r) = codeS (row H b g) r := by
  unfold codeS byte
  rw [← qR_at, ← qR_at]
  unfold codesR cR
  generalize qR H = q
  pointwise

theorem scalesR_at (n : Fin 8) : scalesR H (ix3 b n g) = sS (row H b g) n := by
  rw [← sR_at]
  unfold scalesR
  generalize sR H = S
  pointwise

end Cert.NewReferenceIdeal.Hand
-- ==== Proof.New.RefResult.lean ====
module

public import proofs.«01_k».proof.Proof.New.RefEntry

@[expose] public section

set_option maxRecDepth 16384
set_option maxHeartbeats 4000000

/-! What the reference returns, from its arguments. -/

noncomputable section

namespace Cert.NewReferenceIdeal.Hand

open Cert.NewReferenceIdeal Cert.NewReferenceIdeal.Gen
open Idealize.ShloMosaic Idealize.ShloMosaic.TcCoe Idealize.ShloMosaic.StableHlo Idealize.SL.Sem

variable (V : Valuation τ sig (Elt Ideal))

theorem key_codes : after ops V (Proc.devRef .tc main_v232) = codesR (stages (extf .f32 (V (Proc.devRef .tc main_arg0) : FVec Ideal S6x1x16x256 .bf16) bitsLt_bf16_f32)) := by
  rw [after_ops, tl_kc, vcb_keep _ main_v115 (by decide), vca_keep _ main_v115 (by decide),
    vq_keep _ main_v115 (by decide), v128_keep _ main_v115 (by decide), v64_keep _ main_v115 (by decide),
    v32_keep _ main_v115 (by decide), v16b_keep _ main_v115 (by decide), v16a_keep _ main_v115 (by decide),
    v8_keep _ main_v115 (by decide), v4_keep _ main_v115 (by decide), v2_keep _ main_v115 (by decide),
    v1_keep _ main_v115 (by decide), kc_val, kq_val,
    k128_val, k64_val, k32_val,
    k16_val, k8_val, k4_val,
    k2_val, k1_val]
  rfl

theorem key_scales : after ops V (Proc.devRef .tc main_v234) = scalesR (stages (extf .f32 (V (Proc.devRef .tc main_arg0) : FVec Ideal S6x1x16x256 .bf16) bitsLt_bf16_f32)) := by
  rw [after_ops, tl_ks, vcb_keep _ main_v98 (by decide), vca_keep _ main_v98 (by decide),
    vq_keep _ main_v98 (by decide), v128_keep _ main_v98 (by decide), v64_keep _ main_v98 (by decide),
    v32_keep _ main_v98 (by decide), v16b_keep _ main_v98 (by decide), v16a_keep _ main_v98 (by decide),
    v8_keep _ main_v98 (by decide), v4_keep _ main_v98 (by decide), v2_keep _ main_v98 (by decide),
    v1_keep _ main_v98 (by decide), kcb_keep _ main_v98 (by decide), kca_keep _ main_v98 (by decide),
    kq_scale, k128_val, k64_val,
    k32_val, k16_val, k8_val,
    k4_val, k2_val, k1_val]
  rfl

theorem value_codes : after ops V (Proc.devRef .tc main_v235) = codesR (stages (extf .f32 (V (Proc.devRef .tc main_arg1) : FVec Ideal S6x1x16x256 .bf16) bitsLt_bf16_f32)) := by
  rw [after_ops, tl_vc, vc_val, vq_val,
    v128_val, v64_val, v32_val,
    v16_val, v8_val, v4_val,
    v2_val, v1_val, kcb_keep _ main_arg1 (by decide),
    kca_keep _ main_arg1 (by decide), kq_keep _ main_arg1 (by decide), k128_keep _ main_arg1 (by decide),
    k64_keep _ main_arg1 (by decide), k32b_keep _ main_arg1 (by decide), k32a_keep _ main_arg1 (by decide),
    k16_keep _ main_arg1 (by decide), k8_keep _ main_arg1 (by decide), k4_keep _ main_arg1 (by decide),
    k2_keep _ main_arg1 (by decide), k1_keep _ main_arg1 (by decide)]
  rfl

theorem value_scales : after ops V (Proc.devRef .tc main_v237) = scalesR (stages (extf .f32 (V (Proc.devRef .tc main_arg1) : FVec Ideal S6x1x16x256 .bf16) bitsLt_bf16_f32)) := by
  rw [after_ops, tl_vs, vcb_keep _ main_v214 (by decide), vca_keep _ main_v214 (by decide),
    vq_scale, v128_val, v64_val,
    v32_val, v16_val, v8_val,
    v4_val, v2_val, v1_val,
    kcb_keep _ main_arg1 (by decide), kca_keep _ main_arg1 (by decide), kq_keep _ main_arg1 (by decide),
    k128_keep _ main_arg1 (by decide), k64_keep _ main_arg1 (by decide), k32b_keep _ main_arg1 (by decide),
    k32a_keep _ main_arg1 (by decide), k16_keep _ main_arg1 (by decide), k8_keep _ main_arg1 (by decide),
    k4_keep _ main_arg1 (by decide), k2_keep _ main_arg1 (by decide), k1_keep _ main_arg1 (by decide)]
  rfl

theorem arg0_kept {F : FTy → Type} [FloatOps F] (V : Valuation τ sig (Elt F)) : after ops V (Proc.devRef .tc main_arg0) = V (Proc.devRef .tc main_arg0) := by
  rw [after_ops, tl_keep _ main_arg0 (by decide), vcb_keep _ main_arg0 (by decide), vca_keep _ main_arg0 (by decide),
    vq_keep _ main_arg0 (by decide), v128_keep _ main_arg0 (by decide), v64_keep _ main_arg0 (by decide),
    v32_keep _ main_arg0 (by decide), v16b_keep _ main_arg0 (by decide), v16a_keep _ main_arg0 (by decide),
    v8_keep _ main_arg0 (by decide), v4_keep _ main_arg0 (by decide), v2_keep _ main_arg0 (by decide),
    v1_keep _ main_arg0 (by decide), kcb_keep _ main_arg0 (by decide), kca_keep _ main_arg0 (by decide),
    kq_keep _ main_arg0 (by decide), k128_keep _ main_arg0 (by decide), k64_keep _ main_arg0 (by decide),
    k32b_keep _ main_arg0 (by decide), k32a_keep _ main_arg0 (by decide), k16_keep _ main_arg0 (by decide),
    k8_keep _ main_arg0 (by decide), k4_keep _ main_arg0 (by decide), k2_keep _ main_arg0 (by decide),
    k1_keep _ main_arg0 (by decide)]

theorem arg1_kept {F : FTy → Type} [FloatOps F] (V : Valuation τ sig (Elt F)) : after ops V (Proc.devRef .tc main_arg1) = V (Proc.devRef .tc main_arg1) := by
  rw [after_ops, tl_keep _ main_arg1 (by decide), vcb_keep _ main_arg1 (by decide), vca_keep _ main_arg1 (by decide),
    vq_keep _ main_arg1 (by decide), v128_keep _ main_arg1 (by decide), v64_keep _ main_arg1 (by decide),
    v32_keep _ main_arg1 (by decide), v16b_keep _ main_arg1 (by decide), v16a_keep _ main_arg1 (by decide),
    v8_keep _ main_arg1 (by decide), v4_keep _ main_arg1 (by decide), v2_keep _ main_arg1 (by decide),
    v1_keep _ main_arg1 (by decide), kcb_keep _ main_arg1 (by decide), kca_keep _ main_arg1 (by decide),
    kq_keep _ main_arg1 (by decide), k128_keep _ main_arg1 (by decide), k64_keep _ main_arg1 (by decide),
    k32b_keep _ main_arg1 (by decide), k32a_keep _ main_arg1 (by decide), k16_keep _ main_arg1 (by decide),
    k8_keep _ main_arg1 (by decide), k4_keep _ main_arg1 (by decide), k2_keep _ main_arg1 (by decide),
    k1_keep _ main_arg1 (by decide)]

end Cert.NewReferenceIdeal.Hand
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_lengths_fit
public import proofs.«01_k».proof.Proof.Gen.Reference
public import proofs.«01_k».proof.Proof.Gen.NewReference
public import proofs.«01_k».proof.Proof.Gen.NewKernel
public import proofs.«01_k».proof.Proof.Gen.NewKernel.Frame
public import proofs.«01_k».proof.Proof.Gen.NewKernelIdeal
public import proofs.«01_k».proof.Proof.Gen.NewKernelIdeal.Value
public import proofs.«01_k».proof.Proof.Gen.NewReferenceIdeal
public import proofs.«01_k».proof.Proof.Ideal.Lens
public import proofs.«01_k».proof.Proof.Bits.Lens
public import proofs.«01_k».proof.Proof.Ideal.Output
public import proofs.«01_k».proof.Proof.Reference.Run
public import proofs.«01_k».proof.Proof.Reference.Value
public import proofs.«01_k».proof.Proof.New.KerResult
public import proofs.«01_k».proof.Proof.New.RefResult

@[expose] public section

noncomputable section

namespace Cert.Proof

open Idealize.ShloMosaic Idealize.SL.Sem

theorem frame_k : Cert.quiescent_Kernel := fun m g h =>
  (θ_run Cert.Kernel.defs _ _).mono (fun _ r => ⟨fun c => (r.1 c).2, r.2⟩)
    (Cert.Kernel.Hand.frame (F := Bits) m g (Cert.Kernel.Hand.lens_of_pre m h))

theorem frame_ki : Cert.quiescent_KernelIdeal := fun m g h =>
  (θ_run Cert.KernelIdeal.defs _ _).mono (fun _ r => ⟨fun c => (r.1 c).2, r.2⟩)
    (Cert.KernelIdeal.Hand.frame (F := Ideal) m g (Cert.KernelIdeal.Hand.lens_of_pre m h))

/-- The reference's run leaves its arguments, at any floats. -/
theorem frame_at {F : FTy → Type} [FloatOps F] (m : (ℓ : Loc Cert.ReferenceIdeal.nD Cert.ReferenceIdeal.τ Cert.ReferenceIdeal.sig) → Buf (Elt F) ℓ) (g : Dev Cert.ReferenceIdeal.nD → PrngReg) :
    θ_run (Cert.ReferenceIdeal.defs (F := F)) (onTc (τ := Cert.ReferenceIdeal.τ) (Cert.ReferenceIdeal.main (F := F))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0) :=
  (θ_run Cert.ReferenceIdeal.defs _ _).mono
    (fun r h => ⟨fun c => ⟨(h c Cert.ReferenceIdeal.main_arg0).trans (Cert.ReferenceIdeal.Hand.arg0_eq _),
      (h c Cert.ReferenceIdeal.main_arg1).trans (Cert.ReferenceIdeal.Hand.arg1_eq _),
      (h c Cert.ReferenceIdeal.main_arg2).trans (Cert.ReferenceIdeal.Hand.arg2_eq _),
      (h c Cert.ReferenceIdeal.main_arg3).trans (Cert.ReferenceIdeal.Hand.arg3_eq _),
      (h c Cert.ReferenceIdeal.main_arg4).trans (Cert.ReferenceIdeal.Hand.arg4_eq _),
      (h c Cert.ReferenceIdeal.main_arg5).trans (Cert.ReferenceIdeal.Hand.arg5_eq _),
      (h c Cert.ReferenceIdeal.main_arg6).trans (Cert.ReferenceIdeal.Hand.arg6_eq _)⟩,
      sem_eq_zero_of_no_sems (by decide) r.2⟩)
    (Cert.ReferenceIdeal.Hand.run_main m g)

theorem frame_ri : Cert.quiescent_ReferenceIdeal := fun m g _ => frame_at (F := Ideal) m g

/-- The printed reference is the same text as its ideal form, so its run is that run at machine floats. -/
theorem frame_r : Cert.quiescent_Reference := fun m g _ => frame_at (F := Bits) m g

theorem frame_ri_pre : Cert.quiescent_ReferenceIdeal_pre_lengths_fit := fun m g _ => frame_ri m g trivial

/-- The reference's result is the masked scores of its arguments. -/
theorem reference_eq (m' : (ℓ : Loc Cert.ReferenceIdeal.nD Cert.ReferenceIdeal.τ Cert.ReferenceIdeal.sig) → Buf (Elt Ideal) ℓ) (c : Dev Cert.ReferenceIdeal.nD)
    (b : Fin 6) (h : Fin 64) (t : Fin 2304) :
    StableHlo.after (Cert.ReferenceIdeal.Hand.ops (F := Ideal)) (StableHlo.launchContents m' c) (Proc.devRef .tc Cert.ReferenceIdeal.main_v57) (ix3 b h t)
      = Cert.Scores.score (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1))
        (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3))
        (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5))
        (m' ((c.tc : Thread Cert.ReferenceIdeal.nD Cert.ReferenceIdeal.τ).loc Cert.ReferenceIdeal.main_arg6)) b h t :=
  (congrFun (Cert.ReferenceIdeal.Hand.result_eq (StableHlo.launchContents m' c)) (ix3 b h t)).trans (Cert.ReferenceIdeal.Hand.outs_score _ _ _ _ _ _ _ b h t)

/-- The two programs' arguments agree. -/
def Agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) : Prop :=
  ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)

/-- The reference's result is the kernel's. -/
theorem result_agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (hagree : Agree m m') (c : Dev Cert.KernelIdeal.nD) :
    StableHlo.after (Cert.ReferenceIdeal.Hand.ops (F := Ideal)) (StableHlo.launchContents m' c) (Proc.devRef .tc Cert.ReferenceIdeal.main_v57) = Cert.KernelIdeal.Hand.scores m c := by
  funext x
  obtain ⟨b, hd, t, rfl⟩ : ∃ (b : Fin 6) (hd : Fin 64) (t : Fin 2304), x = ix3 b hd t := ⟨x 0, x 1, x 2, by funext i; match i with | ⟨0, _⟩ => rfl | ⟨1, _⟩ => rfl | ⟨2, _⟩ => rfl⟩
  refine (reference_eq m' c b hd t).trans ?_
  obtain ⟨e0, e1, e2, e3, e4, e5, e6⟩ := hagree c
  rw [e0, e1, e2, e3, e4, e5, e6]
  rfl

theorem algebraic : Cert.algebraic_KernelIdeal_ReferenceIdeal := by
  intro m g m' g' hp hagree
  refine ⟨fun c => Cert.KernelIdeal.Hand.scores m c, ?_, ?_⟩
  · have hP := Cert.KernelIdeal.Hand.lens_of_pre m hp
    refine (θ_run Cert.KernelIdeal.defs _ _).mono (fun _ r c => ?_) (Cert.KernelIdeal.Hand.frame (F := Ideal) m g hP)
    exact ⟨(r.1 c).1.trans (Cert.KernelIdeal.Hand.output_eq m hP c), (r.1 c).2⟩
  · refine (θ_run Cert.ReferenceIdeal.defs _ _).mono (fun r h c => ?_) (Cert.ReferenceIdeal.Hand.run_main (F := Ideal) m' g')
    exact ⟨(h c Cert.ReferenceIdeal.main_v57).trans (result_agree m m' hagree c),
      (h c Cert.ReferenceIdeal.main_arg0).trans (Cert.ReferenceIdeal.Hand.arg0_eq _),
      (h c Cert.ReferenceIdeal.main_arg1).trans (Cert.ReferenceIdeal.Hand.arg1_eq _),
      (h c Cert.ReferenceIdeal.main_arg2).trans (Cert.ReferenceIdeal.Hand.arg2_eq _),
      (h c Cert.ReferenceIdeal.main_arg3).trans (Cert.ReferenceIdeal.Hand.arg3_eq _),
      (h c Cert.ReferenceIdeal.main_arg4).trans (Cert.ReferenceIdeal.Hand.arg4_eq _),
      (h c Cert.ReferenceIdeal.main_arg5).trans (Cert.ReferenceIdeal.Hand.arg5_eq _),
      (h c Cert.ReferenceIdeal.main_arg6).trans (Cert.ReferenceIdeal.Hand.arg6_eq _)⟩

/-! ## The new token's quantiser -/

/-- The reference's run leaves its arguments, at any floats. -/
theorem frame_new_at {F : FTy → Type} [FloatOps F] (m : (ℓ : Loc NewReferenceIdeal.nD NewReferenceIdeal.τ NewReferenceIdeal.sig) → Buf (Elt F) ℓ) (g : Dev NewReferenceIdeal.nD → PrngReg) :
    θ_run (NewReferenceIdeal.defs (F := F)) (onTc (τ := NewReferenceIdeal.τ) (NewReferenceIdeal.main (F := F))) ⟨m, fun _ => 0, g⟩ (fun r => (∀ c : Dev NewReferenceIdeal.nD,
      r.2.mem ((c.tc : Thread NewReferenceIdeal.nD NewReferenceIdeal.τ).loc NewReferenceIdeal.main_arg0) = m ((c.tc : Thread NewReferenceIdeal.nD NewReferenceIdeal.τ).loc NewReferenceIdeal.main_arg0)
      ∧ r.2.mem ((c.tc : Thread NewReferenceIdeal.nD NewReferenceIdeal.τ).loc NewReferenceIdeal.main_arg1) = m ((c.tc : Thread NewReferenceIdeal.nD NewReferenceIdeal.τ).loc NewReferenceIdeal.main_arg1))
      ∧ r.2.sem = fun _ => 0) :=
  (θ_run NewReferenceIdeal.defs _ _).mono
    (fun r h => ⟨fun c => ⟨(h c NewReferenceIdeal.main_arg0).trans (NewReferenceIdeal.Hand.arg0_kept _),
      (h c NewReferenceIdeal.main_arg1).trans (NewReferenceIdeal.Hand.arg1_kept _)⟩,
      sem_eq_zero_of_no_sems (by decide) r.2⟩)
    (NewReferenceIdeal.Hand.run_main m g)

theorem frame_nri : Cert.quiescent_NewReferenceIdeal := fun m g _ => frame_new_at (F := Ideal) m g

/-- The printed reference is the same text as its ideal form, so its run is that run at machine floats. -/
theorem frame_nr : Cert.quiescent_NewReference := fun m g _ => frame_new_at (F := Bits) m g

/-- The reference's codes and scales of a block of latents. -/
theorem codesR_eq (a : FVec Ideal NewReferenceIdeal.S6x1x16x256 .f32) :
    NewReferenceIdeal.Hand.codesR (NewReferenceIdeal.Hand.stages a) = NewKernelIdeal.Hand.codes a := by
  funext y
  obtain ⟨b, g, r, rfl⟩ : ∃ (b : Fin 6) (g : Fin 16) (r : Fin 128), y = ix3 b g r := ⟨y 0, y 1, y 2, by funext i; match i with | ⟨0, _⟩ => rfl | ⟨1, _⟩ => rfl | ⟨2, _⟩ => rfl⟩
  rw [NewReferenceIdeal.Hand.codesR_at, NewReferenceIdeal.Hand.row_stages]
  rfl

theorem scalesR_eq (a : FVec Ideal NewReferenceIdeal.S6x1x16x256 .f32) :
    NewReferenceIdeal.Hand.scalesR (NewReferenceIdeal.Hand.stages a) = NewKernelIdeal.Hand.scales a := by
  funext y
  obtain ⟨b, n, g, rfl⟩ : ∃ (b : Fin 6) (n : Fin 8) (g : Fin 16), y = ix3 b n g := ⟨y 0, y 1, y 2, by funext i; match i with | ⟨0, _⟩ => rfl | ⟨1, _⟩ => rfl | ⟨2, _⟩ => rfl⟩
  rw [NewReferenceIdeal.Hand.scalesR_at, NewReferenceIdeal.Hand.row_stages]
  rfl

theorem algebraic_new : Cert.algebraic_NewKernelIdeal_NewReferenceIdeal := by
  intro m g m' g' hp hagree
  refine ⟨fun c => NewKernelIdeal.Hand.codes (NewKernelIdeal.Hand.a0 m c), fun c => NewKernelIdeal.Hand.scales (NewKernelIdeal.Hand.a0 m c),
    fun c => NewKernelIdeal.Hand.codes (NewKernelIdeal.Hand.a1 m c), fun c => NewKernelIdeal.Hand.scales (NewKernelIdeal.Hand.a1 m c), ?_, ?_⟩
  · refine (θ_run NewKernelIdeal.defs _ _).mono (fun r h c => ?_) (NewKernelIdeal.Value.run_blocks (F := Ideal) m g)
    obtain ⟨e2, e3, e4, e5, k0, k1⟩ := h c
    exact ⟨e2.trans (NewKernelIdeal.Hand.output_2 m c), e3.trans (NewKernelIdeal.Hand.output_3 m c),
      e4.trans (NewKernelIdeal.Hand.output_4 m c), e5.trans (NewKernelIdeal.Hand.output_5 m c), k0, k1⟩
  · refine (θ_run NewReferenceIdeal.defs _ _).mono (fun r h c => ?_) (NewReferenceIdeal.Hand.run_main (F := Ideal) m' g')
    obtain ⟨e0, e1⟩ := hagree c
    have x0 : (StableHlo.launchContents m' c (Proc.devRef .tc NewReferenceIdeal.main_arg0) : NewReferenceIdeal.S6x1x16x256.Idx → EReal) = NewKernelIdeal.Hand.a0 m c := e0
    have x1 : (StableHlo.launchContents m' c (Proc.devRef .tc NewReferenceIdeal.main_arg1) : NewReferenceIdeal.S6x1x16x256.Idx → EReal) = NewKernelIdeal.Hand.a1 m c := e1
    exact ⟨(h c NewReferenceIdeal.main_v232).trans ((NewReferenceIdeal.Hand.key_codes _).trans ((codesR_eq _).trans (congrArg NewKernelIdeal.Hand.codes x0))),
      (h c NewReferenceIdeal.main_v234).trans ((NewReferenceIdeal.Hand.key_scales _).trans ((scalesR_eq _).trans (congrArg NewKernelIdeal.Hand.scales x0))),
      (h c NewReferenceIdeal.main_v235).trans ((NewReferenceIdeal.Hand.value_codes _).trans ((codesR_eq _).trans (congrArg NewKernelIdeal.Hand.codes x1))),
      (h c NewReferenceIdeal.main_v237).trans ((NewReferenceIdeal.Hand.value_scales _).trans ((scalesR_eq _).trans (congrArg NewKernelIdeal.Hand.scales x1))),
      (h c NewReferenceIdeal.main_arg0).trans (NewReferenceIdeal.Hand.arg0_kept _),
      (h c NewReferenceIdeal.main_arg1).trans (NewReferenceIdeal.Hand.arg1_kept _)⟩

theorem claim : Cert.Claim :=
  ⟨Cert.Kernel.Gen.facts, Cert.KernelIdeal.Gen.facts, Cert.ReferenceIdeal.Gen.facts, Cert.Reference.Gen.facts, Cert.NewKernel.Gen.facts,
    NewKernelIdeal.Gen.facts, NewReferenceIdeal.Gen.facts, Cert.NewReference.Gen.facts, Cert.Pre_lengths_fit.Gen.facts,
    frame_k, frame_ki, frame_ri, frame_ri_pre, frame_r,
    fun m g _ => Cert.NewKernel.Gen.frame (F := Bits) m g, fun m g _ => NewKernelIdeal.Gen.frame (F := Ideal) m g,
    frame_nri, frame_nr,
    trivial, trivial, algebraic, trivial, trivial, algebraic_new⟩

end Cert.Proof

end
